-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v1_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_v31) = v5 c
          ∧ r.2.mem ((c.tc : Thread Cert.ReferenceIdeal.nD Cert.ReferenceIdeal.τ).loc Cert.ReferenceIdeal.main_v29) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)) (v1 : (c : Dev Cert.FfnIdeal.nD) → Buf (Elt Ideal) ((c.tc : Thread Cert.FfnIdeal.nD Cert.FfnIdeal.τ).loc Cert.FfnIdeal.main_v11_0)) (v2 : (c : Dev Cert.FfnIdeal.nD) → Buf (Elt Ideal) ((c.tc : Thread Cert.FfnIdeal.nD Cert.FfnIdeal.τ).loc Cert.FfnIdeal.main_v11_1)) (v3 : (c : Dev Cert.FfnIdeal.nD) → Buf (Elt Ideal) ((c.tc : Thread Cert.FfnIdeal.nD Cert.FfnIdeal.τ).loc Cert.FfnIdeal.main_v9)) (v4 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_v11_0) = v1 c
          ∧ r.2.mem ((c.tc : Thread Cert.FfnIdeal.nD Cert.FfnIdeal.τ).loc Cert.FfnIdeal.main_v11_1) = v2 c
          ∧ r.2.mem ((c.tc : Thread Cert.FfnIdeal.nD Cert.FfnIdeal.τ).loc Cert.FfnIdeal.main_v9) = v3 c
          ∧ r.2.mem ((c.tc : Thread Cert.FfnIdeal.nD Cert.FfnIdeal.τ).loc Cert.FfnIdeal.main_v6) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v23) = v0 c
          ∧ r.2.mem ((c.tc : Thread Cert.FfnRefIdeal.nD Cert.FfnRefIdeal.τ).loc Cert.FfnRefIdeal.main_v56) = v1 c
          ∧ r.2.mem ((c.tc : Thread Cert.FfnRefIdeal.nD Cert.FfnRefIdeal.τ).loc Cert.FfnRefIdeal.main_v39) = v2 c
          ∧ r.2.mem ((c.tc : Thread Cert.FfnRefIdeal.nD Cert.FfnRefIdeal.τ).loc Cert.FfnRefIdeal.main_v35) = v3 c
          ∧ r.2.mem ((c.tc : Thread Cert.FfnRefIdeal.nD Cert.FfnRefIdeal.τ).loc Cert.FfnRefIdeal.main_v28) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v5)) (v1 : (c : Dev Cert.MixIdeal.nD) → Buf (Elt Ideal) ((c.tc : Thread Cert.MixIdeal.nD Cert.MixIdeal.τ).loc Cert.MixIdeal.main_v6)) (v2 : (c : Dev Cert.MixIdeal.nD) → Buf (Elt Ideal) ((c.tc : Thread Cert.MixIdeal.nD Cert.MixIdeal.τ).loc Cert.MixIdeal.main_v11_0)) (v3 : (c : Dev Cert.MixIdeal.nD) → Buf (Elt Ideal) ((c.tc : Thread Cert.MixIdeal.nD Cert.MixIdeal.τ).loc Cert.MixIdeal.main_v11_1)) (v4 : (c : Dev Cert.MixIdeal.nD) → Buf (Elt Ideal) ((c.tc : Thread Cert.MixIdeal.nD Cert.MixIdeal.τ).loc Cert.MixIdeal.main_v7)) (v5 : (c : Dev Cert.MixIdeal.nD) → Buf (Elt Ideal) ((c.tc : Thread Cert.MixIdeal.nD Cert.MixIdeal.τ).loc Cert.MixIdeal.main_v8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5) = v0 c
          ∧ r.2.mem ((c.tc : Thread Cert.MixIdeal.nD Cert.MixIdeal.τ).loc Cert.MixIdeal.main_v6) = v1 c
          ∧ r.2.mem ((c.tc : Thread Cert.MixIdeal.nD Cert.MixIdeal.τ).loc Cert.MixIdeal.main_v11_0) = v2 c
          ∧ r.2.mem ((c.tc : Thread Cert.MixIdeal.nD Cert.MixIdeal.τ).loc Cert.MixIdeal.main_v11_1) = v3 c
          ∧ r.2.mem ((c.tc : Thread Cert.MixIdeal.nD Cert.MixIdeal.τ).loc Cert.MixIdeal.main_v7) = v4 c
          ∧ r.2.mem ((c.tc : Thread Cert.MixIdeal.nD Cert.MixIdeal.τ).loc Cert.MixIdeal.main_v8) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v17) = v0 c
          ∧ r.2.mem ((c.tc : Thread Cert.MixRefIdeal.nD Cert.MixRefIdeal.τ).loc Cert.MixRefIdeal.main_v16) = v1 c
          ∧ r.2.mem ((c.tc : Thread Cert.MixRefIdeal.nD Cert.MixRefIdeal.τ).loc Cert.MixRefIdeal.main_v44) = v2 c
          ∧ r.2.mem ((c.tc : Thread Cert.MixRefIdeal.nD Cert.MixRefIdeal.τ).loc Cert.MixRefIdeal.main_v27) = v3 c
          ∧ r.2.mem ((c.tc : Thread Cert.MixRefIdeal.nD Cert.MixRefIdeal.τ).loc Cert.MixRefIdeal.main_v22) = v4 c
          ∧ r.2.mem ((c.tc : Thread Cert.MixRefIdeal.nD Cert.MixRefIdeal.τ).loc Cert.MixRefIdeal.main_v19) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v9)) (v1 : (c : Dev Cert.MergeIdeal.nD) → Buf (Elt Ideal) ((c.tc : Thread Cert.MergeIdeal.nD Cert.MergeIdeal.τ).loc Cert.MergeIdeal.main_v15)) (v2 : (c : Dev Cert.MergeIdeal.nD) → Buf (Elt Ideal) ((c.tc : Thread Cert.MergeIdeal.nD Cert.MergeIdeal.τ).loc Cert.MergeIdeal.main_v16)) (v3 : (c : Dev Cert.MergeIdeal.nD) → Buf (Elt Ideal) ((c.tc : Thread Cert.MergeIdeal.nD Cert.MergeIdeal.τ).loc Cert.MergeIdeal.main_v12_0)) (v4 : (c : Dev Cert.MergeIdeal.nD) → Buf (Elt Ideal) ((c.tc : Thread Cert.MergeIdeal.nD Cert.MergeIdeal.τ).loc Cert.MergeIdeal.main_v13)) (v5 : (c : Dev Cert.MergeIdeal.nD) → Buf (Elt Ideal) ((c.tc : Thread Cert.MergeIdeal.nD Cert.MergeIdeal.τ).loc Cert.MergeIdeal.main_v14)) (v6 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_v15) = v1 c
          ∧ r.2.mem ((c.tc : Thread Cert.MergeIdeal.nD Cert.MergeIdeal.τ).loc Cert.MergeIdeal.main_v16) = v2 c
          ∧ r.2.mem ((c.tc : Thread Cert.MergeIdeal.nD Cert.MergeIdeal.τ).loc Cert.MergeIdeal.main_v12_0) = v3 c
          ∧ r.2.mem ((c.tc : Thread Cert.MergeIdeal.nD Cert.MergeIdeal.τ).loc Cert.MergeIdeal.main_v13) = v4 c
          ∧ r.2.mem ((c.tc : Thread Cert.MergeIdeal.nD Cert.MergeIdeal.τ).loc Cert.MergeIdeal.main_v14) = v5 c
          ∧ r.2.mem ((c.tc : Thread Cert.MergeIdeal.nD Cert.MergeIdeal.τ).loc Cert.MergeIdeal.main_v10) = v6 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v26) = v0 c
          ∧ r.2.mem ((c.tc : Thread Cert.MergeRefIdeal.nD Cert.MergeRefIdeal.τ).loc Cert.MergeRefIdeal.main_v44) = v1 c
          ∧ r.2.mem ((c.tc : Thread Cert.MergeRefIdeal.nD Cert.MergeRefIdeal.τ).loc Cert.MergeRefIdeal.main_v45) = v2 c
          ∧ r.2.mem ((c.tc : Thread Cert.MergeRefIdeal.nD Cert.MergeRefIdeal.τ).loc Cert.MergeRefIdeal.main_v46) = v3 c
          ∧ r.2.mem ((c.tc : Thread Cert.MergeRefIdeal.nD Cert.MergeRefIdeal.τ).loc Cert.MergeRefIdeal.main_v40) = v4 c
          ∧ r.2.mem ((c.tc : Thread Cert.MergeRefIdeal.nD Cert.MergeRefIdeal.τ).loc Cert.MergeRefIdeal.main_v34) = v5 c
          ∧ r.2.mem ((c.tc : Thread Cert.MergeRefIdeal.nD Cert.MergeRefIdeal.τ).loc Cert.MergeRefIdeal.main_v29) = v6 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hMerge : Cert.Merge.Facts) (hMergeIdeal : Cert.MergeIdeal.Facts) (hMergeRefIdeal : Cert.MergeRefIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Merge_MergeIdeal
    ∧ algebraic_MergeIdeal_MergeRefIdeal (hMergeIdeal := hMergeIdeal) (hMergeRefIdeal := hMergeRefIdeal)
-- ==== Kernel.lean ====
abbrev S8x16384x128 : Shape := ⟨3, ![8, 16384, 128]⟩
abbrev S8x256x64x64 : Shape := ⟨4, ![8, 256, 64, 64]⟩
abbrev S8x256x1x128 : Shape := ⟨4, ![8, 256, 1, 128]⟩
abbrev S256x8x128x128 : Shape := ⟨4, ![256, 8, 128, 128]⟩
abbrev S8x256x128 : Shape := ⟨3, ![8, 256, 128]⟩
abbrev S8x4x64x64 : Shape := ⟨4, ![8, 4, 64, 64]⟩
abbrev S8x4x1x128 : Shape := ⟨4, ![8, 4, 1, 128]⟩
abbrev S4x8x128x128 : Shape := ⟨4, ![4, 8, 128, 128]⟩
abbrev S8x128x128 : Shape := ⟨3, ![8, 128, 128]⟩
abbrev S1x8x128x128 : Shape := ⟨4, ![1, 8, 128, 128]⟩
abbrev S8x64x128 : Shape := ⟨3, ![8, 64, 128]⟩
abbrev S8x1x64x64 : Shape := ⟨4, ![8, 1, 64, 64]⟩
abbrev S8x64x64 : Shape := ⟨3, ![8, 64, 64]⟩
abbrev S8x1x1x128 : Shape := ⟨4, ![8, 1, 1, 128]⟩
abbrev S8x1x128 : Shape := ⟨3, ![8, 1, 128]⟩
abbrev S8x128x64 : Shape := ⟨3, ![8, 128, 64]⟩
abbrev S8x128 : Shape := ⟨2, ![8, 128]⟩

abbrev nBuf : Space → Nat
  | .hbm => 15
  | .vmem => 46
  | .smem => 0
  | _ => 0

abbrev bufTy : (tb : Table) → Fin (tcTables nBuf tb) → BufTy
  | .hbm, ⟨0, _⟩ => ⟨S8x16384x128, .f32⟩
  | .hbm, ⟨1, _⟩ => ⟨S8x256x64x64, .f32⟩
  | .hbm, ⟨2, _⟩ => ⟨S8x16384x128, .f32⟩
  | .hbm, ⟨3, _⟩ => ⟨S8x16384x128, .f32⟩
  | .hbm, ⟨4, _⟩ => ⟨S8x16384x128, .f32⟩
  | .hbm, ⟨5, _⟩ => ⟨S8x256x1x128, .f32⟩
  | .hbm, ⟨6, _⟩ => ⟨S8x16384x128, .f32⟩
  | .hbm, ⟨7, _⟩ => ⟨S8x16384x128, .f32⟩
  | .hbm, ⟨8, _⟩ => ⟨S256x8x128x128, .f32⟩
  | .hbm, ⟨9, _⟩ => ⟨S8x16384x128, .f32⟩
  | .hbm, ⟨10, _⟩ => ⟨S8x256x64x64, .f32⟩
  | .hbm, ⟨11, _⟩ => ⟨S8x16384x128, .f32⟩
  | .hbm, ⟨12, _⟩ => ⟨S8x16384x128, .f32⟩
  | .hbm, ⟨13, _⟩ => ⟨S8x16384x128, .f32⟩
  | .hbm, ⟨14, _⟩ => ⟨S8x256x1x128, .f32⟩
  | .local _ .vmem, ⟨0, _⟩ => ⟨S8x256x128, .f32⟩
  | .local _ .vmem, ⟨1, _⟩ => ⟨S8x256x128, .f32⟩
  | .local _ .vmem, ⟨2, _⟩ => ⟨S8x4x64x64, .f32⟩
  | .local _ .vmem, ⟨3, _⟩ => ⟨S8x4x64x64, .f32⟩
  | .local _ .vmem, ⟨4, _⟩ => ⟨S8x256x128, .f32⟩
  | .local _ .vmem, ⟨5, _⟩ => ⟨S8x256x128, .f32⟩
  | .local _ .vmem, ⟨6, _⟩ => ⟨S8x256x128, .f32⟩
  | .local _ .vmem, ⟨7, _⟩ => ⟨S8x256x128, .f32⟩
  | .local _ .vmem, ⟨8, _⟩ => ⟨S8x256x128, .f32⟩
  | .local _ .vmem, ⟨9, _⟩ => ⟨S8x256x128, .f32⟩
  | .local _ .vmem, ⟨10, _⟩ => ⟨S8x4x1x128, .f32⟩
  | .local _ .vmem, ⟨11, _⟩ => ⟨S8x4x1x128, .f32⟩
  | .local _ .vmem, ⟨12, _⟩ => ⟨S8x256x128, .f32⟩
  | .local _ .vmem, ⟨13, _⟩ => ⟨S8x256x128, .f32⟩
  | .local _ .vmem, ⟨14, _⟩ => ⟨S4x8x128x128, .f32⟩
  | .local _ .vmem, ⟨15, _⟩ => ⟨S4x8x128x128, .f32⟩
  | .local _ .vmem, ⟨16, _⟩ => ⟨S8x128x128, .f32⟩
  | .local _ .vmem, ⟨17, _⟩ => ⟨S8x256x128, .f32⟩
  | .local _ .vmem, ⟨18, _⟩ => ⟨S8x256x128, .f32⟩
  | .local _ .vmem, ⟨19, _⟩ => ⟨S8x4x64x64, .f32⟩
  | .local _ .vmem, ⟨20, _⟩ => ⟨S8x4x64x64, .f32⟩
  | .local _ .vmem, ⟨21, _⟩ => ⟨S8x256x128, .f32⟩
  | .local _ .vmem, ⟨22, _⟩ => ⟨S8x256x128, .f32⟩
  | .local _ .vmem, ⟨23, _⟩ => ⟨S8x256x128, .f32⟩
  | .local _ .vmem, ⟨24, _⟩ => ⟨S8x256x128, .f32⟩
  | .local _ .vmem, ⟨25, _⟩ => ⟨S8x256x128, .f32⟩
  | .local _ .vmem, ⟨26, _⟩ => ⟨S8x256x128, .f32⟩
  | .local _ .vmem, ⟨27, _⟩ => ⟨S8x4x1x128, .f32⟩
  | .local _ .vmem, ⟨28, _⟩ => ⟨S8x4x1x128, .f32⟩
  | .local _ .vmem, ⟨29, _⟩ => ⟨S4x8x128x128, .f32⟩
  | .local _ .vmem, ⟨30, _⟩ => ⟨S4x8x128x128, .f32⟩
  | .local _ .vmem, ⟨31, _⟩ => ⟨S8x256x128, .f32⟩
  | .local _ .vmem, ⟨32, _⟩ => ⟨S8x256x128, .f32⟩
  | .local _ .vmem, ⟨33, _⟩ => ⟨S8x256x128, .f32⟩
  | .local _ .vmem, ⟨34, _⟩ => ⟨S8x256x128, .f32⟩
  | .local _ .vmem, ⟨35, _⟩ => ⟨S8x4x64x64, .f32⟩
  | .local _ .vmem, ⟨36, _⟩ => ⟨S8x4x64x64, .f32⟩
  | .local _ .vmem, ⟨37, _⟩ => ⟨S8x256x128, .f32⟩
  | .local _ .vmem, ⟨38, _⟩ => ⟨S8x256x128, .f32⟩
  | .local _ .vmem, ⟨39, _⟩ => ⟨S8x256x128, .f32⟩
  | .local _ .vmem, ⟨40, _⟩ => ⟨S8x256x128, .f32⟩
  | .local _ .vmem, ⟨41, _⟩ => ⟨S8x256x128, .f32⟩
  | .local _ .vmem, ⟨42, _⟩ => ⟨S8x256x128, .f32⟩
  | .local _ .vmem, ⟨43, _⟩ => ⟨S8x4x1x128, .f32⟩
  | .local _ .vmem, ⟨44, _⟩ => ⟨S8x4x1x128, .f32⟩
  | .local _ .vmem, ⟨45, _⟩ => ⟨S8x128x128, .f32⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_2 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_3 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_4 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_5 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_6 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_7 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_8 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_9 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_10 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_11 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_12 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_13 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage1_0 : Fin 2 → Memref sig .tc .vmem S8x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x4x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x4x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4x8x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x4x64x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8x256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S8x256x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S8x256x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S8x4x1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S8x16384x128 : Shape := ⟨3, ![8, 16384, 128]⟩
abbrev S8x256x64x64 : Shape := ⟨4, ![8, 256, 64, 64]⟩
abbrev S8x256x1x128 : Shape := ⟨4, ![8, 256, 1, 128]⟩
abbrev S8x256x64x128 : Shape := ⟨4, ![8, 256, 64, 128]⟩
abbrev S256x8x64x128 : Shape := ⟨4, ![256, 8, 64, 128]⟩
abbrev S256x8x64x64 : Shape := ⟨4, ![256, 8, 64, 64]⟩
abbrev S256x8x1x128 : Shape := ⟨4, ![256, 8, 1, 128]⟩
abbrev S_ : Shape := ⟨0, ![]⟩
abbrev S8x128x128 : Shape := ⟨3, ![8, 128, 128]⟩
abbrev S256x8x128x128 : Shape := ⟨4, ![256, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x1x128 : Shape := ⟨4, ![1, 8, 1, 128]⟩
abbrev S8x1x128 : Shape := ⟨3, ![8, 1, 128]⟩
abbrev S1x8x128x128 : Shape := ⟨4, ![1, 8, 128, 128]⟩
abbrev S8x128x64 : Shape := ⟨3, ![8, 128, 64]⟩
abbrev S8x128 : Shape := ⟨2, ![8, 128]⟩

abbrev nBuf : Space → Nat
  | .hbm => 253
  | .vmem => 0
  | .smem => 0
  | _ => 0

abbrev hbmTy0_0 (i : Nat) : BufTy := match i % 128 with
  | 0 => ⟨S8x16384x128, .f32⟩
  | 1 => ⟨S8x256x64x64, .f32⟩
  | 2 => ⟨S8x16384x128, .f32⟩
  | 3 => ⟨S8x16384x128, .f32⟩
  | 4 => ⟨S8x16384x128, .f32⟩
  | 5 => ⟨S8x256x1x128, .f32⟩
  | 6 => ⟨S8x16384x128, .f32⟩
  | 7 => ⟨S8x256x64x128, .f32⟩
  | 8 => ⟨S256x8x64x128, .f32⟩
  | 9 => ⟨S256x8x64x64, .f32⟩
  | 10 => ⟨S8x256x64x128, .f32⟩
  | 11 => ⟨S256x8x64x128, .f32⟩
  | 12 => ⟨S8x256x64x128, .f32⟩
  | 13 => ⟨S256x8x64x128, .f32⟩
  | 14 => ⟨S8x256x64x128, .f32⟩
  | 15 => ⟨S256x8x64x128, .f32⟩
  | 16 => ⟨S256x8x1x128, .f32⟩
  | 17 => ⟨S_, .f32⟩
  | 18 => ⟨S8x128x128, .f32⟩
  | 19 => ⟨S_, .f32⟩
  | 20 => ⟨S256x8x64x128, .f32⟩
  | 21 => ⟨S_, .f32⟩
  | 22 => ⟨S256x8x128x128, .f32⟩
  | 23 => ⟨S_, .f32⟩
  | 24 => ⟨S256x8x64x128, .f32⟩
  | 25 => ⟨S_, .f32⟩
  | 26 => ⟨S256x8x1x128, .f32⟩
  | 27 => ⟨S_, .i32⟩
  | 28 => ⟨S256x8x64x128, .f32⟩
  | 29 => ⟨S256x8x64x64, .f32⟩
  | 30 => ⟨S256x8x64x128, .f32⟩
  | 31 => ⟨S256x8x64x128, .f32⟩
  | 32 => ⟨S256x8x64x128, .f32⟩
  | 33 => ⟨S256x8x1x128, .f32⟩
  | 34 => ⟨S_, .i32⟩
  | 35 => ⟨S8x128x128, .f32⟩
  | 36 => ⟨S256x8x64x128, .f32⟩
  | 37 => ⟨S256x8x128x128, .f32⟩
  | 38 => ⟨S256x8x64x128, .f32⟩
  | 39 => ⟨S256x8x1x128, .f32⟩
  | 40 => ⟨S_, .i32⟩
  | 41 => ⟨S_, .i1⟩
  | 42 => ⟨S_, .i32⟩
  | 43 => ⟨S_, .i32⟩
  | 44 => ⟨S_, .i32⟩
  | 45 => ⟨S1x8x64x128, .f32⟩
  | 46 => ⟨S8x64x128, .f32⟩
  | 47 => ⟨S_, .i32⟩
  | 48 => ⟨S_, .i32⟩
  | 49 => ⟨S_, .i32⟩
  | 50 => ⟨S1x8x64x64, .f32⟩
  | 51 => ⟨S8x64x64, .f32⟩
  | 52 => ⟨S_, .i32⟩
  | 53 => ⟨S_, .i32⟩
  | 54 => ⟨S_, .i32⟩
  | 55 => ⟨S1x8x64x128, .f32⟩
  | 56 => ⟨S8x64x128, .f32⟩
  | 57 => ⟨S_, .i32⟩
  | 58 => ⟨S_, .i32⟩
  | 59 => ⟨S_, .i32⟩
  | 60 => ⟨S1x8x64x128, .f32⟩
  | 61 => ⟨S8x64x128, .f32⟩
  | 62 => ⟨S_, .i32⟩
  | 63 => ⟨S_, .i32⟩
  | 64 => ⟨S_, .i32⟩
  | 65 => ⟨S1x8x64x128, .f32⟩
  | 66 => ⟨S8x64x128, .f32⟩
  | 67 => ⟨S_, .i32⟩
  | 68 => ⟨S_, .i32⟩
  | 69 => ⟨S_, .i32⟩
  | 70 => ⟨S1x8x1x128, .f32⟩
  | 71 => ⟨S8x1x128, .f32⟩
  | 72 => ⟨S8x64x128, .f32⟩
  | 73 => ⟨S8x64x128, .f32⟩
  | 74 => ⟨S8x64x128, .f32⟩
  | 75 => ⟨S8x64x128, .f32⟩
  | 76 => ⟨S8x64x128, .f32⟩
  | 77 => ⟨S8x1x128, .f32⟩
  | 78 => ⟨S8x128x128, .f32⟩
  | 79 => ⟨S8x128x128, .f32⟩
  | 80 => ⟨S8x128x128, .f32⟩
  | 81 => ⟨S8x128x128, .f32⟩
  | 82 => ⟨S1x8x64x128, .f32⟩
  | 83 => ⟨S_, .i32⟩
  | 84 => ⟨S_, .i32⟩
  | 85 => ⟨S_, .i32⟩
  | 86 => ⟨S256x8x64x128, .f32⟩
  | 87 => ⟨S1x8x128x128, .f32⟩
  | 88 => ⟨S_, .i32⟩
  | 89 => ⟨S_, .i32⟩
  | 90 => ⟨S_, .i32⟩
  | 91 => ⟨S256x8x128x128, .f32⟩
  | 92 => ⟨S1x8x64x128, .f32⟩
  | 93 => ⟨S_, .i32⟩
  | 94 => ⟨S_, .i32⟩
  | 95 => ⟨S_, .i32⟩
  | 96 => ⟨S256x8x64x128, .f32⟩
  | 97 => ⟨S1x8x1x128, .f32⟩
  | 98 => ⟨S_, .i32⟩
  | 99 => ⟨S_, .i32⟩
  | 100 => ⟨S_, .i32⟩
  | 101 => ⟨S256x8x1x128, .f32⟩
  | 102 => ⟨S_, .i32⟩
  | 103 => ⟨S_, .i32⟩
  | 104 => ⟨S8x256x64x128, .f32⟩
  | 105 => ⟨S8x16384x128, .f32⟩
  | 106 => ⟨S_, .f32⟩
  | 107 => ⟨S8x128x128, .f32⟩
  | 108 => ⟨S8x256x64x128, .f32⟩
  | 109 => ⟨S256x8x64x128, .f32⟩
  | 110 => ⟨S_, .f32⟩
  | 111 => ⟨S8x128x128, .f32⟩
  | 112 => ⟨S_, .f32⟩
  | 113 => ⟨S256x8x64x128, .f32⟩
  | 114 => ⟨S_, .f32⟩
  | 115 => ⟨S256x8x64x64, .f32⟩
  | 116 => ⟨S_, .f32⟩
  | 117 => ⟨S256x8x64x128, .f32⟩
  | 118 => ⟨S_, .f32⟩
  | 119 => ⟨S256x8x64x128, .f32⟩
  | 120 => ⟨S_, .f32⟩
  | 121 => ⟨S256x8x64x128, .f32⟩
  | 122 => ⟨S_, .f32⟩
  | 123 => ⟨S256x8x1x128, .f32⟩
  | 124 => ⟨S_, .i32⟩
  | 125 => ⟨S256x8x64x128, .f32⟩
  | 126 => ⟨S256x8x128x128, .f32⟩
  | 127 => ⟨S256x8x64x128, .f32⟩
  | _ => ⟨S8x16384x128, .f32⟩

abbrev hbmTy0_1 (i : Nat) : BufTy := match i % 128 with
  | 0 => ⟨S256x8x64x128, .f32⟩
  | 1 => ⟨S256x8x64x128, .f32⟩
  | 2 => ⟨S256x8x64x64, .f32⟩
  | 3 => ⟨S256x8x1x128, .f32⟩
  | 4 => ⟨S256x8x64x128, .f32⟩
  | 5 => ⟨S_, .i32⟩
  | 6 => ⟨S8x128x128, .f32⟩
  | 7 => ⟨S256x8x64x128, .f32⟩
  | 8 => ⟨S256x8x64x64, .f32⟩
  | 9 => ⟨S256x8x64x128, .f32⟩
  | 10 => ⟨S256x8x64x128, .f32⟩
  | 11 => ⟨S256x8x64x128, .f32⟩
  | 12 => ⟨S256x8x1x128, .f32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S1x8x64x128, .f32⟩
  | 23 => ⟨S8x64x128, .f32⟩
  | 24 => ⟨S_, .i32⟩
  | 25 => ⟨S_, .i32⟩
  | 26 => ⟨S_, .i32⟩
  | 27 => ⟨S1x8x128x128, .f32⟩
  | 28 => ⟨S8x128x128, .f32⟩
  | 29 => ⟨S_, .i32⟩
  | 30 => ⟨S_, .i32⟩
  | 31 => ⟨S_, .i32⟩
  | 32 => ⟨S1x8x64x128, .f32⟩
  | 33 => ⟨S8x64x128, .f32⟩
  | 34 => ⟨S_, .i32⟩
  | 35 => ⟨S_, .i32⟩
  | 36 => ⟨S_, .i32⟩
  | 37 => ⟨S1x8x64x128, .f32⟩
  | 38 => ⟨S8x64x128, .f32⟩
  | 39 => ⟨S_, .i32⟩
  | 40 => ⟨S_, .i32⟩
  | 41 => ⟨S_, .i32⟩
  | 42 => ⟨S1x8x64x128, .f32⟩
  | 43 => ⟨S8x64x128, .f32⟩
  | 44 => ⟨S_, .i32⟩
  | 45 => ⟨S_, .i32⟩
  | 46 => ⟨S_, .i32⟩
  | 47 => ⟨S1x8x64x64, .f32⟩
  | 48 => ⟨S8x64x64, .f32⟩
  | 49 => ⟨S_, .i32⟩
  | 50 => ⟨S_, .i32⟩
  | 51 => ⟨S_, .i32⟩
  | 52 => ⟨S1x8x1x128, .f32⟩
  | 53 => ⟨S8x1x128, .f32⟩
  | 54 => ⟨S_, .i32⟩
  | 55 => ⟨S_, .i32⟩
  | 56 => ⟨S_, .i32⟩
  | 57 => ⟨S1x8x64x128, .f32⟩
  | 58 => ⟨S8x64x128, .f32⟩
  | 59 => ⟨S8x128x64, .f32⟩
  | 60 => ⟨S8x64x128, .f32⟩
  | 61 => ⟨S8x128x64, .f32⟩
  | 62 => ⟨S8x64x128, .f32⟩
  | 63 => ⟨S8x128x128, .f32⟩
  | 64 => ⟨S_, .f32⟩
  | 65 => ⟨S8x128, .f32⟩
  | 66 => ⟨S8x1x128, .f32⟩
  | 67 => ⟨S8x128x128, .f32⟩
  | 68 => ⟨S8x128x128, .f32⟩
  | 69 => ⟨S8x1x128, .f32⟩
  | 70 => ⟨S8x128x64, .f32⟩
  | 71 => ⟨S8x64x128, .f32⟩
  | 72 => ⟨S8x64x128, .f32⟩
  | 73 => ⟨S8x64x64, .f32⟩
  | 74 => ⟨S8x128x128, .f32⟩
  | 75 => ⟨S8x128x128, .f32⟩
  | 76 => ⟨S8x128x128, .f32⟩
  | 77 => ⟨S8x64x128, .f32⟩
  | 78 => ⟨S8x64x128, .f32⟩
  | 79 => ⟨S8x128x128, .f32⟩
  | 80 => ⟨S8x128x128, .f32⟩
  | 81 => ⟨S8x128x128, .f32⟩
  | 82 => ⟨S8x64x128, .f32⟩
  | 83 => ⟨S1x8x64x128, .f32⟩
  | 84 => ⟨S_, .i32⟩
  | 85 => ⟨S_, .i32⟩
  | 86 => ⟨S_, .i32⟩
  | 87 => ⟨S256x8x64x128, .f32⟩
  | 88 => ⟨S1x8x64x64, .f32⟩
  | 89 => ⟨S_, .i32⟩
  | 90 => ⟨S_, .i32⟩
  | 91 => ⟨S_, .i32⟩
  | 92 => ⟨S256x8x64x64, .f32⟩
  | 93 => ⟨S1x8x64x128, .f32⟩
  | 94 => ⟨S_, .i32⟩
  | 95 => ⟨S_, .i32⟩
  | 96 => ⟨S_, .i32⟩
  | 97 => ⟨S256x8x64x128, .f32⟩
  | 98 => ⟨S1x8x64x128, .f32⟩
  | 99 => ⟨S_, .i32⟩
  | 100 => ⟨S_, .i32⟩
  | 101 => ⟨S_, .i32⟩
  | 102 => ⟨S256x8x64x128, .f32⟩
  | 103 => ⟨S1x8x64x128, .f32⟩
  | 104 => ⟨S_, .i32⟩
  | 105 => ⟨S_, .i32⟩
  | 106 => ⟨S_, .i32⟩
  | 107 => ⟨S256x8x64x128, .f32⟩
  | 108 => ⟨S1x8x1x128, .f32⟩
  | 109 => ⟨S_, .i32⟩
  | 110 => ⟨S_, .i32⟩
  | 111 => ⟨S_, .i32⟩
  | 112 => ⟨S256x8x1x128, .f32⟩
  | 113 => ⟨S_, .i32⟩
  | 114 => ⟨S_, .i32⟩
  | 115 => ⟨S8x256x1x128, .f32⟩
  | 116 => ⟨S8x256x64x128, .f32⟩
  | 117 => ⟨S8x16384x128, .f32⟩
  | 118 => ⟨S8x256x64x128, .f32⟩
  | 119 => ⟨S8x16384x128, .f32⟩
  | 120 => ⟨S8x256x64x128, .f32⟩
  | 121 => ⟨S8x16384x128, .f32⟩
  | 122 => ⟨S8x256x64x64, .f32⟩
  | 123 => ⟨S8x256x64x128, .f32⟩
  | 124 => ⟨S8x16384x128, .f32⟩
  | _ => ⟨S8x16384x128, .f32⟩

abbrev hbmTy (i : Nat) : BufTy := match i / 128 with
  | 0 => hbmTy0_0 i
  | 1 => hbmTy0_1 i
  | _ => ⟨S8x16384x128, .f32⟩

abbrev bufTy : (tb : Table) → Fin (tcTables nBuf tb) → BufTy
  | .hbm, ⟨i, _⟩ => hbmTy i
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_c : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev main_v15_4 : Ref sig .tc := ⟨.hbm, 32, rfl⟩
abbrev main_v15_5 : Ref sig .tc := ⟨.hbm, 33, rfl⟩
abbrev main_v15_6 : Ref sig .tc := ⟨.hbm, 34, rfl⟩
abbrev main_v15_7 : Ref sig .tc := ⟨.hbm, 35, rfl⟩
abbrev main_v15_8 : Ref sig .tc := ⟨.hbm, 36, rfl⟩
abbrev main_v15_9 : Ref sig .tc := ⟨.hbm, 37, rfl⟩
abbrev main_v15_10 : Ref sig .tc := ⟨.hbm, 38, rfl⟩
abbrev main_v15_11 : Ref sig .tc := ⟨.hbm, 39, rfl⟩
abbrev main_while0c_c_24 : Ref sig .tc := ⟨.hbm, 40, rfl⟩
abbrev main_while0c_v39 : Ref sig .tc := ⟨.hbm, 41, rfl⟩
abbrev main_while0b_call0_c : Ref sig .tc := ⟨.hbm, 42, rfl⟩
abbrev main_while0b_call0_c_0 : Ref sig .tc := ⟨.hbm, 43, rfl⟩
abbrev main_while0b_call0_c_1 : Ref sig .tc := ⟨.hbm, 44, rfl⟩
abbrev main_while0b_call0_v0 : Ref sig .tc := ⟨.hbm, 45, rfl⟩
abbrev main_while0b_v39 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_c_1 : Ref sig .tc := ⟨.hbm, 49, rfl⟩
abbrev main_while0b_call1_v0 : Ref sig .tc := ⟨.hbm, 50, rfl⟩
abbrev main_while0b_v40 : Ref sig .tc := ⟨.hbm, 51, rfl⟩
abbrev main_while0b_call2_c : Ref sig .tc := ⟨.hbm, 52, rfl⟩
abbrev main_while0b_call2_c_0 : Ref sig .tc := ⟨.hbm, 53, rfl⟩
abbrev main_while0b_call2_c_1 : Ref sig .tc := ⟨.hbm, 54, rfl⟩
abbrev main_while0b_call2_v0 : Ref sig .tc := ⟨.hbm, 55, rfl⟩
abbrev main_while0b_v41 : Ref sig .tc := ⟨.hbm, 56, rfl⟩
abbrev main_while0b_call3_c : Ref sig .tc := ⟨.hbm, 57, rfl⟩
abbrev main_while0b_call3_c_0 : Ref sig .tc := ⟨.hbm, 58, rfl⟩
abbrev main_while0b_call3_c_1 : Ref sig .tc := ⟨.hbm, 59, rfl⟩
abbrev main_while0b_call3_v0 : Ref sig .tc := ⟨.hbm, 60, rfl⟩
abbrev main_while0b_v42 : Ref sig .tc := ⟨.hbm, 61, rfl⟩
abbrev main_while0b_call4_c : Ref sig .tc := ⟨.hbm, 62, rfl⟩
abbrev main_while0b_call4_c_0 : Ref sig .tc := ⟨.hbm, 63, rfl⟩
abbrev main_while0b_call4_c_1 : Ref sig .tc := ⟨.hbm, 64, rfl⟩
abbrev main_while0b_call4_v0 : Ref sig .tc := ⟨.hbm, 65, rfl⟩
abbrev main_while0b_v43 : Ref sig .tc := ⟨.hbm, 66, rfl⟩
abbrev main_while0b_call5_c : Ref sig .tc := ⟨.hbm, 67, rfl⟩
abbrev main_while0b_call5_c_0 : Ref sig .tc := ⟨.hbm, 68, rfl⟩
abbrev main_while0b_call5_c_1 : Ref sig .tc := ⟨.hbm, 69, rfl⟩
abbrev main_while0b_call5_v0 : Ref sig .tc := ⟨.hbm, 70, rfl⟩
abbrev main_while0b_v44 : Ref sig .tc := ⟨.hbm, 71, rfl⟩
abbrev main_while0b_v45 : Ref sig .tc := ⟨.hbm, 72, rfl⟩
abbrev main_while0b_v46 : Ref sig .tc := ⟨.hbm, 73, rfl⟩
abbrev main_while0b_v47 : Ref sig .tc := ⟨.hbm, 74, rfl⟩
abbrev main_while0b_v48 : Ref sig .tc := ⟨.hbm, 75, rfl⟩
abbrev main_while0b_v49 : Ref sig .tc := ⟨.hbm, 76, rfl⟩
abbrev main_while0b_v50 : Ref sig .tc := ⟨.hbm, 77, rfl⟩
abbrev main_while0b_v51 : Ref sig .tc := ⟨.hbm, 78, rfl⟩
abbrev main_while0b_v52 : Ref sig .tc := ⟨.hbm, 79, rfl⟩
abbrev main_while0b_v53 : Ref sig .tc := ⟨.hbm, 80, rfl⟩
abbrev main_while0b_v54 : Ref sig .tc := ⟨.hbm, 81, rfl⟩
abbrev main_while0b_call6_v0 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_c_1 : Ref sig .tc := ⟨.hbm, 85, rfl⟩
abbrev main_while0b_v55 : Ref sig .tc := ⟨.hbm, 86, rfl⟩
abbrev main_while0b_call7_v0 : Ref sig .tc := ⟨.hbm, 87, rfl⟩
abbrev main_while0b_call7_c : Ref sig .tc := ⟨.hbm, 88, rfl⟩
abbrev main_while0b_call7_c_0 : Ref sig .tc := ⟨.hbm, 89, rfl⟩
abbrev main_while0b_call7_c_1 : Ref sig .tc := ⟨.hbm, 90, rfl⟩
abbrev main_while0b_v56 : Ref sig .tc := ⟨.hbm, 91, rfl⟩
abbrev main_while0b_call8_v0 : Ref sig .tc := ⟨.hbm, 92, rfl⟩
abbrev main_while0b_call8_c : Ref sig .tc := ⟨.hbm, 93, rfl⟩
abbrev main_while0b_call8_c_0 : Ref sig .tc := ⟨.hbm, 94, rfl⟩
abbrev main_while0b_call8_c_1 : Ref sig .tc := ⟨.hbm, 95, rfl⟩
abbrev main_while0b_v57 : Ref sig .tc := ⟨.hbm, 96, rfl⟩
abbrev main_while0b_call9_v0 : Ref sig .tc := ⟨.hbm, 97, rfl⟩
abbrev main_while0b_call9_c : Ref sig .tc := ⟨.hbm, 98, rfl⟩
abbrev main_while0b_call9_c_0 : Ref sig .tc := ⟨.hbm, 99, rfl⟩
abbrev main_while0b_call9_c_1 : Ref sig .tc := ⟨.hbm, 100, rfl⟩
abbrev main_while0b_v58 : Ref sig .tc := ⟨.hbm, 101, rfl⟩
abbrev main_while0b_c_24 : Ref sig .tc := ⟨.hbm, 102, rfl⟩
abbrev main_while0b_v59 : Ref sig .tc := ⟨.hbm, 103, rfl⟩
abbrev main_v16 : Ref sig .tc := ⟨.hbm, 104, rfl⟩
abbrev main_v17 : Ref sig .tc := ⟨.hbm, 105, rfl⟩
abbrev main_cst_4 : Ref sig .tc := ⟨.hbm, 106, rfl⟩
abbrev main_v18 : Ref sig .tc := ⟨.hbm, 107, rfl⟩
abbrev main_v19 : Ref sig .tc := ⟨.hbm, 108, rfl⟩
abbrev main_v20 : Ref sig .tc := ⟨.hbm, 109, rfl⟩
abbrev main_cst_5 : Ref sig .tc := ⟨.hbm, 110, rfl⟩
abbrev main_v21 : Ref sig .tc := ⟨.hbm, 111, rfl⟩
abbrev main_cst_6 : Ref sig .tc := ⟨.hbm, 112, rfl⟩
abbrev main_v22 : Ref sig .tc := ⟨.hbm, 113, rfl⟩
abbrev main_cst_7 : Ref sig .tc := ⟨.hbm, 114, rfl⟩
abbrev main_v23 : Ref sig .tc := ⟨.hbm, 115, rfl⟩
abbrev main_cst_8 : Ref sig .tc := ⟨.hbm, 116, rfl⟩
abbrev main_v24 : Ref sig .tc := ⟨.hbm, 117, rfl⟩
abbrev main_cst_9 : Ref sig .tc := ⟨.hbm, 118, rfl⟩
abbrev main_v25 : Ref sig .tc := ⟨.hbm, 119, rfl⟩
abbrev main_cst_10 : Ref sig .tc := ⟨.hbm, 120, rfl⟩
abbrev main_v26 : Ref sig .tc := ⟨.hbm, 121, rfl⟩
abbrev main_cst_11 : Ref sig .tc := ⟨.hbm, 122, rfl⟩
abbrev main_v27 : Ref sig .tc := ⟨.hbm, 123, rfl⟩
abbrev main_c_12 : Ref sig .tc := ⟨.hbm, 124, rfl⟩
abbrev main_v28_0 : Ref sig .tc := ⟨.hbm, 125, rfl⟩
abbrev main_v28_1 : Ref sig .tc := ⟨.hbm, 126, rfl⟩
abbrev main_v28_2 : Ref sig .tc := ⟨.hbm, 127, rfl⟩
abbrev main_v28_3 : Ref sig .tc := ⟨.hbm, 128, rfl⟩
abbrev main_v28_4 : Ref sig .tc := ⟨.hbm, 129, rfl⟩
abbrev main_v28_5 : Ref sig .tc := ⟨.hbm, 130, rfl⟩
abbrev main_v28_6 : Ref sig .tc := ⟨.hbm, 131, rfl⟩
abbrev main_v28_7 : Ref sig .tc := ⟨.hbm, 132, rfl⟩
abbrev main_v28_8 : Ref sig .tc := ⟨.hbm, 133, rfl⟩
abbrev main_v28_9 : Ref sig .tc := ⟨.hbm, 134, rfl⟩
abbrev main_v28_10 : Ref sig .tc := ⟨.hbm, 135, rfl⟩
abbrev main_v28_11 : Ref sig .tc := ⟨.hbm, 136, rfl⟩
abbrev main_v28_12 : Ref sig .tc := ⟨.hbm, 137, rfl⟩
abbrev main_v28_13 : Ref sig .tc := ⟨.hbm, 138, rfl⟩
abbrev main_v28_14 : Ref sig .tc := ⟨.hbm, 139, rfl⟩
abbrev main_v28_15 : Ref sig .tc := ⟨.hbm, 140, rfl⟩
abbrev main_while1c_c_28 : Ref sig .tc := ⟨.hbm, 141, rfl⟩
abbrev main_while1c_v39 : Ref sig .tc := ⟨.hbm, 142, rfl⟩
abbrev main_while1b_c_28 : Ref sig .tc := ⟨.hbm, 143, rfl⟩
abbrev main_while1b_v39 : Ref sig .tc := ⟨.hbm, 144, rfl⟩
abbrev main_while1b_c_29 : Ref sig .tc := ⟨.hbm, 145, rfl⟩
abbrev main_while1b_v40 : Ref sig .tc := ⟨.hbm, 146, rfl⟩
abbrev main_while1b_call10_c : Ref sig .tc := ⟨.hbm, 147, rfl⟩
abbrev main_while1b_call10_c_0 : Ref sig .tc := ⟨.hbm, 148, rfl⟩
abbrev main_while1b_call10_c_1 : Ref sig .tc := ⟨.hbm, 149, rfl⟩
abbrev main_while1b_call10_v0 : Ref sig .tc := ⟨.hbm, 150, rfl⟩
abbrev main_while1b_v41 : Ref sig .tc := ⟨.hbm, 151, rfl⟩
abbrev main_while1b_call11_c : Ref sig .tc := ⟨.hbm, 152, rfl⟩
abbrev main_while1b_call11_c_0 : Ref sig .tc := ⟨.hbm, 153, rfl⟩
abbrev main_while1b_call11_c_1 : Ref sig .tc := ⟨.hbm, 154, rfl⟩
abbrev main_while1b_call11_v0 : Ref sig .tc := ⟨.hbm, 155, rfl⟩
abbrev main_while1b_v42 : Ref sig .tc := ⟨.hbm, 156, rfl⟩
abbrev main_while1b_call12_c : Ref sig .tc := ⟨.hbm, 157, rfl⟩
abbrev main_while1b_call12_c_0 : Ref sig .tc := ⟨.hbm, 158, rfl⟩
abbrev main_while1b_call12_c_1 : Ref sig .tc := ⟨.hbm, 159, rfl⟩
abbrev main_while1b_call12_v0 : Ref sig .tc := ⟨.hbm, 160, rfl⟩
abbrev main_while1b_v43 : Ref sig .tc := ⟨.hbm, 161, rfl⟩
abbrev main_while1b_call13_c : Ref sig .tc := ⟨.hbm, 162, rfl⟩
abbrev main_while1b_call13_c_0 : Ref sig .tc := ⟨.hbm, 163, rfl⟩
abbrev main_while1b_call13_c_1 : Ref sig .tc := ⟨.hbm, 164, rfl⟩
abbrev main_while1b_call13_v0 : Ref sig .tc := ⟨.hbm, 165, rfl⟩
abbrev main_while1b_v44 : Ref sig .tc := ⟨.hbm, 166, rfl⟩
abbrev main_while1b_call14_c : Ref sig .tc := ⟨.hbm, 167, rfl⟩
abbrev main_while1b_call14_c_0 : Ref sig .tc := ⟨.hbm, 168, rfl⟩
abbrev main_while1b_call14_c_1 : Ref sig .tc := ⟨.hbm, 169, rfl⟩
abbrev main_while1b_call14_v0 : Ref sig .tc := ⟨.hbm, 170, rfl⟩
abbrev main_while1b_v45 : Ref sig .tc := ⟨.hbm, 171, rfl⟩
abbrev main_while1b_call15_c : Ref sig .tc := ⟨.hbm, 172, rfl⟩
abbrev main_while1b_call15_c_0 : Ref sig .tc := ⟨.hbm, 173, rfl⟩
abbrev main_while1b_call15_c_1 : Ref sig .tc := ⟨.hbm, 174, rfl⟩
abbrev main_while1b_call15_v0 : Ref sig .tc := ⟨.hbm, 175, rfl⟩
abbrev main_while1b_v46 : Ref sig .tc := ⟨.hbm, 176, rfl⟩
abbrev main_while1b_call16_c : Ref sig .tc := ⟨.hbm, 177, rfl⟩
abbrev main_while1b_call16_c_0 : Ref sig .tc := ⟨.hbm, 178, rfl⟩
abbrev main_while1b_call16_c_1 : Ref sig .tc := ⟨.hbm, 179, rfl⟩
abbrev main_while1b_call16_v0 : Ref sig .tc := ⟨.hbm, 180, rfl⟩
abbrev main_while1b_v47 : Ref sig .tc := ⟨.hbm, 181, rfl⟩
abbrev main_while1b_call17_c : Ref sig .tc := ⟨.hbm, 182, rfl⟩
abbrev main_while1b_call17_c_0 : Ref sig .tc := ⟨.hbm, 183, rfl⟩
abbrev main_while1b_call17_c_1 : Ref sig .tc := ⟨.hbm, 184, rfl⟩
abbrev main_while1b_call17_v0 : Ref sig .tc := ⟨.hbm, 185, rfl⟩
abbrev main_while1b_v48 : Ref sig .tc := ⟨.hbm, 186, rfl⟩
abbrev main_while1b_v49 : Ref sig .tc := ⟨.hbm, 187, rfl⟩
abbrev main_while1b_v50 : Ref sig .tc := ⟨.hbm, 188, rfl⟩
abbrev main_while1b_v51 : Ref sig .tc := ⟨.hbm, 189, rfl⟩
abbrev main_while1b_v52 : Ref sig .tc := ⟨.hbm, 190, rfl⟩
abbrev main_while1b_v53 : Ref sig .tc := ⟨.hbm, 191, rfl⟩
abbrev main_while1b_cst_30 : Ref sig .tc := ⟨.hbm, 192, rfl⟩
abbrev main_while1b_v54 : Ref sig .tc := ⟨.hbm, 193, rfl⟩
abbrev main_while1b_v55 : Ref sig .tc := ⟨.hbm, 194, rfl⟩
abbrev main_while1b_v56 : Ref sig .tc := ⟨.hbm, 195, rfl⟩
abbrev main_while1b_v57 : Ref sig .tc := ⟨.hbm, 196, rfl⟩
abbrev main_while1b_v58 : Ref sig .tc := ⟨.hbm, 197, rfl⟩
abbrev main_while1b_v59 : Ref sig .tc := ⟨.hbm, 198, rfl⟩
abbrev main_while1b_v60 : Ref sig .tc := ⟨.hbm, 199, rfl⟩
abbrev main_while1b_v61 : Ref sig .tc := ⟨.hbm, 200, rfl⟩
abbrev main_while1b_v62 : Ref sig .tc := ⟨.hbm, 201, rfl⟩
abbrev main_while1b_v63 : Ref sig .tc := ⟨.hbm, 202, rfl⟩
abbrev main_while1b_v64 : Ref sig .tc := ⟨.hbm, 203, rfl⟩
abbrev main_while1b_v65 : Ref sig .tc := ⟨.hbm, 204, rfl⟩
abbrev main_while1b_v66 : Ref sig .tc := ⟨.hbm, 205, rfl⟩
abbrev main_while1b_v67 : Ref sig .tc := ⟨.hbm, 206, rfl⟩
abbrev main_while1b_v68 : Ref sig .tc := ⟨.hbm, 207, rfl⟩
abbrev main_while1b_v69 : Ref sig .tc := ⟨.hbm, 208, rfl⟩
abbrev main_while1b_v70 : Ref sig .tc := ⟨.hbm, 209, rfl⟩
abbrev main_while1b_v71 : Ref sig .tc := ⟨.hbm, 210, rfl⟩
abbrev main_while1b_call18_v0 : Ref sig .tc := ⟨.hbm, 211, rfl⟩
abbrev main_while1b_call18_c : Ref sig .tc := ⟨.hbm, 212, rfl⟩
abbrev main_while1b_call18_c_0 : Ref sig .tc := ⟨.hbm, 213, rfl⟩
abbrev main_while1b_call18_c_1 : Ref sig .tc := ⟨.hbm, 214, rfl⟩
abbrev main_while1b_v72 : Ref sig .tc := ⟨.hbm, 215, rfl⟩
abbrev main_while1b_call19_v0 : Ref sig .tc := ⟨.hbm, 216, rfl⟩
abbrev main_while1b_call19_c : Ref sig .tc := ⟨.hbm, 217, rfl⟩
abbrev main_while1b_call19_c_0 : Ref sig .tc := ⟨.hbm, 218, rfl⟩
abbrev main_while1b_call19_c_1 : Ref sig .tc := ⟨.hbm, 219, rfl⟩
abbrev main_while1b_v73 : Ref sig .tc := ⟨.hbm, 220, rfl⟩
abbrev main_while1b_call20_v0 : Ref sig .tc := ⟨.hbm, 221, rfl⟩
abbrev main_while1b_call20_c : Ref sig .tc := ⟨.hbm, 222, rfl⟩
abbrev main_while1b_call20_c_0 : Ref sig .tc := ⟨.hbm, 223, rfl⟩
abbrev main_while1b_call20_c_1 : Ref sig .tc := ⟨.hbm, 224, rfl⟩
abbrev main_while1b_v74 : Ref sig .tc := ⟨.hbm, 225, rfl⟩
abbrev main_while1b_call21_v0 : Ref sig .tc := ⟨.hbm, 226, rfl⟩
abbrev main_while1b_call21_c : Ref sig .tc := ⟨.hbm, 227, rfl⟩
abbrev main_while1b_call21_c_0 : Ref sig .tc := ⟨.hbm, 228, rfl⟩
abbrev main_while1b_call21_c_1 : Ref sig .tc := ⟨.hbm, 229, rfl⟩
abbrev main_while1b_v75 : Ref sig .tc := ⟨.hbm, 230, rfl⟩
abbrev main_while1b_call22_v0 : Ref sig .tc := ⟨.hbm, 231, rfl⟩
abbrev main_while1b_call22_c : Ref sig .tc := ⟨.hbm, 232, rfl⟩
abbrev main_while1b_call22_c_0 : Ref sig .tc := ⟨.hbm, 233, rfl⟩
abbrev main_while1b_call22_c_1 : Ref sig .tc := ⟨.hbm, 234, rfl⟩
abbrev main_while1b_v76 : Ref sig .tc := ⟨.hbm, 235, rfl⟩
abbrev main_while1b_call23_v0 : Ref sig .tc := ⟨.hbm, 236, rfl⟩
abbrev main_while1b_call23_c : Ref sig .tc := ⟨.hbm, 237, rfl⟩
abbrev main_while1b_call23_c_0 : Ref sig .tc := ⟨.hbm, 238, rfl⟩
abbrev main_while1b_call23_c_1 : Ref sig .tc := ⟨.hbm, 239, rfl⟩
abbrev main_while1b_v77 : Ref sig .tc := ⟨.hbm, 240, rfl⟩
abbrev main_while1b_c_31 : Ref sig .tc := ⟨.hbm, 241, rfl⟩
abbrev main_while1b_v78 : Ref sig .tc := ⟨.hbm, 242, rfl⟩
abbrev main_v29 : Ref sig .tc := ⟨.hbm, 243, rfl⟩
abbrev main_v30 : Ref sig .tc := ⟨.hbm, 244, rfl⟩
abbrev main_v31 : Ref sig .tc := ⟨.hbm, 245, rfl⟩
abbrev main_v32 : Ref sig .tc := ⟨.hbm, 246, rfl⟩
abbrev main_v33 : Ref sig .tc := ⟨.hbm, 247, rfl⟩
abbrev main_v34 : Ref sig .tc := ⟨.hbm, 248, rfl⟩
abbrev main_v35 : Ref sig .tc := ⟨.hbm, 249, rfl⟩
abbrev main_v36 : Ref sig .tc := ⟨.hbm, 250, rfl⟩
abbrev main_v37 : Ref sig .tc := ⟨.hbm, 251, rfl⟩
abbrev main_v38 : Ref sig .tc := ⟨.hbm, 252, rfl⟩

abbrev nD : Nat := 1
abbrev τ : Topo := Topo.v7x

variable {F : FTy → Type} [FloatOps F]

abbrev main_while0_count : Scf.Loop 32 := ⟨0#32, 256#32, 1#32⟩

abbrev main_while1_count : Scf.Loop 32 := ⟨0#32, 256#32, 1#32⟩
-- ==== Ffn.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S16384x5632 : Shape := ⟨2, ![16384, 5632]⟩
abbrev S2048x1024 : Shape := ⟨2, ![2048, 1024]⟩
abbrev S1024x1408 : Shape := ⟨2, ![1024, 1408]⟩
abbrev S2048x1408 : Shape := ⟨2, ![2048, 1408]⟩
abbrev S16384x2816 : Shape := ⟨2, ![16384, 2816]⟩
abbrev S256x5632 : Shape := ⟨2, ![256, 5632]⟩
abbrev S256x2816 : Shape := ⟨2, ![256, 2816]⟩
abbrev S1024x2816 : Shape := ⟨2, ![1024, 2816]⟩
abbrev S1024x1024 : Shape := ⟨2, ![1024, 1024]⟩
abbrev S4096x256 : Shape := ⟨2, ![4096, 256]⟩
abbrev S4096x1024 : Shape := ⟨2, ![4096, 1024]⟩
abbrev S256x1024 : Shape := ⟨2, ![256, 1024]⟩
abbrev S1408x1024 : Shape := ⟨2, ![1408, 1024]⟩
abbrev S4096x512 : Shape := ⟨2, ![4096, 512]⟩
abbrev S4096x1408 : Shape := ⟨2, ![4096, 1408]⟩
abbrev S512x1408 : Shape := ⟨2, ![512, 1408]⟩
abbrev S1024 : Shape := ⟨1, ![1024]⟩

abbrev nBuf : Space → Nat
  | .hbm => 18
  | .vmem => 65
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1024x5632, .bf16⟩
  | .hbm, ⟨6, _⟩ => ⟨S2816x1024, .bf16⟩
  | .hbm, ⟨7, _⟩ => ⟨S16384x1024, .bf16⟩
  | .hbm, ⟨8, _⟩ => ⟨S16384x5632, .bf16⟩
  | .hbm, ⟨9, _⟩ => ⟨S16384x2816, .bf16⟩
  | .hbm, ⟨10, _⟩ => ⟨S16384x1024, .f32⟩
  | .hbm, ⟨11, _⟩ => ⟨S2816x1024, .f32⟩
  | .hbm, ⟨12, _⟩ => ⟨S16384x2816, .bf16⟩
  | .hbm, ⟨13, _⟩ => ⟨S16384x5632, .bf16⟩
  | .hbm, ⟨14, _⟩ => ⟨S1024x5632, .f32⟩
  | .hbm, ⟨15, _⟩ => ⟨S16384x1024, .bf16⟩
  | .hbm, ⟨16, _⟩ => ⟨S16384x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S2048x1024, .bf16⟩
  | .local _ .vmem, ⟨6, _⟩ => ⟨S2048x1024, .bf16⟩
  | .local _ .vmem, ⟨7, _⟩ => ⟨S1024x1408, .bf16⟩
  | .local _ .vmem, ⟨8, _⟩ => ⟨S1024x1408, .bf16⟩
  | .local _ .vmem, ⟨9, _⟩ => ⟨S2048x1408, .bf16⟩
  | .local _ .vmem, ⟨10, _⟩ => ⟨S2048x1408, .bf16⟩
  | .local _ .vmem, ⟨11, _⟩ => ⟨S256x5632, .bf16⟩
  | .local _ .vmem, ⟨12, _⟩ => ⟨S256x5632, .bf16⟩
  | .local _ .vmem, ⟨13, _⟩ => ⟨S256x2816, .bf16⟩
  | .local _ .vmem, ⟨14, _⟩ => ⟨S256x2816, .bf16⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S4096x256, .bf16⟩
  | .local _ .vmem, ⟨23, _⟩ => ⟨S4096x256, .bf16⟩
  | .local _ .vmem, ⟨24, _⟩ => ⟨S4096x1024, .f32⟩
  | .local _ .vmem, ⟨25, _⟩ => ⟨S4096x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S2048x1024, .f32⟩
  | .local _ .vmem, ⟨30, _⟩ => ⟨S2048x1024, .f32⟩
  | .local _ .vmem, ⟨31, _⟩ => ⟨S1408x1024, .bf16⟩
  | .local _ .vmem, ⟨32, _⟩ => ⟨S1408x1024, .bf16⟩
  | .local _ .vmem, ⟨33, _⟩ => ⟨S2048x1408, .bf16⟩
  | .local _ .vmem, ⟨34, _⟩ => ⟨S2048x1408, .bf16⟩
  | .local _ .vmem, ⟨35, _⟩ => ⟨S256x5632, .bf16⟩
  | .local _ .vmem, ⟨36, _⟩ => ⟨S256x5632, .bf16⟩
  | .local _ .vmem, ⟨37, _⟩ => ⟨S256x2816, .bf16⟩
  | .local _ .vmem, ⟨38, _⟩ => ⟨S256x2816, .bf16⟩
  | .local _ .vmem, ⟨39, _⟩ => ⟨S256x5632, .bf16⟩
  | .local _ .vmem, ⟨40, _⟩ => ⟨S256x5632, .bf16⟩
  | .local _ .vmem, ⟨41, _⟩ => ⟨S4096x512, .bf16⟩
  | .local _ .vmem, ⟨42, _⟩ => ⟨S4096x512, .bf16⟩
  | .local _ .vmem, ⟨43, _⟩ => ⟨S4096x1408, .bf16⟩
  | .local _ .vmem, ⟨44, _⟩ => ⟨S4096x1408, .bf16⟩
  | .local _ .vmem, ⟨45, _⟩ => ⟨S512x1408, .f32⟩
  | .local _ .vmem, ⟨46, _⟩ => ⟨S512x1408, .f32⟩
  | .local _ .vmem, ⟨47, _⟩ => ⟨S512x1408, .f32⟩
  | .local _ .vmem, ⟨48, _⟩ => ⟨S1024x2816, .bf16⟩
  | .local _ .vmem, ⟨49, _⟩ => ⟨S1024x2816, .bf16⟩
  | .local _ .vmem, ⟨50, _⟩ => ⟨S1024x2816, .bf16⟩
  | .local _ .vmem, ⟨51, _⟩ => ⟨S1024x2816, .bf16⟩
  | .local _ .vmem, ⟨52, _⟩ => ⟨S1024x1024, .bf16⟩
  | .local _ .vmem, ⟨53, _⟩ => ⟨S1024x1024, .bf16⟩
  | .local _ .vmem, ⟨54, _⟩ => ⟨S1024x1024, .f32⟩
  | .local _ .vmem, ⟨55, _⟩ => ⟨S512x1024, .f32⟩
  | .local _ .vmem, ⟨56, _⟩ => ⟨S512x1024, .f32⟩
  | .local _ .vmem, ⟨57, _⟩ => ⟨S1x1024, .f32⟩
  | .local _ .vmem, ⟨58, _⟩ => ⟨S512x1024, .bf16⟩
  | .local _ .vmem, ⟨59, _⟩ => ⟨S512x1024, .bf16⟩
  | .local _ .vmem, ⟨60, _⟩ => ⟨S512x1024, .f32⟩
  | .local _ .vmem, ⟨61, _⟩ => ⟨S512x1024, .f32⟩
  | .local _ .vmem, ⟨62, _⟩ => ⟨S512x1024, .f32⟩
  | .local _ .vmem, ⟨63, _⟩ => ⟨S512x1024, .f32⟩
  | .local _ .vmem, ⟨64, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc4_scratch0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg2_1 : Ref sig .tc := ⟨.vmem, 46, rfl⟩
abbrev cc7_scratch0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc8_scratch0 : Ref sig .tc := ⟨.vmem, 54, rfl⟩
abbrev cc9_stg0_0 : Ref sig .tc := ⟨.vmem, 55, rfl⟩
abbrev cc9_stg0_1 : Ref sig .tc := ⟨.vmem, 56, rfl⟩
abbrev cc9_stg1_0 : Ref sig .tc := ⟨.vmem, 57, rfl⟩
abbrev cc9_stg2_0 : Ref sig .tc := ⟨.vmem, 58, rfl⟩
abbrev cc9_stg2_1 : Ref sig .tc := ⟨.vmem, 59, rfl⟩
abbrev cc9_stg3_0 : Ref sig .tc := ⟨.vmem, 60, rfl⟩
abbrev cc9_stg3_1 : Ref sig .tc := ⟨.vmem, 61, rfl⟩
abbrev cc9_stg4_0 : Ref sig .tc := ⟨.vmem, 62, rfl⟩
abbrev cc9_stg4_1 : Ref sig .tc := ⟨.vmem, 63, rfl⟩
abbrev cc9_stg5_0 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem2_1 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem2_1 : DmaSem sig := 45
abbrev cc8_sem0_0 : DmaSem sig := 46
abbrev cc8_sem0_1 : DmaSem sig := 47
abbrev cc8_sem1_0 : DmaSem sig := 48
abbrev cc8_sem1_1 : DmaSem sig := 49
abbrev cc8_sem2_0 : DmaSem sig := 50
abbrev cc8_sem2_1 : DmaSem sig := 51
abbrev cc9_sem0_0 : DmaSem sig := 52
abbrev cc9_sem0_1 : DmaSem sig := 53
abbrev cc9_sem1_0 : DmaSem sig := 54
abbrev cc9_sem2_0 : DmaSem sig := 55
abbrev cc9_sem2_1 : DmaSem sig := 56
abbrev cc9_sem3_0 : DmaSem sig := 57
abbrev cc9_sem3_1 : DmaSem sig := 58
abbrev cc9_sem4_0 : DmaSem sig := 59
abbrev cc9_sem4_1 : DmaSem sig := 60
abbrev cc9_sem5_0 : DmaSem sig := 61

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev grid1 : Pipeline.Grid := ⟨3, ![8, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![1, 64], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage2_0 : Fin 2 → Memref sig .tc .vmem S256x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S256x2816 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev grid3 : Pipeline.Grid := ⟨3, ![16, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2816x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![11, 1, 4], ![false, false, false]⟩

def k4_cond2 (i : grid4.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1408x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2048x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨2, ![1, 64], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage6_0 : Fin 2 → Memref sig .tc .vmem S256x5632 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S256x2816 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S256x5632 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev grid7 : Pipeline.Grid := ⟨3, ![2, 4, 4], ![false, false, false]⟩

def k7_cond2 (i : grid7.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S4096x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S4096x1408 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x1408 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![16, 1, 2], ![false, false, false]⟩

def k8_cond2 (i : grid8.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x2816 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1024x2816 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨2, ![1, 32], ![false, false]⟩

def k9_cond1 (i : grid9.Coords) : BitVec 1 :=
  let arg0 : BitVec 32 := BitVec.ofNat 32 (i 0).val
  let c0_i32_12 : BitVec 32 := 0#32
  let v39 : BitVec 1 := Scalar.cmpi .eq arg0 c0_i32_12
  let arg1 : BitVec 32 := BitVec.ofNat 32 (i 1).val
  let c0_i32 : BitVec 32 := 0#32
  let v38 : BitVec 1 := Scalar.cmpi .eq arg1 c0_i32
  let v40 : BitVec 1 := Scalar.andi v39 v38
  let v44 : BitVec 32 := Scalar.extui v40
  let c0_i32_17 : BitVec 32 := 0#32
  let v45 : BitVec 1 := Scalar.cmpi .ne v44 c0_i32_17
  v45

def k9_cond2 (i : grid9.Coords) : BitVec 1 :=
  let arg0 : BitVec 32 := BitVec.ofNat 32 (i 0).val
  let c0_i32_12 : BitVec 32 := 0#32
  let v39 : BitVec 1 := Scalar.cmpi .eq arg0 c0_i32_12
  let arg1 : BitVec 32 := BitVec.ofNat 32 (i 1).val
  let c0_i32 : BitVec 32 := 0#32
  let v38 : BitVec 1 := Scalar.cmpi .eq arg1 c0_i32
  let v40 : BitVec 1 := Scalar.andi v39 v38
  let v_true : BitVec 1 := 1#1
  let v46 : BitVec 1 := Scalar.xori v40 v_true
  let v47 : BitVec 32 := Scalar.extui v46
  let c0_i32_18 : BitVec 32 := 0#32
  let v48 : BitVec 1 := Scalar.cmpi .ne v47 c0_i32_18
  v48

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S512x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 1 → Memref sig .tc .vmem S1x1024 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false]

abbrev stage9_2 : Fin 2 → Memref sig .tc .vmem S512x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true]

abbrev stage9_3 : Fin 2 → Memref sig .tc .vmem S512x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![false, true]

abbrev stage9_4 : Fin 2 → Memref sig .tc .vmem S512x1024 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![false, true]

abbrev stage9_5 : Fin 1 → Memref sig .tc .vmem S1x1024 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false, false]
-- ==== FfnRefIdeal.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S1024x2816 : Shape := ⟨2, ![1024, 2816]⟩
abbrev S5632x1024 : Shape := ⟨2, ![5632, 1024]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x5632, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S1024x2816, .f32⟩
  | .hbm, ⟨51, _⟩ => ⟨S2816x1024, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x5632, .f32⟩
  | .hbm, ⟨60, _⟩ => ⟨S5632x1024, .f32⟩
  | .hbm, ⟨61, _⟩ => ⟨S1024x5632, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S_, .f32⟩
  | .hbm, ⟨81, _⟩ => ⟨S16384, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]
-- ==== Mix.lean ====
abbrev S16384x1024 : Shape := ⟨2, ![16384, 1024]⟩
abbrev S1x1024 : Shape := ⟨2, ![1, 1024]⟩
abbrev S1024x11264 : Shape := ⟨2, ![1024, 11264]⟩
abbrev S1024x256 : Shape := ⟨2, ![1024, 256]⟩
abbrev S16384x11264 : Shape := ⟨2, ![16384, 11264]⟩
abbrev S16384x256 : Shape := ⟨2, ![16384, 256]⟩
abbrev S512x1024 : Shape := ⟨2, ![512, 1024]⟩
abbrev S512 : Shape := ⟨1, ![512]⟩
abbrev S512x1 : Shape := ⟨2, ![512, 1]⟩
abbrev S2048x1024 : Shape := ⟨2, ![2048, 1024]⟩
abbrev S1024x1408 : Shape := ⟨2, ![1024, 1408]⟩
abbrev S2048x1408 : Shape := ⟨2, ![2048, 1408]⟩
abbrev S2048x256 : Shape := ⟨2, ![2048, 256]⟩
abbrev S4096x512 : Shape := ⟨2, ![4096, 512]⟩
abbrev S4096x1408 : Shape := ⟨2, ![4096, 1408]⟩
abbrev S512x1408 : Shape := ⟨2, ![512, 1408]⟩
abbrev S4096x256 : Shape := ⟨2, ![4096, 256]⟩
abbrev S512x256 : Shape := ⟨2, ![512, 256]⟩
abbrev S1024x2816 : Shape := ⟨2, ![1024, 2816]⟩
abbrev S1024x1024 : Shape := ⟨2, ![1024, 1024]⟩
abbrev S1024 : Shape := ⟨1, ![1024]⟩

abbrev nBuf : Space → Nat
  | .hbm => 20
  | .vmem => 54
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x11264, .f32⟩
  | .hbm, ⟨3, _⟩ => ⟨S1024x256, .f32⟩
  | .hbm, ⟨4, _⟩ => ⟨S16384x1024, .f32⟩
  | .hbm, ⟨5, _⟩ => ⟨S16384x11264, .f32⟩
  | .hbm, ⟨6, _⟩ => ⟨S16384x256, .f32⟩
  | .hbm, ⟨7, _⟩ => ⟨S1024x11264, .bf16⟩
  | .hbm, ⟨8, _⟩ => ⟨S1024x256, .bf16⟩
  | .hbm, ⟨9, _⟩ => ⟨S16384x11264, .bf16⟩
  | .hbm, ⟨10, _⟩ => ⟨S16384x256, .bf16⟩
  | .hbm, ⟨11, _⟩ => ⟨S16384x1024, .bf16⟩
  | .hbm, ⟨12, _⟩ => ⟨S16384x11264, .bf16⟩
  | .hbm, ⟨13, _⟩ => ⟨S16384x256, .f32⟩
  | .hbm, ⟨14, _⟩ => ⟨S1024x11264, .f32⟩
  | .hbm, ⟨15, _⟩ => ⟨S1024x256, .f32⟩
  | .hbm, ⟨16, _⟩ => ⟨S16384x1024, .f32⟩
  | .hbm, ⟨17, _⟩ => ⟨S16384x1024, .bf16⟩
  | .hbm, ⟨18, _⟩ => ⟨S16384x1024, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S2048x1024, .bf16⟩
  | .local _ .vmem, ⟨6, _⟩ => ⟨S2048x1024, .bf16⟩
  | .local _ .vmem, ⟨7, _⟩ => ⟨S1024x1408, .bf16⟩
  | .local _ .vmem, ⟨8, _⟩ => ⟨S1024x1408, .bf16⟩
  | .local _ .vmem, ⟨9, _⟩ => ⟨S2048x1408, .bf16⟩
  | .local _ .vmem, ⟨10, _⟩ => ⟨S2048x1408, .bf16⟩
  | .local _ .vmem, ⟨11, _⟩ => ⟨S2048x1024, .bf16⟩
  | .local _ .vmem, ⟨12, _⟩ => ⟨S2048x1024, .bf16⟩
  | .local _ .vmem, ⟨13, _⟩ => ⟨S1024x256, .bf16⟩
  | .local _ .vmem, ⟨14, _⟩ => ⟨S2048x256, .f32⟩
  | .local _ .vmem, ⟨15, _⟩ => ⟨S2048x256, .f32⟩
  | .local _ .vmem, ⟨16, _⟩ => ⟨S4096x512, .bf16⟩
  | .local _ .vmem, ⟨17, _⟩ => ⟨S4096x512, .bf16⟩
  | .local _ .vmem, ⟨18, _⟩ => ⟨S4096x1408, .bf16⟩
  | .local _ .vmem, ⟨19, _⟩ => ⟨S4096x1408, .bf16⟩
  | .local _ .vmem, ⟨20, _⟩ => ⟨S512x1408, .f32⟩
  | .local _ .vmem, ⟨21, _⟩ => ⟨S512x1408, .f32⟩
  | .local _ .vmem, ⟨22, _⟩ => ⟨S512x1408, .f32⟩
  | .local _ .vmem, ⟨23, _⟩ => ⟨S4096x512, .bf16⟩
  | .local _ .vmem, ⟨24, _⟩ => ⟨S4096x512, .bf16⟩
  | .local _ .vmem, ⟨25, _⟩ => ⟨S4096x256, .bf16⟩
  | .local _ .vmem, ⟨26, _⟩ => ⟨S4096x256, .bf16⟩
  | .local _ .vmem, ⟨27, _⟩ => ⟨S512x256, .f32⟩
  | .local _ .vmem, ⟨28, _⟩ => ⟨S512x256, .f32⟩
  | .local _ .vmem, ⟨29, _⟩ => ⟨S512x256, .f32⟩
  | .local _ .vmem, ⟨30, _⟩ => ⟨S2048x256, .bf16⟩
  | .local _ .vmem, ⟨31, _⟩ => ⟨S2048x256, .bf16⟩
  | .local _ .vmem, ⟨32, _⟩ => ⟨S1024x256, .bf16⟩
  | .local _ .vmem, ⟨33, _⟩ => ⟨S2048x1024, .f32⟩
  | .local _ .vmem, ⟨34, _⟩ => ⟨S2048x1024, .f32⟩
  | .local _ .vmem, ⟨35, _⟩ => ⟨S1024x2816, .bf16⟩
  | .local _ .vmem, ⟨36, _⟩ => ⟨S1024x2816, .bf16⟩
  | .local _ .vmem, ⟨37, _⟩ => ⟨S1024x2816, .bf16⟩
  | .local _ .vmem, ⟨38, _⟩ => ⟨S1024x2816, .bf16⟩
  | .local _ .vmem, ⟨39, _⟩ => ⟨S1024x1024, .f32⟩
  | .local _ .vmem, ⟨40, _⟩ => ⟨S1024x1024, .f32⟩
  | .local _ .vmem, ⟨41, _⟩ => ⟨S1024x1024, .bf16⟩
  | .local _ .vmem, ⟨42, _⟩ => ⟨S1024x1024, .bf16⟩
  | .local _ .vmem, ⟨43, _⟩ => ⟨S1024x1024, .f32⟩
  | .local _ .vmem, ⟨44, _⟩ => ⟨S512x1024, .f32⟩
  | .local _ .vmem, ⟨45, _⟩ => ⟨S512x1024, .f32⟩
  | .local _ .vmem, ⟨46, _⟩ => ⟨S1x1024, .f32⟩
  | .local _ .vmem, ⟨47, _⟩ => ⟨S512x1024, .bf16⟩
  | .local _ .vmem, ⟨48, _⟩ => ⟨S512x1024, .bf16⟩
  | .local _ .vmem, ⟨49, _⟩ => ⟨S512x1024, .f32⟩
  | .local _ .vmem, ⟨50, _⟩ => ⟨S512x1024, .f32⟩
  | .local _ .vmem, ⟨51, _⟩ => ⟨S512x1024, .f32⟩
  | .local _ .vmem, ⟨52, _⟩ => ⟨S512x1024, .f32⟩
  | .local _ .vmem, ⟨53, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_scratch0 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_scratch0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg2_1 : Ref sig .tc := ⟨.vmem, 40, rfl⟩
abbrev cc6_stg3_0 : Ref sig .tc := ⟨.vmem, 41, rfl⟩
abbrev cc6_stg3_1 : Ref sig .tc := ⟨.vmem, 42, rfl⟩
abbrev cc6_scratch0 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg2_1 : Ref sig .tc := ⟨.vmem, 48, rfl⟩
abbrev cc7_stg3_0 : Ref sig .tc := ⟨.vmem, 49, rfl⟩
abbrev cc7_stg3_1 : Ref sig .tc := ⟨.vmem, 50, rfl⟩
abbrev cc7_stg4_0 : Ref sig .tc := ⟨.vmem, 51, rfl⟩
abbrev cc7_stg4_1 : Ref sig .tc := ⟨.vmem, 52, rfl⟩
abbrev cc7_stg5_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc6_sem2_1 : DmaSem sig := 38
abbrev cc6_sem3_0 : DmaSem sig := 39
abbrev cc6_sem3_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem2_1 : DmaSem sig := 45
abbrev cc7_sem3_0 : DmaSem sig := 46
abbrev cc7_sem3_1 : DmaSem sig := 47
abbrev cc7_sem4_0 : DmaSem sig := 48
abbrev cc7_sem4_1 : DmaSem sig := 49
abbrev cc7_sem5_0 : DmaSem sig := 50

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev grid1 : Pipeline.Grid := ⟨3, ![8, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 8, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 1, 4], ![false, false, false]⟩

def k4_cond2 (i : grid4.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S2048x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![16, 1, 4], ![false, false, false]⟩

def k6_cond2 (i : grid6.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x2816 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x2816 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S1024x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨2, ![1, 32], ![false, false]⟩

def k7_cond1 (i : grid7.Coords) : BitVec 1 :=
  let arg0 : BitVec 32 := BitVec.ofNat 32 (i 0).val
  let c0_i32_12 : BitVec 32 := 0#32
  let v39 : BitVec 1 := Scalar.cmpi .eq arg0 c0_i32_12
  let arg1 : BitVec 32 := BitVec.ofNat 32 (i 1).val
  let c0_i32 : BitVec 32 := 0#32
  let v38 : BitVec 1 := Scalar.cmpi .eq arg1 c0_i32
  let v40 : BitVec 1 := Scalar.andi v39 v38
  let v44 : BitVec 32 := Scalar.extui v40
  let c0_i32_17 : BitVec 32 := 0#32
  let v45 : BitVec 1 := Scalar.cmpi .ne v44 c0_i32_17
  v45

def k7_cond2 (i : grid7.Coords) : BitVec 1 :=
  let arg0 : BitVec 32 := BitVec.ofNat 32 (i 0).val
  let c0_i32_12 : BitVec 32 := 0#32
  let v39 : BitVec 1 := Scalar.cmpi .eq arg0 c0_i32_12
  let arg1 : BitVec 32 := BitVec.ofNat 32 (i 1).val
  let c0_i32 : BitVec 32 := 0#32
  let v38 : BitVec 1 := Scalar.cmpi .eq arg1 c0_i32
  let v40 : BitVec 1 := Scalar.andi v39 v38
  let v_true : BitVec 1 := 1#1
  let v46 : BitVec 1 := Scalar.xori v40 v_true
  let v47 : BitVec 32 := Scalar.extui v46
  let c0_i32_18 : BitVec 32 := 0#32
  let v48 : BitVec 1 := Scalar.cmpi .ne v47 c0_i32_18
  v48

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S512x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 1 → Memref sig .tc .vmem S1x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 2 → Memref sig .tc .vmem S512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S512x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true]

abbrev stage7_4 : Fin 2 → Memref sig .tc .vmem S512x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![false, true]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false, false]
-- ==== MixRefIdeal.lean ====
abbrev S16384x1024 : Shape := ⟨2, ![16384, 1024]⟩
abbrev S1x1024 : Shape := ⟨2, ![1, 1024]⟩
abbrev S1024x11264 : Shape := ⟨2, ![1024, 11264]⟩
abbrev S1024x256 : Shape := ⟨2, ![1024, 256]⟩
abbrev S16384x11264 : Shape := ⟨2, ![16384, 11264]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S256x1024 : Shape := ⟨2, ![256, 1024]⟩
abbrev S11264x1024 : Shape := ⟨2, ![11264, 1024]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x11264, .f32⟩
  | .hbm, ⟨3, _⟩ => ⟨S1024x256, .f32⟩
  | .hbm, ⟨4, _⟩ => ⟨S16384x1024, .f32⟩
  | .hbm, ⟨5, _⟩ => ⟨S16384x11264, .f32⟩
  | .hbm, ⟨6, _⟩ => ⟨S16384x256, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x11264, .f32⟩
  | .hbm, ⟨27, _⟩ => ⟨S16384x256, .f32⟩
  | .hbm, ⟨28, _⟩ => ⟨S16384x11264, .bf16⟩
  | .hbm, ⟨29, _⟩ => ⟨S256x1024, .f32⟩
  | .hbm, ⟨30, _⟩ => ⟨S1024x256, .f32⟩
  | .hbm, ⟨31, _⟩ => ⟨S16384x1024, .f32⟩
  | .hbm, ⟨32, _⟩ => ⟨S11264x1024, .f32⟩
  | .hbm, ⟨33, _⟩ => ⟨S1024x11264, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Merge.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩
abbrev S1024x2048 : Shape := ⟨2, ![1024, 2048]⟩
abbrev S256x2048 : Shape := ⟨2, ![256, 2048]⟩
abbrev S256x1024 : Shape := ⟨2, ![256, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 27
  | .vmem => 75
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x2048, .f32⟩
  | .hbm, ⟨3, _⟩ => ⟨S16384x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S16384x1024, .f32⟩
  | .hbm, ⟨8, _⟩ => ⟨S16384x2048, .bf16⟩
  | .hbm, ⟨9, _⟩ => ⟨S16384x1024, .bf16⟩
  | .hbm, ⟨10, _⟩ => ⟨S16384x2048, .bf16⟩
  | .hbm, ⟨11, _⟩ => ⟨S2048x1024, .bf16⟩
  | .hbm, ⟨12, _⟩ => ⟨S1024x1024, .bf16⟩
  | .hbm, ⟨13, _⟩ => ⟨S1024x1024, .bf16⟩
  | .hbm, ⟨14, _⟩ => ⟨S16384x1024, .f32⟩
  | .hbm, ⟨15, _⟩ => ⟨S16384x1024, .f32⟩
  | .hbm, ⟨16, _⟩ => ⟨S16384x1024, .bf16⟩
  | .hbm, ⟨17, _⟩ => ⟨S16384x1024, .f32⟩
  | .hbm, ⟨18, _⟩ => ⟨S1024x1024, .f32⟩
  | .hbm, ⟨19, _⟩ => ⟨S16384x1024, .bf16⟩
  | .hbm, ⟨20, _⟩ => ⟨S16384x2048, .bf16⟩
  | .hbm, ⟨21, _⟩ => ⟨S16384x1024, .bf16⟩
  | .hbm, ⟨22, _⟩ => ⟨S16384x1024, .bf16⟩
  | .hbm, ⟨23, _⟩ => ⟨S2048x1024, .f32⟩
  | .hbm, ⟨24, _⟩ => ⟨S1024x1024, .f32⟩
  | .hbm, ⟨25, _⟩ => ⟨S16384x2048, .bf16⟩
  | .hbm, ⟨26, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .bf16⟩
  | .local _ .vmem, ⟨8, _⟩ => ⟨S2048x1024, .f32⟩
  | .local _ .vmem, ⟨9, _⟩ => ⟨S2048x1024, .f32⟩
  | .local _ .vmem, ⟨10, _⟩ => ⟨S256x2048, .bf16⟩
  | .local _ .vmem, ⟨11, _⟩ => ⟨S256x2048, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S2048x1024, .bf16⟩
  | .local _ .vmem, ⟨26, _⟩ => ⟨S2048x1024, .bf16⟩
  | .local _ .vmem, ⟨27, _⟩ => ⟨S2048x1024, .f32⟩
  | .local _ .vmem, ⟨28, _⟩ => ⟨S2048x1024, .f32⟩
  | .local _ .vmem, ⟨29, _⟩ => ⟨S1024x1024, .f32⟩
  | .local _ .vmem, ⟨30, _⟩ => ⟨S1024x1024, .f32⟩
  | .local _ .vmem, ⟨31, _⟩ => ⟨S2048x1024, .f32⟩
  | .local _ .vmem, ⟨32, _⟩ => ⟨S2048x1024, .f32⟩
  | .local _ .vmem, ⟨33, _⟩ => ⟨S1024x1024, .bf16⟩
  | .local _ .vmem, ⟨34, _⟩ => ⟨S2048x1024, .bf16⟩
  | .local _ .vmem, ⟨35, _⟩ => ⟨S2048x1024, .bf16⟩
  | .local _ .vmem, ⟨36, _⟩ => ⟨S256x2048, .bf16⟩
  | .local _ .vmem, ⟨37, _⟩ => ⟨S256x2048, .bf16⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .bf16⟩
  | .local _ .vmem, ⟨43, _⟩ => ⟨S256x1024, .bf16⟩
  | .local _ .vmem, ⟨44, _⟩ => ⟨S256x2048, .bf16⟩
  | .local _ .vmem, ⟨45, _⟩ => ⟨S256x2048, .bf16⟩
  | .local _ .vmem, ⟨46, _⟩ => ⟨S256x1024, .bf16⟩
  | .local _ .vmem, ⟨47, _⟩ => ⟨S256x1024, .bf16⟩
  | .local _ .vmem, ⟨48, _⟩ => ⟨S256x1024, .bf16⟩
  | .local _ .vmem, ⟨49, _⟩ => ⟨S256x1024, .bf16⟩
  | .local _ .vmem, ⟨50, _⟩ => ⟨S4096x512, .bf16⟩
  | .local _ .vmem, ⟨51, _⟩ => ⟨S4096x512, .bf16⟩
  | .local _ .vmem, ⟨52, _⟩ => ⟨S4096x1024, .bf16⟩
  | .local _ .vmem, ⟨53, _⟩ => ⟨S4096x1024, .bf16⟩
  | .local _ .vmem, ⟨54, _⟩ => ⟨S512x1024, .f32⟩
  | .local _ .vmem, ⟨55, _⟩ => ⟨S512x1024, .f32⟩
  | .local _ .vmem, ⟨56, _⟩ => ⟨S512x1024, .f32⟩
  | .local _ .vmem, ⟨57, _⟩ => ⟨S4096x512, .bf16⟩
  | .local _ .vmem, ⟨58, _⟩ => ⟨S4096x512, .bf16⟩
  | .local _ .vmem, ⟨59, _⟩ => ⟨S4096x1024, .bf16⟩
  | .local _ .vmem, ⟨60, _⟩ => ⟨S4096x1024, .bf16⟩
  | .local _ .vmem, ⟨61, _⟩ => ⟨S512x1024, .f32⟩
  | .local _ .vmem, ⟨62, _⟩ => ⟨S512x1024, .f32⟩
  | .local _ .vmem, ⟨63, _⟩ => ⟨S512x1024, .f32⟩
  | .local _ .vmem, ⟨64, _⟩ => ⟨S2048x1024, .bf16⟩
  | .local _ .vmem, ⟨65, _⟩ => ⟨S2048x1024, .bf16⟩
  | .local _ .vmem, ⟨66, _⟩ => ⟨S1024x1024, .bf16⟩
  | .local _ .vmem, ⟨67, _⟩ => ⟨S1024x1024, .bf16⟩
  | .local _ .vmem, ⟨68, _⟩ => ⟨S2048x1024, .bf16⟩
  | .local _ .vmem, ⟨69, _⟩ => ⟨S2048x1024, .bf16⟩
  | .local _ .vmem, ⟨70, _⟩ => ⟨S2048x1024, .bf16⟩
  | .local _ .vmem, ⟨71, _⟩ => ⟨S2048x1024, .bf16⟩
  | .local _ .vmem, ⟨72, _⟩ => ⟨S1024x1024, .bf16⟩
  | .local _ .vmem, ⟨73, _⟩ => ⟨S2048x1024, .bf16⟩
  | .local _ .vmem, ⟨74, _⟩ => ⟨S2048x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_scratch0 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc6_stg3_0 : Ref sig .tc := ⟨.vmem, 42, rfl⟩
abbrev cc6_stg3_1 : Ref sig .tc := ⟨.vmem, 43, rfl⟩
abbrev cc6_stg4_0 : Ref sig .tc := ⟨.vmem, 44, rfl⟩
abbrev cc6_stg4_1 : Ref sig .tc := ⟨.vmem, 45, rfl⟩
abbrev cc6_stg5_0 : Ref sig .tc := ⟨.vmem, 46, rfl⟩
abbrev cc6_stg5_1 : Ref sig .tc := ⟨.vmem, 47, rfl⟩
abbrev cc6_stg6_0 : Ref sig .tc := ⟨.vmem, 48, rfl⟩
abbrev cc6_stg6_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg2_1 : Ref sig .tc := ⟨.vmem, 55, rfl⟩
abbrev cc7_scratch0 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg1_1 : Ref sig .tc := ⟨.vmem, 60, rfl⟩
abbrev cc8_stg2_0 : Ref sig .tc := ⟨.vmem, 61, rfl⟩
abbrev cc8_stg2_1 : Ref sig .tc := ⟨.vmem, 62, rfl⟩
abbrev cc8_scratch0 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg1_1 : Ref sig .tc := ⟨.vmem, 67, rfl⟩
abbrev cc9_stg2_0 : Ref sig .tc := ⟨.vmem, 68, rfl⟩
abbrev cc9_stg2_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg2_0 : Ref sig .tc := ⟨.vmem, 73, rfl⟩
abbrev cc10_stg2_1 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem1_1 : DmaSem sig := 38
abbrev cc6_sem2_0 : DmaSem sig := 39
abbrev cc6_sem2_1 : DmaSem sig := 40
abbrev cc6_sem3_0 : DmaSem sig := 41
abbrev cc6_sem3_1 : DmaSem sig := 42
abbrev cc6_sem4_0 : DmaSem sig := 43
abbrev cc6_sem4_1 : DmaSem sig := 44
abbrev cc6_sem5_0 : DmaSem sig := 45
abbrev cc6_sem5_1 : DmaSem sig := 46
abbrev cc6_sem6_0 : DmaSem sig := 47
abbrev cc6_sem6_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem2_1 : DmaSem sig := 54
abbrev cc8_sem0_0 : DmaSem sig := 55
abbrev cc8_sem0_1 : DmaSem sig := 56
abbrev cc8_sem1_0 : DmaSem sig := 57
abbrev cc8_sem1_1 : DmaSem sig := 58
abbrev cc8_sem2_0 : DmaSem sig := 59
abbrev cc8_sem2_1 : DmaSem sig := 60
abbrev cc9_sem0_0 : DmaSem sig := 61
abbrev cc9_sem0_1 : DmaSem sig := 62
abbrev cc9_sem1_0 : DmaSem sig := 63
abbrev cc9_sem1_1 : DmaSem sig := 64
abbrev cc9_sem2_0 : DmaSem sig := 65
abbrev cc9_sem2_1 : DmaSem sig := 66
abbrev cc10_sem0_0 : DmaSem sig := 67
abbrev cc10_sem0_1 : DmaSem sig := 68
abbrev cc10_sem1_0 : DmaSem sig := 69
abbrev cc10_sem2_0 : DmaSem sig := 70
abbrev cc10_sem2_1 : DmaSem sig := 71

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![1, 64], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev grid3 : Pipeline.Grid := ⟨3, ![16, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![1, 1, 8], ![false, false, false]⟩

def k4_cond2 (i : grid4.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 1 → Memref sig .tc .vmem S1024x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![8, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S2048x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨2, ![1, 64], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage6_0 : Fin 2 → Memref sig .tc .vmem S256x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S256x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S256x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true]

abbrev stage6_4 : Fin 2 → Memref sig .tc .vmem S256x2048 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![false, true]

abbrev stage6_5 : Fin 2 → Memref sig .tc .vmem S256x1024 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![false, true]

abbrev stage6_6 : Fin 2 → Memref sig .tc .vmem S256x1024 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![false, true]

abbrev grid7 : Pipeline.Grid := ⟨3, ![4, 1, 4], ![false, false, false]⟩

def k7_cond2 (i : grid7.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S4096x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 1, 4], ![false, false, false]⟩

def k8_cond2 (i : grid8.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S4096x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S4096x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S512x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![8, 2, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S2048x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1024x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S2048x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![8, 1, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S2048x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 1 → Memref sig .tc .vmem S1024x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true, true]

abbrev stage10_2 : Fin 2 → Memref sig .tc .vmem S2048x1024 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]
-- ==== MergeRefIdeal.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩
abbrev S_ : Shape := ⟨0, ![]⟩
abbrev S1024x2048 : Shape := ⟨2, ![1024, 2048]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x2048, .f32⟩
  | .hbm, ⟨3, _⟩ => ⟨S16384x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S1024x1024, .f32⟩
  | .hbm, ⟨43, _⟩ => ⟨S1024x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S1024x1024, .f32⟩
  | .hbm, ⟨48, _⟩ => ⟨S1024x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1024x2048, .f32⟩
  | .hbm, ⟨54, _⟩ => ⟨S2048x1024, .f32⟩
  | .hbm, ⟨55, _⟩ => ⟨S16384x2048, .f32⟩
  | .hbm, ⟨56, _⟩ => ⟨S16384x1024, .f32⟩
  | .hbm, ⟨57, _⟩ => ⟨S16384x2048, .f32⟩
  | .hbm, ⟨58, _⟩ => ⟨S16384x2048, .bf16⟩
  | .hbm, ⟨59, _⟩ => ⟨S16384x1024, .bf16⟩
  | .hbm, ⟨60, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Proof.Chunk.lean ====
/- One chunk of the scan as the kernel's two bodies compute it, over any float values: the chunk's corrected values,
   its output, the next state, and what the gradient's body makes of the same chunk. The blocks of one grid point are
   four chunks; the cuts of a block at one chunk are here too. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.WholeRead
public import Idealize.ShloMosaic.Lib.Pointwise.Reshape

@[expose] public section

noncomputable section

namespace Cert.Chunk

open Cert.KernelIdeal Cert.KernelIdeal.Gen
open Idealize.ShloMosaic Idealize.ShloMosaic.TcCoe

variable {F : FTy → Type}

/-! ## Cuts of a grid point's blocks -/

/-- Chunk `j`'s 64 rows of a block of 256. -/
abbrev rowRect (j : Fin 4) : Rect S8x256x128 := Rect.unit ![0, 64 * j.val, 0] S8x64x128.size (by decide +revert)
/-- Chunk `j`'s square of a block of four. -/
abbrev sqRect (j : Fin 4) : Rect S8x4x64x64 := Rect.unit ![0, j.val, 0, 0] S8x1x64x64.size (by decide +revert)
/-- Chunk `j`'s decay lanes of a block of four. -/
abbrev laneRect (j : Fin 4) : Rect S8x4x1x128 := Rect.unit ![0, j.val, 0, 0] S8x1x1x128.size (by decide +revert)
/-- Chunk `j`'s state of a block of four. -/
abbrev stRect (j : Fin 4) : Rect S4x8x128x128 := Rect.unit ![j.val, 0, 0, 0] S1x8x128x128.size (by decide +revert)

/-- Chunk `j`'s rows. -/
def rowBlk (x : Vec F S8x256x128 .f32) (j : Fin 4) : Vec F S8x64x128 .f32 := View.ld x (rowRect j)
/-- Chunk `j`'s square, as loaded. -/
def sqBlk (x : Vec F S8x4x64x64 .f32) (j : Fin 4) : Vec F S8x1x64x64 .f32 := View.ld x (sqRect j)
/-- Chunk `j`'s decay lanes, as loaded. -/
def laneBlk (x : Vec F S8x4x1x128 .f32) (j : Fin 4) : Vec F S8x1x1x128 .f32 := View.ld x (laneRect j)
/-- Chunk `j`'s state, as loaded. -/
def stBlk (x : Vec F S4x8x128x128 .f32) (j : Fin 4) : Vec F S1x8x128x128 .f32 := View.ld x (stRect j)

/-- The loaded square without its unit axis. -/
def sq3 (x : Vec F S8x1x64x64 .f32) : Vec F S8x64x64 .f32 := shapeCast S8x64x64 x shapeCasts_S8x1x64x64_S8x64x64
/-- The loaded lanes without one unit axis. -/
def lane3 (x : Vec F S8x1x1x128 .f32) : Vec F S8x1x128 .f32 := shapeCast S8x1x128 x shapeCasts_S8x1x1x128_S8x1x128
/-- The loaded state without its unit axis. -/
def st3 (x : Vec F S1x8x128x128 .f32) : Vec F S8x128x128 .f32 := shapeCast S8x128x128 x shapeCasts_S1x8x128x128_S8x128x128

variable [FloatOps F]

/-! ## The forward chunk -/

/-- The corrected values of a chunk: its values less what the state already predicts. -/
def vNew (u w : Vec F S8x64x128 .f32) (s : Vec F S8x128x128 .f32) : Vec F S8x64x128 .f32 :=
  subf (φ := .f32) u (matmul dot_S8x64x128_S8x128x128_S8x64x128_2_1_1_2_0_0 none (truncf .bf16 (φ := .f32) w bitsLt_bf16_f32)
    (truncf .bf16 (φ := .f32) s bitsLt_bf16_f32) (constant S8x64x128 .f32 0x00000000#32))

/-- The chunk's output from the state before it and its corrected values. -/
def oOf (q : Vec F S8x64x128 .f32) (a : Vec F S8x64x64 .f32) (v : Vec F S8x64x128 .f32) (s : Vec F S8x128x128 .f32) : Vec F S8x64x128 .f32 :=
  addf (φ := .f32) (matmul dot_S8x64x128_S8x128x128_S8x64x128_2_1_1_2_0_0 none (truncf .bf16 (φ := .f32) q bitsLt_bf16_f32)
      (truncf .bf16 (φ := .f32) s bitsLt_bf16_f32) (constant S8x64x128 .f32 0x00000000#32))
    (matmul dot_S8x64x64_S8x64x128_S8x64x128_2_1_1_2_0_0 none (truncf .bf16 (φ := .f32) a bitsLt_bf16_f32)
      (truncf .bf16 (φ := .f32) v bitsLt_bf16_f32) (constant S8x64x128 .f32 0x00000000#32))

/-- The state after the chunk. -/
def sNext (k : Vec F S8x64x128 .f32) (g : Vec F S8x1x128 .f32) (v : Vec F S8x64x128 .f32) (s : Vec F S8x128x128 .f32) : Vec F S8x128x128 .f32 :=
  addf (φ := .f32) (mulf (φ := .f32) s (broadcastTo S8x128x128 (exp (φ := .f32) g) broadcasts_S8x1x128_S8x128x128))
    (matmul dot_S8x64x128_S8x64x128_S8x128x128_1_1_2_2_0_0 none (truncf .bf16 (φ := .f32) k bitsLt_bf16_f32)
      (truncf .bf16 (φ := .f32) v bitsLt_bf16_f32) (constant S8x128x128 .f32 0x00000000#32))

/-! ## The backward chunk -/

/-- A product rounded to the narrow format and back, as the gradient's products are. -/
def rnd {s : Shape} (x : FVec F s .f32) : FVec F s .f32 := extf .f32 (truncf .bf16 x bitsLt_bf16_f32) bitsLt_bf16_f32

/-- The zero state. -/
def zeroSt : Vec F S8x128x128 .f32 :=
  shapeCast S8x128x128 (broadcast S8x128x128 (Scalar.ofBits .f32 0x00000000#32 : F .f32)) shapeCasts_S8x128x128_S8x128x128

/-- An array cast to its own shape (rows). -/
abbrev selfR (x : Vec F S8x64x128 .f32) : FVec F S8x64x128 .f32 := shapeCast S8x64x128 x shapeCasts_S8x64x128_S8x64x128
/-- An array cast to its own shape (states). -/
abbrev selfS (x : Vec F S8x128x128 .f32) : FVec F S8x128x128 .f32 := shapeCast S8x128x128 x shapeCasts_S8x128x128_S8x128x128

theorem selfR_eq (x : Vec F S8x64x128 .f32) : selfR x = x := shapeCast_id _ _
theorem selfS_eq (x : Vec F S8x128x128 .f32) : selfS x = x := shapeCast_id _ _

/-- The cotangent of the corrected values. -/
def dV (a : Vec F S8x64x64 .f32) (k d : Vec F S8x64x128 .f32) (e : Vec F S8x128x128 .f32) : Vec F S8x64x128 .f32 :=
  addf (φ := .f32)
    (rnd (transpose S8x64x128 [0, 2, 1] (matmul dot_S8x128x128_S8x64x128_S8x128x64_1_2_2_1_0_0 none e
      (truncf .bf16 (φ := .f32) k bitsLt_bf16_f32) (constant S8x128x64 .f32 0x00000000#32)) transposes_S8x128x64_p0_2_1_S8x64x128))
    (rnd (transpose S8x64x128 [0, 2, 1] (matmul dot_S8x64x128_S8x64x64_S8x128x64_1_1_2_2_0_0 none (selfR d)
      (truncf .bf16 (φ := .f32) a bitsLt_bf16_f32) (constant S8x128x64 .f32 0x00000000#32)) transposes_S8x128x64_p0_2_1_S8x64x128))

/-- The cotangent of the read rows `q`. -/
def dQ (d : Vec F S8x64x128 .f32) (s : Vec F S8x128x128 .f32) : Vec F S8x64x128 .f32 :=
  rnd (matmul dot_S8x64x128_S8x128x128_S8x64x128_2_2_1_1_0_0 none (selfR d) (truncf .bf16 (φ := .f32) s bitsLt_bf16_f32)
    (constant S8x64x128 .f32 0x00000000#32))

/-- The cotangent of the chunk's square. -/
def dA (d v : Vec F S8x64x128 .f32) : Vec F S8x64x64 .f32 :=
  rnd (matmul dot_S8x64x128_S8x64x128_S8x64x64_2_2_1_1_0_0 none (selfR d) (truncf .bf16 (φ := .f32) v bitsLt_bf16_f32)
    (constant S8x64x64 .f32 0x00000000#32))

/-- Rows negated by a subtraction from zero. -/
def neg (x : Vec F S8x64x128 .f32) : FVec F S8x64x128 .f32 :=
  subf (φ := .f32) (broadcast S8x64x128 (Scalar.ofBits .f32 0x00000000#32 : F .f32)) x

/-- The cotangent of `w`, from that of the corrected values. -/
def dW (v : Vec F S8x64x128 .f32) (s : Vec F S8x128x128 .f32) : Vec F S8x64x128 .f32 :=
  rnd (matmul dot_S8x64x128_S8x128x128_S8x64x128_2_2_1_1_0_0 none (neg v) (truncf .bf16 (φ := .f32) s bitsLt_bf16_f32)
    (constant S8x64x128 .f32 0x00000000#32))

/-- The cotangent of the written rows `k`. -/
def dK (v : Vec F S8x64x128 .f32) (e : Vec F S8x128x128 .f32) : Vec F S8x64x128 .f32 :=
  rnd (transpose S8x64x128 [0, 2, 1] (matmul dot_S8x128x128_S8x64x128_S8x128x64_2_2_1_1_0_0 none e
    (truncf .bf16 (φ := .f32) v bitsLt_bf16_f32) (constant S8x128x64 .f32 0x00000000#32)) transposes_S8x128x64_p0_2_1_S8x64x128)

/-- The cotangent of the decay lanes. -/
def dG (g : Vec F S8x1x128 .f32) (s e : Vec F S8x128x128 .f32) : Vec F S8x1x128 .f32 :=
  mulf (φ := .f32) (shapeCast S8x1x128 (multiReduction .add [1] S8x128 (mulf (φ := .f32) s e) 0x00000000#32
    reduces_S8x128x128_S8x128 (.inl rfl) rfl) shapeCasts_S8x128_S8x1x128) (exp (φ := .f32) g)

/-- The cotangent of the state before the chunk; `v` is that of the corrected values. -/
def dS (q w : Vec F S8x64x128 .f32) (g : Vec F S8x1x128 .f32) (d v : Vec F S8x64x128 .f32) (e : Vec F S8x128x128 .f32) : Vec F S8x128x128 .f32 :=
  addf (φ := .f32)
    (addf (φ := .f32) (mulf (φ := .f32) e (broadcastTo S8x128x128 (exp (φ := .f32) g) broadcasts_S8x1x128_S8x128x128))
      (rnd (transpose S8x128x128 [0, 2, 1] (matmul dot_S8x64x128_S8x64x128_S8x128x128_1_1_2_2_0_0 none (selfR d)
        (truncf .bf16 (φ := .f32) q bitsLt_bf16_f32) (constant S8x128x128 .f32 0x00000000#32)) transposes_S8x128x128_p0_2_1_S8x128x128)))
    (rnd (transpose S8x128x128 [0, 2, 1] (matmul dot_S8x64x128_S8x64x128_S8x128x128_1_1_2_2_0_0 none (neg v)
      (truncf .bf16 (φ := .f32) w bitsLt_bf16_f32) (constant S8x128x128 .f32 0x00000000#32)) transposes_S8x128x128_p0_2_1_S8x128x128))

end Cert.Chunk

end
-- ==== Proof.FwdRun.lean ====
/- The forward scan's body, run once at the first grid point and once at any later one. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's one branch condition: the grid point's coordinate is zero. -/
abbrev first (i : grid0.Coords) : Prop := (Scalar.cmpi .ne (Scalar.extui (Scalar.cmpi .eq (BitVec.ofNat 32 (i 0).val) 0#32)) 0#32) = 1#1

/-- The branch is taken at the first grid point and at no other. -/
theorem first_iff : ∀ t : Fin cfg0.N, first (grid0.coords t) ↔ t.val = 0 :=
  (fun t => by
    have ht : t.val < 64 := Nat.lt_of_lt_of_eq t.isLt N_0
    have e0 : (grid0.coords t 0).val = t.val / 1 % 64 := Pipeline.Grid.coords_val t 0 (by decide) rfl
    simp only [first, e0]
    word_cmp
   : ∀ t : Fin grid0.N, first (grid0.coords t) ↔ t.val = 0)

variable (c : Dev nD) (i : grid0.Coords)
  (a0 : Memref sig .tc .vmem S8x256x128 .f32) (h0 : a0.IsWhole)
  (a1 : Memref sig .tc .vmem S8x4x64x64 .f32) (h1 : a1.IsWhole)
  (a2 : Memref sig .tc .vmem S8x256x128 .f32) (h2 : a2.IsWhole)
  (a3 : Memref sig .tc .vmem S8x256x128 .f32) (h3 : a3.IsWhole)
  (a4 : Memref sig .tc .vmem S8x256x128 .f32) (h4 : a4.IsWhole)
  (a5 : Memref sig .tc .vmem S8x4x1x128 .f32) (h5 : a5.IsWhole)
  (a6 : Memref sig .tc .vmem S8x256x128 .f32) (h6 : a6.IsWhole)
  (a7 : Memref sig .tc .vmem S4x8x128x128 .f32) (h7 : a7.IsWhole)
  (a8 : Memref sig .tc .vmem S8x128x128 .f32) (h8 : a8.IsWhole)
  (x0 : Vec F S8x256x128 .f32) (x1 : Vec F S8x4x64x64 .f32) (x2 : Vec F S8x256x128 .f32) (x3 : Vec F S8x256x128 .f32) (x4 : Vec F S8x256x128 .f32) (x5 : Vec F S8x4x1x128 .f32)

set_option maxHeartbeats 4000000 in
/-- The body's run at the first point, which clears the carried buffer: the stores it leaves in each output buffer and in the
    carried one, with the proof that it ends holding exactly those over the inputs as they were. -/
noncomputable def runA (hc : first i) :
    Σ' (L0 : List (View.Piece (Elt F) S8x256x128 .f32)),
    Σ' (L1 : List (View.Piece (Elt F) S4x8x128x128 .f32)),
    { Ls : List (View.Piece (Elt F) S8x128x128 .f32) // ∀ (E : Set ℕ) (K : PUnit → sProp 𝕄),
      iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
          ∗ (∃ d, owns (c : Thread nD τ) a6 fullShare d) ∗ (∃ d, owns (c : Thread nD τ) a7 fullShare d)
          ∗ (∃ d, owns (c : Thread nD τ) a8 fullShare d)
          ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
              ∗ (∃ f, a6.view.loc (c : Thread nD τ) ↦[a6.view.set]{fullShare} a6.view.writes (Elt F) f L0) ∗ (∃ f, a7.view.loc (c : Thread nD τ) ↦[a7.view.set]{fullShare} a7.view.writes (Elt F) f L1) ∗ (∃ f, a8.view.loc (c : Thread nD τ) ↦[a8.view.set]{fullShare} a8.view.writes (Elt F) f Ls)) -∗ K ⟨⟩))
        ⊢ wp frame (wpE (defs₀ (F := F)) Variants.none c none) E (cc0_scan i a0 h0 a1 h1 a2 h2 a3 h3 a4 h4 a5 h5 a6 h6 a7 h7 a8 h8) K } := by
  refine ⟨?_, ?_, ?_, fun E K => ?run⟩
  case run =>
    simp only [cc0_scan_eq_skeleton]; unfold cc0_scan_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, Hs⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact Hs

set_option maxHeartbeats 4000000 in
/-- The body's run at a later point, which starts from the carried buffer's contents `s`: the stores it leaves in each output buffer and in the
    carried one, with the proof that it ends holding exactly those over the inputs as they were. -/
noncomputable def runB (hc : ¬first i) (s : Vec F S8x128x128 .f32) :
    Σ' (L0 : List (View.Piece (Elt F) S8x256x128 .f32)),
    Σ' (L1 : List (View.Piece (Elt F) S4x8x128x128 .f32)),
    { Ls : List (View.Piece (Elt F) S8x128x128 .f32) // ∀ (E : Set ℕ) (K : PUnit → sProp 𝕄),
      iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
          ∗ (∃ d, owns (c : Thread nD τ) a6 fullShare d) ∗ (∃ d, owns (c : Thread nD τ) a7 fullShare d)
          ∗ owns (c : Thread nD τ) a8 fullShare s
          ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
              ∗ (∃ f, a6.view.loc (c : Thread nD τ) ↦[a6.view.set]{fullShare} a6.view.writes (Elt F) f L0) ∗ (∃ f, a7.view.loc (c : Thread nD τ) ↦[a7.view.set]{fullShare} a7.view.writes (Elt F) f L1) ∗ (∃ f, a8.view.loc (c : Thread nD τ) ↦[a8.view.set]{fullShare} a8.view.writes (Elt F) f Ls)) -∗ K ⟨⟩))
        ⊢ wp frame (wpE (defs₀ (F := F)) Variants.none c none) E (cc0_scan i a0 h0 a1 h1 a2 h2 a3 h3 a4 h4 a5 h5 a6 h6 a7 h7 a8 h8) K } := by
  refine ⟨?_, ?_, ?_, fun E K => ?run⟩
  case run =>
    simp only [cc0_scan_eq_skeleton]; unfold cc0_scan_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, Hs⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h8.eq_unread hfs
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact Hs

end Cert.Fwd

end
-- ==== Proof.FwdVal.lean ====
/- What the forward scan's body stores at one grid point, in terms of the chunk functions: its output block, the four
   states it saves, and the state it carries on. -/
module

public import proofs.«01_k».proof.Proof.Chunk
public import proofs.«01_k».proof.Proof.FwdRun
public import Idealize.ShloMosaic.Lib.VecWindow
public import Idealize.ShloMosaic.Lib.Tactic

@[expose] public section

set_option maxRecDepth 16384

noncomputable section

namespace Cert.Fwd

open Cert.KernelIdeal Cert.KernelIdeal.Gen Cert.Chunk
open Idealize.ShloMosaic Idealize.ShloMosaic.TcCoe

variable {F : FTy → Type} [FloatOps F]

/-- The six input blocks of a grid point, cut into chunks. -/
structure Blk (F : FTy → Type) where
  q : Fin 4 → Vec F S8x64x128 .f32
  a : Fin 4 → Vec F S8x1x64x64 .f32
  u : Fin 4 → Vec F S8x64x128 .f32
  w : Fin 4 → Vec F S8x64x128 .f32
  k : Fin 4 → Vec F S8x64x128 .f32
  g : Fin 4 → Vec F S8x1x1x128 .f32

/-- The chunks of six given blocks. -/
def blk (x0 : Vec F S8x256x128 .f32) (x1 : Vec F S8x4x64x64 .f32) (x2 x3 x4 : Vec F S8x256x128 .f32) (x5 : Vec F S8x4x1x128 .f32) : Blk F :=
  ⟨rowBlk x0, sqBlk x1, rowBlk x2, rowBlk x3, rowBlk x4, laneBlk x5⟩

namespace Blk

variable (b : Blk F) (s : Vec F S8x128x128 .f32)

/-- The state before chunk `j`, the point entered at `s`. -/
def st : ℕ → Vec F S8x128x128 .f32
  | 0 => s
  | j + 1 => sNext (b.k (Fin.ofNat 4 j)) (lane3 (b.g (Fin.ofNat 4 j))) (vNew (b.u (Fin.ofNat 4 j)) (b.w (Fin.ofNat 4 j)) (st j)) (st j)

/-- Chunk `j`'s corrected values. -/
def v (j : Fin 4) : Vec F S8x64x128 .f32 := vNew (b.u j) (b.w j) (b.st s j.val)
/-- Chunk `j`'s output. -/
def o (j : Fin 4) : Vec F S8x64x128 .f32 := oOf (b.q j) (sq3 (b.a j)) (b.v s j) (b.st s j.val)

/-- The stores into the output block, last first. -/
def oPieces : List (View.Piece (Elt F) S8x256x128 .f32) := [3, 2, 1, 0].map fun j => ⟨rowRect j, b.o s j⟩
/-- The stores into the block of saved states, last first. -/
def stPieces : List (View.Piece (Elt F) S4x8x128x128 .f32) :=
  [3, 2, 1, 0].map fun j => ⟨stRect j, shapeCast S1x8x128x128 (b.st s j.val) shapeCasts_S8x128x128_S1x8x128x128⟩

end Blk

/-- The whole of a state's buffer. -/
abbrev allRect : Rect S8x128x128 := Rect.unit ![0, 0, 0] S8x128x128.size inb_S8x128x128_S8x128x128_0_0_0

section

variable (c : Dev nD) (i : grid0.Coords)
  (a0 : Memref sig .tc .vmem S8x256x128 .f32) (h0 : a0.IsWhole) (a1 : Memref sig .tc .vmem S8x4x64x64 .f32) (h1 : a1.IsWhole)
  (a2 : Memref sig .tc .vmem S8x256x128 .f32) (h2 : a2.IsWhole) (a3 : Memref sig .tc .vmem S8x256x128 .f32) (h3 : a3.IsWhole)
  (a4 : Memref sig .tc .vmem S8x256x128 .f32) (h4 : a4.IsWhole) (a5 : Memref sig .tc .vmem S8x4x1x128 .f32) (h5 : a5.IsWhole)
  (a6 : Memref sig .tc .vmem S8x256x128 .f32) (h6 : a6.IsWhole) (a7 : Memref sig .tc .vmem S4x8x128x128 .f32) (h7 : a7.IsWhole)
  (a8 : Memref sig .tc .vmem S8x128x128 .f32) (h8 : a8.IsWhole)
  (x0 : Vec F S8x256x128 .f32) (x1 : Vec F S8x4x64x64 .f32) (x2 x3 x4 : Vec F S8x256x128 .f32) (x5 : Vec F S8x4x1x128 .f32)

/-- The chunks as the body loads them from its staging buffers. -/
def loaded : Blk F where
  q j := View.readAt (Elt F) a0.view (rowRect j).toLoadRect (h0.unread x0)
  a j := View.readAt (Elt F) a1.view (sqRect j).toLoadRect (h1.unread x1)
  u j := View.readAt (Elt F) a2.view (rowRect j).toLoadRect (h2.unread x2)
  w j := View.readAt (Elt F) a3.view (rowRect j).toLoadRect (h3.unread x3)
  k j := View.readAt (Elt F) a4.view (rowRect j).toLoadRect (h4.unread x4)
  g j := View.readAt (Elt F) a5.view (laneRect j).toLoadRect (h5.unread x5)

theorem loaded_eq : loaded a0 h0 a1 h1 a2 h2 a3 h3 a4 h4 a5 h5 x0 x1 x2 x3 x4 x5 = blk x0 x1 x2 x3 x4 x5 := by
  unfold loaded blk rowBlk sqBlk laneBlk
  congr 1 <;> funext j <;> exact funext fun x => Memref.IsWhole.readAt_unread _ _ _ x

/-! ### At a later point -/

theorem carried_eq (s : Vec F S8x128x128 .f32) : View.readAt (Elt F) a8.view allRect.toLoadRect (h8.unread s) = s :=
  (View.readAt_full _ _ _).trans (h8.read_unread s)

/-- A later point's stores into the output block: its chunks' outputs. -/
theorem runB_o (hc : ¬first i) (s : Vec F S8x128x128 .f32) : (runB (F := F) c i a0 h0 a1 h1 a2 h2 a3 h3 a4 h4 a5 h5 a6 h6 a7 h7 a8 h8 x0 x1 x2 x3 x4 x5 hc s).1 = (blk x0 x1 x2 x3 x4 x5).oPieces s :=
  (show _ = (loaded a0 h0 a1 h1 a2 h2 a3 h3 a4 h4 a5 h5 x0 x1 x2 x3 x4 x5).oPieces (View.readAt (Elt F) a8.view allRect.toLoadRect (h8.unread s)) by sl_kernel_rfl).trans (congrArg₂ Blk.oPieces (loaded_eq a0 h0 a1 h1 a2 h2 a3 h3 a4 h4 a5 h5 x0 x1 x2 x3 x4 x5) (carried_eq a8 h8 s))

/-- A later point's stores into the block of saved states. -/
theorem runB_st (hc : ¬first i) (s : Vec F S8x128x128 .f32) : (runB (F := F) c i a0 h0 a1 h1 a2 h2 a3 h3 a4 h4 a5 h5 a6 h6 a7 h7 a8 h8 x0 x1 x2 x3 x4 x5 hc s).2.1 = (blk x0 x1 x2 x3 x4 x5).stPieces s :=
  (show _ = (loaded a0 h0 a1 h1 a2 h2 a3 h3 a4 h4 a5 h5 x0 x1 x2 x3 x4 x5).stPieces (View.readAt (Elt F) a8.view allRect.toLoadRect (h8.unread s)) by sl_kernel_rfl).trans (congrArg₂ Blk.stPieces (loaded_eq a0 h0 a1 h1 a2 h2 a3 h3 a4 h4 a5 h5 x0 x1 x2 x3 x4 x5) (carried_eq a8 h8 s))

/-- The state a later point carries on. -/
theorem runB_s (hc : ¬first i) (s : Vec F S8x128x128 .f32) : (runB (F := F) c i a0 h0 a1 h1 a2 h2 a3 h3 a4 h4 a5 h5 a6 h6 a7 h7 a8 h8 x0 x1 x2 x3 x4 x5 hc s).2.2.1 = [⟨allRect, (blk x0 x1 x2 x3 x4 x5).st s 4⟩] :=
  (show _ = [(⟨allRect, selfS ((loaded a0 h0 a1 h1 a2 h2 a3 h3 a4 h4 a5 h5 x0 x1 x2 x3 x4 x5).st (View.readAt (Elt F) a8.view allRect.toLoadRect (h8.unread s)) 4)⟩ : View.Piece (Elt F) S8x128x128 .f32)] by sl_kernel_rfl).trans
    (congrArg₂ (fun (b : Blk F) s' => [(⟨allRect, selfS (b.st s' 4)⟩ : View.Piece (Elt F) S8x128x128 .f32)]) (loaded_eq a0 h0 a1 h1 a2 h2 a3 h3 a4 h4 a5 h5 x0 x1 x2 x3 x4 x5) (carried_eq a8 h8 s) |>.trans (by rw [selfS_eq]))

/-! ### At the first point -/

theorem cleared_eq : runA.sl.v3 (F := F) c a8 = zeroSt := View.readCov_full _ _ _ _ _

/-- The first point's stores into the output block: its chunks' outputs. -/
theorem runA_o (hc : first i) : (runA (F := F) c i a0 h0 a1 h1 a2 h2 a3 h3 a4 h4 a5 h5 a6 h6 a7 h7 a8 h8 x0 x1 x2 x3 x4 x5 hc).1 = (blk x0 x1 x2 x3 x4 x5).oPieces zeroSt :=
  (show _ = (loaded a0 h0 a1 h1 a2 h2 a3 h3 a4 h4 a5 h5 x0 x1 x2 x3 x4 x5).oPieces (runA.sl.v3 (F := F) c a8) by sl_kernel_rfl).trans (congrArg₂ Blk.oPieces (loaded_eq a0 h0 a1 h1 a2 h2 a3 h3 a4 h4 a5 h5 x0 x1 x2 x3 x4 x5) (cleared_eq c a8))

/-- The first point's stores into the block of saved states. -/
theorem runA_st (hc : first i) : (runA (F := F) c i a0 h0 a1 h1 a2 h2 a3 h3 a4 h4 a5 h5 a6 h6 a7 h7 a8 h8 x0 x1 x2 x3 x4 x5 hc).2.1 = (blk x0 x1 x2 x3 x4 x5).stPieces zeroSt :=
  (show _ = (loaded a0 h0 a1 h1 a2 h2 a3 h3 a4 h4 a5 h5 x0 x1 x2 x3 x4 x5).stPieces (runA.sl.v3 (F := F) c a8) by sl_kernel_rfl).trans (congrArg₂ Blk.stPieces (loaded_eq a0 h0 a1 h1 a2 h2 a3 h3 a4 h4 a5 h5 x0 x1 x2 x3 x4 x5) (cleared_eq c a8))

/-- The state the first point carries on. -/
theorem runA_s (hc : first i) : (runA (F := F) c i a0 h0 a1 h1 a2 h2 a3 h3 a4 h4 a5 h5 a6 h6 a7 h7 a8 h8 x0 x1 x2 x3 x4 x5 hc).2.2.1 = ⟨allRect, (blk x0 x1 x2 x3 x4 x5).st zeroSt 4⟩ :: runA.sl.Hs_1 :=
  (show _ = (⟨allRect, selfS ((loaded a0 h0 a1 h1 a2 h2 a3 h3 a4 h4 a5 h5 x0 x1 x2 x3 x4 x5).st (runA.sl.v3 (F := F) c a8) 4)⟩ : View.Piece (Elt F) S8x128x128 .f32) :: runA.sl.Hs_1 by sl_kernel_rfl).trans
    (congrArg₂ (fun (b : Blk F) s' => (⟨allRect, selfS (b.st s' 4)⟩ : View.Piece (Elt F) S8x128x128 .f32) :: runA.sl.Hs_1) (loaded_eq a0 h0 a1 h1 a2 h2 a3 h3 a4 h4 a5 h5 x0 x1 x2 x3 x4 x5) (cleared_eq c a8) |>.trans (by rw [selfS_eq]))

end
end Cert.Fwd
end
-- ==== Proof.FwdFrame.lean ====
/- The forward scan over the whole grid: what its arrays and its carried state hold point by point, from any contents of
   its arrays at its start. -/
module

public import proofs.«01_k».proof.Proof.FwdVal
public import Idealize.ShloMosaic.Lib.Pipeline.Frame
public import Idealize.ShloMosaic.Lib.Pipeline.RegionArraysS

@[expose] public section

set_option maxRecDepth 16384

noncomputable section

namespace Cert.Fwd

open Cert.KernelIdeal Cert.KernelIdeal.Gen Cert.Chunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The contents, point by point -/

section

variable (W : Dev nD → Valuation τ sig (Elt F)) (c : Dev nD)

/-- Array `w`'s block at point `t`. -/
def iblk (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The chunks of point `t`'s input blocks. -/
def blkAt (t : Fin cfg0.N) : Blk F :=
  blk (iblk W c 0 t) (iblk W c 1 t) (iblk W c 2 t) (iblk W c 3 t) (iblk W c 4 t) (iblk W c 5 t)

/-- The state carried into the `n`-th point. -/
def stAt : ℕ → Vec F S8x128x128 .f32
  | 0 => zeroSt
  | n + 1 => if h : n < cfg0.N then (blkAt W c ⟨n, h⟩).st (stAt n) 4 else stAt n

theorem stAt_succ (t : Fin cfg0.N) : stAt W c (t.val + 1) = (blkAt W c t).st (stAt W c t.val) 4 := by
  rw [stAt, dif_pos t.isLt]

/-- What point `t` leaves in output 0's block. -/
def out0 (t : Fin cfg0.N) : Vec F S8x256x128 .f32 := View.canon ((blkAt W c t).oPieces (stAt W c t.val))

/-- What point `t` leaves in output 1's block. -/
def out1 (t : Fin cfg0.N) : Vec F S4x8x128x128 .f32 := View.canon ((blkAt W c t).stPieces (stAt W c t.val))

end

/-! ## The stores tile the blocks -/

theorem cover0 (b : Blk F) (s : Vec F S8x128x128 .f32) (y : S8x256x128.Idx) : ∃ pc ∈ b.oPieces s, y ∈ pc.1.set :=
  View.cover_of_tiledL (b.oPieces s) S8x64x128.size (by sl_kernel_rfl) y
theorem cover1 (b : Blk F) (s : Vec F S8x128x128 .f32) (y : S4x8x128x128.Idx) : ∃ pc ∈ b.stPieces s, y ∈ pc.1.set :=
  View.cover_of_tiledL (b.stPieces s) S1x8x128x128.size (by sl_kernel_rfl) y

theorem scover (s : Vec F S8x128x128 .f32) (l : List (View.Piece (Elt F) S8x128x128 .f32)) (y : S8x128x128.Idx) :
    ∃ pc ∈ ((⟨allRect, s⟩ : View.Piece (Elt F) S8x128x128 .f32) :: l), y ∈ pc.1.set := by
  obtain ⟨pc, h, hy⟩ := View.cover_of_tiledL [(⟨allRect, s⟩ : View.Piece (Elt F) S8x128x128 .f32)] S8x128x128.size (by sl_kernel_rfl) y
  exact ⟨pc, List.mem_cons.mpr (.inl (List.mem_singleton.mp h)), hy⟩

theorem scanon (s : Vec F S8x128x128 .f32) (l : List (View.Piece (Elt F) S8x128x128 .f32)) :
    View.canon ((⟨allRect, s⟩ : View.Piece (Elt F) S8x128x128 .f32) :: l) = s := by
  funext y
  have h := View.canon_cons_emb allRect s l y
  have e : allRect.emb y = y := funext fun a => Fin.ext (by
    show (![0, 0, 0] : Fin 3 → ℕ) a + 1 * (y a).val = (y a).val
    fin_cases a <;> simp)
  rw [e] at h; exact h

/-! ## The data of the scan -/

section

variable (W : Dev nD → Valuation τ sig (Elt F)) (c : Dev nD)

/-- The carried state's buffer. -/
abbrev scM : Memref sig .tc .vmem S8x128x128 .f32 := Memref.whole cc0_scratch0

/-- The carried state's buffer before point `n`: at anything before the first. -/
def carry : ℕ → sProp 𝕄
  | 0 => iprop(∃ d, owns (c : Thread nD τ) scM fullShare d)
  | n + 1 => owns (c : Thread nD τ) scM fullShare (stAt W c (n + 1))

theorem carry_pos (n : ℕ) (h : n ≠ 0) : carry W c n = owns (c : Thread nD τ) scM fullShare (stAt W c n) := by
  cases n with
  | zero => exact absurd rfl h
  | succ n => rfl

/-- The carried state with every other scoped buffer the scan does not stage. -/
def phi (n : ℕ) : sProp 𝕄 :=
  iprop(carry W c n ∗ Pipeline.scopedRestBut (Ix := Unit) (Name := ℕ) (U := UR sig nD τ) (Lvl := ℕ) (Val := Elt F) spec0 c [cc0_scratch0])

/-- The scan's data: each array as it finds it, each input block left in place, each output block as above. -/
def dat : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => out0 W c t
    | ⟨7, _⟩ => out1 W c t
  Φ t := phi W c t.val
  q _ := fullShare
  owed _ := 0

theorem A_eq (w : Fin cfg0.W) : (dat W c).A w = W c (Proc.devRef .tc (Pipeline.arrRef spec0 w)) := by dsimp only [dat]

theorem after_0 (t : Fin cfg0.N) : (dat W c).after 0 t = iblk W c 0 t := by dsimp only [dat]
theorem after_1 (t : Fin cfg0.N) : (dat W c).after 1 t = iblk W c 1 t := by dsimp only [dat]
theorem after_2 (t : Fin cfg0.N) : (dat W c).after 2 t = iblk W c 2 t := by dsimp only [dat]
theorem after_3 (t : Fin cfg0.N) : (dat W c).after 3 t = iblk W c 3 t := by dsimp only [dat]
theorem after_4 (t : Fin cfg0.N) : (dat W c).after 4 t = iblk W c 4 t := by dsimp only [dat]
theorem after_5 (t : Fin cfg0.N) : (dat W c).after 5 t = iblk W c 5 t := by dsimp only [dat]
theorem after_6 (t : Fin cfg0.N) : (dat W c).after 6 t = out0 W c t := by dsimp only [dat]
theorem after_7 (t : Fin cfg0.N) : (dat W c).after 7 t = out1 W c t := by dsimp only [dat]

theorem before_0 (t : Fin cfg0.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg0.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg0.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (t : Fin cfg0.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (t : Fin cfg0.N) (d) : (dat W c).before 4 t d = iblk W c 4 t :=
  ((dat W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (t : Fin cfg0.N) (d) : (dat W c).before 5 t d = iblk W c 5 t :=
  ((dat W c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

theorem phi_castSucc (t : Fin cfg0.N) : (dat W c).Φ t.castSucc = phi W c t.val := rfl
theorem phi_succ (t : Fin cfg0.N) : (dat W c).Φ t.succ = phi W c (t.val + 1) := rfl

/-! ## The body at a point -/

abbrev ms0 (t : Fin cfg0.N) : Memref sig .tc .vmem S8x256x128 .f32 := win0_0.stage (cfg0.slots t 0)
abbrev ms1 (t : Fin cfg0.N) : Memref sig .tc .vmem S8x4x64x64 .f32 := win0_1.stage (cfg0.slots t 1)
abbrev ms2 (t : Fin cfg0.N) : Memref sig .tc .vmem S8x256x128 .f32 := win0_2.stage (cfg0.slots t 2)
abbrev ms3 (t : Fin cfg0.N) : Memref sig .tc .vmem S8x256x128 .f32 := win0_3.stage (cfg0.slots t 3)
abbrev ms4 (t : Fin cfg0.N) : Memref sig .tc .vmem S8x256x128 .f32 := win0_4.stage (cfg0.slots t 4)
abbrev ms5 (t : Fin cfg0.N) : Memref sig .tc .vmem S8x4x1x128 .f32 := win0_5.stage (cfg0.slots t 5)
abbrev ms6 (t : Fin cfg0.N) : Memref sig .tc .vmem S8x256x128 .f32 := win0_6.stage (cfg0.slots t 6)
abbrev ms7 (t : Fin cfg0.N) : Memref sig .tc .vmem S4x8x128x128 .f32 := win0_7.stage (cfg0.slots t 7)

/-- What the body is called with at point `t`. -/
def bodyPre (t : Fin cfg0.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d))
    ∗ (∃ d, owns (c : Thread nD τ) (ms7 t) fullShare ((dat W c).before 7 t d)))

/-- What it returns. -/
def bodyPost (t : Fin cfg0.N) : sProp 𝕄 :=
  iprop((dat W c).Φ t.succ ∗ (dat W c).owesAt () t.succ
    ∗ owns (c : Thread nD τ) (ms0 t) fullShare ((dat W c).after 0 t)
    ∗ owns (c : Thread nD τ) (ms1 t) fullShare ((dat W c).after 1 t)
    ∗ owns (c : Thread nD τ) (ms2 t) fullShare ((dat W c).after 2 t)
    ∗ owns (c : Thread nD τ) (ms3 t) fullShare ((dat W c).after 3 t)
    ∗ owns (c : Thread nD τ) (ms4 t) fullShare ((dat W c).after 4 t)
    ∗ owns (c : Thread nD τ) (ms5 t) fullShare ((dat W c).after 5 t)
    ∗ owns (c : Thread nD τ) (ms6 t) fullShare ((dat W c).after 6 t)
    ∗ owns (c : Thread nD τ) (ms7 t) fullShare ((dat W c).after 7 t))

set_option maxHeartbeats 6400000 in
/-- The body at any point: it takes the carried state to the next and leaves each block as stated. -/
theorem sound_body (t : Fin cfg0.N) :
    bodyPre W c t ⊢ wp frame (wpE (defs₀ (F := F)) Variants.none c none) Set.univ (bodyAt0 t) (fun _ => bodyPost W c t) := by
  unfold bodyPre bodyPost bodyAt0
  simp only [before_0, before_1, before_2, before_3, before_4, before_5]
  rw [show (dat W c).owesAt () t.succ = (dat W c).owesAt () t.castSucc from rfl,
    after_0, after_1, after_2, after_3, after_4, after_5, after_6, after_7, phi_castSucc, phi_succ]
  unfold phi
  rw [carry_pos W c (t.val + 1) (Nat.succ_ne_zero _), stAt_succ]
  unfold out0 out1
  by_cases h0 : t.val = 0
  · rw [h0, show carry W c 0 = iprop(∃ d, owns (c : Thread nD τ) scM fullShare d) from rfl, show stAt W c 0 = zeroSt from rfl]
    unfold blkAt
    iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA (F := F) c (grid0.coords t) _ _ _ _ _ _ _ _ _ _ _ _ _ _ _ _ _ _ (iblk W c 0 t) (iblk W c 1 t) (iblk W c 2 t) (iblk W c 3 t) (iblk W c 4 t) (iblk W c 5 t) ((first_iff t).mpr h0)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hs]; · iexact Hs
    iintro ⟨H0, H1, H2, H3, H4, H5, ⟨%e6, H6⟩, ⟨%e7, H7⟩, ⟨%es, Hs⟩⟩
    isplitl [Hs Hr]
    · isplitl [Hs]
      · unfold owns; iexists _; isplitr; swap; · iexact Hs
        ipureintro; rw [runA_s]; exact (View.read_writes_eq_canon _ _ _ (scover _ _)).trans (scanon _ _)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro; rw [runA_o]; exact View.read_writes_eq_canon _ _ _ (cover0 _ _)
    unfold owns; iexists _; isplitr; swap; · iexact H7
    ipureintro; rw [runA_st]; exact View.read_writes_eq_canon _ _ _ (cover1 _ _)
  · rw [carry_pos W c t.val h0]
    unfold blkAt
    iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB (F := F) c (grid0.coords t) _ _ _ _ _ _ _ _ _ _ _ _ _ _ _ _ _ _ (iblk W c 0 t) (iblk W c 1 t) (iblk W c 2 t) (iblk W c 3 t) (iblk W c 4 t) (iblk W c 5 t) (fun h => h0 ((first_iff t).mp h)) (stAt W c t.val)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hs]; · iexact Hs
    iintro ⟨H0, H1, H2, H3, H4, H5, ⟨%e6, H6⟩, ⟨%e7, H7⟩, ⟨%es, Hs⟩⟩
    isplitl [Hs Hr]
    · isplitl [Hs]
      · unfold owns; iexists _; isplitr; swap; · iexact Hs
        ipureintro; rw [runB_s]; exact (View.read_writes_eq_canon _ _ _ (scover _ _)).trans (scanon _ _)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro; rw [runB_o]; exact View.read_writes_eq_canon _ _ _ (cover0 _ _)
    unfold owns; iexists _; isplitr; swap; · iexact H7
    ipureintro; rw [runB_st]; exact View.read_writes_eq_canon _ _ _ (cover1 _ _)

theorem defs₀_row (t : Fin cfg0.N) :
    defs₀ (F := F) .tc cfg0.body (cfg0.bodyArgs t (cfg0.slots t)) = bodyAt0 t := by
  unfold defs₀; rw [Defs.onTc_tc]

theorem body_obligation : BodyObligation (dat W c) (defs₀ (F := F)) Variants.none () Set.univ := fun t => by
  rw [bigSep_W0, bigSep_W0, defs₀_row]
  exact triple_restated (sound_body W c t) rfl .rfl fun _ => .rfl

/-! ## Into and out of the scan -/

theorem rest_eq :
    (Pipeline.scopedRest (Ix := Unit) (Name := ℕ) (U := UR sig nD τ) (Lvl := ℕ) (Val := Elt F) spec0 c : sProp 𝕄) = phi W c 0 := by
  unfold phi carry
  simp only [scM, owns_whole]
  exact Pipeline.scopedRest_split_of_list spec0 c [cc0_scratch0] (by decide) (by decide)

theorem hin : iprop(Pipeline.scopedRest (Ix := Unit) (Name := ℕ) (U := UR sig nD τ) (Lvl := ℕ) (Val := Elt F) spec0 c ∗ (BI.emp : sProp 𝕄))
    ⊢ (dat W c).Φ 0 := by
  rw [show (dat W c).Φ 0 = phi W c 0 from rfl, rest_eq W c]
  iintro ⟨H, -⟩; iexact H

theorem hout : (dat W c).Φ (Fin.last cfg0.N)
    ⊢ iprop(Pipeline.scopedRest (Ix := Unit) (Name := ℕ) (U := UR sig nD τ) (Lvl := ℕ) (Val := Elt F) spec0 c ∗ (BI.emp : sProp 𝕄)) := by
  rw [show (dat W c).Φ (Fin.last cfg0.N) = phi W c cfg0.N from rfl, rest_eq W c]
  unfold phi
  rw [carry_pos W c _ (show cfg0.N ≠ 0 from by rw [show cfg0.N = 64 from N_0]; decide), show carry W c 0 = iprop(∃ d, owns (c : Thread nD τ) scM fullShare d) from rfl]
  iintro ⟨Hs, Hr⟩
  isplitl [Hs Hr]
  · isplitl [Hs]
    · iexists _; iexact Hs
    iexact Hr
  iempintro

end
end Cert.Fwd
end
-- ==== Proof.BwdRun.lean ====
/- The backward scan's body, run once at the first grid point and once at any later one. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's one branch condition: the grid point's coordinate is zero. -/
abbrev first (i : grid1.Coords) : Prop := (Scalar.cmpi .ne (Scalar.extui (Scalar.cmpi .eq (BitVec.ofNat 32 (i 0).val) 0#32)) 0#32) = 1#1

/-- The branch is taken at the first grid point and at no other. -/
theorem first_iff : ∀ t : Fin cfg1.N, first (grid1.coords t) ↔ t.val = 0 :=
  (fun t => by
    have ht : t.val < 64 := Nat.lt_of_lt_of_eq t.isLt N_1
    have e0 : (grid1.coords t 0).val = t.val / 1 % 64 := Pipeline.Grid.coords_val t 0 (by decide) rfl
    simp only [first, e0]
    word_cmp
   : ∀ t : Fin grid1.N, first (grid1.coords t) ↔ t.val = 0)

variable (c : Dev nD) (i : grid1.Coords)
  (a0 : Memref sig .tc .vmem S8x256x128 .f32) (h0 : a0.IsWhole)
  (a1 : Memref sig .tc .vmem S8x4x64x64 .f32) (h1 : a1.IsWhole)
  (a2 : Memref sig .tc .vmem S8x256x128 .f32) (h2 : a2.IsWhole)
  (a3 : Memref sig .tc .vmem S8x256x128 .f32) (h3 : a3.IsWhole)
  (a4 : Memref sig .tc .vmem S8x256x128 .f32) (h4 : a4.IsWhole)
  (a5 : Memref sig .tc .vmem S8x4x1x128 .f32) (h5 : a5.IsWhole)
  (a6 : Memref sig .tc .vmem S4x8x128x128 .f32) (h6 : a6.IsWhole)
  (a7 : Memref sig .tc .vmem S8x256x128 .f32) (h7 : a7.IsWhole)
  (a8 : Memref sig .tc .vmem S8x256x128 .f32) (h8 : a8.IsWhole)
  (a9 : Memref sig .tc .vmem S8x4x64x64 .f32) (h9 : a9.IsWhole)
  (a10 : Memref sig .tc .vmem S8x256x128 .f32) (h10 : a10.IsWhole)
  (a11 : Memref sig .tc .vmem S8x256x128 .f32) (h11 : a11.IsWhole)
  (a12 : Memref sig .tc .vmem S8x256x128 .f32) (h12 : a12.IsWhole)
  (a13 : Memref sig .tc .vmem S8x4x1x128 .f32) (h13 : a13.IsWhole)
  (a14 : Memref sig .tc .vmem S8x128x128 .f32) (h14 : a14.IsWhole)
  (x0 : Vec F S8x256x128 .f32) (x1 : Vec F S8x4x64x64 .f32) (x2 : Vec F S8x256x128 .f32) (x3 : Vec F S8x256x128 .f32) (x4 : Vec F S8x256x128 .f32) (x5 : Vec F S8x4x1x128 .f32) (x6 : Vec F S4x8x128x128 .f32) (x7 : Vec F S8x256x128 .f32)

set_option maxHeartbeats 4000000 in
/-- The body's run at the first point, which clears the carried buffer: the stores it leaves in each output buffer and in the
    carried one, with the proof that it ends holding exactly those over the inputs as they were. -/
noncomputable def runA (hc : first i) :
    Σ' (L0 : List (View.Piece (Elt F) S8x256x128 .f32)),
    Σ' (L1 : List (View.Piece (Elt F) S8x4x64x64 .f32)),
    Σ' (L2 : List (View.Piece (Elt F) S8x256x128 .f32)),
    Σ' (L3 : List (View.Piece (Elt F) S8x256x128 .f32)),
    Σ' (L4 : List (View.Piece (Elt F) S8x256x128 .f32)),
    Σ' (L5 : List (View.Piece (Elt F) S8x4x1x128 .f32)),
    { Ls : List (View.Piece (Elt F) S8x128x128 .f32) // ∀ (E : Set ℕ) (K : PUnit → sProp 𝕄),
      iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
          ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d)
          ∗ (∃ d, owns (c : Thread nD τ) a14 fullShare d)
          ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
              ∗ (∃ f, a8.view.loc (c : Thread nD τ) ↦[a8.view.set]{fullShare} a8.view.writes (Elt F) f L0) ∗ (∃ f, a9.view.loc (c : Thread nD τ) ↦[a9.view.set]{fullShare} a9.view.writes (Elt F) f L1) ∗ (∃ f, a10.view.loc (c : Thread nD τ) ↦[a10.view.set]{fullShare} a10.view.writes (Elt F) f L2) ∗ (∃ f, a11.view.loc (c : Thread nD τ) ↦[a11.view.set]{fullShare} a11.view.writes (Elt F) f L3) ∗ (∃ f, a12.view.loc (c : Thread nD τ) ↦[a12.view.set]{fullShare} a12.view.writes (Elt F) f L4) ∗ (∃ f, a13.view.loc (c : Thread nD τ) ↦[a13.view.set]{fullShare} a13.view.writes (Elt F) f L5) ∗ (∃ f, a14.view.loc (c : Thread nD τ) ↦[a14.view.set]{fullShare} a14.view.writes (Elt F) f Ls)) -∗ K ⟨⟩))
        ⊢ wp frame (wpE (defs₀ (F := F)) Variants.none c none) E (cc1_dscan i a0 h0 a1 h1 a2 h2 a3 h3 a4 h4 a5 h5 a6 h6 a7 h7 a8 h8 a9 h9 a10 h10 a11 h11 a12 h12 a13 h13 a14 h14) K } := by
  refine ⟨?_, ?_, ?_, ?_, ?_, ?_, ?_, fun E K => ?run⟩
  case run =>
    simp only [cc1_dscan_eq_skeleton]; unfold cc1_dscan_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds, %fs, -, Hs⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact Hs

set_option maxHeartbeats 4000000 in
/-- The body's run at a later point, which starts from the carried buffer's contents `s`: the stores it leaves in each output buffer and in the
    carried one, with the proof that it ends holding exactly those over the inputs as they were. -/
noncomputable def runB (hc : ¬first i) (s : Vec F S8x128x128 .f32) :
    Σ' (L0 : List (View.Piece (Elt F) S8x256x128 .f32)),
    Σ' (L1 : List (View.Piece (Elt F) S8x4x64x64 .f32)),
    Σ' (L2 : List (View.Piece (Elt F) S8x256x128 .f32)),
    Σ' (L3 : List (View.Piece (Elt F) S8x256x128 .f32)),
    Σ' (L4 : List (View.Piece (Elt F) S8x256x128 .f32)),
    Σ' (L5 : List (View.Piece (Elt F) S8x4x1x128 .f32)),
    { Ls : List (View.Piece (Elt F) S8x128x128 .f32) // ∀ (E : Set ℕ) (K : PUnit → sProp 𝕄),
      iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
          ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d)
          ∗ owns (c : Thread nD τ) a14 fullShare s
          ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
              ∗ (∃ f, a8.view.loc (c : Thread nD τ) ↦[a8.view.set]{fullShare} a8.view.writes (Elt F) f L0) ∗ (∃ f, a9.view.loc (c : Thread nD τ) ↦[a9.view.set]{fullShare} a9.view.writes (Elt F) f L1) ∗ (∃ f, a10.view.loc (c : Thread nD τ) ↦[a10.view.set]{fullShare} a10.view.writes (Elt F) f L2) ∗ (∃ f, a11.view.loc (c : Thread nD τ) ↦[a11.view.set]{fullShare} a11.view.writes (Elt F) f L3) ∗ (∃ f, a12.view.loc (c : Thread nD τ) ↦[a12.view.set]{fullShare} a12.view.writes (Elt F) f L4) ∗ (∃ f, a13.view.loc (c : Thread nD τ) ↦[a13.view.set]{fullShare} a13.view.writes (Elt F) f L5) ∗ (∃ f, a14.view.loc (c : Thread nD τ) ↦[a14.view.set]{fullShare} a14.view.writes (Elt F) f Ls)) -∗ K ⟨⟩))
        ⊢ wp frame (wpE (defs₀ (F := F)) Variants.none c none) E (cc1_dscan i a0 h0 a1 h1 a2 h2 a3 h3 a4 h4 a5 h5 a6 h6 a7 h7 a8 h8 a9 h9 a10 h10 a11 h11 a12 h12 a13 h13 a14 h14) K } := by
  refine ⟨?_, ?_, ?_, ?_, ?_, ?_, ?_, fun E K => ?run⟩
  case run =>
    simp only [cc1_dscan_eq_skeleton]; unfold cc1_dscan_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs, %hfs, Hs⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h14.eq_unread hfs
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact Hs

end Cert.Bwd

end
-- ==== Proof.BwdVal.lean ====
/- What the gradient's body stores at one grid point, in terms of the chunk functions: the six blocks of gradients,
   the last chunk first, and the cotangent of the state that it carries on. -/
module

public import proofs.«01_k».proof.Proof.FwdVal
public import proofs.«01_k».proof.Proof.BwdRun

@[expose] public section

set_option maxRecDepth 16384

noncomputable section

namespace Cert.Bwd

open Cert.KernelIdeal Cert.KernelIdeal.Gen Cert.Chunk Cert.Fwd
open Idealize.ShloMosaic Idealize.ShloMosaic.TcCoe Idealize.ShloMosaic.Tactic

variable {F : FTy → Type} [FloatOps F]

/-- The eight input blocks of a grid point, cut into chunks. -/
structure GBlk (F : FTy → Type) extends Blk F where
  z : Fin 4 → Vec F S1x8x128x128 .f32
  d : Fin 4 → Vec F S8x64x128 .f32

/-- The chunks of eight given blocks. -/
def gblk (x0 : Vec F S8x256x128 .f32) (x1 : Vec F S8x4x64x64 .f32) (x2 x3 x4 : Vec F S8x256x128 .f32) (x5 : Vec F S8x4x1x128 .f32)
    (x6 : Vec F S4x8x128x128 .f32) (x7 : Vec F S8x256x128 .f32) : GBlk F :=
  { blk x0 x1 x2 x3 x4 x5 with z := stBlk x6, d := rowBlk x7 }

namespace GBlk

variable (b : GBlk F)

/-- The cotangent of the corrected values of chunk `j`, from that of the state after the chunk. -/
def cv (j : Fin 4) (e : Vec F S8x128x128 .f32) : Vec F S8x64x128 .f32 := dV (sq3 (b.a j)) (b.k j) (b.d j) e

/-- The cotangent of the state before chunk `j`, from that of the state after it. -/
def back (j : Fin 4) (e : Vec F S8x128x128 .f32) : Vec F S8x128x128 .f32 := dS (b.q j) (b.w j) (lane3 (b.g j)) (b.d j) (b.cv j e) e

/-- The cotangent of the state before the last `n` chunks, the point entered at `e`. -/
def ct (e : Vec F S8x128x128 .f32) : ℕ → Vec F S8x128x128 .f32
  | 0 => e
  | n + 1 => b.back (Fin.ofNat 4 (3 - n)) (ct e n)

/-- The state before chunk `j`, as saved. -/
def sv (j : Fin 4) : Vec F S8x128x128 .f32 := st3 (b.z j)
/-- Chunk `j`'s corrected values. -/
def v (j : Fin 4) : Vec F S8x64x128 .f32 := vNew (b.u j) (b.w j) (b.sv j)

/-- The gradient of the read rows. -/
def gq (j : Fin 4) (_e : Vec F S8x128x128 .f32) : Vec F S8x64x128 .f32 := dQ (b.d j) (b.sv j)
/-- The gradient of the squares. -/
def ga (j : Fin 4) (_e : Vec F S8x128x128 .f32) : Vec F S8x1x64x64 .f32 := shapeCast S8x1x64x64 (dA (b.d j) (b.v j)) shapeCasts_S8x64x64_S8x1x64x64
/-- The gradient of the values. -/
def gu (j : Fin 4) (e : Vec F S8x128x128 .f32) : Vec F S8x64x128 .f32 := b.cv j e
/-- The gradient of the correction rows. -/
def gw (j : Fin 4) (e : Vec F S8x128x128 .f32) : Vec F S8x64x128 .f32 := dW (b.cv j e) (b.sv j)
/-- The gradient of the written rows. -/
def gk (j : Fin 4) (e : Vec F S8x128x128 .f32) : Vec F S8x64x128 .f32 := dK (b.v j) e
/-- The gradient of the decay lanes. -/
def gg (j : Fin 4) (e : Vec F S8x128x128 .f32) : Vec F S8x1x1x128 .f32 :=
  shapeCast S8x1x1x128 (dG (lane3 (b.g j)) (b.sv j) e) shapeCasts_S8x1x128_S8x1x1x128

/-- The stores of the gradient of the read rows, last first, the cotangents of the states after the four chunks given. -/
def qPieces (e0 e1 e2 e3 : Vec F S8x128x128 .f32) : List (View.Piece (Elt F) S8x256x128 .f32) :=
  [⟨rowRect 0, b.gq 0 e0⟩, ⟨rowRect 1, b.gq 1 e1⟩, ⟨rowRect 2, b.gq 2 e2⟩, ⟨rowRect 3, b.gq 3 e3⟩]
/-- The stores of the gradient of the squares, last first, the cotangents of the states after the four chunks given. -/
def aPieces (e0 e1 e2 e3 : Vec F S8x128x128 .f32) : List (View.Piece (Elt F) S8x4x64x64 .f32) :=
  [⟨sqRect 0, b.ga 0 e0⟩, ⟨sqRect 1, b.ga 1 e1⟩, ⟨sqRect 2, b.ga 2 e2⟩, ⟨sqRect 3, b.ga 3 e3⟩]
/-- The stores of the gradient of the values, last first, the cotangents of the states after the four chunks given. -/
def uPieces (e0 e1 e2 e3 : Vec F S8x128x128 .f32) : List (View.Piece (Elt F) S8x256x128 .f32) :=
  [⟨rowRect 0, b.gu 0 e0⟩, ⟨rowRect 1, b.gu 1 e1⟩, ⟨rowRect 2, b.gu 2 e2⟩, ⟨rowRect 3, b.gu 3 e3⟩]
/-- The stores of the gradient of the correction rows, last first, the cotangents of the states after the four chunks given. -/
def wPieces (e0 e1 e2 e3 : Vec F S8x128x128 .f32) : List (View.Piece (Elt F) S8x256x128 .f32) :=
  [⟨rowRect 0, b.gw 0 e0⟩, ⟨rowRect 1, b.gw 1 e1⟩, ⟨rowRect 2, b.gw 2 e2⟩, ⟨rowRect 3, b.gw 3 e3⟩]
/-- The stores of the gradient of the written rows, last first, the cotangents of the states after the four chunks given. -/
def kPieces (e0 e1 e2 e3 : Vec F S8x128x128 .f32) : List (View.Piece (Elt F) S8x256x128 .f32) :=
  [⟨rowRect 0, b.gk 0 e0⟩, ⟨rowRect 1, b.gk 1 e1⟩, ⟨rowRect 2, b.gk 2 e2⟩, ⟨rowRect 3, b.gk 3 e3⟩]
/-- The stores of the gradient of the decay lanes, last first, the cotangents of the states after the four chunks given. -/
def gPieces (e0 e1 e2 e3 : Vec F S8x128x128 .f32) : List (View.Piece (Elt F) S8x4x1x128 .f32) :=
  [⟨laneRect 0, b.gg 0 e0⟩, ⟨laneRect 1, b.gg 1 e1⟩, ⟨laneRect 2, b.gg 2 e2⟩, ⟨laneRect 3, b.gg 3 e3⟩]

end GBlk

section

variable (c : Dev nD) (i : grid1.Coords)
  (a0 : Memref sig .tc .vmem S8x256x128 .f32) (h0 : a0.IsWhole)
  (a1 : Memref sig .tc .vmem S8x4x64x64 .f32) (h1 : a1.IsWhole)
  (a2 : Memref sig .tc .vmem S8x256x128 .f32) (h2 : a2.IsWhole)
  (a3 : Memref sig .tc .vmem S8x256x128 .f32) (h3 : a3.IsWhole)
  (a4 : Memref sig .tc .vmem S8x256x128 .f32) (h4 : a4.IsWhole)
  (a5 : Memref sig .tc .vmem S8x4x1x128 .f32) (h5 : a5.IsWhole)
  (a6 : Memref sig .tc .vmem S4x8x128x128 .f32) (h6 : a6.IsWhole)
  (a7 : Memref sig .tc .vmem S8x256x128 .f32) (h7 : a7.IsWhole)
  (a8 : Memref sig .tc .vmem S8x256x128 .f32) (h8 : a8.IsWhole)
  (a9 : Memref sig .tc .vmem S8x4x64x64 .f32) (h9 : a9.IsWhole)
  (a10 : Memref sig .tc .vmem S8x256x128 .f32) (h10 : a10.IsWhole)
  (a11 : Memref sig .tc .vmem S8x256x128 .f32) (h11 : a11.IsWhole)
  (a12 : Memref sig .tc .vmem S8x256x128 .f32) (h12 : a12.IsWhole)
  (a13 : Memref sig .tc .vmem S8x4x1x128 .f32) (h13 : a13.IsWhole)
  (a14 : Memref sig .tc .vmem S8x128x128 .f32) (h14 : a14.IsWhole)
  (x0 : Vec F S8x256x128 .f32) (x1 : Vec F S8x4x64x64 .f32) (x2 : Vec F S8x256x128 .f32) (x3 : Vec F S8x256x128 .f32) (x4 : Vec F S8x256x128 .f32) (x5 : Vec F S8x4x1x128 .f32) (x6 : Vec F S4x8x128x128 .f32) (x7 : Vec F S8x256x128 .f32)

/-- The chunks as the body loads them from its staging buffers. -/
def loaded : GBlk F where
  q j := View.readAt (Elt F) a0.view (rowRect j).toLoadRect (h0.unread x0)
  a j := View.readAt (Elt F) a1.view (sqRect j).toLoadRect (h1.unread x1)
  u j := View.readAt (Elt F) a2.view (rowRect j).toLoadRect (h2.unread x2)
  w j := View.readAt (Elt F) a3.view (rowRect j).toLoadRect (h3.unread x3)
  k j := View.readAt (Elt F) a4.view (rowRect j).toLoadRect (h4.unread x4)
  g j := View.readAt (Elt F) a5.view (laneRect j).toLoadRect (h5.unread x5)
  z j := View.readAt (Elt F) a6.view (stRect j).toLoadRect (h6.unread x6)
  d j := View.readAt (Elt F) a7.view (rowRect j).toLoadRect (h7.unread x7)

theorem loaded_eq : loaded a0 h0 a1 h1 a2 h2 a3 h3 a4 h4 a5 h5 a6 h6 a7 h7 x0 x1 x2 x3 x4 x5 x6 x7 = gblk x0 x1 x2 x3 x4 x5 x6 x7 := by
  unfold loaded gblk blk rowBlk sqBlk laneBlk stBlk
  congr 1 <;> [congr 1; skip; skip] <;> exact funext fun j => funext fun x => Memref.IsWhole.readAt_unread _ _ _ x

theorem carried_eq (s : Vec F S8x128x128 .f32) : selfS (View.readAt (Elt F) a14.view allRect.toLoadRect (h14.unread s)) = s :=
  (selfS_eq _).trans <| (View.readAt_full _ _ _).trans (h14.read_unread s)

theorem cleared_eq : selfS (runA.sl.v3 (F := F) c a14) = zeroSt := (selfS_eq _).trans <| View.readCov_full _ _ _ _ _

/-! ### A later point's stores -/

theorem carriedB1 (s : Vec F S8x128x128 .f32) : runB.sl.r_15 c a0 h0 a1 h1 a3 h3 a4 h4 a5 h5 a7 h7 a14 h14 x0 x1 x3 x4 x5 x7 s = (loaded a0 h0 a1 h1 a2 h2 a3 h3 a4 h4 a5 h5 a6 h6 a7 h7 x0 x1 x2 x3 x4 x5 x6 x7).back 3 (selfS (View.readAt (Elt F) a14.view allRect.toLoadRect (h14.unread s))) := by sl_kernel_rfl
theorem carriedB2 (s : Vec F S8x128x128 .f32) : runB.sl.r_31 c a0 h0 a1 h1 a3 h3 a4 h4 a5 h5 a7 h7 a14 h14 x0 x1 x3 x4 x5 x7 s = (loaded a0 h0 a1 h1 a2 h2 a3 h3 a4 h4 a5 h5 a6 h6 a7 h7 x0 x1 x2 x3 x4 x5 x6 x7).back 2 (runB.sl.r_15 c a0 h0 a1 h1 a3 h3 a4 h4 a5 h5 a7 h7 a14 h14 x0 x1 x3 x4 x5 x7 s) := by sl_kernel_rfl
theorem carriedB3 (s : Vec F S8x128x128 .f32) : runB.sl.r_46 c a0 h0 a1 h1 a3 h3 a4 h4 a5 h5 a7 h7 a14 h14 x0 x1 x3 x4 x5 x7 s = (loaded a0 h0 a1 h1 a2 h2 a3 h3 a4 h4 a5 h5 a6 h6 a7 h7 x0 x1 x2 x3 x4 x5 x6 x7).back 1 (runB.sl.r_31 c a0 h0 a1 h1 a3 h3 a4 h4 a5 h5 a7 h7 a14 h14 x0 x1 x3 x4 x5 x7 s) := by sl_kernel_rfl
theorem runB_last (hc : ¬first i) (s : Vec F S8x128x128 .f32) : (runB (F := F) c i a0 h0 a1 h1 a2 h2 a3 h3 a4 h4 a5 h5 a6 h6 a7 h7 a8 h8 a9 h9 a10 h10 a11 h11 a12 h12 a13 h13 a14 h14 x0 x1 x2 x3 x4 x5 x6 x7 hc s).2.2.2.2.2.2.1 = ⟨allRect, selfS ((loaded a0 h0 a1 h1 a2 h2 a3 h3 a4 h4 a5 h5 a6 h6 a7 h7 x0 x1 x2 x3 x4 x5 x6 x7).back 0 (runB.sl.r_46 c a0 h0 a1 h1 a3 h3 a4 h4 a5 h5 a7 h7 a14 h14 x0 x1 x3 x4 x5 x7 s))⟩ :: [] := by sl_kernel_rfl

theorem ctB1 (s : Vec F S8x128x128 .f32) : runB.sl.r_15 c a0 h0 a1 h1 a3 h3 a4 h4 a5 h5 a7 h7 a14 h14 x0 x1 x3 x4 x5 x7 s = (loaded a0 h0 a1 h1 a2 h2 a3 h3 a4 h4 a5 h5 a6 h6 a7 h7 x0 x1 x2 x3 x4 x5 x6 x7).ct (selfS (View.readAt (Elt F) a14.view allRect.toLoadRect (h14.unread s))) 1 := by
  rw [carriedB1 c a0 h0 a1 h1 a2 h2 a3 h3 a4 h4 a5 h5 a6 h6 a7 h7 a14 h14 x0 x1 x2 x3 x4 x5 x6 x7 s]; rfl
theorem ctB2 (s : Vec F S8x128x128 .f32) : runB.sl.r_31 c a0 h0 a1 h1 a3 h3 a4 h4 a5 h5 a7 h7 a14 h14 x0 x1 x3 x4 x5 x7 s = (loaded a0 h0 a1 h1 a2 h2 a3 h3 a4 h4 a5 h5 a6 h6 a7 h7 x0 x1 x2 x3 x4 x5 x6 x7).ct (selfS (View.readAt (Elt F) a14.view allRect.toLoadRect (h14.unread s))) 2 := by
  rw [carriedB2 c a0 h0 a1 h1 a2 h2 a3 h3 a4 h4 a5 h5 a6 h6 a7 h7 a14 h14 x0 x1 x2 x3 x4 x5 x6 x7 s]; rw [ctB1 c a0 h0 a1 h1 a2 h2 a3 h3 a4 h4 a5 h5 a6 h6 a7 h7 a14 h14 x0 x1 x2 x3 x4 x5 x6 x7 s]; rfl
theorem ctB3 (s : Vec F S8x128x128 .f32) : runB.sl.r_46 c a0 h0 a1 h1 a3 h3 a4 h4 a5 h5 a7 h7 a14 h14 x0 x1 x3 x4 x5 x7 s = (loaded a0 h0 a1 h1 a2 h2 a3 h3 a4 h4 a5 h5 a6 h6 a7 h7 x0 x1 x2 x3 x4 x5 x6 x7).ct (selfS (View.readAt (Elt F) a14.view allRect.toLoadRect (h14.unread s))) 3 := by
  rw [carriedB3 c a0 h0 a1 h1 a2 h2 a3 h3 a4 h4 a5 h5 a6 h6 a7 h7 a14 h14 x0 x1 x2 x3 x4 x5 x6 x7 s]; rw [ctB2 c a0 h0 a1 h1 a2 h2 a3 h3 a4 h4 a5 h5 a6 h6 a7 h7 a14 h14 x0 x1 x2 x3 x4 x5 x6 x7 s]; rfl

theorem runB_q (hc : ¬first i) (s : Vec F S8x128x128 .f32) :
    (runB (F := F) c i a0 h0 a1 h1 a2 h2 a3 h3 a4 h4 a5 h5 a6 h6 a7 h7 a8 h8 a9 h9 a10 h10 a11 h11 a12 h12 a13 h13 a14 h14 x0 x1 x2 x3 x4 x5 x6 x7 hc s).1 = (gblk x0 x1 x2 x3 x4 x5 x6 x7).qPieces ((gblk x0 x1 x2 x3 x4 x5 x6 x7).ct s 3) ((gblk x0 x1 x2 x3 x4 x5 x6 x7).ct s 2) ((gblk x0 x1 x2 x3 x4 x5 x6 x7).ct s 1) s := by
  refine (show _ = (loaded a0 h0 a1 h1 a2 h2 a3 h3 a4 h4 a5 h5 a6 h6 a7 h7 x0 x1 x2 x3 x4 x5 x6 x7).qPieces (runB.sl.r_46 c a0 h0 a1 h1 a3 h3 a4 h4 a5 h5 a7 h7 a14 h14 x0 x1 x3 x4 x5 x7 s) (runB.sl.r_31 c a0 h0 a1 h1 a3 h3 a4 h4 a5 h5 a7 h7 a14 h14 x0 x1 x3 x4 x5 x7 s) (runB.sl.r_15 c a0 h0 a1 h1 a3 h3 a4 h4 a5 h5 a7 h7 a14 h14 x0 x1 x3 x4 x5 x7 s) (selfS (View.readAt (Elt F) a14.view allRect.toLoadRect (h14.unread s))) by sl_kernel_rfl).trans ?_
  rw [ctB1 c a0 h0 a1 h1 a2 h2 a3 h3 a4 h4 a5 h5 a6 h6 a7 h7 a14 h14 x0 x1 x2 x3 x4 x5 x6 x7 s, ctB2 c a0 h0 a1 h1 a2 h2 a3 h3 a4 h4 a5 h5 a6 h6 a7 h7 a14 h14 x0 x1 x2 x3 x4 x5 x6 x7 s, ctB3 c a0 h0 a1 h1 a2 h2 a3 h3 a4 h4 a5 h5 a6 h6 a7 h7 a14 h14 x0 x1 x2 x3 x4 x5 x6 x7 s, loaded_eq a0 h0 a1 h1 a2 h2 a3 h3 a4 h4 a5 h5 a6 h6 a7 h7 x0 x1 x2 x3 x4 x5 x6 x7, carried_eq a14 h14 s]

theorem runB_a (hc : ¬first i) (s : Vec F S8x128x128 .f32) :
    (runB (F := F) c i a0 h0 a1 h1 a2 h2 a3 h3 a4 h4 a5 h5 a6 h6 a7 h7 a8 h8 a9 h9 a10 h10 a11 h11 a12 h12 a13 h13 a14 h14 x0 x1 x2 x3 x4 x5 x6 x7 hc s).2.1 = (gblk x0 x1 x2 x3 x4 x5 x6 x7).aPieces ((gblk x0 x1 x2 x3 x4 x5 x6 x7).ct s 3) ((gblk x0 x1 x2 x3 x4 x5 x6 x7).ct s 2) ((gblk x0 x1 x2 x3 x4 x5 x6 x7).ct s 1) s := by
  refine (show _ = (loaded a0 h0 a1 h1 a2 h2 a3 h3 a4 h4 a5 h5 a6 h6 a7 h7 x0 x1 x2 x3 x4 x5 x6 x7).aPieces (runB.sl.r_46 c a0 h0 a1 h1 a3 h3 a4 h4 a5 h5 a7 h7 a14 h14 x0 x1 x3 x4 x5 x7 s) (runB.sl.r_31 c a0 h0 a1 h1 a3 h3 a4 h4 a5 h5 a7 h7 a14 h14 x0 x1 x3 x4 x5 x7 s) (runB.sl.r_15 c a0 h0 a1 h1 a3 h3 a4 h4 a5 h5 a7 h7 a14 h14 x0 x1 x3 x4 x5 x7 s) (selfS (View.readAt (Elt F) a14.view allRect.toLoadRect (h14.unread s))) by sl_kernel_rfl).trans ?_
  rw [ctB1 c a0 h0 a1 h1 a2 h2 a3 h3 a4 h4 a5 h5 a6 h6 a7 h7 a14 h14 x0 x1 x2 x3 x4 x5 x6 x7 s, ctB2 c a0 h0 a1 h1 a2 h2 a3 h3 a4 h4 a5 h5 a6 h6 a7 h7 a14 h14 x0 x1 x2 x3 x4 x5 x6 x7 s, ctB3 c a0 h0 a1 h1 a2 h2 a3 h3 a4 h4 a5 h5 a6 h6 a7 h7 a14 h14 x0 x1 x2 x3 x4 x5 x6 x7 s, loaded_eq a0 h0 a1 h1 a2 h2 a3 h3 a4 h4 a5 h5 a6 h6 a7 h7 x0 x1 x2 x3 x4 x5 x6 x7, carried_eq a14 h14 s]

theorem runB_u (hc : ¬first i) (s : Vec F S8x128x128 .f32) :
    (runB (F := F) c i a0 h0 a1 h1 a2 h2 a3 h3 a4 h4 a5 h5 a6 h6 a7 h7 a8 h8 a9 h9 a10 h10 a11 h11 a12 h12 a13 h13 a14 h14 x0 x1 x2 x3 x4 x5 x6 x7 hc s).2.2.1 = (gblk x0 x1 x2 x3 x4 x5 x6 x7).uPieces ((gblk x0 x1 x2 x3 x4 x5 x6 x7).ct s 3) ((gblk x0 x1 x2 x3 x4 x5 x6 x7).ct s 2) ((gblk x0 x1 x2 x3 x4 x5 x6 x7).ct s 1) s := by
  refine (show _ = (loaded a0 h0 a1 h1 a2 h2 a3 h3 a4 h4 a5 h5 a6 h6 a7 h7 x0 x1 x2 x3 x4 x5 x6 x7).uPieces (runB.sl.r_46 c a0 h0 a1 h1 a3 h3 a4 h4 a5 h5 a7 h7 a14 h14 x0 x1 x3 x4 x5 x7 s) (runB.sl.r_31 c a0 h0 a1 h1 a3 h3 a4 h4 a5 h5 a7 h7 a14 h14 x0 x1 x3 x4 x5 x7 s) (runB.sl.r_15 c a0 h0 a1 h1 a3 h3 a4 h4 a5 h5 a7 h7 a14 h14 x0 x1 x3 x4 x5 x7 s) (selfS (View.readAt (Elt F) a14.view allRect.toLoadRect (h14.unread s))) by sl_kernel_rfl).trans ?_
  rw [ctB1 c a0 h0 a1 h1 a2 h2 a3 h3 a4 h4 a5 h5 a6 h6 a7 h7 a14 h14 x0 x1 x2 x3 x4 x5 x6 x7 s, ctB2 c a0 h0 a1 h1 a2 h2 a3 h3 a4 h4 a5 h5 a6 h6 a7 h7 a14 h14 x0 x1 x2 x3 x4 x5 x6 x7 s, ctB3 c a0 h0 a1 h1 a2 h2 a3 h3 a4 h4 a5 h5 a6 h6 a7 h7 a14 h14 x0 x1 x2 x3 x4 x5 x6 x7 s, loaded_eq a0 h0 a1 h1 a2 h2 a3 h3 a4 h4 a5 h5 a6 h6 a7 h7 x0 x1 x2 x3 x4 x5 x6 x7, carried_eq a14 h14 s]

theorem runB_w (hc : ¬first i) (s : Vec F S8x128x128 .f32) :
    (runB (F := F) c i a0 h0 a1 h1 a2 h2 a3 h3 a4 h4 a5 h5 a6 h6 a7 h7 a8 h8 a9 h9 a10 h10 a11 h11 a12 h12 a13 h13 a14 h14 x0 x1 x2 x3 x4 x5 x6 x7 hc s).2.2.2.1 = (gblk x0 x1 x2 x3 x4 x5 x6 x7).wPieces ((gblk x0 x1 x2 x3 x4 x5 x6 x7).ct s 3) ((gblk x0 x1 x2 x3 x4 x5 x6 x7).ct s 2) ((gblk x0 x1 x2 x3 x4 x5 x6 x7).ct s 1) s := by
  refine (show _ = (loaded a0 h0 a1 h1 a2 h2 a3 h3 a4 h4 a5 h5 a6 h6 a7 h7 x0 x1 x2 x3 x4 x5 x6 x7).wPieces (runB.sl.r_46 c a0 h0 a1 h1 a3 h3 a4 h4 a5 h5 a7 h7 a14 h14 x0 x1 x3 x4 x5 x7 s) (runB.sl.r_31 c a0 h0 a1 h1 a3 h3 a4 h4 a5 h5 a7 h7 a14 h14 x0 x1 x3 x4 x5 x7 s) (runB.sl.r_15 c a0 h0 a1 h1 a3 h3 a4 h4 a5 h5 a7 h7 a14 h14 x0 x1 x3 x4 x5 x7 s) (selfS (View.readAt (Elt F) a14.view allRect.toLoadRect (h14.unread s))) by sl_kernel_rfl).trans ?_
  rw [ctB1 c a0 h0 a1 h1 a2 h2 a3 h3 a4 h4 a5 h5 a6 h6 a7 h7 a14 h14 x0 x1 x2 x3 x4 x5 x6 x7 s, ctB2 c a0 h0 a1 h1 a2 h2 a3 h3 a4 h4 a5 h5 a6 h6 a7 h7 a14 h14 x0 x1 x2 x3 x4 x5 x6 x7 s, ctB3 c a0 h0 a1 h1 a2 h2 a3 h3 a4 h4 a5 h5 a6 h6 a7 h7 a14 h14 x0 x1 x2 x3 x4 x5 x6 x7 s, loaded_eq a0 h0 a1 h1 a2 h2 a3 h3 a4 h4 a5 h5 a6 h6 a7 h7 x0 x1 x2 x3 x4 x5 x6 x7, carried_eq a14 h14 s]

theorem runB_k (hc : ¬first i) (s : Vec F S8x128x128 .f32) :
    (runB (F := F) c i a0 h0 a1 h1 a2 h2 a3 h3 a4 h4 a5 h5 a6 h6 a7 h7 a8 h8 a9 h9 a10 h10 a11 h11 a12 h12 a13 h13 a14 h14 x0 x1 x2 x3 x4 x5 x6 x7 hc s).2.2.2.2.1 = (gblk x0 x1 x2 x3 x4 x5 x6 x7).kPieces ((gblk x0 x1 x2 x3 x4 x5 x6 x7).ct s 3) ((gblk x0 x1 x2 x3 x4 x5 x6 x7).ct s 2) ((gblk x0 x1 x2 x3 x4 x5 x6 x7).ct s 1) s := by
  refine (show _ = (loaded a0 h0 a1 h1 a2 h2 a3 h3 a4 h4 a5 h5 a6 h6 a7 h7 x0 x1 x2 x3 x4 x5 x6 x7).kPieces (runB.sl.r_46 c a0 h0 a1 h1 a3 h3 a4 h4 a5 h5 a7 h7 a14 h14 x0 x1 x3 x4 x5 x7 s) (runB.sl.r_31 c a0 h0 a1 h1 a3 h3 a4 h4 a5 h5 a7 h7 a14 h14 x0 x1 x3 x4 x5 x7 s) (runB.sl.r_15 c a0 h0 a1 h1 a3 h3 a4 h4 a5 h5 a7 h7 a14 h14 x0 x1 x3 x4 x5 x7 s) (selfS (View.readAt (Elt F) a14.view allRect.toLoadRect (h14.unread s))) by sl_kernel_rfl).trans ?_
  rw [ctB1 c a0 h0 a1 h1 a2 h2 a3 h3 a4 h4 a5 h5 a6 h6 a7 h7 a14 h14 x0 x1 x2 x3 x4 x5 x6 x7 s, ctB2 c a0 h0 a1 h1 a2 h2 a3 h3 a4 h4 a5 h5 a6 h6 a7 h7 a14 h14 x0 x1 x2 x3 x4 x5 x6 x7 s, ctB3 c a0 h0 a1 h1 a2 h2 a3 h3 a4 h4 a5 h5 a6 h6 a7 h7 a14 h14 x0 x1 x2 x3 x4 x5 x6 x7 s, loaded_eq a0 h0 a1 h1 a2 h2 a3 h3 a4 h4 a5 h5 a6 h6 a7 h7 x0 x1 x2 x3 x4 x5 x6 x7, carried_eq a14 h14 s]

theorem runB_g (hc : ¬first i) (s : Vec F S8x128x128 .f32) :
    (runB (F := F) c i a0 h0 a1 h1 a2 h2 a3 h3 a4 h4 a5 h5 a6 h6 a7 h7 a8 h8 a9 h9 a10 h10 a11 h11 a12 h12 a13 h13 a14 h14 x0 x1 x2 x3 x4 x5 x6 x7 hc s).2.2.2.2.2.1 = (gblk x0 x1 x2 x3 x4 x5 x6 x7).gPieces ((gblk x0 x1 x2 x3 x4 x5 x6 x7).ct s 3) ((gblk x0 x1 x2 x3 x4 x5 x6 x7).ct s 2) ((gblk x0 x1 x2 x3 x4 x5 x6 x7).ct s 1) s := by
  refine (show _ = (loaded a0 h0 a1 h1 a2 h2 a3 h3 a4 h4 a5 h5 a6 h6 a7 h7 x0 x1 x2 x3 x4 x5 x6 x7).gPieces (runB.sl.r_46 c a0 h0 a1 h1 a3 h3 a4 h4 a5 h5 a7 h7 a14 h14 x0 x1 x3 x4 x5 x7 s) (runB.sl.r_31 c a0 h0 a1 h1 a3 h3 a4 h4 a5 h5 a7 h7 a14 h14 x0 x1 x3 x4 x5 x7 s) (runB.sl.r_15 c a0 h0 a1 h1 a3 h3 a4 h4 a5 h5 a7 h7 a14 h14 x0 x1 x3 x4 x5 x7 s) (selfS (View.readAt (Elt F) a14.view allRect.toLoadRect (h14.unread s))) by sl_kernel_rfl).trans ?_
  rw [ctB1 c a0 h0 a1 h1 a2 h2 a3 h3 a4 h4 a5 h5 a6 h6 a7 h7 a14 h14 x0 x1 x2 x3 x4 x5 x6 x7 s, ctB2 c a0 h0 a1 h1 a2 h2 a3 h3 a4 h4 a5 h5 a6 h6 a7 h7 a14 h14 x0 x1 x2 x3 x4 x5 x6 x7 s, ctB3 c a0 h0 a1 h1 a2 h2 a3 h3 a4 h4 a5 h5 a6 h6 a7 h7 a14 h14 x0 x1 x2 x3 x4 x5 x6 x7 s, loaded_eq a0 h0 a1 h1 a2 h2 a3 h3 a4 h4 a5 h5 a6 h6 a7 h7 x0 x1 x2 x3 x4 x5 x6 x7, carried_eq a14 h14 s]

theorem runB_s (hc : ¬first i) (s : Vec F S8x128x128 .f32) : (runB (F := F) c i a0 h0 a1 h1 a2 h2 a3 h3 a4 h4 a5 h5 a6 h6 a7 h7 a8 h8 a9 h9 a10 h10 a11 h11 a12 h12 a13 h13 a14 h14 x0 x1 x2 x3 x4 x5 x6 x7 hc s).2.2.2.2.2.2.1 = ⟨allRect, (gblk x0 x1 x2 x3 x4 x5 x6 x7).ct s 4⟩ :: [] := by
  refine (runB_last c i a0 h0 a1 h1 a2 h2 a3 h3 a4 h4 a5 h5 a6 h6 a7 h7 a8 h8 a9 h9 a10 h10 a11 h11 a12 h12 a13 h13 a14 h14 x0 x1 x2 x3 x4 x5 x6 x7 hc s).trans ?_
  rw [selfS_eq, ctB3 c a0 h0 a1 h1 a2 h2 a3 h3 a4 h4 a5 h5 a6 h6 a7 h7 a14 h14 x0 x1 x2 x3 x4 x5 x6 x7 s, loaded_eq a0 h0 a1 h1 a2 h2 a3 h3 a4 h4 a5 h5 a6 h6 a7 h7 x0 x1 x2 x3 x4 x5 x6 x7, carried_eq a14 h14 s]
  rfl

/-! ### The first point's stores -/

theorem carriedA1 : runA.sl.r_14 c a0 h0 a1 h1 a3 h3 a4 h4 a5 h5 a7 h7 a14 x0 x1 x3 x4 x5 x7 = (loaded a0 h0 a1 h1 a2 h2 a3 h3 a4 h4 a5 h5 a6 h6 a7 h7 x0 x1 x2 x3 x4 x5 x6 x7).back 3 (selfS (runA.sl.v3 (F := F) c a14)) := by sl_kernel_rfl
theorem carriedA2 : runA.sl.r_30 c a0 h0 a1 h1 a3 h3 a4 h4 a5 h5 a7 h7 a14 x0 x1 x3 x4 x5 x7 = (loaded a0 h0 a1 h1 a2 h2 a3 h3 a4 h4 a5 h5 a6 h6 a7 h7 x0 x1 x2 x3 x4 x5 x6 x7).back 2 (runA.sl.r_14 c a0 h0 a1 h1 a3 h3 a4 h4 a5 h5 a7 h7 a14 x0 x1 x3 x4 x5 x7) := by sl_kernel_rfl
theorem carriedA3 : runA.sl.r_45 c a0 h0 a1 h1 a3 h3 a4 h4 a5 h5 a7 h7 a14 x0 x1 x3 x4 x5 x7 = (loaded a0 h0 a1 h1 a2 h2 a3 h3 a4 h4 a5 h5 a6 h6 a7 h7 x0 x1 x2 x3 x4 x5 x6 x7).back 1 (runA.sl.r_30 c a0 h0 a1 h1 a3 h3 a4 h4 a5 h5 a7 h7 a14 x0 x1 x3 x4 x5 x7) := by sl_kernel_rfl
theorem runA_last (hc : first i) : (runA (F := F) c i a0 h0 a1 h1 a2 h2 a3 h3 a4 h4 a5 h5 a6 h6 a7 h7 a8 h8 a9 h9 a10 h10 a11 h11 a12 h12 a13 h13 a14 h14 x0 x1 x2 x3 x4 x5 x6 x7 hc).2.2.2.2.2.2.1 = ⟨allRect, selfS ((loaded a0 h0 a1 h1 a2 h2 a3 h3 a4 h4 a5 h5 a6 h6 a7 h7 x0 x1 x2 x3 x4 x5 x6 x7).back 0 (runA.sl.r_45 c a0 h0 a1 h1 a3 h3 a4 h4 a5 h5 a7 h7 a14 x0 x1 x3 x4 x5 x7))⟩ :: runA.sl.Hs_1 := by sl_kernel_rfl

theorem ctA1 : runA.sl.r_14 c a0 h0 a1 h1 a3 h3 a4 h4 a5 h5 a7 h7 a14 x0 x1 x3 x4 x5 x7 = (loaded a0 h0 a1 h1 a2 h2 a3 h3 a4 h4 a5 h5 a6 h6 a7 h7 x0 x1 x2 x3 x4 x5 x6 x7).ct (selfS (runA.sl.v3 (F := F) c a14)) 1 := by
  rw [carriedA1 c a0 h0 a1 h1 a2 h2 a3 h3 a4 h4 a5 h5 a6 h6 a7 h7 a14 x0 x1 x2 x3 x4 x5 x6 x7]; rfl
theorem ctA2 : runA.sl.r_30 c a0 h0 a1 h1 a3 h3 a4 h4 a5 h5 a7 h7 a14 x0 x1 x3 x4 x5 x7 = (loaded a0 h0 a1 h1 a2 h2 a3 h3 a4 h4 a5 h5 a6 h6 a7 h7 x0 x1 x2 x3 x4 x5 x6 x7).ct (selfS (runA.sl.v3 (F := F) c a14)) 2 := by
  rw [carriedA2 c a0 h0 a1 h1 a2 h2 a3 h3 a4 h4 a5 h5 a6 h6 a7 h7 a14 x0 x1 x2 x3 x4 x5 x6 x7]; rw [ctA1 c a0 h0 a1 h1 a2 h2 a3 h3 a4 h4 a5 h5 a6 h6 a7 h7 a14 x0 x1 x2 x3 x4 x5 x6 x7]; rfl
theorem ctA3 : runA.sl.r_45 c a0 h0 a1 h1 a3 h3 a4 h4 a5 h5 a7 h7 a14 x0 x1 x3 x4 x5 x7 = (loaded a0 h0 a1 h1 a2 h2 a3 h3 a4 h4 a5 h5 a6 h6 a7 h7 x0 x1 x2 x3 x4 x5 x6 x7).ct (selfS (runA.sl.v3 (F := F) c a14)) 3 := by
  rw [carriedA3 c a0 h0 a1 h1 a2 h2 a3 h3 a4 h4 a5 h5 a6 h6 a7 h7 a14 x0 x1 x2 x3 x4 x5 x6 x7]; rw [ctA2 c a0 h0 a1 h1 a2 h2 a3 h3 a4 h4 a5 h5 a6 h6 a7 h7 a14 x0 x1 x2 x3 x4 x5 x6 x7]; rfl

theorem runA_q (hc : first i) :
    (runA (F := F) c i a0 h0 a1 h1 a2 h2 a3 h3 a4 h4 a5 h5 a6 h6 a7 h7 a8 h8 a9 h9 a10 h10 a11 h11 a12 h12 a13 h13 a14 h14 x0 x1 x2 x3 x4 x5 x6 x7 hc).1 = (gblk x0 x1 x2 x3 x4 x5 x6 x7).qPieces ((gblk x0 x1 x2 x3 x4 x5 x6 x7).ct zeroSt 3) ((gblk x0 x1 x2 x3 x4 x5 x6 x7).ct zeroSt 2) ((gblk x0 x1 x2 x3 x4 x5 x6 x7).ct zeroSt 1) zeroSt := by
  refine (show _ = (loaded a0 h0 a1 h1 a2 h2 a3 h3 a4 h4 a5 h5 a6 h6 a7 h7 x0 x1 x2 x3 x4 x5 x6 x7).qPieces (runA.sl.r_45 c a0 h0 a1 h1 a3 h3 a4 h4 a5 h5 a7 h7 a14 x0 x1 x3 x4 x5 x7) (runA.sl.r_30 c a0 h0 a1 h1 a3 h3 a4 h4 a5 h5 a7 h7 a14 x0 x1 x3 x4 x5 x7) (runA.sl.r_14 c a0 h0 a1 h1 a3 h3 a4 h4 a5 h5 a7 h7 a14 x0 x1 x3 x4 x5 x7) (selfS (runA.sl.v3 (F := F) c a14)) by sl_kernel_rfl).trans ?_
  rw [ctA1 c a0 h0 a1 h1 a2 h2 a3 h3 a4 h4 a5 h5 a6 h6 a7 h7 a14 x0 x1 x2 x3 x4 x5 x6 x7, ctA2 c a0 h0 a1 h1 a2 h2 a3 h3 a4 h4 a5 h5 a6 h6 a7 h7 a14 x0 x1 x2 x3 x4 x5 x6 x7, ctA3 c a0 h0 a1 h1 a2 h2 a3 h3 a4 h4 a5 h5 a6 h6 a7 h7 a14 x0 x1 x2 x3 x4 x5 x6 x7, loaded_eq a0 h0 a1 h1 a2 h2 a3 h3 a4 h4 a5 h5 a6 h6 a7 h7 x0 x1 x2 x3 x4 x5 x6 x7, cleared_eq c a14]

theorem runA_a (hc : first i) :
    (runA (F := F) c i a0 h0 a1 h1 a2 h2 a3 h3 a4 h4 a5 h5 a6 h6 a7 h7 a8 h8 a9 h9 a10 h10 a11 h11 a12 h12 a13 h13 a14 h14 x0 x1 x2 x3 x4 x5 x6 x7 hc).2.1 = (gblk x0 x1 x2 x3 x4 x5 x6 x7).aPieces ((gblk x0 x1 x2 x3 x4 x5 x6 x7).ct zeroSt 3) ((gblk x0 x1 x2 x3 x4 x5 x6 x7).ct zeroSt 2) ((gblk x0 x1 x2 x3 x4 x5 x6 x7).ct zeroSt 1) zeroSt := by
  refine (show _ = (loaded a0 h0 a1 h1 a2 h2 a3 h3 a4 h4 a5 h5 a6 h6 a7 h7 x0 x1 x2 x3 x4 x5 x6 x7).aPieces (runA.sl.r_45 c a0 h0 a1 h1 a3 h3 a4 h4 a5 h5 a7 h7 a14 x0 x1 x3 x4 x5 x7) (runA.sl.r_30 c a0 h0 a1 h1 a3 h3 a4 h4 a5 h5 a7 h7 a14 x0 x1 x3 x4 x5 x7) (runA.sl.r_14 c a0 h0 a1 h1 a3 h3 a4 h4 a5 h5 a7 h7 a14 x0 x1 x3 x4 x5 x7) (selfS (runA.sl.v3 (F := F) c a14)) by sl_kernel_rfl).trans ?_
  rw [ctA1 c a0 h0 a1 h1 a2 h2 a3 h3 a4 h4 a5 h5 a6 h6 a7 h7 a14 x0 x1 x2 x3 x4 x5 x6 x7, ctA2 c a0 h0 a1 h1 a2 h2 a3 h3 a4 h4 a5 h5 a6 h6 a7 h7 a14 x0 x1 x2 x3 x4 x5 x6 x7, ctA3 c a0 h0 a1 h1 a2 h2 a3 h3 a4 h4 a5 h5 a6 h6 a7 h7 a14 x0 x1 x2 x3 x4 x5 x6 x7, loaded_eq a0 h0 a1 h1 a2 h2 a3 h3 a4 h4 a5 h5 a6 h6 a7 h7 x0 x1 x2 x3 x4 x5 x6 x7, cleared_eq c a14]

theorem runA_u (hc : first i) :
    (runA (F := F) c i a0 h0 a1 h1 a2 h2 a3 h3 a4 h4 a5 h5 a6 h6 a7 h7 a8 h8 a9 h9 a10 h10 a11 h11 a12 h12 a13 h13 a14 h14 x0 x1 x2 x3 x4 x5 x6 x7 hc).2.2.1 = (gblk x0 x1 x2 x3 x4 x5 x6 x7).uPieces ((gblk x0 x1 x2 x3 x4 x5 x6 x7).ct zeroSt 3) ((gblk x0 x1 x2 x3 x4 x5 x6 x7).ct zeroSt 2) ((gblk x0 x1 x2 x3 x4 x5 x6 x7).ct zeroSt 1) zeroSt := by
  refine (show _ = (loaded a0 h0 a1 h1 a2 h2 a3 h3 a4 h4 a5 h5 a6 h6 a7 h7 x0 x1 x2 x3 x4 x5 x6 x7).uPieces (runA.sl.r_45 c a0 h0 a1 h1 a3 h3 a4 h4 a5 h5 a7 h7 a14 x0 x1 x3 x4 x5 x7) (runA.sl.r_30 c a0 h0 a1 h1 a3 h3 a4 h4 a5 h5 a7 h7 a14 x0 x1 x3 x4 x5 x7) (runA.sl.r_14 c a0 h0 a1 h1 a3 h3 a4 h4 a5 h5 a7 h7 a14 x0 x1 x3 x4 x5 x7) (selfS (runA.sl.v3 (F := F) c a14)) by sl_kernel_rfl).trans ?_
  rw [ctA1 c a0 h0 a1 h1 a2 h2 a3 h3 a4 h4 a5 h5 a6 h6 a7 h7 a14 x0 x1 x2 x3 x4 x5 x6 x7, ctA2 c a0 h0 a1 h1 a2 h2 a3 h3 a4 h4 a5 h5 a6 h6 a7 h7 a14 x0 x1 x2 x3 x4 x5 x6 x7, ctA3 c a0 h0 a1 h1 a2 h2 a3 h3 a4 h4 a5 h5 a6 h6 a7 h7 a14 x0 x1 x2 x3 x4 x5 x6 x7, loaded_eq a0 h0 a1 h1 a2 h2 a3 h3 a4 h4 a5 h5 a6 h6 a7 h7 x0 x1 x2 x3 x4 x5 x6 x7, cleared_eq c a14]

theorem runA_w (hc : first i) :
    (runA (F := F) c i a0 h0 a1 h1 a2 h2 a3 h3 a4 h4 a5 h5 a6 h6 a7 h7 a8 h8 a9 h9 a10 h10 a11 h11 a12 h12 a13 h13 a14 h14 x0 x1 x2 x3 x4 x5 x6 x7 hc).2.2.2.1 = (gblk x0 x1 x2 x3 x4 x5 x6 x7).wPieces ((gblk x0 x1 x2 x3 x4 x5 x6 x7).ct zeroSt 3) ((gblk x0 x1 x2 x3 x4 x5 x6 x7).ct zeroSt 2) ((gblk x0 x1 x2 x3 x4 x5 x6 x7).ct zeroSt 1) zeroSt := by
  refine (show _ = (loaded a0 h0 a1 h1 a2 h2 a3 h3 a4 h4 a5 h5 a6 h6 a7 h7 x0 x1 x2 x3 x4 x5 x6 x7).wPieces (runA.sl.r_45 c a0 h0 a1 h1 a3 h3 a4 h4 a5 h5 a7 h7 a14 x0 x1 x3 x4 x5 x7) (runA.sl.r_30 c a0 h0 a1 h1 a3 h3 a4 h4 a5 h5 a7 h7 a14 x0 x1 x3 x4 x5 x7) (runA.sl.r_14 c a0 h0 a1 h1 a3 h3 a4 h4 a5 h5 a7 h7 a14 x0 x1 x3 x4 x5 x7) (selfS (runA.sl.v3 (F := F) c a14)) by sl_kernel_rfl).trans ?_
  rw [ctA1 c a0 h0 a1 h1 a2 h2 a3 h3 a4 h4 a5 h5 a6 h6 a7 h7 a14 x0 x1 x2 x3 x4 x5 x6 x7, ctA2 c a0 h0 a1 h1 a2 h2 a3 h3 a4 h4 a5 h5 a6 h6 a7 h7 a14 x0 x1 x2 x3 x4 x5 x6 x7, ctA3 c a0 h0 a1 h1 a2 h2 a3 h3 a4 h4 a5 h5 a6 h6 a7 h7 a14 x0 x1 x2 x3 x4 x5 x6 x7, loaded_eq a0 h0 a1 h1 a2 h2 a3 h3 a4 h4 a5 h5 a6 h6 a7 h7 x0 x1 x2 x3 x4 x5 x6 x7, cleared_eq c a14]

theorem runA_k (hc : first i) :
    (runA (F := F) c i a0 h0 a1 h1 a2 h2 a3 h3 a4 h4 a5 h5 a6 h6 a7 h7 a8 h8 a9 h9 a10 h10 a11 h11 a12 h12 a13 h13 a14 h14 x0 x1 x2 x3 x4 x5 x6 x7 hc).2.2.2.2.1 = (gblk x0 x1 x2 x3 x4 x5 x6 x7).kPieces ((gblk x0 x1 x2 x3 x4 x5 x6 x7).ct zeroSt 3) ((gblk x0 x1 x2 x3 x4 x5 x6 x7).ct zeroSt 2) ((gblk x0 x1 x2 x3 x4 x5 x6 x7).ct zeroSt 1) zeroSt := by
  refine (show _ = (loaded a0 h0 a1 h1 a2 h2 a3 h3 a4 h4 a5 h5 a6 h6 a7 h7 x0 x1 x2 x3 x4 x5 x6 x7).kPieces (runA.sl.r_45 c a0 h0 a1 h1 a3 h3 a4 h4 a5 h5 a7 h7 a14 x0 x1 x3 x4 x5 x7) (runA.sl.r_30 c a0 h0 a1 h1 a3 h3 a4 h4 a5 h5 a7 h7 a14 x0 x1 x3 x4 x5 x7) (runA.sl.r_14 c a0 h0 a1 h1 a3 h3 a4 h4 a5 h5 a7 h7 a14 x0 x1 x3 x4 x5 x7) (selfS (runA.sl.v3 (F := F) c a14)) by sl_kernel_rfl).trans ?_
  rw [ctA1 c a0 h0 a1 h1 a2 h2 a3 h3 a4 h4 a5 h5 a6 h6 a7 h7 a14 x0 x1 x2 x3 x4 x5 x6 x7, ctA2 c a0 h0 a1 h1 a2 h2 a3 h3 a4 h4 a5 h5 a6 h6 a7 h7 a14 x0 x1 x2 x3 x4 x5 x6 x7, ctA3 c a0 h0 a1 h1 a2 h2 a3 h3 a4 h4 a5 h5 a6 h6 a7 h7 a14 x0 x1 x2 x3 x4 x5 x6 x7, loaded_eq a0 h0 a1 h1 a2 h2 a3 h3 a4 h4 a5 h5 a6 h6 a7 h7 x0 x1 x2 x3 x4 x5 x6 x7, cleared_eq c a14]

theorem runA_g (hc : first i) :
    (runA (F := F) c i a0 h0 a1 h1 a2 h2 a3 h3 a4 h4 a5 h5 a6 h6 a7 h7 a8 h8 a9 h9 a10 h10 a11 h11 a12 h12 a13 h13 a14 h14 x0 x1 x2 x3 x4 x5 x6 x7 hc).2.2.2.2.2.1 = (gblk x0 x1 x2 x3 x4 x5 x6 x7).gPieces ((gblk x0 x1 x2 x3 x4 x5 x6 x7).ct zeroSt 3) ((gblk x0 x1 x2 x3 x4 x5 x6 x7).ct zeroSt 2) ((gblk x0 x1 x2 x3 x4 x5 x6 x7).ct zeroSt 1) zeroSt := by
  refine (show _ = (loaded a0 h0 a1 h1 a2 h2 a3 h3 a4 h4 a5 h5 a6 h6 a7 h7 x0 x1 x2 x3 x4 x5 x6 x7).gPieces (runA.sl.r_45 c a0 h0 a1 h1 a3 h3 a4 h4 a5 h5 a7 h7 a14 x0 x1 x3 x4 x5 x7) (runA.sl.r_30 c a0 h0 a1 h1 a3 h3 a4 h4 a5 h5 a7 h7 a14 x0 x1 x3 x4 x5 x7) (runA.sl.r_14 c a0 h0 a1 h1 a3 h3 a4 h4 a5 h5 a7 h7 a14 x0 x1 x3 x4 x5 x7) (selfS (runA.sl.v3 (F := F) c a14)) by sl_kernel_rfl).trans ?_
  rw [ctA1 c a0 h0 a1 h1 a2 h2 a3 h3 a4 h4 a5 h5 a6 h6 a7 h7 a14 x0 x1 x2 x3 x4 x5 x6 x7, ctA2 c a0 h0 a1 h1 a2 h2 a3 h3 a4 h4 a5 h5 a6 h6 a7 h7 a14 x0 x1 x2 x3 x4 x5 x6 x7, ctA3 c a0 h0 a1 h1 a2 h2 a3 h3 a4 h4 a5 h5 a6 h6 a7 h7 a14 x0 x1 x2 x3 x4 x5 x6 x7, loaded_eq a0 h0 a1 h1 a2 h2 a3 h3 a4 h4 a5 h5 a6 h6 a7 h7 x0 x1 x2 x3 x4 x5 x6 x7, cleared_eq c a14]

theorem runA_s (hc : first i) : (runA (F := F) c i a0 h0 a1 h1 a2 h2 a3 h3 a4 h4 a5 h5 a6 h6 a7 h7 a8 h8 a9 h9 a10 h10 a11 h11 a12 h12 a13 h13 a14 h14 x0 x1 x2 x3 x4 x5 x6 x7 hc).2.2.2.2.2.2.1 = ⟨allRect, (gblk x0 x1 x2 x3 x4 x5 x6 x7).ct zeroSt 4⟩ :: runA.sl.Hs_1 := by
  refine (runA_last c i a0 h0 a1 h1 a2 h2 a3 h3 a4 h4 a5 h5 a6 h6 a7 h7 a8 h8 a9 h9 a10 h10 a11 h11 a12 h12 a13 h13 a14 h14 x0 x1 x2 x3 x4 x5 x6 x7 hc).trans ?_
  rw [selfS_eq, ctA3 c a0 h0 a1 h1 a2 h2 a3 h3 a4 h4 a5 h5 a6 h6 a7 h7 a14 x0 x1 x2 x3 x4 x5 x6 x7, loaded_eq a0 h0 a1 h1 a2 h2 a3 h3 a4 h4 a5 h5 a6 h6 a7 h7 x0 x1 x2 x3 x4 x5 x6 x7, cleared_eq c a14]
  rfl

end
end Cert.Bwd
end
-- ==== Proof.BwdFrame.lean ====
/- The backward scan over the whole grid: what its arrays and its carried state hold point by point, from any contents of
   its arrays at its start. -/
module

public import proofs.«01_k».proof.Proof.BwdVal
public import Idealize.ShloMosaic.Lib.Pipeline.Frame
public import Idealize.ShloMosaic.Lib.Pipeline.RegionArraysS

@[expose] public section

set_option maxRecDepth 16384

noncomputable section

namespace Cert.Bwd

open Cert.KernelIdeal Cert.KernelIdeal.Gen Cert.Chunk
open Cert.Fwd (allRect)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The contents, point by point -/

section

variable (W : Dev nD → Valuation τ sig (Elt F)) (c : Dev nD)

/-- Array `w`'s block at point `t`. -/
def iblk (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The chunks of point `t`'s input blocks. -/
def blkAt (t : Fin cfg1.N) : GBlk F :=
  gblk (iblk W c 0 t) (iblk W c 1 t) (iblk W c 2 t) (iblk W c 3 t) (iblk W c 4 t) (iblk W c 5 t) (iblk W c 6 t) (iblk W c 7 t)

/-- The state carried into the `n`-th point. -/
def stAt : ℕ → Vec F S8x128x128 .f32
  | 0 => zeroSt
  | n + 1 => if h : n < cfg1.N then (blkAt W c ⟨n, h⟩).ct (stAt n) 4 else stAt n

theorem stAt_succ (t : Fin cfg1.N) : stAt W c (t.val + 1) = (blkAt W c t).ct (stAt W c t.val) 4 := by
  rw [stAt, dif_pos t.isLt]

/-- What point `t` leaves in output 0's block. -/
def out0 (t : Fin cfg1.N) : Vec F S8x256x128 .f32 := View.canon ((blkAt W c t).qPieces ((blkAt W c t).ct (stAt W c t.val) 3) ((blkAt W c t).ct (stAt W c t.val) 2) ((blkAt W c t).ct (stAt W c t.val) 1) (stAt W c t.val))

/-- What point `t` leaves in output 1's block. -/
def out1 (t : Fin cfg1.N) : Vec F S8x4x64x64 .f32 := View.canon ((blkAt W c t).aPieces ((blkAt W c t).ct (stAt W c t.val) 3) ((blkAt W c t).ct (stAt W c t.val) 2) ((blkAt W c t).ct (stAt W c t.val) 1) (stAt W c t.val))

/-- What point `t` leaves in output 2's block. -/
def out2 (t : Fin cfg1.N) : Vec F S8x256x128 .f32 := View.canon ((blkAt W c t).uPieces ((blkAt W c t).ct (stAt W c t.val) 3) ((blkAt W c t).ct (stAt W c t.val) 2) ((blkAt W c t).ct (stAt W c t.val) 1) (stAt W c t.val))

/-- What point `t` leaves in output 3's block. -/
def out3 (t : Fin cfg1.N) : Vec F S8x256x128 .f32 := View.canon ((blkAt W c t).wPieces ((blkAt W c t).ct (stAt W c t.val) 3) ((blkAt W c t).ct (stAt W c t.val) 2) ((blkAt W c t).ct (stAt W c t.val) 1) (stAt W c t.val))

/-- What point `t` leaves in output 4's block. -/
def out4 (t : Fin cfg1.N) : Vec F S8x256x128 .f32 := View.canon ((blkAt W c t).kPieces ((blkAt W c t).ct (stAt W c t.val) 3) ((blkAt W c t).ct (stAt W c t.val) 2) ((blkAt W c t).ct (stAt W c t.val) 1) (stAt W c t.val))

/-- What point `t` leaves in output 5's block. -/
def out5 (t : Fin cfg1.N) : Vec F S8x4x1x128 .f32 := View.canon ((blkAt W c t).gPieces ((blkAt W c t).ct (stAt W c t.val) 3) ((blkAt W c t).ct (stAt W c t.val) 2) ((blkAt W c t).ct (stAt W c t.val) 1) (stAt W c t.val))

end

/-! ## The stores tile the blocks -/

theorem cover0 (b : GBlk F) (e0 e1 e2 e3 : Vec F S8x128x128 .f32) (y : S8x256x128.Idx) : ∃ pc ∈ b.qPieces e0 e1 e2 e3, y ∈ pc.1.set :=
  View.cover_of_tiledL (b.qPieces e0 e1 e2 e3) S8x64x128.size (by sl_kernel_rfl) y
theorem cover1 (b : GBlk F) (e0 e1 e2 e3 : Vec F S8x128x128 .f32) (y : S8x4x64x64.Idx) : ∃ pc ∈ b.aPieces e0 e1 e2 e3, y ∈ pc.1.set :=
  View.cover_of_tiledL (b.aPieces e0 e1 e2 e3) S8x1x64x64.size (by sl_kernel_rfl) y
theorem cover2 (b : GBlk F) (e0 e1 e2 e3 : Vec F S8x128x128 .f32) (y : S8x256x128.Idx) : ∃ pc ∈ b.uPieces e0 e1 e2 e3, y ∈ pc.1.set :=
  View.cover_of_tiledL (b.uPieces e0 e1 e2 e3) S8x64x128.size (by sl_kernel_rfl) y
theorem cover3 (b : GBlk F) (e0 e1 e2 e3 : Vec F S8x128x128 .f32) (y : S8x256x128.Idx) : ∃ pc ∈ b.wPieces e0 e1 e2 e3, y ∈ pc.1.set :=
  View.cover_of_tiledL (b.wPieces e0 e1 e2 e3) S8x64x128.size (by sl_kernel_rfl) y
theorem cover4 (b : GBlk F) (e0 e1 e2 e3 : Vec F S8x128x128 .f32) (y : S8x256x128.Idx) : ∃ pc ∈ b.kPieces e0 e1 e2 e3, y ∈ pc.1.set :=
  View.cover_of_tiledL (b.kPieces e0 e1 e2 e3) S8x64x128.size (by sl_kernel_rfl) y
theorem cover5 (b : GBlk F) (e0 e1 e2 e3 : Vec F S8x128x128 .f32) (y : S8x4x1x128.Idx) : ∃ pc ∈ b.gPieces e0 e1 e2 e3, y ∈ pc.1.set :=
  View.cover_of_tiledL (b.gPieces e0 e1 e2 e3) S8x1x1x128.size (by sl_kernel_rfl) y

theorem scover (s : Vec F S8x128x128 .f32) (l : List (View.Piece (Elt F) S8x128x128 .f32)) (y : S8x128x128.Idx) :
    ∃ pc ∈ ((⟨allRect, s⟩ : View.Piece (Elt F) S8x128x128 .f32) :: l), y ∈ pc.1.set := by
  obtain ⟨pc, h, hy⟩ := View.cover_of_tiledL [(⟨allRect, s⟩ : View.Piece (Elt F) S8x128x128 .f32)] S8x128x128.size (by sl_kernel_rfl) y
  exact ⟨pc, List.mem_cons.mpr (.inl (List.mem_singleton.mp h)), hy⟩

theorem scanon (s : Vec F S8x128x128 .f32) (l : List (View.Piece (Elt F) S8x128x128 .f32)) :
    View.canon ((⟨allRect, s⟩ : View.Piece (Elt F) S8x128x128 .f32) :: l) = s := by
  funext y
  have h := View.canon_cons_emb allRect s l y
  have e : allRect.emb y = y := funext fun a => Fin.ext (by
    show (![0, 0, 0] : Fin 3 → ℕ) a + 1 * (y a).val = (y a).val
    fin_cases a <;> simp)
  rw [e] at h; exact h

/-! ## The data of the scan -/

section

variable (W : Dev nD → Valuation τ sig (Elt F)) (c : Dev nD)

/-- The carried state's buffer. -/
abbrev scM : Memref sig .tc .vmem S8x128x128 .f32 := Memref.whole cc1_scratch0

/-- The carried state's buffer before point `n`: at anything before the first. -/
def carry : ℕ → sProp 𝕄
  | 0 => iprop(∃ d, owns (c : Thread nD τ) scM fullShare d)
  | n + 1 => owns (c : Thread nD τ) scM fullShare (stAt W c (n + 1))

theorem carry_pos (n : ℕ) (h : n ≠ 0) : carry W c n = owns (c : Thread nD τ) scM fullShare (stAt W c n) := by
  cases n with
  | zero => exact absurd rfl h
  | succ n => rfl

/-- The carried state with every other scoped buffer the scan does not stage. -/
def phi (n : ℕ) : sProp 𝕄 :=
  iprop(carry W c n ∗ Pipeline.scopedRestBut (Ix := Unit) (Name := ℕ) (U := UR sig nD τ) (Lvl := ℕ) (Val := Elt F) spec1 c [cc1_scratch0])

/-- The scan's data: each array as it finds it, each input block left in place, each output block as above. -/
def dat : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => out0 W c t
    | ⟨9, _⟩ => out1 W c t
    | ⟨10, _⟩ => out2 W c t
    | ⟨11, _⟩ => out3 W c t
    | ⟨12, _⟩ => out4 W c t
    | ⟨13, _⟩ => out5 W c t
  Φ t := phi W c t.val
  q _ := fullShare
  owed _ := 0

theorem A_eq (w : Fin cfg1.W) : (dat W c).A w = W c (Proc.devRef .tc (Pipeline.arrRef spec1 w)) := by dsimp only [dat]

theorem after_0 (t : Fin cfg1.N) : (dat W c).after 0 t = iblk W c 0 t := by dsimp only [dat]
theorem after_1 (t : Fin cfg1.N) : (dat W c).after 1 t = iblk W c 1 t := by dsimp only [dat]
theorem after_2 (t : Fin cfg1.N) : (dat W c).after 2 t = iblk W c 2 t := by dsimp only [dat]
theorem after_3 (t : Fin cfg1.N) : (dat W c).after 3 t = iblk W c 3 t := by dsimp only [dat]
theorem after_4 (t : Fin cfg1.N) : (dat W c).after 4 t = iblk W c 4 t := by dsimp only [dat]
theorem after_5 (t : Fin cfg1.N) : (dat W c).after 5 t = iblk W c 5 t := by dsimp only [dat]
theorem after_6 (t : Fin cfg1.N) : (dat W c).after 6 t = iblk W c 6 t := by dsimp only [dat]
theorem after_7 (t : Fin cfg1.N) : (dat W c).after 7 t = iblk W c 7 t := by dsimp only [dat]
theorem after_8 (t : Fin cfg1.N) : (dat W c).after 8 t = out0 W c t := by dsimp only [dat]
theorem after_9 (t : Fin cfg1.N) : (dat W c).after 9 t = out1 W c t := by dsimp only [dat]
theorem after_10 (t : Fin cfg1.N) : (dat W c).after 10 t = out2 W c t := by dsimp only [dat]
theorem after_11 (t : Fin cfg1.N) : (dat W c).after 11 t = out3 W c t := by dsimp only [dat]
theorem after_12 (t : Fin cfg1.N) : (dat W c).after 12 t = out4 W c t := by dsimp only [dat]
theorem after_13 (t : Fin cfg1.N) : (dat W c).after 13 t = out5 W c t := by dsimp only [dat]

theorem before_0 (t : Fin cfg1.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg1.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg1.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (t : Fin cfg1.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (t : Fin cfg1.N) (d) : (dat W c).before 4 t d = iblk W c 4 t :=
  ((dat W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (t : Fin cfg1.N) (d) : (dat W c).before 5 t d = iblk W c 5 t :=
  ((dat W c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (t : Fin cfg1.N) (d) : (dat W c).before 6 t d = iblk W c 6 t :=
  ((dat W c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (t : Fin cfg1.N) (d) : (dat W c).before 7 t d = iblk W c 7 t :=
  ((dat W c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

theorem phi_castSucc (t : Fin cfg1.N) : (dat W c).Φ t.castSucc = phi W c t.val := rfl
theorem phi_succ (t : Fin cfg1.N) : (dat W c).Φ t.succ = phi W c (t.val + 1) := rfl

/-! ## The body at a point -/

abbrev ms0 (t : Fin cfg1.N) : Memref sig .tc .vmem S8x256x128 .f32 := win1_0.stage (cfg1.slots t 0)
abbrev ms1 (t : Fin cfg1.N) : Memref sig .tc .vmem S8x4x64x64 .f32 := win1_1.stage (cfg1.slots t 1)
abbrev ms2 (t : Fin cfg1.N) : Memref sig .tc .vmem S8x256x128 .f32 := win1_2.stage (cfg1.slots t 2)
abbrev ms3 (t : Fin cfg1.N) : Memref sig .tc .vmem S8x256x128 .f32 := win1_3.stage (cfg1.slots t 3)
abbrev ms4 (t : Fin cfg1.N) : Memref sig .tc .vmem S8x256x128 .f32 := win1_4.stage (cfg1.slots t 4)
abbrev ms5 (t : Fin cfg1.N) : Memref sig .tc .vmem S8x4x1x128 .f32 := win1_5.stage (cfg1.slots t 5)
abbrev ms6 (t : Fin cfg1.N) : Memref sig .tc .vmem S4x8x128x128 .f32 := win1_6.stage (cfg1.slots t 6)
abbrev ms7 (t : Fin cfg1.N) : Memref sig .tc .vmem S8x256x128 .f32 := win1_7.stage (cfg1.slots t 7)
abbrev ms8 (t : Fin cfg1.N) : Memref sig .tc .vmem S8x256x128 .f32 := win1_8.stage (cfg1.slots t 8)
abbrev ms9 (t : Fin cfg1.N) : Memref sig .tc .vmem S8x4x64x64 .f32 := win1_9.stage (cfg1.slots t 9)
abbrev ms10 (t : Fin cfg1.N) : Memref sig .tc .vmem S8x256x128 .f32 := win1_10.stage (cfg1.slots t 10)
abbrev ms11 (t : Fin cfg1.N) : Memref sig .tc .vmem S8x256x128 .f32 := win1_11.stage (cfg1.slots t 11)
abbrev ms12 (t : Fin cfg1.N) : Memref sig .tc .vmem S8x256x128 .f32 := win1_12.stage (cfg1.slots t 12)
abbrev ms13 (t : Fin cfg1.N) : Memref sig .tc .vmem S8x4x1x128 .f32 := win1_13.stage (cfg1.slots t 13)

/-- What the body is called with at point `t`. -/
def bodyPre (t : Fin cfg1.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d))
    ∗ (∃ d, owns (c : Thread nD τ) (ms7 t) fullShare ((dat W c).before 7 t d))
    ∗ (∃ d, owns (c : Thread nD τ) (ms8 t) fullShare ((dat W c).before 8 t d))
    ∗ (∃ d, owns (c : Thread nD τ) (ms9 t) fullShare ((dat W c).before 9 t d))
    ∗ (∃ d, owns (c : Thread nD τ) (ms10 t) fullShare ((dat W c).before 10 t d))
    ∗ (∃ d, owns (c : Thread nD τ) (ms11 t) fullShare ((dat W c).before 11 t d))
    ∗ (∃ d, owns (c : Thread nD τ) (ms12 t) fullShare ((dat W c).before 12 t d))
    ∗ (∃ d, owns (c : Thread nD τ) (ms13 t) fullShare ((dat W c).before 13 t d)))

/-- What it returns. -/
def bodyPost (t : Fin cfg1.N) : sProp 𝕄 :=
  iprop((dat W c).Φ t.succ ∗ (dat W c).owesAt () t.succ
    ∗ owns (c : Thread nD τ) (ms0 t) fullShare ((dat W c).after 0 t)
    ∗ owns (c : Thread nD τ) (ms1 t) fullShare ((dat W c).after 1 t)
    ∗ owns (c : Thread nD τ) (ms2 t) fullShare ((dat W c).after 2 t)
    ∗ owns (c : Thread nD τ) (ms3 t) fullShare ((dat W c).after 3 t)
    ∗ owns (c : Thread nD τ) (ms4 t) fullShare ((dat W c).after 4 t)
    ∗ owns (c : Thread nD τ) (ms5 t) fullShare ((dat W c).after 5 t)
    ∗ owns (c : Thread nD τ) (ms6 t) fullShare ((dat W c).after 6 t)
    ∗ owns (c : Thread nD τ) (ms7 t) fullShare ((dat W c).after 7 t)
    ∗ owns (c : Thread nD τ) (ms8 t) fullShare ((dat W c).after 8 t)
    ∗ owns (c : Thread nD τ) (ms9 t) fullShare ((dat W c).after 9 t)
    ∗ owns (c : Thread nD τ) (ms10 t) fullShare ((dat W c).after 10 t)
    ∗ owns (c : Thread nD τ) (ms11 t) fullShare ((dat W c).after 11 t)
    ∗ owns (c : Thread nD τ) (ms12 t) fullShare ((dat W c).after 12 t)
    ∗ owns (c : Thread nD τ) (ms13 t) fullShare ((dat W c).after 13 t))

set_option maxHeartbeats 6400000 in
/-- The body at any point: it takes the carried state to the next and leaves each block as stated. -/
theorem sound_body (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5, before_6, before_7]
  rw [show (dat W c).owesAt () t.succ = (dat W c).owesAt () t.castSucc from rfl,
    after_0, after_1, after_2, after_3, after_4, after_5, after_6, after_7, after_8, after_9, after_10, after_11, after_12, after_13, phi_castSucc, phi_succ]
  unfold phi
  rw [carry_pos W c (t.val + 1) (Nat.succ_ne_zero _), stAt_succ]
  unfold out0 out1 out2 out3 out4 out5
  by_cases h0 : t.val = 0
  · rw [h0, show carry W c 0 = iprop(∃ d, owns (c : Thread nD τ) scM fullShare d) from rfl, show stAt W c 0 = zeroSt from rfl]
    unfold blkAt
    iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runA (F := F) c (grid1.coords t) _ _ _ _ _ _ _ _ _ _ _ _ _ _ _ _ _ _ _ _ _ _ _ _ _ _ _ _ _ _ (iblk W c 0 t) (iblk W c 1 t) (iblk W c 2 t) (iblk W c 3 t) (iblk W c 4 t) (iblk W c 5 t) (iblk W c 6 t) (iblk W c 7 t) ((first_iff t).mpr h0)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [Hs]; · iexact Hs
    iintro ⟨H0, H1, H2, H3, H4, H5, H6, H7, ⟨%e8, H8⟩, ⟨%e9, H9⟩, ⟨%e10, H10⟩, ⟨%e11, H11⟩, ⟨%e12, H12⟩, ⟨%e13, H13⟩, ⟨%es, Hs⟩⟩
    isplitl [Hs Hr]
    · isplitl [Hs]
      · unfold owns; iexists _; isplitr; swap; · iexact Hs
        ipureintro; rw [runA_s]; exact (View.read_writes_eq_canon _ _ _ (scover _ _)).trans (scanon _ _)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr; swap; · iexact H8
      ipureintro; rw [runA_q]; exact View.read_writes_eq_canon _ _ _ (cover0 _ _ _ _ _)
    isplitl [H9]
    · unfold owns; iexists _; isplitr; swap; · iexact H9
      ipureintro; rw [runA_a]; exact View.read_writes_eq_canon _ _ _ (cover1 _ _ _ _ _)
    isplitl [H10]
    · unfold owns; iexists _; isplitr; swap; · iexact H10
      ipureintro; rw [runA_u]; exact View.read_writes_eq_canon _ _ _ (cover2 _ _ _ _ _)
    isplitl [H11]
    · unfold owns; iexists _; isplitr; swap; · iexact H11
      ipureintro; rw [runA_w]; exact View.read_writes_eq_canon _ _ _ (cover3 _ _ _ _ _)
    isplitl [H12]
    · unfold owns; iexists _; isplitr; swap; · iexact H12
      ipureintro; rw [runA_k]; exact View.read_writes_eq_canon _ _ _ (cover4 _ _ _ _ _)
    unfold owns; iexists _; isplitr; swap; · iexact H13
    ipureintro; rw [runA_g]; exact View.read_writes_eq_canon _ _ _ (cover5 _ _ _ _ _)
  · rw [carry_pos W c t.val h0]
    unfold blkAt
    iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runB (F := F) c (grid1.coords t) _ _ _ _ _ _ _ _ _ _ _ _ _ _ _ _ _ _ _ _ _ _ _ _ _ _ _ _ _ _ (iblk W c 0 t) (iblk W c 1 t) (iblk W c 2 t) (iblk W c 3 t) (iblk W c 4 t) (iblk W c 5 t) (iblk W c 6 t) (iblk W c 7 t) (fun h => h0 ((first_iff t).mp h)) (stAt W c t.val)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [Hs]; · iexact Hs
    iintro ⟨H0, H1, H2, H3, H4, H5, H6, H7, ⟨%e8, H8⟩, ⟨%e9, H9⟩, ⟨%e10, H10⟩, ⟨%e11, H11⟩, ⟨%e12, H12⟩, ⟨%e13, H13⟩, ⟨%es, Hs⟩⟩
    isplitl [Hs Hr]
    · isplitl [Hs]
      · unfold owns; iexists _; isplitr; swap; · iexact Hs
        ipureintro; rw [runB_s]; exact (View.read_writes_eq_canon _ _ _ (scover _ _)).trans (scanon _ _)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr; swap; · iexact H8
      ipureintro; rw [runB_q]; exact View.read_writes_eq_canon _ _ _ (cover0 _ _ _ _ _)
    isplitl [H9]
    · unfold owns; iexists _; isplitr; swap; · iexact H9
      ipureintro; rw [runB_a]; exact View.read_writes_eq_canon _ _ _ (cover1 _ _ _ _ _)
    isplitl [H10]
    · unfold owns; iexists _; isplitr; swap; · iexact H10
      ipureintro; rw [runB_u]; exact View.read_writes_eq_canon _ _ _ (cover2 _ _ _ _ _)
    isplitl [H11]
    · unfold owns; iexists _; isplitr; swap; · iexact H11
      ipureintro; rw [runB_w]; exact View.read_writes_eq_canon _ _ _ (cover3 _ _ _ _ _)
    isplitl [H12]
    · unfold owns; iexists _; isplitr; swap; · iexact H12
      ipureintro; rw [runB_k]; exact View.read_writes_eq_canon _ _ _ (cover4 _ _ _ _ _)
    unfold owns; iexists _; isplitr; swap; · iexact H13
    ipureintro; rw [runB_g]; exact View.read_writes_eq_canon _ _ _ (cover5 _ _ _ _ _)

theorem defs₀_row (t : Fin cfg1.N) :
    defs₀ (F := F) .tc cfg1.body (cfg1.bodyArgs t (cfg1.slots t)) = bodyAt1 t := by
  unfold defs₀; rw [Defs.onTc_tc]

theorem body_obligation : BodyObligation (dat W c) (defs₀ (F := F)) Variants.none () Set.univ := fun t => by
  rw [bigSep_W1, bigSep_W1, defs₀_row]
  exact triple_restated (sound_body W c t) rfl .rfl fun _ => .rfl

/-! ## Into and out of the scan -/

theorem rest_eq :
    (Pipeline.scopedRest (Ix := Unit) (Name := ℕ) (U := UR sig nD τ) (Lvl := ℕ) (Val := Elt F) spec1 c : sProp 𝕄) = phi W c 0 := by
  unfold phi carry
  simp only [scM, owns_whole]
  exact Pipeline.scopedRest_split_of_list spec1 c [cc1_scratch0] (by decide) (by decide)

theorem hin : iprop(Pipeline.scopedRest (Ix := Unit) (Name := ℕ) (U := UR sig nD τ) (Lvl := ℕ) (Val := Elt F) spec1 c ∗ (BI.emp : sProp 𝕄))
    ⊢ (dat W c).Φ 0 := by
  rw [show (dat W c).Φ 0 = phi W c 0 from rfl, rest_eq W c]
  iintro ⟨H, -⟩; iexact H

theorem hout : (dat W c).Φ (Fin.last cfg1.N)
    ⊢ iprop(Pipeline.scopedRest (Ix := Unit) (Name := ℕ) (U := UR sig nD τ) (Lvl := ℕ) (Val := Elt F) spec1 c ∗ (BI.emp : sProp 𝕄)) := by
  rw [show (dat W c).Φ (Fin.last cfg1.N) = phi W c cfg1.N from rfl, rest_eq W c]
  unfold phi
  rw [carry_pos W c _ (show cfg1.N ≠ 0 from by rw [show cfg1.N = 64 from N_1]; decide), show carry W c 0 = iprop(∃ d, owns (c : Thread nD τ) scM fullShare d) from rfl]
  iintro ⟨Hs, Hr⟩
  isplitl [Hs Hr]
  · isplitl [Hs]
    · iexists _; iexact Hs
    iexact Hr
  iempintro

end
end Cert.Bwd
end
-- ==== Proof.Launch.lean ====
/- The two scans one after the other: every execution ends, and every array ends at what the two scans' data say. -/
module

public import proofs.«01_k».proof.Proof.FwdFrame
public import proofs.«01_k».proof.Proof.BwdFrame
public import proofs.«01_k».proof.Proof.Gen.KernelIdeal.Regions
public import Idealize.ShloMosaic.Lib.Pipeline.Frame
public import Idealize.ShloMosaic.Lib.Pipeline.Regions
public import Idealize.ShloMosaic.Lib.Pipeline.RegionArraysS
public import Idealize.ShloMosaic.Lib.Claim

@[expose] public section

set_option maxRecDepth 16384

noncomputable section

namespace Cert.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of every buffer at launch. -/
def W0 : Dev nD → Valuation τ sig (Elt F) := fun c b => m (c, b)
/-- The contents of every buffer between the scans. -/
def W1 : Dev nD → Valuation τ sig (Elt F) := fun c => Pipeline.afterRegion (Fwd.dat (W0 m) c) (W0 m c)
/-- The contents of every buffer at the end. -/
def W2 : Dev nD → Valuation τ sig (Elt F) := fun c => Pipeline.afterRegion (Bwd.dat (W1 m) c) (W1 m c)

/-- Both scans' data, the second's from what the first leaves. -/
def dats : (p : Fin 2) → (c : Dev nD) → Dat τ (Elt F) Unit ℕ (UR sig nD τ) ℕ (cfgs p) c
  | ⟨0, _⟩ => Fwd.dat (W0 m)
  | ⟨1, _⟩ => Bwd.dat (W1 m)

/-- The one index of dues, at every cell of a core. -/
abbrev L : GSem nD τ sig → Finset Unit := fun g => if g.1.2 = .tc then {()} else ∅
abbrev lv : GSem nD τ sig → Unit → ℕ := fun _ _ => 0

theorem cut (p : Fin 2) : Pipeline.LevelCut (pcfgs (F := F)) (adm (F := F)) () L lv p (fun _ => 0) (fun _ => 0) where
  hι c w s := by simp [L]
  hιb c w s := le_rfl
  hD c g i h := absurd h (lt_irrefl _)

/-- The first scan. -/
def reg0 : RegionSeg (pcfgs (F := F)) (adm (F := F)) (dats m) () defs₀ Variants.none L lv 0 :=
  RegionSeg.ofHeldIn (pcfgs (F := F)) (adm (F := F)) (dats m) () defs₀ Variants.none L lv 0 (fun _ => 0) (Pipeline.ucRefs τ sig)
    (fun _ => iprop(emp)) (fun _ => iprop(emp)) launch0.toP rfl
    (fun c => (Fwd.body_obligation (W0 m) c).loose) (fun _ _ => rfl) (fun _ => rfl)
    (fun c => (Fwd.dat (W0 m) c).share_full fun _ => rfl) (Fwd.hin (W0 m)) (Fwd.hout (W0 m)) (fun _ => 0) (cut 0)
    (fun _ => iprop(emp)) (W0 m) (fun _ _ => rfl)

/-- The second scan. -/
def reg1 : RegionSeg (pcfgs (F := F)) (adm (F := F)) (dats m) () defs₀ Variants.none L lv 1 :=
  RegionSeg.ofHeldIn (pcfgs (F := F)) (adm (F := F)) (dats m) () defs₀ Variants.none L lv 1 (fun _ => 0) (Pipeline.ucRefs τ sig)
    (fun _ => iprop(emp)) (fun _ => iprop(emp)) launch1.toP rfl
    (fun c => (Bwd.body_obligation (W1 m) c).loose) (fun _ _ => rfl) (fun _ => rfl)
    (fun c => (Bwd.dat (W1 m) c).share_full fun _ => rfl) (Bwd.hin (W1 m)) (Bwd.hout (W1 m)) (fun _ => 0) (cut 1)
    (fun _ => iprop(emp)) (W1 m) (fun _ _ => rfl)

/-- What a core owes between the scans: nothing. -/
abbrev R (c : Dev nD) : sProp 𝕄 :=
  iprop((∃ Wd, owes (c : Thread nD τ) (0 : CellTallies nD τ sig Unit) Wd) ∗ (BI.emp : sProp 𝕄) ∗ (BI.emp : sProp 𝕄))

theorem sub0 : Pipeline.arrRefs (τ := τ) (pcfgs (F := F) 0).spec ⊆ Pipeline.ucRefs τ sig := Pipeline.arrRefs_sub_ucRefs spec0 winFacts0.arr_unscoped
theorem sub1 : Pipeline.arrRefs (τ := τ) (pcfgs (F := F) 1).spec ⊆ Pipeline.ucRefs τ sig := Pipeline.arrRefs_sub_ucRefs spec1 winFacts1.arr_unscoped

set_option backward.isDefEq.respectTransparency.types false in
theorem pre0 (c : Dev nD) : iprop(StableHlo.held (c : Thread nD τ) (Pipeline.ucRefs τ sig) (W0 m c) ∗ R c) ⊢ (reg0 m).pre c :=
  by unfold reg0; exact RegionSeg.ofHeldIn_pre (p := 0) (D := fun _ => 0) (X := fun _ => iprop(emp)) (Y := fun _ => iprop(emp)) (R := fun _ => iprop(emp)) (W := W0 m) (sub0 (F := F)) c
set_option backward.isDefEq.respectTransparency.types false in
theorem post0 (c : Dev nD) : (reg0 m).post c ⊢ iprop(StableHlo.held (c : Thread nD τ) (Pipeline.ucRefs τ sig) (W1 m c) ∗ R c) :=
  by unfold reg0; exact RegionSeg.ofHeldIn_post (p := 0) (sub0 (F := F)) c
set_option backward.isDefEq.respectTransparency.types false in
theorem pre1 (c : Dev nD) : iprop(StableHlo.held (c : Thread nD τ) (Pipeline.ucRefs τ sig) (W1 m c) ∗ R c) ⊢ (reg1 m).pre c :=
  by unfold reg1; exact RegionSeg.ofHeldIn_pre (p := 1) (D := fun _ => 0) (X := fun _ => iprop(emp)) (Y := fun _ => iprop(emp)) (R := fun _ => iprop(emp)) (W := W1 m) (sub1 (F := F)) c
set_option backward.isDefEq.respectTransparency.types false in
theorem post1 (c : Dev nD) : (reg1 m).post c ⊢ iprop(StableHlo.held (c : Thread nD τ) (Pipeline.ucRefs τ sig) (W2 m c) ∗ R c) :=
  by unfold reg1; exact RegionSeg.ofHeldIn_post (p := 1) (sub1 (F := F)) c

/-- The program as the list of the two. -/
abbrev segs : List (Seg (pcfgs (F := F)) (adm (F := F)) (dats m) () defs₀ Variants.none L lv) := [.region (reg0 m), .region (reg1 m)]

set_option backward.isDefEq.respectTransparency.types false in
/-- Every fair execution ends, with every buffer that outlives the scans at `W2` and every counter at zero. -/
theorem run_main : θ_run defs (onTc (τ := τ) (main (F := F))) ⟨m, fun _ => 0, ρ⟩
    (fun r => (∀ c : Dev nD, ∀ b ∈ Pipeline.ucRefs τ sig, r.2.mem (c, b) = W2 m c b) ∧ r.2.sem = fun _ => 0) := by
  refine Pipeline.θ_run_regions_kit_dev_sems (pcfgs (F := F)) (adm (F := F)) (dats m) () cellOf_inj (emb₁ (A := UR sig nD τ)) defs₀ Variants.none L lv m ρ main
    (fun _ => segs m)
    (fun c Q => by
      rewrite [main_chain c, Seg.run_eq_chain,
        show (segs m).map Seg.prog = [Prog.lift (.customCall (Pipeline.entry 0) ()), Prog.lift (.customCall (Pipeline.entry 1) ())] from rfl]
      dsimp (config := { failIfUnchanged := false }) only
      exact .rfl)
    (fun c => by simp only [segs, Seg.pipes_host, Seg.pipes_region, Seg.pipes_nil]; decide)
    (O₀ := 0) (hL := fun g hg => if_neg hg) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (W0 m c) ∗ R c))
    (Tₙ := fun c => StableHlo.held (c : Thread nD τ) (Pipeline.ucRefs τ sig) (W2 m c))
    (hch := fun c => ⟨pre0 m c, (post0 m c).trans (pre1 m c), (post1 m c).trans (sep_mono .rfl (by iintro ⟨H, -, -⟩; iexact H))⟩)
    (hinit := ?_) (QY := fun c s => ∀ b ∈ Pipeline.ucRefs τ sig, s.mem (c, b) = W2 m c b)
    (hfin := fun c s' => ?_) (hQ := fun _ h hz => ⟨h, funext fun g => hz g (.inr (regions_no_unscoped g.2))⟩)
  · iintro Hu; imodintro
    isplitl [Hu]
    · iapply (show (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (W0 m c) from Pipeline.unscopedBufs_held c (W0 m c)]
    iintro ⟨⟨Hh, -, HO, -, -, -⟩, -⟩
    imodintro
    isplitl [Hh]; · iexact Hh
    isplitl [HO]; · iexists ∅; iexact HO
    isplitl; · iempintro
    iempintro
  · unfold StableHlo.held
    iintro ⟨Hh, HSI⟩
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr
    · ipureintro; exact h
    · iexact HSI

end Cert.Launch
end
-- ==== Proof.RefOps.lean ====
/- The reference's operations between its loops and in them, its run with both loops, and what is left unchanged. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Tactic

@[expose] public section

set_option maxRecDepth 16384

noncomputable section

namespace Cert.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

/-! ## A row read, a row written -/

/-- A typed reference to numbers. -/
abbrev Fl (s : Shape) := TRef sig ⟨s, .f32⟩
/-- A typed reference to one index. -/
abbrev Ix := TRef sig ⟨S_, .i32⟩
/-- An array's contents. -/
abbrev Co (F : FTy → Type) (s : Shape) := (⟨s, .f32⟩ : BufTy).Contents (Elt F)
/-- A line of operations. -/
abbrev Line (F : FTy → Type) := List (HloOp τ sig (Elt F))
/-- Every operation of a line touches only the chip's buffers. -/
abbrev Within (l : Line F) : Prop := l.Forall fun op => op.bufs ⊆ tcRefs τ sig
/-- No operation of a line allocates. -/
abbrev Still (l : Line F) : Prop := l.Forall fun op => op.fresh = ∅
/-- A line writes only the buffers listed. -/
abbrev Writes (l : Line F) (W : List (Ref sig .tc)) : Prop := l.Forall fun op => op.writes ⊆ (W.map (Proc.devRef (τ := τ) .tc)).toFinset

/-- Row `i` of `x` read to `z`. -/
abbrev readOps {a b c : ℕ} (x : Fl ⟨4, ![256, a, b, c]⟩) (i c0 c1 c2 : Ix) (y : Fl ⟨4, ![1, a, b, c]⟩) (z : Fl ⟨3, ![a, b, c]⟩)
    (hf : (⟨4, ![256, a, b, c]⟩ : Shape).Slices (fun _ => 0) ⟨4, ![1, a, b, c]⟩) (hc : (⟨4, ![1, a, b, c]⟩ : Shape).ShapeCasts ⟨3, ![a, b, c]⟩) : Line F :=
  [ TRef.nullary c0 (constantI S_ 32 0#32), TRef.nullary c1 (constantI S_ 32 0#32), TRef.nullary c2 (constantI S_ 32 0#32),
    TRef.unaryIndexed x ![i, c0, c1, c2] y (fun x i => Host.dynamicSlice _ x (fun k => (i k (Shape.Idx.first h_S_)).toInt) hf),
    TRef.reshape y z (rfl : (.f32 : EltTy) = .f32) hc ]

theorem read_within {a b c : ℕ} (x : Fl ⟨4, ![256, a, b, c]⟩) (i c0 c1 c2 : Ix) (y : Fl ⟨4, ![1, a, b, c]⟩) (z : Fl ⟨3, ![a, b, c]⟩) (hf) (hc) :
    Within (F := F) (readOps x i c0 c1 c2 y z hf hc) :=
  ⟨nullary_bufs_sub .., nullary_bufs_sub .., nullary_bufs_sub .., unaryIndexed_bufs_sub .., reshape_bufs_sub ..⟩

/-- `v` written to row `i` of `x`, the whole left in `z`. -/
abbrev writeOps {a b c : ℕ} (v : Fl ⟨3, ![a, b, c]⟩) (y : Fl ⟨4, ![1, a, b, c]⟩) (c0 c1 c2 : Ix) (x : Fl ⟨4, ![256, a, b, c]⟩) (i : Ix) (z : Fl ⟨4, ![256, a, b, c]⟩)
    (hb : (⟨3, ![a, b, c]⟩ : Shape).BroadcastsInDim ⟨4, ![1, a, b, c]⟩ ![1, 2, 3]) (hf : (⟨4, ![256, a, b, c]⟩ : Shape).Slices (fun _ => 0) ⟨4, ![1, a, b, c]⟩) : Line F :=
  [ TRef.unary v y (broadcastInDim _ ![1, 2, 3] hb), TRef.nullary c0 (constantI S_ 32 0#32), TRef.nullary c1 (constantI S_ 32 0#32), TRef.nullary c2 (constantI S_ 32 0#32),
    TRef.binaryIndexed x y ![i, c0, c1, c2] z (fun x u i => Host.dynamicUpdateSlice x u (fun k => (i k (Shape.Idx.first h_S_)).toInt) hf) ]
theorem write_within {a b c : ℕ} (v : Fl ⟨3, ![a, b, c]⟩) (y : Fl ⟨4, ![1, a, b, c]⟩) (c0 c1 c2 : Ix) (x : Fl ⟨4, ![256, a, b, c]⟩) (i : Ix) (z : Fl ⟨4, ![256, a, b, c]⟩) (hb) (hf) :
    Within (F := F) (writeOps v y c0 c1 c2 x i z hb hf) :=
  ⟨unary_bufs_sub .., nullary_bufs_sub .., nullary_bufs_sub .., nullary_bufs_sub .., binaryIndexed_bufs_sub ..⟩

/-- Before the first loop. -/
abbrev preOps : Line F :=
  [ reshape main_arg0 main_v0 (rfl : (.f32 : EltTy) = .f32) shapeCasts_S8x16384x128_S8x256x64x128,
    unary main_v0 main_v1 ((transpose S256x8x64x128 [1, 0, 2, 3] · transposes_S8x256x64x128_S256x8x64x128_1_0_2_3) : Co F S8x256x64x128 → Co F S256x8x64x128),
    unary main_arg1 main_v2 ((transpose S256x8x64x64 [1, 0, 2, 3] · transposes_S8x256x64x64_S256x8x64x64_1_0_2_3) : Co F S8x256x64x64 → Co F S256x8x64x64),
    reshape main_arg2 main_v3 (rfl : (.f32 : EltTy) = .f32) shapeCasts_S8x16384x128_S8x256x64x128,
    unary main_v3 main_v4 ((transpose S256x8x64x128 [1, 0, 2, 3] · transposes_S8x256x64x128_S256x8x64x128_1_0_2_3) : Co F S8x256x64x128 → Co F S256x8x64x128),
    reshape main_arg3 main_v5 (rfl : (.f32 : EltTy) = .f32) shapeCasts_S8x16384x128_S8x256x64x128,
    unary main_v5 main_v6 ((transpose S256x8x64x128 [1, 0, 2, 3] · transposes_S8x256x64x128_S256x8x64x128_1_0_2_3) : Co F S8x256x64x128 → Co F S256x8x64x128),
    reshape main_arg4 main_v7 (rfl : (.f32 : EltTy) = .f32) shapeCasts_S8x16384x128_S8x256x64x128,
    unary main_v7 main_v8 ((transpose S256x8x64x128 [1, 0, 2, 3] · transposes_S8x256x64x128_S256x8x64x128_1_0_2_3) : Co F S8x256x64x128 → Co F S256x8x64x128),
    unary main_arg5 main_v9 ((transpose S256x8x1x128 [1, 0, 2, 3] · transposes_S8x256x1x128_S256x8x1x128_1_0_2_3) : Co F S8x256x1x128 → Co F S256x8x1x128),
    nullary main_cst (constant S_ .f32 0x00000000#32),
    unary main_cst main_v10 (broadcastInDim S8x128x128 ![] bcast_S_S8x128x128 : Co F S_ → Co F S8x128x128),
    nullary main_cst_0 (constant S_ .f32 0x00000000#32),
    unary main_cst_0 main_v11 (broadcastInDim S256x8x64x128 ![] bcast_S_S256x8x64x128 : Co F S_ → Co F S256x8x64x128),
    nullary main_cst_1 (constant S_ .f32 0x00000000#32),
    unary main_cst_1 main_v12 (broadcastInDim S256x8x128x128 ![] bcast_S_S256x8x128x128 : Co F S_ → Co F S256x8x128x128),
    nullary main_cst_2 (constant S_ .f32 0x00000000#32),
    unary main_cst_2 main_v13 (broadcastInDim S256x8x64x128 ![] bcast_S_S256x8x64x128 : Co F S_ → Co F S256x8x64x128),
    nullary main_cst_3 (constant S_ .f32 0x00000000#32),
    unary main_cst_3 main_v14 (broadcastInDim S256x8x1x128 ![] bcast_S_S256x8x1x128 : Co F S_ → Co F S256x8x1x128),
    nullary main_c (constantI S_ 32 0#32),
    unary main_v1 main_v15_0 id,
    unary main_v2 main_v15_1 id,
    unary main_v4 main_v15_2 id,
    unary main_v6 main_v15_3 id,
    unary main_v8 main_v15_4 id,
    unary main_v9 main_v15_5 id,
    unary main_c main_v15_6 id,
    unary main_v10 main_v15_7 id,
    unary main_v11 main_v15_8 id,
    unary main_v12 main_v15_9 id,
    unary main_v13 main_v15_10 id,
    unary main_v14 main_v15_11 id ]
theorem preOps_sub : Within (F := F) preOps :=
  ⟨reshape_bufs_sub .., unary_bufs_sub .., unary_bufs_sub .., reshape_bufs_sub .., unary_bufs_sub .., reshape_bufs_sub .., unary_bufs_sub .., reshape_bufs_sub .., unary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem preOps_fresh : Still (F := F) preOps := forall_fresh_of_map rfl
abbrev preOps_W : List (Ref sig .tc) := [main_v0, main_v1, main_v2, main_v3, main_v4, main_v5, main_v6, main_v7, main_v8, main_v9, main_cst, main_v10, main_cst_0, main_v11, main_cst_1, main_v12, main_cst_2, main_v13, main_cst_3, main_v14, main_c, main_v15_0, main_v15_1, main_v15_2, main_v15_3, main_v15_4, main_v15_5, main_v15_6, main_v15_7, main_v15_8, main_v15_9, main_v15_10, main_v15_11]
theorem preOps_writes : Writes (F := F) preOps preOps_W := forall_writes_sub_of_map rfl

/-- Between the loops. -/
abbrev midOps : Line F :=
  [ unary main_v15_8 main_v16 ((transpose S8x256x64x128 [1, 0, 2, 3] · transposes_S256x8x64x128_S8x256x64x128_1_0_2_3) : Co F S256x8x64x128 → Co F S8x256x64x128),
    reshape main_v16 main_v17 (rfl : (.f32 : EltTy) = .f32) shapeCasts_S8x256x64x128_S8x16384x128,
    nullary main_cst_4 (constant S_ .f32 0x00000000#32),
    unary main_cst_4 main_v18 (broadcastInDim S8x128x128 ![] bcast_S_S8x128x128 : Co F S_ → Co F S8x128x128),
    reshape main_arg6 main_v19 (rfl : (.f32 : EltTy) = .f32) shapeCasts_S8x16384x128_S8x256x64x128,
    unary main_v19 main_v20 ((transpose S256x8x64x128 [1, 0, 2, 3] · transposes_S8x256x64x128_S256x8x64x128_1_0_2_3) : Co F S8x256x64x128 → Co F S256x8x64x128),
    nullary main_cst_5 (constant S_ .f32 0x00000000#32),
    unary main_cst_5 main_v21 (broadcastInDim S8x128x128 ![] bcast_S_S8x128x128 : Co F S_ → Co F S8x128x128),
    nullary main_cst_6 (constant S_ .f32 0x00000000#32),
    unary main_cst_6 main_v22 (broadcastInDim S256x8x64x128 ![] bcast_S_S256x8x64x128 : Co F S_ → Co F S256x8x64x128),
    nullary main_cst_7 (constant S_ .f32 0x00000000#32),
    unary main_cst_7 main_v23 (broadcastInDim S256x8x64x64 ![] bcast_S_S256x8x64x64 : Co F S_ → Co F S256x8x64x64),
    nullary main_cst_8 (constant S_ .f32 0x00000000#32),
    unary main_cst_8 main_v24 (broadcastInDim S256x8x64x128 ![] bcast_S_S256x8x64x128 : Co F S_ → Co F S256x8x64x128),
    nullary main_cst_9 (constant S_ .f32 0x00000000#32),
    unary main_cst_9 main_v25 (broadcastInDim S256x8x64x128 ![] bcast_S_S256x8x64x128 : Co F S_ → Co F S256x8x64x128),
    nullary main_cst_10 (constant S_ .f32 0x00000000#32),
    unary main_cst_10 main_v26 (broadcastInDim S256x8x64x128 ![] bcast_S_S256x8x64x128 : Co F S_ → Co F S256x8x64x128),
    nullary main_cst_11 (constant S_ .f32 0x00000000#32),
    unary main_cst_11 main_v27 (broadcastInDim S256x8x1x128 ![] bcast_S_S256x8x1x128 : Co F S_ → Co F S256x8x1x128),
    nullary main_c_12 (constantI S_ 32 0#32),
    unary main_v20 main_v28_0 id,
    unary main_v15_9 main_v28_1 id,
    unary main_v6 main_v28_2 id,
    unary main_v1 main_v28_3 id,
    unary main_v15_10 main_v28_4 id,
    unary main_v2 main_v28_5 id,
    unary main_v15_11 main_v28_6 id,
    unary main_v8 main_v28_7 id,
    unary main_c_12 main_v28_8 id,
    unary main_v21 main_v28_9 id,
    unary main_v22 main_v28_10 id,
    unary main_v23 main_v28_11 id,
    unary main_v24 main_v28_12 id,
    unary main_v25 main_v28_13 id,
    unary main_v26 main_v28_14 id,
    unary main_v27 main_v28_15 id ]
theorem midOps_sub : Within (F := F) midOps :=
  ⟨unary_bufs_sub .., reshape_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem midOps_fresh : Still (F := F) midOps := forall_fresh_of_map rfl
abbrev midOps_W : List (Ref sig .tc) := [main_v16, main_v17, main_cst_4, main_v18, main_v19, main_v20, main_cst_5, main_v21, main_cst_6, main_v22, main_cst_7, main_v23, main_cst_8, main_v24, main_cst_9, main_v25, main_cst_10, main_v26, main_cst_11, main_v27, main_c_12, main_v28_0, main_v28_1, main_v28_2, main_v28_3, main_v28_4, main_v28_5, main_v28_6, main_v28_7, main_v28_8, main_v28_9, main_v28_10, main_v28_11, main_v28_12, main_v28_13, main_v28_14, main_v28_15]
theorem midOps_writes : Writes (F := F) midOps midOps_W := forall_writes_sub_of_map rfl

/-- After the second loop. -/
abbrev postOps : Line F :=
  [ unary main_v28_15 main_v29 ((transpose S8x256x1x128 [1, 0, 2, 3] · transposes_S256x8x1x128_S8x256x1x128_1_0_2_3) : Co F S256x8x1x128 → Co F S8x256x1x128),
    unary main_v28_14 main_v30 ((transpose S8x256x64x128 [1, 0, 2, 3] · transposes_S256x8x64x128_S8x256x64x128_1_0_2_3) : Co F S256x8x64x128 → Co F S8x256x64x128),
    reshape main_v30 main_v31 (rfl : (.f32 : EltTy) = .f32) shapeCasts_S8x256x64x128_S8x16384x128,
    unary main_v28_13 main_v32 ((transpose S8x256x64x128 [1, 0, 2, 3] · transposes_S256x8x64x128_S8x256x64x128_1_0_2_3) : Co F S256x8x64x128 → Co F S8x256x64x128),
    reshape main_v32 main_v33 (rfl : (.f32 : EltTy) = .f32) shapeCasts_S8x256x64x128_S8x16384x128,
    unary main_v28_12 main_v34 ((transpose S8x256x64x128 [1, 0, 2, 3] · transposes_S256x8x64x128_S8x256x64x128_1_0_2_3) : Co F S256x8x64x128 → Co F S8x256x64x128),
    reshape main_v34 main_v35 (rfl : (.f32 : EltTy) = .f32) shapeCasts_S8x256x64x128_S8x16384x128,
    unary main_v28_11 main_v36 ((transpose S8x256x64x64 [1, 0, 2, 3] · transposes_S256x8x64x64_S8x256x64x64_1_0_2_3) : Co F S256x8x64x64 → Co F S8x256x64x64),
    unary main_v28_10 main_v37 ((transpose S8x256x64x128 [1, 0, 2, 3] · transposes_S256x8x64x128_S8x256x64x128_1_0_2_3) : Co F S256x8x64x128 → Co F S8x256x64x128),
    reshape main_v37 main_v38 (rfl : (.f32 : EltTy) = .f32) shapeCasts_S8x256x64x128_S8x16384x128 ]
theorem postOps_sub : Within (F := F) postOps :=
  ⟨unary_bufs_sub .., unary_bufs_sub .., reshape_bufs_sub .., unary_bufs_sub .., reshape_bufs_sub .., unary_bufs_sub .., reshape_bufs_sub .., unary_bufs_sub .., unary_bufs_sub .., reshape_bufs_sub ..⟩
theorem postOps_fresh : Still (F := F) postOps := forall_fresh_of_map rfl
abbrev postOps_W : List (Ref sig .tc) := [main_v29, main_v30, main_v31, main_v32, main_v33, main_v34, main_v35, main_v36, main_v37, main_v38]
theorem postOps_writes : Writes (F := F) postOps postOps_W := forall_writes_sub_of_map rfl

/-- A call of loop 0's body: a row read. -/
abbrev fb0 : Line F :=
  readOps (a := 8) (b := 64) (c := 128) (.of main_v15_0) (.of main_v15_6) (.of main_while0b_call0_c) (.of main_while0b_call0_c_0) (.of main_while0b_call0_c_1) (.of main_while0b_call0_v0) (.of main_while0b_v39) sliceFits_S256x8x64x128_S1x8x64x128 shapeCasts_S1x8x64x128_S8x64x128
theorem fb0_sub : Within (F := F) fb0 :=
  read_within ..
theorem fb0_fresh : Still (F := F) fb0 := forall_fresh_of_map rfl
abbrev fb0_W : List (Ref sig .tc) := [main_while0b_call0_c, main_while0b_call0_c_0, main_while0b_call0_c_1, main_while0b_call0_v0, main_while0b_v39]
theorem fb0_writes : Writes (F := F) fb0 fb0_W := forall_writes_sub_of_map rfl

/-- A call of loop 0's body: a row read. -/
abbrev fb1 : Line F :=
  readOps (a := 8) (b := 64) (c := 64) (.of main_v15_1) (.of main_v15_6) (.of main_while0b_call1_c) (.of main_while0b_call1_c_0) (.of main_while0b_call1_c_1) (.of main_while0b_call1_v0) (.of main_while0b_v40) sliceFits_S256x8x64x64_S1x8x64x64 shapeCasts_S1x8x64x64_S8x64x64
theorem fb1_sub : Within (F := F) fb1 :=
  read_within ..
theorem fb1_fresh : Still (F := F) fb1 := forall_fresh_of_map rfl
abbrev fb1_W : List (Ref sig .tc) := [main_while0b_call1_c, main_while0b_call1_c_0, main_while0b_call1_c_1, main_while0b_call1_v0, main_while0b_v40]
theorem fb1_writes : Writes (F := F) fb1 fb1_W := forall_writes_sub_of_map rfl

/-- A call of loop 0's body: a row read. -/
abbrev fb2 : Line F :=
  readOps (a := 8) (b := 64) (c := 128) (.of main_v15_2) (.of main_v15_6) (.of main_while0b_call2_c) (.of main_while0b_call2_c_0) (.of main_while0b_call2_c_1) (.of main_while0b_call2_v0) (.of main_while0b_v41) sliceFits_S256x8x64x128_S1x8x64x128 shapeCasts_S1x8x64x128_S8x64x128
theorem fb2_sub : Within (F := F) fb2 :=
  read_within ..
theorem fb2_fresh : Still (F := F) fb2 := forall_fresh_of_map rfl
abbrev fb2_W : List (Ref sig .tc) := [main_while0b_call2_c, main_while0b_call2_c_0, main_while0b_call2_c_1, main_while0b_call2_v0, main_while0b_v41]
theorem fb2_writes : Writes (F := F) fb2 fb2_W := forall_writes_sub_of_map rfl

/-- A call of loop 0's body: a row read. -/
abbrev fb3 : Line F :=
  readOps (a := 8) (b := 64) (c := 128) (.of main_v15_3) (.of main_v15_6) (.of main_while0b_call3_c) (.of main_while0b_call3_c_0) (.of main_while0b_call3_c_1) (.of main_while0b_call3_v0) (.of main_while0b_v42) sliceFits_S256x8x64x128_S1x8x64x128 shapeCasts_S1x8x64x128_S8x64x128
theorem fb3_sub : Within (F := F) fb3 :=
  read_within ..
theorem fb3_fresh : Still (F := F) fb3 := forall_fresh_of_map rfl
abbrev fb3_W : List (Ref sig .tc) := [main_while0b_call3_c, main_while0b_call3_c_0, main_while0b_call3_c_1, main_while0b_call3_v0, main_while0b_v42]
theorem fb3_writes : Writes (F := F) fb3 fb3_W := forall_writes_sub_of_map rfl

/-- A call of loop 0's body: a row read. -/
abbrev fb4 : Line F :=
  readOps (a := 8) (b := 64) (c := 128) (.of main_v15_4) (.of main_v15_6) (.of main_while0b_call4_c) (.of main_while0b_call4_c_0) (.of main_while0b_call4_c_1) (.of main_while0b_call4_v0) (.of main_while0b_v43) sliceFits_S256x8x64x128_S1x8x64x128 shapeCasts_S1x8x64x128_S8x64x128
theorem fb4_sub : Within (F := F) fb4 :=
  read_within ..
theorem fb4_fresh : Still (F := F) fb4 := forall_fresh_of_map rfl
abbrev fb4_W : List (Ref sig .tc) := [main_while0b_call4_c, main_while0b_call4_c_0, main_while0b_call4_c_1, main_while0b_call4_v0, main_while0b_v43]
theorem fb4_writes : Writes (F := F) fb4 fb4_W := forall_writes_sub_of_map rfl

/-- A call of loop 0's body: a row read. -/
abbrev fb5 : Line F :=
  readOps (a := 8) (b := 1) (c := 128) (.of main_v15_5) (.of main_v15_6) (.of main_while0b_call5_c) (.of main_while0b_call5_c_0) (.of main_while0b_call5_c_1) (.of main_while0b_call5_v0) (.of main_while0b_v44) sliceFits_S256x8x1x128_S1x8x1x128 shapeCasts_S1x8x1x128_S8x1x128
theorem fb5_sub : Within (F := F) fb5 :=
  read_within ..
theorem fb5_fresh : Still (F := F) fb5 := forall_fresh_of_map rfl
abbrev fb5_W : List (Ref sig .tc) := [main_while0b_call5_c, main_while0b_call5_c_0, main_while0b_call5_c_1, main_while0b_call5_v0, main_while0b_v44]
theorem fb5_writes : Writes (F := F) fb5 fb5_W := forall_writes_sub_of_map rfl

/-- A stretch of loop 0's body. -/
abbrev fb6 : Line F :=
  [ binary main_while0b_v42 main_v15_7 main_while0b_v45 ((fun l r => Host.dotGeneral dot_S8x64x128_S8x128x128_S8x64x128_2_1_1_2_0_0 none l r) : Co F S8x64x128 → Co F S8x128x128 → Co F S8x64x128),
    binary main_while0b_v41 main_while0b_v45 main_while0b_v46 (subf : Co F S8x64x128 → Co F S8x64x128 → Co F S8x64x128),
    binary main_while0b_v39 main_v15_7 main_while0b_v47 ((fun l r => Host.dotGeneral dot_S8x64x128_S8x128x128_S8x64x128_2_1_1_2_0_0 none l r) : Co F S8x64x128 → Co F S8x128x128 → Co F S8x64x128),
    binary main_while0b_v40 main_while0b_v46 main_while0b_v48 ((fun l r => Host.dotGeneral dot_S8x64x64_S8x64x128_S8x64x128_2_1_1_2_0_0 none l r) : Co F S8x64x64 → Co F S8x64x128 → Co F S8x64x128),
    binary main_while0b_v47 main_while0b_v48 main_while0b_v49 (addf : Co F S8x64x128 → Co F S8x64x128 → Co F S8x64x128),
    unary main_while0b_v44 main_while0b_v50 (Host.exp : Co F S8x1x128 → Co F S8x1x128),
    unary main_while0b_v50 main_while0b_v51 (broadcastInDim S8x128x128 ![0, 1, 2] bcast_S8x1x128_S8x128x128_0_1_2 : Co F S8x1x128 → Co F S8x128x128),
    binary main_v15_7 main_while0b_v51 main_while0b_v52 (mulf : Co F S8x128x128 → Co F S8x128x128 → Co F S8x128x128),
    binary main_while0b_v43 main_while0b_v46 main_while0b_v53 ((fun l r => Host.dotGeneral dot_S8x64x128_S8x64x128_S8x128x128_1_1_2_2_0_0 none l r) : Co F S8x64x128 → Co F S8x64x128 → Co F S8x128x128),
    binary main_while0b_v52 main_while0b_v53 main_while0b_v54 (addf : Co F S8x128x128 → Co F S8x128x128 → Co F S8x128x128) ]
theorem fb6_sub : Within (F := F) fb6 :=
  ⟨binary_bufs_sub .., binary_bufs_sub .., binary_bufs_sub .., binary_bufs_sub .., binary_bufs_sub .., unary_bufs_sub .., unary_bufs_sub .., binary_bufs_sub .., binary_bufs_sub .., binary_bufs_sub ..⟩
theorem fb6_fresh : Still (F := F) fb6 := forall_fresh_of_map rfl
abbrev fb6_W : List (Ref sig .tc) := [main_while0b_v45, main_while0b_v46, main_while0b_v47, main_while0b_v48, main_while0b_v49, main_while0b_v50, main_while0b_v51, main_while0b_v52, main_while0b_v53, main_while0b_v54]
theorem fb6_writes : Writes (F := F) fb6 fb6_W := forall_writes_sub_of_map rfl

/-- A call of loop 0's body: a row written. -/
abbrev fb7 : Line F :=
  writeOps (a := 8) (b := 64) (c := 128) (.of main_while0b_v49) (.of main_while0b_call6_v0) (.of main_while0b_call6_c) (.of main_while0b_call6_c_0) (.of main_while0b_call6_c_1) (.of main_v15_8) (.of main_v15_6) (.of main_while0b_v55) bcast_S8x64x128_S1x8x64x128_1_2_3 updateFits_S256x8x64x128_S1x8x64x128
theorem fb7_sub : Within (F := F) fb7 :=
  write_within ..
theorem fb7_fresh : Still (F := F) fb7 := forall_fresh_of_map rfl
abbrev fb7_W : List (Ref sig .tc) := [main_while0b_call6_v0, main_while0b_call6_c, main_while0b_call6_c_0, main_while0b_call6_c_1, main_while0b_v55]
theorem fb7_writes : Writes (F := F) fb7 fb7_W := forall_writes_sub_of_map rfl

/-- A call of loop 0's body: a row written. -/
abbrev fb8 : Line F :=
  writeOps (a := 8) (b := 128) (c := 128) (.of main_v15_7) (.of main_while0b_call7_v0) (.of main_while0b_call7_c) (.of main_while0b_call7_c_0) (.of main_while0b_call7_c_1) (.of main_v15_9) (.of main_v15_6) (.of main_while0b_v56) bcast_S8x128x128_S1x8x128x128_1_2_3 updateFits_S256x8x128x128_S1x8x128x128
theorem fb8_sub : Within (F := F) fb8 :=
  write_within ..
theorem fb8_fresh : Still (F := F) fb8 := forall_fresh_of_map rfl
abbrev fb8_W : List (Ref sig .tc) := [main_while0b_call7_v0, main_while0b_call7_c, main_while0b_call7_c_0, main_while0b_call7_c_1, main_while0b_v56]
theorem fb8_writes : Writes (F := F) fb8 fb8_W := forall_writes_sub_of_map rfl

/-- A call of loop 0's body: a row written. -/
abbrev fb9 : Line F :=
  writeOps (a := 8) (b := 64) (c := 128) (.of main_while0b_v46) (.of main_while0b_call8_v0) (.of main_while0b_call8_c) (.of main_while0b_call8_c_0) (.of main_while0b_call8_c_1) (.of main_v15_10) (.of main_v15_6) (.of main_while0b_v57) bcast_S8x64x128_S1x8x64x128_1_2_3 updateFits_S256x8x64x128_S1x8x64x128
theorem fb9_sub : Within (F := F) fb9 :=
  write_within ..
theorem fb9_fresh : Still (F := F) fb9 := forall_fresh_of_map rfl
abbrev fb9_W : List (Ref sig .tc) := [main_while0b_call8_v0, main_while0b_call8_c, main_while0b_call8_c_0, main_while0b_call8_c_1, main_while0b_v57]
theorem fb9_writes : Writes (F := F) fb9 fb9_W := forall_writes_sub_of_map rfl

/-- A call of loop 0's body: a row written. -/
abbrev fb10 : Line F :=
  writeOps (a := 8) (b := 1) (c := 128) (.of main_while0b_v50) (.of main_while0b_call9_v0) (.of main_while0b_call9_c) (.of main_while0b_call9_c_0) (.of main_while0b_call9_c_1) (.of main_v15_11) (.of main_v15_6) (.of main_while0b_v58) bcast_S8x1x128_S1x8x1x128_1_2_3 updateFits_S256x8x1x128_S1x8x1x128
theorem fb10_sub : Within (F := F) fb10 :=
  write_within ..
theorem fb10_fresh : Still (F := F) fb10 := forall_fresh_of_map rfl
abbrev fb10_W : List (Ref sig .tc) := [main_while0b_call9_v0, main_while0b_call9_c, main_while0b_call9_c_0, main_while0b_call9_c_1, main_while0b_v58]
theorem fb10_writes : Writes (F := F) fb10 fb10_W := forall_writes_sub_of_map rfl

/-- A stretch of loop 0's body. -/
abbrev fb11 : Line F :=
  [ nullary main_while0b_c_24 (constantI S_ 32 1#32),
    binary main_v15_6 main_while0b_c_24 main_while0b_v59 (addi : (⟨S_, .i32⟩ : BufTy).Contents (Elt F) → (⟨S_, .i32⟩ : BufTy).Contents (Elt F) → (⟨S_, .i32⟩ : BufTy).Contents (Elt F)),
    unary main_while0b_v59 main_v15_6 id,
    unary main_while0b_v54 main_v15_7 id,
    unary main_while0b_v55 main_v15_8 id,
    unary main_while0b_v56 main_v15_9 id,
    unary main_while0b_v57 main_v15_10 id,
    unary main_while0b_v58 main_v15_11 id ]
theorem fb11_sub : Within (F := F) fb11 :=
  ⟨nullary_bufs_sub .., binary_bufs_sub .., unary_bufs_sub .., unary_bufs_sub .., unary_bufs_sub .., unary_bufs_sub .., unary_bufs_sub .., unary_bufs_sub ..⟩
theorem fb11_fresh : Still (F := F) fb11 := forall_fresh_of_map rfl
abbrev fb11_W : List (Ref sig .tc) := [main_while0b_c_24, main_while0b_v59, main_v15_6, main_v15_7, main_v15_8, main_v15_9, main_v15_10, main_v15_11]
theorem fb11_writes : Writes (F := F) fb11 fb11_W := forall_writes_sub_of_map rfl

abbrev fbI : List (Line F) := [fb0, fb1, fb2, fb3, fb4, fb5, fb6, fb7, fb8, fb9, fb10, fb11]
theorem fbI_plain : Plain (fbI (F := F)) :=
  .cons fb0_sub (hf := List.forall_iff_forall_mem.mp fb0_fresh) (
  .cons fb1_sub (hf := List.forall_iff_forall_mem.mp fb1_fresh) (
  .cons fb2_sub (hf := List.forall_iff_forall_mem.mp fb2_fresh) (
  .cons fb3_sub (hf := List.forall_iff_forall_mem.mp fb3_fresh) (
  .cons fb4_sub (hf := List.forall_iff_forall_mem.mp fb4_fresh) (
  .cons fb5_sub (hf := List.forall_iff_forall_mem.mp fb5_fresh) (
  .cons fb6_sub (hf := List.forall_iff_forall_mem.mp fb6_fresh) (
  .cons fb7_sub (hf := List.forall_iff_forall_mem.mp fb7_fresh) (
  .cons fb8_sub (hf := List.forall_iff_forall_mem.mp fb8_fresh) (
  .cons fb9_sub (hf := List.forall_iff_forall_mem.mp fb9_fresh) (
  .cons fb10_sub (hf := List.forall_iff_forall_mem.mp fb10_fresh) (
  .cons fb11_sub (hf := List.forall_iff_forall_mem.mp fb11_fresh) .nil)))))))))))
theorem fb_chain : main_while0_body (F := F) = (Pipeline.chain
  [ seq fb0,
    seq fb1,
    seq fb2,
    seq fb3,
    seq fb4,
    seq fb5,
    seq fb6,
    seq fb7,
    seq fb8,
    seq fb9,
    seq fb10,
    seq fb11 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, chain_seq_cons]
  chain_rfl

/-- Loop 0's condition. -/
abbrev cond0 : Line F :=
  [ nullary main_while0c_c_24 (constantI S_ 32 256#32),
    binary main_v15_6 main_while0c_c_24 main_while0c_v39 (cmpi .slt : (⟨S_, .i32⟩ : BufTy).Contents (Elt F) → (⟨S_, .i32⟩ : BufTy).Contents (Elt F) → (⟨S_, .i1⟩ : BufTy).Contents (Elt F)) ]
theorem cond0_sub : Within (F := F) cond0 :=
  ⟨nullary_bufs_sub .., binary_bufs_sub ..⟩
theorem cond0_fresh : Still (F := F) cond0 := forall_fresh_of_map rfl
abbrev cond0_W : List (Ref sig .tc) := [main_while0c_c_24, main_while0c_v39]
theorem cond0_writes : Writes (F := F) cond0 cond0_W := forall_writes_sub_of_map rfl

/-- A stretch of loop 1's body. -/
abbrev gb0 : Line F :=
  [ nullary main_while1b_c_28 (constantI S_ 32 256#32),
    binary main_while1b_c_28 main_v28_8 main_while1b_v39 (subi : (⟨S_, .i32⟩ : BufTy).Contents (Elt F) → (⟨S_, .i32⟩ : BufTy).Contents (Elt F) → (⟨S_, .i32⟩ : BufTy).Contents (Elt F)),
    nullary main_while1b_c_29 (constantI S_ 32 1#32),
    binary main_while1b_v39 main_while1b_c_29 main_while1b_v40 (subi : (⟨S_, .i32⟩ : BufTy).Contents (Elt F) → (⟨S_, .i32⟩ : BufTy).Contents (Elt F) → (⟨S_, .i32⟩ : BufTy).Contents (Elt F)) ]
theorem gb0_sub : Within (F := F) gb0 :=
  ⟨nullary_bufs_sub .., binary_bufs_sub .., nullary_bufs_sub .., binary_bufs_sub ..⟩
theorem gb0_fresh : Still (F := F) gb0 := forall_fresh_of_map rfl
abbrev gb0_W : List (Ref sig .tc) := [main_while1b_c_28, main_while1b_v39, main_while1b_c_29, main_while1b_v40]
theorem gb0_writes : Writes (F := F) gb0 gb0_W := forall_writes_sub_of_map rfl

/-- A call of loop 1's body: a row read. -/
abbrev gb1 : Line F :=
  readOps (a := 8) (b := 64) (c := 128) (.of main_v28_0) (.of main_while1b_v40) (.of main_while1b_call10_c) (.of main_while1b_call10_c_0) (.of main_while1b_call10_c_1) (.of main_while1b_call10_v0) (.of main_while1b_v41) sliceFits_S256x8x64x128_S1x8x64x128 shapeCasts_S1x8x64x128_S8x64x128
theorem gb1_sub : Within (F := F) gb1 :=
  read_within ..
theorem gb1_fresh : Still (F := F) gb1 := forall_fresh_of_map rfl
abbrev gb1_W : List (Ref sig .tc) := [main_while1b_call10_c, main_while1b_call10_c_0, main_while1b_call10_c_1, main_while1b_call10_v0, main_while1b_v41]
theorem gb1_writes : Writes (F := F) gb1 gb1_W := forall_writes_sub_of_map rfl

/-- A call of loop 1's body: a row read. -/
abbrev gb2 : Line F :=
  readOps (a := 8) (b := 128) (c := 128) (.of main_v28_1) (.of main_while1b_v40) (.of main_while1b_call11_c) (.of main_while1b_call11_c_0) (.of main_while1b_call11_c_1) (.of main_while1b_call11_v0) (.of main_while1b_v42) sliceFits_S256x8x128x128_S1x8x128x128 shapeCasts_S1x8x128x128_S8x128x128
theorem gb2_sub : Within (F := F) gb2 :=
  read_within ..
theorem gb2_fresh : Still (F := F) gb2 := forall_fresh_of_map rfl
abbrev gb2_W : List (Ref sig .tc) := [main_while1b_call11_c, main_while1b_call11_c_0, main_while1b_call11_c_1, main_while1b_call11_v0, main_while1b_v42]
theorem gb2_writes : Writes (F := F) gb2 gb2_W := forall_writes_sub_of_map rfl

/-- A call of loop 1's body: a row read. -/
abbrev gb3 : Line F :=
  readOps (a := 8) (b := 64) (c := 128) (.of main_v28_2) (.of main_while1b_v40) (.of main_while1b_call12_c) (.of main_while1b_call12_c_0) (.of main_while1b_call12_c_1) (.of main_while1b_call12_v0) (.of main_while1b_v43) sliceFits_S256x8x64x128_S1x8x64x128 shapeCasts_S1x8x64x128_S8x64x128
theorem gb3_sub : Within (F := F) gb3 :=
  read_within ..
theorem gb3_fresh : Still (F := F) gb3 := forall_fresh_of_map rfl
abbrev gb3_W : List (Ref sig .tc) := [main_while1b_call12_c, main_while1b_call12_c_0, main_while1b_call12_c_1, main_while1b_call12_v0, main_while1b_v43]
theorem gb3_writes : Writes (F := F) gb3 gb3_W := forall_writes_sub_of_map rfl

/-- A call of loop 1's body: a row read. -/
abbrev gb4 : Line F :=
  readOps (a := 8) (b := 64) (c := 128) (.of main_v28_3) (.of main_while1b_v40) (.of main_while1b_call13_c) (.of main_while1b_call13_c_0) (.of main_while1b_call13_c_1) (.of main_while1b_call13_v0) (.of main_while1b_v44) sliceFits_S256x8x64x128_S1x8x64x128 shapeCasts_S1x8x64x128_S8x64x128
theorem gb4_sub : Within (F := F) gb4 :=
  read_within ..
theorem gb4_fresh : Still (F := F) gb4 := forall_fresh_of_map rfl
abbrev gb4_W : List (Ref sig .tc) := [main_while1b_call13_c, main_while1b_call13_c_0, main_while1b_call13_c_1, main_while1b_call13_v0, main_while1b_v44]
theorem gb4_writes : Writes (F := F) gb4 gb4_W := forall_writes_sub_of_map rfl

/-- A call of loop 1's body: a row read. -/
abbrev gb5 : Line F :=
  readOps (a := 8) (b := 64) (c := 128) (.of main_v28_4) (.of main_while1b_v40) (.of main_while1b_call14_c) (.of main_while1b_call14_c_0) (.of main_while1b_call14_c_1) (.of main_while1b_call14_v0) (.of main_while1b_v45) sliceFits_S256x8x64x128_S1x8x64x128 shapeCasts_S1x8x64x128_S8x64x128
theorem gb5_sub : Within (F := F) gb5 :=
  read_within ..
theorem gb5_fresh : Still (F := F) gb5 := forall_fresh_of_map rfl
abbrev gb5_W : List (Ref sig .tc) := [main_while1b_call14_c, main_while1b_call14_c_0, main_while1b_call14_c_1, main_while1b_call14_v0, main_while1b_v45]
theorem gb5_writes : Writes (F := F) gb5 gb5_W := forall_writes_sub_of_map rfl

/-- A call of loop 1's body: a row read. -/
abbrev gb6 : Line F :=
  readOps (a := 8) (b := 64) (c := 64) (.of main_v28_5) (.of main_while1b_v40) (.of main_while1b_call15_c) (.of main_while1b_call15_c_0) (.of main_while1b_call15_c_1) (.of main_while1b_call15_v0) (.of main_while1b_v46) sliceFits_S256x8x64x64_S1x8x64x64 shapeCasts_S1x8x64x64_S8x64x64
theorem gb6_sub : Within (F := F) gb6 :=
  read_within ..
theorem gb6_fresh : Still (F := F) gb6 := forall_fresh_of_map rfl
abbrev gb6_W : List (Ref sig .tc) := [main_while1b_call15_c, main_while1b_call15_c_0, main_while1b_call15_c_1, main_while1b_call15_v0, main_while1b_v46]
theorem gb6_writes : Writes (F := F) gb6 gb6_W := forall_writes_sub_of_map rfl

/-- A call of loop 1's body: a row read. -/
abbrev gb7 : Line F :=
  readOps (a := 8) (b := 1) (c := 128) (.of main_v28_6) (.of main_while1b_v40) (.of main_while1b_call16_c) (.of main_while1b_call16_c_0) (.of main_while1b_call16_c_1) (.of main_while1b_call16_v0) (.of main_while1b_v47) sliceFits_S256x8x1x128_S1x8x1x128 shapeCasts_S1x8x1x128_S8x1x128
theorem gb7_sub : Within (F := F) gb7 :=
  read_within ..
theorem gb7_fresh : Still (F := F) gb7 := forall_fresh_of_map rfl
abbrev gb7_W : List (Ref sig .tc) := [main_while1b_call16_c, main_while1b_call16_c_0, main_while1b_call16_c_1, main_while1b_call16_v0, main_while1b_v47]
theorem gb7_writes : Writes (F := F) gb7 gb7_W := forall_writes_sub_of_map rfl

/-- A call of loop 1's body: a row read. -/
abbrev gb8 : Line F :=
  readOps (a := 8) (b := 64) (c := 128) (.of main_v28_7) (.of main_while1b_v40) (.of main_while1b_call17_c) (.of main_while1b_call17_c_0) (.of main_while1b_call17_c_1) (.of main_while1b_call17_v0) (.of main_while1b_v48) sliceFits_S256x8x64x128_S1x8x64x128 shapeCasts_S1x8x64x128_S8x64x128
theorem gb8_sub : Within (F := F) gb8 :=
  read_within ..
theorem gb8_fresh : Still (F := F) gb8 := forall_fresh_of_map rfl
abbrev gb8_W : List (Ref sig .tc) := [main_while1b_call17_c, main_while1b_call17_c_0, main_while1b_call17_c_1, main_while1b_call17_v0, main_while1b_v48]
theorem gb8_writes : Writes (F := F) gb8 gb8_W := forall_writes_sub_of_map rfl

/-- A stretch of loop 1's body. -/
abbrev gb9 : Line F :=
  [ binary main_v28_9 main_while1b_v48 main_while1b_v49 ((fun l r => Host.dotGeneral dot_S8x128x128_S8x64x128_S8x128x64_1_2_2_1_0_0 none l r) : Co F S8x128x128 → Co F S8x64x128 → Co F S8x128x64),
    unary main_while1b_v49 main_while1b_v50 ((transpose S8x64x128 [0, 2, 1] · transposes_S8x128x64_S8x64x128_0_2_1) : Co F S8x128x64 → Co F S8x64x128),
    binary main_v28_9 main_while1b_v45 main_while1b_v51 ((fun l r => Host.dotGeneral dot_S8x128x128_S8x64x128_S8x128x64_2_2_1_1_0_0 none l r) : Co F S8x128x128 → Co F S8x64x128 → Co F S8x128x64),
    unary main_while1b_v51 main_while1b_v52 ((transpose S8x64x128 [0, 2, 1] · transposes_S8x128x64_S8x64x128_0_2_1) : Co F S8x128x64 → Co F S8x64x128),
    binary main_while1b_v42 main_v28_9 main_while1b_v53 (mulf : Co F S8x128x128 → Co F S8x128x128 → Co F S8x128x128),
    nullary main_while1b_cst_30 (constant S_ .f32 0x00000000#32),
    binary main_while1b_v53 main_while1b_cst_30 main_while1b_v54 ((fun x v => Host.reduceAdd x v reducesTo_S8x128x128_S8x128_d1 h_S_) : Co F S8x128x128 → Co F S_ → Co F S8x128),
    reshape main_while1b_v54 main_while1b_v55 (rfl : (.f32 : EltTy) = .f32) shapeCasts_S8x128_S8x1x128,
    unary main_while1b_v47 main_while1b_v56 (broadcastInDim S8x128x128 ![0, 1, 2] bcast_S8x1x128_S8x128x128_0_1_2 : Co F S8x1x128 → Co F S8x128x128),
    binary main_v28_9 main_while1b_v56 main_while1b_v57 (mulf : Co F S8x128x128 → Co F S8x128x128 → Co F S8x128x128),
    binary main_while1b_v55 main_while1b_v47 main_while1b_v58 (mulf : Co F S8x1x128 → Co F S8x1x128 → Co F S8x1x128),
    binary main_while1b_v41 main_while1b_v46 main_while1b_v59 ((fun l r => Host.dotGeneral dot_S8x64x128_S8x64x64_S8x128x64_1_1_2_2_0_0 none l r) : Co F S8x64x128 → Co F S8x64x64 → Co F S8x128x64),
    unary main_while1b_v59 main_while1b_v60 ((transpose S8x64x128 [0, 2, 1] · transposes_S8x128x64_S8x64x128_0_2_1) : Co F S8x128x64 → Co F S8x64x128),
    binary main_while1b_v50 main_while1b_v60 main_while1b_v61 (addf : Co F S8x64x128 → Co F S8x64x128 → Co F S8x64x128),
    binary main_while1b_v41 main_while1b_v45 main_while1b_v62 ((fun l r => Host.dotGeneral dot_S8x64x128_S8x64x128_S8x64x64_2_2_1_1_0_0 none l r) : Co F S8x64x128 → Co F S8x64x128 → Co F S8x64x64),
    binary main_while1b_v41 main_while1b_v44 main_while1b_v63 ((fun l r => Host.dotGeneral dot_S8x64x128_S8x64x128_S8x128x128_1_1_2_2_0_0 none l r) : Co F S8x64x128 → Co F S8x64x128 → Co F S8x128x128),
    unary main_while1b_v63 main_while1b_v64 ((transpose S8x128x128 [0, 2, 1] · transposes_S8x128x128_S8x128x128_0_2_1) : Co F S8x128x128 → Co F S8x128x128),
    binary main_while1b_v57 main_while1b_v64 main_while1b_v65 (addf : Co F S8x128x128 → Co F S8x128x128 → Co F S8x128x128),
    binary main_while1b_v41 main_while1b_v42 main_while1b_v66 ((fun l r => Host.dotGeneral dot_S8x64x128_S8x128x128_S8x64x128_2_2_1_1_0_0 none l r) : Co F S8x64x128 → Co F S8x128x128 → Co F S8x64x128),
    unary main_while1b_v61 main_while1b_v67 (Host.negf : Co F S8x64x128 → Co F S8x64x128),
    binary main_while1b_v67 main_while1b_v43 main_while1b_v68 ((fun l r => Host.dotGeneral dot_S8x64x128_S8x64x128_S8x128x128_1_1_2_2_0_0 none l r) : Co F S8x64x128 → Co F S8x64x128 → Co F S8x128x128),
    unary main_while1b_v68 main_while1b_v69 ((transpose S8x128x128 [0, 2, 1] · transposes_S8x128x128_S8x128x128_0_2_1) : Co F S8x128x128 → Co F S8x128x128),
    binary main_while1b_v65 main_while1b_v69 main_while1b_v70 (addf : Co F S8x128x128 → Co F S8x128x128 → Co F S8x128x128),
    binary main_while1b_v67 main_while1b_v42 main_while1b_v71 ((fun l r => Host.dotGeneral dot_S8x64x128_S8x128x128_S8x64x128_2_2_1_1_0_0 none l r) : Co F S8x64x128 → Co F S8x128x128 → Co F S8x64x128) ]
theorem gb9_sub : Within (F := F) gb9 :=
  ⟨binary_bufs_sub .., unary_bufs_sub .., binary_bufs_sub .., unary_bufs_sub .., binary_bufs_sub .., nullary_bufs_sub .., binary_bufs_sub .., reshape_bufs_sub .., unary_bufs_sub .., binary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩
theorem gb9_fresh : Still (F := F) gb9 := forall_fresh_of_map rfl
abbrev gb9_W : List (Ref sig .tc) := [main_while1b_v49, main_while1b_v50, main_while1b_v51, main_while1b_v52, main_while1b_v53, main_while1b_cst_30, main_while1b_v54, main_while1b_v55, main_while1b_v56, main_while1b_v57, main_while1b_v58, main_while1b_v59, main_while1b_v60, main_while1b_v61, main_while1b_v62, main_while1b_v63, main_while1b_v64, main_while1b_v65, main_while1b_v66, main_while1b_v67, main_while1b_v68, main_while1b_v69, main_while1b_v70, main_while1b_v71]
theorem gb9_writes : Writes (F := F) gb9 gb9_W := forall_writes_sub_of_map rfl

/-- A call of loop 1's body: a row written. -/
abbrev gb10 : Line F :=
  writeOps (a := 8) (b := 64) (c := 128) (.of main_while1b_v66) (.of main_while1b_call18_v0) (.of main_while1b_call18_c) (.of main_while1b_call18_c_0) (.of main_while1b_call18_c_1) (.of main_v28_10) (.of main_while1b_v40) (.of main_while1b_v72) bcast_S8x64x128_S1x8x64x128_1_2_3 updateFits_S256x8x64x128_S1x8x64x128
theorem gb10_sub : Within (F := F) gb10 :=
  write_within ..
theorem gb10_fresh : Still (F := F) gb10 := forall_fresh_of_map rfl
abbrev gb10_W : List (Ref sig .tc) := [main_while1b_call18_v0, main_while1b_call18_c, main_while1b_call18_c_0, main_while1b_call18_c_1, main_while1b_v72]
theorem gb10_writes : Writes (F := F) gb10 gb10_W := forall_writes_sub_of_map rfl

/-- A call of loop 1's body: a row written. -/
abbrev gb11 : Line F :=
  writeOps (a := 8) (b := 64) (c := 64) (.of main_while1b_v62) (.of main_while1b_call19_v0) (.of main_while1b_call19_c) (.of main_while1b_call19_c_0) (.of main_while1b_call19_c_1) (.of main_v28_11) (.of main_while1b_v40) (.of main_while1b_v73) bcast_S8x64x64_S1x8x64x64_1_2_3 updateFits_S256x8x64x64_S1x8x64x64
theorem gb11_sub : Within (F := F) gb11 :=
  write_within ..
theorem gb11_fresh : Still (F := F) gb11 := forall_fresh_of_map rfl
abbrev gb11_W : List (Ref sig .tc) := [main_while1b_call19_v0, main_while1b_call19_c, main_while1b_call19_c_0, main_while1b_call19_c_1, main_while1b_v73]
theorem gb11_writes : Writes (F := F) gb11 gb11_W := forall_writes_sub_of_map rfl

/-- A call of loop 1's body: a row written. -/
abbrev gb12 : Line F :=
  writeOps (a := 8) (b := 64) (c := 128) (.of main_while1b_v61) (.of main_while1b_call20_v0) (.of main_while1b_call20_c) (.of main_while1b_call20_c_0) (.of main_while1b_call20_c_1) (.of main_v28_12) (.of main_while1b_v40) (.of main_while1b_v74) bcast_S8x64x128_S1x8x64x128_1_2_3 updateFits_S256x8x64x128_S1x8x64x128
theorem gb12_sub : Within (F := F) gb12 :=
  write_within ..
theorem gb12_fresh : Still (F := F) gb12 := forall_fresh_of_map rfl
abbrev gb12_W : List (Ref sig .tc) := [main_while1b_call20_v0, main_while1b_call20_c, main_while1b_call20_c_0, main_while1b_call20_c_1, main_while1b_v74]
theorem gb12_writes : Writes (F := F) gb12 gb12_W := forall_writes_sub_of_map rfl

/-- A call of loop 1's body: a row written. -/
abbrev gb13 : Line F :=
  writeOps (a := 8) (b := 64) (c := 128) (.of main_while1b_v71) (.of main_while1b_call21_v0) (.of main_while1b_call21_c) (.of main_while1b_call21_c_0) (.of main_while1b_call21_c_1) (.of main_v28_13) (.of main_while1b_v40) (.of main_while1b_v75) bcast_S8x64x128_S1x8x64x128_1_2_3 updateFits_S256x8x64x128_S1x8x64x128
theorem gb13_sub : Within (F := F) gb13 :=
  write_within ..
theorem gb13_fresh : Still (F := F) gb13 := forall_fresh_of_map rfl
abbrev gb13_W : List (Ref sig .tc) := [main_while1b_call21_v0, main_while1b_call21_c, main_while1b_call21_c_0, main_while1b_call21_c_1, main_while1b_v75]
theorem gb13_writes : Writes (F := F) gb13 gb13_W := forall_writes_sub_of_map rfl

/-- A call of loop 1's body: a row written. -/
abbrev gb14 : Line F :=
  writeOps (a := 8) (b := 64) (c := 128) (.of main_while1b_v52) (.of main_while1b_call22_v0) (.of main_while1b_call22_c) (.of main_while1b_call22_c_0) (.of main_while1b_call22_c_1) (.of main_v28_14) (.of main_while1b_v40) (.of main_while1b_v76) bcast_S8x64x128_S1x8x64x128_1_2_3 updateFits_S256x8x64x128_S1x8x64x128
theorem gb14_sub : Within (F := F) gb14 :=
  write_within ..
theorem gb14_fresh : Still (F := F) gb14 := forall_fresh_of_map rfl
abbrev gb14_W : List (Ref sig .tc) := [main_while1b_call22_v0, main_while1b_call22_c, main_while1b_call22_c_0, main_while1b_call22_c_1, main_while1b_v76]
theorem gb14_writes : Writes (F := F) gb14 gb14_W := forall_writes_sub_of_map rfl

/-- A call of loop 1's body: a row written. -/
abbrev gb15 : Line F :=
  writeOps (a := 8) (b := 1) (c := 128) (.of main_while1b_v58) (.of main_while1b_call23_v0) (.of main_while1b_call23_c) (.of main_while1b_call23_c_0) (.of main_while1b_call23_c_1) (.of main_v28_15) (.of main_while1b_v40) (.of main_while1b_v77) bcast_S8x1x128_S1x8x1x128_1_2_3 updateFits_S256x8x1x128_S1x8x1x128
theorem gb15_sub : Within (F := F) gb15 :=
  write_within ..
theorem gb15_fresh : Still (F := F) gb15 := forall_fresh_of_map rfl
abbrev gb15_W : List (Ref sig .tc) := [main_while1b_call23_v0, main_while1b_call23_c, main_while1b_call23_c_0, main_while1b_call23_c_1, main_while1b_v77]
theorem gb15_writes : Writes (F := F) gb15 gb15_W := forall_writes_sub_of_map rfl

/-- A stretch of loop 1's body. -/
abbrev gb16 : Line F :=
  [ nullary main_while1b_c_31 (constantI S_ 32 1#32),
    binary main_v28_8 main_while1b_c_31 main_while1b_v78 (addi : (⟨S_, .i32⟩ : BufTy).Contents (Elt F) → (⟨S_, .i32⟩ : BufTy).Contents (Elt F) → (⟨S_, .i32⟩ : BufTy).Contents (Elt F)),
    unary main_while1b_v78 main_v28_8 id,
    unary main_while1b_v70 main_v28_9 id,
    unary main_while1b_v72 main_v28_10 id,
    unary main_while1b_v73 main_v28_11 id,
    unary main_while1b_v74 main_v28_12 id,
    unary main_while1b_v75 main_v28_13 id,
    unary main_while1b_v76 main_v28_14 id,
    unary main_while1b_v77 main_v28_15 id ]
theorem gb16_sub : Within (F := F) gb16 :=
  ⟨nullary_bufs_sub .., binary_bufs_sub .., unary_bufs_sub .., unary_bufs_sub .., unary_bufs_sub .., unary_bufs_sub .., unary_bufs_sub .., unary_bufs_sub .., unary_bufs_sub .., unary_bufs_sub ..⟩
theorem gb16_fresh : Still (F := F) gb16 := forall_fresh_of_map rfl
abbrev gb16_W : List (Ref sig .tc) := [main_while1b_c_31, main_while1b_v78, main_v28_8, main_v28_9, main_v28_10, main_v28_11, main_v28_12, main_v28_13, main_v28_14, main_v28_15]
theorem gb16_writes : Writes (F := F) gb16 gb16_W := forall_writes_sub_of_map rfl

abbrev gbI : List (Line F) := [gb0, gb1, gb2, gb3, gb4, gb5, gb6, gb7, gb8, gb9, gb10, gb11, gb12, gb13, gb14, gb15, gb16]
theorem gbI_plain : Plain (gbI (F := F)) :=
  .cons gb0_sub (hf := List.forall_iff_forall_mem.mp gb0_fresh) (
  .cons gb1_sub (hf := List.forall_iff_forall_mem.mp gb1_fresh) (
  .cons gb2_sub (hf := List.forall_iff_forall_mem.mp gb2_fresh) (
  .cons gb3_sub (hf := List.forall_iff_forall_mem.mp gb3_fresh) (
  .cons gb4_sub (hf := List.forall_iff_forall_mem.mp gb4_fresh) (
  .cons gb5_sub (hf := List.forall_iff_forall_mem.mp gb5_fresh) (
  .cons gb6_sub (hf := List.forall_iff_forall_mem.mp gb6_fresh) (
  .cons gb7_sub (hf := List.forall_iff_forall_mem.mp gb7_fresh) (
  .cons gb8_sub (hf := List.forall_iff_forall_mem.mp gb8_fresh) (
  .cons gb9_sub (hf := List.forall_iff_forall_mem.mp gb9_fresh) (
  .cons gb10_sub (hf := List.forall_iff_forall_mem.mp gb10_fresh) (
  .cons gb11_sub (hf := List.forall_iff_forall_mem.mp gb11_fresh) (
  .cons gb12_sub (hf := List.forall_iff_forall_mem.mp gb12_fresh) (
  .cons gb13_sub (hf := List.forall_iff_forall_mem.mp gb13_fresh) (
  .cons gb14_sub (hf := List.forall_iff_forall_mem.mp gb14_fresh) (
  .cons gb15_sub (hf := List.forall_iff_forall_mem.mp gb15_fresh) (
  .cons gb16_sub (hf := List.forall_iff_forall_mem.mp gb16_fresh) .nil))))))))))))))))
theorem gb_chain : main_while1_body (F := F) = (Pipeline.chain
  [ seq gb0,
    seq gb1,
    seq gb2,
    seq gb3,
    seq gb4,
    seq gb5,
    seq gb6,
    seq gb7,
    seq gb8,
    seq gb9,
    seq gb10,
    seq gb11,
    seq gb12,
    seq gb13,
    seq gb14,
    seq gb15,
    seq gb16 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, Pipeline.chain_cons, Pipeline.chain_cons, chain_seq_cons]
  chain_rfl

/-- Loop 1's condition. -/
abbrev cond1 : Line F :=
  [ nullary main_while1c_c_28 (constantI S_ 32 256#32),
    binary main_v28_8 main_while1c_c_28 main_while1c_v39 (cmpi .slt : (⟨S_, .i32⟩ : BufTy).Contents (Elt F) → (⟨S_, .i32⟩ : BufTy).Contents (Elt F) → (⟨S_, .i1⟩ : BufTy).Contents (Elt F)) ]
theorem cond1_sub : Within (F := F) cond1 :=
  ⟨nullary_bufs_sub .., binary_bufs_sub ..⟩
theorem cond1_fresh : Still (F := F) cond1 := forall_fresh_of_map rfl
abbrev cond1_W : List (Ref sig .tc) := [main_while1c_c_28, main_while1c_v39]
theorem cond1_writes : Writes (F := F) cond1 cond1_W := forall_writes_sub_of_map rfl

theorem main_chain (c : Dev nD) : main (F := F) c = (Pipeline.chain
  [ seq preOps, HostLoop.enter 0, seq midOps, HostLoop.enter 1, seq postOps ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons, Pipeline.chain_cons, chain_seq_cons]
  chain_rfl

end Cert.Ref
end
-- ==== Proof.RefRun.lean ====
/- The reference's execution: both loops counted to 256, every array ending at what the operations make of the launch. -/
module

public import proofs.«01_k».proof.Proof.RefOps

@[expose] public section

set_option maxRecDepth 16384

noncomputable section

namespace Cert.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

local notation "𝕄" => MT nD τ sig Unit (Elt F) ℕ (Option PUnit) ℕ

/-- Everything loop 0's body writes. -/
abbrev fbW : List (Ref sig .tc) := fb0_W ++ fb1_W ++ fb2_W ++ fb3_W ++ fb4_W ++ fb5_W ++ fb6_W ++ fb7_W ++ fb8_W ++ fb9_W ++ fb10_W ++ fb11_W
/-- Everything loop 1's body writes. -/
abbrev gbW : List (Ref sig .tc) := gb0_W ++ gb1_W ++ gb2_W ++ gb3_W ++ gb4_W ++ gb5_W ++ gb6_W ++ gb7_W ++ gb8_W ++ gb9_W ++ gb10_W ++ gb11_W ++ gb12_W ++ gb13_W ++ gb14_W ++ gb15_W ++ gb16_W

theorem fb_writes : (fbI (F := F)).flatten.Forall fun op => op.writes ⊆ (fbW.map (Proc.devRef (τ := τ) .tc)).toFinset :=
  StableHlo.forall_writes_sub_of_map rfl
theorem gb_writes : (gbI (F := F)).flatten.Forall fun op => op.writes ⊆ (gbW.map (Proc.devRef (τ := τ) .tc)).toFinset :=
  StableHlo.forall_writes_sub_of_map rfl

/-- What loop 0's body does not write it keeps. -/
theorem fb_keep (V : Valuation τ sig (Elt F)) (r : Ref sig .tc) (h : r ∉ fbW) : afterL fbI V (Proc.devRef .tc r) = V (Proc.devRef .tc r) := by
  rw [afterL_eq_after_flatten]; exact after_of_writes_sub _ V fb_writes h
/-- What loop 1's body does not write it keeps. -/
theorem gb_keep (V : Valuation τ sig (Elt F)) (r : Ref sig .tc) (h : r ∉ gbW) : afterL gbI V (Proc.devRef .tc r) = V (Proc.devRef .tc r) := by
  rw [afterL_eq_after_flatten]; exact after_of_writes_sub _ V gb_writes h
theorem cond0_keep (V : Valuation τ sig (Elt F)) (r : Ref sig .tc) (h : r ∉ cond0_W) : after cond0 V (Proc.devRef .tc r) = V (Proc.devRef .tc r) :=
  after_of_writes_sub _ V cond0_writes h
theorem cond1_keep (V : Valuation τ sig (Elt F)) (r : Ref sig .tc) (h : r ∉ cond1_W) : after cond1 V (Proc.devRef .tc r) = V (Proc.devRef .tc r) :=
  after_of_writes_sub _ V cond1_writes h

theorem fctr_step (V : Valuation τ sig (Elt F)) :
    afterL fbI V (Proc.devRef .tc main_v15_6) = addi (V (Proc.devRef .tc main_v15_6)) (constantI S_ 32 1#32) := by
  sl_kernel_rfl
theorem gctr_step (V : Valuation τ sig (Elt F)) :
    afterL gbI V (Proc.devRef .tc main_v28_8) = addi (V (Proc.devRef .tc main_v28_8)) (constantI S_ 32 1#32) := by
  sl_kernel_rfl

section

variable (m : (ℓ : Loc nD τ sig) → Buf (Elt F) ℓ) (ρ : Dev nD → PrngReg)

/-- Where loop 0 begins. -/
abbrev A0 : Dev nD → Valuation τ sig (Elt F) := fun c => after preOps (launchContents m c)
/-- Before loop 0's `k`-th condition. -/
abbrev X (k : ℕ) : Dev nD → Valuation τ sig (Elt F) := atTrip cond0 fbI (A0 m) k
/-- Where loop 1 begins. -/
abbrev A1 : Dev nD → Valuation τ sig (Elt F) := fun c => after midOps (after cond0 (X m 256 c))
/-- Before loop 1's `k`-th condition. -/
abbrev Y (k : ℕ) : Dev nD → Valuation τ sig (Elt F) := atTrip cond1 gbI (A1 m) k
/-- At the end. -/
abbrev Z : Dev nD → Valuation τ sig (Elt F) := fun c => after postOps (after cond1 (Y m 256 c))

theorem X_succ (k : ℕ) (c : Dev nD) : X m (k + 1) c = afterL fbI (after cond0 (X m k c)) := rfl
theorem Y_succ (k : ℕ) (c : Dev nD) : Y m (k + 1) c = afterL gbI (after cond1 (Y m k c)) := rfl

theorem fctr_entry (V : Valuation τ sig (Elt F)) : after preOps V (Proc.devRef .tc main_v15_6) = fun _ => (0#32 : BitVec 32) := by
  sl_kernel_rfl
theorem gctr_entry (V : Valuation τ sig (Elt F)) : after midOps V (Proc.devRef .tc main_v28_8) = fun _ => (0#32 : BitVec 32) := by
  sl_kernel_rfl

/-- Loop 0's counter before its `k`-th condition. -/
theorem X_ctr (c : Dev nD) : ∀ k, X m k c (Proc.devRef .tc main_v15_6) = fun _ => Scf.iv 0#32 1#32 k
  | 0 => by rw [show X m 0 c = after preOps (launchContents m c) from rfl, fctr_entry, Scf.iv_zero]
  | k + 1 => by
    rw [X_succ, fctr_step, cond0_keep _ _ (by decide +kernel), X_ctr c k, Scf.iv_succ]
    rfl
/-- Loop 1's counter before its `k`-th condition. -/
theorem Y_ctr (c : Dev nD) : ∀ k, Y m k c (Proc.devRef .tc main_v28_8) = fun _ => Scf.iv 0#32 1#32 k
  | 0 => by rw [show Y m 0 c = after midOps (after cond0 (X m 256 c)) from rfl, gctr_entry, Scf.iv_zero]
  | k + 1 => by
    rw [Y_succ, gctr_step, cond1_keep _ _ (by decide +kernel), Y_ctr c k, Scf.iv_succ]
    rfl

/-! ## The conditions -/

set_option backward.isDefEq.respectTransparency.types false in
theorem spec0 : CondSpec (pcfgs (F := F)) defs₀ loops (main_while0_cond (F := F)) cond0 fbI (A0 m) 256 := by
  intro k hk c bd
  have hctr := X_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (X m k c) main_v15_6 HostLoop.idx0)
        (HloOp.result _ (X m k c) main_while0c_c_24 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

set_option backward.isDefEq.respectTransparency.types false in
theorem spec1 : CondSpec (pcfgs (F := F)) defs₀ loops (main_while1_cond (F := F)) cond1 gbI (A1 m) 256 := by
  intro k hk c bd
  have hctr := Y_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Y m k c) main_v28_8 HostLoop.idx0)
        (HloOp.result _ (Y m k c) main_while1c_c_28 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

/-! ## The run -/

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) (adm (F := F)) := fun j => j.elim0
abbrev L : GSem nD τ sig → Finset Unit := fun _ => ∅
abbrev lv : GSem nD τ sig → Unit → ℕ := fun _ _ => 0

/-- What a core carries beside the arrays: that it owes nothing. -/
abbrev Rw (c : Dev nD) : sProp 𝕄 := iprop(∃ Wd, owes (c : Thread nD τ) (0 : CellTallies nD τ sig Unit) Wd)

theorem framed {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec (pcfgs (F := F)) defs₀ loops cond condOps bodyI W₀ n) :
    LoopCond (pcfgs (F := F)) defs₀ Variants.none loops Rw cond condOps bodyI W₀ n := by
  intro k hk c bd
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Rw c)
        ⊢ iprop(⌜v = 1#1 ↔ k < n⌝ ∗ boundary (c : Thread nD τ) ∗ held (c : Thread nD τ) (ucRefs τ sig) (after condOps (atTrip condOps bodyI W₀ k c)) ∗ Rw c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left (hcond k hk c bd)).trans (wp_frame_r _ _ _)).trans (wp_mono _ _ _ hpost))
  iintro ⟨Hbd, Hh, HR⟩
  isplitl [Hbd Hh]; · isplitl [Hbd] <;> iassumption
  iexact HR

abbrev preI : List (List (HloOp τ sig (Elt F))) := [preOps]
abbrev midI : List (List (HloOp τ sig (Elt F))) := [midOps]
abbrev postI : List (List (HloOp τ sig (Elt F))) := [postOps]
theorem preI_plain : Plain (preI (F := F)) := .cons preOps_sub (hf := List.forall_iff_forall_mem.mp preOps_fresh) .nil
theorem midI_plain : Plain (midI (F := F)) := .cons midOps_sub (hf := List.forall_iff_forall_mem.mp midOps_fresh) .nil
theorem postI_plain : Plain (postI (F := F)) := .cons postOps_sub (hf := List.forall_iff_forall_mem.mp postOps_fresh) .nil

/-- The program's parts: before, between and after the loops, and the loops. -/
def segs : List (CSeg (pcfgs (F := F)) (adm (F := F)) defs₀ Variants.none L lv loops (tk (F := F))) :=
  segsOf _ _ _ _ _ _ _ _ Rw preI preI_plain (launchContents m)
    ++ (loopSeg _ _ _ _ _ _ _ _ 0 main_while0_cond main_while0_body rfl cond0 fbI fbI_plain (by rw [fb_chain]; rfl) 256 (A0 m) Rw (framed (spec0 m))
      :: (segsOf _ _ _ _ _ _ _ _ Rw midI midI_plain (fun c => after cond0 (X m 256 c))
        ++ (loopSeg _ _ _ _ _ _ _ _ 1 main_while1_cond main_while1_body rfl cond1 gbI gbI_plain (by rw [gb_chain]; rfl) 256 (A1 m) Rw (framed (spec1 m))
          :: segsOf _ _ _ _ _ _ _ _ Rw postI postI_plain (fun c => after cond1 (Y m 256 c)))))

theorem segs_prog : (segs m).map CSeg.prog
    = [StableHlo.seq preOps, HostLoop.enter 0, StableHlo.seq midOps, HostLoop.enter 1, StableHlo.seq postOps] := by
  unfold segs
  rw [List.map_append, List.map_cons, List.map_append, List.map_cons, segsOf_prog, segsOf_prog, segsOf_prog]
  rfl

theorem segs_chain : CSeg.Chains (fun c => iprop(held (c : Thread nD τ) (ucRefs τ sig) (launchContents m c) ∗ Rw c)) (segs m)
    (fun c => iprop(iprop(held (c : Thread nD τ) (ucRefs τ sig) (Z m c)) ∗ ∃ Wd, owes (c : Thread nD τ) (0 : CellTallies nD τ sig Unit) Wd)) := by
  unfold segs
  exact CSeg.Chains.append (segsOf_chains _ _ _ _ _ _ _ _ Rw preI preI_plain _)
    ⟨fun _ => .rfl, CSeg.Chains.append (segsOf_chains _ _ _ _ _ _ _ _ Rw midI midI_plain _)
      ⟨fun _ => .rfl, segsOf_chains _ _ _ _ _ _ _ _ Rw postI postI_plain _⟩⟩

theorem no_scoped : ∀ s : SemLoc sig, s.isScoped .tc = true := by decide

/-- Every fair execution of the reference ends, every array at `Z` and every counter at zero. -/
theorem run_main : θ_run (defs (F := F)) (onTc (τ := τ) (main (F := F))) ⟨m, fun _ => 0, ρ⟩
    (fun r => (∀ c : Dev nD, ∀ b ∈ ucRefs τ sig, r.2.mem (c, b) = Z m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) (adm (F := F)) (fun k => k.1.elim0) defs₀ Variants.none L lv loops (tk (F := F)) m ρ main (segs m)
    (fun c Q => by
      rw [main_chain c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (Z m c)))
    (hch := segs_chain m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Z m c b)
    (hfin := fun c s' => by
      unfold held
      iintro ⟨Hh, HSI⟩
      ihave Hr := (pointsTo_read_all (ucRefs τ sig) (fun b => ((c : Dev nD), b)) (fun b => Z m c b) s') $$ [Hh HSI]
      · isplitl [Hh] <;> iassumption
      icases Hr with ⟨%h, HSI⟩
      imodintro
      isplitr; · ipureintro; exact h
      iexact HSI)
    (hQ := fun _ h hz => ⟨h, funext fun g => hz g (.inr (no_scoped g.2))⟩)

/-! ## What no operation writes -/

/-- An array neither loop nor any other operation writes ends as at launch. -/
theorem Z_keep (c : Dev nD) (r : Ref sig .tc) (h0 : r ∉ preOps_W) (h1 : r ∉ cond0_W) (h2 : r ∉ fbW) (h3 : r ∉ midOps_W) (h4 : r ∉ cond1_W)
    (h5 : r ∉ gbW) (h6 : r ∉ postOps_W) : Z m c (Proc.devRef .tc r) = m ((c.tc : Thread nD τ).loc r) := by
  have hX : ∀ k, X m k c (Proc.devRef .tc r) = m ((c.tc : Thread nD τ).loc r) := fun k => by
    induction k with
    | zero => exact after_of_writes_sub _ _ preOps_writes h0
    | succ k ih => rw [X_succ, fb_keep _ _ h2, cond0_keep _ _ h1, ih]
  have hY : ∀ k, Y m k c (Proc.devRef .tc r) = m ((c.tc : Thread nD τ).loc r) := fun k => by
    induction k with
    | zero => exact (after_of_writes_sub _ _ midOps_writes h3).trans ((cond0_keep _ _ h1).trans (hX 256))
    | succ k ih => rw [Y_succ, gb_keep _ _ h5, cond1_keep _ _ h4, ih]
  exact (after_of_writes_sub _ _ postOps_writes h6).trans ((cond1_keep _ _ h4).trans (hY 256))

end

end Cert.Ref
end
-- ==== Proof.Frames.lean ====
/- The frame claims: each program ends with its arguments as given and every counter at zero. -/
module

public import proofs.«01_k».proof.Defs
public import proofs.«01_k».proof.Proof.Launch
public import proofs.«01_k».proof.Proof.RefRun
public import proofs.«01_k».proof.Proof.Gen.Kernel

@[expose] public section

set_option maxRecDepth 16384

noncomputable section

namespace Cert.Launch

open Cert.KernelIdeal Cert.KernelIdeal.Gen
open Idealize.ShloMosaic Idealize.ShloMosaic.TcCoe

section

variable {F : FTy → Type} [FloatOps F]
variable (m : (ℓ : Loc nD τ sig) → Buf (Elt F) ℓ)

/-- Neither scan writes an argument. -/
theorem W2_keep (c : Dev nD) (r : Ref sig .tc) (h0 : ∀ w, Pipeline.arrRef spec0 w = r → (cfg0.win w).isOut = false)
    (h1 : ∀ w, Pipeline.arrRef spec1 w = r → (cfg1.win w).isOut = false) :
    W2 m c (Proc.devRef .tc r) = m ((c.tc : Thread nD τ).loc r) :=
  (Pipeline.afterRegion_keeps (Bwd.dat (W1 m) c) (W1 m c) winFacts1.arr_inj (fun w => Bwd.A_eq (W1 m) c w) r h1).trans
    (Pipeline.afterRegion_keeps (Fwd.dat (W0 m) c) (W0 m c) winFacts0.arr_inj (fun w => Fwd.A_eq (W0 m) c w) r h0)

/-- Any array of a final state. -/
theorem read {r : MemSt nD τ sig (Elt F)} (h : ∀ c : Dev nD, ∀ b ∈ Pipeline.ucRefs τ sig, r.mem (c, b) = W2 m c b) (c : Dev nD) (b : Ref sig .tc)
    (hb : (Proc.devRef .tc b : DevRef τ sig).isScoped = false) : r.mem ((c.tc : Thread nD τ).loc b) = W2 m c (Proc.devRef .tc b) :=
  h c _ (StableHlo.devRef_mem_ucRefs b hb)

theorem args_keep {r : MemSt nD τ sig (Elt F)} (h : ∀ c : Dev nD, ∀ b ∈ Pipeline.ucRefs τ sig, r.mem (c, b) = W2 m c b) (c : Dev nD) :
    r.mem ((c.tc : Thread nD τ).loc main_arg0) = m ((c.tc : Thread nD τ).loc main_arg0)
      ∧ r.mem ((c.tc : Thread nD τ).loc main_arg1) = m ((c.tc : Thread nD τ).loc main_arg1)
      ∧ r.mem ((c.tc : Thread nD τ).loc main_arg2) = m ((c.tc : Thread nD τ).loc main_arg2)
      ∧ r.mem ((c.tc : Thread nD τ).loc main_arg3) = m ((c.tc : Thread nD τ).loc main_arg3)
      ∧ r.mem ((c.tc : Thread nD τ).loc main_arg4) = m ((c.tc : Thread nD τ).loc main_arg4)
      ∧ r.mem ((c.tc : Thread nD τ).loc main_arg5) = m ((c.tc : Thread nD τ).loc main_arg5)
      ∧ r.mem ((c.tc : Thread nD τ).loc main_arg6) = m ((c.tc : Thread nD τ).loc main_arg6) :=
  ⟨(read m h c _ rfl).trans (W2_keep m c _ (by decide) (by decide)), (read m h c _ rfl).trans (W2_keep m c _ (by decide) (by decide)),
    (read m h c _ rfl).trans (W2_keep m c _ (by decide) (by decide)), (read m h c _ rfl).trans (W2_keep m c _ (by decide) (by decide)),
    (read m h c _ rfl).trans (W2_keep m c _ (by decide) (by decide)), (read m h c _ rfl).trans (W2_keep m c _ (by decide) (by decide)),
    (read m h c _ rfl).trans (W2_keep m c _ (by decide) (by decide))⟩

end

theorem frame_kernelIdeal : Cert.quiescent_KernelIdeal := fun m ρ _ =>
  (θ_run Cert.KernelIdeal.defs _ _).mono (fun _ h => ⟨fun c => args_keep m h.1 c, h.2⟩) (run_main (F := Ideal) m ρ)

/-- The same run with machine floats. -/
theorem frame_bits : ∀ (m : (ℓ : Loc nD τ sig) → Buf (Elt Bits) ℓ) (ρ : Dev nD → PrngReg), Cert.Pre_Kernel m →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) := fun m ρ _ =>
  (θ_run Cert.KernelIdeal.defs _ _).mono (fun _ h => ⟨fun c => args_keep m h.1 c, h.2⟩) (run_main (F := Bits) m ρ)

theorem frame_kernel : Cert.quiescent_Kernel := cast (by sl_kernel_rfl) frame_bits

end Cert.Launch

namespace Cert.Ref

open Cert.ReferenceIdeal Cert.ReferenceIdeal.Gen
open Idealize.ShloMosaic Idealize.ShloMosaic.TcCoe

section

variable {F : FTy → Type} [FloatOps F]
variable (m : (ℓ : Loc nD τ sig) → Buf (Elt F) ℓ)

theorem read {r : MemSt nD τ sig (Elt F)} (h : ∀ c : Dev nD, ∀ b ∈ Pipeline.ucRefs τ sig, r.mem (c, b) = Z m c b) (c : Dev nD) (b : Ref sig .tc)
    (hb : (Proc.devRef .tc b : DevRef τ sig).isScoped = false) : r.mem ((c.tc : Thread nD τ).loc b) = Z m c (Proc.devRef .tc b) :=
  h c _ (StableHlo.devRef_mem_ucRefs b hb)

theorem arg_keep {r : MemSt nD τ sig (Elt F)} (h : ∀ c : Dev nD, ∀ b ∈ Pipeline.ucRefs τ sig, r.mem (c, b) = Z m c b) (c : Dev nD) (b : Ref sig .tc)
    (hb : (Proc.devRef .tc b : DevRef τ sig).isScoped = false)
    (hw : b ∉ preOps_W ++ cond0_W ++ fbW ++ midOps_W ++ cond1_W ++ gbW ++ postOps_W) :
    r.mem ((c.tc : Thread nD τ).loc b) = m ((c.tc : Thread nD τ).loc b) := by
  simp only [List.mem_append, not_or] at hw
  refine (read m h c b hb).trans (Z_keep m c b ?_ ?_ ?_ ?_ ?_ ?_ ?_) <;> first | tauto | (simp only [List.mem_append, not_or]; tauto)

theorem args_keep {r : MemSt nD τ sig (Elt F)} (h : ∀ c : Dev nD, ∀ b ∈ Pipeline.ucRefs τ sig, r.mem (c, b) = Z m c b) (c : Dev nD) :
    r.mem ((c.tc : Thread nD τ).loc main_arg0) = m ((c.tc : Thread nD τ).loc main_arg0)
      ∧ r.mem ((c.tc : Thread nD τ).loc main_arg1) = m ((c.tc : Thread nD τ).loc main_arg1)
      ∧ r.mem ((c.tc : Thread nD τ).loc main_arg2) = m ((c.tc : Thread nD τ).loc main_arg2)
      ∧ r.mem ((c.tc : Thread nD τ).loc main_arg3) = m ((c.tc : Thread nD τ).loc main_arg3)
      ∧ r.mem ((c.tc : Thread nD τ).loc main_arg4) = m ((c.tc : Thread nD τ).loc main_arg4)
      ∧ r.mem ((c.tc : Thread nD τ).loc main_arg5) = m ((c.tc : Thread nD τ).loc main_arg5)
      ∧ r.mem ((c.tc : Thread nD τ).loc main_arg6) = m ((c.tc : Thread nD τ).loc main_arg6) :=
  ⟨arg_keep m h c _ rfl (by decide +kernel), arg_keep m h c _ rfl (by decide +kernel), arg_keep m h c _ rfl (by decide +kernel),
    arg_keep m h c _ rfl (by decide +kernel), arg_keep m h c _ rfl (by decide +kernel), arg_keep m h c _ rfl (by decide +kernel),
    arg_keep m h c _ rfl (by decide +kernel)⟩

end

theorem frame_reference : Cert.quiescent_ReferenceIdeal := fun m ρ _ =>
  (θ_run Cert.ReferenceIdeal.defs _ _).mono (fun _ h => ⟨fun c => args_keep m h.1 c, h.2⟩) (run_main (F := Ideal) m ρ)

end Cert.Ref
end
-- ==== Proof.HostChunk.lean ====
/- The kernel's chunk functions over the reals, written with the reference's operations. -/
module

public import proofs.«01_k».proof.Proof.Chunk
public import proofs.«01_k».proof.Proof.Gen.ReferenceIdeal
public import Idealize.ShloMosaic.Lib.KernelVsHost
public import Idealize.ShloMosaic.Lib.Pipeline.Value

@[expose] public section

set_option maxRecDepth 16384

noncomputable section

namespace Cert.HostChunk

open Cert.ReferenceIdeal Cert.ReferenceIdeal.Gen
open Idealize.ShloMosaic

/-- Rows of one chunk, over the reals. -/
abbrev Rw := FVec Ideal S8x64x128 .f32
/-- A chunk's square. -/
abbrev Sq := FVec Ideal S8x64x64 .f32
/-- A chunk's decay lanes. -/
abbrev Ln := FVec Ideal S8x1x128 .f32
/-- A state. -/
abbrev St := FVec Ideal S8x128x128 .f32

/-- Lanes laid along every row of a state. -/
abbrev lay (x : Ln) : St := broadcastInDim S8x128x128 ![0, 1, 2] bcast_S8x1x128_S8x128x128_0_1_2 x
/-- Rows from columns. -/
abbrev tr (x : FVec Ideal S8x128x64 .f32) : Rw := transpose S8x64x128 [0, 2, 1] x transposes_S8x128x64_S8x64x128_0_2_1
/-- A state transposed. -/
abbrev trS (x : St) : St := transpose S8x128x128 [0, 2, 1] x transposes_S8x128x128_S8x128x128_0_2_1

theorem lay_eq (x : Ln) : broadcastTo S8x128x128 x Cert.KernelIdeal.Gen.facts.broadcasts_S8x1x128_S8x128x128 = lay x := by
  funext i
  have l1 : (i 1).val < 128 := (i 1).isLt
  refine (broadcastTo_apply x _ i (ix3 (n0 := 8) (n1 := 1) (n2 := 128) (i 0) 0 (i 2)) ?_).trans
    (Idealize.ShloMosaic.broadcastInDim_apply _ _ x i (ix3 (n0 := 8) (n1 := 1) (n2 := 128) (i 0) 0 (i 2)) ?_).symm
  · intro a
    match a with
    | ⟨0, _⟩ => rfl
    | ⟨1, _⟩ => rfl
    | ⟨2, _⟩ => rfl
  · intro a
    match a with
    | ⟨0, _⟩ => rfl
    | ⟨1, _⟩ => rfl
    | ⟨2, _⟩ => rfl

theorem vNew_eq (u w : Rw) (s : St) : Chunk.vNew (F := Ideal) u w s
    = subf u (Host.dotGeneral dot_S8x64x128_S8x128x128_S8x64x128_2_1_1_2_0_0 none w s) := by
  unfold Chunk.vNew; rw [matmul_zero_eq_dotGeneral]; rfl

theorem oOf_eq (q : Rw) (a : Sq) (v : Rw) (s : St) : Chunk.oOf (F := Ideal) q a v s
    = addf (Host.dotGeneral dot_S8x64x128_S8x128x128_S8x64x128_2_1_1_2_0_0 none q s)
        (Host.dotGeneral dot_S8x64x64_S8x64x128_S8x64x128_2_1_1_2_0_0 none a v) := by
  unfold Chunk.oOf; rw [matmul_zero_eq_dotGeneral, matmul_zero_eq_dotGeneral]; rfl

theorem sNext_eq (k : Rw) (g : Ln) (v : Rw) (s : St) : Chunk.sNext (F := Ideal) k g v s
    = addf (mulf s (lay (Host.exp g))) (Host.dotGeneral dot_S8x64x128_S8x64x128_S8x128x128_1_1_2_2_0_0 none k v) := by
  unfold Chunk.sNext; rw [matmul_zero_eq_dotGeneral, show exp (φ := .f32) g = Host.exp g from rfl]
  rw [show broadcastTo Cert.KernelIdeal.S8x128x128 (Host.exp g) _ = lay (Host.exp g) from lay_eq _]; rfl

theorem neg_eq (x : Rw) : Chunk.neg (F := Ideal) x = Host.negf x := subf_zero_eq_hostNegf x

theorem dV_eq (a : Sq) (k d : Rw) (e : St) : Chunk.dV (F := Ideal) a k d e
    = addf (tr (Host.dotGeneral dot_S8x128x128_S8x64x128_S8x128x64_1_2_2_1_0_0 none e k))
        (tr (Host.dotGeneral dot_S8x64x128_S8x64x64_S8x128x64_1_1_2_2_0_0 none d a)) := by
  unfold Chunk.dV; rw [matmul_zero_eq_dotGeneral, matmul_zero_eq_dotGeneral, Chunk.selfR_eq]; rfl

theorem dQ_eq (d : Rw) (s : St) : Chunk.dQ (F := Ideal) d s = Host.dotGeneral dot_S8x64x128_S8x128x128_S8x64x128_2_2_1_1_0_0 none d s := by
  unfold Chunk.dQ; rw [matmul_zero_eq_dotGeneral, Chunk.selfR_eq]; rfl

theorem dA_eq (d v : Rw) : Chunk.dA (F := Ideal) d v = Host.dotGeneral dot_S8x64x128_S8x64x128_S8x64x64_2_2_1_1_0_0 none d v := by
  unfold Chunk.dA; rw [matmul_zero_eq_dotGeneral, Chunk.selfR_eq]; rfl

theorem dW_eq (v : Rw) (s : St) : Chunk.dW (F := Ideal) v s
    = Host.dotGeneral dot_S8x64x128_S8x128x128_S8x64x128_2_2_1_1_0_0 none (Host.negf v) s := by
  unfold Chunk.dW; rw [matmul_zero_eq_dotGeneral, neg_eq]; rfl

theorem dK_eq (v : Rw) (e : St) : Chunk.dK (F := Ideal) v e
    = tr (Host.dotGeneral dot_S8x128x128_S8x64x128_S8x128x64_2_2_1_1_0_0 none e v) := by
  unfold Chunk.dK; rw [matmul_zero_eq_dotGeneral]; rfl

theorem dG_eq (g : Ln) (s e : St) : Chunk.dG (F := Ideal) g s e
    = mulf (shapeCast S8x1x128 (Host.reduceAdd (mulf s e) (constant S_ .f32 0x00000000#32 : FVec Ideal S_ .f32)
        reducesTo_S8x128x128_S8x128_d1 h_S_) shapeCasts_S8x128_S8x1x128) (Host.exp g) := by
  exact congrArg (fun x : FVec Ideal S8x128 .f32 => mulf (φ := .f32) (shapeCast S8x1x128 x shapeCasts_S8x128_S8x1x128) (Host.exp g))
    (multiReduction_add_eq_hostReduceAdd (mulf (φ := .f32) s e) 0x00000000#32 Cert.KernelIdeal.Gen.reduces_S8x128x128_S8x128 (.inl rfl) rfl
      (constant S_ .f32 0x00000000#32 : FVec Ideal S_ .f32) reducesTo_S8x128x128_S8x128_d1 h_S_ Ideal.ofBits_zero_f32)

theorem dS_eq (q w : Rw) (g : Ln) (d v : Rw) (e : St) : Chunk.dS (F := Ideal) q w g d v e
    = addf (addf (mulf e (lay (Host.exp g))) (trS (Host.dotGeneral dot_S8x64x128_S8x64x128_S8x128x128_1_1_2_2_0_0 none d q)))
        (trS (Host.dotGeneral dot_S8x64x128_S8x64x128_S8x128x128_1_1_2_2_0_0 none (Host.negf v) w)) := by
  unfold Chunk.dS
  rw [matmul_zero_eq_dotGeneral, matmul_zero_eq_dotGeneral, Chunk.selfR_eq, neg_eq, show exp (φ := .f32) g = Host.exp g from rfl,
    show broadcastTo Cert.KernelIdeal.S8x128x128 (Host.exp g) _ = lay (Host.exp g) from lay_eq _]; rfl

theorem zero_eq : Chunk.zeroSt (F := Ideal) = broadcastInDim S8x128x128 ![] bcast_S_S8x128x128 (constant S_ .f32 0x00000000#32 : FVec Ideal S_ .f32) := by
  unfold Chunk.zeroSt
  rw [shapeCast_id]; rfl

end Cert.HostChunk
end
-- ==== Proof.Rows.lean ====
/- Arrays cut into chunks: one row of a stack of chunks, one chunk of an argument, and an array put together from its
   chunks. A loop reads a chunk as one row of a stack and writes one row of another. -/
module

public import Idealize.ShloMosaic.Lib.Pointwise.Tactic
public import Idealize.ShloMosaic.Lib.Pointwise.ShapeOps
public import Idealize.ShloMosaic.Lib.Pointwise.Reshape
public import Idealize.ShloMosaic.Lib.Pipeline.Value
public import Idealize.ShloMosaic.Lib.Tactic

@[expose] public section

noncomputable section

namespace Cert.Rows

open Idealize.ShloMosaic

variable {α : Type} {a b c : ℕ}

/-- Row `n` of a stack of 256. -/
def row (x : (⟨4, ![256, a, b, c]⟩ : Shape).Idx → α) (n : ℕ) : (⟨3, ![a, b, c]⟩ : Shape).Idx → α :=
  fun y => x (ix4 (Fin.ofNat 256 n) (y 0) (y 1) (y 2))

/-- Chunk `n` of an array whose second axis counts the chunks. -/
def cutM (x : (⟨4, ![a, 256, b, c]⟩ : Shape).Idx → α) (n : ℕ) : (⟨3, ![a, b, c]⟩ : Shape).Idx → α :=
  fun y => x (ix4 (y 0) (Fin.ofNat 256 n) (y 1) (y 2))

/-- Chunk `n` of an array whose second axis has 64 rows a chunk. -/
def cutR (x : (⟨3, ![8, 16384, 128]⟩ : Shape).Idx → α) (n : ℕ) : (⟨3, ![8, 64, 128]⟩ : Shape).Idx → α :=
  fun y => x (ix3 (y 0) (Fin.ofNat 16384 (64 * n + (y 1).val)) (y 2))

/-- The stack with the given rows. -/
def joinS (v : ℕ → (⟨3, ![a, b, c]⟩ : Shape).Idx → α) : (⟨4, ![256, a, b, c]⟩ : Shape).Idx → α :=
  fun i => v (i 0).val (ix3 (i 1) (i 2) (i 3))

/-- The array with the given chunks, its second axis counting them. -/
def joinM (v : ℕ → (⟨3, ![a, b, c]⟩ : Shape).Idx → α) : (⟨4, ![a, 256, b, c]⟩ : Shape).Idx → α :=
  fun i => v (i 1).val (ix3 (i 0) (i 2) (i 3))

/-- The array with the given chunks of 64 rows. -/
def joinR (v : ℕ → (⟨3, ![8, 64, 128]⟩ : Shape).Idx → α) : (⟨3, ![8, 16384, 128]⟩ : Shape).Idx → α :=
  fun i => v ((i 1).val / 64) (ix3 (i 0) (⟨(i 1).val % 64, Nat.mod_lt _ (by decide)⟩ : Fin 64) (i 2))

theorem joinM_congr {v w : ℕ → (⟨3, ![a, b, c]⟩ : Shape).Idx → α} (h : ∀ n < 256, v n = w n) : joinM v = joinM w := by
  funext i; unfold joinM; rw [h _ (i 1).isLt]

theorem joinR_congr {v w : ℕ → (⟨3, ![8, 64, 128]⟩ : Shape).Idx → α} (h : ∀ n < 256, v n = w n) : joinR v = joinR w := by
  funext i; unfold joinR
  rw [h _ (by have : (i 1).val < 16384 := (i 1).isLt; omega)]

theorem joinS_congr {v w : ℕ → (⟨3, ![a, b, c]⟩ : Shape).Idx → α} (h : ∀ n < 256, v n = w n) : joinS v = joinS w := by
  funext i; unfold joinS; rw [h _ (i 0).isLt]

theorem row_joinS (v : ℕ → (⟨3, ![a, b, c]⟩ : Shape).Idx → α) (n : ℕ) (hn : n < 256) : row (joinS v) n = v n := by
  funext y; unfold row joinS
  show v (n % 256) _ = _
  rw [Nat.mod_eq_of_lt hn]; exact congrArg (v n) (ix3_eta y)

/-- A slice of one row, its unit axis dropped. -/
theorem row_slice (x : (⟨4, ![256, a, b, c]⟩ : Shape).Idx → α) (start : Fin 4 → Int)
    (h : (⟨4, ![256, a, b, c]⟩ : Shape).Slices (fun _ => 0) ⟨4, ![1, a, b, c]⟩)
    (hc : (⟨4, ![1, a, b, c]⟩ : Shape).ShapeCasts ⟨3, ![a, b, c]⟩) (k : ℕ) (hk : k < 256)
    (h0 : start 0 = k) (h1 : start 1 = 0) (h2 : start 2 = 0) (h3 : start 3 = 0) :
    shapeCast ⟨3, ![a, b, c]⟩ (Host.dynamicSlice ⟨4, ![1, a, b, c]⟩ x start h) hc = row x k := by
  funext y
  rw [Idealize.ShloMosaic.shapeCast_apply _ hc y (ix4 (0 : Fin 1) (y 0) (y 1) (y 2)) (by
    rw [rowMajor_val4 _ _ _ _ rfl rfl rfl, rowMajor_val3 _ _ _ rfl rfl]; simp), Host.dynamicSlice_apply]
  unfold row
  refine congrArg x (funext fun i => Fin.ext ?_)
  match i with
  | ⟨0, _⟩ =>
    show Host.clampedStart _ _ h.1 start 0 + 0 = k % 256
    rw [Host.clampedStart_of_le h.1 start 0 k h0 (show k + 1 ≤ 256 by omega), Nat.mod_eq_of_lt hk, Nat.add_zero]
  | ⟨1, _⟩ =>
    show Host.clampedStart _ _ h.1 start 1 + (y 0).val = (y 0).val
    rw [Host.clampedStart_of_le h.1 start 1 0 h1 (show 0 + a ≤ a by omega), Nat.zero_add]
  | ⟨2, _⟩ =>
    show Host.clampedStart _ _ h.1 start 2 + (y 1).val = (y 1).val
    rw [Host.clampedStart_of_le h.1 start 2 0 h2 (show 0 + b ≤ b by omega), Nat.zero_add]
  | ⟨3, _⟩ =>
    show Host.clampedStart _ _ h.1 start 3 + (y 2).val = (y 2).val
    rw [Host.clampedStart_of_le h.1 start 3 0 h3 (show 0 + c ≤ c by omega), Nat.zero_add]

/-- A row written over one row of a stack. -/
theorem row_update (x : (⟨4, ![256, a, b, c]⟩ : Shape).Idx → α) (v : (⟨3, ![a, b, c]⟩ : Shape).Idx → α) (start : Fin 4 → Int)
    (h : (⟨4, ![256, a, b, c]⟩ : Shape).Slices (fun _ => 0) ⟨4, ![1, a, b, c]⟩)
    (hb : (⟨3, ![a, b, c]⟩ : Shape).BroadcastsInDim ⟨4, ![1, a, b, c]⟩ ![1, 2, 3]) (k : ℕ) (hk : k < 256)
    (h0 : start 0 = k) (h1 : start 1 = 0) (h2 : start 2 = 0) (h3 : start 3 = 0) (n : ℕ) (hn : n < 256) :
    row (Host.dynamicUpdateSlice x (broadcastInDim ⟨4, ![1, a, b, c]⟩ ![1, 2, 3] hb v) start h) n = if n = k then v else row x n := by
  funext y
  have c0 := Host.clampedStart_of_le (s := ⟨4, ![256, a, b, c]⟩) (t := ⟨4, ![1, a, b, c]⟩) h.1 start 0 k h0 (show k + 1 ≤ 256 by omega)
  have c1 := Host.clampedStart_of_le (s := ⟨4, ![256, a, b, c]⟩) (t := ⟨4, ![1, a, b, c]⟩) h.1 start 1 0 h1 (show 0 + a ≤ a by omega)
  have c2 := Host.clampedStart_of_le (s := ⟨4, ![256, a, b, c]⟩) (t := ⟨4, ![1, a, b, c]⟩) h.1 start 2 0 h2 (show 0 + b ≤ b by omega)
  have c3 := Host.clampedStart_of_le (s := ⟨4, ![256, a, b, c]⟩) (t := ⟨4, ![1, a, b, c]⟩) h.1 start 3 0 h3 (show 0 + c ≤ c by omega)
  have hm : n % 256 = n := Nat.mod_eq_of_lt hn
  have l1 := (y 0).isLt
  have l2 := (y 1).isLt
  have l3 := (y 2).isLt
  unfold row
  rw [Host.dynamicUpdateSlice_apply]
  by_cases e : n = k
  · subst e
    rw [if_pos rfl, dif_pos]
    swap
    · intro i
      match i with
      | ⟨0, _⟩ =>
        show Host.clampedStart _ _ h.1 start 0 ≤ n % 256 ∧ n % 256 < Host.clampedStart _ _ h.1 start 0 + 1
        rw [c0]; omega
      | ⟨1, _⟩ =>
        show Host.clampedStart _ _ h.1 start 1 ≤ (y 0).val ∧ (y 0).val < Host.clampedStart _ _ h.1 start 1 + a
        rw [c1]; exact ⟨Nat.zero_le _, by rw [Nat.zero_add]; exact l1⟩
      | ⟨2, _⟩ =>
        show Host.clampedStart _ _ h.1 start 2 ≤ (y 1).val ∧ (y 1).val < Host.clampedStart _ _ h.1 start 2 + b
        rw [c2]; exact ⟨Nat.zero_le _, by rw [Nat.zero_add]; exact l2⟩
      | ⟨3, _⟩ =>
        show Host.clampedStart _ _ h.1 start 3 ≤ (y 2).val ∧ (y 2).val < Host.clampedStart _ _ h.1 start 3 + c
        rw [c3]; exact ⟨Nat.zero_le _, by rw [Nat.zero_add]; exact l3⟩
    refine Idealize.ShloMosaic.broadcastInDim_apply _ hb v _ y fun i => ?_
    match i with
    | ⟨0, _⟩ =>
      show (y 0).val = if a = 1 then 0 else (y 0).val - Host.clampedStart _ _ h.1 start 1
      rw [c1, Nat.sub_zero]; split
      · next e => have : (y 0).val < a := l1; omega
      · rfl
    | ⟨1, _⟩ =>
      show (y 1).val = if b = 1 then 0 else (y 1).val - Host.clampedStart _ _ h.1 start 2
      rw [c2, Nat.sub_zero]; split
      · next e => have : (y 1).val < b := l2; omega
      · rfl
    | ⟨2, _⟩ =>
      show (y 2).val = if c = 1 then 0 else (y 2).val - Host.clampedStart _ _ h.1 start 3
      rw [c3, Nat.sub_zero]; split
      · next e => have : (y 2).val < c := l3; omega
      · rfl
  · rw [if_neg e, dif_neg]
    intro hi
    have := hi 0
    change Host.clampedStart _ _ h.1 start 0 ≤ n % 256 ∧ n % 256 < Host.clampedStart _ _ h.1 start 0 + 1 at this
    rw [c0] at this; omega

/-- The rows of an argument's stack of chunks are its chunks. -/
theorem row_transpose (x : (⟨4, ![a, 256, b, c]⟩ : Shape).Idx → α)
    (h : (⟨4, ![a, 256, b, c]⟩ : Shape).Transposes [1, 0, 2, 3] ⟨4, ![256, a, b, c]⟩) (n : ℕ) :
    row (transpose ⟨4, ![256, a, b, c]⟩ [1, 0, 2, 3] x h) n = cutM x n := by
  funext y
  unfold row cutM
  rw [Pointwise.transpose_apply]
  refine congrArg x (funext fun i => ?_)
  match i with
  | ⟨0, _⟩ => rfl
  | ⟨1, _⟩ => rfl
  | ⟨2, _⟩ => rfl
  | ⟨3, _⟩ => rfl

theorem cutM_reshape (x : (⟨3, ![8, 16384, 128]⟩ : Shape).Idx → α)
    (h : (⟨3, ![8, 16384, 128]⟩ : Shape).ShapeCasts ⟨4, ![8, 256, 64, 128]⟩) (n : ℕ) (hn : n < 256) :
    cutM (shapeCast ⟨4, ![8, 256, 64, 128]⟩ x h) n = cutR x n := by
  funext y
  have l1 : (y 1).val < 64 := (y 1).isLt
  unfold cutM cutR
  refine Idealize.ShloMosaic.shapeCast_apply _ h _ _ ?_
  rw [rowMajor_val4 _ _ _ _ rfl rfl rfl, rowMajor_val3 _ _ _ rfl rfl]
  show ((y 0).val * _ + (64 * n + (y 1).val) % 16384 * _ + (y 2).val : ℕ) = (y 0).val * _ + n % 256 * _ + (y 1).val * _ + (y 2).val
  rw [Nat.mod_eq_of_lt hn, Nat.mod_eq_of_lt (by omega)]
  simp
  ring

/-- A stack with given rows, transposed back, is the array with those chunks. -/
theorem transpose_joinM (x : (⟨4, ![256, a, b, c]⟩ : Shape).Idx → α)
    (h : (⟨4, ![256, a, b, c]⟩ : Shape).Transposes [1, 0, 2, 3] ⟨4, ![a, 256, b, c]⟩) :
    transpose ⟨4, ![a, 256, b, c]⟩ [1, 0, 2, 3] x h = joinM (row x) := by
  funext y
  unfold row joinM
  rw [Pointwise.transpose_apply]
  refine congrArg x (funext fun i => ?_)
  match i with
  | ⟨0, _⟩ => exact Fin.ext (Nat.mod_eq_of_lt (y 1).isLt).symm
  | ⟨1, _⟩ => rfl
  | ⟨2, _⟩ => rfl
  | ⟨3, _⟩ => rfl

theorem reshape_joinR (v : ℕ → (⟨3, ![8, 64, 128]⟩ : Shape).Idx → α)
    (h : (⟨4, ![8, 256, 64, 128]⟩ : Shape).ShapeCasts ⟨3, ![8, 16384, 128]⟩) :
    shapeCast ⟨3, ![8, 16384, 128]⟩ (joinM v) h = joinR v := by
  funext y
  have l1 : (y 1).val < 16384 := (y 1).isLt
  refine (Idealize.ShloMosaic.shapeCast_apply _ h y (ix4 (n0 := 8) (n1 := 256) (n2 := 64) (n3 := 128) (y 0) ⟨(y 1).val / 64, by omega⟩
    ⟨(y 1).val % 64, Nat.mod_lt _ (by decide)⟩ (y 2)) ?_).trans rfl
  rw [rowMajor_val4 _ _ _ _ rfl rfl rfl, rowMajor_val3 _ _ _ rfl rfl]
  show ((y 0).val * _ + (y 1).val / 64 * _ + (y 1).val % 64 * _ + (y 2).val : ℕ) = (y 0).val * _ + (y 1).val * _ + (y 2).val
  simp
  omega

end Cert.Rows
end
-- ==== Proof.Spec.lean ====
/- What both programs compute, chunk by chunk over the reals: the states of the recurrence, its outputs, the cotangents
   of the states, and the gradients. -/
module

public import proofs.«01_k».proof.Proof.HostChunk
public import proofs.«01_k».proof.Proof.Rows

@[expose] public section

noncomputable section

namespace Cert.Spec

open Idealize.ShloMosaic Cert.HostChunk Cert.Rows

/-- The chunks of the seven arguments. -/
structure Chs where
  q : ℕ → Rw
  a : ℕ → Sq
  u : ℕ → Rw
  w : ℕ → Rw
  k : ℕ → Rw
  g : ℕ → Ln
  d : ℕ → Rw

/-- The chunks of seven given arrays. -/
def chs (x0 : FVec Ideal ⟨3, ![8, 16384, 128]⟩ .f32) (x1 : FVec Ideal ⟨4, ![8, 256, 64, 64]⟩ .f32)
    (x2 x3 x4 : FVec Ideal ⟨3, ![8, 16384, 128]⟩ .f32) (x5 : FVec Ideal ⟨4, ![8, 256, 1, 128]⟩ .f32)
    (x6 : FVec Ideal ⟨3, ![8, 16384, 128]⟩ .f32) : Chs :=
  ⟨cutR x0, cutM x1, cutR x2, cutR x3, cutR x4, cutM x5, cutR x6⟩

namespace Chs

variable (b : Chs)

/-- The state before chunk `n`. -/
def S : ℕ → St
  | 0 => Chunk.zeroSt (F := Ideal)
  | n + 1 => Chunk.sNext (F := Ideal) (b.k n) (b.g n) (Chunk.vNew (F := Ideal) (b.u n) (b.w n) (S n)) (S n)

/-- Chunk `n`'s corrected values. -/
def v (n : ℕ) : Rw := Chunk.vNew (F := Ideal) (b.u n) (b.w n) (b.S n)
/-- Chunk `n`'s output. -/
def o (n : ℕ) : Rw := Chunk.oOf (F := Ideal) (b.q n) (b.a n) (b.v n) (b.S n)

/-- The cotangent of chunk `n`'s corrected values, from that of the state after it. -/
def cv (n : ℕ) (e : St) : Rw := Chunk.dV (F := Ideal) (b.a n) (b.k n) (b.d n) e

/-- The cotangent of the state after chunk `255 - i`. -/
def E : ℕ → St
  | 0 => Chunk.zeroSt (F := Ideal)
  | i + 1 => Chunk.dS (F := Ideal) (b.q (255 - i)) (b.w (255 - i)) (b.g (255 - i)) (b.d (255 - i)) (b.cv (255 - i) (E i)) (E i)

/-- The gradient of the read rows. -/
def gq (n : ℕ) : Rw := Chunk.dQ (F := Ideal) (b.d n) (b.S n)
/-- The gradient of the squares. -/
def ga (n : ℕ) : Sq := Chunk.dA (F := Ideal) (b.d n) (b.v n)
/-- The gradient of the values. -/
def gu (n : ℕ) : Rw := b.cv n (b.E (255 - n))
/-- The gradient of the correction rows. -/
def gw (n : ℕ) : Rw := Chunk.dW (F := Ideal) (b.cv n (b.E (255 - n))) (b.S n)
/-- The gradient of the written rows. -/
def gk (n : ℕ) : Rw := Chunk.dK (F := Ideal) (b.v n) (b.E (255 - n))
/-- The gradient of the decay lanes. -/
def gg (n : ℕ) : Ln := Chunk.dG (F := Ideal) (b.g n) (b.S n) (b.E (255 - n))

end Chs
end Cert.Spec
end
-- ==== Proof.Tiles.lean ====
/- A block stored chunk by chunk, read back at an index. -/
module

public import proofs.«01_k».proof.Proof.Chunk
public import proofs.«01_k».proof.Proof.Rows
public import Idealize.ShloMosaic.Lib.Pipeline.ValueKit
public import Idealize.ShloMosaic.Lib.Tactic

@[expose] public section

set_option maxRecDepth 16384

noncomputable section

namespace Cert.Tiles

open Cert.KernelIdeal Cert.KernelIdeal.Gen Cert.Chunk
open Idealize.ShloMosaic Idealize.ShloMosaic.TcCoe Idealize.ShloMosaic.Tactic

variable {F : FTy → Type} [FloatOps F]

theorem row_up (f : Fin 4 → Vec F S8x64x128 .f32) (y : S8x256x128.Idx) (j : Fin 4) (z : S8x64x128.Idx) (hy : y = (rowRect j).emb z) :
    View.canon (Val := Elt F) ([⟨rowRect 0, f 0⟩, ⟨rowRect 1, f 1⟩, ⟨rowRect 2, f 2⟩, ⟨rowRect 3, f 3⟩] : List (View.Piece (Elt F) S8x256x128 .f32)) y = f j z := by
  refine View.canon_eq_of_allAt _ y _ ?_ ?_
  · refine ⟨⟨rowRect j, f j⟩, ?_, by rw [hy]; exact (rowRect j).idx_mem z⟩
    fin_cases j <;> simp
  · intro p hp x hx
    have h1 : ∀ i : Fin 4, ∀ x : S8x64x128.Idx, ((rowRect i).emb x 1 : ℕ) = 64 * i.val + (x 1).val := fun _ _ => by first | rfl | blk_simp
    have key : ∀ i : Fin 4, ∀ x : S8x64x128.Idx, (rowRect i).emb x = y → f i x = f j z := fun i x hx => by
      have e := hx.trans hy
      have e1 := congrArg (fun v : S8x256x128.Idx => (v 1).val) e
      have a1 := h1 i x
      have a2 := h1 j z
      have b1 := (x 1).isLt
      have b2 := (z 1).isLt
      have hij : i = j := Fin.ext (by simp only [a1, a2] at e1; change (x 1).val < 64 at b1; change (z 1).val < 64 at b2; omega)
      subst hij
      rw [(rowRect i).emb.injective e]
    simp only [List.mem_cons, List.not_mem_nil, or_false] at hp
    rcases hp with rfl | rfl | rfl | rfl <;> exact key _ x hx

theorem row_dn (f : Fin 4 → Vec F S8x64x128 .f32) (y : S8x256x128.Idx) (j : Fin 4) (z : S8x64x128.Idx) (hy : y = (rowRect j).emb z) :
    View.canon (Val := Elt F) ([⟨rowRect 3, f 3⟩, ⟨rowRect 2, f 2⟩, ⟨rowRect 1, f 1⟩, ⟨rowRect 0, f 0⟩] : List (View.Piece (Elt F) S8x256x128 .f32)) y = f j z := by
  refine View.canon_eq_of_allAt _ y _ ?_ ?_
  · refine ⟨⟨rowRect j, f j⟩, ?_, by rw [hy]; exact (rowRect j).idx_mem z⟩
    fin_cases j <;> simp
  · intro p hp x hx
    have h1 : ∀ i : Fin 4, ∀ x : S8x64x128.Idx, ((rowRect i).emb x 1 : ℕ) = 64 * i.val + (x 1).val := fun _ _ => by first | rfl | blk_simp
    have key : ∀ i : Fin 4, ∀ x : S8x64x128.Idx, (rowRect i).emb x = y → f i x = f j z := fun i x hx => by
      have e := hx.trans hy
      have e1 := congrArg (fun v : S8x256x128.Idx => (v 1).val) e
      have a1 := h1 i x
      have a2 := h1 j z
      have b1 := (x 1).isLt
      have b2 := (z 1).isLt
      have hij : i = j := Fin.ext (by simp only [a1, a2] at e1; change (x 1).val < 64 at b1; change (z 1).val < 64 at b2; omega)
      subst hij
      rw [(rowRect i).emb.injective e]
    simp only [List.mem_cons, List.not_mem_nil, or_false] at hp
    rcases hp with rfl | rfl | rfl | rfl <;> exact key _ x hx

theorem sq_up (f : Fin 4 → Vec F S8x1x64x64 .f32) (y : S8x4x64x64.Idx) (j : Fin 4) (z : S8x1x64x64.Idx) (hy : y = (sqRect j).emb z) :
    View.canon (Val := Elt F) ([⟨sqRect 0, f 0⟩, ⟨sqRect 1, f 1⟩, ⟨sqRect 2, f 2⟩, ⟨sqRect 3, f 3⟩] : List (View.Piece (Elt F) S8x4x64x64 .f32)) y = f j z := by
  refine View.canon_eq_of_allAt _ y _ ?_ ?_
  · refine ⟨⟨sqRect j, f j⟩, ?_, by rw [hy]; exact (sqRect j).idx_mem z⟩
    fin_cases j <;> simp
  · intro p hp x hx
    have h1 : ∀ i : Fin 4, ∀ x : S8x1x64x64.Idx, ((sqRect i).emb x 1 : ℕ) = i.val + (x 1).val := fun _ _ => by first | rfl | blk_simp
    have key : ∀ i : Fin 4, ∀ x : S8x1x64x64.Idx, (sqRect i).emb x = y → f i x = f j z := fun i x hx => by
      have e := hx.trans hy
      have e1 := congrArg (fun v : S8x4x64x64.Idx => (v 1).val) e
      have a1 := h1 i x
      have a2 := h1 j z
      have b1 := (x 1).isLt
      have b2 := (z 1).isLt
      have hij : i = j := Fin.ext (by simp only [a1, a2] at e1; change (x 1).val < 1 at b1; change (z 1).val < 1 at b2; omega)
      subst hij
      rw [(sqRect i).emb.injective e]
    simp only [List.mem_cons, List.not_mem_nil, or_false] at hp
    rcases hp with rfl | rfl | rfl | rfl <;> exact key _ x hx

theorem lane_up (f : Fin 4 → Vec F S8x1x1x128 .f32) (y : S8x4x1x128.Idx) (j : Fin 4) (z : S8x1x1x128.Idx) (hy : y = (laneRect j).emb z) :
    View.canon (Val := Elt F) ([⟨laneRect 0, f 0⟩, ⟨laneRect 1, f 1⟩, ⟨laneRect 2, f 2⟩, ⟨laneRect 3, f 3⟩] : List (View.Piece (Elt F) S8x4x1x128 .f32)) y = f j z := by
  refine View.canon_eq_of_allAt _ y _ ?_ ?_
  · refine ⟨⟨laneRect j, f j⟩, ?_, by rw [hy]; exact (laneRect j).idx_mem z⟩
    fin_cases j <;> simp
  · intro p hp x hx
    have h1 : ∀ i : Fin 4, ∀ x : S8x1x1x128.Idx, ((laneRect i).emb x 1 : ℕ) = i.val + (x 1).val := fun _ _ => by first | rfl | blk_simp
    have key : ∀ i : Fin 4, ∀ x : S8x1x1x128.Idx, (laneRect i).emb x = y → f i x = f j z := fun i x hx => by
      have e := hx.trans hy
      have e1 := congrArg (fun v : S8x4x1x128.Idx => (v 1).val) e
      have a1 := h1 i x
      have a2 := h1 j z
      have b1 := (x 1).isLt
      have b2 := (z 1).isLt
      have hij : i = j := Fin.ext (by simp only [a1, a2] at e1; change (x 1).val < 1 at b1; change (z 1).val < 1 at b2; omega)
      subst hij
      rw [(laneRect i).emb.injective e]
    simp only [List.mem_cons, List.not_mem_nil, or_false] at hp
    rcases hp with rfl | rfl | rfl | rfl <;> exact key _ x hx

theorem st_dn (f : Fin 4 → Vec F S1x8x128x128 .f32) (y : S4x8x128x128.Idx) (j : Fin 4) (z : S1x8x128x128.Idx) (hy : y = (stRect j).emb z) :
    View.canon (Val := Elt F) ([⟨stRect 3, f 3⟩, ⟨stRect 2, f 2⟩, ⟨stRect 1, f 1⟩, ⟨stRect 0, f 0⟩] : List (View.Piece (Elt F) S4x8x128x128 .f32)) y = f j z := by
  refine View.canon_eq_of_allAt _ y _ ?_ ?_
  · refine ⟨⟨stRect j, f j⟩, ?_, by rw [hy]; exact (stRect j).idx_mem z⟩
    fin_cases j <;> simp
  · intro p hp x hx
    have h0 : ∀ i : Fin 4, ∀ x : S1x8x128x128.Idx, ((stRect i).emb x 0 : ℕ) = i.val + (x 0).val := fun _ _ => by first | rfl | blk_simp
    have key : ∀ i : Fin 4, ∀ x : S1x8x128x128.Idx, (stRect i).emb x = y → f i x = f j z := fun i x hx => by
      have e := hx.trans hy
      have e1 := congrArg (fun v : S4x8x128x128.Idx => (v 0).val) e
      have a1 := h0 i x
      have a2 := h0 j z
      have b1 := (x 0).isLt
      have b2 := (z 0).isLt
      have hij : i = j := Fin.ext (by simp only [a1, a2] at e1; change (x 0).val < 1 at b1; change (z 0).val < 1 at b2; omega)
      subst hij
      rw [(stRect i).emb.injective e]
    simp only [List.mem_cons, List.not_mem_nil, or_false] at hp
    rcases hp with rfl | rfl | rfl | rfl <;> exact key _ x hx

/-! ## Every index of a block lies in one chunk -/

theorem row_split (y : S8x256x128.Idx) : ∃ (j : Fin 4) (z : S8x64x128.Idx), y = (rowRect j).emb z := by
  have h : (y 1).val < 256 := (y 1).isLt
  refine ⟨⟨(y 1).val / 64, by omega⟩, ix3 (y 0) (⟨(y 1).val % 64, Nat.mod_lt _ (by decide)⟩ : Fin 64) (y 2), ?_⟩
  blk_ext

theorem sq_split (y : S8x4x64x64.Idx) : ∃ (j : Fin 4) (z : S8x1x64x64.Idx), y = (sqRect j).emb z := by
  have h : (y 1).val < 4 := (y 1).isLt
  refine ⟨⟨(y 1).val, h⟩, ix4 (y 0) (0 : Fin 1) (y 2) (y 3), ?_⟩
  blk_ext

theorem lane_split (y : S8x4x1x128.Idx) : ∃ (j : Fin 4) (z : S8x1x1x128.Idx), y = (laneRect j).emb z := by
  have h : (y 1).val < 4 := (y 1).isLt
  refine ⟨⟨(y 1).val, h⟩, ix4 (y 0) (0 : Fin 1) (y 2) (y 3), ?_⟩
  blk_ext

theorem st_split (y : S4x8x128x128.Idx) : ∃ (j : Fin 4) (z : S1x8x128x128.Idx), y = (stRect j).emb z := by
  have h : (y 0).val < 4 := (y 0).isLt
  refine ⟨⟨(y 0).val, h⟩, ix4 (0 : Fin 1) (y 1) (y 2) (y 3), ?_⟩
  blk_ext

/-! ## An array put together from its chunks, at an index of one of them -/

open Cert.Rows

theorem joinR_at {α : Type} (v : ℕ → (⟨3, ![8, 64, 128]⟩ : Shape).Idx → α) (n : ℕ) (z : (⟨3, ![8, 64, 128]⟩ : Shape).Idx)
    (i : (⟨3, ![8, 16384, 128]⟩ : Shape).Idx) (h0 : (i 0).val = (z 0).val) (h1 : (i 1).val = 64 * n + (z 1).val) (h2 : (i 2).val = (z 2).val) :
    joinR v i = v n z := by
  have b1 : (z 1).val < 64 := (z 1).isLt
  unfold joinR
  rw [show (i 1).val / 64 = n by omega]
  refine congrArg (v n) (funext fun a => Fin.ext ?_)
  match a with
  | ⟨0, _⟩ => exact h0
  | ⟨1, _⟩ => show (i 1).val % 64 = (z 1).val; omega
  | ⟨2, _⟩ => exact h2

theorem joinM_at {α : Type} {a b c : ℕ} (v : ℕ → (⟨3, ![a, b, c]⟩ : Shape).Idx → α) (n : ℕ) (z : (⟨3, ![a, b, c]⟩ : Shape).Idx)
    (i : (⟨4, ![a, 256, b, c]⟩ : Shape).Idx) (h0 : (i 0).val = (z 0).val) (h1 : (i 1).val = n) (h2 : (i 2).val = (z 1).val)
    (h3 : (i 3).val = (z 2).val) : Rows.joinM v i = v n z := by
  unfold Rows.joinM
  rw [h1]
  refine congrArg (v n) (funext fun a => Fin.ext ?_)
  match a with
  | ⟨0, _⟩ => exact h0
  | ⟨1, _⟩ => exact h2
  | ⟨2, _⟩ => exact h3

theorem joinS_at {α : Type} {a b c : ℕ} (v : ℕ → (⟨3, ![a, b, c]⟩ : Shape).Idx → α) (n : ℕ) (z : (⟨3, ![a, b, c]⟩ : Shape).Idx)
    (i : (⟨4, ![256, a, b, c]⟩ : Shape).Idx) (h0 : (i 0).val = n) (h1 : (i 1).val = (z 0).val) (h2 : (i 2).val = (z 1).val)
    (h3 : (i 3).val = (z 2).val) : joinS v i = v n z := by
  unfold joinS
  rw [h0]
  refine congrArg (v n) (funext fun a => Fin.ext ?_)
  match a with
  | ⟨0, _⟩ => exact h1
  | ⟨1, _⟩ => exact h2
  | ⟨2, _⟩ => exact h3

end Cert.Tiles
end
-- ==== Proof.FwdOut.lean ====
/- What the forward scan leaves in its two arrays: the chunks' outputs, and the states before the chunks. -/
module

public import proofs.«01_k».proof.Proof.Launch
public import proofs.«01_k».proof.Proof.Spec
public import proofs.«01_k».proof.Proof.Tiles

@[expose] public section

set_option maxRecDepth 16384

noncomputable section

namespace Cert.Fwd

open Cert.KernelIdeal Cert.KernelIdeal.Gen Cert.Chunk Cert.Rows Cert.Spec Cert.Tiles
open Idealize.ShloMosaic Idealize.ShloMosaic.TcCoe Idealize.ShloMosaic.Tactic
open Idealize.ShloMosaic.Pipeline (Dat Cfg Window)

/-- A square without its unit axis, at an index. -/
theorem sq3_apply (x : Vec Ideal S8x1x64x64 .f32) (y : S8x64x64.Idx) : sq3 x y = x (ix4 (y 0) (0 : Fin 1) (y 1) (y 2)) := by
  unfold sq3
  exact Idealize.ShloMosaic.shapeCast_apply _ _ y _ (by
    rw [rowMajor_val4 _ _ _ _ rfl rfl rfl, rowMajor_val3 _ _ _ rfl rfl]; simp)

/-- Lanes without their unit axis, at an index. -/
theorem lane3_apply (x : Vec Ideal S8x1x1x128 .f32) (y : S8x1x128.Idx) : lane3 x y = x (ix4 (y 0) (0 : Fin 1) (y 1) (y 2)) := by
  unfold lane3
  exact Idealize.ShloMosaic.shapeCast_apply _ _ y _ (by
    rw [rowMajor_val4 _ _ _ _ rfl rfl rfl, rowMajor_val3 _ _ _ rfl rfl]; simp)

/-- A state without its unit axis, at an index. -/
theorem st3_apply (x : Vec Ideal S1x8x128x128 .f32) (y : S8x128x128.Idx) : st3 x y = x (ix4 (0 : Fin 1) (y 0) (y 1) (y 2)) := by
  unfold st3
  exact Idealize.ShloMosaic.shapeCast_apply _ _ y _ (by
    rw [rowMajor_val4 _ _ _ _ rfl rfl rfl, rowMajor_val3 _ _ _ rfl rfl]; simp)

/-- A state with a unit axis added, at an index. -/
theorem unst_apply (x : Vec Ideal S8x128x128 .f32) (y : S1x8x128x128.Idx) :
    shapeCast S1x8x128x128 x shapeCasts_S8x128x128_S1x8x128x128 y = x (ix3 (y 1) (y 2) (y 3)) :=
  Idealize.ShloMosaic.shapeCast_apply _ _ y _ (by
    have h : (y 0).val < 1 := (y 0).isLt
    rw [rowMajor_val4 _ _ _ _ rfl rfl rfl, rowMajor_val3 _ _ _ rfl rfl]
    show (y 1).val * (128 * 128) + (y 2).val * 128 + (y 3).val = (y 0).val * (8 * (128 * 128)) + (y 1).val * (128 * 128) + (y 2).val * 128 + (y 3).val
    omega)

/-- A square with a unit axis added, at an index. -/
theorem unsq_apply (x : Vec Ideal S8x64x64 .f32) (y : S8x1x64x64.Idx) :
    shapeCast S8x1x64x64 x shapeCasts_S8x64x64_S8x1x64x64 y = x (ix3 (y 0) (y 2) (y 3)) :=
  Idealize.ShloMosaic.shapeCast_apply _ _ y _ (by
    have h : (y 1).val < 1 := (y 1).isLt
    rw [rowMajor_val4 _ _ _ _ rfl rfl rfl, rowMajor_val3 _ _ _ rfl rfl]
    show (y 0).val * (64 * 64) + (y 2).val * 64 + (y 3).val = (y 0).val * (1 * (64 * 64)) + (y 1).val * (64 * 64) + (y 2).val * 64 + (y 3).val
    omega)

/-- Lanes with a unit axis added, at an index. -/
theorem unlane_apply (x : Vec Ideal S8x1x128 .f32) (y : S8x1x1x128.Idx) :
    shapeCast S8x1x1x128 x shapeCasts_S8x1x128_S8x1x1x128 y = x (ix3 (y 0) (y 2) (y 3)) :=
  Idealize.ShloMosaic.shapeCast_apply _ _ y _ (by
    have h : (y 1).val < 1 := (y 1).isLt
    rw [rowMajor_val4 _ _ _ _ rfl rfl rfl, rowMajor_val3 _ _ _ rfl rfl]
    show (y 0).val * (1 * 128) + (y 2).val * 128 + (y 3).val = (y 0).val * (1 * (1 * 128)) + (y 1).val * (1 * 128) + (y 2).val * 128 + (y 3).val
    omega)

variable (W : Dev nD → Valuation τ sig (Elt Ideal)) (c : Dev nD)

/-- The chunks of a device's arguments. -/
def args : Chs :=
  chs (W c (Proc.devRef .tc main_arg0)) (W c (Proc.devRef .tc main_arg1)) (W c (Proc.devRef .tc main_arg2)) (W c (Proc.devRef .tc main_arg3))
    (W c (Proc.devRef .tc main_arg4)) (W c (Proc.devRef .tc main_arg5)) (W c (Proc.devRef .tc main_arg6))

theorem x0 : ∀ t : Fin cfg0.N, win0_0.index t = ![0, t.val, 0] := by decide +kernel
theorem x2 : ∀ t : Fin cfg0.N, win0_2.index t = ![0, t.val, 0] := by decide +kernel
theorem x3 : ∀ t : Fin cfg0.N, win0_3.index t = ![0, t.val, 0] := by decide +kernel
theorem x4 : ∀ t : Fin cfg0.N, win0_4.index t = ![0, t.val, 0] := by decide +kernel
theorem x6 : ∀ t : Fin cfg0.N, win0_6.index t = ![0, t.val, 0] := by decide +kernel
theorem x1 : ∀ t : Fin cfg0.N, win0_1.index t = ![0, t.val, 0, 0] := by decide +kernel
theorem x5 : ∀ t : Fin cfg0.N, win0_5.index t = ![0, t.val, 0, 0] := by decide +kernel
theorem x7 : ∀ t : Fin cfg0.N, win0_7.index t = ![t.val, 0, 0, 0] := by decide +kernel

theorem q_eq (t : Fin cfg0.N) (j : Fin 4) : (blkAt W c t).q j = (args W c).q (4 * t.val + j.val) := by
  funext y
  show iblk W c 0 t ((rowRect j).emb y) = cutR (W c (Proc.devRef .tc main_arg0)) _ y
  unfold cutR
  have ht : t.val < 64 := t.isLt
  have hj : j.val < 4 := j.isLt
  blk_ext [iblk, x0]
  show _ = (64 * (4 * t.val + j.val) + (y 1).val) % 16384
  omega

theorem u_eq (t : Fin cfg0.N) (j : Fin 4) : (blkAt W c t).u j = (args W c).u (4 * t.val + j.val) := by
  funext y
  show iblk W c 2 t ((rowRect j).emb y) = cutR (W c (Proc.devRef .tc main_arg2)) _ y
  unfold cutR
  have ht : t.val < 64 := t.isLt
  have hj : j.val < 4 := j.isLt
  blk_ext [iblk, x2]
  show _ = (64 * (4 * t.val + j.val) + (y 1).val) % 16384
  omega

theorem w_eq (t : Fin cfg0.N) (j : Fin 4) : (blkAt W c t).w j = (args W c).w (4 * t.val + j.val) := by
  funext y
  show iblk W c 3 t ((rowRect j).emb y) = cutR (W c (Proc.devRef .tc main_arg3)) _ y
  unfold cutR
  have ht : t.val < 64 := t.isLt
  have hj : j.val < 4 := j.isLt
  blk_ext [iblk, x3]
  show _ = (64 * (4 * t.val + j.val) + (y 1).val) % 16384
  omega

theorem k_eq (t : Fin cfg0.N) (j : Fin 4) : (blkAt W c t).k j = (args W c).k (4 * t.val + j.val) := by
  funext y
  show iblk W c 4 t ((rowRect j).emb y) = cutR (W c (Proc.devRef .tc main_arg4)) _ y
  unfold cutR
  have ht : t.val < 64 := t.isLt
  have hj : j.val < 4 := j.isLt
  blk_ext [iblk, x4]
  show _ = (64 * (4 * t.val + j.val) + (y 1).val) % 16384
  omega

theorem a_eq (t : Fin cfg0.N) (j : Fin 4) : sq3 ((blkAt W c t).a j) = (args W c).a (4 * t.val + j.val) := by
  funext y
  rw [sq3_apply]
  show iblk W c 1 t ((sqRect j).emb _) = cutM (W c (Proc.devRef .tc main_arg1)) _ y
  unfold cutM
  have ht : t.val < 64 := t.isLt
  have hj : j.val < 4 := j.isLt
  blk_ext [iblk, x1]
  show _ = (4 * t.val + j.val) % 256
  omega

theorem g_eq (t : Fin cfg0.N) (j : Fin 4) : lane3 ((blkAt W c t).g j) = (args W c).g (4 * t.val + j.val) := by
  funext y
  rw [lane3_apply]
  show iblk W c 5 t ((laneRect j).emb _) = cutM (W c (Proc.devRef .tc main_arg5)) _ y
  unfold cutM
  have ht : t.val < 64 := t.isLt
  have hj : j.val < 4 := j.isLt
  blk_ext [iblk, x5]
  show _ = (4 * t.val + j.val) % 256
  omega

/-- The states inside a point, entered at the state before its first chunk. -/
theorem st_eq (t : Fin cfg0.N) : ∀ j ≤ 4, (blkAt W c t).st ((args W c).S (4 * t.val)) j = (args W c).S (4 * t.val + j)
  | 0, _ => rfl
  | j + 1, h => by
    have e : (Fin.ofNat 4 j).val = j := Nat.mod_eq_of_lt (by omega)
    rw [Blk.st, st_eq t j (by omega), k_eq, g_eq, u_eq, w_eq, e]
    rfl

/-- The state carried into a point: the one before its first chunk. -/
theorem stAt_eq : ∀ n ≤ 64, stAt W c n = (args W c).S (4 * n)
  | 0, _ => rfl
  | n + 1, h => by
    have hn : n < cfg0.N := by have : cfg0.N = 64 := N_0; omega
    rw [stAt_succ W c ⟨n, hn⟩, stAt_eq n (by omega)]
    exact st_eq W c ⟨n, hn⟩ 4 le_rfl

theorem v_eq (t : Fin cfg0.N) (j : Fin 4) : (blkAt W c t).v (stAt W c t.val) j = (args W c).v (4 * t.val + j.val) := by
  have ht : t.val < 64 := t.isLt
  unfold Blk.v
  rw [stAt_eq W c t.val ht.le, st_eq W c t j.val (by omega), u_eq, w_eq]
  rfl

theorem o_eq (t : Fin cfg0.N) (j : Fin 4) : (blkAt W c t).o (stAt W c t.val) j = (args W c).o (4 * t.val + j.val) := by
  have ht : t.val < 64 := t.isLt
  unfold Blk.o
  rw [v_eq, stAt_eq W c t.val ht.le, st_eq W c t j.val (by omega), q_eq, a_eq]
  rfl

/-- The output array at the end. -/
theorem final_o : (dat W c).arrAt 6 cfg0.N = joinR (args W c).o := by
  refine (dat W c).arrAt_eq_of_covers 6 _ (by decide +kernel) fun t hf y => ?_
  blk_simp
  rw [after_6]
  obtain ⟨j, z, hy⟩ := row_split y
  have e : out0 W c t y = (args W c).o (4 * t.val + j.val) z :=
    (row_dn (fun j => (blkAt W c t).o (stAt W c t.val) j) y j z hy).trans (congrFun (o_eq W c t j) z)
  refine e.trans (joinR_at _ _ _ _ ?_ ?_ ?_).symm <;> subst hy <;> blk_simp [x6]
  omega

/-- The saved states' array at the end. -/
theorem final_st : (dat W c).arrAt 7 cfg0.N = joinS (args W c).S := by
  refine (dat W c).arrAt_eq_of_covers 7 _ (by decide +kernel) fun t hf y => ?_
  blk_simp
  rw [after_7]
  obtain ⟨j, z, hy⟩ := st_split y
  have ht : t.val < 64 := t.isLt
  have e : out1 W c t y = (args W c).S (4 * t.val + j.val) (ix3 (z 1) (z 2) (z 3)) := by
    refine (st_dn (fun j => shapeCast S1x8x128x128 ((blkAt W c t).st (stAt W c t.val) j.val) shapeCasts_S8x128x128_S1x8x128x128) y j z hy).trans ?_
    refine (unst_apply _ z).trans ?_
    rw [stAt_eq W c t.val ht.le, st_eq W c t j.val (by omega)]
  have hz : (z 0).val < 1 := (z 0).isLt
  refine e.trans (joinS_at _ _ _ _ ?_ ?_ ?_ ?_).symm <;> subst hy <;> blk_simp [x7]
  omega

end Cert.Fwd
end
-- ==== Proof.BwdOut.lean ====
/- What the gradient leaves in its six arrays, chunk by chunk, when the states it reads are those before the chunks. -/
module

public import proofs.«01_k».proof.Proof.FwdOut

@[expose] public section

set_option maxRecDepth 16384

noncomputable section

namespace Cert.Bwd

open Cert.KernelIdeal Cert.KernelIdeal.Gen Cert.Chunk Cert.Rows Cert.Spec Cert.Tiles
open Cert.Fwd (sq3_apply lane3_apply st3_apply unsq_apply unlane_apply args)
open Idealize.ShloMosaic Idealize.ShloMosaic.TcCoe Idealize.ShloMosaic.Tactic
open Idealize.ShloMosaic.Pipeline (Dat Cfg Window)

variable (W : Dev nD → Valuation τ sig (Elt Ideal)) (c : Dev nD)

theorem x0 : ∀ t : Fin cfg1.N, win1_0.index t = ![0, 63 - t.val, 0] := by decide +kernel
theorem x2 : ∀ t : Fin cfg1.N, win1_2.index t = ![0, 63 - t.val, 0] := by decide +kernel
theorem x3 : ∀ t : Fin cfg1.N, win1_3.index t = ![0, 63 - t.val, 0] := by decide +kernel
theorem x4 : ∀ t : Fin cfg1.N, win1_4.index t = ![0, 63 - t.val, 0] := by decide +kernel
theorem x7 : ∀ t : Fin cfg1.N, win1_7.index t = ![0, 63 - t.val, 0] := by decide +kernel
theorem x8 : ∀ t : Fin cfg1.N, win1_8.index t = ![0, 63 - t.val, 0] := by decide +kernel
theorem x10 : ∀ t : Fin cfg1.N, win1_10.index t = ![0, 63 - t.val, 0] := by decide +kernel
theorem x11 : ∀ t : Fin cfg1.N, win1_11.index t = ![0, 63 - t.val, 0] := by decide +kernel
theorem x12 : ∀ t : Fin cfg1.N, win1_12.index t = ![0, 63 - t.val, 0] := by decide +kernel
theorem x1 : ∀ t : Fin cfg1.N, win1_1.index t = ![0, 63 - t.val, 0, 0] := by decide +kernel
theorem x5 : ∀ t : Fin cfg1.N, win1_5.index t = ![0, 63 - t.val, 0, 0] := by decide +kernel
theorem x9 : ∀ t : Fin cfg1.N, win1_9.index t = ![0, 63 - t.val, 0, 0] := by decide +kernel
theorem x13 : ∀ t : Fin cfg1.N, win1_13.index t = ![0, 63 - t.val, 0, 0] := by decide +kernel
theorem x6 : ∀ t : Fin cfg1.N, win1_6.index t = ![63 - t.val, 0, 0, 0] := by decide +kernel

theorem q_eq (t : Fin cfg1.N) (j : Fin 4) : (blkAt W c t).q j = (args W c).q (4 * (63 - t.val) + j.val) := by
  funext y
  show iblk W c 0 t ((rowRect j).emb y) = cutR (W c (Proc.devRef .tc main_arg0)) _ y
  unfold cutR
  have ht : t.val < 64 := t.isLt
  have hj : j.val < 4 := j.isLt
  blk_ext [iblk, x0]
  show _ = (64 * (4 * (63 - t.val) + j.val) + (y 1).val) % 16384
  omega

theorem u_eq (t : Fin cfg1.N) (j : Fin 4) : (blkAt W c t).u j = (args W c).u (4 * (63 - t.val) + j.val) := by
  funext y
  show iblk W c 2 t ((rowRect j).emb y) = cutR (W c (Proc.devRef .tc main_arg2)) _ y
  unfold cutR
  have ht : t.val < 64 := t.isLt
  have hj : j.val < 4 := j.isLt
  blk_ext [iblk, x2]
  show _ = (64 * (4 * (63 - t.val) + j.val) + (y 1).val) % 16384
  omega

theorem w_eq (t : Fin cfg1.N) (j : Fin 4) : (blkAt W c t).w j = (args W c).w (4 * (63 - t.val) + j.val) := by
  funext y
  show iblk W c 3 t ((rowRect j).emb y) = cutR (W c (Proc.devRef .tc main_arg3)) _ y
  unfold cutR
  have ht : t.val < 64 := t.isLt
  have hj : j.val < 4 := j.isLt
  blk_ext [iblk, x3]
  show _ = (64 * (4 * (63 - t.val) + j.val) + (y 1).val) % 16384
  omega

theorem k_eq (t : Fin cfg1.N) (j : Fin 4) : (blkAt W c t).k j = (args W c).k (4 * (63 - t.val) + j.val) := by
  funext y
  show iblk W c 4 t ((rowRect j).emb y) = cutR (W c (Proc.devRef .tc main_arg4)) _ y
  unfold cutR
  have ht : t.val < 64 := t.isLt
  have hj : j.val < 4 := j.isLt
  blk_ext [iblk, x4]
  show _ = (64 * (4 * (63 - t.val) + j.val) + (y 1).val) % 16384
  omega

theorem d_eq (t : Fin cfg1.N) (j : Fin 4) : (blkAt W c t).d j = (args W c).d (4 * (63 - t.val) + j.val) := by
  funext y
  show iblk W c 7 t ((rowRect j).emb y) = cutR (W c (Proc.devRef .tc main_arg6)) _ y
  unfold cutR
  have ht : t.val < 64 := t.isLt
  have hj : j.val < 4 := j.isLt
  blk_ext [iblk, x7]
  show _ = (64 * (4 * (63 - t.val) + j.val) + (y 1).val) % 16384
  omega

theorem a_eq (t : Fin cfg1.N) (j : Fin 4) : sq3 ((blkAt W c t).a j) = (args W c).a (4 * (63 - t.val) + j.val) := by
  funext y
  rw [sq3_apply]
  show iblk W c 1 t ((sqRect j).emb _) = cutM (W c (Proc.devRef .tc main_arg1)) _ y
  unfold cutM
  have ht : t.val < 64 := t.isLt
  have hj : j.val < 4 := j.isLt
  blk_ext [iblk, x1]
  show _ = (4 * (63 - t.val) + j.val) % 256
  omega

theorem g_eq (t : Fin cfg1.N) (j : Fin 4) : lane3 ((blkAt W c t).g j) = (args W c).g (4 * (63 - t.val) + j.val) := by
  funext y
  rw [lane3_apply]
  show iblk W c 5 t ((laneRect j).emb _) = cutM (W c (Proc.devRef .tc main_arg5)) _ y
  unfold cutM
  have ht : t.val < 64 := t.isLt
  have hj : j.val < 4 := j.isLt
  blk_ext [iblk, x5]
  show _ = (4 * (63 - t.val) + j.val) % 256
  omega

variable (hS : W c (Proc.devRef .tc main_v0_1) = joinS (args W c).S)

include hS in
theorem sv_eq (t : Fin cfg1.N) (j : Fin 4) : (blkAt W c t).sv j = (args W c).S (4 * (63 - t.val) + j.val) := by
  funext y
  unfold GBlk.sv
  rw [st3_apply]
  show iblk W c 6 t ((stRect j).emb _) = _
  have ht : t.val < 64 := t.isLt
  have hj : j.val < 4 := j.isLt
  have e : iblk W c 6 t ((stRect j).emb (ix4 (0 : Fin 1) (y 0) (y 1) (y 2)))
      = joinS (args W c).S (((cfg1.win 6).blk t).view.emb ((stRect j).emb (ix4 (0 : Fin 1) (y 0) (y 1) (y 2)))) := by
    rw [← hS]; rfl
  refine e.trans (joinS_at _ _ _ _ ?_ ?_ ?_ ?_) <;> blk_simp [x6]
  show (63 - t.val) * 4 + (j.val + 0) = 4 * (63 - t.val) + j.val
  omega

include hS in
theorem v_eq (t : Fin cfg1.N) (j : Fin 4) : (blkAt W c t).v j = (args W c).v (4 * (63 - t.val) + j.val) := by
  unfold GBlk.v
  rw [sv_eq W c hS, u_eq, w_eq]; rfl

theorem cv_eq (t : Fin cfg1.N) (j : Fin 4) (e : Vec Ideal S8x128x128 .f32) :
    (blkAt W c t).cv j e = (args W c).cv (4 * (63 - t.val) + j.val) e := by
  unfold GBlk.cv
  rw [a_eq, k_eq, d_eq]; rfl

/-- The cotangents inside a point, entered at that of the state after its last chunk. -/
theorem ct_eq (t : Fin cfg1.N) : ∀ n ≤ 4, (blkAt W c t).ct ((args W c).E (4 * t.val)) n = (args W c).E (4 * t.val + n)
  | 0, _ => rfl
  | n + 1, h => by
    have ht : t.val < 64 := t.isLt
    have e : (Fin.ofNat 4 (3 - n)).val = 3 - n := Nat.mod_eq_of_lt (by omega)
    rw [GBlk.ct, ct_eq t n (by omega)]
    unfold GBlk.back
    rw [q_eq, w_eq, g_eq, d_eq, cv_eq, e, show 4 * (63 - t.val) + (3 - n) = 255 - (4 * t.val + n) by omega]
    rfl

/-- The cotangent carried into a point. -/
theorem stAt_eq : ∀ n ≤ 64, stAt W c n = (args W c).E (4 * n)
  | 0, _ => rfl
  | n + 1, h => by
    have hn : n < cfg1.N := by have : cfg1.N = 64 := N_1; omega
    rw [stAt_succ W c ⟨n, hn⟩, stAt_eq n (by omega)]
    exact ct_eq W c ⟨n, hn⟩ 4 le_rfl

/-- The cotangent of the state after chunk `j` of point `t`. -/
theorem ctAt_eq (t : Fin cfg1.N) (j : Fin 4) :
    (blkAt W c t).ct (stAt W c t.val) (3 - j.val) = (args W c).E (255 - (4 * (63 - t.val) + j.val)) := by
  have ht : t.val < 64 := t.isLt
  have hj : j.val < 4 := j.isLt
  rw [stAt_eq W c t.val ht.le, ct_eq W c t (3 - j.val) (by omega)]
  congr 1; omega

include hS in
theorem gq_eq (t : Fin cfg1.N) (j : Fin 4) :
    (blkAt W c t).gq j ((blkAt W c t).ct (stAt W c t.val) (3 - j.val)) = (args W c).gq (4 * (63 - t.val) + j.val) := by
  rw [ctAt_eq]
  unfold GBlk.gq
  rw [sv_eq W c hS, d_eq]; rfl

include hS in
theorem final_gq : (dat W c).arrAt 8 cfg1.N = joinR (args W c).gq := by
  refine (dat W c).arrAt_eq_of_covers 8 _ (by decide +kernel) fun t hf y => ?_
  blk_simp
  rw [after_8]
  obtain ⟨j, z, hy⟩ := row_split y
  have ht : t.val < 64 := t.isLt
  have hj : j.val < 4 := j.isLt
  have e : out0 W c t y = (args W c).gq (4 * (63 - t.val) + j.val) z :=
    (row_up (fun j => (blkAt W c t).gq j ((blkAt W c t).ct (stAt W c t.val) (3 - j.val))) y j z hy).trans (congrFun (gq_eq W c hS t j) z)
  refine e.trans (joinR_at _ _ _ _ ?_ ?_ ?_).symm <;> subst hy <;> blk_simp [x8]
  omega

include hS in
theorem ga_eq (t : Fin cfg1.N) (j : Fin 4) (z : S8x1x64x64.Idx) :
    (blkAt W c t).ga j ((blkAt W c t).ct (stAt W c t.val) (3 - j.val)) z = (args W c).ga (4 * (63 - t.val) + j.val) (ix3 (z 0) (z 2) (z 3)) := by
  rw [ctAt_eq]
  unfold GBlk.ga
  rw [v_eq W c hS, d_eq]
  exact unsq_apply _ z

include hS in
theorem final_ga : (dat W c).arrAt 9 cfg1.N = Rows.joinM (args W c).ga := by
  refine (dat W c).arrAt_eq_of_covers 9 _ (by decide +kernel) fun t hf y => ?_
  blk_simp
  rw [after_9]
  obtain ⟨j, z, hy⟩ := sq_split y
  have ht : t.val < 64 := t.isLt
  have hj : j.val < 4 := j.isLt
  have e : out1 W c t y = (args W c).ga (4 * (63 - t.val) + j.val) (ix3 (z 0) (z 2) (z 3)) :=
    (sq_up (fun j => (blkAt W c t).ga j ((blkAt W c t).ct (stAt W c t.val) (3 - j.val))) y j z hy).trans (ga_eq W c hS t j z)
  have hz : (z 1).val < 1 := (z 1).isLt
  refine e.trans (joinM_at _ _ _ _ ?_ ?_ ?_ ?_).symm <;> subst hy <;> blk_simp [x9]
  omega

theorem gu_eq (t : Fin cfg1.N) (j : Fin 4) :
    (blkAt W c t).gu j ((blkAt W c t).ct (stAt W c t.val) (3 - j.val)) = (args W c).gu (4 * (63 - t.val) + j.val) := by
  rw [ctAt_eq]
  unfold GBlk.gu
  rw [cv_eq]; rfl

theorem final_gu : (dat W c).arrAt 10 cfg1.N = joinR (args W c).gu := by
  refine (dat W c).arrAt_eq_of_covers 10 _ (by decide +kernel) fun t hf y => ?_
  blk_simp
  rw [after_10]
  obtain ⟨j, z, hy⟩ := row_split y
  have ht : t.val < 64 := t.isLt
  have hj : j.val < 4 := j.isLt
  have e : out2 W c t y = (args W c).gu (4 * (63 - t.val) + j.val) z :=
    (row_up (fun j => (blkAt W c t).gu j ((blkAt W c t).ct (stAt W c t.val) (3 - j.val))) y j z hy).trans (congrFun (gu_eq W c t j) z)
  refine e.trans (joinR_at _ _ _ _ ?_ ?_ ?_).symm <;> subst hy <;> blk_simp [x10]
  omega

include hS in
theorem gw_eq (t : Fin cfg1.N) (j : Fin 4) :
    (blkAt W c t).gw j ((blkAt W c t).ct (stAt W c t.val) (3 - j.val)) = (args W c).gw (4 * (63 - t.val) + j.val) := by
  rw [ctAt_eq]
  unfold GBlk.gw
  rw [cv_eq, sv_eq W c hS]; rfl

include hS in
theorem final_gw : (dat W c).arrAt 11 cfg1.N = joinR (args W c).gw := by
  refine (dat W c).arrAt_eq_of_covers 11 _ (by decide +kernel) fun t hf y => ?_
  blk_simp
  rw [after_11]
  obtain ⟨j, z, hy⟩ := row_split y
  have ht : t.val < 64 := t.isLt
  have hj : j.val < 4 := j.isLt
  have e : out3 W c t y = (args W c).gw (4 * (63 - t.val) + j.val) z :=
    (row_up (fun j => (blkAt W c t).gw j ((blkAt W c t).ct (stAt W c t.val) (3 - j.val))) y j z hy).trans (congrFun (gw_eq W c hS t j) z)
  refine e.trans (joinR_at _ _ _ _ ?_ ?_ ?_).symm <;> subst hy <;> blk_simp [x11]
  omega

include hS in
theorem gk_eq (t : Fin cfg1.N) (j : Fin 4) :
    (blkAt W c t).gk j ((blkAt W c t).ct (stAt W c t.val) (3 - j.val)) = (args W c).gk (4 * (63 - t.val) + j.val) := by
  rw [ctAt_eq]
  unfold GBlk.gk
  rw [v_eq W c hS]; rfl

include hS in
theorem final_gk : (dat W c).arrAt 12 cfg1.N = joinR (args W c).gk := by
  refine (dat W c).arrAt_eq_of_covers 12 _ (by decide +kernel) fun t hf y => ?_
  blk_simp
  rw [after_12]
  obtain ⟨j, z, hy⟩ := row_split y
  have ht : t.val < 64 := t.isLt
  have hj : j.val < 4 := j.isLt
  have e : out4 W c t y = (args W c).gk (4 * (63 - t.val) + j.val) z :=
    (row_up (fun j => (blkAt W c t).gk j ((blkAt W c t).ct (stAt W c t.val) (3 - j.val))) y j z hy).trans (congrFun (gk_eq W c hS t j) z)
  refine e.trans (joinR_at _ _ _ _ ?_ ?_ ?_).symm <;> subst hy <;> blk_simp [x12]
  omega

include hS in
theorem gg_eq (t : Fin cfg1.N) (j : Fin 4) (z : S8x1x1x128.Idx) :
    (blkAt W c t).gg j ((blkAt W c t).ct (stAt W c t.val) (3 - j.val)) z = (args W c).gg (4 * (63 - t.val) + j.val) (ix3 (z 0) (z 2) (z 3)) := by
  rw [ctAt_eq]
  unfold GBlk.gg
  rw [g_eq, sv_eq W c hS]
  exact unlane_apply _ z

include hS in
theorem final_gg : (dat W c).arrAt 13 cfg1.N = Rows.joinM (args W c).gg := by
  refine (dat W c).arrAt_eq_of_covers 13 _ (by decide +kernel) fun t hf y => ?_
  blk_simp
  rw [after_13]
  obtain ⟨j, z, hy⟩ := lane_split y
  have ht : t.val < 64 := t.isLt
  have hj : j.val < 4 := j.isLt
  have e : out5 W c t y = (args W c).gg (4 * (63 - t.val) + j.val) (ix3 (z 0) (z 2) (z 3)) :=
    (lane_up (fun j => (blkAt W c t).gg j ((blkAt W c t).ct (stAt W c t.val) (3 - j.val))) y j z hy).trans (gg_eq W c hS t j z)
  have hz : (z 1).val < 1 := (z 1).isLt
  refine e.trans (joinM_at _ _ _ _ ?_ ?_ ?_ ?_).symm <;> subst hy <;> blk_simp [x13]
  omega

end Cert.Bwd
end
-- ==== Proof.RefStep.lean ====
/- One trip of each of the reference's loops: the rows it reads, what it makes of them, and the rows it writes. -/
module

public import proofs.«01_k».proof.Proof.RefRun
public import proofs.«01_k».proof.Proof.Rows
public import proofs.«01_k».proof.Proof.HostChunk

@[expose] public section

set_option maxRecDepth 16384

noncomputable section

namespace Cert.Ref

open Cert.ReferenceIdeal Cert.ReferenceIdeal.Gen Cert.Rows Cert.HostChunk
open Idealize.ShloMosaic Idealize.ShloMosaic.TcCoe Idealize.ShloMosaic.Tactic
open Idealize.ShloMosaic.StableHlo

/-- The counter as a number. -/
theorem iv_toInt (k : ℕ) (hk : k < 256) : (Scf.iv 0#32 1#32 k).toInt = k := by
  unfold Scf.iv; simp [BitVec.toInt]; omega

variable {F : FTy → Type} [FloatOps F]

/-! ## Rows read and written, one stretch each -/

/-- The index is `k`. -/
abbrev Counts (i : S_.Idx → BitVec 32) (k : ℕ) : Prop := (i (Shape.Idx.first h_S_)).toInt = k
/-- Where a row starts, given the row's number. -/
abbrev start (i : S_.Idx → Elt F .i32) : Fin 4 → Int :=
  fun j => (![i, constantI S_ 32 0#32, constantI S_ 32 0#32, constantI S_ 32 0#32] j (Shape.Idx.first h_S_)).toInt
/-- A row read. -/
abbrev cutOut {a b c : ℕ} (x : (⟨4, ![256, a, b, c]⟩ : Shape).Idx → Elt F .f32) (i : S_.Idx → Elt F .i32)
    (h : (⟨4, ![256, a, b, c]⟩ : Shape).Slices (fun _ => 0) ⟨4, ![1, a, b, c]⟩) (hc : (⟨4, ![1, a, b, c]⟩ : Shape).ShapeCasts ⟨3, ![a, b, c]⟩) :=
  shapeCast ⟨3, ![a, b, c]⟩ (Host.dynamicSlice ⟨4, ![1, a, b, c]⟩ x (start (F := F) i) h) hc
/-- A row written. -/
abbrev putIn {a b c : ℕ} (x : (⟨4, ![256, a, b, c]⟩ : Shape).Idx → Elt F .f32) (v : (⟨3, ![a, b, c]⟩ : Shape).Idx → Elt F .f32) (i : S_.Idx → Elt F .i32)
    (hb : (⟨3, ![a, b, c]⟩ : Shape).BroadcastsInDim ⟨4, ![1, a, b, c]⟩ ![1, 2, 3]) (h : (⟨4, ![256, a, b, c]⟩ : Shape).Slices (fun _ => 0) ⟨4, ![1, a, b, c]⟩) :=
  Host.dynamicUpdateSlice x (broadcastInDim ⟨4, ![1, a, b, c]⟩ ![1, 2, 3] hb v) (start (F := F) i) h

section
variable (V : Valuation τ sig (Elt F)) (k : ℕ) (hk : k < 256)

include hk in
theorem fb0_v (hc : Counts (V (Proc.devRef .tc main_v15_6)) k) :
    after fb0 V (Proc.devRef .tc main_while0b_v39) = row (V (Proc.devRef .tc main_v15_0)) k :=
  (show _ = cutOut (V (Proc.devRef .tc main_v15_0)) (V (Proc.devRef .tc main_v15_6)) sliceFits_S256x8x64x128_S1x8x64x128 shapeCasts_S1x8x64x128_S8x64x128 by after_results_entrywise [cast_eq]).trans (row_slice _ _ _ _ k hk hc rfl rfl rfl)

include hk in
theorem fb1_v (hc : Counts (V (Proc.devRef .tc main_v15_6)) k) :
    after fb1 V (Proc.devRef .tc main_while0b_v40) = row (V (Proc.devRef .tc main_v15_1)) k :=
  (show _ = cutOut (V (Proc.devRef .tc main_v15_1)) (V (Proc.devRef .tc main_v15_6)) sliceFits_S256x8x64x64_S1x8x64x64 shapeCasts_S1x8x64x64_S8x64x64 by after_results_entrywise [cast_eq]).trans (row_slice _ _ _ _ k hk hc rfl rfl rfl)

include hk in
theorem fb2_v (hc : Counts (V (Proc.devRef .tc main_v15_6)) k) :
    after fb2 V (Proc.devRef .tc main_while0b_v41) = row (V (Proc.devRef .tc main_v15_2)) k :=
  (show _ = cutOut (V (Proc.devRef .tc main_v15_2)) (V (Proc.devRef .tc main_v15_6)) sliceFits_S256x8x64x128_S1x8x64x128 shapeCasts_S1x8x64x128_S8x64x128 by after_results_entrywise [cast_eq]).trans (row_slice _ _ _ _ k hk hc rfl rfl rfl)

include hk in
theorem fb3_v (hc : Counts (V (Proc.devRef .tc main_v15_6)) k) :
    after fb3 V (Proc.devRef .tc main_while0b_v42) = row (V (Proc.devRef .tc main_v15_3)) k :=
  (show _ = cutOut (V (Proc.devRef .tc main_v15_3)) (V (Proc.devRef .tc main_v15_6)) sliceFits_S256x8x64x128_S1x8x64x128 shapeCasts_S1x8x64x128_S8x64x128 by after_results_entrywise [cast_eq]).trans (row_slice _ _ _ _ k hk hc rfl rfl rfl)

include hk in
theorem fb4_v (hc : Counts (V (Proc.devRef .tc main_v15_6)) k) :
    after fb4 V (Proc.devRef .tc main_while0b_v43) = row (V (Proc.devRef .tc main_v15_4)) k :=
  (show _ = cutOut (V (Proc.devRef .tc main_v15_4)) (V (Proc.devRef .tc main_v15_6)) sliceFits_S256x8x64x128_S1x8x64x128 shapeCasts_S1x8x64x128_S8x64x128 by after_results_entrywise [cast_eq]).trans (row_slice _ _ _ _ k hk hc rfl rfl rfl)

include hk in
theorem fb5_v (hc : Counts (V (Proc.devRef .tc main_v15_6)) k) :
    after fb5 V (Proc.devRef .tc main_while0b_v44) = row (V (Proc.devRef .tc main_v15_5)) k :=
  (show _ = cutOut (V (Proc.devRef .tc main_v15_5)) (V (Proc.devRef .tc main_v15_6)) sliceFits_S256x8x1x128_S1x8x1x128 shapeCasts_S1x8x1x128_S8x1x128 by after_results_entrywise [cast_eq]).trans (row_slice _ _ _ _ k hk hc rfl rfl rfl)

include hk in
theorem fb7_v (hc : Counts (V (Proc.devRef .tc main_v15_6)) k) (n : ℕ) (hn : n < 256) :
    row (after fb7 V (Proc.devRef .tc main_while0b_v55)) n = if n = k then V (Proc.devRef .tc main_while0b_v49) else row (V (Proc.devRef .tc main_v15_8)) n :=
  (congrArg (fun x => row x n) (show _ = putIn (V (Proc.devRef .tc main_v15_8)) (V (Proc.devRef .tc main_while0b_v49)) (V (Proc.devRef .tc main_v15_6)) bcast_S8x64x128_S1x8x64x128_1_2_3 updateFits_S256x8x64x128_S1x8x64x128 by after_results_entrywise [cast_eq])).trans
    (row_update _ _ _ _ _ k hk hc rfl rfl rfl n hn)

include hk in
theorem fb8_v (hc : Counts (V (Proc.devRef .tc main_v15_6)) k) (n : ℕ) (hn : n < 256) :
    row (after fb8 V (Proc.devRef .tc main_while0b_v56)) n = if n = k then V (Proc.devRef .tc main_v15_7) else row (V (Proc.devRef .tc main_v15_9)) n :=
  (congrArg (fun x => row x n) (show _ = putIn (V (Proc.devRef .tc main_v15_9)) (V (Proc.devRef .tc main_v15_7)) (V (Proc.devRef .tc main_v15_6)) bcast_S8x128x128_S1x8x128x128_1_2_3 updateFits_S256x8x128x128_S1x8x128x128 by after_results_entrywise [cast_eq])).trans
    (row_update _ _ _ _ _ k hk hc rfl rfl rfl n hn)

include hk in
theorem fb9_v (hc : Counts (V (Proc.devRef .tc main_v15_6)) k) (n : ℕ) (hn : n < 256) :
    row (after fb9 V (Proc.devRef .tc main_while0b_v57)) n = if n = k then V (Proc.devRef .tc main_while0b_v46) else row (V (Proc.devRef .tc main_v15_10)) n :=
  (congrArg (fun x => row x n) (show _ = putIn (V (Proc.devRef .tc main_v15_10)) (V (Proc.devRef .tc main_while0b_v46)) (V (Proc.devRef .tc main_v15_6)) bcast_S8x64x128_S1x8x64x128_1_2_3 updateFits_S256x8x64x128_S1x8x64x128 by after_results_entrywise [cast_eq])).trans
    (row_update _ _ _ _ _ k hk hc rfl rfl rfl n hn)

include hk in
theorem fb10_v (hc : Counts (V (Proc.devRef .tc main_v15_6)) k) (n : ℕ) (hn : n < 256) :
    row (after fb10 V (Proc.devRef .tc main_while0b_v58)) n = if n = k then V (Proc.devRef .tc main_while0b_v50) else row (V (Proc.devRef .tc main_v15_11)) n :=
  (congrArg (fun x => row x n) (show _ = putIn (V (Proc.devRef .tc main_v15_11)) (V (Proc.devRef .tc main_while0b_v50)) (V (Proc.devRef .tc main_v15_6)) bcast_S8x1x128_S1x8x1x128_1_2_3 updateFits_S256x8x1x128_S1x8x1x128 by after_results_entrywise [cast_eq])).trans
    (row_update _ _ _ _ _ k hk hc rfl rfl rfl n hn)

include hk in
theorem gb1_v (hc : Counts (V (Proc.devRef .tc main_while1b_v40)) k) :
    after gb1 V (Proc.devRef .tc main_while1b_v41) = row (V (Proc.devRef .tc main_v28_0)) k :=
  (show _ = cutOut (V (Proc.devRef .tc main_v28_0)) (V (Proc.devRef .tc main_while1b_v40)) sliceFits_S256x8x64x128_S1x8x64x128 shapeCasts_S1x8x64x128_S8x64x128 by after_results_entrywise [cast_eq]).trans (row_slice _ _ _ _ k hk hc rfl rfl rfl)

include hk in
theorem gb2_v (hc : Counts (V (Proc.devRef .tc main_while1b_v40)) k) :
    after gb2 V (Proc.devRef .tc main_while1b_v42) = row (V (Proc.devRef .tc main_v28_1)) k :=
  (show _ = cutOut (V (Proc.devRef .tc main_v28_1)) (V (Proc.devRef .tc main_while1b_v40)) sliceFits_S256x8x128x128_S1x8x128x128 shapeCasts_S1x8x128x128_S8x128x128 by after_results_entrywise [cast_eq]).trans (row_slice _ _ _ _ k hk hc rfl rfl rfl)

include hk in
theorem gb3_v (hc : Counts (V (Proc.devRef .tc main_while1b_v40)) k) :
    after gb3 V (Proc.devRef .tc main_while1b_v43) = row (V (Proc.devRef .tc main_v28_2)) k :=
  (show _ = cutOut (V (Proc.devRef .tc main_v28_2)) (V (Proc.devRef .tc main_while1b_v40)) sliceFits_S256x8x64x128_S1x8x64x128 shapeCasts_S1x8x64x128_S8x64x128 by after_results_entrywise [cast_eq]).trans (row_slice _ _ _ _ k hk hc rfl rfl rfl)

include hk in
theorem gb4_v (hc : Counts (V (Proc.devRef .tc main_while1b_v40)) k) :
    after gb4 V (Proc.devRef .tc main_while1b_v44) = row (V (Proc.devRef .tc main_v28_3)) k :=
  (show _ = cutOut (V (Proc.devRef .tc main_v28_3)) (V (Proc.devRef .tc main_while1b_v40)) sliceFits_S256x8x64x128_S1x8x64x128 shapeCasts_S1x8x64x128_S8x64x128 by after_results_entrywise [cast_eq]).trans (row_slice _ _ _ _ k hk hc rfl rfl rfl)

include hk in
theorem gb5_v (hc : Counts (V (Proc.devRef .tc main_while1b_v40)) k) :
    after gb5 V (Proc.devRef .tc main_while1b_v45) = row (V (Proc.devRef .tc main_v28_4)) k :=
  (show _ = cutOut (V (Proc.devRef .tc main_v28_4)) (V (Proc.devRef .tc main_while1b_v40)) sliceFits_S256x8x64x128_S1x8x64x128 shapeCasts_S1x8x64x128_S8x64x128 by after_results_entrywise [cast_eq]).trans (row_slice _ _ _ _ k hk hc rfl rfl rfl)

include hk in
theorem gb6_v (hc : Counts (V (Proc.devRef .tc main_while1b_v40)) k) :
    after gb6 V (Proc.devRef .tc main_while1b_v46) = row (V (Proc.devRef .tc main_v28_5)) k :=
  (show _ = cutOut (V (Proc.devRef .tc main_v28_5)) (V (Proc.devRef .tc main_while1b_v40)) sliceFits_S256x8x64x64_S1x8x64x64 shapeCasts_S1x8x64x64_S8x64x64 by after_results_entrywise [cast_eq]).trans (row_slice _ _ _ _ k hk hc rfl rfl rfl)

include hk in
theorem gb7_v (hc : Counts (V (Proc.devRef .tc main_while1b_v40)) k) :
    after gb7 V (Proc.devRef .tc main_while1b_v47) = row (V (Proc.devRef .tc main_v28_6)) k :=
  (show _ = cutOut (V (Proc.devRef .tc main_v28_6)) (V (Proc.devRef .tc main_while1b_v40)) sliceFits_S256x8x1x128_S1x8x1x128 shapeCasts_S1x8x1x128_S8x1x128 by after_results_entrywise [cast_eq]).trans (row_slice _ _ _ _ k hk hc rfl rfl rfl)

include hk in
theorem gb8_v (hc : Counts (V (Proc.devRef .tc main_while1b_v40)) k) :
    after gb8 V (Proc.devRef .tc main_while1b_v48) = row (V (Proc.devRef .tc main_v28_7)) k :=
  (show _ = cutOut (V (Proc.devRef .tc main_v28_7)) (V (Proc.devRef .tc main_while1b_v40)) sliceFits_S256x8x64x128_S1x8x64x128 shapeCasts_S1x8x64x128_S8x64x128 by after_results_entrywise [cast_eq]).trans (row_slice _ _ _ _ k hk hc rfl rfl rfl)

include hk in
theorem gb10_v (hc : Counts (V (Proc.devRef .tc main_while1b_v40)) k) (n : ℕ) (hn : n < 256) :
    row (after gb10 V (Proc.devRef .tc main_while1b_v72)) n = if n = k then V (Proc.devRef .tc main_while1b_v66) else row (V (Proc.devRef .tc main_v28_10)) n :=
  (congrArg (fun x => row x n) (show _ = putIn (V (Proc.devRef .tc main_v28_10)) (V (Proc.devRef .tc main_while1b_v66)) (V (Proc.devRef .tc main_while1b_v40)) bcast_S8x64x128_S1x8x64x128_1_2_3 updateFits_S256x8x64x128_S1x8x64x128 by after_results_entrywise [cast_eq])).trans
    (row_update _ _ _ _ _ k hk hc rfl rfl rfl n hn)

include hk in
theorem gb11_v (hc : Counts (V (Proc.devRef .tc main_while1b_v40)) k) (n : ℕ) (hn : n < 256) :
    row (after gb11 V (Proc.devRef .tc main_while1b_v73)) n = if n = k then V (Proc.devRef .tc main_while1b_v62) else row (V (Proc.devRef .tc main_v28_11)) n :=
  (congrArg (fun x => row x n) (show _ = putIn (V (Proc.devRef .tc main_v28_11)) (V (Proc.devRef .tc main_while1b_v62)) (V (Proc.devRef .tc main_while1b_v40)) bcast_S8x64x64_S1x8x64x64_1_2_3 updateFits_S256x8x64x64_S1x8x64x64 by after_results_entrywise [cast_eq])).trans
    (row_update _ _ _ _ _ k hk hc rfl rfl rfl n hn)

include hk in
theorem gb12_v (hc : Counts (V (Proc.devRef .tc main_while1b_v40)) k) (n : ℕ) (hn : n < 256) :
    row (after gb12 V (Proc.devRef .tc main_while1b_v74)) n = if n = k then V (Proc.devRef .tc main_while1b_v61) else row (V (Proc.devRef .tc main_v28_12)) n :=
  (congrArg (fun x => row x n) (show _ = putIn (V (Proc.devRef .tc main_v28_12)) (V (Proc.devRef .tc main_while1b_v61)) (V (Proc.devRef .tc main_while1b_v40)) bcast_S8x64x128_S1x8x64x128_1_2_3 updateFits_S256x8x64x128_S1x8x64x128 by after_results_entrywise [cast_eq])).trans
    (row_update _ _ _ _ _ k hk hc rfl rfl rfl n hn)

include hk in
theorem gb13_v (hc : Counts (V (Proc.devRef .tc main_while1b_v40)) k) (n : ℕ) (hn : n < 256) :
    row (after gb13 V (Proc.devRef .tc main_while1b_v75)) n = if n = k then V (Proc.devRef .tc main_while1b_v71) else row (V (Proc.devRef .tc main_v28_13)) n :=
  (congrArg (fun x => row x n) (show _ = putIn (V (Proc.devRef .tc main_v28_13)) (V (Proc.devRef .tc main_while1b_v71)) (V (Proc.devRef .tc main_while1b_v40)) bcast_S8x64x128_S1x8x64x128_1_2_3 updateFits_S256x8x64x128_S1x8x64x128 by after_results_entrywise [cast_eq])).trans
    (row_update _ _ _ _ _ k hk hc rfl rfl rfl n hn)

include hk in
theorem gb14_v (hc : Counts (V (Proc.devRef .tc main_while1b_v40)) k) (n : ℕ) (hn : n < 256) :
    row (after gb14 V (Proc.devRef .tc main_while1b_v76)) n = if n = k then V (Proc.devRef .tc main_while1b_v52) else row (V (Proc.devRef .tc main_v28_14)) n :=
  (congrArg (fun x => row x n) (show _ = putIn (V (Proc.devRef .tc main_v28_14)) (V (Proc.devRef .tc main_while1b_v52)) (V (Proc.devRef .tc main_while1b_v40)) bcast_S8x64x128_S1x8x64x128_1_2_3 updateFits_S256x8x64x128_S1x8x64x128 by after_results_entrywise [cast_eq])).trans
    (row_update _ _ _ _ _ k hk hc rfl rfl rfl n hn)

include hk in
theorem gb15_v (hc : Counts (V (Proc.devRef .tc main_while1b_v40)) k) (n : ℕ) (hn : n < 256) :
    row (after gb15 V (Proc.devRef .tc main_while1b_v77)) n = if n = k then V (Proc.devRef .tc main_while1b_v58) else row (V (Proc.devRef .tc main_v28_15)) n :=
  (congrArg (fun x => row x n) (show _ = putIn (V (Proc.devRef .tc main_v28_15)) (V (Proc.devRef .tc main_while1b_v58)) (V (Proc.devRef .tc main_while1b_v40)) bcast_S8x1x128_S1x8x1x128_1_2_3 updateFits_S256x8x1x128_S1x8x1x128 by after_results_entrywise [cast_eq])).trans
    (row_update _ _ _ _ _ k hk hc rfl rfl rfl n hn)

end

/-! ## The arithmetic of a trip, and its last copies -/

section
variable (V : Valuation τ sig (Elt Ideal))

theorem fb6_v : after fb6 V (Proc.devRef .tc main_while0b_v46) = Chunk.vNew (F := Ideal) (V (Proc.devRef .tc main_while0b_v41)) (V (Proc.devRef .tc main_while0b_v42)) (V (Proc.devRef .tc main_v15_7)) :=
  (show _ = (subf (φ := .f32) (V (Proc.devRef .tc main_while0b_v41)) (Host.dotGeneral (F := Ideal) (φ₁ := .f32) (φ₂ := .f32) dot_S8x64x128_S8x128x128_S8x64x128_2_1_1_2_0_0 none (V (Proc.devRef .tc main_while0b_v42)) (V (Proc.devRef .tc main_v15_7)))) by sl_kernel_rfl).trans (by rw [vNew_eq])

theorem fb6_o : after fb6 V (Proc.devRef .tc main_while0b_v49) = Chunk.oOf (F := Ideal) (V (Proc.devRef .tc main_while0b_v39)) (V (Proc.devRef .tc main_while0b_v40)) (Chunk.vNew (F := Ideal) (V (Proc.devRef .tc main_while0b_v41)) (V (Proc.devRef .tc main_while0b_v42)) (V (Proc.devRef .tc main_v15_7))) (V (Proc.devRef .tc main_v15_7)) :=
  (show _ = addf (φ := .f32) (Host.dotGeneral (F := Ideal) (φ₁ := .f32) (φ₂ := .f32) dot_S8x64x128_S8x128x128_S8x64x128_2_1_1_2_0_0 none (V (Proc.devRef .tc main_while0b_v39)) (V (Proc.devRef .tc main_v15_7))) (Host.dotGeneral (F := Ideal) (φ₁ := .f32) (φ₂ := .f32) dot_S8x64x64_S8x64x128_S8x64x128_2_1_1_2_0_0 none (V (Proc.devRef .tc main_while0b_v40)) (subf (φ := .f32) (V (Proc.devRef .tc main_while0b_v41)) (Host.dotGeneral (F := Ideal) (φ₁ := .f32) (φ₂ := .f32) dot_S8x64x128_S8x128x128_S8x64x128_2_1_1_2_0_0 none (V (Proc.devRef .tc main_while0b_v42)) (V (Proc.devRef .tc main_v15_7))))) by sl_kernel_rfl).trans (by rw [oOf_eq, vNew_eq])

theorem fb6_g : after fb6 V (Proc.devRef .tc main_while0b_v50) = Host.exp (F := Ideal) (φ := .f32) (V (Proc.devRef .tc main_while0b_v44)) := by sl_kernel_rfl

theorem fb6_s : after fb6 V (Proc.devRef .tc main_while0b_v54) = Chunk.sNext (F := Ideal) (V (Proc.devRef .tc main_while0b_v43)) (V (Proc.devRef .tc main_while0b_v44)) (Chunk.vNew (F := Ideal) (V (Proc.devRef .tc main_while0b_v41)) (V (Proc.devRef .tc main_while0b_v42)) (V (Proc.devRef .tc main_v15_7))) (V (Proc.devRef .tc main_v15_7)) :=
  (show _ = addf (φ := .f32) (mulf (φ := .f32) (V (Proc.devRef .tc main_v15_7)) (lay (Host.exp (F := Ideal) (φ := .f32) (V (Proc.devRef .tc main_while0b_v44))))) (Host.dotGeneral (F := Ideal) (φ₁ := .f32) (φ₂ := .f32) dot_S8x64x128_S8x64x128_S8x128x128_1_1_2_2_0_0 none (V (Proc.devRef .tc main_while0b_v43)) (subf (φ := .f32) (V (Proc.devRef .tc main_while0b_v41)) (Host.dotGeneral (F := Ideal) (φ₁ := .f32) (φ₂ := .f32) dot_S8x64x128_S8x128x128_S8x64x128_2_1_1_2_0_0 none (V (Proc.devRef .tc main_while0b_v42)) (V (Proc.devRef .tc main_v15_7))))) by sl_kernel_rfl).trans (by rw [sNext_eq, vNew_eq])

theorem gb9_v66 : after gb9 V (Proc.devRef .tc main_while1b_v66) = Chunk.dQ (F := Ideal) (V (Proc.devRef .tc main_while1b_v41)) (V (Proc.devRef .tc main_while1b_v42)) :=
  (show _ = Host.dotGeneral (F := Ideal) (φ₁ := .f32) (φ₂ := .f32) dot_S8x64x128_S8x128x128_S8x64x128_2_2_1_1_0_0 none (V (Proc.devRef .tc main_while1b_v41)) (V (Proc.devRef .tc main_while1b_v42)) by sl_kernel_rfl).trans (by rw [dQ_eq])

theorem gb9_v62 : after gb9 V (Proc.devRef .tc main_while1b_v62) = Chunk.dA (F := Ideal) (V (Proc.devRef .tc main_while1b_v41)) (V (Proc.devRef .tc main_while1b_v45)) :=
  (show _ = Host.dotGeneral (F := Ideal) (φ₁ := .f32) (φ₂ := .f32) dot_S8x64x128_S8x64x128_S8x64x64_2_2_1_1_0_0 none (V (Proc.devRef .tc main_while1b_v41)) (V (Proc.devRef .tc main_while1b_v45)) by sl_kernel_rfl).trans (by rw [dA_eq])

theorem gb9_v61 : after gb9 V (Proc.devRef .tc main_while1b_v61) = Chunk.dV (F := Ideal) (V (Proc.devRef .tc main_while1b_v46)) (V (Proc.devRef .tc main_while1b_v48)) (V (Proc.devRef .tc main_while1b_v41)) (V (Proc.devRef .tc main_v28_9)) :=
  (show _ = (addf (φ := .f32) (tr (Host.dotGeneral (F := Ideal) (φ₁ := .f32) (φ₂ := .f32) dot_S8x128x128_S8x64x128_S8x128x64_1_2_2_1_0_0 none (V (Proc.devRef .tc main_v28_9)) (V (Proc.devRef .tc main_while1b_v48)))) (tr (Host.dotGeneral (F := Ideal) (φ₁ := .f32) (φ₂ := .f32) dot_S8x64x128_S8x64x64_S8x128x64_1_1_2_2_0_0 none (V (Proc.devRef .tc main_while1b_v41)) (V (Proc.devRef .tc main_while1b_v46))))) by sl_kernel_rfl).trans (by rw [dV_eq])

theorem gb9_v71 : after gb9 V (Proc.devRef .tc main_while1b_v71) = Chunk.dW (F := Ideal) (Chunk.dV (F := Ideal) (V (Proc.devRef .tc main_while1b_v46)) (V (Proc.devRef .tc main_while1b_v48)) (V (Proc.devRef .tc main_while1b_v41)) (V (Proc.devRef .tc main_v28_9))) (V (Proc.devRef .tc main_while1b_v42)) :=
  (show _ = Host.dotGeneral (F := Ideal) (φ₁ := .f32) (φ₂ := .f32) dot_S8x64x128_S8x128x128_S8x64x128_2_2_1_1_0_0 none (Host.negf (F := Ideal) (φ := .f32) (addf (φ := .f32) (tr (Host.dotGeneral (F := Ideal) (φ₁ := .f32) (φ₂ := .f32) dot_S8x128x128_S8x64x128_S8x128x64_1_2_2_1_0_0 none (V (Proc.devRef .tc main_v28_9)) (V (Proc.devRef .tc main_while1b_v48)))) (tr (Host.dotGeneral (F := Ideal) (φ₁ := .f32) (φ₂ := .f32) dot_S8x64x128_S8x64x64_S8x128x64_1_1_2_2_0_0 none (V (Proc.devRef .tc main_while1b_v41)) (V (Proc.devRef .tc main_while1b_v46)))))) (V (Proc.devRef .tc main_while1b_v42)) by sl_kernel_rfl).trans (by rw [dW_eq, dV_eq])

theorem gb9_v52 : after gb9 V (Proc.devRef .tc main_while1b_v52) = Chunk.dK (F := Ideal) (V (Proc.devRef .tc main_while1b_v45)) (V (Proc.devRef .tc main_v28_9)) :=
  (show _ = tr (Host.dotGeneral (F := Ideal) (φ₁ := .f32) (φ₂ := .f32) dot_S8x128x128_S8x64x128_S8x128x64_2_2_1_1_0_0 none (V (Proc.devRef .tc main_v28_9)) (V (Proc.devRef .tc main_while1b_v45))) by sl_kernel_rfl).trans (by rw [dK_eq])

theorem gb9_v58 (g : Ln) (hg : V (Proc.devRef .tc main_while1b_v47) = Host.exp (F := Ideal) (φ := .f32) g) :
    after gb9 V (Proc.devRef .tc main_while1b_v58) = Chunk.dG (F := Ideal) g (V (Proc.devRef .tc main_while1b_v42)) (V (Proc.devRef .tc main_v28_9)) :=
  (show _ = mulf (φ := .f32) (shapeCast S8x1x128 (Host.reduceAdd (F := Ideal) (φ := .f32) (mulf (φ := .f32) (V (Proc.devRef .tc main_while1b_v42)) (V (Proc.devRef .tc main_v28_9))) (constant S_ .f32 0x00000000#32 : FVec Ideal S_ .f32)
        reducesTo_S8x128x128_S8x128_d1 h_S_) shapeCasts_S8x128_S8x1x128) (V (Proc.devRef .tc main_while1b_v47)) by sl_kernel_rfl).trans (by rw [hg, dG_eq])

theorem gb9_v70 (g : Ln) (hg : V (Proc.devRef .tc main_while1b_v47) = Host.exp (F := Ideal) (φ := .f32) g) :
    after gb9 V (Proc.devRef .tc main_while1b_v70) = Chunk.dS (F := Ideal) (V (Proc.devRef .tc main_while1b_v44)) (V (Proc.devRef .tc main_while1b_v43)) g (V (Proc.devRef .tc main_while1b_v41)) (Chunk.dV (F := Ideal) (V (Proc.devRef .tc main_while1b_v46)) (V (Proc.devRef .tc main_while1b_v48)) (V (Proc.devRef .tc main_while1b_v41)) (V (Proc.devRef .tc main_v28_9))) (V (Proc.devRef .tc main_v28_9)) :=
  (show _ = addf (φ := .f32) (addf (φ := .f32) (mulf (φ := .f32) (V (Proc.devRef .tc main_v28_9)) (lay (V (Proc.devRef .tc main_while1b_v47)))) (trS (Host.dotGeneral (F := Ideal) (φ₁ := .f32) (φ₂ := .f32) dot_S8x64x128_S8x64x128_S8x128x128_1_1_2_2_0_0 none (V (Proc.devRef .tc main_while1b_v41)) (V (Proc.devRef .tc main_while1b_v44)))))
      (trS (Host.dotGeneral (F := Ideal) (φ₁ := .f32) (φ₂ := .f32) dot_S8x64x128_S8x64x128_S8x128x128_1_1_2_2_0_0 none (Host.negf (F := Ideal) (φ := .f32) (addf (φ := .f32) (tr (Host.dotGeneral (F := Ideal) (φ₁ := .f32) (φ₂ := .f32) dot_S8x128x128_S8x64x128_S8x128x64_1_2_2_1_0_0 none (V (Proc.devRef .tc main_v28_9)) (V (Proc.devRef .tc main_while1b_v48)))) (tr (Host.dotGeneral (F := Ideal) (φ₁ := .f32) (φ₂ := .f32) dot_S8x64x128_S8x64x64_S8x128x64_1_1_2_2_0_0 none (V (Proc.devRef .tc main_while1b_v41)) (V (Proc.devRef .tc main_while1b_v46)))))) (V (Proc.devRef .tc main_while1b_v43)))) by sl_kernel_rfl).trans (by rw [hg, dS_eq, dV_eq])

theorem fb11_v15_7 : after fb11 V (Proc.devRef .tc main_v15_7) = V (Proc.devRef .tc main_while0b_v54) := by sl_kernel_rfl
theorem fb11_v15_8 : after fb11 V (Proc.devRef .tc main_v15_8) = V (Proc.devRef .tc main_while0b_v55) := by sl_kernel_rfl
theorem fb11_v15_9 : after fb11 V (Proc.devRef .tc main_v15_9) = V (Proc.devRef .tc main_while0b_v56) := by sl_kernel_rfl
theorem fb11_v15_10 : after fb11 V (Proc.devRef .tc main_v15_10) = V (Proc.devRef .tc main_while0b_v57) := by sl_kernel_rfl
theorem fb11_v15_11 : after fb11 V (Proc.devRef .tc main_v15_11) = V (Proc.devRef .tc main_while0b_v58) := by sl_kernel_rfl
theorem gb16_v28_9 : after gb16 V (Proc.devRef .tc main_v28_9) = V (Proc.devRef .tc main_while1b_v70) := by sl_kernel_rfl
theorem gb16_v28_10 : after gb16 V (Proc.devRef .tc main_v28_10) = V (Proc.devRef .tc main_while1b_v72) := by sl_kernel_rfl
theorem gb16_v28_11 : after gb16 V (Proc.devRef .tc main_v28_11) = V (Proc.devRef .tc main_while1b_v73) := by sl_kernel_rfl
theorem gb16_v28_12 : after gb16 V (Proc.devRef .tc main_v28_12) = V (Proc.devRef .tc main_while1b_v74) := by sl_kernel_rfl
theorem gb16_v28_13 : after gb16 V (Proc.devRef .tc main_v28_13) = V (Proc.devRef .tc main_while1b_v75) := by sl_kernel_rfl
theorem gb16_v28_14 : after gb16 V (Proc.devRef .tc main_v28_14) = V (Proc.devRef .tc main_while1b_v76) := by sl_kernel_rfl
theorem gb16_v28_15 : after gb16 V (Proc.devRef .tc main_v28_15) = V (Proc.devRef .tc main_while1b_v77) := by sl_kernel_rfl

/-- The row that loop 1's trip visits. -/
theorem gb0_v (k : ℕ) (hk : k < 256) (hc : V (Proc.devRef .tc main_v28_8) = fun _ => Scf.iv 0#32 1#32 k) :
    (after gb0 V (Proc.devRef .tc main_while1b_v40) (Shape.Idx.first h_S_)).toInt = (255 - k : ℕ) := by
  have h : after gb0 V (Proc.devRef .tc main_while1b_v40) = subi (subi (constantI S_ 32 256#32) (V (Proc.devRef .tc main_v28_8))) (constantI S_ 32 1#32) := by sl_kernel_rfl
  rw [h, hc]
  show (256#32 - Scf.iv 0#32 1#32 k - 1#32).toInt = _
  have e : 256#32 - Scf.iv 0#32 1#32 k - 1#32 = BitVec.ofNat 32 (255 - k) := by
    unfold Scf.iv; apply BitVec.eq_of_toNat_eq; simp; omega
  rw [e]; simp [BitVec.toInt]; omega

end

end Cert.Ref
end
-- ==== Proof.RefTrip.lean ====
/- What one whole trip of each loop leaves: the carried state, and the rows of the stacks. -/
module

public import proofs.«01_k».proof.Proof.RefStep

@[expose] public section

set_option maxRecDepth 16384

noncomputable section

namespace Cert.Ref

open Cert.ReferenceIdeal Cert.ReferenceIdeal.Gen Cert.Rows Cert.HostChunk
open Idealize.ShloMosaic Idealize.ShloMosaic.TcCoe Idealize.ShloMosaic.Tactic
open Idealize.ShloMosaic.StableHlo

/-- What no stretch of a list writes it keeps. -/
theorem stretches_keep {L : List (Line Ideal)} {Ws : List (List (Ref sig .tc))} (hW : List.Forall₂ (Writes (F := Ideal)) L Ws) :
    ∀ (V : Valuation τ sig (Elt Ideal)) (r : Ref sig .tc), r ∉ Ws.flatten → afterL L V (Proc.devRef .tc r) = V (Proc.devRef .tc r) := by
  induction hW with
  | nil => intro V r _; rfl
  | cons h _ ih =>
    intro V r hr
    rw [List.flatten_cons, List.mem_append, not_or] at hr
    rw [afterL_cons, ih _ r hr.2]
    exact after_of_writes_sub _ _ h hr.1

/-- Nor do the stretches between the `m`-th and the `n`-th. -/
theorem stretches_between {L : List (Line Ideal)} {Ws : List (List (Ref sig .tc))} (hW : List.Forall₂ (Writes (F := Ideal)) L Ws)
    (V : Valuation τ sig (Elt Ideal)) {m n : ℕ} (hm : m ≤ n) (r : Ref sig .tc) (hr : r ∉ ((Ws.take n).drop m).flatten) :
    afterL (L.take n) V (Proc.devRef .tc r) = afterL (L.take m) V (Proc.devRef .tc r) := by
  have e : L.take n = L.take m ++ (L.take n).drop m := by
    conv_lhs => rw [← List.take_append_drop m (L.take n), List.take_take, min_eq_left hm]
  rw [e, afterL_eq_after_flatten, List.flatten_append, after_append, ← afterL_eq_after_flatten, ← afterL_eq_after_flatten]
  exact stretches_keep (List.forall₂_drop m (List.forall₂_take n hW)) _ r hr

variable (V : Valuation τ sig (Elt Ideal)) (k : ℕ) (hk : k < 256)

/-! ## The first loop -/

/-- After the first `n` stretches of the body. -/
def fAt (n : ℕ) : Valuation τ sig (Elt Ideal) := afterL (fbI.take n) V
/-- What each stretch writes. -/
abbrev fWs : List (List (Ref sig .tc)) := [fb0_W, fb1_W, fb2_W, fb3_W, fb4_W, fb5_W, fb6_W, fb7_W, fb8_W, fb9_W, fb10_W, fb11_W]
theorem f_pairs : List.Forall₂ (Writes (F := Ideal)) fbI fWs :=
  .cons fb0_writes (.cons fb1_writes (.cons fb2_writes (.cons fb3_writes (.cons fb4_writes (.cons fb5_writes (.cons fb6_writes (.cons fb7_writes (.cons fb8_writes (.cons fb9_writes (.cons fb10_writes (.cons fb11_writes .nil)))))))))))
theorem f_from (n : ℕ) (r : Ref sig .tc) (h : r ∉ (fWs.take n).flatten := by decide) : fAt V n (Proc.devRef .tc r) = V (Proc.devRef .tc r) :=
  stretches_keep (List.forall₂_take n f_pairs) V r h
theorem f_keep (n m : ℕ) (r : Ref sig .tc) (h : r ∉ ((fWs.take n).drop m).flatten := by decide) (hm : m ≤ n := by decide) :
    fAt V n (Proc.devRef .tc r) = fAt V m (Proc.devRef .tc r) :=
  stretches_between f_pairs V hm r h
theorem f_last : afterL fbI V = after fb11 (fAt V 11) := rfl

include hk in
theorem fu6_v39 (hc : Counts (V (Proc.devRef .tc main_v15_6)) k) : fAt V 6 (Proc.devRef .tc main_while0b_v39) = row (V (Proc.devRef .tc main_v15_0)) k := by
  rw [f_keep V 6 1 main_while0b_v39]
  refine (fb0_v V k hk (hc)).trans ?_
  rfl

include hk in
theorem fu6_v40 (hc : Counts (V (Proc.devRef .tc main_v15_6)) k) : fAt V 6 (Proc.devRef .tc main_while0b_v40) = row (V (Proc.devRef .tc main_v15_1)) k := by
  rw [f_keep V 6 2 main_while0b_v40]
  refine (fb1_v (fAt V 1) k hk (by rw [f_from V 1 main_v15_6]; exact hc)).trans ?_
  rw [f_from V 1 main_v15_1]

include hk in
theorem fu6_v41 (hc : Counts (V (Proc.devRef .tc main_v15_6)) k) : fAt V 6 (Proc.devRef .tc main_while0b_v41) = row (V (Proc.devRef .tc main_v15_2)) k := by
  rw [f_keep V 6 3 main_while0b_v41]
  refine (fb2_v (fAt V 2) k hk (by rw [f_from V 2 main_v15_6]; exact hc)).trans ?_
  rw [f_from V 2 main_v15_2]

include hk in
theorem fu6_v42 (hc : Counts (V (Proc.devRef .tc main_v15_6)) k) : fAt V 6 (Proc.devRef .tc main_while0b_v42) = row (V (Proc.devRef .tc main_v15_3)) k := by
  rw [f_keep V 6 4 main_while0b_v42]
  refine (fb3_v (fAt V 3) k hk (by rw [f_from V 3 main_v15_6]; exact hc)).trans ?_
  rw [f_from V 3 main_v15_3]

include hk in
theorem fu6_v43 (hc : Counts (V (Proc.devRef .tc main_v15_6)) k) : fAt V 6 (Proc.devRef .tc main_while0b_v43) = row (V (Proc.devRef .tc main_v15_4)) k := by
  rw [f_keep V 6 5 main_while0b_v43]
  refine (fb4_v (fAt V 4) k hk (by rw [f_from V 4 main_v15_6]; exact hc)).trans ?_
  rw [f_from V 4 main_v15_4]

include hk in
theorem fu6_v44 (hc : Counts (V (Proc.devRef .tc main_v15_6)) k) : fAt V 6 (Proc.devRef .tc main_while0b_v44) = row (V (Proc.devRef .tc main_v15_5)) k := by
  refine (fb5_v (fAt V 5) k hk (by rw [f_from V 5 main_v15_6]; exact hc)).trans ?_
  rw [f_from V 5 main_v15_5]

include hk in
theorem fu7_v46 (hc : Counts (V (Proc.devRef .tc main_v15_6)) k) : fAt V 7 (Proc.devRef .tc main_while0b_v46) = (Chunk.vNew (F := Ideal) (row (V (Proc.devRef .tc main_v15_2)) k) (row (V (Proc.devRef .tc main_v15_3)) k) (V (Proc.devRef .tc main_v15_7))) := by
  rw [show fAt V 7 (Proc.devRef .tc main_while0b_v46) = after fb6 (fAt V 6) (Proc.devRef .tc main_while0b_v46) from rfl]
  rw [fb6_v, fu6_v41 V k hk hc, fu6_v42 V k hk hc, f_from V 6 main_v15_7]

include hk in
theorem fu7_v49 (hc : Counts (V (Proc.devRef .tc main_v15_6)) k) : fAt V 7 (Proc.devRef .tc main_while0b_v49) = Chunk.oOf (F := Ideal) (row (V (Proc.devRef .tc main_v15_0)) k) (row (V (Proc.devRef .tc main_v15_1)) k) (Chunk.vNew (F := Ideal) (row (V (Proc.devRef .tc main_v15_2)) k) (row (V (Proc.devRef .tc main_v15_3)) k) (V (Proc.devRef .tc main_v15_7))) (V (Proc.devRef .tc main_v15_7)) := by
  rw [show fAt V 7 (Proc.devRef .tc main_while0b_v49) = after fb6 (fAt V 6) (Proc.devRef .tc main_while0b_v49) from rfl]
  rw [fb6_o, fu6_v39 V k hk hc, fu6_v40 V k hk hc, fu6_v41 V k hk hc, fu6_v42 V k hk hc, f_from V 6 main_v15_7]

include hk in
theorem fu7_v50 (hc : Counts (V (Proc.devRef .tc main_v15_6)) k) : fAt V 7 (Proc.devRef .tc main_while0b_v50) = Host.exp (F := Ideal) (φ := .f32) (row (V (Proc.devRef .tc main_v15_5)) k) := by
  rw [show fAt V 7 (Proc.devRef .tc main_while0b_v50) = after fb6 (fAt V 6) (Proc.devRef .tc main_while0b_v50) from rfl]
  rw [fb6_g, fu6_v44 V k hk hc]

include hk in
theorem fu7_v54 (hc : Counts (V (Proc.devRef .tc main_v15_6)) k) : fAt V 7 (Proc.devRef .tc main_while0b_v54) = Chunk.sNext (F := Ideal) (row (V (Proc.devRef .tc main_v15_4)) k) (row (V (Proc.devRef .tc main_v15_5)) k) (Chunk.vNew (F := Ideal) (row (V (Proc.devRef .tc main_v15_2)) k) (row (V (Proc.devRef .tc main_v15_3)) k) (V (Proc.devRef .tc main_v15_7))) (V (Proc.devRef .tc main_v15_7)) := by
  rw [show fAt V 7 (Proc.devRef .tc main_while0b_v54) = after fb6 (fAt V 6) (Proc.devRef .tc main_while0b_v54) from rfl]
  rw [fb6_s, fu6_v43 V k hk hc, fu6_v44 V k hk hc, fu6_v41 V k hk hc, fu6_v42 V k hk hc, f_from V 6 main_v15_7]

include hk in
/-- The state after the trip. -/
theorem f_s (hc : Counts (V (Proc.devRef .tc main_v15_6)) k) : afterL fbI V (Proc.devRef .tc main_v15_7) = Chunk.sNext (F := Ideal) (row (V (Proc.devRef .tc main_v15_4)) k) (row (V (Proc.devRef .tc main_v15_5)) k) (Chunk.vNew (F := Ideal) (row (V (Proc.devRef .tc main_v15_2)) k) (row (V (Proc.devRef .tc main_v15_3)) k) (V (Proc.devRef .tc main_v15_7))) (V (Proc.devRef .tc main_v15_7)) := by
  rw [f_last, fb11_v15_7, f_keep V 11 7 main_while0b_v54, fu7_v54 V k hk hc]

include hk in
theorem f_8 (hc : Counts (V (Proc.devRef .tc main_v15_6)) k) (n : ℕ) (hn : n < 256) : row (afterL fbI V (Proc.devRef .tc main_v15_8)) n = if n = k then Chunk.oOf (F := Ideal) (row (V (Proc.devRef .tc main_v15_0)) k) (row (V (Proc.devRef .tc main_v15_1)) k) (Chunk.vNew (F := Ideal) (row (V (Proc.devRef .tc main_v15_2)) k) (row (V (Proc.devRef .tc main_v15_3)) k) (V (Proc.devRef .tc main_v15_7))) (V (Proc.devRef .tc main_v15_7)) else row (V (Proc.devRef .tc main_v15_8)) n := by
  rw [f_last, fb11_v15_8, f_keep V 11 8 main_while0b_v55]
  refine (fb7_v (fAt V 7) k hk (by rw [f_from V 7 main_v15_6]; exact hc) n hn).trans ?_
  rw [fu7_v49 V k hk hc, f_from V 7 main_v15_8]

include hk in
theorem f_9 (hc : Counts (V (Proc.devRef .tc main_v15_6)) k) (n : ℕ) (hn : n < 256) : row (afterL fbI V (Proc.devRef .tc main_v15_9)) n = if n = k then (V (Proc.devRef .tc main_v15_7)) else row (V (Proc.devRef .tc main_v15_9)) n := by
  rw [f_last, fb11_v15_9, f_keep V 11 9 main_while0b_v56]
  refine (fb8_v (fAt V 8) k hk (by rw [f_from V 8 main_v15_6]; exact hc) n hn).trans ?_
  rw [f_from V 8 main_v15_7, f_from V 8 main_v15_9]

include hk in
theorem f_10 (hc : Counts (V (Proc.devRef .tc main_v15_6)) k) (n : ℕ) (hn : n < 256) : row (afterL fbI V (Proc.devRef .tc main_v15_10)) n = if n = k then (Chunk.vNew (F := Ideal) (row (V (Proc.devRef .tc main_v15_2)) k) (row (V (Proc.devRef .tc main_v15_3)) k) (V (Proc.devRef .tc main_v15_7))) else row (V (Proc.devRef .tc main_v15_10)) n := by
  rw [f_last, fb11_v15_10, f_keep V 11 10 main_while0b_v57]
  refine (fb9_v (fAt V 9) k hk (by rw [f_from V 9 main_v15_6]; exact hc) n hn).trans ?_
  rw [f_keep V 9 7 main_while0b_v46, fu7_v46 V k hk hc, f_from V 9 main_v15_10]

include hk in
theorem f_11 (hc : Counts (V (Proc.devRef .tc main_v15_6)) k) (n : ℕ) (hn : n < 256) : row (afterL fbI V (Proc.devRef .tc main_v15_11)) n = if n = k then Host.exp (F := Ideal) (φ := .f32) (row (V (Proc.devRef .tc main_v15_5)) k) else row (V (Proc.devRef .tc main_v15_11)) n := by
  rw [f_last, fb11_v15_11]
  refine (fb10_v (fAt V 10) k hk (by rw [f_from V 10 main_v15_6]; exact hc) n hn).trans ?_
  rw [f_keep V 10 7 main_while0b_v50, fu7_v50 V k hk hc, f_from V 10 main_v15_11]

/-! ## The second loop -/

/-- After the first `n` stretches of the body. -/
def gAt (n : ℕ) : Valuation τ sig (Elt Ideal) := afterL (gbI.take n) V
/-- What each stretch writes. -/
abbrev gWs : List (List (Ref sig .tc)) := [gb0_W, gb1_W, gb2_W, gb3_W, gb4_W, gb5_W, gb6_W, gb7_W, gb8_W, gb9_W, gb10_W, gb11_W, gb12_W, gb13_W, gb14_W, gb15_W, gb16_W]
theorem g_pairs : List.Forall₂ (Writes (F := Ideal)) gbI gWs :=
  .cons gb0_writes (.cons gb1_writes (.cons gb2_writes (.cons gb3_writes (.cons gb4_writes (.cons gb5_writes (.cons gb6_writes (.cons gb7_writes (.cons gb8_writes (.cons gb9_writes (.cons gb10_writes (.cons gb11_writes (.cons gb12_writes (.cons gb13_writes (.cons gb14_writes (.cons gb15_writes (.cons gb16_writes .nil))))))))))))))))
theorem g_from (n : ℕ) (r : Ref sig .tc) (h : r ∉ (gWs.take n).flatten := by decide) : gAt V n (Proc.devRef .tc r) = V (Proc.devRef .tc r) :=
  stretches_keep (List.forall₂_take n g_pairs) V r h
theorem g_keep (n m : ℕ) (r : Ref sig .tc) (h : r ∉ ((gWs.take n).drop m).flatten := by decide) (hm : m ≤ n := by decide) :
    gAt V n (Proc.devRef .tc r) = gAt V m (Proc.devRef .tc r) :=
  stretches_between g_pairs V hm r h
theorem g_last : afterL gbI V = after gb16 (gAt V 16) := rfl

include hk in
theorem gu1_idx (hc : V (Proc.devRef .tc main_v28_8) = fun _ => Scf.iv 0#32 1#32 k) : (gAt V 1 (Proc.devRef .tc main_while1b_v40) (Shape.Idx.first h_S_)).toInt = (255 - k : ℕ) := gb0_v V k hk hc
theorem below (k : ℕ) : 255 - k < 256 := by omega

include hk in
theorem gu9_v41 (hc : V (Proc.devRef .tc main_v28_8) = fun _ => Scf.iv 0#32 1#32 k) : gAt V 9 (Proc.devRef .tc main_while1b_v41) = row (V (Proc.devRef .tc main_v28_0)) (255 - k) := by
  rw [g_keep V 9 2 main_while1b_v41]
  refine (gb1_v (gAt V 1) (255 - k) (below k) (gu1_idx V k hk hc)).trans ?_
  rw [g_from V 1 main_v28_0]

include hk in
theorem gu9_v42 (hc : V (Proc.devRef .tc main_v28_8) = fun _ => Scf.iv 0#32 1#32 k) : gAt V 9 (Proc.devRef .tc main_while1b_v42) = row (V (Proc.devRef .tc main_v28_1)) (255 - k) := by
  rw [g_keep V 9 3 main_while1b_v42]
  refine (gb2_v (gAt V 2) (255 - k) (below k) (by rw [g_keep V 2 1 main_while1b_v40]; exact gu1_idx V k hk hc)).trans ?_
  rw [g_from V 2 main_v28_1]

include hk in
theorem gu9_v43 (hc : V (Proc.devRef .tc main_v28_8) = fun _ => Scf.iv 0#32 1#32 k) : gAt V 9 (Proc.devRef .tc main_while1b_v43) = row (V (Proc.devRef .tc main_v28_2)) (255 - k) := by
  rw [g_keep V 9 4 main_while1b_v43]
  refine (gb3_v (gAt V 3) (255 - k) (below k) (by rw [g_keep V 3 1 main_while1b_v40]; exact gu1_idx V k hk hc)).trans ?_
  rw [g_from V 3 main_v28_2]

include hk in
theorem gu9_v44 (hc : V (Proc.devRef .tc main_v28_8) = fun _ => Scf.iv 0#32 1#32 k) : gAt V 9 (Proc.devRef .tc main_while1b_v44) = row (V (Proc.devRef .tc main_v28_3)) (255 - k) := by
  rw [g_keep V 9 5 main_while1b_v44]
  refine (gb4_v (gAt V 4) (255 - k) (below k) (by rw [g_keep V 4 1 main_while1b_v40]; exact gu1_idx V k hk hc)).trans ?_
  rw [g_from V 4 main_v28_3]

include hk in
theorem gu9_v45 (hc : V (Proc.devRef .tc main_v28_8) = fun _ => Scf.iv 0#32 1#32 k) : gAt V 9 (Proc.devRef .tc main_while1b_v45) = row (V (Proc.devRef .tc main_v28_4)) (255 - k) := by
  rw [g_keep V 9 6 main_while1b_v45]
  refine (gb5_v (gAt V 5) (255 - k) (below k) (by rw [g_keep V 5 1 main_while1b_v40]; exact gu1_idx V k hk hc)).trans ?_
  rw [g_from V 5 main_v28_4]

include hk in
theorem gu9_v46 (hc : V (Proc.devRef .tc main_v28_8) = fun _ => Scf.iv 0#32 1#32 k) : gAt V 9 (Proc.devRef .tc main_while1b_v46) = row (V (Proc.devRef .tc main_v28_5)) (255 - k) := by
  rw [g_keep V 9 7 main_while1b_v46]
  refine (gb6_v (gAt V 6) (255 - k) (below k) (by rw [g_keep V 6 1 main_while1b_v40]; exact gu1_idx V k hk hc)).trans ?_
  rw [g_from V 6 main_v28_5]

include hk in
theorem gu9_v47 (hc : V (Proc.devRef .tc main_v28_8) = fun _ => Scf.iv 0#32 1#32 k) : gAt V 9 (Proc.devRef .tc main_while1b_v47) = row (V (Proc.devRef .tc main_v28_6)) (255 - k) := by
  rw [g_keep V 9 8 main_while1b_v47]
  refine (gb7_v (gAt V 7) (255 - k) (below k) (by rw [g_keep V 7 1 main_while1b_v40]; exact gu1_idx V k hk hc)).trans ?_
  rw [g_from V 7 main_v28_6]

include hk in
theorem gu9_v48 (hc : V (Proc.devRef .tc main_v28_8) = fun _ => Scf.iv 0#32 1#32 k) : gAt V 9 (Proc.devRef .tc main_while1b_v48) = row (V (Proc.devRef .tc main_v28_7)) (255 - k) := by
  refine (gb8_v (gAt V 8) (255 - k) (below k) (by rw [g_keep V 8 1 main_while1b_v40]; exact gu1_idx V k hk hc)).trans ?_
  rw [g_from V 8 main_v28_7]

include hk in
theorem gu10_v66 (hc : V (Proc.devRef .tc main_v28_8) = fun _ => Scf.iv 0#32 1#32 k) : gAt V 10 (Proc.devRef .tc main_while1b_v66) = Chunk.dQ (F := Ideal) (row (V (Proc.devRef .tc main_v28_0)) (255 - k)) (row (V (Proc.devRef .tc main_v28_1)) (255 - k)) := by
  rw [show gAt V 10 (Proc.devRef .tc main_while1b_v66) = after gb9 (gAt V 9) (Proc.devRef .tc main_while1b_v66) from rfl]
  rw [gb9_v66, gu9_v41 V k hk hc, gu9_v42 V k hk hc]

include hk in
theorem gu10_v62 (hc : V (Proc.devRef .tc main_v28_8) = fun _ => Scf.iv 0#32 1#32 k) : gAt V 10 (Proc.devRef .tc main_while1b_v62) = Chunk.dA (F := Ideal) (row (V (Proc.devRef .tc main_v28_0)) (255 - k)) (row (V (Proc.devRef .tc main_v28_4)) (255 - k)) := by
  rw [show gAt V 10 (Proc.devRef .tc main_while1b_v62) = after gb9 (gAt V 9) (Proc.devRef .tc main_while1b_v62) from rfl]
  rw [gb9_v62, gu9_v41 V k hk hc, gu9_v45 V k hk hc]

include hk in
theorem gu10_v61 (hc : V (Proc.devRef .tc main_v28_8) = fun _ => Scf.iv 0#32 1#32 k) : gAt V 10 (Proc.devRef .tc main_while1b_v61) = (Chunk.dV (F := Ideal) (row (V (Proc.devRef .tc main_v28_5)) (255 - k)) (row (V (Proc.devRef .tc main_v28_7)) (255 - k)) (row (V (Proc.devRef .tc main_v28_0)) (255 - k)) (V (Proc.devRef .tc main_v28_9))) := by
  rw [show gAt V 10 (Proc.devRef .tc main_while1b_v61) = after gb9 (gAt V 9) (Proc.devRef .tc main_while1b_v61) from rfl]
  rw [gb9_v61, gu9_v46 V k hk hc, gu9_v48 V k hk hc, gu9_v41 V k hk hc, g_from V 9 main_v28_9]

include hk in
theorem gu10_v71 (hc : V (Proc.devRef .tc main_v28_8) = fun _ => Scf.iv 0#32 1#32 k) : gAt V 10 (Proc.devRef .tc main_while1b_v71) = Chunk.dW (F := Ideal) (Chunk.dV (F := Ideal) (row (V (Proc.devRef .tc main_v28_5)) (255 - k)) (row (V (Proc.devRef .tc main_v28_7)) (255 - k)) (row (V (Proc.devRef .tc main_v28_0)) (255 - k)) (V (Proc.devRef .tc main_v28_9))) (row (V (Proc.devRef .tc main_v28_1)) (255 - k)) := by
  rw [show gAt V 10 (Proc.devRef .tc main_while1b_v71) = after gb9 (gAt V 9) (Proc.devRef .tc main_while1b_v71) from rfl]
  rw [gb9_v71, gu9_v46 V k hk hc, gu9_v48 V k hk hc, gu9_v41 V k hk hc, gu9_v42 V k hk hc, g_from V 9 main_v28_9]

include hk in
theorem gu10_v52 (hc : V (Proc.devRef .tc main_v28_8) = fun _ => Scf.iv 0#32 1#32 k) : gAt V 10 (Proc.devRef .tc main_while1b_v52) = Chunk.dK (F := Ideal) (row (V (Proc.devRef .tc main_v28_4)) (255 - k)) (V (Proc.devRef .tc main_v28_9)) := by
  rw [show gAt V 10 (Proc.devRef .tc main_while1b_v52) = after gb9 (gAt V 9) (Proc.devRef .tc main_while1b_v52) from rfl]
  rw [gb9_v52, gu9_v45 V k hk hc, g_from V 9 main_v28_9]

include hk in
theorem gu10_v58 (hc : V (Proc.devRef .tc main_v28_8) = fun _ => Scf.iv 0#32 1#32 k) (g : Ln) (hg : (row (V (Proc.devRef .tc main_v28_6)) (255 - k)) = Host.exp (F := Ideal) (φ := .f32) g) : gAt V 10 (Proc.devRef .tc main_while1b_v58) = Chunk.dG (F := Ideal) g (row (V (Proc.devRef .tc main_v28_1)) (255 - k)) (V (Proc.devRef .tc main_v28_9)) := by
  rw [show gAt V 10 (Proc.devRef .tc main_while1b_v58) = after gb9 (gAt V 9) (Proc.devRef .tc main_while1b_v58) from rfl]
  rw [gb9_v58 _ g (by rw [gu9_v47 V k hk hc]; exact hg), gu9_v42 V k hk hc, g_from V 9 main_v28_9]

include hk in
theorem gu10_v70 (hc : V (Proc.devRef .tc main_v28_8) = fun _ => Scf.iv 0#32 1#32 k) (g : Ln) (hg : (row (V (Proc.devRef .tc main_v28_6)) (255 - k)) = Host.exp (F := Ideal) (φ := .f32) g) : gAt V 10 (Proc.devRef .tc main_while1b_v70) = Chunk.dS (F := Ideal) (row (V (Proc.devRef .tc main_v28_3)) (255 - k)) (row (V (Proc.devRef .tc main_v28_2)) (255 - k)) g (row (V (Proc.devRef .tc main_v28_0)) (255 - k)) (Chunk.dV (F := Ideal) (row (V (Proc.devRef .tc main_v28_5)) (255 - k)) (row (V (Proc.devRef .tc main_v28_7)) (255 - k)) (row (V (Proc.devRef .tc main_v28_0)) (255 - k)) (V (Proc.devRef .tc main_v28_9))) (V (Proc.devRef .tc main_v28_9)) := by
  rw [show gAt V 10 (Proc.devRef .tc main_while1b_v70) = after gb9 (gAt V 9) (Proc.devRef .tc main_while1b_v70) from rfl]
  rw [gb9_v70 _ g (by rw [gu9_v47 V k hk hc]; exact hg), gu9_v44 V k hk hc, gu9_v43 V k hk hc, gu9_v41 V k hk hc, gu9_v46 V k hk hc, gu9_v48 V k hk hc, g_from V 9 main_v28_9]

include hk in
/-- The state's cotangent after the trip. -/
theorem g_e (hc : V (Proc.devRef .tc main_v28_8) = fun _ => Scf.iv 0#32 1#32 k) (g : Ln) (hg : (row (V (Proc.devRef .tc main_v28_6)) (255 - k)) = Host.exp (F := Ideal) (φ := .f32) g) : afterL gbI V (Proc.devRef .tc main_v28_9) = Chunk.dS (F := Ideal) (row (V (Proc.devRef .tc main_v28_3)) (255 - k)) (row (V (Proc.devRef .tc main_v28_2)) (255 - k)) g (row (V (Proc.devRef .tc main_v28_0)) (255 - k)) (Chunk.dV (F := Ideal) (row (V (Proc.devRef .tc main_v28_5)) (255 - k)) (row (V (Proc.devRef .tc main_v28_7)) (255 - k)) (row (V (Proc.devRef .tc main_v28_0)) (255 - k)) (V (Proc.devRef .tc main_v28_9))) (V (Proc.devRef .tc main_v28_9)) := by
  rw [g_last, gb16_v28_9, g_keep V 16 10 main_while1b_v70, gu10_v70 V k hk hc g hg]

include hk in
theorem g_10 (hc : V (Proc.devRef .tc main_v28_8) = fun _ => Scf.iv 0#32 1#32 k) (n : ℕ) (hn : n < 256) : row (afterL gbI V (Proc.devRef .tc main_v28_10)) n = if n = 255 - k then Chunk.dQ (F := Ideal) (row (V (Proc.devRef .tc main_v28_0)) (255 - k)) (row (V (Proc.devRef .tc main_v28_1)) (255 - k)) else row (V (Proc.devRef .tc main_v28_10)) n := by
  rw [g_last, gb16_v28_10, g_keep V 16 11 main_while1b_v72]
  refine (gb10_v (gAt V 10) (255 - k) (below k) (by rw [g_keep V 10 1 main_while1b_v40]; exact gu1_idx V k hk hc) n hn).trans ?_
  rw [gu10_v66 V k hk hc, g_from V 10 main_v28_10]

include hk in
theorem g_11 (hc : V (Proc.devRef .tc main_v28_8) = fun _ => Scf.iv 0#32 1#32 k) (n : ℕ) (hn : n < 256) : row (afterL gbI V (Proc.devRef .tc main_v28_11)) n = if n = 255 - k then Chunk.dA (F := Ideal) (row (V (Proc.devRef .tc main_v28_0)) (255 - k)) (row (V (Proc.devRef .tc main_v28_4)) (255 - k)) else row (V (Proc.devRef .tc main_v28_11)) n := by
  rw [g_last, gb16_v28_11, g_keep V 16 12 main_while1b_v73]
  refine (gb11_v (gAt V 11) (255 - k) (below k) (by rw [g_keep V 11 1 main_while1b_v40]; exact gu1_idx V k hk hc) n hn).trans ?_
  rw [g_keep V 11 10 main_while1b_v62, gu10_v62 V k hk hc, g_from V 11 main_v28_11]

include hk in
theorem g_12 (hc : V (Proc.devRef .tc main_v28_8) = fun _ => Scf.iv 0#32 1#32 k) (n : ℕ) (hn : n < 256) : row (afterL gbI V (Proc.devRef .tc main_v28_12)) n = if n = 255 - k then (Chunk.dV (F := Ideal) (row (V (Proc.devRef .tc main_v28_5)) (255 - k)) (row (V (Proc.devRef .tc main_v28_7)) (255 - k)) (row (V (Proc.devRef .tc main_v28_0)) (255 - k)) (V (Proc.devRef .tc main_v28_9))) else row (V (Proc.devRef .tc main_v28_12)) n := by
  rw [g_last, gb16_v28_12, g_keep V 16 13 main_while1b_v74]
  refine (gb12_v (gAt V 12) (255 - k) (below k) (by rw [g_keep V 12 1 main_while1b_v40]; exact gu1_idx V k hk hc) n hn).trans ?_
  rw [g_keep V 12 10 main_while1b_v61, gu10_v61 V k hk hc, g_from V 12 main_v28_12]

include hk in
theorem g_13 (hc : V (Proc.devRef .tc main_v28_8) = fun _ => Scf.iv 0#32 1#32 k) (n : ℕ) (hn : n < 256) : row (afterL gbI V (Proc.devRef .tc main_v28_13)) n = if n = 255 - k then Chunk.dW (F := Ideal) (Chunk.dV (F := Ideal) (row (V (Proc.devRef .tc main_v28_5)) (255 - k)) (row (V (Proc.devRef .tc main_v28_7)) (255 - k)) (row (V (Proc.devRef .tc main_v28_0)) (255 - k)) (V (Proc.devRef .tc main_v28_9))) (row (V (Proc.devRef .tc main_v28_1)) (255 - k)) else row (V (Proc.devRef .tc main_v28_13)) n := by
  rw [g_last, gb16_v28_13, g_keep V 16 14 main_while1b_v75]
  refine (gb13_v (gAt V 13) (255 - k) (below k) (by rw [g_keep V 13 1 main_while1b_v40]; exact gu1_idx V k hk hc) n hn).trans ?_
  rw [g_keep V 13 10 main_while1b_v71, gu10_v71 V k hk hc, g_from V 13 main_v28_13]

include hk in
theorem g_14 (hc : V (Proc.devRef .tc main_v28_8) = fun _ => Scf.iv 0#32 1#32 k) (n : ℕ) (hn : n < 256) : row (afterL gbI V (Proc.devRef .tc main_v28_14)) n = if n = 255 - k then Chunk.dK (F := Ideal) (row (V (Proc.devRef .tc main_v28_4)) (255 - k)) (V (Proc.devRef .tc main_v28_9)) else row (V (Proc.devRef .tc main_v28_14)) n := by
  rw [g_last, gb16_v28_14, g_keep V 16 15 main_while1b_v76]
  refine (gb14_v (gAt V 14) (255 - k) (below k) (by rw [g_keep V 14 1 main_while1b_v40]; exact gu1_idx V k hk hc) n hn).trans ?_
  rw [g_keep V 14 10 main_while1b_v52, gu10_v52 V k hk hc, g_from V 14 main_v28_14]

include hk in
theorem g_15 (hc : V (Proc.devRef .tc main_v28_8) = fun _ => Scf.iv 0#32 1#32 k) (g : Ln) (hg : (row (V (Proc.devRef .tc main_v28_6)) (255 - k)) = Host.exp (F := Ideal) (φ := .f32) g) (n : ℕ) (hn : n < 256) : row (afterL gbI V (Proc.devRef .tc main_v28_15)) n = if n = 255 - k then Chunk.dG (F := Ideal) g (row (V (Proc.devRef .tc main_v28_1)) (255 - k)) (V (Proc.devRef .tc main_v28_9)) else row (V (Proc.devRef .tc main_v28_15)) n := by
  rw [g_last, gb16_v28_15]
  refine (gb15_v (gAt V 15) (255 - k) (below k) (by rw [g_keep V 15 1 main_while1b_v40]; exact gu1_idx V k hk hc) n hn).trans ?_
  rw [g_keep V 15 10 main_while1b_v58, gu10_v58 V k hk hc g hg, g_from V 15 main_v28_15]

end Cert.Ref
end
-- ==== Proof.RefVal.lean ====
/- What the reference leaves in its results: the two loops run to their ends, chunk by chunk. -/
module

public import proofs.«01_k».proof.Proof.RefTrip
public import proofs.«01_k».proof.Proof.Spec

@[expose] public section

set_option maxRecDepth 16384

noncomputable section

namespace Cert.Ref

open Cert.ReferenceIdeal Cert.ReferenceIdeal.Gen Cert.Rows Cert.HostChunk Cert.Spec
open Idealize.ShloMosaic Idealize.ShloMosaic.TcCoe Idealize.ShloMosaic.Tactic
open Idealize.ShloMosaic.StableHlo

variable (m : (ℓ : Loc nD τ sig) → Buf (Elt Ideal) ℓ) (c : Dev nD)

/-- The chunks of a device's arguments. -/
def args : Chs :=
  chs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-! ## The first loop -/

theorem X_keep (k : ℕ) (r : Ref sig .tc) (h0 : r ∉ cond0_W) (h1 : r ∉ fbW) : X m k c (Proc.devRef .tc r) = A0 m c (Proc.devRef .tc r) := by
  induction k with
  | zero => rfl
  | succ k ih => rw [X_succ, fb_keep _ _ h1, cond0_keep _ _ h0, ih]

/-- What the first loop leaves, its condition read a last time. -/
abbrev P (k : ℕ) : Valuation τ sig (Elt Ideal) := after cond0 (X m k c)

theorem P_keep (k : ℕ) (r : Ref sig .tc) (h0 : r ∉ cond0_W) (h1 : r ∉ fbW) : P m c k (Proc.devRef .tc r) = A0 m c (Proc.devRef .tc r) :=
  (cond0_keep _ _ h0).trans (X_keep m c k r h0 h1)

theorem A0_q  (n : ℕ) (hn : n < 256) : row (A0 m c (Proc.devRef .tc main_v15_0)) n = (args m c).q n := by
  have h : A0 m c (Proc.devRef .tc main_v15_0) = transpose S256x8x64x128 [1, 0, 2, 3] (shapeCast S8x256x64x128 (launchContents m c (Proc.devRef .tc main_arg0)) shapeCasts_S8x16384x128_S8x256x64x128) transposes_S8x256x64x128_S256x8x64x128_1_0_2_3 := by sl_kernel_rfl
  rw [h, row_transpose]
  exact cutM_reshape _ _ n hn

theorem A0_q2  (n : ℕ) (hn : n < 256) : row (A0 m c (Proc.devRef .tc main_v1)) n = (args m c).q n := by
  have h : A0 m c (Proc.devRef .tc main_v1) = transpose S256x8x64x128 [1, 0, 2, 3] (shapeCast S8x256x64x128 (launchContents m c (Proc.devRef .tc main_arg0)) shapeCasts_S8x16384x128_S8x256x64x128) transposes_S8x256x64x128_S256x8x64x128_1_0_2_3 := by sl_kernel_rfl
  rw [h, row_transpose]
  exact cutM_reshape _ _ n hn

theorem A0_a  (n : ℕ) (hn : n < 256) : row (A0 m c (Proc.devRef .tc main_v15_1)) n = (args m c).a n := by
  have h : A0 m c (Proc.devRef .tc main_v15_1) = transpose S256x8x64x64 [1, 0, 2, 3] (launchContents m c (Proc.devRef .tc main_arg1)) transposes_S8x256x64x64_S256x8x64x64_1_0_2_3 := by sl_kernel_rfl
  rw [h, row_transpose]; rfl

theorem A0_a2  (n : ℕ) (hn : n < 256) : row (A0 m c (Proc.devRef .tc main_v2)) n = (args m c).a n := by
  have h : A0 m c (Proc.devRef .tc main_v2) = transpose S256x8x64x64 [1, 0, 2, 3] (launchContents m c (Proc.devRef .tc main_arg1)) transposes_S8x256x64x64_S256x8x64x64_1_0_2_3 := by sl_kernel_rfl
  rw [h, row_transpose]; rfl

theorem A0_u  (n : ℕ) (hn : n < 256) : row (A0 m c (Proc.devRef .tc main_v15_2)) n = (args m c).u n := by
  have h : A0 m c (Proc.devRef .tc main_v15_2) = transpose S256x8x64x128 [1, 0, 2, 3] (shapeCast S8x256x64x128 (launchContents m c (Proc.devRef .tc main_arg2)) shapeCasts_S8x16384x128_S8x256x64x128) transposes_S8x256x64x128_S256x8x64x128_1_0_2_3 := by sl_kernel_rfl
  rw [h, row_transpose]
  exact cutM_reshape _ _ n hn

theorem A0_w  (n : ℕ) (hn : n < 256) : row (A0 m c (Proc.devRef .tc main_v15_3)) n = (args m c).w n := by
  have h : A0 m c (Proc.devRef .tc main_v15_3) = transpose S256x8x64x128 [1, 0, 2, 3] (shapeCast S8x256x64x128 (launchContents m c (Proc.devRef .tc main_arg3)) shapeCasts_S8x16384x128_S8x256x64x128) transposes_S8x256x64x128_S256x8x64x128_1_0_2_3 := by sl_kernel_rfl
  rw [h, row_transpose]
  exact cutM_reshape _ _ n hn

theorem A0_w2  (n : ℕ) (hn : n < 256) : row (A0 m c (Proc.devRef .tc main_v6)) n = (args m c).w n := by
  have h : A0 m c (Proc.devRef .tc main_v6) = transpose S256x8x64x128 [1, 0, 2, 3] (shapeCast S8x256x64x128 (launchContents m c (Proc.devRef .tc main_arg3)) shapeCasts_S8x16384x128_S8x256x64x128) transposes_S8x256x64x128_S256x8x64x128_1_0_2_3 := by sl_kernel_rfl
  rw [h, row_transpose]
  exact cutM_reshape _ _ n hn

theorem A0_k  (n : ℕ) (hn : n < 256) : row (A0 m c (Proc.devRef .tc main_v15_4)) n = (args m c).k n := by
  have h : A0 m c (Proc.devRef .tc main_v15_4) = transpose S256x8x64x128 [1, 0, 2, 3] (shapeCast S8x256x64x128 (launchContents m c (Proc.devRef .tc main_arg4)) shapeCasts_S8x16384x128_S8x256x64x128) transposes_S8x256x64x128_S256x8x64x128_1_0_2_3 := by sl_kernel_rfl
  rw [h, row_transpose]
  exact cutM_reshape _ _ n hn

theorem A0_k2  (n : ℕ) (hn : n < 256) : row (A0 m c (Proc.devRef .tc main_v8)) n = (args m c).k n := by
  have h : A0 m c (Proc.devRef .tc main_v8) = transpose S256x8x64x128 [1, 0, 2, 3] (shapeCast S8x256x64x128 (launchContents m c (Proc.devRef .tc main_arg4)) shapeCasts_S8x16384x128_S8x256x64x128) transposes_S8x256x64x128_S256x8x64x128_1_0_2_3 := by sl_kernel_rfl
  rw [h, row_transpose]
  exact cutM_reshape _ _ n hn

theorem A0_g  (n : ℕ) (hn : n < 256) : row (A0 m c (Proc.devRef .tc main_v15_5)) n = (args m c).g n := by
  have h : A0 m c (Proc.devRef .tc main_v15_5) = transpose S256x8x1x128 [1, 0, 2, 3] (launchContents m c (Proc.devRef .tc main_arg5)) transposes_S8x256x1x128_S256x8x1x128_1_0_2_3 := by sl_kernel_rfl
  rw [h, row_transpose]; rfl

theorem P_q (k n : ℕ) (hn : n < 256) : row (P m c k (Proc.devRef .tc main_v15_0)) n = (args m c).q n := by
  rw [P_keep m c k main_v15_0 (by decide +kernel) (by decide +kernel)]; exact A0_q m c n hn

theorem P_a (k n : ℕ) (hn : n < 256) : row (P m c k (Proc.devRef .tc main_v15_1)) n = (args m c).a n := by
  rw [P_keep m c k main_v15_1 (by decide +kernel) (by decide +kernel)]; exact A0_a m c n hn

theorem P_u (k n : ℕ) (hn : n < 256) : row (P m c k (Proc.devRef .tc main_v15_2)) n = (args m c).u n := by
  rw [P_keep m c k main_v15_2 (by decide +kernel) (by decide +kernel)]; exact A0_u m c n hn

theorem P_w (k n : ℕ) (hn : n < 256) : row (P m c k (Proc.devRef .tc main_v15_3)) n = (args m c).w n := by
  rw [P_keep m c k main_v15_3 (by decide +kernel) (by decide +kernel)]; exact A0_w m c n hn

theorem P_k (k n : ℕ) (hn : n < 256) : row (P m c k (Proc.devRef .tc main_v15_4)) n = (args m c).k n := by
  rw [P_keep m c k main_v15_4 (by decide +kernel) (by decide +kernel)]; exact A0_k m c n hn

theorem P_g (k n : ℕ) (hn : n < 256) : row (P m c k (Proc.devRef .tc main_v15_5)) n = (args m c).g n := by
  rw [P_keep m c k main_v15_5 (by decide +kernel) (by decide +kernel)]; exact A0_g m c n hn

theorem P_ctr (k : ℕ) (hk : k < 256) : (P m c k (Proc.devRef .tc main_v15_6) (Shape.Idx.first h_S_)).toInt = k := by
  rw [show P m c k (Proc.devRef .tc main_v15_6) = X m k c (Proc.devRef .tc main_v15_6) from cond0_keep _ _ (by decide +kernel), X_ctr]
  exact iv_toInt k hk

/-- The state before trip `k`. -/
theorem X_s : ∀ k ≤ 256, X m k c (Proc.devRef .tc main_v15_7) = (args m c).S k
  | 0, _ => by
    have h : X m 0 c (Proc.devRef .tc main_v15_7) = broadcastInDim S8x128x128 ![] bcast_S_S8x128x128 (constant (F := Ideal) S_ .f32 0x00000000#32) := by
      sl_kernel_rfl
    rw [h]; exact zero_eq.symm
  | k + 1, hk => by
    have e : P m c k (Proc.devRef .tc main_v15_7) = (args m c).S k := (cond0_keep _ _ (by decide +kernel)).trans (X_s k (by omega))
    rw [X_succ, f_s (P m c k) k (by omega) (P_ctr m c k (by omega)), e, P_k m c k k (by omega), P_g m c k k (by omega), P_u m c k k (by omega),
      P_w m c k k (by omega)]
    rfl

theorem P_s (k : ℕ) (hk : k < 256) : P m c k (Proc.devRef .tc main_v15_7) = (args m c).S k :=
  (cond0_keep _ _ (by decide +kernel)).trans (X_s m c k (by omega))

theorem X_8 : ∀ k ≤ 256, ∀ n < k, row (X m k c (Proc.devRef .tc main_v15_8)) n = (args m c).o n
  | 0, _, n, hn => absurd hn (Nat.not_lt_zero n)
  | k + 1, hk, n, hn => by
    rw [X_succ, f_8 (P m c k) k (by omega) (P_ctr m c k (by omega)) n (by omega)]
    by_cases e : n = k
    · subst e; rw [if_pos rfl, P_s m c n (by omega), P_u m c n n (by omega), P_w m c n n (by omega), P_q m c n n (by omega), P_a m c n n (by omega)]; rfl
    · rw [if_neg e, show P m c k (Proc.devRef .tc main_v15_8) = X m k c (Proc.devRef .tc main_v15_8) from cond0_keep _ _ (by decide +kernel)]
      exact X_8 k (by omega) n (by omega)

theorem P_8 (n : ℕ) (hn : n < 256) : row (P m c 256 (Proc.devRef .tc main_v15_8)) n = (args m c).o n := by
  rw [show P m c 256 (Proc.devRef .tc main_v15_8) = X m 256 c (Proc.devRef .tc main_v15_8) from cond0_keep _ _ (by decide +kernel)]
  exact X_8 m c 256 le_rfl n hn

theorem X_9 : ∀ k ≤ 256, ∀ n < k, row (X m k c (Proc.devRef .tc main_v15_9)) n = (args m c).S n
  | 0, _, n, hn => absurd hn (Nat.not_lt_zero n)
  | k + 1, hk, n, hn => by
    rw [X_succ, f_9 (P m c k) k (by omega) (P_ctr m c k (by omega)) n (by omega)]
    by_cases e : n = k
    · subst e; rw [if_pos rfl, P_s m c n (by omega)]
    · rw [if_neg e, show P m c k (Proc.devRef .tc main_v15_9) = X m k c (Proc.devRef .tc main_v15_9) from cond0_keep _ _ (by decide +kernel)]
      exact X_9 k (by omega) n (by omega)

theorem P_9 (n : ℕ) (hn : n < 256) : row (P m c 256 (Proc.devRef .tc main_v15_9)) n = (args m c).S n := by
  rw [show P m c 256 (Proc.devRef .tc main_v15_9) = X m 256 c (Proc.devRef .tc main_v15_9) from cond0_keep _ _ (by decide +kernel)]
  exact X_9 m c 256 le_rfl n hn

theorem X_10 : ∀ k ≤ 256, ∀ n < k, row (X m k c (Proc.devRef .tc main_v15_10)) n = (args m c).v n
  | 0, _, n, hn => absurd hn (Nat.not_lt_zero n)
  | k + 1, hk, n, hn => by
    rw [X_succ, f_10 (P m c k) k (by omega) (P_ctr m c k (by omega)) n (by omega)]
    by_cases e : n = k
    · subst e; rw [if_pos rfl, P_s m c n (by omega), P_u m c n n (by omega), P_w m c n n (by omega)]; rfl
    · rw [if_neg e, show P m c k (Proc.devRef .tc main_v15_10) = X m k c (Proc.devRef .tc main_v15_10) from cond0_keep _ _ (by decide +kernel)]
      exact X_10 k (by omega) n (by omega)

theorem P_10 (n : ℕ) (hn : n < 256) : row (P m c 256 (Proc.devRef .tc main_v15_10)) n = (args m c).v n := by
  rw [show P m c 256 (Proc.devRef .tc main_v15_10) = X m 256 c (Proc.devRef .tc main_v15_10) from cond0_keep _ _ (by decide +kernel)]
  exact X_10 m c 256 le_rfl n hn

theorem X_11 : ∀ k ≤ 256, ∀ n < k, row (X m k c (Proc.devRef .tc main_v15_11)) n = Host.exp (F := Ideal) (φ := .f32) ((args m c).g n)
  | 0, _, n, hn => absurd hn (Nat.not_lt_zero n)
  | k + 1, hk, n, hn => by
    rw [X_succ, f_11 (P m c k) k (by omega) (P_ctr m c k (by omega)) n (by omega)]
    by_cases e : n = k
    · subst e; rw [if_pos rfl, P_g m c n n (by omega)]
    · rw [if_neg e, show P m c k (Proc.devRef .tc main_v15_11) = X m k c (Proc.devRef .tc main_v15_11) from cond0_keep _ _ (by decide +kernel)]
      exact X_11 k (by omega) n (by omega)

theorem P_11 (n : ℕ) (hn : n < 256) : row (P m c 256 (Proc.devRef .tc main_v15_11)) n = Host.exp (F := Ideal) (φ := .f32) ((args m c).g n) := by
  rw [show P m c 256 (Proc.devRef .tc main_v15_11) = X m 256 c (Proc.devRef .tc main_v15_11) from cond0_keep _ _ (by decide +kernel)]
  exact X_11 m c 256 le_rfl n hn

/-! ## The second loop -/

theorem Y_keep (k : ℕ) (r : Ref sig .tc) (h0 : r ∉ cond1_W) (h1 : r ∉ gbW) : Y m k c (Proc.devRef .tc r) = A1 m c (Proc.devRef .tc r) := by
  induction k with
  | zero => rfl
  | succ k ih => rw [Y_succ, gb_keep _ _ h1, cond1_keep _ _ h0, ih]

/-- The second loop's contents, its condition read. -/
abbrev Q (k : ℕ) : Valuation τ sig (Elt Ideal) := after cond1 (Y m k c)

theorem Q_keep (k : ℕ) (r : Ref sig .tc) (h0 : r ∉ cond1_W) (h1 : r ∉ gbW) : Q m c k (Proc.devRef .tc r) = A1 m c (Proc.devRef .tc r) :=
  (cond1_keep _ _ h0).trans (Y_keep m c k r h0 h1)

theorem P_arg6 (k : ℕ) : P m c k (Proc.devRef .tc main_arg6) = launchContents m c (Proc.devRef .tc main_arg6) :=
  (P_keep m c k main_arg6 (by decide +kernel) (by decide +kernel)).trans (after_of_writes_sub _ _ preOps_writes (by decide +kernel))

theorem mid_d (V : Valuation τ sig (Elt Ideal)) (n : ℕ) (hn : n < 256) : row (after midOps V (Proc.devRef .tc main_v28_0)) n = cutR (V (Proc.devRef .tc main_arg6)) n := by
  have h : after midOps V (Proc.devRef .tc main_v28_0) = transpose S256x8x64x128 [1, 0, 2, 3] (shapeCast S8x256x64x128 (V (Proc.devRef .tc main_arg6)) shapeCasts_S8x16384x128_S8x256x64x128) transposes_S8x256x64x128_S256x8x64x128_1_0_2_3 := by sl_kernel_rfl
  rw [h, row_transpose]
  exact cutM_reshape _ _ n hn

theorem mid_1 (V : Valuation τ sig (Elt Ideal)) : after midOps V (Proc.devRef .tc main_v28_1) = V (Proc.devRef .tc main_v15_9) := by sl_kernel_rfl

theorem mid_2 (V : Valuation τ sig (Elt Ideal)) : after midOps V (Proc.devRef .tc main_v28_2) = V (Proc.devRef .tc main_v6) := by sl_kernel_rfl

theorem mid_3 (V : Valuation τ sig (Elt Ideal)) : after midOps V (Proc.devRef .tc main_v28_3) = V (Proc.devRef .tc main_v1) := by sl_kernel_rfl

theorem mid_4 (V : Valuation τ sig (Elt Ideal)) : after midOps V (Proc.devRef .tc main_v28_4) = V (Proc.devRef .tc main_v15_10) := by sl_kernel_rfl

theorem mid_5 (V : Valuation τ sig (Elt Ideal)) : after midOps V (Proc.devRef .tc main_v28_5) = V (Proc.devRef .tc main_v2) := by sl_kernel_rfl

theorem mid_6 (V : Valuation τ sig (Elt Ideal)) : after midOps V (Proc.devRef .tc main_v28_6) = V (Proc.devRef .tc main_v15_11) := by sl_kernel_rfl

theorem mid_7 (V : Valuation τ sig (Elt Ideal)) : after midOps V (Proc.devRef .tc main_v28_7) = V (Proc.devRef .tc main_v8) := by sl_kernel_rfl

theorem Q_d (k n : ℕ) (hn : n < 256) : row (Q m c k (Proc.devRef .tc main_v28_0)) n = (args m c).d n := by
  rw [Q_keep m c k main_v28_0 (by decide +kernel) (by decide +kernel)]
  refine (mid_d (P m c 256) n hn).trans ?_
  rw [P_arg6]; rfl

theorem Q_S (k n : ℕ) (hn : n < 256) : row (Q m c k (Proc.devRef .tc main_v28_1)) n = (args m c).S n := by
  rw [Q_keep m c k main_v28_1 (by decide +kernel) (by decide +kernel)]
  refine (congrArg (row · n) (mid_1 (P m c 256))).trans ?_
  exact P_9 m c n hn

theorem Q_w (k n : ℕ) (hn : n < 256) : row (Q m c k (Proc.devRef .tc main_v28_2)) n = (args m c).w n := by
  rw [Q_keep m c k main_v28_2 (by decide +kernel) (by decide +kernel)]
  refine (congrArg (row · n) (mid_2 (P m c 256))).trans ?_
  exact (congrArg (row · n) (P_keep m c 256 main_v6 (by decide +kernel) (by decide +kernel))).trans (A0_w2 m c n hn)

theorem Q_q (k n : ℕ) (hn : n < 256) : row (Q m c k (Proc.devRef .tc main_v28_3)) n = (args m c).q n := by
  rw [Q_keep m c k main_v28_3 (by decide +kernel) (by decide +kernel)]
  refine (congrArg (row · n) (mid_3 (P m c 256))).trans ?_
  exact (congrArg (row · n) (P_keep m c 256 main_v1 (by decide +kernel) (by decide +kernel))).trans (A0_q2 m c n hn)

theorem Q_v (k n : ℕ) (hn : n < 256) : row (Q m c k (Proc.devRef .tc main_v28_4)) n = (args m c).v n := by
  rw [Q_keep m c k main_v28_4 (by decide +kernel) (by decide +kernel)]
  refine (congrArg (row · n) (mid_4 (P m c 256))).trans ?_
  exact P_10 m c n hn

theorem Q_a (k n : ℕ) (hn : n < 256) : row (Q m c k (Proc.devRef .tc main_v28_5)) n = (args m c).a n := by
  rw [Q_keep m c k main_v28_5 (by decide +kernel) (by decide +kernel)]
  refine (congrArg (row · n) (mid_5 (P m c 256))).trans ?_
  exact (congrArg (row · n) (P_keep m c 256 main_v2 (by decide +kernel) (by decide +kernel))).trans (A0_a2 m c n hn)

theorem Q_x (k n : ℕ) (hn : n < 256) : row (Q m c k (Proc.devRef .tc main_v28_6)) n = Host.exp (F := Ideal) (φ := .f32) ((args m c).g n) := by
  rw [Q_keep m c k main_v28_6 (by decide +kernel) (by decide +kernel)]
  refine (congrArg (row · n) (mid_6 (P m c 256))).trans ?_
  exact P_11 m c n hn

theorem Q_k (k n : ℕ) (hn : n < 256) : row (Q m c k (Proc.devRef .tc main_v28_7)) n = (args m c).k n := by
  rw [Q_keep m c k main_v28_7 (by decide +kernel) (by decide +kernel)]
  refine (congrArg (row · n) (mid_7 (P m c 256))).trans ?_
  exact (congrArg (row · n) (P_keep m c 256 main_v8 (by decide +kernel) (by decide +kernel))).trans (A0_k2 m c n hn)

theorem Q_ctr (k : ℕ) : Q m c k (Proc.devRef .tc main_v28_8) = fun _ => Scf.iv 0#32 1#32 k :=
  (cond1_keep _ _ (by decide +kernel)).trans (Y_ctr m c k)

theorem mid_9 (V : Valuation τ sig (Elt Ideal)) : after midOps V (Proc.devRef .tc main_v28_9)
    = broadcastInDim S8x128x128 ![] bcast_S_S8x128x128 (constant (F := Ideal) S_ .f32 0x00000000#32) := by sl_kernel_rfl

/-- The state's cotangent before trip `k`. -/
theorem Y_e : ∀ k ≤ 256, Y m k c (Proc.devRef .tc main_v28_9) = (args m c).E k
  | 0, _ => by
    have h : Y m 0 c (Proc.devRef .tc main_v28_9) = broadcastInDim S8x128x128 ![] bcast_S_S8x128x128 (constant (F := Ideal) S_ .f32 0x00000000#32) :=
      mid_9 (P m c 256)
    rw [h]; exact zero_eq.symm
  | k + 1, hk => by
    have e : Q m c k (Proc.devRef .tc main_v28_9) = (args m c).E k := (cond1_keep _ _ (by decide +kernel)).trans (Y_e k (by omega))
    have l : 255 - k < 256 := by omega
    rw [Y_succ, g_e (Q m c k) k (by omega) (Q_ctr m c k) ((args m c).g (255 - k)) (Q_x m c k _ l), e, Q_q m c k _ l, Q_w m c k _ l, Q_d m c k _ l,
      Q_a m c k _ l, Q_k m c k _ l]
    rfl

theorem Q_e (k : ℕ) (hk : k < 256) : Q m c k (Proc.devRef .tc main_v28_9) = (args m c).E k :=
  (cond1_keep _ _ (by decide +kernel)).trans (Y_e m c k (by omega))

theorem Y_10 : ∀ k ≤ 256, ∀ n < 256, 256 ≤ n + k → row (Y m k c (Proc.devRef .tc main_v28_10)) n = (args m c).gq n
  | 0, _, n, hn, h => absurd h (by omega)
  | k + 1, hk, n, hn, h => by
    have l : 255 - k < 256 := by omega
    have e2 : 255 - (255 - k) = k := by omega
    rw [Y_succ, g_10 (Q m c k) k (by omega) (Q_ctr m c k) n hn]
    by_cases e : n = 255 - k
    · rw [if_pos e, e, Q_d m c k _ l, Q_S m c k _ l]
      rfl
    · rw [if_neg e, show Q m c k (Proc.devRef .tc main_v28_10) = Y m k c (Proc.devRef .tc main_v28_10) from cond1_keep _ _ (by decide +kernel)]
      exact Y_10 k (by omega) n hn (by omega)

theorem Q_10 (n : ℕ) (hn : n < 256) : row (Q m c 256 (Proc.devRef .tc main_v28_10)) n = (args m c).gq n := by
  rw [show Q m c 256 (Proc.devRef .tc main_v28_10) = Y m 256 c (Proc.devRef .tc main_v28_10) from cond1_keep _ _ (by decide +kernel)]
  exact Y_10 m c 256 le_rfl n hn (by omega)

theorem Y_11 : ∀ k ≤ 256, ∀ n < 256, 256 ≤ n + k → row (Y m k c (Proc.devRef .tc main_v28_11)) n = (args m c).ga n
  | 0, _, n, hn, h => absurd h (by omega)
  | k + 1, hk, n, hn, h => by
    have l : 255 - k < 256 := by omega
    have e2 : 255 - (255 - k) = k := by omega
    rw [Y_succ, g_11 (Q m c k) k (by omega) (Q_ctr m c k) n hn]
    by_cases e : n = 255 - k
    · rw [if_pos e, e, Q_d m c k _ l, Q_v m c k _ l]
      rfl
    · rw [if_neg e, show Q m c k (Proc.devRef .tc main_v28_11) = Y m k c (Proc.devRef .tc main_v28_11) from cond1_keep _ _ (by decide +kernel)]
      exact Y_11 k (by omega) n hn (by omega)

theorem Q_11 (n : ℕ) (hn : n < 256) : row (Q m c 256 (Proc.devRef .tc main_v28_11)) n = (args m c).ga n := by
  rw [show Q m c 256 (Proc.devRef .tc main_v28_11) = Y m 256 c (Proc.devRef .tc main_v28_11) from cond1_keep _ _ (by decide +kernel)]
  exact Y_11 m c 256 le_rfl n hn (by omega)

theorem Y_12 : ∀ k ≤ 256, ∀ n < 256, 256 ≤ n + k → row (Y m k c (Proc.devRef .tc main_v28_12)) n = (args m c).gu n
  | 0, _, n, hn, h => absurd h (by omega)
  | k + 1, hk, n, hn, h => by
    have l : 255 - k < 256 := by omega
    have e2 : 255 - (255 - k) = k := by omega
    rw [Y_succ, g_12 (Q m c k) k (by omega) (Q_ctr m c k) n hn]
    by_cases e : n = 255 - k
    · rw [if_pos e, e, Q_e m c k (by omega), Q_a m c k _ l, Q_k m c k _ l, Q_d m c k _ l]
      unfold Chs.gu; rw [e2]; rfl
    · rw [if_neg e, show Q m c k (Proc.devRef .tc main_v28_12) = Y m k c (Proc.devRef .tc main_v28_12) from cond1_keep _ _ (by decide +kernel)]
      exact Y_12 k (by omega) n hn (by omega)

theorem Q_12 (n : ℕ) (hn : n < 256) : row (Q m c 256 (Proc.devRef .tc main_v28_12)) n = (args m c).gu n := by
  rw [show Q m c 256 (Proc.devRef .tc main_v28_12) = Y m 256 c (Proc.devRef .tc main_v28_12) from cond1_keep _ _ (by decide +kernel)]
  exact Y_12 m c 256 le_rfl n hn (by omega)

theorem Y_13 : ∀ k ≤ 256, ∀ n < 256, 256 ≤ n + k → row (Y m k c (Proc.devRef .tc main_v28_13)) n = (args m c).gw n
  | 0, _, n, hn, h => absurd h (by omega)
  | k + 1, hk, n, hn, h => by
    have l : 255 - k < 256 := by omega
    have e2 : 255 - (255 - k) = k := by omega
    rw [Y_succ, g_13 (Q m c k) k (by omega) (Q_ctr m c k) n hn]
    by_cases e : n = 255 - k
    · rw [if_pos e, e, Q_e m c k (by omega), Q_a m c k _ l, Q_k m c k _ l, Q_d m c k _ l, Q_S m c k _ l]
      unfold Chs.gw; rw [e2]; rfl
    · rw [if_neg e, show Q m c k (Proc.devRef .tc main_v28_13) = Y m k c (Proc.devRef .tc main_v28_13) from cond1_keep _ _ (by decide +kernel)]
      exact Y_13 k (by omega) n hn (by omega)

theorem Q_13 (n : ℕ) (hn : n < 256) : row (Q m c 256 (Proc.devRef .tc main_v28_13)) n = (args m c).gw n := by
  rw [show Q m c 256 (Proc.devRef .tc main_v28_13) = Y m 256 c (Proc.devRef .tc main_v28_13) from cond1_keep _ _ (by decide +kernel)]
  exact Y_13 m c 256 le_rfl n hn (by omega)

theorem Y_14 : ∀ k ≤ 256, ∀ n < 256, 256 ≤ n + k → row (Y m k c (Proc.devRef .tc main_v28_14)) n = (args m c).gk n
  | 0, _, n, hn, h => absurd h (by omega)
  | k + 1, hk, n, hn, h => by
    have l : 255 - k < 256 := by omega
    have e2 : 255 - (255 - k) = k := by omega
    rw [Y_succ, g_14 (Q m c k) k (by omega) (Q_ctr m c k) n hn]
    by_cases e : n = 255 - k
    · rw [if_pos e, e, Q_e m c k (by omega), Q_v m c k _ l]
      unfold Chs.gk; rw [e2]
    · rw [if_neg e, show Q m c k (Proc.devRef .tc main_v28_14) = Y m k c (Proc.devRef .tc main_v28_14) from cond1_keep _ _ (by decide +kernel)]
      exact Y_14 k (by omega) n hn (by omega)

theorem Q_14 (n : ℕ) (hn : n < 256) : row (Q m c 256 (Proc.devRef .tc main_v28_14)) n = (args m c).gk n := by
  rw [show Q m c 256 (Proc.devRef .tc main_v28_14) = Y m 256 c (Proc.devRef .tc main_v28_14) from cond1_keep _ _ (by decide +kernel)]
  exact Y_14 m c 256 le_rfl n hn (by omega)

theorem Y_15 : ∀ k ≤ 256, ∀ n < 256, 256 ≤ n + k → row (Y m k c (Proc.devRef .tc main_v28_15)) n = (args m c).gg n
  | 0, _, n, hn, h => absurd h (by omega)
  | k + 1, hk, n, hn, h => by
    have l : 255 - k < 256 := by omega
    have e2 : 255 - (255 - k) = k := by omega
    rw [Y_succ, g_15 (Q m c k) k (by omega) (Q_ctr m c k) ((args m c).g (255 - k)) (Q_x m c k _ l) n hn]
    by_cases e : n = 255 - k
    · rw [if_pos e, e, Q_e m c k (by omega), Q_S m c k _ l]
      unfold Chs.gg; rw [e2]
    · rw [if_neg e, show Q m c k (Proc.devRef .tc main_v28_15) = Y m k c (Proc.devRef .tc main_v28_15) from cond1_keep _ _ (by decide +kernel)]
      exact Y_15 k (by omega) n hn (by omega)

theorem Q_15 (n : ℕ) (hn : n < 256) : row (Q m c 256 (Proc.devRef .tc main_v28_15)) n = (args m c).gg n := by
  rw [show Q m c 256 (Proc.devRef .tc main_v28_15) = Y m 256 c (Proc.devRef .tc main_v28_15) from cond1_keep _ _ (by decide +kernel)]
  exact Y_15 m c 256 le_rfl n hn (by omega)

/-! ## The results -/

theorem end_o (V : Valuation τ sig (Elt Ideal)) (v : ℕ → HostChunk.Rw) (h : ∀ n < 256, row (V (Proc.devRef .tc main_v15_8)) n = v n) : after midOps V (Proc.devRef .tc main_v17) = joinR v := by
  have e : after midOps V (Proc.devRef .tc main_v17) = shapeCast S8x16384x128 (transpose S8x256x64x128 [1, 0, 2, 3] (V (Proc.devRef .tc main_v15_8)) transposes_S256x8x64x128_S8x256x64x128_1_0_2_3) shapeCasts_S8x256x64x128_S8x16384x128 := by sl_kernel_rfl
  rw [e, transpose_joinM, reshape_joinR]
  exact joinR_congr h

theorem Z_o : Z m c (Proc.devRef .tc main_v17) = joinR (args m c).o :=
  (after_of_writes_sub _ _ postOps_writes (by decide +kernel)).trans ((Q_keep m c 256 main_v17 (by decide +kernel) (by decide +kernel)).trans
    (end_o (P m c 256) _ (P_8 m c)))

theorem end_gq (V : Valuation τ sig (Elt Ideal)) (v : ℕ → HostChunk.Rw) (h : ∀ n < 256, row (V (Proc.devRef .tc main_v28_10)) n = v n) : after postOps V (Proc.devRef .tc main_v38) = joinR v := by
  have e : after postOps V (Proc.devRef .tc main_v38) = shapeCast S8x16384x128 (transpose S8x256x64x128 [1, 0, 2, 3] (V (Proc.devRef .tc main_v28_10)) transposes_S256x8x64x128_S8x256x64x128_1_0_2_3) shapeCasts_S8x256x64x128_S8x16384x128 := by sl_kernel_rfl
  rw [e, transpose_joinM, reshape_joinR]
  exact joinR_congr h

theorem Z_gq : Z m c (Proc.devRef .tc main_v38) = joinR (args m c).gq := end_gq (Q m c 256) _ (Q_10 m c)

theorem end_ga (V : Valuation τ sig (Elt Ideal)) (v : ℕ → Sq) (h : ∀ n < 256, row (V (Proc.devRef .tc main_v28_11)) n = v n) : after postOps V (Proc.devRef .tc main_v36) = joinM v := by
  have e : after postOps V (Proc.devRef .tc main_v36) = transpose S8x256x64x64 [1, 0, 2, 3] (V (Proc.devRef .tc main_v28_11)) transposes_S256x8x64x64_S8x256x64x64_1_0_2_3 := by sl_kernel_rfl
  rw [e, transpose_joinM]
  exact joinM_congr h

theorem Z_ga : Z m c (Proc.devRef .tc main_v36) = joinM (args m c).ga := end_ga (Q m c 256) _ (Q_11 m c)

theorem end_gu (V : Valuation τ sig (Elt Ideal)) (v : ℕ → HostChunk.Rw) (h : ∀ n < 256, row (V (Proc.devRef .tc main_v28_12)) n = v n) : after postOps V (Proc.devRef .tc main_v35) = joinR v := by
  have e : after postOps V (Proc.devRef .tc main_v35) = shapeCast S8x16384x128 (transpose S8x256x64x128 [1, 0, 2, 3] (V (Proc.devRef .tc main_v28_12)) transposes_S256x8x64x128_S8x256x64x128_1_0_2_3) shapeCasts_S8x256x64x128_S8x16384x128 := by sl_kernel_rfl
  rw [e, transpose_joinM, reshape_joinR]
  exact joinR_congr h

theorem Z_gu : Z m c (Proc.devRef .tc main_v35) = joinR (args m c).gu := end_gu (Q m c 256) _ (Q_12 m c)

theorem end_gw (V : Valuation τ sig (Elt Ideal)) (v : ℕ → HostChunk.Rw) (h : ∀ n < 256, row (V (Proc.devRef .tc main_v28_13)) n = v n) : after postOps V (Proc.devRef .tc main_v33) = joinR v := by
  have e : after postOps V (Proc.devRef .tc main_v33) = shapeCast S8x16384x128 (transpose S8x256x64x128 [1, 0, 2, 3] (V (Proc.devRef .tc main_v28_13)) transposes_S256x8x64x128_S8x256x64x128_1_0_2_3) shapeCasts_S8x256x64x128_S8x16384x128 := by sl_kernel_rfl
  rw [e, transpose_joinM, reshape_joinR]
  exact joinR_congr h

theorem Z_gw : Z m c (Proc.devRef .tc main_v33) = joinR (args m c).gw := end_gw (Q m c 256) _ (Q_13 m c)

theorem end_gk (V : Valuation τ sig (Elt Ideal)) (v : ℕ → HostChunk.Rw) (h : ∀ n < 256, row (V (Proc.devRef .tc main_v28_14)) n = v n) : after postOps V (Proc.devRef .tc main_v31) = joinR v := by
  have e : after postOps V (Proc.devRef .tc main_v31) = shapeCast S8x16384x128 (transpose S8x256x64x128 [1, 0, 2, 3] (V (Proc.devRef .tc main_v28_14)) transposes_S256x8x64x128_S8x256x64x128_1_0_2_3) shapeCasts_S8x256x64x128_S8x16384x128 := by sl_kernel_rfl
  rw [e, transpose_joinM, reshape_joinR]
  exact joinR_congr h

theorem Z_gk : Z m c (Proc.devRef .tc main_v31) = joinR (args m c).gk := end_gk (Q m c 256) _ (Q_14 m c)

theorem end_gg (V : Valuation τ sig (Elt Ideal)) (v : ℕ → Ln) (h : ∀ n < 256, row (V (Proc.devRef .tc main_v28_15)) n = v n) : after postOps V (Proc.devRef .tc main_v29) = joinM v := by
  have e : after postOps V (Proc.devRef .tc main_v29) = transpose S8x256x1x128 [1, 0, 2, 3] (V (Proc.devRef .tc main_v28_15)) transposes_S256x8x1x128_S8x256x1x128_1_0_2_3 := by sl_kernel_rfl
  rw [e, transpose_joinM]
  exact joinM_congr h

theorem Z_gg : Z m c (Proc.devRef .tc main_v29) = joinM (args m c).gg := end_gg (Q m c 256) _ (Q_15 m c)

end Cert.Ref
end
-- ==== Proof.Algebraic.lean ====
/- The two programs leave equal results: each leaves the chunk sequences of the same arguments. -/
module

public import proofs.«01_k».proof.Proof.Frames
public import proofs.«01_k».proof.Proof.BwdOut
public import proofs.«01_k».proof.Proof.RefVal

@[expose] public section

set_option maxRecDepth 16384

noncomputable section

namespace Cert.Launch

open Cert.KernelIdeal Cert.KernelIdeal.Gen Cert.Rows Cert.Spec
open Idealize.ShloMosaic Idealize.ShloMosaic.TcCoe Idealize.ShloMosaic.Tactic

variable (m : (ℓ : Loc nD τ sig) → Buf (Elt Ideal) ℓ) (c : Dev nD)

/-- The first scan leaves what it does not write. -/
theorem W1_keep (r : Ref sig .tc) (h0 : ∀ w, Pipeline.arrRef spec0 w = r → (cfg0.win w).isOut = false) :
    W1 m c (Proc.devRef .tc r) = W0 m c (Proc.devRef .tc r) :=
  Pipeline.afterRegion_keeps (Fwd.dat (W0 m) c) (W0 m c) winFacts0.arr_inj (fun w => Fwd.A_eq (W0 m) c w) r h0

/-- The chunks of a device's arguments. -/
abbrev args : Chs := Fwd.args (W0 m) c

theorem args1 : Fwd.args (W1 m) c = args m c := by
  unfold args Fwd.args
  rw [W1_keep m c main_arg0 (by decide), W1_keep m c main_arg1 (by decide), W1_keep m c main_arg2 (by decide), W1_keep m c main_arg3 (by decide),
    W1_keep m c main_arg4 (by decide), W1_keep m c main_arg5 (by decide), W1_keep m c main_arg6 (by decide)]

theorem W1_o : W1 m c (Proc.devRef .tc main_v0_0) = joinR (args m c).o :=
  (Pipeline.afterRegion_arr (Fwd.dat (W0 m) c) (W0 m c) winFacts0.arr_inj 6).trans (Fwd.final_o (W0 m) c)

theorem W1_st : W1 m c (Proc.devRef .tc main_v0_1) = joinS (Fwd.args (W1 m) c).S := by
  rw [args1]
  exact (Pipeline.afterRegion_arr (Fwd.dat (W0 m) c) (W0 m c) winFacts0.arr_inj 7).trans (Fwd.final_st (W0 m) c)

theorem W2_o : W2 m c (Proc.devRef .tc main_v0_0) = joinR (args m c).o :=
  (Pipeline.afterRegion_keeps (Bwd.dat (W1 m) c) (W1 m c) winFacts1.arr_inj (fun w => Bwd.A_eq (W1 m) c w) main_v0_0 (by decide)).trans (W1_o m c)

theorem W2_gq : W2 m c (Proc.devRef .tc main_v1_0) = joinR (args m c).gq :=
  (Pipeline.afterRegion_arr (Bwd.dat (W1 m) c) (W1 m c) winFacts1.arr_inj 8).trans
    ((Bwd.final_gq (W1 m) c (W1_st m c)).trans (by rw [args1]))

theorem W2_ga : W2 m c (Proc.devRef .tc main_v1_1) = Rows.joinM (args m c).ga :=
  (Pipeline.afterRegion_arr (Bwd.dat (W1 m) c) (W1 m c) winFacts1.arr_inj 9).trans
    ((Bwd.final_ga (W1 m) c (W1_st m c)).trans (by rw [args1]))

theorem W2_gu : W2 m c (Proc.devRef .tc main_v1_2) = joinR (args m c).gu :=
  (Pipeline.afterRegion_arr (Bwd.dat (W1 m) c) (W1 m c) winFacts1.arr_inj 10).trans
    ((Bwd.final_gu (W1 m) c).trans (by rw [args1]))

theorem W2_gw : W2 m c (Proc.devRef .tc main_v1_3) = joinR (args m c).gw :=
  (Pipeline.afterRegion_arr (Bwd.dat (W1 m) c) (W1 m c) winFacts1.arr_inj 11).trans
    ((Bwd.final_gw (W1 m) c (W1_st m c)).trans (by rw [args1]))

theorem W2_gk : W2 m c (Proc.devRef .tc main_v1_4) = joinR (args m c).gk :=
  (Pipeline.afterRegion_arr (Bwd.dat (W1 m) c) (W1 m c) winFacts1.arr_inj 12).trans
    ((Bwd.final_gk (W1 m) c (W1_st m c)).trans (by rw [args1]))

theorem W2_gg : W2 m c (Proc.devRef .tc main_v1_5) = Rows.joinM (args m c).gg :=
  (Pipeline.afterRegion_arr (Bwd.dat (W1 m) c) (W1 m c) winFacts1.arr_inj 13).trans
    ((Bwd.final_gg (W1 m) c (W1_st m c)).trans (by rw [args1]))

end Cert.Launch

namespace Cert.Final

open Cert.Rows Cert.Spec
open Idealize.ShloMosaic Idealize.ShloMosaic.TcCoe

theorem algebraic : Cert.algebraic_KernelIdeal_ReferenceIdeal := by
  intro m g m' g' _ hargs
  have hb : ∀ c, Cert.Ref.args m' c = Cert.Launch.args m c := fun c => by
    obtain ⟨h0, h1, h2, h3, h4, h5, h6⟩ := hargs c
    unfold Cert.Ref.args
    rw [h0, h1, h2, h3, h4, h5, h6]
    rfl
  refine ⟨fun c => joinR (Cert.Launch.args m c).o, fun c => joinR (Cert.Launch.args m c).gq, fun c => Rows.joinM (Cert.Launch.args m c).ga,
    fun c => joinR (Cert.Launch.args m c).gu, fun c => joinR (Cert.Launch.args m c).gw, fun c => joinR (Cert.Launch.args m c).gk,
    fun c => Rows.joinM (Cert.Launch.args m c).gg, ?_, ?_⟩
  · refine (θ_run Cert.KernelIdeal.defs _ _).mono (fun r h c => ?_) (Cert.Launch.run_main (F := Ideal) m g)
    refine ⟨(Cert.Launch.read m h.1 c _ rfl).trans (Cert.Launch.W2_o m c), (Cert.Launch.read m h.1 c _ rfl).trans (Cert.Launch.W2_gq m c),
      (Cert.Launch.read m h.1 c _ rfl).trans (Cert.Launch.W2_ga m c), (Cert.Launch.read m h.1 c _ rfl).trans (Cert.Launch.W2_gu m c),
      (Cert.Launch.read m h.1 c _ rfl).trans (Cert.Launch.W2_gw m c), (Cert.Launch.read m h.1 c _ rfl).trans (Cert.Launch.W2_gk m c),
      (Cert.Launch.read m h.1 c _ rfl).trans (Cert.Launch.W2_gg m c), Cert.Launch.args_keep m h.1 c⟩
  · refine (θ_run Cert.ReferenceIdeal.defs _ _).mono (fun r h c => ?_) (Cert.Ref.run_main (F := Ideal) m' g')
    refine ⟨(Cert.Ref.read m' h.1 c _ rfl).trans ((Cert.Ref.Z_o m' c).trans (by rw [hb])),
      (Cert.Ref.read m' h.1 c _ rfl).trans ((Cert.Ref.Z_gq m' c).trans (by rw [hb])), (Cert.Ref.read m' h.1 c _ rfl).trans ((Cert.Ref.Z_ga m' c).trans (by rw [hb])),
      (Cert.Ref.read m' h.1 c _ rfl).trans ((Cert.Ref.Z_gu m' c).trans (by rw [hb])), (Cert.Ref.read m' h.1 c _ rfl).trans ((Cert.Ref.Z_gw m' c).trans (by rw [hb])),
      (Cert.Ref.read m' h.1 c _ rfl).trans ((Cert.Ref.Z_gk m' c).trans (by rw [hb])), (Cert.Ref.read m' h.1 c _ rfl).trans ((Cert.Ref.Z_gg m' c).trans (by rw [hb])),
      Cert.Ref.args_keep m' h.1 c⟩

end Cert.Final
end
-- ==== Proof.Calls.lean ====
/- What every chain of calls shares: what a body finds and leaves in its staging buffers, an accumulator carried over a grid,
   a call's obligation from a triple over its buffers, and a run of calls one after the other. -/
module

public import Idealize.ShloMosaic.Lib.Pipeline.Frame
public import Idealize.ShloMosaic.Lib.Pipeline.FrameBody
public import Idealize.ShloMosaic.Lib.Pipeline.RegionArraysS
public import Idealize.ShloMosaic.Lib.Pipeline.Regions
public import Idealize.ShloMosaic.Lib.VecWindow
public import Idealize.ShloMosaic.Lib.Pointwise
public import Idealize.ShloMosaic.Lib.Claim

@[expose] public section

set_option maxRecDepth 16384

noncomputable section

namespace Cert.Call

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligation cellOf Seg RegionSeg)

variable {F : FTy → Type} [FloatOps F] {nD : ℕ} {τ : Topo} {sig : RefSig} {Λ₀ : Idealize.SL.Sem.Labels}

local notation "𝕄" => MT nD τ sig Unit (Elt F) ℕ (UR sig nD τ) ℕ

/-! ## Staging buffers -/

/-- A load of a whole buffer reads what the buffer holds. -/
theorem load_all {s : Shape} {e : EltTy} {a : Memref sig .tc .vmem s e} (h : a.IsWhole) (x : s.Idx → Elt F e) {off : Fin s.rank → ℕ}
    (inb : ∀ k, off k + s.size k ≤ s.size k) : View.readAt (Elt F) a.view (Rect.unit off s.size inb).toLoadRect (h.unread x) = x :=
  (View.readAt_full _ _ _).trans (h.read_unread x)

/-- A function of three at equal arguments. -/
theorem congr3 {α β γ δ : Type} (f : α → β → γ → δ) {a a' : α} {b b' : β} {c c' : γ} (ha : a = a') (hb : b = b') (hc : c = c') : f a b c = f a' b' c' := by
  rw [ha, hb, hc]

/-- A staging buffer held whole at given contents. -/
abbrev has (c : Dev nD) {s : Shape} {e : EltTy} (a : Memref sig .tc .vmem s e) (x : s.Idx → Elt F e) : sProp 𝕄 := owns (c : Thread nD τ) a fullShare x

/-- A buffer's cells left as they were, its contents spelt out. -/
theorem kept (c : Dev nD) {s : Shape} {e : EltTy} {a : Memref sig .tc .vmem s e} (h : a.IsWhole) (x : s.Idx → Elt F e) :
    (iprop(a.view.loc (c : Thread nD τ) ↦[a.view.set]{fullShare} h.unread x) : sProp 𝕄)
      ⊢ iprop(∃ f, ⌜a.view.read (Elt F) f = x⌝ ∗ (a.view.loc (c : Thread nD τ) ↦[a.view.set]{fullShare} f)) := by
  iintro H; iexists _; isplitr; · ipureintro; exact h.read_unread x
  iexact H

/-- A buffer held at some contents of a family is held at some contents. -/
theorem slack (c : Dev nD) {s : Shape} {e : EltTy} {a : Memref sig .tc .vmem s e} {α : Type} (g : α → s.Idx → Elt F e) :
    (iprop(∃ d, has c a (g d)) : sProp 𝕄) ⊢ iprop(∃ d, has c a d) := by
  iintro ⟨%d, H⟩; iexists _; iexact H

/-- A body's triple from contents that may be any, with what the call carries kept beside it. -/
theorem framed_of {α : Type} {A B Φ : sProp 𝕄} {A' B' : α → sProp 𝕄} {G : sProp 𝕄 → sProp 𝕄} (hA : A ⊢ iprop(∃ d, A' d)) (hB : ∀ d, B' d ⊢ B)
    (h : ∀ d K, iprop(A' d ∗ (B' d -∗ K)) ⊢ G K) (K : sProp 𝕄) : iprop(Φ ∗ A ∗ (iprop(Φ ∗ B) -∗ K)) ⊢ G K := by
  iintro ⟨HΦ, HA, Hk⟩
  ihave HA := hA $$ HA
  icases HA with ⟨%d, HA⟩
  iapply (h d K)
  isplitl [HA]; · iexact HA
  iintro HB
  iapply Hk
  isplitl [HΦ]; · iexact HΦ
  iapply (hB d)
  iexact HB

/-- What stands beside a buffer held at some contents of a family. -/
theorem beside {α : Type} {P Q : sProp 𝕄} {R : α → sProp 𝕄} (h : Q ⊢ iprop(∃ d, R d)) : iprop(P ∗ Q) ⊢ iprop(∃ d, P ∗ R d) := by
  iintro ⟨HP, HQ⟩
  ihave HQ := h $$ HQ
  icases HQ with ⟨%d, HQ⟩
  iexists d
  isplitl [HP]; · iexact HP
  iexact HQ

/-- A body's triple, with what it does not touch beside it and what it finds restated. -/
theorem framed {A B A' Φ : sProp 𝕄} {G : sProp 𝕄 → sProp 𝕄} (hA : A' ⊢ A)
    (h : ∀ K, iprop(A ∗ (B -∗ K)) ⊢ G K) (K : sProp 𝕄) : iprop(Φ ∗ A' ∗ (iprop(Φ ∗ B) -∗ K)) ⊢ G K := by
  refine BIBase.Entails.trans ?_ (h K)
  iintro ⟨HΦ, HA, Hk⟩
  isplitl [HA]; · iapply hA; iexact HA
  iintro HB
  iapply Hk
  isplitl [HΦ]; · iexact HΦ
  iexact HB

/-! ## A grid point's branches -/

/-- A branch taken where a coordinate is at a given value. -/
theorem at_iff {v k : ℕ} (hv : v < 2 ^ 32) (hk : k < 2 ^ 32) :
    Scalar.cmpi .ne (Scalar.extui (Scalar.cmpi .eq (BitVec.ofNat 32 v) (BitVec.ofNat 32 k)) : BitVec 32) 0#32 = 1#1 ↔ v = k := by
  have e : BitVec.ofNat 32 v = BitVec.ofNat 32 k ↔ v = k := by
    rw [← BitVec.toNat_inj, BitVec.toNat_ofNat, BitVec.toNat_ofNat, Nat.mod_eq_of_lt hv, Nat.mod_eq_of_lt hk]
  by_cases h : v = k
  · subst h
    simp [Scalar.cmpi, Scalar.extui, IntOp.cmpi]
  · have h' : BitVec.ofNat 32 v ≠ BitVec.ofNat 32 k := fun x => h (e.mp x)
    simp only [Scalar.cmpi, Scalar.extui, IntOp.cmpi, beq_eq_false_iff_ne.mpr h', h, iff_false]
    decide

/-! ## Accumulators -/

/-- An accumulator into point `n`, cleared to `zero` at every `J`-th point and taken through `f` at each. -/
def accum {α : Type} (N J : ℕ) (zero : α) (f : Fin N → α → α) : ℕ → α
  | 0 => zero
  | n + 1 => if h : n < N then f ⟨n, h⟩ (if n % J = 0 then zero else accum N J zero f n) else accum N J zero f n

theorem accum_succ {α : Type} {N J : ℕ} {zero : α} {f : Fin N → α → α} (t : Fin N) :
    accum N J zero f (t.val + 1) = f t (if t.val % J = 0 then zero else accum N J zero f t.val) := by
  rw [accum, dif_pos t.isLt]

/-- One point from a buffer that is at anything before the first point and at the accumulator after it. -/
theorem accum_of {α : Type} {N J : ℕ} {zero : α} {f : Fin N → α → α} (t : Fin N) {p : Prop} [Decidable p] (hp : p ↔ t.val % J = 0) {s : α}
    (hs : t.val = 0 ∨ s = accum N J zero f t.val) : f t (if p then zero else s) = accum N J zero f (t.val + 1) := by
  rw [accum_succ, if_congr hp rfl rfl]
  rcases hs with h | h
  · rw [h, Nat.zero_mod, if_pos rfl, if_pos rfl]
  · rw [h]

/-- An accumulator's buffer before point `n`: at anything before the first. -/
def carry (c : Dev nD) {s : Shape} {e : EltTy} (sc : Memref sig .tc .vmem s e) (acc : ℕ → s.Idx → Elt F e) (n : ℕ) : sProp 𝕄 :=
  iprop(∃ x, ⌜n = 0 ∨ x = acc n⌝ ∗ has c sc x)

theorem carry_of (c : Dev nD) {s : Shape} {e : EltTy} {sc : Memref sig .tc .vmem s e} {acc : ℕ → s.Idx → Elt F e} {n : ℕ} :
    (has c sc (acc n) : sProp 𝕄) ⊢ carry c sc acc n := by
  unfold carry
  iintro H; iexists _; isplitr; · ipureintro; exact .inr rfl
  iexact H

/-- A body's triple over the accumulator's buffer beside what it does not touch. -/
theorem framed_acc (c : Dev nD) {s : Shape} {e : EltTy} {sc : Memref sig .tc .vmem s e} {acc : ℕ → s.Idx → Elt F e} {n : ℕ} {A : sProp 𝕄} {B Φ : sProp 𝕄}
    {α : Type} {A' : α → sProp 𝕄} {G : sProp 𝕄 → sProp 𝕄} (hA : A ⊢ iprop(∃ d, A' d)) {B' : α → sProp 𝕄} (hB : ∀ d, B' d ⊢ B)
    (h : ∀ d x, (n = 0 ∨ x = acc n) → ∀ K, iprop((A' d ∗ has c sc x) ∗ (iprop(B' d ∗ has c sc (acc (n + 1))) -∗ K)) ⊢ G K)
    (K : sProp 𝕄) :
    iprop(iprop(carry c sc acc n ∗ Φ) ∗ A ∗ (iprop(iprop(carry c sc acc (n + 1) ∗ Φ) ∗ B) -∗ K)) ⊢ G K := by
  unfold carry
  iintro ⟨⟨⟨%x, %hx, Hs⟩, HΦ⟩, HA, Hk⟩
  ihave HA := hA $$ HA
  icases HA with ⟨%d, HA⟩
  iapply (h d x hx K)
  isplitl [HA Hs]
  · isplitl [HA]; · iexact HA
    iexact Hs
  iintro ⟨HB, Hs⟩
  iapply Hk
  isplitl [Hs HΦ]
  · isplitl [Hs]
    · iexists _; isplitr; swap; · iexact Hs
      ipureintro; exact .inr rfl
    iexact HΦ
  iapply (hB d); iexact HB

/-! ## Obligations -/

section Obligation

variable {cfg : Cfg sig Λ₀} {c : Dev nD} (dat : Dat τ (Elt F) Unit ℕ (UR sig nD τ) ℕ cfg c)

/-- What the body finds in window `w`'s buffer at point `t`: an input's block, or what the window held. -/
def entry (inp : Fin cfg.W → Bool) (t : Fin cfg.N) (w : Fin cfg.W) : sProp 𝕄 :=
  match inp w with
  | true => owns (c : Thread nD τ) ((cfg.win w).stage (cfg.slots t w)) fullShare (dat.after w t)
  | false => iprop(∃ d, owns (c : Thread nD τ) ((cfg.win w).stage (cfg.slots t w)) fullShare (dat.before w t d))

/-- What the body leaves there: the stated contents, or at a point it leaves the window alone what the window held. -/
def leave (t : Fin cfg.N) (w : Fin cfg.W) : sProp 𝕄 :=
  match cfg.idle w (cfg.grid.coords t) with
  | true => iprop(∃ d, owns (c : Thread nD τ) ((cfg.win w).stage (cfg.slots t w)) fullShare (dat.before w t d))
  | false => owns (c : Thread nD τ) ((cfg.win w).stage (cfg.slots t w)) fullShare (dat.after w t)

theorem entry_of (inp : Fin cfg.W → Bool) (hin : ∀ w, inp w = true → ∀ t d, dat.before w t d = dat.after w t) (t : Fin cfg.N) (w : Fin cfg.W) :
    (iprop(∃ d, owns (c : Thread nD τ) ((cfg.win w).stage (cfg.slots t w)) fullShare (dat.before w t d)) : sProp 𝕄) ⊢ entry dat inp t w := by
  unfold entry
  cases h : inp w
  · exact .rfl
  · simp only [hin w h]
    iintro ⟨%d, H⟩; iexact H

theorem leave_to (hidle : ∀ w t, cfg.idle w (cfg.grid.coords t) = true → (cfg.win w).flush t = false) (t : Fin cfg.N) (w : Fin cfg.W) :
    leave dat t w ⊢ dat.leavesExact w t := by
  unfold leave Dat.leavesExact
  cases h : cfg.idle w (cfg.grid.coords t)
  · exact .rfl
  · rw [hidle w t h]

/-- A window written at the points of `p` and left alone at the others. -/
theorem leave_if (t : Fin cfg.N) (w : Fin cfg.W) {p : Prop} [Decidable p] (hp : cfg.idle w (cfg.grid.coords t) = !decide p) (d) :
    (owns (c : Thread nD τ) ((cfg.win w).stage (cfg.slots t w)) fullShare (if p then dat.after w t else dat.before w t d) : sProp 𝕄) ⊢ leave dat t w := by
  unfold leave
  by_cases h : p
  · rw [if_pos h, show cfg.idle w (cfg.grid.coords t) = false from by rw [hp, decide_eq_true h]; rfl]
  · rw [if_neg h, show cfg.idle w (cfg.grid.coords t) = true from by rw [hp, decide_eq_false h]; rfl]
    iintro H; iexists d; iexact H

/-- A window left alone where it is not written, and written back only where it is. -/
theorem idle_flush {w : Fin cfg.W} {t : Fin cfg.N} {p : Prop} [Decidable p] (hp : cfg.idle w (cfg.grid.coords t) = !decide p)
    (hf : (cfg.win w).flush t = true → p) (h : cfg.idle w (cfg.grid.coords t) = true) : (cfg.win w).flush t = false :=
  Bool.eq_false_iff.mpr fun e => by
    rw [hp, decide_eq_true (hf e)] at h
    exact Bool.false_ne_true h

set_option backward.isDefEq.respectTransparency.types false in
/-- A call's obligation, from its body run between those contents at every point. -/
theorem obligation {defs₀ : Defs nD τ sig (Elt F) Λ₀} (inp : Fin cfg.W → Bool)
    (hidle : ∀ w t, cfg.idle w (cfg.grid.coords t) = true → (cfg.win w).flush t = false)
    (hin : ∀ w, inp w = true → ∀ t d, dat.before w t d = dat.after w t)
    (howed : ∀ t : Fin cfg.N, dat.owesAt () t.succ = dat.owesAt () t.castSucc)
    (hbody : ∀ (t : Fin cfg.N) (K : sProp 𝕄),
      iprop(dat.Φ t.castSucc ∗ bigSep Finset.univ (entry dat inp t)
          ∗ (iprop(dat.Φ t.succ ∗ bigSep Finset.univ (leave dat t)) -∗ K))
        ⊢ wp frame (wpE defs₀ Variants.none c none) Set.univ (defs₀ .tc cfg.body (cfg.bodyArgs t (cfg.slots t))) fun _ => K) :
    BodyObligation dat defs₀ Variants.none () Set.univ := fun t => by
  rw [howed t]
  refine BIBase.Entails.trans ?_ (hbody t _)
  iintro ⟨HΦ, Ho, Hw⟩
  isplitl [HΦ]; · iexact HΦ
  isplitl [Hw]
  · iapply (show _ ⊢ bigSep Finset.univ (entry dat inp t) from BI.bigSep_mono fun w _ => entry_of dat inp hin t w)
    iexact Hw
  iintro ⟨HΦ, Hw⟩
  isplitl [HΦ]; · iexact HΦ
  isplitl [Ho]; · iexact Ho
  iapply (show bigSep Finset.univ (leave dat t) ⊢ bigSep Finset.univ (fun w : Fin cfg.W => dat.leavesExact w t) from BI.bigSep_mono fun w _ => leave_to dat hidle t w)
  iexact Hw

end Obligation

/-! ## A run of calls -/

/-- Array `w`'s block at point `t`. -/
def blockOf (cfg : Cfg sig Λ₀) (V : Valuation τ sig (Elt F)) (w : Fin cfg.W) (t : Fin cfg.N) : ((cfg.win w).xblock (cfg.grid.coords t)).Idx → Elt F (cfg.win w).elt :=
  ((cfg.win w).blk t).view.read (Elt F) (V (Proc.devRef .tc (Pipeline.arrRef cfg.spec w)))

section Run

variable {P : Type} [Fintype P] [DecidableEq P]

/-- The one index of dues, at every cell of a core. -/
abbrev L : GSem nD τ sig → Finset Unit := fun g => if g.1.2 = .tc then {()} else ∅
abbrev lv : GSem nD τ sig → Unit → ℕ := fun _ _ => 0

/-- What a core owes between the calls: nothing. -/
abbrev R (c : Dev nD) : sProp 𝕄 :=
  iprop((∃ Wd, owes (c : Thread nD τ) (0 : CellTallies nD τ sig Unit) Wd) ∗ (BI.emp : sProp 𝕄) ∗ (BI.emp : sProp 𝕄))

/-- The buffers that outlive the calls, at `W`, beside what a core owes. -/
abbrev rest (W : Dev nD → Valuation τ sig (Elt F)) (c : Dev nD) : sProp 𝕄 :=
  iprop(StableHlo.held (c : Thread nD τ) (Pipeline.ucRefs τ sig) (W c) ∗ R c)

variable (pcs : P → PCfg sig Λ₀ (Elt F)) (a : (p : P) → (pcs p).Adm)
  (dats : (p : P) → (c : Dev nD) → Dat τ (Elt F) Unit ℕ (UR sig nD τ) ℕ (Pipeline.pin pcs a p) c) (defs₀ : Defs nD τ sig (Elt F) Λ₀)

omit [Fintype P] [DecidableEq P] in
theorem cut (p : P) : Pipeline.LevelCut (nD := nD) (τ := τ) pcs a () L lv p (fun _ => 0) (fun _ => 0) where
  hι c w s := by simp [L]
  hιb c w s := le_rfl
  hD c g i h := absurd h (lt_irrefl _)

/-- What makes call `p`, entered at `W`, a link of the chain. -/
structure Link (p : P) (W : Dev nD → Valuation τ sig (Elt F)) : Prop where
  kit : Pipeline.PLaunchFacts (nD := nD) (τ := τ) pcs p
  pre : (pcs p).pre.K = 0
  body : ∀ c, Pipeline.BodyObligationLoose (dats p c) defs₀ Variants.none () Set.univ
  owed : ∀ c t, (dats p c).owed t = (fun _ : Dev nD => (0 : CellTallies nD τ sig Unit)) c
  recorded : ∀ c, (dats p c).recorded 0 = Set.univ
  share : ∀ c w, (dats p c).share w = fullShare
  hin : ∀ c, iprop(Pipeline.scopedRest (Pipeline.pin pcs a p).spec c ∗ (fun _ : Dev nD => (BI.emp : sProp 𝕄)) c) ⊢ (dats p c).Φ 0
  hout : ∀ c, (dats p c).Φ (Fin.last (Pipeline.pin pcs a p).N) ⊢ iprop(Pipeline.scopedRest (Pipeline.pin pcs a p).spec c ∗ (fun _ : Dev nD => (BI.emp : sProp 𝕄)) c)
  arrays : ∀ c w, (dats p c).arrAt w 0 = W c (Proc.devRef .tc (Pipeline.arrRef (Pipeline.pin pcs a p).spec w))
  sub : Pipeline.arrRefs (τ := τ) (pcs p).spec ⊆ Pipeline.ucRefs τ sig

variable {pcs a dats defs₀}

/-- The call as a link of the chain. -/
def Link.reg {p : P} {W : Dev nD → Valuation τ sig (Elt F)} (l : Link pcs a dats defs₀ p W) : RegionSeg pcs a dats () defs₀ Variants.none L lv p :=
  RegionSeg.ofHeldIn pcs a dats () defs₀ Variants.none L lv p (fun _ => 0) (Pipeline.ucRefs τ sig) (fun _ => BI.emp) (fun _ => BI.emp)
    l.kit l.pre l.body l.owed l.recorded l.share l.hin l.hout (fun _ => 0) (cut pcs a p) (fun _ => BI.emp) W l.arrays

set_option backward.isDefEq.respectTransparency.types false in
theorem Link.entered {p : P} {W : Dev nD → Valuation τ sig (Elt F)} (l : Link pcs a dats defs₀ p W) (c : Dev nD) : rest W c ⊢ l.reg.pre c := by
  unfold Link.reg
  exact RegionSeg.ofHeldIn_pre (p := p) (D := fun _ => 0) (X := fun _ => iprop(emp)) (Y := fun _ => iprop(emp)) (R := fun _ => iprop(emp)) (W := W) l.sub c

set_option backward.isDefEq.respectTransparency.types false in
theorem Link.left {p : P} {W : Dev nD → Valuation τ sig (Elt F)} (l : Link pcs a dats defs₀ p W) (c : Dev nD) :
    l.reg.post c ⊢ rest (fun c => Pipeline.afterRegion (dats p c) (W c)) c := by
  unfold Link.reg
  exact RegionSeg.ofHeldIn_post (p := p) l.sub c

/-- A call that keeps nothing between its points. -/
theorem Link.straight {p : P} {W : Dev nD → Valuation τ sig (Elt F)} (kit : Pipeline.PLaunchFacts (nD := nD) (τ := τ) pcs p) (pre : (pcs p).pre.K = 0)
    (body : ∀ c, BodyObligation (dats p c) defs₀ Variants.none () Set.univ)
    (owed : ∀ c t, (dats p c).owed t = (fun _ : Dev nD => (0 : CellTallies nD τ sig Unit)) c) (recorded : ∀ c, (dats p c).recorded 0 = Set.univ)
    (share : ∀ c w, (dats p c).share w = fullShare) (hΦ : ∀ c t, (dats p c).Φ t = Pipeline.scopedRest (Pipeline.pin pcs a p).spec c)
    (arrays : ∀ c w, (dats p c).arrAt w 0 = W c (Proc.devRef .tc (Pipeline.arrRef (Pipeline.pin pcs a p).spec w)))
    (sub : Pipeline.arrRefs (τ := τ) (pcs p).spec ⊆ Pipeline.ucRefs τ sig) : Link pcs a dats defs₀ p W where
  kit := kit
  pre := pre
  body c := (body c).loose
  owed := owed
  recorded := recorded
  share := share
  hin c := by
    rw [hΦ c]
    iintro ⟨H, -⟩; iexact H
  hout c := by
    rw [hΦ c]
    iintro H
    isplitl [H]; · iexact H
    iempintro
  arrays := arrays
  sub := sub

/-- A call that carries an accumulator. -/
theorem Link.carrying {p : P} {W : Dev nD → Valuation τ sig (Elt F)} (kit : Pipeline.PLaunchFacts (nD := nD) (τ := τ) pcs p) (pre : (pcs p).pre.K = 0)
    (body : ∀ c, BodyObligation (dats p c) defs₀ Variants.none () Set.univ)
    (owed : ∀ c t, (dats p c).owed t = (fun _ : Dev nD => (0 : CellTallies nD τ sig Unit)) c) (recorded : ∀ c, (dats p c).recorded 0 = Set.univ)
    (share : ∀ c w, (dats p c).share w = fullShare) {s : Shape} {e : EltTy} (sc : Memref sig .tc .vmem s e) (acc : Dev nD → ℕ → s.Idx → Elt F e)
    (Y : Dev nD → sProp 𝕄) (hΦ : ∀ c t, (dats p c).Φ t = iprop(carry c sc (acc c) t.val ∗ Y c))
    (hsplit : ∀ c, (Pipeline.scopedRest (Pipeline.pin pcs a p).spec c : sProp 𝕄) = iprop((∃ x, has c sc x) ∗ Y c))
    (arrays : ∀ c w, (dats p c).arrAt w 0 = W c (Proc.devRef .tc (Pipeline.arrRef (Pipeline.pin pcs a p).spec w)))
    (sub : Pipeline.arrRefs (τ := τ) (pcs p).spec ⊆ Pipeline.ucRefs τ sig) : Link pcs a dats defs₀ p W where
  kit := kit
  pre := pre
  body c := (body c).loose
  owed := owed
  recorded := recorded
  share := share
  hin c := by
    rw [hΦ c, hsplit c]
    unfold carry
    iintro ⟨⟨⟨%x, H⟩, HY⟩, -⟩
    isplitl [H]
    · iexists x; isplitr; · ipureintro; exact .inl rfl
      iexact H
    iexact HY
  hout c := by
    rw [hΦ c, hsplit c]
    unfold carry
    iintro ⟨⟨%x, -, H⟩, HY⟩
    isplitl
    · isplitl [H]; · iexists x; iexact H
      iexact HY
    iempintro
  arrays := arrays
  sub := sub

/-- What is left beside the buffers at the end of the chain. -/
theorem rest_end (W : Dev nD → Valuation τ sig (Elt F)) (c : Dev nD) :
    rest W c ⊢ iprop(StableHlo.held (c : Thread nD τ) (Pipeline.ucRefs τ sig) (W c) ∗ ∃ Wd, owes (c : Thread nD τ) (0 : CellTallies nD τ sig Unit) Wd) :=
  sep_mono .rfl (by iintro ⟨H, -, -⟩; iexact H)

set_option backward.isDefEq.respectTransparency.types false in
/-- Every fair execution of a chain ends, with every buffer that outlives the calls at the last contents and every counter at zero. -/
theorem run_chain (hinj : Function.Injective (cellOf (nD := nD) (τ := τ) (Pipeline.pin pcs a)))
    (m : (ℓ : Loc nD τ sig) → Buf (Elt F) ℓ) (ρ : Dev nD → PrngReg)
    (main : Dev nD → Prog (TpuEff nD τ sig (Elt F) (Pipeline.Sig Λ₀ P fun p => (pcs p).Adm) .tc) PUnit)
    (segs : List (Seg pcs a dats () defs₀ Variants.none L lv))
    (hmain : ∀ c, main c = Seg.run segs) (hnd : (Seg.pipes segs).Nodup)
    (Wₙ : Dev nD → Valuation τ sig (Elt F))
    (hch : ∀ c, Seg.ChainsAt c (rest fun c b => m (c, b)) segs fun c =>
      iprop(StableHlo.held (c : Thread nD τ) (Pipeline.ucRefs τ sig) (Wₙ c) ∗ ∃ Wd, owes (c : Thread nD τ) (0 : CellTallies nD τ sig Unit) Wd))
    (hz : ∀ g : GSem nD τ sig, g.1.2 ≠ .tc ∨ g.2.isScoped .tc = true) :
    θ_run (Pipeline.defs pcs defs₀) (onTc (τ := τ) main) ⟨m, fun _ => 0, ρ⟩
      (fun r => (∀ c : Dev nD, ∀ b ∈ Pipeline.ucRefs τ sig, r.2.mem (c, b) = Wₙ c b) ∧ r.2.sem = fun _ => 0) := by
  refine Pipeline.θ_run_regions_kit_dev_sems pcs a dats () hinj (emb₁ (A := UR sig nD τ)) defs₀ Variants.none L lv m ρ main
    (fun _ => segs) (fun c Q => by rw [hmain c]) (fun _ => hnd)
    (O₀ := 0) (hL := fun g hg => if_neg hg) (G := fun _ => iprop(emp))
    (u₀ := initOf (Pipeline.cells (Pipeline.pin pcs a) hinj) (Pipeline.launchToks (Pipeline.pin pcs a) hinj))
    (hu₀ := ?_) (T₀ := rest fun c b => m (c, b)) (Tₙ := fun c => StableHlo.held (c : Thread nD τ) (Pipeline.ucRefs τ sig) (Wₙ c))
    (hch := hch) (hinit := ?_) (QY := fun c s => ∀ b ∈ Pipeline.ucRefs τ sig, s.mem (c, b) = Wₙ c b)
    (hfin := fun c s' => ?_) (hQ := fun _ h hs => ⟨h, funext fun g => hs g (hz g)⟩)
  · iintro Hu; imodintro
    isplitl [Hu]
    · iapply (show (ownU (initOf (Pipeline.cells (Pipeline.pin pcs a) hinj) (Pipeline.launchToks (Pipeline.pin pcs a) hinj)) : sProp 𝕄) ⊢ BI.own (emb₁ (initOf (Pipeline.cells (Pipeline.pin pcs a) hinj) (Pipeline.launchToks (Pipeline.pin pcs a) hinj))) from .rfl); iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (fun b => m (c, b)) from Pipeline.unscopedBufs_held c fun b => m (c, b)]
    iintro ⟨⟨Hh, -, HO, -, -, -⟩, -⟩
    imodintro
    isplitl [Hh]; · iexact Hh
    isplitl [HO]; · iexists ∅; iexact HO
    isplitl; · iempintro
    iempintro
  · unfold StableHlo.held
    iintro ⟨Hh, HSI⟩
    ihave Hr := (pointsTo_read_all (Pipeline.ucRefs τ sig) (fun b => ((c : Thread nD τ).1, b)) (Wₙ c) s') $$ [Hh HSI]
    · isplitl [Hh] <;> iassumption
    icases Hr with ⟨%h, HSI⟩
    imodintro
    isplitr
    · ipureintro; exact h
    · iexact HSI

end Run

end Cert.Call
end
-- ==== Proof.Bodies.lean ====
/- The runs of the bodies most calls have: one tile stored from two or three blocks, and one accumulated in scratch over a row of points. -/
module

public import proofs.«01_k».proof.Proof.Calls
public import Idealize.ShloMosaic.Lib.Tactic
public import Idealize.ShloMosaic.Lib.WholeRead
public import Idealize.ShloMosaic.Lib.Ring
public import Idealize.ShloMosaic.Lib.WordCmp

@[expose] public section

set_option maxRecDepth 16384

noncomputable section

namespace Cert.Call

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : ℕ} {τ : Topo} {sig : RefSig} {Λ₀ : Idealize.SL.Sem.Labels} {defs₀ : Defs nD τ sig (Elt F) Λ₀}

local notation "𝕄" => MT nD τ sig Unit (Elt F) ℕ (UR sig nD τ) ℕ

variable {s0 s1 s2 s3 : Shape} {e0 e1 e2 e3 : EltTy}

/-- The whole of a shape from an offset it leaves room for. -/
abbrev all {s : Shape} (o : Fin s.rank → ℕ) (i : ∀ k, o k + s.size k ≤ s.size k) : Rect s := Rect.unit o s.size i

/-- A load of the whole of a buffer just stored whole. -/
theorem load_stored {s : Shape} {e : EltTy} (v : View sig .tc .vmem s e) (f : v.ty.Contents (Elt F)) (x : Vec F s e) (l : List (View.Piece (Elt F) s e))
    {o : Fin s.rank → ℕ} {i i' : ∀ k, o k + s.size k ≤ s.size k} :
    v.readAt (Elt F) (all o i).toLoadRect (v.writes (Elt F) f (⟨all o i', x⟩ :: l)) = x :=
  (View.readAt_full _ _ _).trans (View.read_writes_full _ _ _ _ _)

variable (c : Dev nD) {a0 : Memref sig .tc .vmem s0 e0} (h0 : a0.IsWhole) {a1 : Memref sig .tc .vmem s1 e1} (h1 : a1.IsWhole)
  {a2 : Memref sig .tc .vmem s2 e2} (h2 : a2.IsWhole) {a3 : Memref sig .tc .vmem s3 e3} (h3 : a3.IsWhole)
  {o0 : Fin s0.rank → ℕ} {i0 : ∀ k, o0 k + s0.size k ≤ s0.size k} {o1 : Fin s1.rank → ℕ} {i1 : ∀ k, o1 k + s1.size k ≤ s1.size k}
  {o2 : Fin s2.rank → ℕ} {i2 : ∀ k, o2 k + s2.size k ≤ s2.size k} {o3 : Fin s3.rank → ℕ} {i3 : ∀ k, o3 k + s3.size k ≤ s3.size k}
  {l0 : a0.view.LoadsAt (all o0 i0).toLoadRect} {l1 : a1.view.LoadsAt (all o1 i1).toLoadRect}
  {l2 : a2.view.LoadsAt (all o2 i2).toLoadRect} {l3 : a3.view.LoadsAt (all o3 i3).toLoadRect}

include h0 h1

/-- Two blocks loaded, one tile of them stored. -/
theorem run_pair {w2 : (a2.access (all o2 i2)).Stores Finset.univ} {u2}
    (f : Vec F s0 e0 → Vec F s1 e1 → Vec F s2 e2) (x0 : Vec F s0 e0) (x1 : Vec F s1 e1) (E : Set ℕ) (K : sProp 𝕄) :
    iprop((has c a0 x0 ∗ has c a1 x1 ∗ ∃ d, has c a2 d) ∗ (iprop(has c a0 x0 ∗ has c a1 x1 ∗ has c a2 (f x0 x1)) -∗ K))
      ⊢ wp frame (wpE defs₀ Variants.none c none) E (do
          let v0 : Vec F s0 e0 ← Prog.lift (.load a0 (all o0 i0).toLoadRect l0)
          let v1 : Vec F s1 e1 ← Prog.lift (.load a1 (all o1 i1).toLoadRect l1)
          let _ : Vec F s2 e2 ← Prog.lift (.load a2 (all o2 i2).toLoadRect l2)
          Prog.lift (.store a2 (all o2 i2) (f v0 v1) Finset.univ w2 u2)
          pure ⟨⟩ : Prog (TpuEff nD τ sig (Elt F) Λ₀ .tc) PUnit) fun _ => K := by
  unfold has owns
  iintro ⟨⟨⟨%f0, %hf0, H0⟩, ⟨%f1, %hf1, H1⟩, ⟨%d, %g, -, H2⟩⟩, Hk⟩
  obtain rfl := h0.eq_unread hf0; obtain rfl := h1.eq_unread hf1
  sl_exec
  sl_step
  iapply Hk
  isplitl [H0]; · iapply (kept c h0 x0); iexact H0
  isplitl [H1]; · iapply (kept c h1 x1); iexact H1
  iexists _; isplitr; swap; · iexact H2
  ipureintro
  exact (View.read_writes_full _ _ _ _ _).trans (congrArg₂ f (load_all h0 x0 _) (load_all h1 x1 _))

/-- Three blocks loaded, one tile of them stored. -/
theorem run_triple {w3 : (a3.access (all o3 i3)).Stores Finset.univ} {u3} (h2 : a2.IsWhole)
    (f : Vec F s0 e0 → Vec F s1 e1 → Vec F s2 e2 → Vec F s3 e3) (x0 : Vec F s0 e0) (x1 : Vec F s1 e1) (x2 : Vec F s2 e2) (E : Set ℕ) (K : sProp 𝕄) :
    iprop((has c a0 x0 ∗ has c a1 x1 ∗ has c a2 x2 ∗ ∃ d, has c a3 d) ∗ (iprop(has c a0 x0 ∗ has c a1 x1 ∗ has c a2 x2 ∗ has c a3 (f x0 x1 x2)) -∗ K))
      ⊢ wp frame (wpE defs₀ Variants.none c none) E (do
          let v0 : Vec F s0 e0 ← Prog.lift (.load a0 (all o0 i0).toLoadRect l0)
          let v1 : Vec F s1 e1 ← Prog.lift (.load a1 (all o1 i1).toLoadRect l1)
          let v2 : Vec F s2 e2 ← Prog.lift (.load a2 (all o2 i2).toLoadRect l2)
          let _ : Vec F s3 e3 ← Prog.lift (.load a3 (all o3 i3).toLoadRect l3)
          Prog.lift (.store a3 (all o3 i3) (f v0 v1 v2) Finset.univ w3 u3)
          pure ⟨⟩ : Prog (TpuEff nD τ sig (Elt F) Λ₀ .tc) PUnit) fun _ => K := by
  unfold has owns
  iintro ⟨⟨⟨%f0, %hf0, H0⟩, ⟨%f1, %hf1, H1⟩, ⟨%f2, %hf2, H2⟩, ⟨%d, %g, -, H3⟩⟩, Hk⟩
  obtain rfl := h0.eq_unread hf0; obtain rfl := h1.eq_unread hf1; obtain rfl := h2.eq_unread hf2
  sl_exec
  sl_step
  iapply Hk
  isplitl [H0]; · iapply (kept c h0 x0); iexact H0
  isplitl [H1]; · iapply (kept c h1 x1); iexact H1
  isplitl [H2]; · iapply (kept c h2 x2); iexact H2
  iexists _; isplitr; swap; · iexact H3
  ipureintro
  exact (View.read_writes_full _ _ _ _ _).trans (congr3 f (load_all h0 x0 _) (load_all h1 x1 _) (load_all h2 x2 _))

set_option maxHeartbeats 1600000 in
/-- An accumulator cleared at the first point of a row, one product of two blocks added to it, and what it holds stored at the last. -/
theorem run_acc {m3 n3 k3 : a3.view.LoadsAt (all o3 i3).toLoadRect} {w3 v3 : (a3.access (all o3 i3)).Stores Finset.univ} {u3 t3}
    {w2 : (a2.access (all o2 i2)).Stores Finset.univ} {u2} {p q : Prop} [Decidable p] [Decidable q]
    (h3 : a3.IsWhole) (zero : Vec F s3 e3) (f : Vec F s3 e3 → Vec F s0 e0 → Vec F s1 e1 → Vec F s3 e3) (g : Vec F s3 e3 → Vec F s2 e2)
    (x0 : Vec F s0 e0) (x1 : Vec F s1 e1) (d : Vec F s2 e2) (s : Vec F s3 e3) (E : Set ℕ) (K : sProp 𝕄) :
    iprop(((has c a0 x0 ∗ has c a1 x1 ∗ has c a2 d) ∗ has c a3 s)
        ∗ (iprop((has c a0 x0 ∗ has c a1 x1 ∗ has c a2 (if q then g (f (if p then zero else s) x0 x1) else d))
            ∗ has c a3 (f (if p then zero else s) x0 x1)) -∗ K))
      ⊢ wp frame (wpE defs₀ Variants.none c none) E (do
          if hp : p then do
            let _ : Vec F s3 e3 ← Prog.lift (.load a3 (all o3 i3).toLoadRect l3)
            Prog.lift (.store a3 (all o3 i3) zero Finset.univ w3 u3)
            pure ⟨⟩
          else do
            pure ⟨⟩
          let v : Vec F s3 e3 ← Prog.lift (.load a3 (all o3 i3).toLoadRect m3)
          let v0 : Vec F s0 e0 ← Prog.lift (.load a0 (all o0 i0).toLoadRect l0)
          let v1 : Vec F s1 e1 ← Prog.lift (.load a1 (all o1 i1).toLoadRect l1)
          let _ : Vec F s3 e3 ← Prog.lift (.load a3 (all o3 i3).toLoadRect n3)
          Prog.lift (.store a3 (all o3 i3) (f v v0 v1) Finset.univ v3 t3)
          if hq : q then do
            let v : Vec F s3 e3 ← Prog.lift (.load a3 (all o3 i3).toLoadRect k3)
            let _ : Vec F s2 e2 ← Prog.lift (.load a2 (all o2 i2).toLoadRect l2)
            Prog.lift (.store a2 (all o2 i2) (g v) Finset.univ w2 u2)
            pure ⟨⟩
          else do
            pure ⟨⟩
          pure ⟨⟩ : Prog (TpuEff nD τ sig (Elt F) Λ₀ .tc) PUnit) fun _ => K := by
  unfold has owns
  iintro ⟨⟨⟨⟨%f0, %hf0, H0⟩, ⟨%f1, %hf1, H1⟩, ⟨%f2, %hf2, H2⟩⟩, ⟨%f3, %hf3, H3⟩⟩, Hk⟩
  obtain rfl := h0.eq_unread hf0; obtain rfl := h1.eq_unread hf1; obtain rfl := h3.eq_unread hf3
  by_cases hc1 : p <;> by_cases hc2 : q <;>
  · first | rw [if_pos hc1] | rw [if_neg hc1]
    first | rw [if_pos hc2] | rw [if_neg hc2]
    sl_exec (disch := first | sl_exact hc1 | sl_exact hc2)
    sl_step
    iapply Hk
    isplitl [H0 H1 H2]
    · isplitl [H0]; · iapply (kept c h0 x0); iexact H0
      isplitl [H1]; · iapply (kept c h1 x1); iexact H1
      iexists _; isplitr; swap; · iexact H2
      ipureintro
      first
      | (have := (hc2 : ¬q); exact hf2)
      | (have := (hc1 : ¬p); exact (View.read_writes_full _ _ _ _ _).trans (congrArg g ((load_stored _ _ _ _).trans (congr3 f (load_all h3 s _) (load_all h0 x0 _) (load_all h1 x1 _)))))
      | (have := (hc1 : p); exact (View.read_writes_full _ _ _ _ _).trans (congrArg g ((load_stored _ _ _ _).trans (congr3 f (load_stored _ _ _ _) (load_all h0 x0 _) (load_all h1 x1 _)))))
    iexists _; isplitr; swap; · iexact H3
    ipureintro
    first
    | (have := (hc1 : ¬p); exact (View.read_writes_full _ _ _ _ _).trans (congr3 f (load_all h3 s _) (load_all h0 x0 _) (load_all h1 x1 _)))
    | (have := (hc1 : p); exact (View.read_writes_full _ _ _ _ _).trans (congr3 f (load_stored _ _ _ _) (load_all h0 x0 _) (load_all h1 x1 _)))

end Cert.Call
end
-- ==== Proof.FfnRun.lean ====
/- What each of the ten calls of the feed-forward layer computes of its blocks, and its body's run between its buffers. -/
module

public import proofs.«01_k».proof.Proof.Bodies
public import proofs.«01_k».proof.Proof.Gen.FfnIdeal
public import proofs.«01_k».proof.Proof.Gen.FfnIdeal.Points
public import proofs.«01_k».proof.Proof.Gen.FfnIdeal.Launch
public import Idealize.ShloMosaic.Lib.Pipeline.FrameBody
public import Idealize.ShloMosaic.Lib.Tactic
public import Idealize.ShloMosaic.Lib.WholeRead
public import Idealize.ShloMosaic.Lib.Ring
public import Idealize.ShloMosaic.Lib.WordCmp

@[expose] public section

set_option maxRecDepth 16384

noncomputable section

namespace Cert.Layer

open Cert.FfnIdeal Cert.FfnIdeal.Gen
open Cert.Call (run_pair run_triple run_acc has kept load_all congr3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (UR sig nD τ) ℕ

/-! ## What the bodies compute -/

/-- A tile's mean square plus the small constant, row by row. -/
def meanSq (x : Vec F S512x1024 .f32) : FVec F S512x1 .f32 :=
  addf (divf (shapeCast S512x1 (multiReduction .add [1] S512 (mulf x x) 0x00000000#32 reduces_S512x1024_S512 (.inl rfl) rfl) shapeCasts_S512_S512x1 : FVec F S512x1 .f32)
    (broadcast S512x1 (Scalar.ofBits .f32 0x44800000#32))) (broadcast S512x1 (Scalar.ofBits .f32 0x358637BD#32))

/-- The normalised tile. -/
def normT (x : Vec F S512x1024 .f32) (w : Vec F S1x1024 .f32) : Vec F S512x1024 .bf16 :=
  truncf .bf16 (mulf (mulf x (broadcastTo S512x1024 (rsqrt (meanSq x)) broadcasts_S512x1_S512x1024)) (broadcastTo S512x1024 w broadcasts_S1x1024_S512x1024)) bitsLt_bf16_f32

/-- Gate and up from the normalised tile. -/
def inT (a : Vec F S2048x1024 .bf16) (b : Vec F S1024x1408 .bf16) : Vec F S2048x1408 .bf16 :=
  truncf .bf16 (matmul (F := F) dot_S2048x1024_S1024x1408_S2048x1408_1_0_0_1_n_n none (shapeCast S2048x1024 a shapeCasts_S2048x1024_S2048x1024 : FVec F S2048x1024 .bf16)
    (shapeCast S1024x1408 b shapeCasts_S1024x1408_S1024x1408 : FVec F S1024x1408 .bf16) (constant S2048x1408 .f32 0x00000000#32)) bitsLt_bf16_f32

/-- The left half of a tile of gate and up. -/
def lhs (x : Vec F S256x5632 .bf16) : Vec F S256x2816 .bf16 := fun j => x ((Rect.unit (s := S256x5632) ![0, 0] S256x2816.size inb_S256x5632_S256x2816_0_0).emb j)
/-- The right half. -/
def rhs (x : Vec F S256x5632 .bf16) : Vec F S256x2816 .bf16 := fun j => x ((Rect.unit (s := S256x5632) ![0, 2816] S256x2816.size inb_S256x5632_S256x2816_0_2816).emb j)

/-- A half as the body widens it. -/
def wide (x : Vec F S256x2816 .bf16) : FVec F S256x2816 .f32 := extf .f32 (shapeCast S256x2816 x shapeCasts_S256x2816_S256x2816 : FVec F S256x2816 .bf16) bitsLt_bf16_f32

/-- The gate's activation times up. -/
def actT (g u : Vec F S256x2816 .bf16) : Vec F S256x2816 .bf16 :=
  truncf .bf16 (mulf (mulf (wide g) (logistic (wide g))) (wide u)) bitsLt_bf16_f32

/-- The layer's output tile. -/
def outT (a : Vec F S1024x2816 .bf16) (b : Vec F S2816x1024 .bf16) (r : Vec F S1024x1024 .f32) : Vec F S1024x1024 .f32 :=
  addf r (mulf (matmul (F := F) dot_S1024x2816_S2816x1024_S1024x1024_1_0_0_1_n_n none (shapeCast S1024x2816 a shapeCasts_S1024x2816_S1024x2816 : FVec F S1024x2816 .bf16)
    (shapeCast S2816x1024 b shapeCasts_S2816x1024_S2816x1024 : FVec F S2816x1024 .bf16) (constant S1024x1024 .f32 0x00000000#32)) (broadcast S1024x1024 (Scalar.ofBits .f32 0x3F000000#32)))

/-- The output weight's gradient, one more tile added. -/
def dwoutAcc (s : Vec F S256x1024 .f32) (a : Vec F S4096x256 .bf16) (b : Vec F S4096x1024 .f32) : Vec F S256x1024 .f32 :=
  shapeCast S256x1024 (addf s (matmul (F := F) dot_S4096x256_S4096x1024_S256x1024_0_0_1_1_n_n none (shapeCast S4096x256 a shapeCasts_S4096x256_S4096x256 : FVec F S4096x256 .bf16)
    (truncf .bf16 b bitsLt_bf16_f32) (constant S256x1024 .f32 0x00000000#32)) : FVec F S256x1024 .f32) shapeCasts_S256x1024_S256x1024
/-- Its accumulator cleared. -/
def dwoutZero : Vec F S256x1024 .f32 := shapeCast S256x1024 (broadcast S256x1024 (Scalar.ofBits .f32 0x00000000#32) : FVec F S256x1024 .f32) shapeCasts_S256x1024_S256x1024
/-- Its tile from the full accumulator. -/
def dwoutFin (s : Vec F S256x1024 .f32) : Vec F S256x1024 .f32 := mulf (F := F) s (broadcast S256x1024 (Scalar.ofBits .f32 0x3F000000#32))

/-- The activation's gradient. -/
def dactT (a : Vec F S2048x1024 .f32) (b : Vec F S1408x1024 .bf16) : Vec F S2048x1408 .bf16 :=
  truncf .bf16 (mulf (matmul (F := F) dot_S2048x1024_S1408x1024_S2048x1408_1_1_0_0_n_n none (truncf .bf16 a bitsLt_bf16_f32)
    (shapeCast S1408x1024 b shapeCasts_S1408x1024_S1408x1024 : FVec F S1408x1024 .bf16) (constant S2048x1408 .f32 0x00000000#32)) (broadcast S2048x1408 (Scalar.ofBits .f32 0x3F000000#32))) bitsLt_bf16_f32

/-- The gate's gradient. -/
def dgateT (g u d : Vec F S256x2816 .bf16) : Vec F S256x2816 .bf16 :=
  truncf .bf16 (addf (mulf (mulf (wide d) (wide u)) (logistic (wide g)))
    (mulf (mulf (wide g) (mulf (wide d) (wide u))) (mulf (logistic (wide g)) (subf (broadcast S256x2816 (Scalar.ofBits .f32 0x3F800000#32)) (logistic (wide g)))))) bitsLt_bf16_f32
/-- The up's gradient. -/
def dupT (g d : Vec F S256x2816 .bf16) : Vec F S256x2816 .bf16 :=
  truncf .bf16 (mulf (mulf (wide g) (logistic (wide g))) (wide d)) bitsLt_bf16_f32
/-- Both, side by side. -/
def dguOf (g u d : Vec F S256x2816 .bf16) : Vec F S256x5632 .bf16 :=
  View.canon [(⟨Rect.unit (s := S256x5632) ![0, 2816] S256x2816.size inb_S256x5632_S256x2816_0_2816, dupT g d⟩ : View.Piece (Elt F) S256x5632 .bf16),
    ⟨Rect.unit (s := S256x5632) ![0, 0] S256x2816.size inb_S256x5632_S256x2816_0_0, dgateT g u d⟩]

/-- Both, from a tile of gate and up. -/
def dguT (x : Vec F S256x5632 .bf16) (d : Vec F S256x2816 .bf16) : Vec F S256x5632 .bf16 := dguOf (lhs x) (rhs x) d

/-- The input weight's gradient, one more tile added. -/
def dwinAcc (s : Vec F S512x1408 .f32) (a : Vec F S4096x512 .bf16) (b : Vec F S4096x1408 .bf16) : Vec F S512x1408 .f32 :=
  shapeCast S512x1408 (addf s (matmul (F := F) dot_S4096x512_S4096x1408_S512x1408_0_0_1_1_n_n none (shapeCast S4096x512 a shapeCasts_S4096x512_S4096x512 : FVec F S4096x512 .bf16)
    (shapeCast S4096x1408 b shapeCasts_S4096x1408_S4096x1408 : FVec F S4096x1408 .bf16) (constant S512x1408 .f32 0x00000000#32)) : FVec F S512x1408 .f32) shapeCasts_S512x1408_S512x1408
/-- Its accumulator cleared. -/
def dwinZero : Vec F S512x1408 .f32 := shapeCast S512x1408 (broadcast S512x1408 (Scalar.ofBits .f32 0x00000000#32) : FVec F S512x1408 .f32) shapeCasts_S512x1408_S512x1408

/-- Its tile from the full accumulator. -/
def dwinFin (s : Vec F S512x1408 .f32) : Vec F S512x1408 .f32 := s

/-- The normalised tile's gradient, one more tile added. -/
def dxnAcc (s : Vec F S1024x1024 .f32) (a b : Vec F S1024x2816 .bf16) : Vec F S1024x1024 .f32 :=
  shapeCast S1024x1024 (addf s (matmul (F := F) dot_S1024x2816_S1024x2816_S1024x1024_1_1_0_0_n_n none (shapeCast S1024x2816 a shapeCasts_S1024x2816_S1024x2816 : FVec F S1024x2816 .bf16)
    (shapeCast S1024x2816 b shapeCasts_S1024x2816_S1024x2816 : FVec F S1024x2816 .bf16) (constant S1024x1024 .f32 0x00000000#32)) : FVec F S1024x1024 .f32) shapeCasts_S1024x1024_S1024x1024
/-- Its accumulator cleared. -/
def dxnZero : Vec F S1024x1024 .f32 := shapeCast S1024x1024 (broadcast S1024x1024 (Scalar.ofBits .f32 0x00000000#32) : FVec F S1024x1024 .f32) shapeCasts_S1024x1024_S1024x1024
/-- Its tile from the full accumulator. -/
def dxnFin (s : Vec F S1024x1024 .f32) : Vec F S1024x1024 .bf16 := truncf (F := F) .bf16 s bitsLt_bf16_f32

/-- A tile of the normalised gradient as the body widens it. -/
def wideN (d : Vec F S512x1024 .bf16) : FVec F S512x1024 .f32 := extf .f32 (shapeCast S512x1024 d shapeCasts_S512x1024_S512x1024 : FVec F S512x1024 .bf16) bitsLt_bf16_f32

/-- A tile's part of the norm weight's gradient. -/
def dnwT (x : Vec F S512x1024 .f32) (d : Vec F S512x1024 .bf16) : Vec F S1x1024 .f32 :=
  (shapeCast S1x1024 (multiReduction .add [0] S1024 (mulf (mulf x (broadcastTo S512x1024 (rsqrt (meanSq x)) broadcasts_S512x1_S512x1024)) (wideN d)) 0x00000000#32 reduces_S512x1024_S1024 (.inl rfl) rfl) shapeCasts_S1024_S1x1024 : FVec F S1x1024 .f32)

/-- What the mean square's gradient contributes to each token, before the token itself. -/
def dvarT (x : Vec F S512x1024 .f32) (w : Vec F S1x1024 .f32) (d : Vec F S512x1024 .bf16) : FVec F S512x1024 .f32 :=
  broadcastTo S512x1024 (shapeCast S512x1 (multiReduction .add [1] S512
      (divf (mulf (shapeCast S512x1 (multiReduction .add [1] S512 (mulf x (mulf (wideN d) (broadcastTo S512x1024 w broadcasts_S1x1024_S512x1024))) 0x00000000#32 reduces_S512x1024_S512 (.inl rfl) rfl) shapeCasts_S512_S512x1 : FVec F S512x1 .f32)
          (mulf (broadcast S512x1 (Scalar.ofBits .f32 0xBF000000#32)) (divf (rsqrt (meanSq x)) (meanSq x))))
        (broadcast S512x1 (Scalar.ofBits .f32 0x44800000#32)) : FVec F S512x1 .f32) 0x00000000#32 reduces_S512x1_S512 (.inl rfl) rfl) shapeCasts_S512_S512x1 : FVec F S512x1 .f32) broadcasts_S512x1_S512x1024

/-- The tokens' gradient tile. -/
def dhT (x : Vec F S512x1024 .f32) (w : Vec F S1x1024 .f32) (d : Vec F S512x1024 .bf16) (g : Vec F S512x1024 .f32) : Vec F S512x1024 .f32 :=
  addf (addf (addf (mulf (mulf (wideN d) (broadcastTo S512x1024 w broadcasts_S1x1024_S512x1024)) (broadcastTo S512x1024 (rsqrt (meanSq x)) broadcasts_S512x1_S512x1024))
    (mulf x (dvarT x w d))) (mulf (dvarT x w d) x)) g

/-- The norm weight's gradient, one more tile added. -/
def dnwAcc (s : Vec F S1x1024 .f32) (x : Vec F S512x1024 .f32) (d : Vec F S512x1024 .bf16) : Vec F S1x1024 .f32 :=
  addf (shapeCast S1x1024 s shapeCasts_S1x1024_S1x1024 : FVec F S1x1024 .f32) (dnwT x d)

/-! ## The bodies' runs -/

/-- The body's load of a left half. -/
theorem load_lhs {a : Memref sig .tc .vmem S256x5632 .bf16} (h : a.IsWhole) (x : Vec F S256x5632 .bf16) :
    View.readAt (Elt F) a.view (Rect.unit (s := S256x5632) ![0, 0] S256x2816.size inb_S256x5632_S256x2816_0_0).toLoadRect (h.unread x) = lhs x :=
  funext fun j => Memref.IsWhole.readAt_unread _ _ _ j
/-- The body's load of a right half. -/
theorem load_rhs {a : Memref sig .tc .vmem S256x5632 .bf16} (h : a.IsWhole) (x : Vec F S256x5632 .bf16) :
    View.readAt (Elt F) a.view (Rect.unit (s := S256x5632) ![0, 2816] S256x2816.size inb_S256x5632_S256x2816_0_2816).toLoadRect (h.unread x) = rhs x :=
  funext fun j => Memref.IsWhole.readAt_unread _ _ _ j

theorem run0 (c : Dev nD) (i : grid0.Coords)
    (a0 : Memref sig .tc .vmem S512x1024 .f32) (h0 : a0.IsWhole)
    (a1 : Memref sig .tc .vmem S1x1024 .f32) (h1 : a1.IsWhole)
    (a2 : Memref sig .tc .vmem S512x1024 .bf16) (h2 : a2.IsWhole)
    (x0 : Vec F S512x1024 .f32) (x1 : Vec F S1x1024 .f32) (E : Set ℕ) (K : sProp 𝕄) :
    iprop((has c a0 x0 ∗ has c a1 x1 ∗ ∃ d, has c a2 d)
        ∗ (iprop(has c a0 x0 ∗ has c a1 x1 ∗ has c a2 (normT x0 x1)) -∗ K))
      ⊢ wp frame (wpE (defs₀ (F := F)) Variants.none c none) E (cc0_ffn_norm i a0 h0 a1 h1 a2 h2) fun _ => K :=
  run_pair c h0 h1 normT x0 x1 E K

theorem run1 (c : Dev nD) (i : grid1.Coords)
    (a0 : Memref sig .tc .vmem S2048x1024 .bf16) (h0 : a0.IsWhole)
    (a1 : Memref sig .tc .vmem S1024x1408 .bf16) (h1 : a1.IsWhole)
    (a2 : Memref sig .tc .vmem S2048x1408 .bf16) (h2 : a2.IsWhole)
    (x0 : Vec F S2048x1024 .bf16) (x1 : Vec F S1024x1408 .bf16) (E : Set ℕ) (K : sProp 𝕄) :
    iprop((has c a0 x0 ∗ has c a1 x1 ∗ ∃ d, has c a2 d)
        ∗ (iprop(has c a0 x0 ∗ has c a1 x1 ∗ has c a2 (inT x0 x1)) -∗ K))
      ⊢ wp frame (wpE (defs₀ (F := F)) Variants.none c none) E (cc1_ffn_in i a0 h0 a1 h1 a2 h2) fun _ => K :=
  run_pair c h0 h1 inT x0 x1 E K

theorem run2 (c : Dev nD) (i : grid2.Coords)
    (a0 : Memref sig .tc .vmem S256x5632 .bf16) (h0 : a0.IsWhole)
    (a1 : Memref sig .tc .vmem S256x2816 .bf16) (h1 : a1.IsWhole)
    (x0 : Vec F S256x5632 .bf16) (E : Set ℕ) (K : sProp 𝕄) :
    iprop((has c a0 x0 ∗ ∃ d, has c a1 d)
        ∗ (iprop(has c a0 x0 ∗ has c a1 (actT (lhs x0) (rhs x0))) -∗ K))
      ⊢ wp frame (wpE (defs₀ (F := F)) Variants.none c none) E (cc2_ffn_act i a0 h0 a1 h1) fun _ => K := by
  unfold cc2_ffn_act has owns
  iintro ⟨⟨⟨%f0, %hf0, H0⟩, ⟨%d, %f, -, H1⟩⟩, Hk⟩
  obtain rfl := h0.eq_unread hf0
  sl_exec
  sl_step
  iapply Hk
  isplitl [H0]; · iapply (kept c h0 x0); iexact H0
  iexists _; isplitr; swap; · iexact H1
  ipureintro
  exact (View.read_writes_full _ _ _ _ _).trans (congrArg₂ actT (load_lhs h0 x0) (load_rhs h0 x0))

theorem run3 (c : Dev nD) (i : grid3.Coords)
    (a0 : Memref sig .tc .vmem S1024x2816 .bf16) (h0 : a0.IsWhole)
    (a1 : Memref sig .tc .vmem S2816x1024 .bf16) (h1 : a1.IsWhole)
    (a2 : Memref sig .tc .vmem S1024x1024 .f32) (h2 : a2.IsWhole)
    (a3 : Memref sig .tc .vmem S1024x1024 .f32) (h3 : a3.IsWhole)
    (x0 : Vec F S1024x2816 .bf16) (x1 : Vec F S2816x1024 .bf16) (x2 : Vec F S1024x1024 .f32) (E : Set ℕ) (K : sProp 𝕄) :
    iprop((has c a0 x0 ∗ has c a1 x1 ∗ has c a2 x2 ∗ ∃ d, has c a3 d)
        ∗ (iprop(has c a0 x0 ∗ has c a1 x1 ∗ has c a2 x2 ∗ has c a3 (outT x0 x1 x2)) -∗ K))
      ⊢ wp frame (wpE (defs₀ (F := F)) Variants.none c none) E (cc3_ffn_out i a0 h0 a1 h1 a2 h2 a3 h3) fun _ => K :=
  run_triple c h0 h1 h2 outT x0 x1 x2 E K

theorem run5 (c : Dev nD) (i : grid5.Coords)
    (a0 : Memref sig .tc .vmem S2048x1024 .f32) (h0 : a0.IsWhole)
    (a1 : Memref sig .tc .vmem S1408x1024 .bf16) (h1 : a1.IsWhole)
    (a2 : Memref sig .tc .vmem S2048x1408 .bf16) (h2 : a2.IsWhole)
    (x0 : Vec F S2048x1024 .f32) (x1 : Vec F S1408x1024 .bf16) (E : Set ℕ) (K : sProp 𝕄) :
    iprop((has c a0 x0 ∗ has c a1 x1 ∗ ∃ d, has c a2 d)
        ∗ (iprop(has c a0 x0 ∗ has c a1 x1 ∗ has c a2 (dactT x0 x1)) -∗ K))
      ⊢ wp frame (wpE (defs₀ (F := F)) Variants.none c none) E (cc5_ffn_dact i a0 h0 a1 h1 a2 h2) fun _ => K :=
  run_pair c h0 h1 dactT x0 x1 E K

/-- The two stores of the gradients leave them side by side. -/
theorem write_dgu (v : View sig .tc .vmem S256x5632 .bf16) (f : v.ty.Contents (Elt F)) (g u d : Vec F S256x2816 .bf16) :
    v.read (Elt F) (v.writes (Elt F) f [(⟨Rect.unit (s := S256x5632) ![0, 2816] S256x2816.size inb_S256x5632_S256x2816_0_2816, dupT g d⟩ : View.Piece (Elt F) S256x5632 .bf16),
      ⟨Rect.unit (s := S256x5632) ![0, 0] S256x2816.size inb_S256x5632_S256x2816_0_0, dgateT g u d⟩]) = dguOf g u d :=
  View.read_writes_eq_canon _ _ _ (fun y => View.cover_of_tiledL (s := S256x5632) _ S256x2816.size (by sl_kernel_rfl) y)

theorem run6 (c : Dev nD) (i : grid6.Coords)
    (a0 : Memref sig .tc .vmem S256x5632 .bf16) (h0 : a0.IsWhole)
    (a1 : Memref sig .tc .vmem S256x2816 .bf16) (h1 : a1.IsWhole)
    (a2 : Memref sig .tc .vmem S256x5632 .bf16) (h2 : a2.IsWhole)
    (x0 : Vec F S256x5632 .bf16) (x1 : Vec F S256x2816 .bf16) (E : Set ℕ) (K : sProp 𝕄) :
    iprop((has c a0 x0 ∗ has c a1 x1 ∗ ∃ d, has c a2 d)
        ∗ (iprop(has c a0 x0 ∗ has c a1 x1 ∗ has c a2 (dguT x0 x1)) -∗ K))
      ⊢ wp frame (wpE (defs₀ (F := F)) Variants.none c none) E (cc6_ffn_dgu i a0 h0 a1 h1 a2 h2) fun _ => K := by
  unfold cc6_ffn_dgu has owns
  iintro ⟨⟨⟨%f0, %hf0, H0⟩, ⟨%f1, %hf1, H1⟩, ⟨%d, %f, -, H2⟩⟩, Hk⟩
  obtain rfl := h0.eq_unread hf0; obtain rfl := h1.eq_unread hf1
  sl_exec
  sl_step
  iapply Hk
  isplitl [H0]; · iapply (kept c h0 x0); iexact H0
  isplitl [H1]; · iapply (kept c h1 x1); iexact H1
  iexists _; isplitr; swap; · iexact H2
  ipureintro
  exact (write_dgu a2.view f (View.readAt (Elt F) a0.view (Rect.unit (s := S256x5632) ![0, 0] S256x2816.size inb_S256x5632_S256x2816_0_0).toLoadRect (h0.unread x0))
      (View.readAt (Elt F) a0.view (Rect.unit (s := S256x5632) ![0, 2816] S256x2816.size inb_S256x5632_S256x2816_0_2816).toLoadRect (h0.unread x0))
      (View.readAt (Elt F) a1.view (Rect.unit (s := S256x2816) ![0, 0] S256x2816.size inb_S256x2816_S256x2816_0_0).toLoadRect (h1.unread x1))).trans
    ((congrArg₂ (fun p q => dguOf p q _) (load_lhs h0 x0) (load_rhs h0 x0)).trans (congrArg (dguOf _ _) (load_all h1 x1 _)))

/-- The branch of a point that clears the accumulator. -/
abbrev first {n : ℕ} (k : Fin n) : Prop := (Scalar.cmpi .ne (Scalar.extui (Scalar.cmpi .eq (BitVec.ofNat 32 k.val) 0#32)) 0#32) = 1#1

theorem run4 (c : Dev nD) (i : grid4.Coords)
    (a0 : Memref sig .tc .vmem S4096x256 .bf16) (h0 : a0.IsWhole) (a1 : Memref sig .tc .vmem S4096x1024 .f32) (h1 : a1.IsWhole)
    (a2 : Memref sig .tc .vmem S256x1024 .f32) (h2 : a2.IsWhole) (a3 : Memref sig .tc .vmem S256x1024 .f32) (h3 : a3.IsWhole)
    (x0 : Vec F S4096x256 .bf16) (x1 : Vec F S4096x1024 .f32) (d : Vec F S256x1024 .f32) (s : Vec F S256x1024 .f32) (E : Set ℕ) (K : sProp 𝕄) :
    iprop(((has c a0 x0 ∗ has c a1 x1 ∗ has c a2 d) ∗ has c a3 s)
        ∗ (iprop((has c a0 x0 ∗ has c a1 x1 ∗ has c a2 (if k4_cond2 i = 1#1 then dwoutFin (dwoutAcc (if first (i 2) then dwoutZero else s) x0 x1) else d))
            ∗ has c a3 (dwoutAcc (if first (i 2) then dwoutZero else s) x0 x1)) -∗ K))
      ⊢ wp frame (wpE (defs₀ (F := F)) Variants.none c none) E (cc4_ffn_dwout i a0 h0 a1 h1 a2 h2 a3 h3) fun _ => K :=
  run_acc c h0 h1 h3 dwoutZero dwoutAcc dwoutFin x0 x1 d s E K

theorem run7 (c : Dev nD) (i : grid7.Coords)
    (a0 : Memref sig .tc .vmem S4096x512 .bf16) (h0 : a0.IsWhole) (a1 : Memref sig .tc .vmem S4096x1408 .bf16) (h1 : a1.IsWhole)
    (a2 : Memref sig .tc .vmem S512x1408 .f32) (h2 : a2.IsWhole) (a3 : Memref sig .tc .vmem S512x1408 .f32) (h3 : a3.IsWhole)
    (x0 : Vec F S4096x512 .bf16) (x1 : Vec F S4096x1408 .bf16) (d : Vec F S512x1408 .f32) (s : Vec F S512x1408 .f32) (E : Set ℕ) (K : sProp 𝕄) :
    iprop(((has c a0 x0 ∗ has c a1 x1 ∗ has c a2 d) ∗ has c a3 s)
        ∗ (iprop((has c a0 x0 ∗ has c a1 x1 ∗ has c a2 (if k7_cond2 i = 1#1 then dwinFin (dwinAcc (if first (i 2) then dwinZero else s) x0 x1) else d))
            ∗ has c a3 (dwinAcc (if first (i 2) then dwinZero else s) x0 x1)) -∗ K))
      ⊢ wp frame (wpE (defs₀ (F := F)) Variants.none c none) E (cc7_ffn_dwin i a0 h0 a1 h1 a2 h2 a3 h3) fun _ => K :=
  run_acc c h0 h1 h3 dwinZero dwinAcc dwinFin x0 x1 d s E K

theorem run8 (c : Dev nD) (i : grid8.Coords)
    (a0 : Memref sig .tc .vmem S1024x2816 .bf16) (h0 : a0.IsWhole) (a1 : Memref sig .tc .vmem S1024x2816 .bf16) (h1 : a1.IsWhole)
    (a2 : Memref sig .tc .vmem S1024x1024 .bf16) (h2 : a2.IsWhole) (a3 : Memref sig .tc .vmem S1024x1024 .f32) (h3 : a3.IsWhole)
    (x0 : Vec F S1024x2816 .bf16) (x1 : Vec F S1024x2816 .bf16) (d : Vec F S1024x1024 .bf16) (s : Vec F S1024x1024 .f32) (E : Set ℕ) (K : sProp 𝕄) :
    iprop(((has c a0 x0 ∗ has c a1 x1 ∗ has c a2 d) ∗ has c a3 s)
        ∗ (iprop((has c a0 x0 ∗ has c a1 x1 ∗ has c a2 (if k8_cond2 i = 1#1 then dxnFin (dxnAcc (if first (i 2) then dxnZero else s) x0 x1) else d))
            ∗ has c a3 (dxnAcc (if first (i 2) then dxnZero else s) x0 x1)) -∗ K))
      ⊢ wp frame (wpE (defs₀ (F := F)) Variants.none c none) E (cc8_ffn_dxn i a0 h0 a1 h1 a2 h2 a3 h3) fun _ => K :=
  run_acc c h0 h1 h3 dxnZero dxnAcc dxnFin x0 x1 d s E K

theorem cond9 (i : grid9.Coords) : k9_cond2 i = 1#1 ↔ ¬k9_cond1 i = 1#1 := by
  unfold k9_cond1 k9_cond2
  dsimp only
  generalize Scalar.andi (Scalar.cmpi .eq (BitVec.ofNat 32 (i 0).val) 0#32) (Scalar.cmpi .eq (BitVec.ofNat 32 (i 1).val) 0#32) = z
  revert z; decide

set_option maxHeartbeats 1600000 in
theorem run9 (c : Dev nD) (i : grid9.Coords)
    (a0 : Memref sig .tc .vmem S512x1024 .f32) (h0 : a0.IsWhole) (a1 : Memref sig .tc .vmem S1x1024 .f32) (h1 : a1.IsWhole)
    (a2 : Memref sig .tc .vmem S512x1024 .bf16) (h2 : a2.IsWhole) (a3 : Memref sig .tc .vmem S512x1024 .f32) (h3 : a3.IsWhole)
    (a4 : Memref sig .tc .vmem S512x1024 .f32) (h4 : a4.IsWhole) (a5 : Memref sig .tc .vmem S1x1024 .f32) (h5 : a5.IsWhole)
    (x0 : Vec F S512x1024 .f32) (x1 : Vec F S1x1024 .f32) (x2 : Vec F S512x1024 .bf16) (x3 : Vec F S512x1024 .f32) (d : Vec F S1x1024 .f32) (E : Set ℕ) (K : sProp 𝕄) :
    iprop((has c a0 x0 ∗ has c a1 x1 ∗ has c a2 x2 ∗ has c a3 x3 ∗ (∃ d, has c a4 d) ∗ has c a5 d)
        ∗ (iprop(has c a0 x0 ∗ has c a1 x1 ∗ has c a2 x2 ∗ has c a3 x3 ∗ has c a4 (dhT x0 x1 x2 x3)
            ∗ has c a5 (if k9_cond1 i = 1#1 then dnwT x0 x2 else dnwAcc d x0 x2)) -∗ K))
      ⊢ wp frame (wpE (defs₀ (F := F)) Variants.none c none) E (cc9_ffn_dnorm i a0 h0 a1 h1 a2 h2 a3 h3 a4 h4 a5 h5) fun _ => K := by
  unfold cc9_ffn_dnorm k9_part1 has owns
  iintro ⟨⟨⟨%f0, %hf0, H0⟩, ⟨%f1, %hf1, H1⟩, ⟨%f2, %hf2, H2⟩, ⟨%f3, %hf3, H3⟩, ⟨%d4, %f4, -, H4⟩, ⟨%f5, %hf5, H5⟩⟩, Hk⟩
  obtain rfl := h0.eq_unread hf0; obtain rfl := h1.eq_unread hf1; obtain rfl := h2.eq_unread hf2; obtain rfl := h3.eq_unread hf3; obtain rfl := h5.eq_unread hf5
  by_cases hc1 : k9_cond1 i = 1#1 <;>
  · have hc2 := cond9 i
    simp only [hc1, not_true_eq_false, not_false_eq_true, iff_false, iff_true] at hc2
    simp only [hc1, ↓reduceIte]
    sl_exec (disch := first | sl_exact hc1 | sl_exact hc2)
    sl_step
    iapply Hk
    isplitl [H0]; · iapply (kept c h0 x0); iexact H0
    isplitl [H1]; · iapply (kept c h1 x1); iexact H1
    isplitl [H2]; · iapply (kept c h2 x2); iexact H2
    isplitl [H3]; · iapply (kept c h3 x3); iexact H3
    isplitl [H4]
    · iexists _; isplitr; swap; · iexact H4
      ipureintro
      exact (View.read_writes_full _ _ _ _ _).trans ((congrArg₂ (fun p q => dhT p q _ _) (load_all h0 x0 _) (load_all h1 x1 _)).trans (congrArg₂ (dhT _ _) (load_all h2 x2 _) (load_all h3 x3 _)))
    iexists _; isplitr; swap; · iexact H5
    ipureintro
    first
    | exact (View.read_writes_full _ _ _ _ _).trans (congrArg₂ dnwT (load_all h0 x0 _) (load_all h2 x2 _))
    | exact (View.read_writes_full _ _ _ _ _).trans (congr3 dnwAcc (load_all h5 d _) (load_all h0 x0 _) (load_all h2 x2 _))

theorem dguT_eq (x : Vec F S256x5632 .bf16) (d : Vec F S256x2816 .bf16) : dguT x d = dguOf (lhs x) (rhs x) d := rfl

attribute [irreducible] dguT

end Cert.Layer
end
-- ==== Proof.CallDat.lean ====
/- A call's data from what its windows hold after each point, and its obligation from its body's run: for a call that carries nothing, and for one that carries an accumulator. -/
module

public import proofs.«01_k».proof.Proof.Calls

@[expose] public section

noncomputable section

namespace Cert.Call

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {nD : ℕ} {τ : Topo} {sig : RefSig} {Λ₀ : Idealize.SL.Sem.Labels}

local notation "𝕄" => MT nD τ sig Unit (Elt F) ℕ (UR sig nD τ) ℕ

/-- A call's data, whole arrays of `V` and no dues, with an invariant of its own. -/
def datOf (cfg : Cfg sig Λ₀) (V : Valuation τ sig (Elt F)) (c : Dev nD) (Φ : Fin (cfg.N + 1) → sProp 𝕄)
    (after : (w : Fin cfg.W) → Fin cfg.N → (cfg.win w).block.Idx → Elt F (cfg.win w).elt) : Dat τ (Elt F) Unit ℕ (UR sig nD τ) ℕ cfg c where
  A w := V (Proc.devRef .tc (Pipeline.arrRef cfg.spec w))
  after := after
  Φ := Φ
  q _ := fullShare
  owed _ := 0

/-- A call that carries nothing. -/
abbrev still (cfg : Cfg sig Λ₀) (V : Valuation τ sig (Elt F)) (c : Dev nD)
    (after : (w : Fin cfg.W) → Fin cfg.N → (cfg.win w).block.Idx → Elt F (cfg.win w).elt) : Dat τ (Elt F) Unit ℕ (UR sig nD τ) ℕ cfg c :=
  datOf cfg V c (fun _ => Pipeline.scopedRest cfg.spec c) after

/-- A call that carries an accumulator in the scratch `sc`. -/
abbrev heaping (cfg : Cfg sig Λ₀) (V : Valuation τ sig (Elt F)) (c : Dev nD) {s : Shape} {e : EltTy} (sc : Ref sig .tc) (m : Memref sig .tc .vmem s e) (acc : ℕ → s.Idx → Elt F e)
    (after : (w : Fin cfg.W) → Fin cfg.N → (cfg.win w).block.Idx → Elt F (cfg.win w).elt) : Dat τ (Elt F) Unit ℕ (UR sig nD τ) ℕ cfg c :=
  datOf cfg V c (fun t => iprop(carry c m acc t.val ∗ Pipeline.scopedRestBut cfg.spec c [sc])) after

/-- What an input window holds at a point is its block there. -/
theorem found {cfg : Cfg sig Λ₀} {V : Valuation τ sig (Elt F)} {c : Dev nD} {Φ : Fin (cfg.N + 1) → sProp 𝕄}
    {after : (w : Fin cfg.W) → Fin cfg.N → (cfg.win w).block.Idx → Elt F (cfg.win w).elt} (w : Fin cfg.W) (hw : (cfg.win w).isOut = false := by rfl) (hl : ∀ i, cfg.idle w i = false := by exact fun _ => rfl)
    (hc : ∀ t t' : Fin cfg.N, (cfg.win w).index t = (cfg.win w).index t' → (cfg.win w).clip (cfg.grid.coords t) = (cfg.win w).clip (cfg.grid.coords t') := by exact fun _ _ _ => rfl)
    (hk : ∀ t, (cfg.win w).cut (cfg.grid.coords t) (after w t) = (datOf cfg V c Φ after).blockOf w t := by exact fun _ => rfl)
    (hf : ∀ t d, (datOf cfg V c Φ after).fetched w t d = after w t := by exact fun _ _ => rfl) (t : Fin cfg.N) (d : (cfg.win w).block.Idx → Elt F (cfg.win w).elt) :
    (datOf cfg V c Φ after).before w t d = after w t :=
  ((datOf cfg V c Φ after).before_in_eq_fetched w hw hl hc hk t d).trans (hf t d)

/-- Such a call's obligation, from its body's run; its first `n` windows are inputs. -/
theorem obl {cfg : Cfg sig Λ₀} {V : Valuation τ sig (Elt F)} {c : Dev nD} {Φ : Fin (cfg.N + 1) → sProp 𝕄}
    {after : (w : Fin cfg.W) → Fin cfg.N → (cfg.win w).block.Idx → Elt F (cfg.win w).elt} {defs₀ : Defs nD τ sig (Elt F) Λ₀} {body : Fin cfg.N → Prog (TpuEff nD τ sig (Elt F) Λ₀ .tc) (Λ₀.Result cfg.body)} (n : ℕ) (row : ∀ t, defs₀ .tc cfg.body (cfg.bodyArgs t (cfg.slots t)) = body t)
    (run : ∀ (t : Fin cfg.N) (K : sProp 𝕄),
      iprop(Φ t.castSucc ∗ bigSep Finset.univ (entry (datOf cfg V c Φ after) (fun w => decide (w.val < n)) t)
          ∗ (iprop(Φ t.succ ∗ bigSep Finset.univ (leave (datOf cfg V c Φ after) t)) -∗ K)) ⊢ wp frame (wpE defs₀ Variants.none c none) Set.univ (body t) fun _ => K)
    (found : ∀ w, decide (w.val < n) = true → ∀ t d, (datOf cfg V c Φ after).before w t d = (datOf cfg V c Φ after).after w t)
    (idle : ∀ w t, cfg.idle w (cfg.grid.coords t) = true → (cfg.win w).flush t = false := by exact fun _ _ h => absurd h Bool.false_ne_true) :
    BodyObligation (datOf cfg V c Φ after) defs₀ Variants.none () Set.univ :=
  obligation (datOf cfg V c Φ after) (fun w => decide (w.val < n)) idle found (fun _ => rfl) fun t K => by
    rw [row t]; exact run t K

end Cert.Call
end
-- ==== Proof.FfnDat.lean ====
/- Each call of the feed-forward layer over its whole grid: what its arrays and its accumulator hold point by point, from any
   contents of its arrays at its start. -/
module

public import proofs.«01_k».proof.Proof.FfnRun
public import proofs.«01_k».proof.Proof.CallDat
public import Idealize.ShloMosaic.Lib.Pipeline.FrameBody

@[expose] public section

set_option maxRecDepth 16384

noncomputable section

namespace Cert.Layer

open Cert.FfnIdeal Cert.FfnIdeal.Gen
open Cert.Call (still heaping found obl has slack beside framed framed_of framed_acc at_iff accum accum_succ accum_of carry blockOf leave leave_if idle_flush obligation)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (UR sig nD τ) ℕ

variable (W : Dev nD → Valuation τ sig (Elt F)) (c : Dev nD)

/-! ## The norm -/

def dat0 : Dat τ (Elt F) Unit ℕ (UR sig nD τ) ℕ cfg0 c :=
  still cfg0 (W c) c fun w t => match w with
    | ⟨0, _⟩ => blockOf cfg0 (W c) 0 t
    | ⟨1, _⟩ => blockOf cfg0 (W c) 1 t
    | ⟨2, _⟩ => normT (blockOf cfg0 (W c) 0 t) (blockOf cfg0 (W c) 1 t)

set_option backward.isDefEq.respectTransparency.types false in
theorem obl0 : BodyObligation (dat0 W c) (defs₀ (F := F)) Variants.none () Set.univ :=
  obl 2 (body := bodyAt0) (fun t => by unfold defs₀; rw [Defs.onTc_tc]) (fun t K => by
    rw [bigSep_W0, bigSep_W0]
    exact framed (sep_mono .rfl (sep_mono .rfl (slack c _))) (run0 c (grid0.coords t) _ _ _ _ _ _ (blockOf cfg0 (W c) 0 t) (blockOf cfg0 (W c) 1 t) _) K)
    (fun w hw => by fin_cases w <;> first | exact absurd hw (by decide) | exact found _)

/-! ## Gate and up -/

def dat1 : Dat τ (Elt F) Unit ℕ (UR sig nD τ) ℕ cfg1 c :=
  still cfg1 (W c) c fun w t => match w with
    | ⟨0, _⟩ => blockOf cfg1 (W c) 0 t
    | ⟨1, _⟩ => blockOf cfg1 (W c) 1 t
    | ⟨2, _⟩ => inT (blockOf cfg1 (W c) 0 t) (blockOf cfg1 (W c) 1 t)

set_option backward.isDefEq.respectTransparency.types false in
theorem obl1 : BodyObligation (dat1 W c) (defs₀ (F := F)) Variants.none () Set.univ :=
  obl 2 (body := bodyAt1) (fun t => by unfold defs₀; rw [Defs.onTc_tc]) (fun t K => by
    rw [bigSep_W1, bigSep_W1]
    exact framed (sep_mono .rfl (sep_mono .rfl (slack c _))) (run1 c (grid1.coords t) _ _ _ _ _ _ (blockOf cfg1 (W c) 0 t) (blockOf cfg1 (W c) 1 t) _) K)
    (fun w hw => by fin_cases w <;> first | exact absurd hw (by decide) | exact found _)

/-! ## The activation -/

def dat2 : Dat τ (Elt F) Unit ℕ (UR sig nD τ) ℕ cfg2 c :=
  still cfg2 (W c) c fun w t => match w with
    | ⟨0, _⟩ => blockOf cfg2 (W c) 0 t
    | ⟨1, _⟩ => actT (lhs (blockOf cfg2 (W c) 0 t)) (rhs (blockOf cfg2 (W c) 0 t))

set_option backward.isDefEq.respectTransparency.types false in
theorem obl2 : BodyObligation (dat2 W c) (defs₀ (F := F)) Variants.none () Set.univ :=
  obl 1 (body := bodyAt2) (fun t => by unfold defs₀; rw [Defs.onTc_tc]) (fun t K => by
    rw [bigSep_W2, bigSep_W2]
    exact framed (sep_mono .rfl (slack c _)) (run2 c (grid2.coords t) _ _ _ _ (blockOf cfg2 (W c) 0 t) _) K)
    (fun w hw => by fin_cases w <;> first | exact absurd hw (by decide) | exact found _)

/-! ## The layer's output -/

def dat3 : Dat τ (Elt F) Unit ℕ (UR sig nD τ) ℕ cfg3 c :=
  still cfg3 (W c) c fun w t => match w with
    | ⟨0, _⟩ => blockOf cfg3 (W c) 0 t
    | ⟨1, _⟩ => blockOf cfg3 (W c) 1 t
    | ⟨2, _⟩ => blockOf cfg3 (W c) 2 t
    | ⟨3, _⟩ => outT (blockOf cfg3 (W c) 0 t) (blockOf cfg3 (W c) 1 t) (blockOf cfg3 (W c) 2 t)

set_option backward.isDefEq.respectTransparency.types false in
theorem obl3 : BodyObligation (dat3 W c) (defs₀ (F := F)) Variants.none () Set.univ :=
  obl 3 (body := bodyAt3) (fun t => by unfold defs₀; rw [Defs.onTc_tc]) (fun t K => by
    rw [bigSep_W3, bigSep_W3]
    exact framed (sep_mono .rfl (sep_mono .rfl (sep_mono .rfl (slack c _)))) (run3 c (grid3.coords t) _ _ _ _ _ _ _ _ (blockOf cfg3 (W c) 0 t) (blockOf cfg3 (W c) 1 t) (blockOf cfg3 (W c) 2 t) _) K)
    (fun w hw => by fin_cases w <;> first | exact absurd hw (by decide) | exact found _)

/-! ## The output weight's gradient -/

/-- The accumulator into point `n`. -/
def acc4 : ℕ → Vec F S256x1024 .f32 := accum cfg4.N 4 (dwoutZero (F := F)) fun t s => dwoutAcc s (blockOf cfg4 (W c) 0 t) (blockOf cfg4 (W c) 1 t)

theorem coord4 (t : Fin cfg4.N) : (grid4.coords t 2).val = t.val % 4 :=
  have e : (grid4.coords t 2).val = t.val / 1 % 4 := Pipeline.Grid.coords_val t 2 (by decide) rfl
  e.trans (by rw [Nat.div_one])

theorem first4_iff (t : Fin cfg4.N) : first (grid4.coords t 2) ↔ t.val % 4 = 0 := by
  rw [← coord4 t]
  exact at_iff (lt_trans (grid4.coords t 2).isLt (by decide)) (by decide)

theorem last4_iff (t : Fin cfg4.N) : k4_cond2 (grid4.coords t) = 1#1 ↔ t.val % 4 = 3 := by
  rw [← coord4 t]
  exact at_iff (lt_trans (grid4.coords t 2).isLt (by decide)) (by decide)

def dat4 : Dat τ (Elt F) Unit ℕ (UR sig nD τ) ℕ cfg4 c :=
  heaping cfg4 (W c) c cc4_scratch0 (Memref.whole cc4_scratch0) (acc4 W c) fun w t => match w with
    | ⟨0, _⟩ => blockOf cfg4 (W c) 0 t
    | ⟨1, _⟩ => blockOf cfg4 (W c) 1 t
    | ⟨2, _⟩ => dwoutFin (acc4 W c (t.val + 1))

theorem idle4_flush (w : Fin cfg4.W) (t : Fin cfg4.N) (h : cfg4.idle w (grid4.coords t) = true) : (cfg4.win w).flush t = false := by
  fin_cases w <;> first
  | exact absurd h Bool.false_ne_true
  | exact idle_flush (cfg := cfg4) (p := k4_cond2 (grid4.coords t) = 1#1) rfl (fun hf => (last4_iff t).mpr ((flush4_2 t).mp hf)) h

set_option backward.isDefEq.respectTransparency.types false in
theorem obl4 : BodyObligation (dat4 W c) (defs₀ (F := F)) Variants.none () Set.univ :=
  obl 2 (body := bodyAt4) (fun t => by unfold defs₀; rw [Defs.onTc_tc]) (fun t K => by
    rw [bigSep_W4, bigSep_W4]
    refine framed_acc c (G := fun K => wp frame (wpE (defs₀ (F := F)) Variants.none c none) Set.univ (bodyAt4 t) fun _ => K) (beside (beside .rfl)) (fun d => sep_mono .rfl (sep_mono .rfl (leave_if (dat4 W c) t 2 (p := k4_cond2 (grid4.coords t) = 1#1) rfl d))) (fun d s hs K => ?_) K
    have e : dwoutAcc (if first (grid4.coords t 2) then dwoutZero else s) (blockOf cfg4 (W c) 0 t) (blockOf cfg4 (W c) 1 t) = acc4 W c (t.val + 1) := accum_of t (first4_iff t) hs
    have h : (_ : sProp 𝕄) ⊢ wp frame (wpE (defs₀ (F := F)) Variants.none c none) Set.univ (bodyAt4 t) fun _ => K := run4 c (grid4.coords t) _ _ _ _ _ _ _ _ (blockOf cfg4 (W c) 0 t) (blockOf cfg4 (W c) 1 t) ((dat4 W c).before 2 t d) s Set.univ K
    rw [e] at h
    exact h)
    (fun w hw => by fin_cases w <;> first | exact absurd hw (by decide) | exact found _) idle4_flush

theorem rest4 : (Pipeline.scopedRest spec4 c : sProp 𝕄) = iprop((∃ d, has c (Memref.whole cc4_scratch0) d) ∗ Pipeline.scopedRestBut spec4 c [cc4_scratch0]) := by
  simp only [has, owns_whole]
  exact Pipeline.scopedRest_split_of_list spec4 c [cc4_scratch0] (by decide) (by decide)

/-! ## The activation's gradient -/

def dat5 : Dat τ (Elt F) Unit ℕ (UR sig nD τ) ℕ cfg5 c :=
  still cfg5 (W c) c fun w t => match w with
    | ⟨0, _⟩ => blockOf cfg5 (W c) 0 t
    | ⟨1, _⟩ => blockOf cfg5 (W c) 1 t
    | ⟨2, _⟩ => dactT (blockOf cfg5 (W c) 0 t) (blockOf cfg5 (W c) 1 t)

set_option backward.isDefEq.respectTransparency.types false in
theorem obl5 : BodyObligation (dat5 W c) (defs₀ (F := F)) Variants.none () Set.univ :=
  obl 2 (body := bodyAt5) (fun t => by unfold defs₀; rw [Defs.onTc_tc]) (fun t K => by
    rw [bigSep_W5, bigSep_W5]
    exact framed (sep_mono .rfl (sep_mono .rfl (slack c _))) (run5 c (grid5.coords t) _ _ _ _ _ _ (blockOf cfg5 (W c) 0 t) (blockOf cfg5 (W c) 1 t) _) K)
    (fun w hw => by fin_cases w <;> first | exact absurd hw (by decide) | exact found _)

/-! ## Gate's and up's gradients -/

def dat6 : Dat τ (Elt F) Unit ℕ (UR sig nD τ) ℕ cfg6 c :=
  still cfg6 (W c) c fun w t => match w with
    | ⟨0, _⟩ => blockOf cfg6 (W c) 0 t
    | ⟨1, _⟩ => blockOf cfg6 (W c) 1 t
    | ⟨2, _⟩ => dguT (blockOf cfg6 (W c) 0 t) (blockOf cfg6 (W c) 1 t)

set_option backward.isDefEq.respectTransparency.types false in
theorem obl6 : BodyObligation (dat6 W c) (defs₀ (F := F)) Variants.none () Set.univ :=
  obl 2 (body := bodyAt6) (fun t => by unfold defs₀; rw [Defs.onTc_tc]) (fun t K => by
    rw [bigSep_W6, bigSep_W6]
    exact framed (sep_mono .rfl (sep_mono .rfl (slack c _))) (run6 c (grid6.coords t) _ _ _ _ _ _ (blockOf cfg6 (W c) 0 t) (blockOf cfg6 (W c) 1 t) _) K)
    (fun w hw => by fin_cases w <;> first | exact absurd hw (by decide) | exact found _)

/-! ## The input weight's gradient -/

/-- The accumulator into point `n`. -/
def acc7 : ℕ → Vec F S512x1408 .f32 := accum cfg7.N 4 (dwinZero (F := F)) fun t s => dwinAcc s (blockOf cfg7 (W c) 0 t) (blockOf cfg7 (W c) 1 t)

theorem coord7 (t : Fin cfg7.N) : (grid7.coords t 2).val = t.val % 4 :=
  have e : (grid7.coords t 2).val = t.val / 1 % 4 := Pipeline.Grid.coords_val t 2 (by decide) rfl
  e.trans (by rw [Nat.div_one])

theorem first7_iff (t : Fin cfg7.N) : first (grid7.coords t 2) ↔ t.val % 4 = 0 := by
  rw [← coord7 t]
  exact at_iff (lt_trans (grid7.coords t 2).isLt (by decide)) (by decide)

theorem last7_iff (t : Fin cfg7.N) : k7_cond2 (grid7.coords t) = 1#1 ↔ t.val % 4 = 3 := by
  rw [← coord7 t]
  exact at_iff (lt_trans (grid7.coords t 2).isLt (by decide)) (by decide)

def dat7 : Dat τ (Elt F) Unit ℕ (UR sig nD τ) ℕ cfg7 c :=
  heaping cfg7 (W c) c cc7_scratch0 (Memref.whole cc7_scratch0) (acc7 W c) fun w t => match w with
    | ⟨0, _⟩ => blockOf cfg7 (W c) 0 t
    | ⟨1, _⟩ => blockOf cfg7 (W c) 1 t
    | ⟨2, _⟩ => dwinFin (acc7 W c (t.val + 1))

theorem idle7_flush (w : Fin cfg7.W) (t : Fin cfg7.N) (h : cfg7.idle w (grid7.coords t) = true) : (cfg7.win w).flush t = false := by
  fin_cases w <;> first
  | exact absurd h Bool.false_ne_true
  | exact idle_flush (cfg := cfg7) (p := k7_cond2 (grid7.coords t) = 1#1) rfl (fun hf => (last7_iff t).mpr ((flush7_2 t).mp hf)) h

set_option backward.isDefEq.respectTransparency.types false in
theorem obl7 : BodyObligation (dat7 W c) (defs₀ (F := F)) Variants.none () Set.univ :=
  obl 2 (body := bodyAt7) (fun t => by unfold defs₀; rw [Defs.onTc_tc]) (fun t K => by
    rw [bigSep_W7, bigSep_W7]
    refine framed_acc c (G := fun K => wp frame (wpE (defs₀ (F := F)) Variants.none c none) Set.univ (bodyAt7 t) fun _ => K) (beside (beside .rfl)) (fun d => sep_mono .rfl (sep_mono .rfl (leave_if (dat7 W c) t 2 (p := k7_cond2 (grid7.coords t) = 1#1) rfl d))) (fun d s hs K => ?_) K
    have e : dwinAcc (if first (grid7.coords t 2) then dwinZero else s) (blockOf cfg7 (W c) 0 t) (blockOf cfg7 (W c) 1 t) = acc7 W c (t.val + 1) := accum_of t (first7_iff t) hs
    have h : (_ : sProp 𝕄) ⊢ wp frame (wpE (defs₀ (F := F)) Variants.none c none) Set.univ (bodyAt7 t) fun _ => K := run7 c (grid7.coords t) _ _ _ _ _ _ _ _ (blockOf cfg7 (W c) 0 t) (blockOf cfg7 (W c) 1 t) ((dat7 W c).before 2 t d) s Set.univ K
    rw [e] at h
    exact h)
    (fun w hw => by fin_cases w <;> first | exact absurd hw (by decide) | exact found _) idle7_flush

theorem rest7 : (Pipeline.scopedRest spec7 c : sProp 𝕄) = iprop((∃ d, has c (Memref.whole cc7_scratch0) d) ∗ Pipeline.scopedRestBut spec7 c [cc7_scratch0]) := by
  simp only [has, owns_whole]
  exact Pipeline.scopedRest_split_of_list spec7 c [cc7_scratch0] (by decide) (by decide)

/-! ## The normalised tokens' gradient -/

/-- The accumulator into point `n`. -/
def acc8 : ℕ → Vec F S1024x1024 .f32 := accum cfg8.N 2 (dxnZero (F := F)) fun t s => dxnAcc s (blockOf cfg8 (W c) 0 t) (blockOf cfg8 (W c) 1 t)

theorem coord8 (t : Fin cfg8.N) : (grid8.coords t 2).val = t.val % 2 :=
  have e : (grid8.coords t 2).val = t.val / 1 % 2 := Pipeline.Grid.coords_val t 2 (by decide) rfl
  e.trans (by rw [Nat.div_one])

theorem first8_iff (t : Fin cfg8.N) : first (grid8.coords t 2) ↔ t.val % 2 = 0 := by
  rw [← coord8 t]
  exact at_iff (lt_trans (grid8.coords t 2).isLt (by decide)) (by decide)

theorem last8_iff (t : Fin cfg8.N) : k8_cond2 (grid8.coords t) = 1#1 ↔ t.val % 2 = 1 := by
  rw [← coord8 t]
  exact at_iff (lt_trans (grid8.coords t 2).isLt (by decide)) (by decide)

def dat8 : Dat τ (Elt F) Unit ℕ (UR sig nD τ) ℕ cfg8 c :=
  heaping cfg8 (W c) c cc8_scratch0 (Memref.whole cc8_scratch0) (acc8 W c) fun w t => match w with
    | ⟨0, _⟩ => blockOf cfg8 (W c) 0 t
    | ⟨1, _⟩ => blockOf cfg8 (W c) 1 t
    | ⟨2, _⟩ => dxnFin (acc8 W c (t.val + 1))

theorem idle8_flush (w : Fin cfg8.W) (t : Fin cfg8.N) (h : cfg8.idle w (grid8.coords t) = true) : (cfg8.win w).flush t = false := by
  fin_cases w <;> first
  | exact absurd h Bool.false_ne_true
  | exact idle_flush (cfg := cfg8) (p := k8_cond2 (grid8.coords t) = 1#1) rfl (fun hf => (last8_iff t).mpr ((flush8_2 t).mp hf)) h

set_option backward.isDefEq.respectTransparency.types false in
theorem obl8 : BodyObligation (dat8 W c) (defs₀ (F := F)) Variants.none () Set.univ :=
  obl 2 (body := bodyAt8) (fun t => by unfold defs₀; rw [Defs.onTc_tc]) (fun t K => by
    rw [bigSep_W8, bigSep_W8]
    refine framed_acc c (G := fun K => wp frame (wpE (defs₀ (F := F)) Variants.none c none) Set.univ (bodyAt8 t) fun _ => K) (beside (beside .rfl)) (fun d => sep_mono .rfl (sep_mono .rfl (leave_if (dat8 W c) t 2 (p := k8_cond2 (grid8.coords t) = 1#1) rfl d))) (fun d s hs K => ?_) K
    have e : dxnAcc (if first (grid8.coords t 2) then dxnZero else s) (blockOf cfg8 (W c) 0 t) (blockOf cfg8 (W c) 1 t) = acc8 W c (t.val + 1) := accum_of t (first8_iff t) hs
    have h : (_ : sProp 𝕄) ⊢ wp frame (wpE (defs₀ (F := F)) Variants.none c none) Set.univ (bodyAt8 t) fun _ => K := run8 c (grid8.coords t) _ _ _ _ _ _ _ _ (blockOf cfg8 (W c) 0 t) (blockOf cfg8 (W c) 1 t) ((dat8 W c).before 2 t d) s Set.univ K
    rw [e] at h
    exact h)
    (fun w hw => by fin_cases w <;> first | exact absurd hw (by decide) | exact found _) idle8_flush

theorem rest8 : (Pipeline.scopedRest spec8 c : sProp 𝕄) = iprop((∃ d, has c (Memref.whole cc8_scratch0) d) ∗ Pipeline.scopedRestBut spec8 c [cc8_scratch0]) := by
  simp only [has, owns_whole]
  exact Pipeline.scopedRest_split_of_list spec8 c [cc8_scratch0] (by decide) (by decide)

/-! ## The norm backward -/

/-- The norm weight's gradient into point `n`. -/
def dnw9 : ℕ → Vec F S1x1024 .f32
  | 0 => (broadcast S1x1024 (Scalar.ofBits .f32 0x00000000#32) : FVec F S1x1024 .f32)
  | n + 1 => if h : n < cfg9.N then (if n = 0 then dnwT (blockOf cfg9 (W c) 0 ⟨n, h⟩) (blockOf cfg9 (W c) 2 ⟨n, h⟩) else dnwAcc (dnw9 n) (blockOf cfg9 (W c) 0 ⟨n, h⟩) (blockOf cfg9 (W c) 2 ⟨n, h⟩)) else dnw9 n

theorem dnw9_succ (t : Fin cfg9.N) :
    dnw9 W c (t.val + 1) = if t.val = 0 then dnwT (blockOf cfg9 (W c) 0 t) (blockOf cfg9 (W c) 2 t) else dnwAcc (dnw9 W c t.val) (blockOf cfg9 (W c) 0 t) (blockOf cfg9 (W c) 2 t) := by
  rw [dnw9, dif_pos t.isLt]

theorem first9_iff (t : Fin cfg9.N) : k9_cond1 (grid9.coords t) = 1#1 ↔ t.val = 0 := by
  have ht : t.val < 32 := Nat.lt_of_lt_of_eq t.isLt N_9
  have e0 : (grid9.coords t 0).val = t.val / 32 % 1 := Pipeline.Grid.coords_val t 0 (by decide) rfl
  have e1 : (grid9.coords t 1).val = t.val / 1 % 32 := Pipeline.Grid.coords_val t 1 (by decide) rfl
  unfold k9_cond1; dsimp only; rw [e0, e1]
  revert ht; generalize t.val = z; revert z; decide

def dat9 : Dat τ (Elt F) Unit ℕ (UR sig nD τ) ℕ cfg9 c where
  A w := W c (Proc.devRef .tc (Pipeline.arrRef spec9 w))
  after w t := match w with
    | ⟨0, _⟩ => blockOf cfg9 (W c) 0 t
    | ⟨1, _⟩ => blockOf cfg9 (W c) 1 t
    | ⟨2, _⟩ => blockOf cfg9 (W c) 2 t
    | ⟨3, _⟩ => blockOf cfg9 (W c) 3 t
    | ⟨4, _⟩ => dhT (blockOf cfg9 (W c) 0 t) (blockOf cfg9 (W c) 1 t) (blockOf cfg9 (W c) 2 t) (blockOf cfg9 (W c) 3 t)
    | ⟨5, _⟩ => dnw9 W c (t.val + 1)
  Φ _ := Pipeline.scopedRest spec9 c
  q _ := fullShare
  owed _ := 0

theorem before9 (w : Fin cfg9.W) (hw : decide (w.val < 4) = true) (t d) : (dat9 W c).before w t d = (dat9 W c).after w t := by
  fin_cases w <;> first
  | exact absurd hw (by decide)
  | exact ((dat9 W c).before_in_eq_fetched _ rfl (fun _ => rfl) (fun _ _ _ => rfl) (fun _ => rfl) t d).trans rfl

theorem row9 (t : Fin cfg9.N) : defs₀ (F := F) .tc cfg9.body (cfg9.bodyArgs t (cfg9.slots t)) = bodyAt9 t := by
  unfold defs₀; rw [Defs.onTc_tc]

theorem live9 (i : grid9.Coords) : cfg9.idle 5 i = false := by
  show (!(k9_cond1 i == 1#1) && !(k9_cond2 i == 1#1)) = false
  by_cases h : k9_cond1 i = 1#1
  · rw [h]; rfl
  · rw [(cond9 i).mpr h]; simp

theorem idle9_never (w : Fin cfg9.W) (i : grid9.Coords) : cfg9.idle w i = false := by
  fin_cases w
  iterate 5 exact rfl
  exact live9 i

theorem kept9 (t : Fin cfg9.N) (h : t.val ≠ 0) (d) : (dat9 W c).before 5 t d = dnw9 W c t.val := by
  have ht : t.val < 32 := Nat.lt_of_lt_of_eq t.isLt N_9
  rw [(dat9 W c).before_out_kept 5 rfl t h (Bool.eq_false_iff.mpr fun hf => by have := (flush9_5 _).mp hf; simp only at this; omega) live9 (fun _ _ => rfl) d]
  show dnw9 W c (t.val - 1 + 1) = _
  rw [Nat.sub_add_cancel (Nat.pos_of_ne_zero h)]

set_option backward.isDefEq.respectTransparency.types false in
theorem leave9 (t : Fin cfg9.N) (d) :
    has c (win9_5.stage (cfg9.slots t 5)) (if k9_cond1 (grid9.coords t) = 1#1 then dnwT (blockOf cfg9 (W c) 0 t) (blockOf cfg9 (W c) 2 t) else dnwAcc ((dat9 W c).before 5 t d) (blockOf cfg9 (W c) 0 t) (blockOf cfg9 (W c) 2 t)) ⊢ leave (dat9 W c) t 5 := by
  unfold leave has
  rw [show cfg9.idle 5 (cfg9.grid.coords t) = false from live9 _]
  show _ ⊢ owns (c : Thread nD τ) (win9_5.stage (cfg9.slots t 5)) fullShare (dnw9 W c (t.val + 1))
  rw [dnw9_succ]
  by_cases h : t.val = 0
  · rw [if_pos ((first9_iff t).mpr h), if_pos h]
  · rw [if_neg (fun e => h ((first9_iff t).mp e)), if_neg h, kept9 W c t h]

set_option backward.isDefEq.respectTransparency.types false in
theorem obl9 : BodyObligation (dat9 W c) (defs₀ (F := F)) Variants.none () Set.univ :=
  obligation (dat9 W c) (fun w => decide (w.val < 4)) (fun w t h => absurd (h.symm.trans (idle9_never w _)) Bool.false_ne_true.symm) (before9 W c) (fun _ => rfl) fun t K => by
    rw [bigSep_W9, bigSep_W9, row9 t]
    exact framed_of (G := fun K => wp frame (wpE (defs₀ (F := F)) Variants.none c none) Set.univ (bodyAt9 t) fun _ => K)
      (beside (beside (beside (beside (BIBase.Entails.trans (sep_mono (slack c _) .rfl) (beside .rfl))))))
      (fun d => sep_mono .rfl (sep_mono .rfl (sep_mono .rfl (sep_mono .rfl (sep_mono .rfl (leave9 W c t d))))))
      (fun d K => run9 c (grid9.coords t) _ _ _ _ _ _ _ _ _ _ _ _ (blockOf cfg9 (W c) 0 t) (blockOf cfg9 (W c) 1 t) (blockOf cfg9 (W c) 2 t) (blockOf cfg9 (W c) 3 t) ((dat9 W c).before 5 t d) _ K) K

end Cert.Layer
end
-- ==== Proof.FfnLaunch.lean ====
/- The feed-forward layer's ten calls one after the other: every execution ends, and every array ends at what the calls'
   data say. -/
module

public import proofs.«01_k».proof.Proof.FfnDat
public import proofs.«01_k».proof.Proof.Gen.FfnIdeal.Regions
public import Idealize.ShloMosaic.Lib.Pipeline.Regions
public import Idealize.ShloMosaic.Lib.Claim

@[expose] public section

set_option maxRecDepth 16384

noncomputable section

namespace Cert.Layer

open Cert.FfnIdeal Cert.FfnIdeal.Gen
open Cert.Call (Link L lv R rest rest_end run_chain)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of every buffer at launch. -/
def W0 : Dev nD → Valuation τ sig (Elt F) := fun c b => m (c, b)
/-- After the weights' casts. -/
def W1 : Dev nD → Valuation τ sig (Elt F) := fun c => StableHlo.after hostOps0 (W0 m c)
/-- After call 0. -/
def W2 : Dev nD → Valuation τ sig (Elt F) := fun c => Pipeline.afterRegion (dat0 (W1 m) c) (W1 m c)
/-- After call 1. -/
def W3 : Dev nD → Valuation τ sig (Elt F) := fun c => Pipeline.afterRegion (dat1 (W2 m) c) (W2 m c)
/-- After call 2. -/
def W4 : Dev nD → Valuation τ sig (Elt F) := fun c => Pipeline.afterRegion (dat2 (W3 m) c) (W3 m c)
/-- After call 3. -/
def W5 : Dev nD → Valuation τ sig (Elt F) := fun c => Pipeline.afterRegion (dat3 (W4 m) c) (W4 m c)
/-- After call 4. -/
def W6 : Dev nD → Valuation τ sig (Elt F) := fun c => Pipeline.afterRegion (dat4 (W5 m) c) (W5 m c)
/-- After call 5. -/
def W7 : Dev nD → Valuation τ sig (Elt F) := fun c => Pipeline.afterRegion (dat5 (W6 m) c) (W6 m c)
/-- After call 6. -/
def W8 : Dev nD → Valuation τ sig (Elt F) := fun c => Pipeline.afterRegion (dat6 (W7 m) c) (W7 m c)
/-- After call 7. -/
def W9 : Dev nD → Valuation τ sig (Elt F) := fun c => Pipeline.afterRegion (dat7 (W8 m) c) (W8 m c)
/-- After call 8. -/
def W10 : Dev nD → Valuation τ sig (Elt F) := fun c => Pipeline.afterRegion (dat8 (W9 m) c) (W9 m c)
/-- After call 9. -/
def W11 : Dev nD → Valuation τ sig (Elt F) := fun c => Pipeline.afterRegion (dat9 (W10 m) c) (W10 m c)

/-- The calls' data, each from what the one before leaves. -/
def dats : (p : Fin 10) → (c : Dev nD) → Dat τ (Elt F) Unit ℕ (UR sig nD τ) ℕ (cfgs p) c
  | ⟨0, _⟩ => dat0 (W1 m)
  | ⟨1, _⟩ => dat1 (W2 m)
  | ⟨2, _⟩ => dat2 (W3 m)
  | ⟨3, _⟩ => dat3 (W4 m)
  | ⟨4, _⟩ => dat4 (W5 m)
  | ⟨5, _⟩ => dat5 (W6 m)
  | ⟨6, _⟩ => dat6 (W7 m)
  | ⟨7, _⟩ => dat7 (W8 m)
  | ⟨8, _⟩ => dat8 (W9 m)
  | ⟨9, _⟩ => dat9 (W10 m)

theorem still0 (W : Dev nD → Valuation τ sig (Elt F)) (c : Dev nD) (t : Fin (cfg0.N + 1)) : (dat0 W c).Φ t = Pipeline.scopedRest spec0 c := rfl
theorem still1 (W : Dev nD → Valuation τ sig (Elt F)) (c : Dev nD) (t : Fin (cfg1.N + 1)) : (dat1 W c).Φ t = Pipeline.scopedRest spec1 c := rfl
theorem still2 (W : Dev nD → Valuation τ sig (Elt F)) (c : Dev nD) (t : Fin (cfg2.N + 1)) : (dat2 W c).Φ t = Pipeline.scopedRest spec2 c := rfl
theorem still3 (W : Dev nD → Valuation τ sig (Elt F)) (c : Dev nD) (t : Fin (cfg3.N + 1)) : (dat3 W c).Φ t = Pipeline.scopedRest spec3 c := rfl
theorem still5 (W : Dev nD → Valuation τ sig (Elt F)) (c : Dev nD) (t : Fin (cfg5.N + 1)) : (dat5 W c).Φ t = Pipeline.scopedRest spec5 c := rfl
theorem still6 (W : Dev nD → Valuation τ sig (Elt F)) (c : Dev nD) (t : Fin (cfg6.N + 1)) : (dat6 W c).Φ t = Pipeline.scopedRest spec6 c := rfl
theorem still9 (W : Dev nD → Valuation τ sig (Elt F)) (c : Dev nD) (t : Fin (cfg9.N + 1)) : (dat9 W c).Φ t = Pipeline.scopedRest spec9 c := rfl

theorem link0 : Link (pcfgs (F := F)) (adm (F := F)) (dats m) defs₀ 0 (W1 m) :=
  .straight launch0.toP rfl (obl0 (W1 m)) (fun _ _ => rfl) (fun _ => rfl) (fun c => (dat0 (W1 m) c).share_full fun _ => rfl)
    (still0 (W1 m)) (fun _ _ => rfl) (Pipeline.arrRefs_sub_ucRefs spec0 winFacts0.arr_unscoped)
theorem link1 : Link (pcfgs (F := F)) (adm (F := F)) (dats m) defs₀ 1 (W2 m) :=
  .straight launch1.toP rfl (obl1 (W2 m)) (fun _ _ => rfl) (fun _ => rfl) (fun c => (dat1 (W2 m) c).share_full fun _ => rfl)
    (still1 (W2 m)) (fun _ _ => rfl) (Pipeline.arrRefs_sub_ucRefs spec1 winFacts1.arr_unscoped)
theorem link2 : Link (pcfgs (F := F)) (adm (F := F)) (dats m) defs₀ 2 (W3 m) :=
  .straight launch2.toP rfl (obl2 (W3 m)) (fun _ _ => rfl) (fun _ => rfl) (fun c => (dat2 (W3 m) c).share_full fun _ => rfl)
    (still2 (W3 m)) (fun _ _ => rfl) (Pipeline.arrRefs_sub_ucRefs spec2 winFacts2.arr_unscoped)
theorem link3 : Link (pcfgs (F := F)) (adm (F := F)) (dats m) defs₀ 3 (W4 m) :=
  .straight launch3.toP rfl (obl3 (W4 m)) (fun _ _ => rfl) (fun _ => rfl) (fun c => (dat3 (W4 m) c).share_full fun _ => rfl)
    (still3 (W4 m)) (fun _ _ => rfl) (Pipeline.arrRefs_sub_ucRefs spec3 winFacts3.arr_unscoped)
theorem link4 : Link (pcfgs (F := F)) (adm (F := F)) (dats m) defs₀ 4 (W5 m) :=
  .carrying launch4.toP rfl (obl4 (W5 m)) (fun _ _ => rfl) (fun _ => rfl) (fun c => (dat4 (W5 m) c).share_full fun _ => rfl)
    (Memref.whole cc4_scratch0) (acc4 (W5 m)) (fun c => Pipeline.scopedRestBut spec4 c [cc4_scratch0]) (fun _ _ => rfl) rest4 (fun _ _ => rfl)
    (Pipeline.arrRefs_sub_ucRefs spec4 winFacts4.arr_unscoped)
theorem link5 : Link (pcfgs (F := F)) (adm (F := F)) (dats m) defs₀ 5 (W6 m) :=
  .straight launch5.toP rfl (obl5 (W6 m)) (fun _ _ => rfl) (fun _ => rfl) (fun c => (dat5 (W6 m) c).share_full fun _ => rfl)
    (still5 (W6 m)) (fun _ _ => rfl) (Pipeline.arrRefs_sub_ucRefs spec5 winFacts5.arr_unscoped)
theorem link6 : Link (pcfgs (F := F)) (adm (F := F)) (dats m) defs₀ 6 (W7 m) :=
  .straight launch6.toP rfl (obl6 (W7 m)) (fun _ _ => rfl) (fun _ => rfl) (fun c => (dat6 (W7 m) c).share_full fun _ => rfl)
    (still6 (W7 m)) (fun _ _ => rfl) (Pipeline.arrRefs_sub_ucRefs spec6 winFacts6.arr_unscoped)
theorem link7 : Link (pcfgs (F := F)) (adm (F := F)) (dats m) defs₀ 7 (W8 m) :=
  .carrying launch7.toP rfl (obl7 (W8 m)) (fun _ _ => rfl) (fun _ => rfl) (fun c => (dat7 (W8 m) c).share_full fun _ => rfl)
    (Memref.whole cc7_scratch0) (acc7 (W8 m)) (fun c => Pipeline.scopedRestBut spec7 c [cc7_scratch0]) (fun _ _ => rfl) rest7 (fun _ _ => rfl)
    (Pipeline.arrRefs_sub_ucRefs spec7 winFacts7.arr_unscoped)
theorem link8 : Link (pcfgs (F := F)) (adm (F := F)) (dats m) defs₀ 8 (W9 m) :=
  .carrying launch8.toP rfl (obl8 (W9 m)) (fun _ _ => rfl) (fun _ => rfl) (fun c => (dat8 (W9 m) c).share_full fun _ => rfl)
    (Memref.whole cc8_scratch0) (acc8 (W9 m)) (fun c => Pipeline.scopedRestBut spec8 c [cc8_scratch0]) (fun _ _ => rfl) rest8 (fun _ _ => rfl)
    (Pipeline.arrRefs_sub_ucRefs spec8 winFacts8.arr_unscoped)
theorem link9 : Link (pcfgs (F := F)) (adm (F := F)) (dats m) defs₀ 9 (W10 m) :=
  .straight launch9.toP rfl (obl9 (W10 m)) (fun _ _ => rfl) (fun _ => rfl) (fun c => (dat9 (W10 m) c).share_full fun _ => rfl)
    (still9 (W10 m)) (fun _ _ => rfl) (Pipeline.arrRefs_sub_ucRefs spec9 winFacts9.arr_unscoped)
/-- The weights' casts. -/
def host : Pipeline.HostSeg (Ix := Unit) (Name := ℕ) (U := UR sig nD τ) (Lvl := ℕ) (pcfgs (F := F)) defs₀ Variants.none L lv :=
  seg0 m Variants.none L lv (fun _ c => R c)

/-- The program as the list of the eleven. -/
abbrev items : List (Seg (pcfgs (F := F)) (adm (F := F)) (dats m) () defs₀ Variants.none L lv) :=
  [.host (host m), .region (link0 m).reg, .region (link1 m).reg, .region (link2 m).reg, .region (link3 m).reg, .region (link4 m).reg, .region (link5 m).reg, .region (link6 m).reg, .region (link7 m).reg, .region (link8 m).reg, .region (link9 m).reg]

set_option backward.isDefEq.respectTransparency.types false in
/-- Every fair execution ends, with every buffer that outlives the calls at `W11` and every counter at zero. -/
theorem run_main : θ_run defs (onTc (τ := τ) (main (F := F))) ⟨m, fun _ => 0, ρ⟩
    (fun r => (∀ c : Dev nD, ∀ b ∈ Pipeline.ucRefs τ sig, r.2.mem (c, b) = W11 m c b) ∧ r.2.sem = fun _ => 0) :=
  run_chain (pcs := pcfgs (F := F)) (a := adm (F := F)) (dats := dats m) (defs₀ := defs₀) cellOf_inj m ρ main (items m)
    (main_segs (adm (F := F)) (dats m) () Variants.none L lv (host m) (link0 m).reg (link1 m).reg (link2 m).reg (link3 m).reg (link4 m).reg (link5 m).reg (link6 m).reg (link7 m).reg (link8 m).reg (link9 m).reg rfl)
    (by simp only [items, Seg.pipes_host, Seg.pipes_region, Seg.pipes_nil]; decide) (W11 m)
    (fun c => ⟨.rfl, (link0 m).entered c, ((link0 m).left c).trans ((link1 m).entered c), ((link1 m).left c).trans ((link2 m).entered c), ((link2 m).left c).trans ((link3 m).entered c), ((link3 m).left c).trans ((link4 m).entered c), ((link4 m).left c).trans ((link5 m).entered c), ((link5 m).left c).trans ((link6 m).entered c), ((link6 m).left c).trans ((link7 m).entered c), ((link7 m).left c).trans ((link8 m).entered c), ((link8 m).left c).trans ((link9 m).entered c), ((link9 m).left c).trans (rest_end (W11 m) c)⟩)
    fun g => .inr (regions_no_unscoped g.2)

end Cert.Layer
end
-- ==== Proof.FfnFrames.lean ====
/- The feed-forward layer's frame claims: each program ends with its arguments as given and every counter at zero. -/
module

public import proofs.«01_k».proof.Defs
public import proofs.«01_k».proof.Proof.FfnLaunch
public import proofs.«01_k».proof.Proof.Gen.Ffn
public import proofs.«01_k».proof.Proof.Gen.FfnRefIdeal.Run
public import Idealize.ShloMosaic.Lib.Pipeline.RegionArraysS
public import Idealize.ShloMosaic.Lib.StableHlo.RunLoop

@[expose] public section

set_option maxRecDepth 16384

noncomputable section

namespace Cert.Layer

open Cert.FfnIdeal Cert.FfnIdeal.Gen
open Idealize.ShloMosaic Idealize.ShloMosaic.TcCoe

section

variable {F : FTy → Type} [FloatOps F]
variable (m : (ℓ : Loc nD τ sig) → Buf (Elt F) ℓ)

/-- A call of this windows' list writes no array `r`. -/
abbrev Off {W : ℕ} (arr : Fin W → Ref sig .tc) (out : Fin W → Bool) (r : Ref sig .tc) : Prop := ∀ w, arr w = r → out w = false

theorem keep0 (c : Dev nD) (r : Ref sig .tc) (h : Off (Pipeline.arrRef spec0) (fun w => (cfg0.win w).isOut) r) :
    W2 m c (Proc.devRef .tc r) = W1 m c (Proc.devRef .tc r) :=
  Pipeline.afterRegion_keeps (dat0 (W1 m) c) (W1 m c) winFacts0.arr_inj (fun _ => rfl) r h
theorem keep1 (c : Dev nD) (r : Ref sig .tc) (h : Off (Pipeline.arrRef spec1) (fun w => (cfg1.win w).isOut) r) :
    W3 m c (Proc.devRef .tc r) = W2 m c (Proc.devRef .tc r) :=
  Pipeline.afterRegion_keeps (dat1 (W2 m) c) (W2 m c) winFacts1.arr_inj (fun _ => rfl) r h
theorem keep2 (c : Dev nD) (r : Ref sig .tc) (h : Off (Pipeline.arrRef spec2) (fun w => (cfg2.win w).isOut) r) :
    W4 m c (Proc.devRef .tc r) = W3 m c (Proc.devRef .tc r) :=
  Pipeline.afterRegion_keeps (dat2 (W3 m) c) (W3 m c) winFacts2.arr_inj (fun _ => rfl) r h
theorem keep3 (c : Dev nD) (r : Ref sig .tc) (h : Off (Pipeline.arrRef spec3) (fun w => (cfg3.win w).isOut) r) :
    W5 m c (Proc.devRef .tc r) = W4 m c (Proc.devRef .tc r) :=
  Pipeline.afterRegion_keeps (dat3 (W4 m) c) (W4 m c) winFacts3.arr_inj (fun _ => rfl) r h
theorem keep4 (c : Dev nD) (r : Ref sig .tc) (h : Off (Pipeline.arrRef spec4) (fun w => (cfg4.win w).isOut) r) :
    W6 m c (Proc.devRef .tc r) = W5 m c (Proc.devRef .tc r) :=
  Pipeline.afterRegion_keeps (dat4 (W5 m) c) (W5 m c) winFacts4.arr_inj (fun _ => rfl) r h
theorem keep5 (c : Dev nD) (r : Ref sig .tc) (h : Off (Pipeline.arrRef spec5) (fun w => (cfg5.win w).isOut) r) :
    W7 m c (Proc.devRef .tc r) = W6 m c (Proc.devRef .tc r) :=
  Pipeline.afterRegion_keeps (dat5 (W6 m) c) (W6 m c) winFacts5.arr_inj (fun _ => rfl) r h
theorem keep6 (c : Dev nD) (r : Ref sig .tc) (h : Off (Pipeline.arrRef spec6) (fun w => (cfg6.win w).isOut) r) :
    W8 m c (Proc.devRef .tc r) = W7 m c (Proc.devRef .tc r) :=
  Pipeline.afterRegion_keeps (dat6 (W7 m) c) (W7 m c) winFacts6.arr_inj (fun _ => rfl) r h
theorem keep7 (c : Dev nD) (r : Ref sig .tc) (h : Off (Pipeline.arrRef spec7) (fun w => (cfg7.win w).isOut) r) :
    W9 m c (Proc.devRef .tc r) = W8 m c (Proc.devRef .tc r) :=
  Pipeline.afterRegion_keeps (dat7 (W8 m) c) (W8 m c) winFacts7.arr_inj (fun _ => rfl) r h
theorem keep8 (c : Dev nD) (r : Ref sig .tc) (h : Off (Pipeline.arrRef spec8) (fun w => (cfg8.win w).isOut) r) :
    W10 m c (Proc.devRef .tc r) = W9 m c (Proc.devRef .tc r) :=
  Pipeline.afterRegion_keeps (dat8 (W9 m) c) (W9 m c) winFacts8.arr_inj (fun _ => rfl) r h
theorem keep9 (c : Dev nD) (r : Ref sig .tc) (h : Off (Pipeline.arrRef spec9) (fun w => (cfg9.win w).isOut) r) :
    W11 m c (Proc.devRef .tc r) = W10 m c (Proc.devRef .tc r) :=
  Pipeline.afterRegion_keeps (dat9 (W10 m) c) (W10 m c) winFacts9.arr_inj (fun _ => rfl) r h

/-- The casts leave what they do not write. -/
theorem keepH (c : Dev nD) (r : Ref sig .tc) (h : r ∉ hostOps0_W) : W1 m c (Proc.devRef .tc r) = m ((c.tc : Thread nD τ).loc r) :=
  StableHlo.after_of_writes_sub hostOps0 _ hostOps0_writes h

/-- No call writes `r`. -/
abbrev OffAll (r : Ref sig .tc) : Prop :=
  Off (Pipeline.arrRef spec0) (fun w => (cfg0.win w).isOut) r ∧ Off (Pipeline.arrRef spec1) (fun w => (cfg1.win w).isOut) r ∧ Off (Pipeline.arrRef spec2) (fun w => (cfg2.win w).isOut) r ∧ Off (Pipeline.arrRef spec3) (fun w => (cfg3.win w).isOut) r ∧ Off (Pipeline.arrRef spec4) (fun w => (cfg4.win w).isOut) r ∧ Off (Pipeline.arrRef spec5) (fun w => (cfg5.win w).isOut) r ∧ Off (Pipeline.arrRef spec6) (fun w => (cfg6.win w).isOut) r ∧ Off (Pipeline.arrRef spec7) (fun w => (cfg7.win w).isOut) r ∧ Off (Pipeline.arrRef spec8) (fun w => (cfg8.win w).isOut) r ∧ Off (Pipeline.arrRef spec9) (fun w => (cfg9.win w).isOut) r ∧ r ∉ hostOps0_W

theorem W11_keep (c : Dev nD) (r : Ref sig .tc) (h : OffAll r) : W11 m c (Proc.devRef .tc r) = m ((c.tc : Thread nD τ).loc r) := by
  obtain ⟨h0, h1, h2, h3, h4, h5, h6, h7, h8, h9, hr⟩ := h
  rw [keep9 m c r h9, keep8 m c r h8, keep7 m c r h7, keep6 m c r h6, keep5 m c r h5, keep4 m c r h4, keep3 m c r h3, keep2 m c r h2,
    keep1 m c r h1, keep0 m c r h0, keepH m c r hr]

/-- Any array of a final state. -/
theorem read {r : MemSt nD τ sig (Elt F)} (h : ∀ c : Dev nD, ∀ b ∈ Pipeline.ucRefs τ sig, r.mem (c, b) = W11 m c b) (c : Dev nD) (b : Ref sig .tc)
    (hb : (Proc.devRef .tc b : DevRef τ sig).isScoped = false) : r.mem ((c.tc : Thread nD τ).loc b) = W11 m c (Proc.devRef .tc b) :=
  h c _ (StableHlo.devRef_mem_ucRefs b hb)

theorem args_keep {r : MemSt nD τ sig (Elt F)} (h : ∀ c : Dev nD, ∀ b ∈ Pipeline.ucRefs τ sig, r.mem (c, b) = W11 m c b) (c : Dev nD) :
    r.mem ((c.tc : Thread nD τ).loc main_arg0) = m ((c.tc : Thread nD τ).loc main_arg0)
      ∧ r.mem ((c.tc : Thread nD τ).loc main_arg1) = m ((c.tc : Thread nD τ).loc main_arg1)
      ∧ r.mem ((c.tc : Thread nD τ).loc main_arg2) = m ((c.tc : Thread nD τ).loc main_arg2)
      ∧ r.mem ((c.tc : Thread nD τ).loc main_arg3) = m ((c.tc : Thread nD τ).loc main_arg3)
      ∧ r.mem ((c.tc : Thread nD τ).loc main_arg4) = m ((c.tc : Thread nD τ).loc main_arg4) :=
  ⟨(read m h c _ rfl).trans (W11_keep m c _ (by decide)), (read m h c _ rfl).trans (W11_keep m c _ (by decide)), (read m h c _ rfl).trans (W11_keep m c _ (by decide)), (read m h c _ rfl).trans (W11_keep m c _ (by decide)), (read m h c _ rfl).trans (W11_keep m c _ (by decide))⟩

end

theorem frame_ffnIdeal : Cert.quiescent_FfnIdeal := fun m ρ _ =>
  (θ_run Cert.FfnIdeal.defs _ _).mono (fun _ h => ⟨fun c => args_keep m h.1 c, h.2⟩) (run_main (F := Ideal) m ρ)

/-- The same run with machine floats. -/
theorem frame_bits : ∀ (m : (ℓ : Loc nD τ sig) → Buf (Elt Bits) ℓ) (ρ : Dev nD → PrngReg), Cert.Pre_Ffn m →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := fun m ρ _ =>
  (θ_run Cert.FfnIdeal.defs _ _).mono (fun _ h => ⟨fun c => args_keep m h.1 c, h.2⟩) (run_main (F := Bits) m ρ)

theorem frame_ffn : Cert.quiescent_Ffn := cast (by sl_kernel_rfl) frame_bits

theorem frame_ffnRefIdeal : Cert.quiescent_FfnRefIdeal := fun m ρ _ =>
  (θ_run Cert.FfnRefIdeal.defs _ _).mono (fun r h => ⟨fun c => (h c).2.2.2.2.2, Idealize.ShloMosaic.sem_eq_zero_of_no_sems (by decide) r.2⟩)
    (Cert.FfnRefIdeal.Value.run (F := Ideal) m ρ)

end Cert.Layer
end
-- ==== Proof.FfnSpec.lean ====
/- The feed-forward layer's arrays, entry by entry, as sums and products of the arguments' entries. -/
module

public import Idealize.ShloMosaic.Lib.Pointwise.Index
public import Idealize.ShloMosaic.Lib.IdealHost

@[expose] public section

noncomputable section

namespace Cert.LayerSpec

open Idealize.ShloMosaic

/-- A matrix of extended reals. -/
abbrev Mat (a b : ℕ) := (⟨2, ![a, b]⟩ : Shape).Idx → EReal

/-- Two columns multiplied entry by entry and summed. -/
abbrev colDot {K a b : ℕ} (A : Mat K a) (B : Mat K b) (i : Fin a) (j : Fin b) : EReal := ∑ k : Fin K, A (ix2 k i) * B (ix2 k j)
/-- Two rows multiplied entry by entry and summed. -/
abbrev rowDot {K a b : ℕ} (A : Mat a K) (B : Mat b K) (i : Fin a) (j : Fin b) : EReal := ∑ k : Fin K, A (ix2 i k) * B (ix2 j k)

/-- The row length, the small constant, one half and minus one half. -/
abbrev len : EReal := Ideal.ofBits .f32 0x44800000#32
abbrev tiny : EReal := Ideal.ofBits .f32 0x358637BD#32
abbrev half : EReal := Ideal.ofBits .f32 0x3F000000#32
abbrev mhalf : EReal := Ideal.ofBits .f32 0xBF000000#32

variable (h : Mat 16384 1024) (w : Mat 1 1024) (wi : Mat 1024 5632) (wo : Mat 2816 1024) (g : Mat 16384 1024)
variable (xn : Mat 16384 1024) (gu : Mat 16384 5632) (act da : Mat 16384 2816) (dgu : Mat 16384 5632) (dxn : Mat 16384 1024)

/-- A token's mean square plus the small constant. -/
def msq (i : Fin 16384) : EReal := Ideal.div (∑ k : Fin 1024, h (ix2 i k) * h (ix2 i k)) len + tiny
/-- One over its root. -/
def rs (i : Fin 16384) : EReal := Ideal.rsqrt (msq h i)

/-- The normalised tokens. -/
def normOf : Mat 16384 1024 := fun y => h y * rs h (y 0) * w (ix2 0 (y 1))
/-- Gate and up. -/
def gateUp : Mat 16384 5632 := fun y => ∑ k : Fin 1024, xn (ix2 (y 0) k) * wi (ix2 k (y 1))
/-- A token's gate. -/
abbrev gateAt (i : Fin 16384) (j : Fin 2816) : EReal := gu (ix2 i ⟨j.val, by omega⟩)
/-- A token's up. -/
abbrev upAt (i : Fin 16384) (j : Fin 2816) : EReal := gu (ix2 i ⟨2816 + j.val, by omega⟩)
/-- The activation. -/
def actOf : Mat 16384 2816 := fun y => gateAt gu (y 0) (y 1) * Ideal.logistic (gateAt gu (y 0) (y 1)) * upAt gu (y 0) (y 1)
/-- The layer's output. -/
def outOf : Mat 16384 1024 := fun y => h y + (∑ k : Fin 2816, act (ix2 (y 0) k) * wo (ix2 k (y 1))) * half
/-- The output weight's gradient. -/
def dwoutOf : Mat 2816 1024 := fun y => (∑ k : Fin 16384, act (ix2 k (y 0)) * g (ix2 k (y 1))) * half
/-- The activation's gradient. -/
def dactOf : Mat 16384 2816 := fun y => (∑ k : Fin 1024, g (ix2 (y 0) k) * wo (ix2 (y 1) k)) * half
/-- The gate's gradient at a token. -/
def dgateAt (i : Fin 16384) (j : Fin 2816) : EReal :=
  da (ix2 i j) * upAt gu i j * Ideal.logistic (gateAt gu i j)
    + gateAt gu i j * (da (ix2 i j) * upAt gu i j) * (Ideal.logistic (gateAt gu i j) * (1 - Ideal.logistic (gateAt gu i j)))
/-- The up's gradient at a token. -/
def dupAt (i : Fin 16384) (j : Fin 2816) : EReal := gateAt gu i j * Ideal.logistic (gateAt gu i j) * da (ix2 i j)
/-- Both. -/
def dguOf : Mat 16384 5632 := fun y =>
  if hy : (y 1).val < 2816 then dgateAt gu da (y 0) ⟨(y 1).val, hy⟩
  else dupAt gu da (y 0) ⟨(y 1).val - 2816, by have : (y 1).val < 5632 := (y 1).isLt; omega⟩
/-- The input weight's gradient. -/
def dwinOf : Mat 1024 5632 := fun y => ∑ k : Fin 16384, xn (ix2 k (y 0)) * dgu (ix2 k (y 1))
/-- The normalised tokens' gradient. -/
def dxnOf : Mat 16384 1024 := fun y => ∑ k : Fin 5632, dgu (ix2 (y 0) k) * wi (ix2 (y 1) k)
/-- A token's part of the norm weight's gradient. -/
def dnwAt (k : Fin 16384) (j : Fin 1024) : EReal := h (ix2 k j) * rs h k * dxn (ix2 k j)
/-- The norm weight's gradient. -/
def dnwOf : Mat 1 1024 := fun y => ∑ k : Fin 16384, dnwAt h dxn k (y 1)
/-- What a token's mean square contributes. -/
def dvar (i : Fin 16384) : EReal :=
  Ideal.div ((∑ k : Fin 1024, h (ix2 i k) * (dxn (ix2 i k) * w (ix2 0 k))) * (mhalf * Ideal.div (rs h i) (msq h i))) len
/-- The tokens' gradient. -/
def dhOf : Mat 16384 1024 := fun y =>
  dxn y * w (ix2 0 (y 1)) * rs h (y 0) + h y * dvar h w dxn (y 0) + dvar h w dxn (y 0) * h y + g y

/-! ## One half, taken out of a sum -/

theorem half_eq : half = ((1 / 2 : ℝ) : EReal) := by
  simp [half, Ideal.ofBits, Ideal.ieee, -EReal.coe_mul]; norm_num

theorem sum_half {n : ℕ} (f : Fin n → EReal) : ∑ k, half * f k = (∑ k, f k) * half := by
  have h0 : (0 : EReal) ≤ half := by rw [half_eq]; exact_mod_cast (by norm_num : (0 : ℝ) ≤ 1 / 2)
  have h1 : half ≠ ⊤ := by rw [half_eq]; exact EReal.coe_ne_top _
  rw [mul_comm]
  refine Finset.induction_on (motive := fun s : Finset (Fin n) => ∑ k ∈ s, half * f k = half * ∑ k ∈ s, f k) Finset.univ (by simp) fun a s ha ih => ?_
  rw [Finset.sum_insert ha, Finset.sum_insert ha, ih, EReal.left_distrib_of_nonneg_of_ne_top h0 h1]

end Cert.LayerSpec
end
-- ==== Proof.FfnOut.lean ====
/- What each of the ten calls leaves in its result arrays. -/
module

public import proofs.«01_k».proof.Proof.FfnDat
public import proofs.«01_k».proof.Proof.FfnSpec
public import Idealize.ShloMosaic.Lib.Pipeline.ValueKit
public import Idealize.ShloMosaic.Lib.Pointwise

@[expose] public section

set_option maxRecDepth 16384

noncomputable section

namespace Cert.Layer

open Cert.FfnIdeal Cert.FfnIdeal.Gen Cert.LayerSpec
open Cert.Call (blockOf accum accum_succ)
open Idealize.ShloMosaic Idealize.ShloMosaic.TcCoe Idealize.ShloMosaic.Tactic
open Idealize.ShloMosaic.Pipeline (Dat Cfg Window)

variable (W : Dev nD → Valuation τ sig (Elt Ideal)) (c : Dev nD)

theorem x0 : ∀ t : Fin cfg0.N, win0_0.index t = ![t.val, 0] ∧ win0_1.index t = ![0, 0] ∧ win0_2.index t = ![t.val, 0] := by decide +kernel

theorem final0 : (dat0 W c).arrAt 2 cfg0.N = normOf (W c (Proc.devRef .tc main_arg0)) (W c (Proc.devRef .tc main_arg1)) := by
  refine (dat0 W c).arrAt_eq_of_covers 2 _ (by decide +kernel) fun t hf y => ?_
  have ht : t.val < 32 := t.isLt
  obtain ⟨e0, e1, e2⟩ := x0 t
  blk_simp
  show normT (blockOf cfg0 (W c) 0 t) (blockOf cfg0 (W c) 1 t) y = _
  unfold normT meanSq normOf rs msq
  pointwise
  blk_point [blockOf, e0, e1, e2]

theorem x1 : ∀ t : Fin cfg1.N, win1_0.index t = ![t.val / 4, 0] ∧ win1_1.index t = ![0, t.val % 4] ∧ win1_2.index t = ![t.val / 4, t.val % 4] := by decide +kernel

theorem final1 : (dat1 W c).arrAt 2 cfg1.N = gateUp (W c (Proc.devRef .tc main_v0)) (W c (Proc.devRef .tc main_v2)) := by
  refine (dat1 W c).arrAt_eq_of_covers 2 _ (by decide +kernel) fun t hf y => ?_
  have ht : t.val < 32 := t.isLt
  obtain ⟨e0, e1, e2⟩ := x1 t
  blk_simp
  show inT (blockOf cfg1 (W c) 0 t) (blockOf cfg1 (W c) 1 t) y = _
  unfold inT gateUp
  pointwise
  blk_point [blockOf, e0, e1, e2]

/-- A left half at an index. -/
theorem lhs_at (x : Vec Ideal S256x5632 .bf16) (z : S256x2816.Idx) :
    lhs x z = x (ix2 (z 0) ⟨(z 1).val, by have : (z 1).val < 2816 := (z 1).isLt; omega⟩) := by
  unfold lhs
  blk_ext []

/-- A right half at an index. -/
theorem rhs_at (x : Vec Ideal S256x5632 .bf16) (z : S256x2816.Idx) :
    rhs x z = x (ix2 (z 0) ⟨2816 + (z 1).val, by have : (z 1).val < 2816 := (z 1).isLt; omega⟩) := by
  unfold rhs
  blk_ext []

theorem x2 : ∀ t : Fin cfg2.N, win2_0.index t = ![t.val, 0] ∧ win2_1.index t = ![t.val, 0] := by decide +kernel

theorem final2 : (dat2 W c).arrAt 1 cfg2.N = actOf (W c (Proc.devRef .tc main_v3)) := by
  refine (dat2 W c).arrAt_eq_of_covers 1 _ (by decide +kernel) fun t hf y => ?_
  have ht : t.val < 64 := t.isLt
  obtain ⟨e0, e1⟩ := x2 t
  blk_simp
  show actT (lhs (blockOf cfg2 (W c) 0 t)) (rhs (blockOf cfg2 (W c) 0 t)) y = _
  unfold actT wide actOf gateAt upAt
  pointwise
  simp only [lhs_at, rhs_at]
  blk_point [blockOf, e0, e1]

theorem x3 : ∀ t : Fin cfg3.N, win3_0.index t = ![t.val, 0] ∧ win3_1.index t = ![0, 0] ∧ win3_2.index t = ![t.val, 0] ∧ win3_3.index t = ![t.val, 0] := by decide +kernel

theorem final3 : (dat3 W c).arrAt 3 cfg3.N
    = outOf (W c (Proc.devRef .tc main_arg0)) (W c (Proc.devRef .tc main_v1)) (W c (Proc.devRef .tc main_v4)) := by
  refine (dat3 W c).arrAt_eq_of_covers 3 _ (by decide +kernel) fun t hf y => ?_
  have ht : t.val < 16 := t.isLt
  obtain ⟨e0, e1, e2, e3⟩ := x3 t
  blk_simp
  show outT (blockOf cfg3 (W c) 0 t) (blockOf cfg3 (W c) 1 t) (blockOf cfg3 (W c) 2 t) y = _
  unfold outT outOf
  pointwise
  blk_point [blockOf, e0, e1, e2, e3]

theorem x5 : ∀ t : Fin cfg5.N, win5_0.index t = ![t.val / 2, 0] ∧ win5_1.index t = ![t.val % 2, 0] ∧ win5_2.index t = ![t.val / 2, t.val % 2] := by decide +kernel

theorem final5 : (dat5 W c).arrAt 2 cfg5.N = dactOf (W c (Proc.devRef .tc main_v1)) (W c (Proc.devRef .tc main_arg4)) := by
  refine (dat5 W c).arrAt_eq_of_covers 2 _ (by decide +kernel) fun t hf y => ?_
  have ht : t.val < 16 := t.isLt
  obtain ⟨e0, e1, e2⟩ := x5 t
  blk_simp
  show dactT (blockOf cfg5 (W c) 0 t) (blockOf cfg5 (W c) 1 t) y = _
  unfold dactT dactOf
  pointwise
  blk_point [blockOf, e0, e1, e2]

theorem x6 : ∀ t : Fin cfg6.N, win6_0.index t = ![t.val, 0] ∧ win6_1.index t = ![t.val, 0] ∧ win6_2.index t = ![t.val, 0] := by decide +kernel

/-- The gate's gradient tile at an index. -/
theorem dgateT_at (t : Fin cfg6.N) (z : S256x2816.Idx) (i : Fin 16384) (hi : i.val = t.val * 256 + (z 0).val) :
    dgateT (lhs (blockOf cfg6 (W c) 0 t)) (rhs (blockOf cfg6 (W c) 0 t)) (blockOf cfg6 (W c) 1 t) z
      = dgateAt (W c (Proc.devRef .tc main_v3)) (W c (Proc.devRef .tc main_v7)) i (z 1) := by
  obtain ⟨e0, e1, e2⟩ := x6 t
  unfold dgateT wide dgateAt gateAt upAt
  pointwise
  simp only [lhs_at, rhs_at]
  blk_point [blockOf, e0, e1]

/-- The up's gradient tile at an index. -/
theorem dupT_at (t : Fin cfg6.N) (z : S256x2816.Idx) (i : Fin 16384) (hi : i.val = t.val * 256 + (z 0).val) :
    dupT (lhs (blockOf cfg6 (W c) 0 t)) (blockOf cfg6 (W c) 1 t) z = dupAt (W c (Proc.devRef .tc main_v3)) (W c (Proc.devRef .tc main_v7)) i (z 1) := by
  obtain ⟨e0, e1, e2⟩ := x6 t
  unfold dupT wide dupAt gateAt
  pointwise
  simp only [lhs_at]
  blk_point [blockOf, e0, e1]

theorem final6 : (dat6 W c).arrAt 2 cfg6.N = LayerSpec.dguOf (W c (Proc.devRef .tc main_v3)) (W c (Proc.devRef .tc main_v7)) := by
  refine (dat6 W c).arrAt_eq_of_covers 2 _ (by decide +kernel) fun t hf y => ?_
  have ht : t.val < 64 := t.isLt
  obtain ⟨e0, e1, e2⟩ := x6 t
  blk_simp
  show dguT (blockOf cfg6 (W c) 0 t) (blockOf cfg6 (W c) 1 t) y = _
  rw [dguT_eq]
  unfold dguOf LayerSpec.dguOf
  canon_tiles z h
  · rw [dif_neg (by blk_simp [e2]; omega)]
    exact (dupT_at W c t z _ (by blk_simp [e2]; omega)).trans (congrArg _ (Fin.ext (by blk_simp [e2]; show (z 1).val = (y 1).val - 2816; omega)))
  · rw [dif_pos (by blk_simp [e2]; omega)]
    exact (dgateT_at W c t z _ (by blk_simp [e2]; omega)).trans (congrArg _ (Fin.ext (by blk_simp [e2]; show (z 1).val = (y 1).val; omega)))

/-! ## The accumulating calls -/

/-- An accumulator cleared at every `J`-th point is, at the last point of a run, the sum of the run's addends. -/
theorem acc_sum {N : ℕ} {s : Shape} (acc : ℕ → s.Idx → EReal) (J : ℕ) [NeZero J] (term : Fin N → s.Idx → EReal)
    (hs : ∀ (t : Fin N) i, acc (t.val + 1) i = (if t.val % J = 0 then 0 else acc t.val i) + term t i) (t : Fin N) (hr : t.val % J = J - 1) (i : s.Idx) :
    acc (t.val + 1) i = ∑ q : Fin J, term ⟨J * (t.val / J) + q.val, Pipeline.run_point_lt_of_flush t hr q⟩ i :=
  (Pipeline.eq_sum_fin_of_reset_step_apply_of_flush (fun n _ => acc (n + 1)) J (fun _ => 0) term
    (fun t h i => by rw [hs t i, if_pos h])
    (fun t h i => by
      have h0 : t.val - 1 + 1 = t.val := Nat.sub_add_cancel (Nat.pos_of_ne_zero fun e => h (by rw [e, Nat.zero_mod]))
      show acc (t.val + 1) i = acc (t.val - 1 + 1) i + term t i
      rw [hs t i, if_neg h, h0]) t hr i).trans (zero_add _)

theorem x4 : ∀ t : Fin cfg4.N, win4_0.index t = ![t.val % 4, t.val / 4] ∧ win4_1.index t = ![t.val % 4, 0] ∧ win4_2.index t = ![t.val / 4, 0] := by decide +kernel

theorem final4 : (dat4 W c).arrAt 2 cfg4.N = dwoutOf (W c (Proc.devRef .tc main_arg4)) (W c (Proc.devRef .tc main_v4)) := by
  refine (dat4 W c).arrAt_eq_of_covers 2 _ (by decide +kernel) fun t hf y => ?_
  have ht : t.val < 44 := t.isLt
  have hr := (flush4_2 t).mp hf
  obtain ⟨e0, e1, e2⟩ := x4 t
  blk_simp
  show dwoutFin (acc4 W c (t.val + 1)) y = _
  have hs := acc_sum (acc4 W c) 4 (fun t i => colDot (K := 4096) (a := 256) (b := 1024) (blockOf cfg4 (W c) 0 t) (blockOf cfg4 (W c) 1 t) (i 0) (i 1))
    (fun t i => by
      unfold acc4; rw [accum_succ]
      unfold dwoutAcc dwoutZero
      pointwise
      split <;> rfl) t hr y
  unfold dwoutFin dwoutOf
  pointwise
  rw [hs]
  refine congrArg (· * half) ?_
  refine Fin.sum_mul_add_congr fun q k hk => ?_
  have e0' := (x4 ⟨4 * (t.val / 4) + q.val, Pipeline.run_point_lt_of_flush t hr q⟩).1
  have e1' := (x4 ⟨4 * (t.val / 4) + q.val, Pipeline.run_point_lt_of_flush t hr q⟩).2.1
  blk_point [blockOf, e0', e1', e2]

theorem x7 : ∀ t : Fin cfg7.N, win7_0.index t = ![t.val % 4, t.val / 16] ∧ win7_1.index t = ![t.val % 4, t.val / 4 % 4]
    ∧ win7_2.index t = ![t.val / 16, t.val / 4 % 4] := by decide +kernel

theorem final7 : (dat7 W c).arrAt 2 cfg7.N = dwinOf (W c (Proc.devRef .tc main_v2)) (W c (Proc.devRef .tc main_v8)) := by
  refine (dat7 W c).arrAt_eq_of_covers 2 _ (by decide +kernel) fun t hf y => ?_
  have ht : t.val < 32 := t.isLt
  have hr := (flush7_2 t).mp hf
  obtain ⟨e0, e1, e2⟩ := x7 t
  blk_simp
  show dwinFin (acc7 W c (t.val + 1)) y = _
  have hs := acc_sum (acc7 W c) 4 (fun t i => colDot (K := 4096) (a := 512) (b := 1408) (blockOf cfg7 (W c) 0 t) (blockOf cfg7 (W c) 1 t) (i 0) (i 1))
    (fun t i => by
      unfold acc7; rw [accum_succ]
      unfold dwinAcc dwinZero
      pointwise
      split <;> rfl) t hr y
  unfold dwinFin dwinOf
  rw [hs]
  refine Fin.sum_mul_add_congr fun q k hk => ?_
  have e0' := (x7 ⟨4 * (t.val / 4) + q.val, Pipeline.run_point_lt_of_flush t hr q⟩).1
  have e1' := (x7 ⟨4 * (t.val / 4) + q.val, Pipeline.run_point_lt_of_flush t hr q⟩).2.1
  blk_point [blockOf, e0', e1', e2]

theorem x8 : ∀ t : Fin cfg8.N, win8_0.index t = ![t.val / 2, t.val % 2] ∧ win8_1.index t = ![0, t.val % 2] ∧ win8_2.index t = ![t.val / 2, 0] := by
  decide +kernel

theorem final8 : (dat8 W c).arrAt 2 cfg8.N = dxnOf (W c (Proc.devRef .tc main_v0)) (W c (Proc.devRef .tc main_v8)) := by
  refine (dat8 W c).arrAt_eq_of_covers 2 _ (by decide +kernel) fun t hf y => ?_
  have ht : t.val < 32 := t.isLt
  have hr := (flush8_2 t).mp hf
  obtain ⟨e0, e1, e2⟩ := x8 t
  blk_simp
  show dxnFin (acc8 W c (t.val + 1)) y = _
  have hs := acc_sum (acc8 W c) 2 (fun t i => rowDot (K := 2816) (a := 1024) (b := 1024) (blockOf cfg8 (W c) 0 t) (blockOf cfg8 (W c) 1 t) (i 0) (i 1))
    (fun t i => by
      unfold acc8; rw [accum_succ]
      unfold dxnAcc dxnZero
      pointwise
      split <;> rfl) t hr y
  unfold dxnFin dxnOf
  pointwise
  rw [hs]
  refine Fin.sum_mul_add_congr fun q k hk => ?_
  have e0' := (x8 ⟨2 * (t.val / 2) + q.val, Pipeline.run_point_lt_of_flush t hr q⟩).1
  have e1' := (x8 ⟨2 * (t.val / 2) + q.val, Pipeline.run_point_lt_of_flush t hr q⟩).2.1
  blk_point [blockOf, e0', e1', e2]

theorem x9 : ∀ t : Fin cfg9.N, win9_0.index t = ![t.val, 0] ∧ win9_1.index t = ![0, 0] ∧ win9_2.index t = ![t.val, 0] ∧ win9_3.index t = ![t.val, 0]
    ∧ win9_4.index t = ![t.val, 0] ∧ win9_5.index t = ![0, 0] := by decide +kernel

theorem final9_h : (dat9 W c).arrAt 4 cfg9.N
    = dhOf (W c (Proc.devRef .tc main_arg0)) (W c (Proc.devRef .tc main_arg1)) (W c (Proc.devRef .tc main_arg4)) (W c (Proc.devRef .tc main_v10)) := by
  refine (dat9 W c).arrAt_eq_of_covers 4 _ (by decide +kernel) fun t hf y => ?_
  have ht : t.val < 32 := t.isLt
  obtain ⟨e0, e1, e2, e3, e4, e5⟩ := x9 t
  blk_simp
  show dhT (blockOf cfg9 (W c) 0 t) (blockOf cfg9 (W c) 1 t) (blockOf cfg9 (W c) 2 t) (blockOf cfg9 (W c) 3 t) y = _
  unfold dhT dvarT wideN meanSq dhOf dvar rs msq
  pointwise
  simp only [Fin.sum_univ_one]
  blk_point [blockOf, e0, e1, e2, e3, e4]

/-- A tile's part of the norm weight's gradient at an index. -/
theorem dnwT_at (t : Fin cfg9.N) (i : S1x1024.Idx) : dnwT (blockOf cfg9 (W c) 0 t) (blockOf cfg9 (W c) 2 t) i
    = ∑ k : Fin 512, dnwAt (W c (Proc.devRef .tc main_arg0)) (W c (Proc.devRef .tc main_v10))
        ⟨t.val * 512 + k.val, by have := t.isLt; have : cfg9.N = 32 := N_9; omega⟩ (i 1) := by
  obtain ⟨e0, e1, e2, e3, e4, e5⟩ := x9 t
  unfold dnwT wideN meanSq dnwAt rs msq
  pointwise
  blk_point [blockOf, e0, e1, e2, e3, e4]

theorem final9_w : (dat9 W c).arrAt 5 cfg9.N = dnwOf (W c (Proc.devRef .tc main_arg0)) (W c (Proc.devRef .tc main_v10)) := by
  refine (dat9 W c).arrAt_eq_of_covers 5 _ (by decide +kernel) fun t hf y => ?_
  have ht : t.val < 32 := t.isLt
  have hr := (flush9_5 t).mp hf
  obtain ⟨e0, e1, e2, e3, e4, e5⟩ := x9 t
  blk_simp
  show dnw9 W c (t.val + 1) y = _
  have hs := acc_sum (dnw9 W c) 32 (fun t i => dnwT (blockOf cfg9 (W c) 0 t) (blockOf cfg9 (W c) 2 t) i)
    (fun t i => by
      have ht : t.val < 32 := t.isLt
      rw [dnw9_succ, if_congr (show t.val = 0 ↔ t.val % 32 = 0 by omega) rfl rfl]
      split
      · exact (zero_add _).symm
      · unfold dnwAcc
        pointwise) t hr y
  unfold dnwOf
  rw [hs]
  simp only [dnwT_at]
  refine Fin.sum_mul_add_congr fun q k hk => ?_
  refine congrArg₂ _ (Fin.ext ?_) (Fin.ext ?_)
  · show (32 * (t.val / 32) + q.val) * 512 + k.val = q.val * 512 + k.val
    omega
  · blk_simp [e5]

end Cert.Layer
end
-- ==== Proof.FfnRef.lean ====
/- The reference's results, stage by stage, are the layer's arrays. -/
module

public import proofs.«01_k».proof.Proof.FfnSpec
public import proofs.«01_k».proof.Proof.Gen.FfnRefIdeal.Run
public import Idealize.ShloMosaic.Lib.Pipeline.ValueKit
public import Idealize.ShloMosaic.Lib.Pointwise

@[expose] public section

set_option maxRecDepth 16384

noncomputable section

namespace Cert.LayerRef

open Cert.FfnRefIdeal Cert.FfnRefIdeal.Gen Cert.LayerSpec
open Idealize.ShloMosaic Idealize.ShloMosaic.TcCoe

/-! ## The stages -/

/-- A constant splat over an array. -/
abbrev col (b : BitVec 32) : FVec Ideal S16384x1 .f32 := broadcastInDim S16384x1 ![] bcast_S_S16384x1 (constant (F := Ideal) S_ .f32 b)
abbrev tok (b : BitVec 32) : FVec Ideal S16384x1024 .f32 := broadcastInDim S16384x1024 ![] bcast_S_S16384x1024 (constant (F := Ideal) S_ .f32 b)
abbrev hid (b : BitVec 32) : FVec Ideal S16384x2816 .f32 := broadcastInDim S16384x2816 ![] bcast_S_S16384x2816 (constant (F := Ideal) S_ .f32 b)
abbrev spread (x : FVec Ideal S16384x1 .f32) : FVec Ideal S16384x1024 .f32 := broadcastInDim S16384x1024 ![0, 1] bcast_S16384x1_S16384x1024_0_1 x

variable (h g xn dxn : FVec Ideal S16384x1024 .f32) (w : FVec Ideal S1x1024 .f32) (wi : FVec Ideal S1024x5632 .f32) (wo : FVec Ideal S2816x1024 .f32)
variable (gu dgu : FVec Ideal S16384x5632 .f32) (act da : FVec Ideal S16384x2816 .f32)

def rMsq : FVec Ideal S16384x1 .f32 :=
  addf (F := Ideal) (Host.divf (F := Ideal) (broadcastInDim S16384x1 ![0] bcast_S16384_S16384x1_0
    (Host.reduceAdd (F := Ideal) (mulf (F := Ideal) h h) (constant (F := Ideal) S_ .f32 0x00000000#32) reducesTo_S16384x1024_S16384_d1 h_S_)) (col 0x44800000#32)) (col 0x358637BD#32)
def rRs : FVec Ideal S16384x1 .f32 := Host.rsqrt (F := Ideal) (rMsq h)
def rUnit : FVec Ideal S16384x1024 .f32 := mulf (F := Ideal) h (spread (rRs h))
def rXn : FVec Ideal S16384x1024 .f32 := mulf (F := Ideal) (rUnit h) (broadcastInDim S16384x1024 ![0, 1] bcast_S1x1024_S16384x1024_0_1 w)
def rGu : FVec Ideal S16384x5632 .f32 := Host.dotGeneral (F := Ideal) dot_S16384x1024_S1024x5632_S16384x5632_1_0_0_1_n_n none xn wi
def rGate : FVec Ideal S16384x2816 .f32 := extractStridedSlice S16384x2816 ![0, 0] gu slices_S16384x5632_S16384x2816_0_0
def rUp : FVec Ideal S16384x2816 .f32 := extractStridedSlice S16384x2816 ![0, 2816] gu slices_S16384x5632_S16384x2816_0_2816
def rSig : FVec Ideal S16384x2816 .f32 :=
  Host.divf (F := Ideal) (hid 0x3F800000#32) (addf (F := Ideal) (hid 0x3F800000#32) (Host.exp (F := Ideal) (Host.negf (F := Ideal) (rGate gu))))
def rSilu : FVec Ideal S16384x2816 .f32 := mulf (F := Ideal) (rGate gu) (rSig gu)
def rAct : FVec Ideal S16384x2816 .f32 := mulf (F := Ideal) (rSilu gu) (rUp gu)
def rOut : FVec Ideal S16384x1024 .f32 :=
  addf (F := Ideal) h (mulf (F := Ideal) (tok 0x3F000000#32) (Host.dotGeneral (F := Ideal) dot_S16384x2816_S2816x1024_S16384x1024_1_0_0_1_n_n none act wo))
def rHalf : FVec Ideal S16384x1024 .f32 := mulf (F := Ideal) (tok 0x3F000000#32) (shapeCast S16384x1024 g shapeCasts_S16384x1024_S16384x1024)
def rDwout : FVec Ideal S2816x1024 .f32 :=
  transpose S2816x1024 [1, 0] (Host.dotGeneral (F := Ideal) dot_S16384x1024_S16384x2816_S1024x2816_0_0_1_1_n_n none (rHalf g) act) transposes_S1024x2816_S2816x1024_1_0
def rDa : FVec Ideal S16384x2816 .f32 := Host.dotGeneral (F := Ideal) dot_S16384x1024_S2816x1024_S16384x2816_1_1_0_0_n_n none (rHalf g) wo
def rDsilu : FVec Ideal S16384x2816 .f32 := mulf (F := Ideal) da (rUp gu)
def rDgate : FVec Ideal S16384x2816 .f32 :=
  addf (F := Ideal) (mulf (F := Ideal) (rDsilu gu da) (rSig gu))
    (mulf (F := Ideal) (mulf (F := Ideal) (rGate gu) (rDsilu gu da)) (mulf (F := Ideal) (rSig gu) (subf (F := Ideal) (hid 0x3F800000#32) (rSig gu))))
def rDup : FVec Ideal S16384x2816 .f32 := mulf (F := Ideal) (rSilu gu) da
def rDgu : FVec Ideal S16384x5632 .f32 :=
  concatenate S16384x5632 1 [⟨S16384x2816, rDgate gu da⟩, ⟨S16384x2816, rDup gu da⟩] concatenates_S16384x2816_S16384x2816_S16384x5632_d1
def rDwin : FVec Ideal S1024x5632 .f32 :=
  transpose S1024x5632 [1, 0] (Host.dotGeneral (F := Ideal) dot_S16384x5632_S16384x1024_S5632x1024_0_0_1_1_n_n none dgu xn) transposes_S5632x1024_S1024x5632_1_0
def rDxn : FVec Ideal S16384x1024 .f32 := Host.dotGeneral (F := Ideal) dot_S16384x5632_S1024x5632_S16384x1024_1_1_0_0_n_n none dgu wi
def rDnw : FVec Ideal S1x1024 .f32 :=
  shapeCast S1x1024 (Host.reduceAdd (F := Ideal) (mulf (F := Ideal) (rUnit h) dxn) (constant (F := Ideal) S_ .f32 0x00000000#32) reducesTo_S16384x1024_S1024_d0 h_S_) shapeCasts_S1024_S1x1024
def rScaled : FVec Ideal S16384x1024 .f32 := mulf (F := Ideal) dxn (broadcastInDim S16384x1024 ![0, 1] bcast_S1x1024_S16384x1024_0_1 w)
def rDvar : FVec Ideal S16384x1 .f32 :=
  Host.divf (F := Ideal) (mulf (F := Ideal)
    (shapeCast S16384x1 (Host.reduceAdd (F := Ideal) (mulf (F := Ideal) h (rScaled dxn w)) (constant (F := Ideal) S_ .f32 0x00000000#32) reducesTo_S16384x1024_S16384_d1 h_S_) shapeCasts_S16384_S16384x1)
    (mulf (F := Ideal) (col 0xBF000000#32) (Host.divf (F := Ideal) (rRs h) (rMsq h)))) (col 0x44800000#32)
def rDvarT : FVec Ideal S16384x1024 .f32 :=
  broadcastInDim S16384x1024 ![0] bcast_S16384_S16384x1024_0
    (Host.reduceAdd (F := Ideal) (rDvar h dxn w) (constant (F := Ideal) S_ .f32 0x00000000#32) reducesTo_S16384x1_S16384_d1 h_S_)
def rDh : FVec Ideal S16384x1024 .f32 :=
  addf (F := Ideal) (addf (F := Ideal) (addf (F := Ideal) g (mulf (F := Ideal) (rScaled dxn w) (spread (rRs h))))
    (mulf (F := Ideal) h (rDvarT h dxn w))) (mulf (F := Ideal) (rDvarT h dxn w) h)

/-! ## The stages are the layer's arrays -/

theorem rXn_eq : rXn h w = normOf h w := by
  funext y
  unfold rXn rUnit rRs rMsq normOf rs msq
  pointwise

theorem rGu_eq : rGu xn wi = gateUp wi xn := by
  funext y
  unfold rGu gateUp
  pointwise

theorem rAct_eq : rAct gu = actOf gu := by
  funext y
  unfold rAct rSilu rSig rGate rUp actOf Ideal.logistic
  pointwise

theorem rOut_eq : rOut h wo act = outOf h wo act := by
  funext y
  unfold rOut outOf
  pointwise
  exact congrArg _ (mul_comm _ _)

theorem rDwout_eq : rDwout g act = dwoutOf g act := by
  funext y
  unfold rDwout rHalf dwoutOf
  pointwise
  simp only [mul_assoc, sum_half]
  exact congrArg (· * half) (Finset.sum_congr rfl fun _ _ => mul_comm _ _)

theorem rDa_eq : rDa g wo = dactOf wo g := by
  funext y
  unfold rDa rHalf dactOf
  pointwise
  simp only [mul_assoc, sum_half]

theorem rDgu_eq : rDgu gu da = dguOf gu da := by
  funext y
  unfold rDgu rDgate rDup rDsilu rSilu rSig rGate rUp dguOf dgateAt dupAt Ideal.logistic
  pointwise
  have hy : gu y = gu (ix2 (y 0) (y 1)) := congrArg gu (by funext a; match a with | 0 => rfl | 1 => rfl)
  simp only [hy]
  rfl

theorem rDwin_eq : rDwin xn dgu = dwinOf xn dgu := by
  funext y
  unfold rDwin dwinOf
  pointwise
  exact Finset.sum_congr rfl fun _ _ => mul_comm _ _

theorem rDxn_eq : rDxn wi dgu = dxnOf wi dgu := by
  funext y
  unfold rDxn dxnOf
  pointwise

theorem rDnw_eq : rDnw h dxn = dnwOf h dxn := by
  funext y
  unfold rDnw rUnit rRs rMsq dnwOf dnwAt rs msq
  pointwise

theorem rDh_eq : rDh h g dxn w = dhOf h w g dxn := by
  funext y
  unfold rDh rDvarT rDvar rScaled rRs rMsq dhOf dvar rs msq
  pointwise
  simp only [Fin.sum_univ_one]
  have turn (a b d e : EReal) : a + b + d + e = b + d + e + a := by ac_rfl
  exact turn _ _ _ _

end Cert.LayerRef
end
-- ==== Proof.FfnAlgebraic.lean ====
/- The feed-forward layer's two programs leave equal results: each leaves the same functions of the same arguments. -/
module

public import proofs.«01_k».proof.Proof.FfnFrames
public import proofs.«01_k».proof.Proof.FfnOut
public import proofs.«01_k».proof.Proof.FfnRef

@[expose] public section

set_option maxRecDepth 16384

noncomputable section

namespace Cert.LayerSpec

variable (h : Mat 16384 1024) (w : Mat 1 1024) (wi : Mat 1024 5632) (wo : Mat 2816 1024) (g : Mat 16384 1024)

/-! ## The layer's arrays from its arguments -/

def guV : Mat 16384 5632 := gateUp wi (normOf h w)
def actV : Mat 16384 2816 := actOf (guV h w wi)
def outV : Mat 16384 1024 := outOf h wo (actV h w wi)
def dwoutV : Mat 2816 1024 := dwoutOf g (actV h w wi)
def dguV : Mat 16384 5632 := dguOf (guV h w wi) (dactOf wo g)
def dwinV : Mat 1024 5632 := dwinOf (normOf h w) (dguV h w wi wo g)
def dxnV : Mat 16384 1024 := dxnOf wi (dguV h w wi wo g)
def dhV : Mat 16384 1024 := dhOf h w g (dxnV h w wi wo g)
def dnwV : Mat 1 1024 := dnwOf h (dxnV h w wi wo g)

end Cert.LayerSpec

namespace Cert.Layer

open Cert.FfnIdeal Cert.FfnIdeal.Gen Cert.LayerSpec
open Idealize.ShloMosaic Idealize.ShloMosaic.TcCoe

variable (m : (ℓ : Loc nD τ sig) → Buf (Elt Ideal) ℓ) (c : Dev nD)

/-- A device's arguments. -/
abbrev a0 : Mat 16384 1024 := m ((c.tc : Thread nD τ).loc main_arg0)
abbrev a1 : Mat 1 1024 := m ((c.tc : Thread nD τ).loc main_arg1)
abbrev a2 : Mat 1024 5632 := m ((c.tc : Thread nD τ).loc main_arg2)
abbrev a3 : Mat 2816 1024 := m ((c.tc : Thread nD τ).loc main_arg3)
abbrev a4 : Mat 16384 1024 := m ((c.tc : Thread nD τ).loc main_arg4)

/-! ## The casts are the identity on extended reals -/

theorem W1_v0 : W1 m c (Proc.devRef .tc main_v0) = a2 m c := by
  show StableHlo.after hostOps0 (W0 m c) (Proc.devRef .tc main_v0) = _
  simp only [hostOps0]
  after_results_simp
  rfl

theorem W1_v1 : W1 m c (Proc.devRef .tc main_v1) = a3 m c := by
  show StableHlo.after hostOps0 (W0 m c) (Proc.devRef .tc main_v1) = _
  simp only [hostOps0]
  after_results_simp
  rfl

/-! ## What each call leaves -/

theorem W2_v2 : W2 m c (Proc.devRef .tc main_v2) = normOf (a0 m c) (a1 m c) := by
  refine ((Pipeline.afterRegion_arr (dat0 (W1 m) c) (W1 m c) winFacts0.arr_inj 2).trans (final0 (W1 m) c)).trans ?_
  rw [keepH m c main_arg0 (by decide), keepH m c main_arg1 (by decide)]

theorem W3_v3 : W3 m c (Proc.devRef .tc main_v3) = guV (a0 m c) (a1 m c) (a2 m c) := by
  refine ((Pipeline.afterRegion_arr (dat1 (W2 m) c) (W2 m c) winFacts1.arr_inj 2).trans (final1 (W2 m) c)).trans ?_
  rw [keep0 m c main_v0 (by decide), W1_v0, W2_v2]
  rfl

theorem W4_v4 : W4 m c (Proc.devRef .tc main_v4) = actV (a0 m c) (a1 m c) (a2 m c) := by
  refine ((Pipeline.afterRegion_arr (dat2 (W3 m) c) (W3 m c) winFacts2.arr_inj 1).trans (final2 (W3 m) c)).trans ?_
  rw [W3_v3]
  rfl

theorem W4_v1 : W4 m c (Proc.devRef .tc main_v1) = a3 m c := by
  rw [keep2 m c main_v1 (by decide), keep1 m c main_v1 (by decide), keep0 m c main_v1 (by decide), W1_v1]

theorem W5_v5 : W5 m c (Proc.devRef .tc main_v5) = outV (a0 m c) (a1 m c) (a2 m c) (a3 m c) := by
  refine ((Pipeline.afterRegion_arr (dat3 (W4 m) c) (W4 m c) winFacts3.arr_inj 3).trans (final3 (W4 m) c)).trans ?_
  rw [W4_v1, W4_v4, keep2 m c main_arg0 (by decide), keep1 m c main_arg0 (by decide), keep0 m c main_arg0 (by decide), keepH m c main_arg0 (by decide)]
  rfl

theorem W5_arg4 : W5 m c (Proc.devRef .tc main_arg4) = a4 m c := by
  rw [keep3 m c main_arg4 (by decide), keep2 m c main_arg4 (by decide), keep1 m c main_arg4 (by decide), keep0 m c main_arg4 (by decide),
    keepH m c main_arg4 (by decide)]

theorem W6_v6 : W6 m c (Proc.devRef .tc main_v6) = dwoutV (a0 m c) (a1 m c) (a2 m c) (a4 m c) := by
  refine ((Pipeline.afterRegion_arr (dat4 (W5 m) c) (W5 m c) winFacts4.arr_inj 2).trans (final4 (W5 m) c)).trans ?_
  rw [W5_arg4, keep3 m c main_v4 (by decide), W4_v4]
  rfl

theorem W7_v7 : W7 m c (Proc.devRef .tc main_v7) = dactOf (a3 m c) (a4 m c) := by
  refine ((Pipeline.afterRegion_arr (dat5 (W6 m) c) (W6 m c) winFacts5.arr_inj 2).trans (final5 (W6 m) c)).trans ?_
  rw [keep4 m c main_v1 (by decide), keep3 m c main_v1 (by decide), W4_v1, keep4 m c main_arg4 (by decide), W5_arg4]

theorem W8_v8 : W8 m c (Proc.devRef .tc main_v8) = dguV (a0 m c) (a1 m c) (a2 m c) (a3 m c) (a4 m c) := by
  refine ((Pipeline.afterRegion_arr (dat6 (W7 m) c) (W7 m c) winFacts6.arr_inj 2).trans (final6 (W7 m) c)).trans ?_
  rw [W7_v7, keep5 m c main_v3 (by decide), keep4 m c main_v3 (by decide), keep3 m c main_v3 (by decide), keep2 m c main_v3 (by decide), W3_v3]
  rfl

/-- The calls before the weight gradient leave the normalised tokens. -/
theorem W8_v2 : W8 m c (Proc.devRef .tc main_v2) = normOf (a0 m c) (a1 m c) := by
  rw [keep6 m c main_v2 (by decide), keep5 m c main_v2 (by decide), keep4 m c main_v2 (by decide), keep3 m c main_v2 (by decide),
    keep2 m c main_v2 (by decide), keep1 m c main_v2 (by decide), W2_v2]

theorem W9_v9 : W9 m c (Proc.devRef .tc main_v9) = dwinV (a0 m c) (a1 m c) (a2 m c) (a3 m c) (a4 m c) := by
  refine ((Pipeline.afterRegion_arr (dat7 (W8 m) c) (W8 m c) winFacts7.arr_inj 2).trans (final7 (W8 m) c)).trans ?_
  rw [W8_v2, W8_v8]
  rfl

theorem W9_v0 : W9 m c (Proc.devRef .tc main_v0) = a2 m c := by
  rw [keep7 m c main_v0 (by decide), keep6 m c main_v0 (by decide), keep5 m c main_v0 (by decide), keep4 m c main_v0 (by decide),
    keep3 m c main_v0 (by decide), keep2 m c main_v0 (by decide), keep1 m c main_v0 (by decide), keep0 m c main_v0 (by decide), W1_v0]

theorem W10_v10 : W10 m c (Proc.devRef .tc main_v10) = dxnV (a0 m c) (a1 m c) (a2 m c) (a3 m c) (a4 m c) := by
  refine ((Pipeline.afterRegion_arr (dat8 (W9 m) c) (W9 m c) winFacts8.arr_inj 2).trans (final8 (W9 m) c)).trans ?_
  rw [W9_v0, keep7 m c main_v8 (by decide), W8_v8]
  rfl

/-- The last call finds the arguments as given. -/
theorem W10_arg (r : Ref sig .tc) (h : OffAll r) : W10 m c (Proc.devRef .tc r) = m ((c.tc : Thread nD τ).loc r) :=
  (keep9 m c r h.2.2.2.2.2.2.2.2.2.1).symm.trans (W11_keep m c r h)

theorem W11_dh : W11 m c (Proc.devRef .tc main_v11_0) = dhV (a0 m c) (a1 m c) (a2 m c) (a3 m c) (a4 m c) := by
  refine ((Pipeline.afterRegion_arr (dat9 (W10 m) c) (W10 m c) winFacts9.arr_inj 4).trans (final9_h (W10 m) c)).trans ?_
  rw [W10_v10, W10_arg m c main_arg0 (by decide), W10_arg m c main_arg1 (by decide), W10_arg m c main_arg4 (by decide)]
  rfl

theorem W11_dnw : W11 m c (Proc.devRef .tc main_v11_1) = dnwV (a0 m c) (a1 m c) (a2 m c) (a3 m c) (a4 m c) := by
  refine ((Pipeline.afterRegion_arr (dat9 (W10 m) c) (W10 m c) winFacts9.arr_inj 5).trans (final9_w (W10 m) c)).trans ?_
  rw [W10_v10, W10_arg m c main_arg0 (by decide)]
  rfl

/-! ## The results left by earlier calls stay -/

theorem W11_dwin : W11 m c (Proc.devRef .tc main_v9) = dwinV (a0 m c) (a1 m c) (a2 m c) (a3 m c) (a4 m c) := by
  rw [keep9 m c main_v9 (by decide), keep8 m c main_v9 (by decide), W9_v9]

theorem W11_dwout : W11 m c (Proc.devRef .tc main_v6) = dwoutV (a0 m c) (a1 m c) (a2 m c) (a4 m c) := by
  rw [keep9 m c main_v6 (by decide), keep8 m c main_v6 (by decide), keep7 m c main_v6 (by decide), keep6 m c main_v6 (by decide),
    keep5 m c main_v6 (by decide), W6_v6]

theorem W11_out : W11 m c (Proc.devRef .tc main_v5) = outV (a0 m c) (a1 m c) (a2 m c) (a3 m c) := by
  rw [keep9 m c main_v5 (by decide), keep8 m c main_v5 (by decide), keep7 m c main_v5 (by decide), keep6 m c main_v5 (by decide),
    keep5 m c main_v5 (by decide), keep4 m c main_v5 (by decide), W5_v5]

end Cert.Layer

namespace Cert.LayerRef

open Cert.FfnRefIdeal Cert.FfnRefIdeal.Gen Cert.LayerSpec
open Idealize.ShloMosaic Idealize.ShloMosaic.TcCoe

variable (h g : FVec Ideal S16384x1024 .f32) (w : FVec Ideal S1x1024 .f32) (wi : FVec Ideal S1024x5632 .f32) (wo : FVec Ideal S2816x1024 .f32)

/-! ## The reference's arrays from its arguments -/

theorem gu_eq : rGu (rXn h w) wi = guV h w wi := (rGu_eq _ _).trans (by rw [rXn_eq]; rfl)
theorem act_eq : rAct (rGu (rXn h w) wi) = actV h w wi := (rAct_eq _).trans (by rw [gu_eq]; rfl)
theorem dgu_eq : rDgu (rGu (rXn h w) wi) (rDa g wo) = dguV h w wi wo g := (rDgu_eq _ _).trans (by rw [gu_eq, rDa_eq]; rfl)
theorem dxn_eq : rDxn wi (rDgu (rGu (rXn h w) wi) (rDa g wo)) = dxnV h w wi wo g := (rDxn_eq _ _).trans (by rw [dgu_eq]; rfl)
theorem out_eq : rOut h wo (rAct (rGu (rXn h w) wi)) = outV h w wi wo := (rOut_eq _ _ _).trans (by rw [act_eq]; rfl)
theorem dwout_eq : rDwout g (rAct (rGu (rXn h w) wi)) = dwoutV h w wi g := (rDwout_eq _ _).trans (by rw [act_eq]; rfl)
theorem dwin_eq : rDwin (rXn h w) (rDgu (rGu (rXn h w) wi) (rDa g wo)) = dwinV h w wi wo g :=
  (rDwin_eq _ _).trans (by rw [dgu_eq, rXn_eq]; rfl)
theorem dh_eq : rDh h g (rDxn wi (rDgu (rGu (rXn h w) wi) (rDa g wo))) w = dhV h w wi wo g := (rDh_eq _ _ _ _).trans (by rw [dxn_eq]; rfl)
theorem dnw_eq : rDnw h (rDxn wi (rDgu (rGu (rXn h w) wi) (rDa g wo))) = dnwV h w wi wo g := (rDnw_eq _ _).trans (by rw [dxn_eq]; rfl)

variable (m : (ℓ : Loc nD τ sig) → Buf (Elt Ideal) ℓ) (c : Dev nD)

/-- A device's arguments. -/
abbrev b0 : FVec Ideal S16384x1024 .f32 := m ((c.tc : Thread nD τ).loc main_arg0)
abbrev b1 : FVec Ideal S1x1024 .f32 := m ((c.tc : Thread nD τ).loc main_arg1)
abbrev b2 : FVec Ideal S1024x5632 .f32 := m ((c.tc : Thread nD τ).loc main_arg2)
abbrev b3 : FVec Ideal S2816x1024 .f32 := m ((c.tc : Thread nD τ).loc main_arg3)
abbrev b4 : FVec Ideal S16384x1024 .f32 := m ((c.tc : Thread nD τ).loc main_arg4)

theorem res_dh : Value.res_out1 m c = dhV (b0 m c) (b1 m c) (b2 m c) (b3 m c) (b4 m c) := Eq.trans rfl (dh_eq _ _ _ _ _)
theorem res_dnw : Value.res_out2 m c = dnwV (b0 m c) (b1 m c) (b2 m c) (b3 m c) (b4 m c) := Eq.trans rfl (dnw_eq _ _ _ _ _)
theorem res_dwin : Value.res_out3 m c = dwinV (b0 m c) (b1 m c) (b2 m c) (b3 m c) (b4 m c) := Eq.trans rfl (dwin_eq _ _ _ _ _)

end Cert.LayerRef

namespace Cert.Final

open Cert.LayerSpec
open Idealize.ShloMosaic Idealize.ShloMosaic.TcCoe

theorem algebraic_layer : Cert.algebraic_FfnIdeal_FfnRefIdeal := by
  intro m g m' g' _ hargs
  have h0 : ∀ c, Cert.LayerRef.b0 m' c = Cert.Layer.a0 m c := fun c => (hargs c).1
  have h1 : ∀ c, Cert.LayerRef.b1 m' c = Cert.Layer.a1 m c := fun c => (hargs c).2.1
  have h2 : ∀ c, Cert.LayerRef.b2 m' c = Cert.Layer.a2 m c := fun c => (hargs c).2.2.1
  have h3 : ∀ c, Cert.LayerRef.b3 m' c = Cert.Layer.a3 m c := fun c => (hargs c).2.2.2.1
  have h4 : ∀ c, Cert.LayerRef.b4 m' c = Cert.Layer.a4 m c := fun c => (hargs c).2.2.2.2
  refine ⟨fun c => outV (Cert.Layer.a0 m c) (Cert.Layer.a1 m c) (Cert.Layer.a2 m c) (Cert.Layer.a3 m c),
    fun c => dhV (Cert.Layer.a0 m c) (Cert.Layer.a1 m c) (Cert.Layer.a2 m c) (Cert.Layer.a3 m c) (Cert.Layer.a4 m c),
    fun c => dnwV (Cert.Layer.a0 m c) (Cert.Layer.a1 m c) (Cert.Layer.a2 m c) (Cert.Layer.a3 m c) (Cert.Layer.a4 m c),
    fun c => dwinV (Cert.Layer.a0 m c) (Cert.Layer.a1 m c) (Cert.Layer.a2 m c) (Cert.Layer.a3 m c) (Cert.Layer.a4 m c),
    fun c => dwoutV (Cert.Layer.a0 m c) (Cert.Layer.a1 m c) (Cert.Layer.a2 m c) (Cert.Layer.a4 m c), ?_, ?_⟩
  · refine (θ_run Cert.FfnIdeal.defs _ _).mono (fun r h c => ?_) (Cert.Layer.run_main (F := Ideal) m g)
    exact ⟨(Cert.Layer.read m h.1 c _ rfl).trans (Cert.Layer.W11_out m c), (Cert.Layer.read m h.1 c _ rfl).trans (Cert.Layer.W11_dh m c),
      (Cert.Layer.read m h.1 c _ rfl).trans (Cert.Layer.W11_dnw m c), (Cert.Layer.read m h.1 c _ rfl).trans (Cert.Layer.W11_dwin m c),
      (Cert.Layer.read m h.1 c _ rfl).trans (Cert.Layer.W11_dwout m c), Cert.Layer.args_keep m h.1 c⟩
  · refine (θ_run Cert.FfnRefIdeal.defs _ _).mono (fun r h c => ?_) (Cert.FfnRefIdeal.Value.run (F := Ideal) m' g')
    obtain ⟨r0, r1, r2, r3, r4, hk⟩ := h c
    refine ⟨r0.trans (Eq.trans ?_ (Cert.LayerRef.out_eq (Cert.Layer.a0 m c) (Cert.Layer.a1 m c) (Cert.Layer.a2 m c) (Cert.Layer.a3 m c))),
      (r1.trans (Cert.LayerRef.res_dh m' c)).trans (by rw [h0, h1, h2, h3, h4]),
      (r2.trans (Cert.LayerRef.res_dnw m' c)).trans (by rw [h0, h1, h2, h3, h4]),
      (r3.trans (Cert.LayerRef.res_dwin m' c)).trans (by rw [h0, h1, h2, h3, h4]),
      r4.trans (Eq.trans ?_ (Cert.LayerRef.dwout_eq (Cert.Layer.a0 m c) (Cert.Layer.a4 m c) (Cert.Layer.a1 m c) (Cert.Layer.a2 m c))), hk⟩
    · rw [← h0, ← h1, ← h2, ← h3]
      rfl
    · rw [← h0, ← h1, ← h2, ← h4]
      rfl

end Cert.Final
end
-- ==== Proof.MergeRun.lean ====
/- What each of the eleven calls of the mixer's branch and output projections computes of its blocks, and its body's run between its buffers. -/
module

public import proofs.«01_k».proof.Proof.Bodies
public import proofs.«01_k».proof.Proof.FfnRun
public import proofs.«01_k».proof.Proof.Gen.MergeIdeal.Launch
public import proofs.«01_k».proof.Proof.Gen.MergeIdeal.Points

@[expose] public section

set_option maxRecDepth 16384

noncomputable section

namespace Cert.Merger

open Cert.MergeIdeal Cert.MergeIdeal.Gen
open Cert.Call (has kept load_all congr3 run_pair run_triple run_acc)
open Cert.Layer (first)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (UR sig nD τ) ℕ

/-! ## What the bodies compute -/

/-- The first branch's tile. -/
def sbrT (a : Vec F S1024x2048 .bf16) (b : Vec F S2048x1024 .bf16) : Vec F S1024x1024 .f32 :=
  matmul (F := F) dot_S1024x2048_S2048x1024_S1024x1024_1_0_0_1_n_n none (shapeCast S1024x2048 a shapeCasts_S1024x2048_S1024x2048 : FVec F S1024x2048 .bf16)
    (shapeCast S2048x1024 b shapeCasts_S2048x1024_S2048x1024 : FVec F S2048x1024 .bf16) (constant S1024x1024 .f32 0x00000000#32)

/-- The second branch's tile. -/
def dbrT (a : Vec F S2048x1024 .bf16) (b : Vec F S1024x1024 .bf16) : Vec F S2048x1024 .f32 :=
  matmul (F := F) dot_S2048x1024_S1024x1024_S2048x1024_1_0_0_1_n_n none (shapeCast S2048x1024 a shapeCasts_S2048x1024_S2048x1024 : FVec F S2048x1024 .bf16)
    (shapeCast S1024x1024 b shapeCasts_S1024x1024_S1024x1024 : FVec F S1024x1024 .bf16) (constant S2048x1024 .f32 0x00000000#32)

/-- The left half of a tile of gates. -/
def lhs (x : Vec F S256x2048 .bf16) : Vec F S256x1024 .bf16 := fun j => x ((Rect.unit (s := S256x2048) ![0, 0] S256x1024.size inb_S256x2048_S256x1024_0_0).emb j)
/-- The right half. -/
def rhs (x : Vec F S256x2048 .bf16) : Vec F S256x1024 .bf16 := fun j => x ((Rect.unit (s := S256x2048) ![0, 1024] S256x1024.size inb_S256x2048_S256x1024_0_1024).emb j)

/-- A tile as the body widens it. -/
def wide (x : Vec F S256x1024 .bf16) : FVec F S256x1024 .f32 := extf .f32 (shapeCast S256x1024 x shapeCasts_S256x1024_S256x1024 : FVec F S256x1024 .bf16) bitsLt_bf16_f32
/-- A wide tile as the body takes it. -/
def same (x : Vec F S256x1024 .f32) : FVec F S256x1024 .f32 := shapeCast S256x1024 x shapeCasts_S256x1024_S256x1024

/-- Both branches under their gates. -/
def mergeT (g u : Vec F S256x1024 .bf16) (p q : Vec F S256x1024 .f32) : Vec F S256x1024 .bf16 :=
  truncf .bf16 (addf (mulf (logistic (wide g)) (same p)) (mulf (logistic (wide u)) (same q))) bitsLt_bf16_f32

/-- The output tile on its residual. -/
def outT (a b : Vec F S1024x1024 .bf16) (r : Vec F S1024x1024 .f32) : Vec F S1024x1024 .f32 :=
  addf r (matmul (F := F) dot_S1024x1024_S1024x1024_S1024x1024_1_0_0_1_n_n none (shapeCast S1024x1024 a shapeCasts_S1024x1024_S1024x1024 : FVec F S1024x1024 .bf16)
    (shapeCast S1024x1024 b shapeCasts_S1024x1024_S1024x1024 : FVec F S1024x1024 .bf16) (constant S1024x1024 .f32 0x00000000#32))

/-- The output weight's gradient, one more tile added. -/
def dwoAcc (s : Vec F S1024x1024 .f32) (a : Vec F S2048x1024 .bf16) (b : Vec F S2048x1024 .f32) : Vec F S1024x1024 .f32 :=
  shapeCast S1024x1024 (addf s (matmul (F := F) dot_S2048x1024_S2048x1024_S1024x1024_0_0_1_1_n_n none (shapeCast S2048x1024 a shapeCasts_S2048x1024_S2048x1024 : FVec F S2048x1024 .bf16)
    (truncf .bf16 b bitsLt_bf16_f32 : FVec F S2048x1024 .bf16) (constant S1024x1024 .f32 0x00000000#32)) : FVec F S1024x1024 .f32) shapeCasts_S1024x1024_S1024x1024
/-- Its accumulator cleared. -/
def dwoZero : Vec F S1024x1024 .f32 := shapeCast S1024x1024 (broadcast S1024x1024 (Scalar.ofBits .f32 0x00000000#32) : FVec F S1024x1024 .f32) shapeCasts_S1024x1024_S1024x1024

/-- The merged tile's gradient. -/
def dmergedT (a : Vec F S2048x1024 .f32) (b : Vec F S1024x1024 .bf16) : Vec F S2048x1024 .bf16 :=
  truncf .bf16 (matmul (F := F) dot_S2048x1024_S1024x1024_S2048x1024_1_1_0_0_n_n none (truncf .bf16 a bitsLt_bf16_f32 : FVec F S2048x1024 .bf16)
    (shapeCast S1024x1024 b shapeCasts_S1024x1024_S1024x1024 : FVec F S1024x1024 .bf16) (constant S2048x1024 .f32 0x00000000#32)) bitsLt_bf16_f32

/-- One gate's gradient. -/
def dgateT (g : Vec F S256x1024 .bf16) (p : Vec F S256x1024 .f32) (d : Vec F S256x1024 .bf16) : Vec F S256x1024 .bf16 :=
  truncf .bf16 (mulf (mulf (wide d) (same p)) (mulf (logistic (wide g)) (subf (broadcast S256x1024 (Scalar.ofBits .f32 0x3F800000#32)) (logistic (wide g))))) bitsLt_bf16_f32
/-- One branch's gradient. -/
def dbranchT (g d : Vec F S256x1024 .bf16) : Vec F S256x1024 .bf16 := truncf .bf16 (mulf (logistic (wide g)) (wide d)) bitsLt_bf16_f32

/-- Both gates' gradients, side by side. -/
def dgatesOf (g u : Vec F S256x1024 .bf16) (p q : Vec F S256x1024 .f32) (d : Vec F S256x1024 .bf16) : Vec F S256x2048 .bf16 :=
  View.canon [(⟨Rect.unit (s := S256x2048) ![0, 1024] S256x1024.size inb_S256x2048_S256x1024_0_1024, dgateT u q d⟩ : View.Piece (Elt F) S256x2048 .bf16),
    ⟨Rect.unit (s := S256x2048) ![0, 0] S256x1024.size inb_S256x2048_S256x1024_0_0, dgateT g p d⟩]

/-- A branch weight's gradient, one more tile added. -/
def dwAcc (s : Vec F S512x1024 .f32) (a : Vec F S4096x512 .bf16) (b : Vec F S4096x1024 .bf16) : Vec F S512x1024 .f32 :=
  shapeCast S512x1024 (addf s (matmul (F := F) dot_S4096x512_S4096x1024_S512x1024_0_0_1_1_n_n none (shapeCast S4096x512 a shapeCasts_S4096x512_S4096x512 : FVec F S4096x512 .bf16)
    (shapeCast S4096x1024 b shapeCasts_S4096x1024_S4096x1024 : FVec F S4096x1024 .bf16) (constant S512x1024 .f32 0x00000000#32)) : FVec F S512x1024 .f32) shapeCasts_S512x1024_S512x1024
/-- Its accumulator cleared. -/
def dwZero : Vec F S512x1024 .f32 := shapeCast S512x1024 (broadcast S512x1024 (Scalar.ofBits .f32 0x00000000#32) : FVec F S512x1024 .f32) shapeCasts_S512x1024_S512x1024

/-- A branch input's gradient. -/
def dyT (a : Vec F S2048x1024 .bf16) (b : Vec F S1024x1024 .bf16) : Vec F S2048x1024 .bf16 :=
  truncf .bf16 (matmul (F := F) dot_S2048x1024_S1024x1024_S2048x1024_1_1_0_0_n_n none (shapeCast S2048x1024 a shapeCasts_S2048x1024_S2048x1024 : FVec F S2048x1024 .bf16)
    (shapeCast S1024x1024 b shapeCasts_S1024x1024_S1024x1024 : FVec F S1024x1024 .bf16) (constant S2048x1024 .f32 0x00000000#32)) bitsLt_bf16_f32

/-! ## The bodies' runs -/

section Runs

variable (c : Dev nD)

theorem run0 (i : grid0.Coords) {a0} (h0 : a0.IsWhole) {a1} (h1 : a1.IsWhole) {a2} (h2 : a2.IsWhole)
    (x0 : Vec F S1024x2048 .bf16) (x1 : Vec F S2048x1024 .bf16) (E : Set ℕ) (K : sProp 𝕄) :
    iprop((has c a0 x0 ∗ has c a1 x1 ∗ ∃ d, has c a2 d) ∗ (iprop(has c a0 x0 ∗ has c a1 x1 ∗ has c a2 (sbrT x0 x1)) -∗ K))
      ⊢ wp frame (wpE (defs₀ (F := F)) Variants.none c none) E (cc0_mix_sbr i a0 h0 a1 h1 a2 h2) fun _ => K :=
  run_pair c h0 h1 sbrT x0 x1 E K

theorem run1 (i : grid1.Coords) {a0} (h0 : a0.IsWhole) {a1} (h1 : a1.IsWhole) {a2} (h2 : a2.IsWhole)
    (x0 : Vec F S2048x1024 .bf16) (x1 : Vec F S1024x1024 .bf16) (E : Set ℕ) (K : sProp 𝕄) :
    iprop((has c a0 x0 ∗ has c a1 x1 ∗ ∃ d, has c a2 d) ∗ (iprop(has c a0 x0 ∗ has c a1 x1 ∗ has c a2 (dbrT x0 x1)) -∗ K))
      ⊢ wp frame (wpE (defs₀ (F := F)) Variants.none c none) E (cc1_mix_dbr i a0 h0 a1 h1 a2 h2) fun _ => K :=
  run_pair c h0 h1 dbrT x0 x1 E K

theorem run3 (i : grid3.Coords) {a0} (h0 : a0.IsWhole) {a1} (h1 : a1.IsWhole) {a2} (h2 : a2.IsWhole) {a3} (h3 : a3.IsWhole)
    (x0 x1 : Vec F S1024x1024 .bf16) (x2 : Vec F S1024x1024 .f32) (E : Set ℕ) (K : sProp 𝕄) :
    iprop((has c a0 x0 ∗ has c a1 x1 ∗ has c a2 x2 ∗ ∃ d, has c a3 d) ∗ (iprop(has c a0 x0 ∗ has c a1 x1 ∗ has c a2 x2 ∗ has c a3 (outT x0 x1 x2)) -∗ K))
      ⊢ wp frame (wpE (defs₀ (F := F)) Variants.none c none) E (cc3_mix_out i a0 h0 a1 h1 a2 h2 a3 h3) fun _ => K :=
  run_triple c h0 h1 h2 outT x0 x1 x2 E K

theorem run4 (i : grid4.Coords) {a0} (h0 : a0.IsWhole) {a1} (h1 : a1.IsWhole) {a2} (h2 : a2.IsWhole) {a3} (h3 : a3.IsWhole)
    (x0 : Vec F S2048x1024 .bf16) (x1 : Vec F S2048x1024 .f32) (d s : Vec F S1024x1024 .f32) (E : Set ℕ) (K : sProp 𝕄) :
    iprop(((has c a0 x0 ∗ has c a1 x1 ∗ has c a2 d) ∗ has c a3 s)
        ∗ (iprop((has c a0 x0 ∗ has c a1 x1 ∗ has c a2 (if k4_cond2 i = 1#1 then dwoAcc (if first (i 2) then dwoZero else s) x0 x1 else d))
            ∗ has c a3 (dwoAcc (if first (i 2) then dwoZero else s) x0 x1)) -∗ K))
      ⊢ wp frame (wpE (defs₀ (F := F)) Variants.none c none) E (cc4_mix_dwout i a0 h0 a1 h1 a2 h2 a3 h3) fun _ => K :=
  run_acc c h0 h1 h3 dwoZero dwoAcc id x0 x1 d s E K

theorem run5 (i : grid5.Coords) {a0} (h0 : a0.IsWhole) {a1} (h1 : a1.IsWhole) {a2} (h2 : a2.IsWhole)
    (x0 : Vec F S2048x1024 .f32) (x1 : Vec F S1024x1024 .bf16) (E : Set ℕ) (K : sProp 𝕄) :
    iprop((has c a0 x0 ∗ has c a1 x1 ∗ ∃ d, has c a2 d) ∗ (iprop(has c a0 x0 ∗ has c a1 x1 ∗ has c a2 (dmergedT x0 x1)) -∗ K))
      ⊢ wp frame (wpE (defs₀ (F := F)) Variants.none c none) E (cc5_mix_dmerged i a0 h0 a1 h1 a2 h2) fun _ => K :=
  run_pair c h0 h1 dmergedT x0 x1 E K

theorem run7 (i : grid7.Coords) {a0} (h0 : a0.IsWhole) {a1} (h1 : a1.IsWhole) {a2} (h2 : a2.IsWhole) {a3} (h3 : a3.IsWhole)
    (x0 : Vec F S4096x512 .bf16) (x1 : Vec F S4096x1024 .bf16) (d s : Vec F S512x1024 .f32) (E : Set ℕ) (K : sProp 𝕄) :
    iprop(((has c a0 x0 ∗ has c a1 x1 ∗ has c a2 d) ∗ has c a3 s)
        ∗ (iprop((has c a0 x0 ∗ has c a1 x1 ∗ has c a2 (if k7_cond2 i = 1#1 then dwAcc (if first (i 2) then dwZero else s) x0 x1 else d))
            ∗ has c a3 (dwAcc (if first (i 2) then dwZero else s) x0 x1)) -∗ K))
      ⊢ wp frame (wpE (defs₀ (F := F)) Variants.none c none) E (cc7_mix_dwsbr i a0 h0 a1 h1 a2 h2 a3 h3) fun _ => K :=
  run_acc c h0 h1 h3 dwZero dwAcc id x0 x1 d s E K

theorem run8 (i : grid8.Coords) {a0} (h0 : a0.IsWhole) {a1} (h1 : a1.IsWhole) {a2} (h2 : a2.IsWhole) {a3} (h3 : a3.IsWhole)
    (x0 : Vec F S4096x512 .bf16) (x1 : Vec F S4096x1024 .bf16) (d s : Vec F S512x1024 .f32) (E : Set ℕ) (K : sProp 𝕄) :
    iprop(((has c a0 x0 ∗ has c a1 x1 ∗ has c a2 d) ∗ has c a3 s)
        ∗ (iprop((has c a0 x0 ∗ has c a1 x1 ∗ has c a2 (if k8_cond2 i = 1#1 then dwAcc (if first (i 2) then dwZero else s) x0 x1 else d))
            ∗ has c a3 (dwAcc (if first (i 2) then dwZero else s) x0 x1)) -∗ K))
      ⊢ wp frame (wpE (defs₀ (F := F)) Variants.none c none) E (cc8_mix_dwdbr i a0 h0 a1 h1 a2 h2 a3 h3) fun _ => K :=
  run_acc c h0 h1 h3 dwZero dwAcc id x0 x1 d s E K

theorem run9 (i : grid9.Coords) {a0} (h0 : a0.IsWhole) {a1} (h1 : a1.IsWhole) {a2} (h2 : a2.IsWhole)
    (x0 : Vec F S2048x1024 .bf16) (x1 : Vec F S1024x1024 .bf16) (E : Set ℕ) (K : sProp 𝕄) :
    iprop((has c a0 x0 ∗ has c a1 x1 ∗ ∃ d, has c a2 d) ∗ (iprop(has c a0 x0 ∗ has c a1 x1 ∗ has c a2 (dyT x0 x1)) -∗ K))
      ⊢ wp frame (wpE (defs₀ (F := F)) Variants.none c none) E (cc9_mix_dys i a0 h0 a1 h1 a2 h2) fun _ => K :=
  run_pair c h0 h1 dyT x0 x1 E K

theorem run10 (i : grid10.Coords) {a0} (h0 : a0.IsWhole) {a1} (h1 : a1.IsWhole) {a2} (h2 : a2.IsWhole)
    (x0 : Vec F S2048x1024 .bf16) (x1 : Vec F S1024x1024 .bf16) (E : Set ℕ) (K : sProp 𝕄) :
    iprop((has c a0 x0 ∗ has c a1 x1 ∗ ∃ d, has c a2 d) ∗ (iprop(has c a0 x0 ∗ has c a1 x1 ∗ has c a2 (dyT x0 x1)) -∗ K))
      ⊢ wp frame (wpE (defs₀ (F := F)) Variants.none c none) E (cc10_mix_dyd i a0 h0 a1 h1 a2 h2) fun _ => K :=
  run_pair c h0 h1 dyT x0 x1 E K

/-- The body's load of a left half. -/
theorem load_lhs {a : Memref sig .tc .vmem S256x2048 .bf16} (h : a.IsWhole) (x : Vec F S256x2048 .bf16) :
    View.readAt (Elt F) a.view (Rect.unit (s := S256x2048) ![0, 0] S256x1024.size inb_S256x2048_S256x1024_0_0).toLoadRect (h.unread x) = lhs x :=
  funext fun j => Memref.IsWhole.readAt_unread _ _ _ j
/-- The body's load of a right half. -/
theorem load_rhs {a : Memref sig .tc .vmem S256x2048 .bf16} (h : a.IsWhole) (x : Vec F S256x2048 .bf16) :
    View.readAt (Elt F) a.view (Rect.unit (s := S256x2048) ![0, 1024] S256x1024.size inb_S256x2048_S256x1024_0_1024).toLoadRect (h.unread x) = rhs x :=
  funext fun j => Memref.IsWhole.readAt_unread _ _ _ j

theorem run2 (i : grid2.Coords) {a0} (h0 : a0.IsWhole) {a1} (h1 : a1.IsWhole) {a2} (h2 : a2.IsWhole) {a3} (h3 : a3.IsWhole)
    (x0 : Vec F S256x2048 .bf16) (x1 x2 : Vec F S256x1024 .f32) (E : Set ℕ) (K : sProp 𝕄) :
    iprop((has c a0 x0 ∗ has c a1 x1 ∗ has c a2 x2 ∗ ∃ d, has c a3 d)
        ∗ (iprop(has c a0 x0 ∗ has c a1 x1 ∗ has c a2 x2 ∗ has c a3 (mergeT (lhs x0) (rhs x0) x1 x2)) -∗ K))
      ⊢ wp frame (wpE (defs₀ (F := F)) Variants.none c none) E (cc2_mix_merge i a0 h0 a1 h1 a2 h2 a3 h3) fun _ => K := by
  unfold cc2_mix_merge has owns
  iintro ⟨⟨⟨%f0, %hf0, H0⟩, ⟨%f1, %hf1, H1⟩, ⟨%f2, %hf2, H2⟩, ⟨%d, %f, -, H3⟩⟩, Hk⟩
  obtain rfl := h0.eq_unread hf0; obtain rfl := h1.eq_unread hf1; obtain rfl := h2.eq_unread hf2
  sl_exec
  sl_step
  iapply Hk
  isplitl [H0]; · iapply (kept c h0 x0); iexact H0
  isplitl [H1]; · iapply (kept c h1 x1); iexact H1
  isplitl [H2]; · iapply (kept c h2 x2); iexact H2
  iexists _; isplitr; swap; · iexact H3
  ipureintro
  exact (View.read_writes_full _ _ _ _ _).trans
    ((congrArg₂ (fun p q => mergeT p q _ _) (load_lhs h0 x0) (load_rhs h0 x0)).trans (congrArg₂ (mergeT _ _) (load_all h1 x1 _) (load_all h2 x2 _)))

/-- The two stores of the gates' gradients leave them side by side. -/
theorem write_dgates (v : View sig .tc .vmem S256x2048 .bf16) (f : v.ty.Contents (Elt F)) (g u : Vec F S256x1024 .bf16) (p q : Vec F S256x1024 .f32) (d : Vec F S256x1024 .bf16) :
    v.read (Elt F) (v.writes (Elt F) f [(⟨Rect.unit (s := S256x2048) ![0, 1024] S256x1024.size inb_S256x2048_S256x1024_0_1024, dgateT u q d⟩ : View.Piece (Elt F) S256x2048 .bf16),
      ⟨Rect.unit (s := S256x2048) ![0, 0] S256x1024.size inb_S256x2048_S256x1024_0_0, dgateT g p d⟩]) = dgatesOf g u p q d :=
  View.read_writes_eq_canon _ _ _ (fun y => View.cover_of_tiledL (s := S256x2048) _ S256x1024.size (by sl_kernel_rfl) y)

set_option maxHeartbeats 1600000 in
theorem run6 (i : grid6.Coords) {a0} (h0 : a0.IsWhole) {a1} (h1 : a1.IsWhole) {a2} (h2 : a2.IsWhole) {a3} (h3 : a3.IsWhole)
    {a4} (h4 : a4.IsWhole) {a5} (h5 : a5.IsWhole) {a6} (h6 : a6.IsWhole)
    (x0 : Vec F S256x2048 .bf16) (x1 x2 : Vec F S256x1024 .f32) (x3 : Vec F S256x1024 .bf16) (E : Set ℕ) (K : sProp 𝕄) :
    iprop((has c a0 x0 ∗ has c a1 x1 ∗ has c a2 x2 ∗ has c a3 x3 ∗ (∃ d, has c a4 d) ∗ (∃ d, has c a5 d) ∗ ∃ d, has c a6 d)
        ∗ (iprop(has c a0 x0 ∗ has c a1 x1 ∗ has c a2 x2 ∗ has c a3 x3 ∗ has c a4 (dgatesOf (lhs x0) (rhs x0) x1 x2 x3)
            ∗ has c a5 (dbranchT (lhs x0) x3) ∗ has c a6 (dbranchT (rhs x0) x3)) -∗ K))
      ⊢ wp frame (wpE (defs₀ (F := F)) Variants.none c none) E (cc6_mix_dmerge i a0 h0 a1 h1 a2 h2 a3 h3 a4 h4 a5 h5 a6 h6) fun _ => K := by
  unfold cc6_mix_dmerge k6_part1 has owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩⟩, Hk⟩
  obtain rfl := h0.eq_unread hf0; obtain rfl := h1.eq_unread hf1; obtain rfl := h2.eq_unread hf2; obtain rfl := h3.eq_unread hf3
  sl_exec
  sl_step
  iapply Hk
  isplitl [H0]; · iapply (kept c h0 x0); iexact H0
  isplitl [H1]; · iapply (kept c h1 x1); iexact H1
  isplitl [H2]; · iapply (kept c h2 x2); iexact H2
  isplitl [H3]; · iapply (kept c h3 x3); iexact H3
  isplitl [H4]
  · iexists _; isplitr; swap; · iexact H4
    ipureintro
    refine Eq.trans (write_dgates a4.view f4 (View.readAt (Elt F) a0.view (Rect.unit (s := S256x2048) ![0, 0] S256x1024.size inb_S256x2048_S256x1024_0_0).toLoadRect (h0.unread x0))
      (View.readAt (Elt F) a0.view (Rect.unit (s := S256x2048) ![0, 1024] S256x1024.size inb_S256x2048_S256x1024_0_1024).toLoadRect (h0.unread x0))
      (View.readAt (Elt F) a1.view (Rect.unit (s := S256x1024) ![0, 0] S256x1024.size inb_S256x1024_S256x1024_0_0).toLoadRect (h1.unread x1))
      (View.readAt (Elt F) a2.view (Rect.unit (s := S256x1024) ![0, 0] S256x1024.size inb_S256x1024_S256x1024_0_0).toLoadRect (h2.unread x2))
      (View.readAt (Elt F) a3.view (Rect.unit (s := S256x1024) ![0, 0] S256x1024.size inb_S256x1024_S256x1024_0_0).toLoadRect (h3.unread x3))) ?_
    exact (congrArg₂ (fun p q => dgatesOf p q _ _ _) (load_lhs h0 x0) (load_rhs h0 x0)).trans (congr3 (dgatesOf _ _) (load_all h1 x1 _) (load_all h2 x2 _) (load_all h3 x3 _))
  isplitl [H5]
  · iexists _; isplitr; swap; · iexact H5
    ipureintro
    exact (View.read_writes_full _ _ _ _ _).trans (congrArg₂ dbranchT (load_lhs h0 x0) (load_all h3 x3 _))
  iexists _; isplitr; swap; · iexact H6
  ipureintro
  exact (View.read_writes_full _ _ _ _ _).trans (congrArg₂ dbranchT (load_rhs h0 x0) (load_all h3 x3 _))

end Runs

end Cert.Merger
end
-- ==== Proof.MergeDat.lean ====
/- What each of the eleven calls finds, leaves and carries, and its obligation. -/
module

public import proofs.«01_k».proof.Proof.CallDat
public import proofs.«01_k».proof.Proof.MergeRun

@[expose] public section

set_option maxRecDepth 16384

noncomputable section

namespace Cert.Merger

open Cert.MergeIdeal Cert.MergeIdeal.Gen
open Cert.Call (has slack beside framed framed_of framed_acc at_iff accum accum_succ accum_of carry blockOf leave leave_if idle_flush still heaping found obl)
open Cert.Layer (first)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (UR sig nD τ) ℕ

variable (W : Dev nD → Valuation τ sig (Elt F)) (c : Dev nD)

/-! ## The first branch -/

def dat0 : Dat τ (Elt F) Unit ℕ (UR sig nD τ) ℕ cfg0 c :=
  still cfg0 (W c) c fun w t => match w with
    | ⟨0, _⟩ => blockOf cfg0 (W c) 0 t
    | ⟨1, _⟩ => blockOf cfg0 (W c) 1 t
    | ⟨2, _⟩ => sbrT (blockOf cfg0 (W c) 0 t) (blockOf cfg0 (W c) 1 t)

set_option backward.isDefEq.respectTransparency.types false in
theorem obl0 : BodyObligation (dat0 W c) (defs₀ (F := F)) Variants.none () Set.univ :=
  obl 2 (body := bodyAt0) (fun t => by unfold defs₀; rw [Defs.onTc_tc]) (fun t K => by
    rw [bigSep_W0, bigSep_W0]
    exact framed (sep_mono .rfl (sep_mono .rfl (slack c _))) (run0 c (grid0.coords t) _ _ _ (blockOf cfg0 (W c) 0 t) (blockOf cfg0 (W c) 1 t) _) K) fun w hw => by
    fin_cases w <;> first | exact absurd hw (by decide) | exact found _

/-! ## The second branch -/

def dat1 : Dat τ (Elt F) Unit ℕ (UR sig nD τ) ℕ cfg1 c :=
  still cfg1 (W c) c fun w t => match w with
    | ⟨0, _⟩ => blockOf cfg1 (W c) 0 t
    | ⟨1, _⟩ => blockOf cfg1 (W c) 1 t
    | ⟨2, _⟩ => dbrT (blockOf cfg1 (W c) 0 t) (blockOf cfg1 (W c) 1 t)

set_option backward.isDefEq.respectTransparency.types false in
theorem obl1 : BodyObligation (dat1 W c) (defs₀ (F := F)) Variants.none () Set.univ :=
  obl 2 (body := bodyAt1) (fun t => by unfold defs₀; rw [Defs.onTc_tc]) (fun t K => by
    rw [bigSep_W1, bigSep_W1]
    exact framed (sep_mono .rfl (sep_mono .rfl (slack c _))) (run1 c (grid1.coords t) _ _ _ (blockOf cfg1 (W c) 0 t) (blockOf cfg1 (W c) 1 t) _) K) fun w hw => by
    fin_cases w <;> first | exact absurd hw (by decide) | exact found _

/-! ## The gated sum -/

def dat2 : Dat τ (Elt F) Unit ℕ (UR sig nD τ) ℕ cfg2 c :=
  still cfg2 (W c) c fun w t => match w with
    | ⟨0, _⟩ => blockOf cfg2 (W c) 0 t
    | ⟨1, _⟩ => blockOf cfg2 (W c) 1 t
    | ⟨2, _⟩ => blockOf cfg2 (W c) 2 t
    | ⟨3, _⟩ => mergeT (lhs (blockOf cfg2 (W c) 0 t)) (rhs (blockOf cfg2 (W c) 0 t)) (blockOf cfg2 (W c) 1 t) (blockOf cfg2 (W c) 2 t)

set_option backward.isDefEq.respectTransparency.types false in
theorem obl2 : BodyObligation (dat2 W c) (defs₀ (F := F)) Variants.none () Set.univ :=
  obl 3 (body := bodyAt2) (fun t => by unfold defs₀; rw [Defs.onTc_tc]) (fun t K => by
    rw [bigSep_W2, bigSep_W2]
    exact framed (sep_mono .rfl (sep_mono .rfl (sep_mono .rfl (slack c _)))) (run2 c (grid2.coords t) _ _ _ _ (blockOf cfg2 (W c) 0 t) (blockOf cfg2 (W c) 1 t) (blockOf cfg2 (W c) 2 t) _) K) fun w hw => by
    fin_cases w <;> first | exact absurd hw (by decide) | exact found _

/-! ## The result -/

def dat3 : Dat τ (Elt F) Unit ℕ (UR sig nD τ) ℕ cfg3 c :=
  still cfg3 (W c) c fun w t => match w with
    | ⟨0, _⟩ => blockOf cfg3 (W c) 0 t
    | ⟨1, _⟩ => blockOf cfg3 (W c) 1 t
    | ⟨2, _⟩ => blockOf cfg3 (W c) 2 t
    | ⟨3, _⟩ => outT (blockOf cfg3 (W c) 0 t) (blockOf cfg3 (W c) 1 t) (blockOf cfg3 (W c) 2 t)

set_option backward.isDefEq.respectTransparency.types false in
theorem obl3 : BodyObligation (dat3 W c) (defs₀ (F := F)) Variants.none () Set.univ :=
  obl 3 (body := bodyAt3) (fun t => by unfold defs₀; rw [Defs.onTc_tc]) (fun t K => by
    rw [bigSep_W3, bigSep_W3]
    exact framed (sep_mono .rfl (sep_mono .rfl (sep_mono .rfl (slack c _)))) (run3 c (grid3.coords t) _ _ _ _ (blockOf cfg3 (W c) 0 t) (blockOf cfg3 (W c) 1 t) (blockOf cfg3 (W c) 2 t) _) K) fun w hw => by
    fin_cases w <;> first | exact absurd hw (by decide) | exact found _

/-! ## The output weight's gradient -/

/-- The accumulator into point `n`. -/
def acc4 : ℕ → Vec F S1024x1024 .f32 := accum cfg4.N 8 (dwoZero (F := F)) fun t s => dwoAcc s (blockOf cfg4 (W c) 0 t) (blockOf cfg4 (W c) 1 t)

theorem coord4 (t : Fin cfg4.N) : (grid4.coords t 2).val = t.val % 8 :=
  have e : (grid4.coords t 2).val = t.val / 1 % 8 := Pipeline.Grid.coords_val t 2 (by decide) rfl
  e.trans (by rw [Nat.div_one])

theorem last4 (t : Fin cfg4.N) : k4_cond2 (grid4.coords t) = 1#1 ↔ t.val % 8 = 7 := by
  rw [← coord4 t]
  exact at_iff (lt_trans (grid4.coords t 2).isLt (by decide)) (by decide)

def dat4 : Dat τ (Elt F) Unit ℕ (UR sig nD τ) ℕ cfg4 c :=
  heaping cfg4 (W c) c cc4_scratch0 (Memref.whole cc4_scratch0) (acc4 W c) fun w t => match w with
    | ⟨0, _⟩ => blockOf cfg4 (W c) 0 t
    | ⟨1, _⟩ => blockOf cfg4 (W c) 1 t
    | ⟨2, _⟩ => acc4 W c (t.val + 1)

set_option backward.isDefEq.respectTransparency.types false in
theorem obl4 : BodyObligation (dat4 W c) (defs₀ (F := F)) Variants.none () Set.univ :=
  obl 2 (body := bodyAt4) (fun t => by unfold defs₀; rw [Defs.onTc_tc]) (fun t K => by
    rw [bigSep_W4, bigSep_W4]
    refine framed_acc c (G := fun K => wp frame (wpE (defs₀ (F := F)) Variants.none c none) Set.univ (bodyAt4 t) fun _ => K) (beside (beside .rfl)) (fun d => sep_mono .rfl (sep_mono .rfl (leave_if (dat4 W c) t 2 (p := k4_cond2 (grid4.coords t) = 1#1) rfl d))) (fun d s hs K => ?_) K
    have e : dwoAcc (if first (grid4.coords t 2) then dwoZero else s) (blockOf cfg4 (W c) 0 t) (blockOf cfg4 (W c) 1 t) = acc4 W c (t.val + 1) := accum_of t (coord4 t ▸ at_iff (lt_trans (grid4.coords t 2).isLt (by decide)) (by decide)) hs
    have h : (_ : sProp 𝕄) ⊢ wp frame (wpE (defs₀ (F := F)) Variants.none c none) Set.univ (bodyAt4 t) fun _ => K := run4 c (grid4.coords t) _ _ _ _ (blockOf cfg4 (W c) 0 t) (blockOf cfg4 (W c) 1 t) ((dat4 W c).before 2 t d) s Set.univ K
    rw [e] at h
    exact h) (fun w hw => by
    fin_cases w <;> first | exact absurd hw (by decide) | exact found _) fun w t h => by
    fin_cases w <;> first
    | exact absurd h Bool.false_ne_true
    | exact idle_flush (cfg := cfg4) (p := k4_cond2 (grid4.coords t) = 1#1) rfl (fun hf => (last4 t).mpr ((flush4_2 t).mp hf)) h

theorem rest4 : (Pipeline.scopedRest spec4 c : sProp 𝕄) = iprop((∃ d, has c (Memref.whole cc4_scratch0) d) ∗ Pipeline.scopedRestBut spec4 c [cc4_scratch0]) := by
  simp only [has, owns_whole]
  exact Pipeline.scopedRest_split_of_list spec4 c [cc4_scratch0] (by decide) (by decide)

/-! ## The sum's gradient -/

def dat5 : Dat τ (Elt F) Unit ℕ (UR sig nD τ) ℕ cfg5 c :=
  still cfg5 (W c) c fun w t => match w with
    | ⟨0, _⟩ => blockOf cfg5 (W c) 0 t
    | ⟨1, _⟩ => blockOf cfg5 (W c) 1 t
    | ⟨2, _⟩ => dmergedT (blockOf cfg5 (W c) 0 t) (blockOf cfg5 (W c) 1 t)

set_option backward.isDefEq.respectTransparency.types false in
theorem obl5 : BodyObligation (dat5 W c) (defs₀ (F := F)) Variants.none () Set.univ :=
  obl 2 (body := bodyAt5) (fun t => by unfold defs₀; rw [Defs.onTc_tc]) (fun t K => by
    rw [bigSep_W5, bigSep_W5]
    exact framed (sep_mono .rfl (sep_mono .rfl (slack c _))) (run5 c (grid5.coords t) _ _ _ (blockOf cfg5 (W c) 0 t) (blockOf cfg5 (W c) 1 t) _) K) fun w hw => by
    fin_cases w <;> first | exact absurd hw (by decide) | exact found _

/-! ## The gates' and branches' gradients -/

def dat6 : Dat τ (Elt F) Unit ℕ (UR sig nD τ) ℕ cfg6 c :=
  still cfg6 (W c) c fun w t => match w with
    | ⟨0, _⟩ => blockOf cfg6 (W c) 0 t
    | ⟨1, _⟩ => blockOf cfg6 (W c) 1 t
    | ⟨2, _⟩ => blockOf cfg6 (W c) 2 t
    | ⟨3, _⟩ => blockOf cfg6 (W c) 3 t
    | ⟨4, _⟩ => dgatesOf (lhs (blockOf cfg6 (W c) 0 t)) (rhs (blockOf cfg6 (W c) 0 t)) (blockOf cfg6 (W c) 1 t) (blockOf cfg6 (W c) 2 t) (blockOf cfg6 (W c) 3 t)
    | ⟨5, _⟩ => dbranchT (lhs (blockOf cfg6 (W c) 0 t)) (blockOf cfg6 (W c) 3 t)
    | ⟨6, _⟩ => dbranchT (rhs (blockOf cfg6 (W c) 0 t)) (blockOf cfg6 (W c) 3 t)

set_option maxHeartbeats 2000000 in
set_option backward.isDefEq.respectTransparency.types false in
theorem obl6 : BodyObligation (dat6 W c) (defs₀ (F := F)) Variants.none () Set.univ :=
  obl 4 (body := bodyAt6) (fun t => by unfold defs₀; rw [Defs.onTc_tc]) (fun t K => by
    rw [bigSep_W6, bigSep_W6]
    exact framed (BIClass.sep_mono .rfl (BIClass.sep_mono .rfl (BIClass.sep_mono .rfl (BIClass.sep_mono .rfl (BIClass.sep_mono (slack c _) (BIClass.sep_mono (slack c _) (slack c _))))))) (run6 c (grid6.coords t) _ _ _ _ _ _ _ (blockOf cfg6 (W c) 0 t) (blockOf cfg6 (W c) 1 t) (blockOf cfg6 (W c) 2 t) (blockOf cfg6 (W c) 3 t) _) K) fun w hw => by
    fin_cases w <;> first | exact absurd hw (by decide) | exact found _

/-! ## The first branch weight's gradient -/

/-- The accumulator into point `n`. -/
def acc7 : ℕ → Vec F S512x1024 .f32 := accum cfg7.N 4 (dwZero (F := F)) fun t s => dwAcc s (blockOf cfg7 (W c) 0 t) (blockOf cfg7 (W c) 1 t)

theorem coord7 (t : Fin cfg7.N) : (grid7.coords t 2).val = t.val % 4 :=
  have e : (grid7.coords t 2).val = t.val / 1 % 4 := Pipeline.Grid.coords_val t 2 (by decide) rfl
  e.trans (by rw [Nat.div_one])

theorem last7 (t : Fin cfg7.N) : k7_cond2 (grid7.coords t) = 1#1 ↔ t.val % 4 = 3 := by
  rw [← coord7 t]
  exact at_iff (lt_trans (grid7.coords t 2).isLt (by decide)) (by decide)

def dat7 : Dat τ (Elt F) Unit ℕ (UR sig nD τ) ℕ cfg7 c :=
  heaping cfg7 (W c) c cc7_scratch0 (Memref.whole cc7_scratch0) (acc7 W c) fun w t => match w with
    | ⟨0, _⟩ => blockOf cfg7 (W c) 0 t
    | ⟨1, _⟩ => blockOf cfg7 (W c) 1 t
    | ⟨2, _⟩ => acc7 W c (t.val + 1)

set_option backward.isDefEq.respectTransparency.types false in
theorem obl7 : BodyObligation (dat7 W c) (defs₀ (F := F)) Variants.none () Set.univ :=
  obl 2 (body := bodyAt7) (fun t => by unfold defs₀; rw [Defs.onTc_tc]) (fun t K => by
    rw [bigSep_W7, bigSep_W7]
    refine framed_acc c (G := fun K => wp frame (wpE (defs₀ (F := F)) Variants.none c none) Set.univ (bodyAt7 t) fun _ => K) (beside (beside .rfl)) (fun d => sep_mono .rfl (sep_mono .rfl (leave_if (dat7 W c) t 2 (p := k7_cond2 (grid7.coords t) = 1#1) rfl d))) (fun d s hs K => ?_) K
    have e : dwAcc (if first (grid7.coords t 2) then dwZero else s) (blockOf cfg7 (W c) 0 t) (blockOf cfg7 (W c) 1 t) = acc7 W c (t.val + 1) := accum_of t (coord7 t ▸ at_iff (lt_trans (grid7.coords t 2).isLt (by decide)) (by decide)) hs
    have h : (_ : sProp 𝕄) ⊢ wp frame (wpE (defs₀ (F := F)) Variants.none c none) Set.univ (bodyAt7 t) fun _ => K := run7 c (grid7.coords t) _ _ _ _ (blockOf cfg7 (W c) 0 t) (blockOf cfg7 (W c) 1 t) ((dat7 W c).before 2 t d) s Set.univ K
    rw [e] at h
    exact h) (fun w hw => by
    fin_cases w <;> first | exact absurd hw (by decide) | exact found _) fun w t h => by
    fin_cases w <;> first
    | exact absurd h Bool.false_ne_true
    | exact idle_flush (cfg := cfg7) (p := k7_cond2 (grid7.coords t) = 1#1) rfl (fun hf => (last7 t).mpr ((flush7_2 t).mp hf)) h

theorem rest7 : (Pipeline.scopedRest spec7 c : sProp 𝕄) = iprop((∃ d, has c (Memref.whole cc7_scratch0) d) ∗ Pipeline.scopedRestBut spec7 c [cc7_scratch0]) := by
  simp only [has, owns_whole]
  exact Pipeline.scopedRest_split_of_list spec7 c [cc7_scratch0] (by decide) (by decide)

/-! ## The second branch weight's gradient -/

/-- The accumulator into point `n`. -/
def acc8 : ℕ → Vec F S512x1024 .f32 := accum cfg8.N 4 (dwZero (F := F)) fun t s => dwAcc s (blockOf cfg8 (W c) 0 t) (blockOf cfg8 (W c) 1 t)

theorem coord8 (t : Fin cfg8.N) : (grid8.coords t 2).val = t.val % 4 :=
  have e : (grid8.coords t 2).val = t.val / 1 % 4 := Pipeline.Grid.coords_val t 2 (by decide) rfl
  e.trans (by rw [Nat.div_one])

theorem last8 (t : Fin cfg8.N) : k8_cond2 (grid8.coords t) = 1#1 ↔ t.val % 4 = 3 := by
  rw [← coord8 t]
  exact at_iff (lt_trans (grid8.coords t 2).isLt (by decide)) (by decide)

def dat8 : Dat τ (Elt F) Unit ℕ (UR sig nD τ) ℕ cfg8 c :=
  heaping cfg8 (W c) c cc8_scratch0 (Memref.whole cc8_scratch0) (acc8 W c) fun w t => match w with
    | ⟨0, _⟩ => blockOf cfg8 (W c) 0 t
    | ⟨1, _⟩ => blockOf cfg8 (W c) 1 t
    | ⟨2, _⟩ => acc8 W c (t.val + 1)

set_option backward.isDefEq.respectTransparency.types false in
theorem obl8 : BodyObligation (dat8 W c) (defs₀ (F := F)) Variants.none () Set.univ :=
  obl 2 (body := bodyAt8) (fun t => by unfold defs₀; rw [Defs.onTc_tc]) (fun t K => by
    rw [bigSep_W8, bigSep_W8]
    refine framed_acc c (G := fun K => wp frame (wpE (defs₀ (F := F)) Variants.none c none) Set.univ (bodyAt8 t) fun _ => K) (beside (beside .rfl)) (fun d => sep_mono .rfl (sep_mono .rfl (leave_if (dat8 W c) t 2 (p := k8_cond2 (grid8.coords t) = 1#1) rfl d))) (fun d s hs K => ?_) K
    have e : dwAcc (if first (grid8.coords t 2) then dwZero else s) (blockOf cfg8 (W c) 0 t) (blockOf cfg8 (W c) 1 t) = acc8 W c (t.val + 1) := accum_of t (coord8 t ▸ at_iff (lt_trans (grid8.coords t 2).isLt (by decide)) (by decide)) hs
    have h : (_ : sProp 𝕄) ⊢ wp frame (wpE (defs₀ (F := F)) Variants.none c none) Set.univ (bodyAt8 t) fun _ => K := run8 c (grid8.coords t) _ _ _ _ (blockOf cfg8 (W c) 0 t) (blockOf cfg8 (W c) 1 t) ((dat8 W c).before 2 t d) s Set.univ K
    rw [e] at h
    exact h) (fun w hw => by
    fin_cases w <;> first | exact absurd hw (by decide) | exact found _) fun w t h => by
    fin_cases w <;> first
    | exact absurd h Bool.false_ne_true
    | exact idle_flush (cfg := cfg8) (p := k8_cond2 (grid8.coords t) = 1#1) rfl (fun hf => (last8 t).mpr ((flush8_2 t).mp hf)) h

theorem rest8 : (Pipeline.scopedRest spec8 c : sProp 𝕄) = iprop((∃ d, has c (Memref.whole cc8_scratch0) d) ∗ Pipeline.scopedRestBut spec8 c [cc8_scratch0]) := by
  simp only [has, owns_whole]
  exact Pipeline.scopedRest_split_of_list spec8 c [cc8_scratch0] (by decide) (by decide)

/-! ## The first branch input's gradient -/

def dat9 : Dat τ (Elt F) Unit ℕ (UR sig nD τ) ℕ cfg9 c :=
  still cfg9 (W c) c fun w t => match w with
    | ⟨0, _⟩ => blockOf cfg9 (W c) 0 t
    | ⟨1, _⟩ => blockOf cfg9 (W c) 1 t
    | ⟨2, _⟩ => dyT (blockOf cfg9 (W c) 0 t) (blockOf cfg9 (W c) 1 t)

set_option backward.isDefEq.respectTransparency.types false in
theorem obl9 : BodyObligation (dat9 W c) (defs₀ (F := F)) Variants.none () Set.univ :=
  obl 2 (body := bodyAt9) (fun t => by unfold defs₀; rw [Defs.onTc_tc]) (fun t K => by
    rw [bigSep_W9, bigSep_W9]
    exact framed (sep_mono .rfl (sep_mono .rfl (slack c _))) (run9 c (grid9.coords t) _ _ _ (blockOf cfg9 (W c) 0 t) (blockOf cfg9 (W c) 1 t) _) K) fun w hw => by
    fin_cases w <;> first | exact absurd hw (by decide) | exact found _

/-! ## The second branch input's gradient -/

def dat10 : Dat τ (Elt F) Unit ℕ (UR sig nD τ) ℕ cfg10 c :=
  still cfg10 (W c) c fun w t => match w with
    | ⟨0, _⟩ => blockOf cfg10 (W c) 0 t
    | ⟨1, _⟩ => blockOf cfg10 (W c) 1 t
    | ⟨2, _⟩ => dyT (blockOf cfg10 (W c) 0 t) (blockOf cfg10 (W c) 1 t)

set_option backward.isDefEq.respectTransparency.types false in
theorem obl10 : BodyObligation (dat10 W c) (defs₀ (F := F)) Variants.none () Set.univ :=
  obl 2 (body := bodyAt10) (fun t => by unfold defs₀; rw [Defs.onTc_tc]) (fun t K => by
    rw [bigSep_W10, bigSep_W10]
    exact framed (sep_mono .rfl (sep_mono .rfl (slack c _))) (run10 c (grid10.coords t) _ _ _ (blockOf cfg10 (W c) 0 t) (blockOf cfg10 (W c) 1 t) _) K) fun w hw => by
    fin_cases w <;> first | exact absurd hw (by decide) | exact found _

end Cert.Merger
end
-- ==== Proof.MergeLaunch.lean ====
/- The eleven calls one after the other: every execution ends, and every array ends at what the calls' data say. -/
module

public import proofs.«01_k».proof.Proof.MergeDat
public import proofs.«01_k».proof.Proof.Gen.MergeIdeal.Regions
public import Idealize.ShloMosaic.Lib.Pipeline.Regions
public import Idealize.ShloMosaic.Lib.Claim

@[expose] public section

set_option maxRecDepth 16384

noncomputable section

namespace Cert.Merger

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Call (Link L lv R rest rest_end run_chain)
open Idealize.ShloMosaic.Pipeline (Dat Cfg Window BodyObligation cellOf Seg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of every buffer after the casts. -/
def W1 : Dev nD → Valuation τ sig (Elt F) := fun c => StableHlo.after hostOps0 fun b => m (c, b)
/-- After call 0. -/
def W2 : Dev nD → Valuation τ sig (Elt F) := fun c => Pipeline.afterRegion (dat0 (W1 m) c) (W1 m c)
/-- After call 1. -/
def W3 : Dev nD → Valuation τ sig (Elt F) := fun c => Pipeline.afterRegion (dat1 (W2 m) c) (W2 m c)
/-- After call 2. -/
def W4 : Dev nD → Valuation τ sig (Elt F) := fun c => Pipeline.afterRegion (dat2 (W3 m) c) (W3 m c)
/-- After call 3. -/
def W5 : Dev nD → Valuation τ sig (Elt F) := fun c => Pipeline.afterRegion (dat3 (W4 m) c) (W4 m c)
/-- After call 4. -/
def W6 : Dev nD → Valuation τ sig (Elt F) := fun c => Pipeline.afterRegion (dat4 (W5 m) c) (W5 m c)
/-- After call 5. -/
def W7 : Dev nD → Valuation τ sig (Elt F) := fun c => Pipeline.afterRegion (dat5 (W6 m) c) (W6 m c)
/-- After call 6. -/
def W8 : Dev nD → Valuation τ sig (Elt F) := fun c => Pipeline.afterRegion (dat6 (W7 m) c) (W7 m c)
/-- After call 7. -/
def W9 : Dev nD → Valuation τ sig (Elt F) := fun c => Pipeline.afterRegion (dat7 (W8 m) c) (W8 m c)
/-- After call 8. -/
def W10 : Dev nD → Valuation τ sig (Elt F) := fun c => Pipeline.afterRegion (dat8 (W9 m) c) (W9 m c)
/-- After call 9. -/
def W11 : Dev nD → Valuation τ sig (Elt F) := fun c => Pipeline.afterRegion (dat9 (W10 m) c) (W10 m c)
/-- After call 10. -/
def W12 : Dev nD → Valuation τ sig (Elt F) := fun c => Pipeline.afterRegion (dat10 (W11 m) c) (W11 m c)

/-- The calls' data, each from what the one before leaves. -/
def dats : (p : Fin 11) → (c : Dev nD) → Dat τ (Elt F) Unit ℕ (UR sig nD τ) ℕ (cfgs p) c
  | ⟨0, _⟩ => dat0 (W1 m)
  | ⟨1, _⟩ => dat1 (W2 m)
  | ⟨2, _⟩ => dat2 (W3 m)
  | ⟨3, _⟩ => dat3 (W4 m)
  | ⟨4, _⟩ => dat4 (W5 m)
  | ⟨5, _⟩ => dat5 (W6 m)
  | ⟨6, _⟩ => dat6 (W7 m)
  | ⟨7, _⟩ => dat7 (W8 m)
  | ⟨8, _⟩ => dat8 (W9 m)
  | ⟨9, _⟩ => dat9 (W10 m)
  | ⟨10, _⟩ => dat10 (W11 m)

theorem still0 (W : Dev nD → Valuation τ sig (Elt F)) (c : Dev nD) (t : Fin (cfg0.N + 1)) : (dat0 W c).Φ t = Pipeline.scopedRest spec0 c := rfl
theorem still1 (W : Dev nD → Valuation τ sig (Elt F)) (c : Dev nD) (t : Fin (cfg1.N + 1)) : (dat1 W c).Φ t = Pipeline.scopedRest spec1 c := rfl
theorem still2 (W : Dev nD → Valuation τ sig (Elt F)) (c : Dev nD) (t : Fin (cfg2.N + 1)) : (dat2 W c).Φ t = Pipeline.scopedRest spec2 c := rfl
theorem still3 (W : Dev nD → Valuation τ sig (Elt F)) (c : Dev nD) (t : Fin (cfg3.N + 1)) : (dat3 W c).Φ t = Pipeline.scopedRest spec3 c := rfl
theorem still5 (W : Dev nD → Valuation τ sig (Elt F)) (c : Dev nD) (t : Fin (cfg5.N + 1)) : (dat5 W c).Φ t = Pipeline.scopedRest spec5 c := rfl
theorem still6 (W : Dev nD → Valuation τ sig (Elt F)) (c : Dev nD) (t : Fin (cfg6.N + 1)) : (dat6 W c).Φ t = Pipeline.scopedRest spec6 c := rfl
theorem still9 (W : Dev nD → Valuation τ sig (Elt F)) (c : Dev nD) (t : Fin (cfg9.N + 1)) : (dat9 W c).Φ t = Pipeline.scopedRest spec9 c := rfl
theorem still10 (W : Dev nD → Valuation τ sig (Elt F)) (c : Dev nD) (t : Fin (cfg10.N + 1)) : (dat10 W c).Φ t = Pipeline.scopedRest spec10 c := rfl

theorem link0 : Link (pcfgs (F := F)) (adm (F := F)) (dats m) defs₀ 0 (W1 m) :=
  .straight launch0.toP rfl (obl0 (W1 m)) (fun _ _ => rfl) (fun _ => rfl) (fun c => (dat0 (W1 m) c).share_full fun _ => rfl)
    (still0 (W1 m)) (fun _ _ => rfl) (Pipeline.arrRefs_sub_ucRefs spec0 winFacts0.arr_unscoped)
theorem link1 : Link (pcfgs (F := F)) (adm (F := F)) (dats m) defs₀ 1 (W2 m) :=
  .straight launch1.toP rfl (obl1 (W2 m)) (fun _ _ => rfl) (fun _ => rfl) (fun c => (dat1 (W2 m) c).share_full fun _ => rfl)
    (still1 (W2 m)) (fun _ _ => rfl) (Pipeline.arrRefs_sub_ucRefs spec1 winFacts1.arr_unscoped)
theorem link2 : Link (pcfgs (F := F)) (adm (F := F)) (dats m) defs₀ 2 (W3 m) :=
  .straight launch2.toP rfl (obl2 (W3 m)) (fun _ _ => rfl) (fun _ => rfl) (fun c => (dat2 (W3 m) c).share_full fun _ => rfl)
    (still2 (W3 m)) (fun _ _ => rfl) (Pipeline.arrRefs_sub_ucRefs spec2 winFacts2.arr_unscoped)
theorem link3 : Link (pcfgs (F := F)) (adm (F := F)) (dats m) defs₀ 3 (W4 m) :=
  .straight launch3.toP rfl (obl3 (W4 m)) (fun _ _ => rfl) (fun _ => rfl) (fun c => (dat3 (W4 m) c).share_full fun _ => rfl)
    (still3 (W4 m)) (fun _ _ => rfl) (Pipeline.arrRefs_sub_ucRefs spec3 winFacts3.arr_unscoped)
theorem link4 : Link (pcfgs (F := F)) (adm (F := F)) (dats m) defs₀ 4 (W5 m) :=
  .carrying launch4.toP rfl (obl4 (W5 m)) (fun _ _ => rfl) (fun _ => rfl) (fun c => (dat4 (W5 m) c).share_full fun _ => rfl)
    (Memref.whole cc4_scratch0) (acc4 (W5 m)) (fun c => Pipeline.scopedRestBut spec4 c [cc4_scratch0]) (fun _ _ => rfl) rest4 (fun _ _ => rfl)
    (Pipeline.arrRefs_sub_ucRefs spec4 winFacts4.arr_unscoped)
theorem link5 : Link (pcfgs (F := F)) (adm (F := F)) (dats m) defs₀ 5 (W6 m) :=
  .straight launch5.toP rfl (obl5 (W6 m)) (fun _ _ => rfl) (fun _ => rfl) (fun c => (dat5 (W6 m) c).share_full fun _ => rfl)
    (still5 (W6 m)) (fun _ _ => rfl) (Pipeline.arrRefs_sub_ucRefs spec5 winFacts5.arr_unscoped)
theorem link6 : Link (pcfgs (F := F)) (adm (F := F)) (dats m) defs₀ 6 (W7 m) :=
  .straight launch6.toP rfl (obl6 (W7 m)) (fun _ _ => rfl) (fun _ => rfl) (fun c => (dat6 (W7 m) c).share_full fun _ => rfl)
    (still6 (W7 m)) (fun _ _ => rfl) (Pipeline.arrRefs_sub_ucRefs spec6 winFacts6.arr_unscoped)
theorem link7 : Link (pcfgs (F := F)) (adm (F := F)) (dats m) defs₀ 7 (W8 m) :=
  .carrying launch7.toP rfl (obl7 (W8 m)) (fun _ _ => rfl) (fun _ => rfl) (fun c => (dat7 (W8 m) c).share_full fun _ => rfl)
    (Memref.whole cc7_scratch0) (acc7 (W8 m)) (fun c => Pipeline.scopedRestBut spec7 c [cc7_scratch0]) (fun _ _ => rfl) rest7 (fun _ _ => rfl)
    (Pipeline.arrRefs_sub_ucRefs spec7 winFacts7.arr_unscoped)
theorem link8 : Link (pcfgs (F := F)) (adm (F := F)) (dats m) defs₀ 8 (W9 m) :=
  .carrying launch8.toP rfl (obl8 (W9 m)) (fun _ _ => rfl) (fun _ => rfl) (fun c => (dat8 (W9 m) c).share_full fun _ => rfl)
    (Memref.whole cc8_scratch0) (acc8 (W9 m)) (fun c => Pipeline.scopedRestBut spec8 c [cc8_scratch0]) (fun _ _ => rfl) rest8 (fun _ _ => rfl)
    (Pipeline.arrRefs_sub_ucRefs spec8 winFacts8.arr_unscoped)
theorem link9 : Link (pcfgs (F := F)) (adm (F := F)) (dats m) defs₀ 9 (W10 m) :=
  .straight launch9.toP rfl (obl9 (W10 m)) (fun _ _ => rfl) (fun _ => rfl) (fun c => (dat9 (W10 m) c).share_full fun _ => rfl)
    (still9 (W10 m)) (fun _ _ => rfl) (Pipeline.arrRefs_sub_ucRefs spec9 winFacts9.arr_unscoped)
theorem link10 : Link (pcfgs (F := F)) (adm (F := F)) (dats m) defs₀ 10 (W11 m) :=
  .straight launch10.toP rfl (obl10 (W11 m)) (fun _ _ => rfl) (fun _ => rfl) (fun c => (dat10 (W11 m) c).share_full fun _ => rfl)
    (still10 (W11 m)) (fun _ _ => rfl) (Pipeline.arrRefs_sub_ucRefs spec10 winFacts10.arr_unscoped)

/-- The casts. -/
def host : Pipeline.HostSeg (Ix := Unit) (Name := ℕ) (U := UR sig nD τ) (Lvl := ℕ) (pcfgs (F := F)) defs₀ Variants.none L lv :=
  seg0 m Variants.none L lv (fun _ c => R c)

/-- The program as the list of the twelve. -/
abbrev items : List (Seg (pcfgs (F := F)) (adm (F := F)) (dats m) () defs₀ Variants.none L lv) :=
  [.host (host m), .region (link0 m).reg, .region (link1 m).reg, .region (link2 m).reg, .region (link3 m).reg, .region (link4 m).reg, .region (link5 m).reg, .region (link6 m).reg, .region (link7 m).reg, .region (link8 m).reg, .region (link9 m).reg, .region (link10 m).reg]

set_option backward.isDefEq.respectTransparency.types false in
/-- Every fair execution ends, with every buffer that outlives the calls at `W12` and every counter at zero. -/
theorem run_main : θ_run defs (onTc (τ := τ) (main (F := F))) ⟨m, fun _ => 0, ρ⟩
    (fun r => (∀ c : Dev nD, ∀ b ∈ Pipeline.ucRefs τ sig, r.2.mem (c, b) = W12 m c b) ∧ r.2.sem = fun _ => 0) :=
  run_chain (pcs := pcfgs (F := F)) (a := adm (F := F)) (dats := dats m) (defs₀ := defs₀) cellOf_inj m ρ main (items m)
    (main_segs (adm (F := F)) (dats m) () Variants.none L lv (host m) (link0 m).reg (link1 m).reg (link2 m).reg (link3 m).reg (link4 m).reg (link5 m).reg (link6 m).reg (link7 m).reg (link8 m).reg (link9 m).reg (link10 m).reg rfl)
    (by simp only [items, Seg.pipes_host, Seg.pipes_region, Seg.pipes_nil]; decide) (W12 m)
    (fun c => ⟨.rfl, (link0 m).entered c, ((link0 m).left c).trans ((link1 m).entered c), ((link1 m).left c).trans ((link2 m).entered c), ((link2 m).left c).trans ((link3 m).entered c), ((link3 m).left c).trans ((link4 m).entered c), ((link4 m).left c).trans ((link5 m).entered c), ((link5 m).left c).trans ((link6 m).entered c), ((link6 m).left c).trans ((link7 m).entered c), ((link7 m).left c).trans ((link8 m).entered c), ((link8 m).left c).trans ((link9 m).entered c), ((link9 m).left c).trans ((link10 m).entered c), ((link10 m).left c).trans (rest_end (W12 m) c)⟩)
    fun g => .inr (regions_no_unscoped g.2)

end Cert.Merger
end
-- ==== Proof.MergeFrames.lean ====
/- The fourth program's frame claims: each program ends with its arguments as given and every counter at zero. -/
module

public import proofs.«01_k».proof.Defs
public import proofs.«01_k».proof.Proof.MergeLaunch
public import proofs.«01_k».proof.Proof.Gen.Merge
public import proofs.«01_k».proof.Proof.Gen.MergeRefIdeal.Run
public import Idealize.ShloMosaic.Lib.Pipeline.RegionArraysS
public import Idealize.ShloMosaic.Lib.StableHlo.RunLoop

@[expose] public section

set_option maxRecDepth 16384

noncomputable section

namespace Cert.Merger

open Cert.MergeIdeal Cert.MergeIdeal.Gen
open Idealize.ShloMosaic Idealize.ShloMosaic.TcCoe

section

variable {F : FTy → Type} [FloatOps F]
variable (m : (ℓ : Loc nD τ sig) → Buf (Elt F) ℓ)

/-- No result of a call's windows is the array `r`. -/
abbrev Off {W : ℕ} (arr : Fin W → Ref sig .tc) (out : Fin W → Bool) (r : Ref sig .tc) : Prop := ∀ w, arr w = r → out w = false

theorem keep0 (c : Dev nD) (r : Ref sig .tc) (h : Off (Pipeline.arrRef spec0) (fun w => (cfg0.win w).isOut) r) :
    W2 m c (Proc.devRef .tc r) = W1 m c (Proc.devRef .tc r) :=
  Pipeline.afterRegion_keeps (dat0 (W1 m) c) (W1 m c) winFacts0.arr_inj (fun _ => rfl) r h
theorem keep1 (c : Dev nD) (r : Ref sig .tc) (h : Off (Pipeline.arrRef spec1) (fun w => (cfg1.win w).isOut) r) :
    W3 m c (Proc.devRef .tc r) = W2 m c (Proc.devRef .tc r) :=
  Pipeline.afterRegion_keeps (dat1 (W2 m) c) (W2 m c) winFacts1.arr_inj (fun _ => rfl) r h
theorem keep2 (c : Dev nD) (r : Ref sig .tc) (h : Off (Pipeline.arrRef spec2) (fun w => (cfg2.win w).isOut) r) :
    W4 m c (Proc.devRef .tc r) = W3 m c (Proc.devRef .tc r) :=
  Pipeline.afterRegion_keeps (dat2 (W3 m) c) (W3 m c) winFacts2.arr_inj (fun _ => rfl) r h
theorem keep3 (c : Dev nD) (r : Ref sig .tc) (h : Off (Pipeline.arrRef spec3) (fun w => (cfg3.win w).isOut) r) :
    W5 m c (Proc.devRef .tc r) = W4 m c (Proc.devRef .tc r) :=
  Pipeline.afterRegion_keeps (dat3 (W4 m) c) (W4 m c) winFacts3.arr_inj (fun _ => rfl) r h
theorem keep4 (c : Dev nD) (r : Ref sig .tc) (h : Off (Pipeline.arrRef spec4) (fun w => (cfg4.win w).isOut) r) :
    W6 m c (Proc.devRef .tc r) = W5 m c (Proc.devRef .tc r) :=
  Pipeline.afterRegion_keeps (dat4 (W5 m) c) (W5 m c) winFacts4.arr_inj (fun _ => rfl) r h
theorem keep5 (c : Dev nD) (r : Ref sig .tc) (h : Off (Pipeline.arrRef spec5) (fun w => (cfg5.win w).isOut) r) :
    W7 m c (Proc.devRef .tc r) = W6 m c (Proc.devRef .tc r) :=
  Pipeline.afterRegion_keeps (dat5 (W6 m) c) (W6 m c) winFacts5.arr_inj (fun _ => rfl) r h
theorem keep6 (c : Dev nD) (r : Ref sig .tc) (h : Off (Pipeline.arrRef spec6) (fun w => (cfg6.win w).isOut) r) :
    W8 m c (Proc.devRef .tc r) = W7 m c (Proc.devRef .tc r) :=
  Pipeline.afterRegion_keeps (dat6 (W7 m) c) (W7 m c) winFacts6.arr_inj (fun _ => rfl) r h
theorem keep7 (c : Dev nD) (r : Ref sig .tc) (h : Off (Pipeline.arrRef spec7) (fun w => (cfg7.win w).isOut) r) :
    W9 m c (Proc.devRef .tc r) = W8 m c (Proc.devRef .tc r) :=
  Pipeline.afterRegion_keeps (dat7 (W8 m) c) (W8 m c) winFacts7.arr_inj (fun _ => rfl) r h
theorem keep8 (c : Dev nD) (r : Ref sig .tc) (h : Off (Pipeline.arrRef spec8) (fun w => (cfg8.win w).isOut) r) :
    W10 m c (Proc.devRef .tc r) = W9 m c (Proc.devRef .tc r) :=
  Pipeline.afterRegion_keeps (dat8 (W9 m) c) (W9 m c) winFacts8.arr_inj (fun _ => rfl) r h
theorem keep9 (c : Dev nD) (r : Ref sig .tc) (h : Off (Pipeline.arrRef spec9) (fun w => (cfg9.win w).isOut) r) :
    W11 m c (Proc.devRef .tc r) = W10 m c (Proc.devRef .tc r) :=
  Pipeline.afterRegion_keeps (dat9 (W10 m) c) (W10 m c) winFacts9.arr_inj (fun _ => rfl) r h
theorem keep10 (c : Dev nD) (r : Ref sig .tc) (h : Off (Pipeline.arrRef spec10) (fun w => (cfg10.win w).isOut) r) :
    W12 m c (Proc.devRef .tc r) = W11 m c (Proc.devRef .tc r) :=
  Pipeline.afterRegion_keeps (dat10 (W11 m) c) (W11 m c) winFacts10.arr_inj (fun _ => rfl) r h

/-- The casts leave what they do not write. -/
theorem keepH (c : Dev nD) (r : Ref sig .tc) (h : r ∉ hostOps0_W) : W1 m c (Proc.devRef .tc r) = m ((c.tc : Thread nD τ).loc r) :=
  StableHlo.after_of_writes_sub hostOps0 _ hostOps0_writes h

/-- Any array of a final state. -/
theorem read {r : MemSt nD τ sig (Elt F)} (h : ∀ c : Dev nD, ∀ b ∈ Pipeline.ucRefs τ sig, r.mem (c, b) = W12 m c b) (c : Dev nD) (b : Ref sig .tc)
    (hb : (Proc.devRef .tc b : DevRef τ sig).isScoped = false) : r.mem ((c.tc : Thread nD τ).loc b) = W12 m c (Proc.devRef .tc b) :=
  h c _ (StableHlo.devRef_mem_ucRefs b hb)

theorem args_keep {r : MemSt nD τ sig (Elt F)} (h : ∀ c : Dev nD, ∀ b ∈ Pipeline.ucRefs τ sig, r.mem (c, b) = W12 m c b) (c : Dev nD) :
    r.mem ((c.tc : Thread nD τ).loc main_arg0) = m ((c.tc : Thread nD τ).loc main_arg0)
      ∧ r.mem ((c.tc : Thread nD τ).loc main_arg1) = m ((c.tc : Thread nD τ).loc main_arg1)
      ∧ r.mem ((c.tc : Thread nD τ).loc main_arg2) = m ((c.tc : Thread nD τ).loc main_arg2)
      ∧ r.mem ((c.tc : Thread nD τ).loc main_arg3) = m ((c.tc : Thread nD τ).loc main_arg3)
      ∧ r.mem ((c.tc : Thread nD τ).loc main_arg4) = m ((c.tc : Thread nD τ).loc main_arg4)
      ∧ r.mem ((c.tc : Thread nD τ).loc main_arg5) = m ((c.tc : Thread nD τ).loc main_arg5)
      ∧ r.mem ((c.tc : Thread nD τ).loc main_arg6) = m ((c.tc : Thread nD τ).loc main_arg6)
      ∧ r.mem ((c.tc : Thread nD τ).loc main_arg7) = m ((c.tc : Thread nD τ).loc main_arg7) := by
  refine ⟨?_, ?_, ?_, ?_, ?_, ?_, ?_, ?_⟩ <;> refine (read m h c _ rfl).trans ?_ <;>
    simp (disch := decide) only [keep0 m, keep1 m, keep2 m, keep3 m, keep4 m, keep5 m, keep6 m, keep7 m, keep8 m, keep9 m, keep10 m, keepH m]

end

theorem frame_mergeIdeal : Cert.quiescent_MergeIdeal := fun m ρ _ =>
  (θ_run Cert.MergeIdeal.defs _ _).mono (fun _ h => ⟨fun c => args_keep m h.1 c, h.2⟩) (run_main (F := Ideal) m ρ)

/-- The same run with machine floats. -/
theorem frame_bits : ∀ (m : (ℓ : Loc nD τ sig) → Buf (Elt Bits) ℓ) (ρ : Dev nD → PrngReg), Cert.Pre_Merge m →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) := fun m ρ _ =>
  (θ_run Cert.MergeIdeal.defs _ _).mono (fun _ h => ⟨fun c => args_keep m h.1 c, h.2⟩) (run_main (F := Bits) m ρ)

theorem frame_merge : Cert.quiescent_Merge := cast (by sl_kernel_rfl) frame_bits

theorem frame_mergeRefIdeal : Cert.quiescent_MergeRefIdeal := fun m ρ _ =>
  (θ_run Cert.MergeRefIdeal.defs _ _).mono (fun r h => ⟨fun c => (h c).2.2.2.2.2.2.2, Idealize.ShloMosaic.sem_eq_zero_of_no_sems (by decide) r.2⟩)
    (Cert.MergeRefIdeal.Value.run (F := Ideal) m ρ)

end Cert.Merger
end
-- ==== Proof.MixSpec.lean ====
/- The third program's arrays, entry by entry, as sums and products of the arguments' entries. -/
module

public import proofs.«01_k».proof.Proof.FfnSpec

@[expose] public section

noncomputable section

namespace Cert.LayerSpec

open Idealize.ShloMosaic

/-- The product of two matrices. -/
def mulOf {a K b : ℕ} (A : Mat a K) (B : Mat K b) : Mat a b := fun y => ∑ k : Fin K, A (ix2 (y 0) k) * B (ix2 k (y 1))
/-- The first transposed, times the second. -/
def tmulOf {K a b : ℕ} (A : Mat K a) (B : Mat K b) : Mat a b := fun y => colDot A B (y 0) (y 1)
/-- The first times the second transposed. -/
def mulTOf {a K b : ℕ} (A : Mat a K) (B : Mat b K) : Mat a b := fun y => rowDot A B (y 0) (y 1)

variable (h : Mat 16384 1024) (w : Mat 1 1024) (wi : Mat 1024 11264) (ws : Mat 1024 256) (dp : Mat 16384 11264) (ds : Mat 16384 256)

/-- The normalised tokens' gradient from what is already there and the projections' gradient. -/
def addMulT (r : Mat 16384 1024) : Mat 16384 1024 := fun y => r y + mulTOf dp wi y
/-- The normalised tokens' gradient from the arguments. -/
def duV : Mat 16384 1024 := addMulT wi dp (mulTOf ds ws)

end Cert.LayerSpec
end
-- ==== Proof.MergeSpec.lean ====
/- The fourth program's arrays, entry by entry, as sums and products of the arguments' entries. -/
module

public import proofs.«01_k».proof.Proof.MixSpec

@[expose] public section

noncomputable section

namespace Cert.LayerSpec

open Idealize.ShloMosaic

variable (G : Mat 16384 2048) (p q D : Mat 16384 1024)

/-- A token's gate for the first branch. -/
abbrev leftAt (i : Fin 16384) (j : Fin 1024) : EReal := G (ix2 i ⟨j.val, by omega⟩)
/-- For the second. -/
abbrev rightAt (i : Fin 16384) (j : Fin 1024) : EReal := G (ix2 i ⟨1024 + j.val, by omega⟩)

/-- A product on top of what is already there. -/
def addMul {a K b : ℕ} (r : Mat a b) (A : Mat a K) (B : Mat K b) : Mat a b := fun y => r y + mulOf A B y
/-- Both branches under their gates. -/
def mergeOf : Mat 16384 1024 := fun y => Ideal.logistic (leftAt G (y 0) (y 1)) * p y + Ideal.logistic (rightAt G (y 0) (y 1)) * q y
/-- The first branch's gradient. -/
def gradLeft : Mat 16384 1024 := fun y => Ideal.logistic (leftAt G (y 0) (y 1)) * D y
/-- The second's. -/
def gradRight : Mat 16384 1024 := fun y => Ideal.logistic (rightAt G (y 0) (y 1)) * D y
/-- A gate's gradient. -/
def gradGate (g p d : EReal) : EReal := d * p * (Ideal.logistic g * (1 - Ideal.logistic g))
/-- Both gates' gradients, side by side. -/
def gradGates : Mat 16384 2048 := fun y =>
  if hy : (y 1).val < 1024 then gradGate (leftAt G (y 0) ⟨(y 1).val, hy⟩) (p (ix2 (y 0) ⟨(y 1).val, hy⟩)) (D (ix2 (y 0) ⟨(y 1).val, hy⟩))
  else
    have h : (y 1).val - 1024 < 1024 := by have : (y 1).val < 2048 := (y 1).isLt; omega
    gradGate (rightAt G (y 0) ⟨(y 1).val - 1024, h⟩) (q (ix2 (y 0) ⟨(y 1).val - 1024, h⟩)) (D (ix2 (y 0) ⟨(y 1).val - 1024, h⟩))

end Cert.LayerSpec
end
-- ==== Proof.MergeOut.lean ====
/- What each of the eleven calls leaves in its result arrays. -/
module

public import proofs.«01_k».proof.Proof.MergeDat
public import proofs.«01_k».proof.Proof.MergeSpec
public import proofs.«01_k».proof.Proof.FfnOut
public import Idealize.ShloMosaic.Lib.Pipeline.ValueKit
public import Idealize.ShloMosaic.Lib.Pointwise

@[expose] public section

set_option maxRecDepth 16384

noncomputable section

namespace Cert.Merger

open Cert.MergeIdeal Cert.MergeIdeal.Gen Cert.LayerSpec
open Cert.Call (blockOf accum accum_succ)
open Cert.Layer (acc_sum)
open Idealize.ShloMosaic Idealize.ShloMosaic.TcCoe Idealize.ShloMosaic.Tactic
open Idealize.ShloMosaic.Pipeline (Dat Cfg Window)

variable (W : Dev nD → Valuation τ sig (Elt Ideal)) (c : Dev nD)

theorem x0 : ∀ t : Fin cfg0.N, win0_0.index t = ![t.val, 0] ∧ win0_1.index t = ![0, 0] ∧ win0_2.index t = ![t.val, 0] := by decide +kernel

theorem final0 : (dat0 W c).arrAt 2 cfg0.N = mulOf (W c (Proc.devRef .tc main_v0)) (W c (Proc.devRef .tc main_v3)) := by
  refine (dat0 W c).arrAt_eq_of_covers 2 _ (by decide +kernel) fun t hf y => ?_
  have ht : t.val < 16 := t.isLt
  obtain ⟨e0, e1, e2⟩ := x0 t
  blk_simp
  show sbrT (blockOf cfg0 (W c) 0 t) (blockOf cfg0 (W c) 1 t) y = _
  unfold sbrT mulOf
  pointwise
  blk_point [blockOf, e0, e1, e2]

theorem x1 : ∀ t : Fin cfg1.N, win1_0.index t = ![t.val, 0] ∧ win1_1.index t = ![0, 0] ∧ win1_2.index t = ![t.val, 0] := by decide +kernel

theorem final1 : (dat1 W c).arrAt 2 cfg1.N = mulOf (W c (Proc.devRef .tc main_v1)) (W c (Proc.devRef .tc main_v4)) := by
  refine (dat1 W c).arrAt_eq_of_covers 2 _ (by decide +kernel) fun t hf y => ?_
  have ht : t.val < 8 := t.isLt
  obtain ⟨e0, e1, e2⟩ := x1 t
  blk_simp
  show dbrT (blockOf cfg1 (W c) 0 t) (blockOf cfg1 (W c) 1 t) y = _
  unfold dbrT mulOf
  pointwise
  blk_point [blockOf, e0, e1, e2]

/-- A left half at an index. -/
theorem lhs_at (x : Vec Ideal S256x2048 .bf16) (z : S256x1024.Idx) :
    lhs x z = x (ix2 (z 0) ⟨(z 1).val, by have : (z 1).val < 1024 := (z 1).isLt; omega⟩) := by
  unfold lhs
  blk_ext []

/-- A right half at an index. -/
theorem rhs_at (x : Vec Ideal S256x2048 .bf16) (z : S256x1024.Idx) :
    rhs x z = x (ix2 (z 0) ⟨1024 + (z 1).val, by have : (z 1).val < 1024 := (z 1).isLt; omega⟩) := by
  unfold rhs
  blk_ext []

theorem x2 : ∀ t : Fin cfg2.N, win2_0.index t = ![t.val, 0] ∧ win2_1.index t = ![t.val, 0] ∧ win2_2.index t = ![t.val, 0] ∧ win2_3.index t = ![t.val, 0] := by decide +kernel

theorem final2 : (dat2 W c).arrAt 3 cfg2.N = mergeOf (W c (Proc.devRef .tc main_v2)) (W c (Proc.devRef .tc main_v6)) (W c (Proc.devRef .tc main_v7)) := by
  refine (dat2 W c).arrAt_eq_of_covers 3 _ (by decide +kernel) fun t hf y => ?_
  have ht : t.val < 64 := t.isLt
  obtain ⟨e0, e1, e2, e3⟩ := x2 t
  blk_simp
  show mergeT (lhs (blockOf cfg2 (W c) 0 t)) (rhs (blockOf cfg2 (W c) 0 t)) (blockOf cfg2 (W c) 1 t) (blockOf cfg2 (W c) 2 t) y = _
  unfold mergeT wide same mergeOf leftAt rightAt
  pointwise
  simp only [lhs_at, rhs_at]
  blk_point [blockOf, e0, e1, e2, e3]

theorem x3 : ∀ t : Fin cfg3.N, win3_0.index t = ![t.val, 0] ∧ win3_1.index t = ![0, 0] ∧ win3_2.index t = ![t.val, 0] ∧ win3_3.index t = ![t.val, 0] := by decide +kernel

theorem final3 : (dat3 W c).arrAt 3 cfg3.N = addMul (W c (Proc.devRef .tc main_arg3)) (W c (Proc.devRef .tc main_v8)) (W c (Proc.devRef .tc main_v5)) := by
  refine (dat3 W c).arrAt_eq_of_covers 3 _ (by decide +kernel) fun t hf y => ?_
  have ht : t.val < 16 := t.isLt
  obtain ⟨e0, e1, e2, e3⟩ := x3 t
  blk_simp
  show outT (blockOf cfg3 (W c) 0 t) (blockOf cfg3 (W c) 1 t) (blockOf cfg3 (W c) 2 t) y = _
  unfold outT addMul mulOf
  pointwise
  blk_point [blockOf, e0, e1, e2, e3]

theorem x5 : ∀ t : Fin cfg5.N, win5_0.index t = ![t.val, 0] ∧ win5_1.index t = ![0, 0] ∧ win5_2.index t = ![t.val, 0] := by decide +kernel

theorem final5 : (dat5 W c).arrAt 2 cfg5.N = mulTOf (W c (Proc.devRef .tc main_arg7)) (W c (Proc.devRef .tc main_v5)) := by
  refine (dat5 W c).arrAt_eq_of_covers 2 _ (by decide +kernel) fun t hf y => ?_
  have ht : t.val < 8 := t.isLt
  obtain ⟨e0, e1, e2⟩ := x5 t
  blk_simp
  show dmergedT (blockOf cfg5 (W c) 0 t) (blockOf cfg5 (W c) 1 t) y = _
  unfold dmergedT mulTOf rowDot
  pointwise
  blk_point [blockOf, e0, e1, e2]

theorem x9 : ∀ t : Fin cfg9.N, win9_0.index t = ![t.val / 2, 0] ∧ win9_1.index t = ![t.val % 2, 0] ∧ win9_2.index t = ![t.val / 2, t.val % 2] := by decide +kernel

theorem final9 : (dat9 W c).arrAt 2 cfg9.N = mulTOf (W c (Proc.devRef .tc main_v12_1)) (W c (Proc.devRef .tc main_v3)) := by
  refine (dat9 W c).arrAt_eq_of_covers 2 _ (by decide +kernel) fun t hf y => ?_
  have ht : t.val < 16 := t.isLt
  obtain ⟨e0, e1, e2⟩ := x9 t
  blk_simp
  show dyT (blockOf cfg9 (W c) 0 t) (blockOf cfg9 (W c) 1 t) y = _
  unfold dyT mulTOf rowDot
  pointwise
  blk_point [blockOf, e0, e1, e2]

theorem x10 : ∀ t : Fin cfg10.N, win10_0.index t = ![t.val, 0] ∧ win10_1.index t = ![0, 0] ∧ win10_2.index t = ![t.val, 0] := by decide +kernel

theorem final10 : (dat10 W c).arrAt 2 cfg10.N = mulTOf (W c (Proc.devRef .tc main_v12_2)) (W c (Proc.devRef .tc main_v4)) := by
  refine (dat10 W c).arrAt_eq_of_covers 2 _ (by decide +kernel) fun t hf y => ?_
  have ht : t.val < 8 := t.isLt
  obtain ⟨e0, e1, e2⟩ := x10 t
  blk_simp
  show dyT (blockOf cfg10 (W c) 0 t) (blockOf cfg10 (W c) 1 t) y = _
  unfold dyT mulTOf rowDot
  pointwise
  blk_point [blockOf, e0, e1, e2]

/-! ## The gates' and branches' gradients -/

theorem x6 : ∀ t : Fin cfg6.N, win6_0.index t = ![t.val, 0] ∧ win6_1.index t = ![t.val, 0] ∧ win6_2.index t = ![t.val, 0] ∧ win6_3.index t = ![t.val, 0] ∧ win6_4.index t = ![t.val, 0] ∧ win6_5.index t = ![t.val, 0] ∧ win6_6.index t = ![t.val, 0] := by decide +kernel

theorem final6_left : (dat6 W c).arrAt 5 cfg6.N = gradLeft (W c (Proc.devRef .tc main_v2)) (W c (Proc.devRef .tc main_v11)) := by
  refine (dat6 W c).arrAt_eq_of_covers 5 _ (by decide +kernel) fun t hf y => ?_
  have ht : t.val < 64 := t.isLt
  obtain ⟨e0, e1, e2, e3, e4, e5, e6⟩ := x6 t
  blk_simp
  show dbranchT (lhs (blockOf cfg6 (W c) 0 t)) (blockOf cfg6 (W c) 3 t) y = _
  unfold dbranchT wide gradLeft leftAt
  pointwise
  simp only [lhs_at]
  blk_point [blockOf, e0, e3, e5]

theorem final6_right : (dat6 W c).arrAt 6 cfg6.N = gradRight (W c (Proc.devRef .tc main_v2)) (W c (Proc.devRef .tc main_v11)) := by
  refine (dat6 W c).arrAt_eq_of_covers 6 _ (by decide +kernel) fun t hf y => ?_
  have ht : t.val < 64 := t.isLt
  obtain ⟨e0, e1, e2, e3, e4, e5, e6⟩ := x6 t
  blk_simp
  show dbranchT (rhs (blockOf cfg6 (W c) 0 t)) (blockOf cfg6 (W c) 3 t) y = _
  unfold dbranchT wide gradRight rightAt
  pointwise
  simp only [rhs_at]
  blk_point [blockOf, e0, e3, e6]

/-- The first gate's gradient tile at an index. -/
theorem dgate_left (t : Fin cfg6.N) (z : S256x1024.Idx) (i : Fin 16384) (hi : i.val = t.val * 256 + (z 0).val) (j : Fin 1024) (hj : (z 1).val = j.val) :
    dgateT (lhs (blockOf cfg6 (W c) 0 t)) (blockOf cfg6 (W c) 1 t) (blockOf cfg6 (W c) 3 t) z
      = gradGate (leftAt (W c (Proc.devRef .tc main_v2)) i j) ((W c (Proc.devRef .tc main_v6)) (ix2 i j)) ((W c (Proc.devRef .tc main_v11)) (ix2 i j)) := by
  obtain ⟨e0, e1, e2, e3, e4, e5, e6⟩ := x6 t
  unfold dgateT wide same gradGate leftAt
  pointwise
  simp only [lhs_at]
  blk_point [blockOf, e0, e1, e3]

/-- The second gate's gradient tile at an index. -/
theorem dgate_right (t : Fin cfg6.N) (z : S256x1024.Idx) (i : Fin 16384) (hi : i.val = t.val * 256 + (z 0).val) (j : Fin 1024) (hj : (z 1).val = j.val) :
    dgateT (rhs (blockOf cfg6 (W c) 0 t)) (blockOf cfg6 (W c) 2 t) (blockOf cfg6 (W c) 3 t) z
      = gradGate (rightAt (W c (Proc.devRef .tc main_v2)) i j) ((W c (Proc.devRef .tc main_v7)) (ix2 i j)) ((W c (Proc.devRef .tc main_v11)) (ix2 i j)) := by
  obtain ⟨e0, e1, e2, e3, e4, e5, e6⟩ := x6 t
  unfold dgateT wide same gradGate rightAt
  pointwise
  simp only [rhs_at]
  blk_point [blockOf, e0, e2, e3]

set_option maxHeartbeats 2000000 in
theorem final6_gates : (dat6 W c).arrAt 4 cfg6.N = gradGates (W c (Proc.devRef .tc main_v2)) (W c (Proc.devRef .tc main_v6)) (W c (Proc.devRef .tc main_v7)) (W c (Proc.devRef .tc main_v11)) := by
  refine (dat6 W c).arrAt_eq_of_covers 4 _ (by decide +kernel) fun t hf y => ?_
  have ht : t.val < 64 := t.isLt
  obtain ⟨e0, e1, e2, e3, e4, e5, e6⟩ := x6 t
  blk_simp
  show dgatesOf (lhs (blockOf cfg6 (W c) 0 t)) (rhs (blockOf cfg6 (W c) 0 t)) (blockOf cfg6 (W c) 1 t) (blockOf cfg6 (W c) 2 t) (blockOf cfg6 (W c) 3 t) y = _
  unfold dgatesOf gradGates
  canon_tiles z h
  · rw [dif_neg (by blk_simp [e4]; omega)]
    exact dgate_right W c t z _ (by blk_simp [e4]; omega) _ (by blk_simp [e4]; show (z 1).val = (y 1).val - 1024; omega)
  · rw [dif_pos (by blk_simp [e4]; omega)]
    exact dgate_left W c t z _ (by blk_simp [e4]; omega) _ (by blk_simp [e4]; show (z 1).val = (y 1).val; omega)

/-! ## The accumulating calls -/

theorem x4 : ∀ t : Fin cfg4.N, win4_0.index t = ![t.val, 0] ∧ win4_1.index t = ![t.val, 0] ∧ win4_2.index t = ![0, 0] := by decide +kernel

theorem final4 : (dat4 W c).arrAt 2 cfg4.N = tmulOf (W c (Proc.devRef .tc main_v8)) (W c (Proc.devRef .tc main_arg7)) := by
  refine (dat4 W c).arrAt_eq_of_covers 2 _ (by decide +kernel) fun t hf y => ?_
  have ht : t.val < 8 := t.isLt
  have hr := (flush4_2 t).mp hf
  obtain ⟨e0, e1, e2⟩ := x4 t
  blk_simp
  show acc4 W c (t.val + 1) y = _
  have hs := acc_sum (acc4 W c) 8 (fun t i => colDot (K := 2048) (a := 1024) (b := 1024) (blockOf cfg4 (W c) 0 t) (blockOf cfg4 (W c) 1 t) (i 0) (i 1))
    (fun t i => by
      unfold acc4
      rw [accum_succ]
      unfold dwoAcc dwoZero
      pointwise
      split <;> rfl) t hr y
  unfold tmulOf
  pointwise
  rw [hs]
  refine Fin.sum_mul_add_congr fun q k hk => ?_
  have e0' := (x4 ⟨8 * (t.val / 8) + q.val, Pipeline.run_point_lt_of_flush t hr q⟩).1
  have e1' := (x4 ⟨8 * (t.val / 8) + q.val, Pipeline.run_point_lt_of_flush t hr q⟩).2.1
  blk_point [blockOf, e0', e1', e2]

theorem x7 : ∀ t : Fin cfg7.N, win7_0.index t = ![t.val % 4, t.val / 4] ∧ win7_1.index t = ![t.val % 4, 0] ∧ win7_2.index t = ![t.val / 4, 0] := by decide +kernel

theorem final7 : (dat7 W c).arrAt 2 cfg7.N = tmulOf (W c (Proc.devRef .tc main_v0)) (W c (Proc.devRef .tc main_v12_1)) := by
  refine (dat7 W c).arrAt_eq_of_covers 2 _ (by decide +kernel) fun t hf y => ?_
  have ht : t.val < 16 := t.isLt
  have hr := (flush7_2 t).mp hf
  obtain ⟨e0, e1, e2⟩ := x7 t
  blk_simp
  show acc7 W c (t.val + 1) y = _
  have hs := acc_sum (acc7 W c) 4 (fun t i => colDot (K := 4096) (a := 512) (b := 1024) (blockOf cfg7 (W c) 0 t) (blockOf cfg7 (W c) 1 t) (i 0) (i 1))
    (fun t i => by
      unfold acc7
      rw [accum_succ]
      unfold dwAcc dwZero
      pointwise
      split <;> rfl) t hr y
  unfold tmulOf
  pointwise
  rw [hs]
  refine Fin.sum_mul_add_congr fun q k hk => ?_
  have e0' := (x7 ⟨4 * (t.val / 4) + q.val, Pipeline.run_point_lt_of_flush t hr q⟩).1
  have e1' := (x7 ⟨4 * (t.val / 4) + q.val, Pipeline.run_point_lt_of_flush t hr q⟩).2.1
  blk_point [blockOf, e0', e1', e2]

theorem x8 : ∀ t : Fin cfg8.N, win8_0.index t = ![t.val % 4, t.val / 4] ∧ win8_1.index t = ![t.val % 4, 0] ∧ win8_2.index t = ![t.val / 4, 0] := by decide +kernel

theorem final8 : (dat8 W c).arrAt 2 cfg8.N = tmulOf (W c (Proc.devRef .tc main_v1)) (W c (Proc.devRef .tc main_v12_2)) := by
  refine (dat8 W c).arrAt_eq_of_covers 2 _ (by decide +kernel) fun t hf y => ?_
  have ht : t.val < 8 := t.isLt
  have hr := (flush8_2 t).mp hf
  obtain ⟨e0, e1, e2⟩ := x8 t
  blk_simp
  show acc8 W c (t.val + 1) y = _
  have hs := acc_sum (acc8 W c) 4 (fun t i => colDot (K := 4096) (a := 512) (b := 1024) (blockOf cfg8 (W c) 0 t) (blockOf cfg8 (W c) 1 t) (i 0) (i 1))
    (fun t i => by
      unfold acc8
      rw [accum_succ]
      unfold dwAcc dwZero
      pointwise
      split <;> rfl) t hr y
  unfold tmulOf
  pointwise
  rw [hs]
  refine Fin.sum_mul_add_congr fun q k hk => ?_
  have e0' := (x8 ⟨4 * (t.val / 4) + q.val, Pipeline.run_point_lt_of_flush t hr q⟩).1
  have e1' := (x8 ⟨4 * (t.val / 4) + q.val, Pipeline.run_point_lt_of_flush t hr q⟩).2.1
  blk_point [blockOf, e0', e1', e2]

end Cert.Merger
end
-- ==== Proof.MergeAlgebraic.lean ====
/- The fourth program's two sides leave equal results: each leaves the same functions of the same arguments. -/
module

public import proofs.«01_k».proof.Proof.MergeFrames
public import proofs.«01_k».proof.Proof.MergeOut

@[expose] public section

set_option maxRecDepth 16384

noncomputable section

namespace Cert.Merger

open Cert.MergeIdeal Cert.MergeIdeal.Gen Cert.LayerSpec
open Idealize.ShloMosaic Idealize.ShloMosaic.TcCoe

variable (m : (ℓ : Loc nD τ sig) → Buf (Elt Ideal) ℓ) (c : Dev nD)

/-- A device's arguments. -/
abbrev a0 : Mat 16384 2048 := m ((c.tc : Thread nD τ).loc main_arg0)
abbrev a1 : Mat 16384 1024 := m ((c.tc : Thread nD τ).loc main_arg1)
abbrev a2 : Mat 16384 2048 := m ((c.tc : Thread nD τ).loc main_arg2)
abbrev a3 : Mat 16384 1024 := m ((c.tc : Thread nD τ).loc main_arg3)
abbrev a4 : Mat 2048 1024 := m ((c.tc : Thread nD τ).loc main_arg4)
abbrev a5 : Mat 1024 1024 := m ((c.tc : Thread nD τ).loc main_arg5)
abbrev a6 : Mat 1024 1024 := m ((c.tc : Thread nD τ).loc main_arg6)
abbrev a7 : Mat 16384 1024 := m ((c.tc : Thread nD τ).loc main_arg7)
/-- The branches, their sum under the gates, and the gradients of the sum and of the branches. -/
abbrev ps : Mat 16384 1024 := mulOf (a0 m c) (a4 m c)
abbrev pd : Mat 16384 1024 := mulOf (a1 m c) (a5 m c)
abbrev mg : Mat 16384 1024 := mergeOf (a2 m c) (ps m c) (pd m c)
abbrev dmg : Mat 16384 1024 := mulTOf (a7 m c) (a6 m c)
abbrev dps : Mat 16384 1024 := gradLeft (a2 m c) (dmg m c)
abbrev dpd : Mat 16384 1024 := gradRight (a2 m c) (dmg m c)

/-! ## The casts are the identity on extended reals -/

theorem W1_v0 : W1 m c (Proc.devRef .tc main_v0) = a0 m c := by
  unfold W1 hostOps0
  after_results_simp
  rfl

theorem W1_v1 : W1 m c (Proc.devRef .tc main_v1) = a1 m c := by
  unfold W1 hostOps0
  after_results_simp
  rfl

theorem W1_v2 : W1 m c (Proc.devRef .tc main_v2) = a2 m c := by
  unfold W1 hostOps0
  after_results_simp
  rfl

theorem W1_v3 : W1 m c (Proc.devRef .tc main_v3) = a4 m c := by
  unfold W1 hostOps0
  after_results_simp
  rfl

theorem W1_v4 : W1 m c (Proc.devRef .tc main_v4) = a5 m c := by
  unfold W1 hostOps0
  after_results_simp
  rfl

theorem W1_v5 : W1 m c (Proc.devRef .tc main_v5) = a6 m c := by
  unfold W1 hostOps0
  after_results_simp
  rfl

/-! ## What each call leaves -/

theorem W2_v6 : W2 m c (Proc.devRef .tc main_v6) = ps m c := by
  refine ((Pipeline.afterRegion_arr (dat0 (W1 m) c) (W1 m c) winFacts0.arr_inj 2).trans (final0 (W1 m) c)).trans ?_
  simp (disch := decide) only [keep0 m, keep1 m, keep2 m, keep3 m, keep4 m, keep5 m, keep6 m, keep7 m, keep8 m, keep9 m, keep10 m, keepH m]
  rw [W1_v0, W1_v3]

theorem W3_v7 : W3 m c (Proc.devRef .tc main_v7) = pd m c := by
  refine ((Pipeline.afterRegion_arr (dat1 (W2 m) c) (W2 m c) winFacts1.arr_inj 2).trans (final1 (W2 m) c)).trans ?_
  simp (disch := decide) only [keep0 m, keep1 m, keep2 m, keep3 m, keep4 m, keep5 m, keep6 m, keep7 m, keep8 m, keep9 m, keep10 m, keepH m]
  rw [W1_v1, W1_v4]

theorem W4_v8 : W4 m c (Proc.devRef .tc main_v8) = mg m c := by
  refine ((Pipeline.afterRegion_arr (dat2 (W3 m) c) (W3 m c) winFacts2.arr_inj 3).trans (final2 (W3 m) c)).trans ?_
  simp (disch := decide) only [keep0 m, keep1 m, keep2 m, keep3 m, keep4 m, keep5 m, keep6 m, keep7 m, keep8 m, keep9 m, keep10 m, keepH m]
  rw [W1_v2, W2_v6, W3_v7]

theorem W5_v9 : W5 m c (Proc.devRef .tc main_v9) = addMul (a3 m c) (mg m c) (a6 m c) := by
  refine ((Pipeline.afterRegion_arr (dat3 (W4 m) c) (W4 m c) winFacts3.arr_inj 3).trans (final3 (W4 m) c)).trans ?_
  simp (disch := decide) only [keep0 m, keep1 m, keep2 m, keep3 m, keep4 m, keep5 m, keep6 m, keep7 m, keep8 m, keep9 m, keep10 m, keepH m]
  rw [W4_v8, W1_v5]

theorem W6_v10 : W6 m c (Proc.devRef .tc main_v10) = tmulOf (mg m c) (a7 m c) := by
  refine ((Pipeline.afterRegion_arr (dat4 (W5 m) c) (W5 m c) winFacts4.arr_inj 2).trans (final4 (W5 m) c)).trans ?_
  simp (disch := decide) only [keep0 m, keep1 m, keep2 m, keep3 m, keep4 m, keep5 m, keep6 m, keep7 m, keep8 m, keep9 m, keep10 m, keepH m]
  rw [W4_v8]

theorem W7_v11 : W7 m c (Proc.devRef .tc main_v11) = dmg m c := by
  refine ((Pipeline.afterRegion_arr (dat5 (W6 m) c) (W6 m c) winFacts5.arr_inj 2).trans (final5 (W6 m) c)).trans ?_
  simp (disch := decide) only [keep0 m, keep1 m, keep2 m, keep3 m, keep4 m, keep5 m, keep6 m, keep7 m, keep8 m, keep9 m, keep10 m, keepH m]
  rw [W1_v5]

theorem W8_v12_0 : W8 m c (Proc.devRef .tc main_v12_0) = gradGates (a2 m c) (ps m c) (pd m c) (dmg m c) := by
  refine ((Pipeline.afterRegion_arr (dat6 (W7 m) c) (W7 m c) winFacts6.arr_inj 4).trans (final6_gates (W7 m) c)).trans ?_
  simp (disch := decide) only [keep0 m, keep1 m, keep2 m, keep3 m, keep4 m, keep5 m, keep6 m, keep7 m, keep8 m, keep9 m, keep10 m, keepH m]
  rw [W1_v2, W2_v6, W3_v7, W7_v11]

theorem W8_v12_1 : W8 m c (Proc.devRef .tc main_v12_1) = dps m c := by
  refine ((Pipeline.afterRegion_arr (dat6 (W7 m) c) (W7 m c) winFacts6.arr_inj 5).trans (final6_left (W7 m) c)).trans ?_
  simp (disch := decide) only [keep0 m, keep1 m, keep2 m, keep3 m, keep4 m, keep5 m, keep6 m, keep7 m, keep8 m, keep9 m, keep10 m, keepH m]
  rw [W1_v2, W7_v11]

theorem W8_v12_2 : W8 m c (Proc.devRef .tc main_v12_2) = dpd m c := by
  refine ((Pipeline.afterRegion_arr (dat6 (W7 m) c) (W7 m c) winFacts6.arr_inj 6).trans (final6_right (W7 m) c)).trans ?_
  simp (disch := decide) only [keep0 m, keep1 m, keep2 m, keep3 m, keep4 m, keep5 m, keep6 m, keep7 m, keep8 m, keep9 m, keep10 m, keepH m]
  rw [W1_v2, W7_v11]

theorem W9_v13 : W9 m c (Proc.devRef .tc main_v13) = tmulOf (a0 m c) (dps m c) := by
  refine ((Pipeline.afterRegion_arr (dat7 (W8 m) c) (W8 m c) winFacts7.arr_inj 2).trans (final7 (W8 m) c)).trans ?_
  simp (disch := decide) only [keep0 m, keep1 m, keep2 m, keep3 m, keep4 m, keep5 m, keep6 m, keep7 m, keep8 m, keep9 m, keep10 m, keepH m]
  rw [W1_v0, W8_v12_1]

theorem W10_v14 : W10 m c (Proc.devRef .tc main_v14) = tmulOf (a1 m c) (dpd m c) := by
  refine ((Pipeline.afterRegion_arr (dat8 (W9 m) c) (W9 m c) winFacts8.arr_inj 2).trans (final8 (W9 m) c)).trans ?_
  simp (disch := decide) only [keep0 m, keep1 m, keep2 m, keep3 m, keep4 m, keep5 m, keep6 m, keep7 m, keep8 m, keep9 m, keep10 m, keepH m]
  rw [W1_v1, W8_v12_2]

theorem W11_v15 : W11 m c (Proc.devRef .tc main_v15) = mulTOf (dps m c) (a4 m c) := by
  refine ((Pipeline.afterRegion_arr (dat9 (W10 m) c) (W10 m c) winFacts9.arr_inj 2).trans (final9 (W10 m) c)).trans ?_
  simp (disch := decide) only [keep0 m, keep1 m, keep2 m, keep3 m, keep4 m, keep5 m, keep6 m, keep7 m, keep8 m, keep9 m, keep10 m, keepH m]
  rw [W8_v12_1, W1_v3]

theorem W12_v16 : W12 m c (Proc.devRef .tc main_v16) = mulTOf (dpd m c) (a5 m c) := by
  refine ((Pipeline.afterRegion_arr (dat10 (W11 m) c) (W11 m c) winFacts10.arr_inj 2).trans (final10 (W11 m) c)).trans ?_
  simp (disch := decide) only [keep0 m, keep1 m, keep2 m, keep3 m, keep4 m, keep5 m, keep6 m, keep7 m, keep8 m, keep9 m, keep10 m, keepH m]
  rw [W8_v12_2, W1_v4]

/-! ## The results left by earlier calls stay -/

theorem end_v9 : W12 m c (Proc.devRef .tc main_v9) = addMul (a3 m c) (mg m c) (a6 m c) := by
  simp (disch := decide) only [keep0 m, keep1 m, keep2 m, keep3 m, keep4 m, keep5 m, keep6 m, keep7 m, keep8 m, keep9 m, keep10 m, keepH m]
  rw [W5_v9]

theorem end_v15 : W12 m c (Proc.devRef .tc main_v15) = mulTOf (dps m c) (a4 m c) := by
  simp (disch := decide) only [keep0 m, keep1 m, keep2 m, keep3 m, keep4 m, keep5 m, keep6 m, keep7 m, keep8 m, keep9 m, keep10 m, keepH m]
  rw [W11_v15]

theorem end_v12_0 : W12 m c (Proc.devRef .tc main_v12_0) = gradGates (a2 m c) (ps m c) (pd m c) (dmg m c) := by
  simp (disch := decide) only [keep0 m, keep1 m, keep2 m, keep3 m, keep4 m, keep5 m, keep6 m, keep7 m, keep8 m, keep9 m, keep10 m, keepH m]
  rw [W8_v12_0]

theorem end_v13 : W12 m c (Proc.devRef .tc main_v13) = tmulOf (a0 m c) (dps m c) := by
  simp (disch := decide) only [keep0 m, keep1 m, keep2 m, keep3 m, keep4 m, keep5 m, keep6 m, keep7 m, keep8 m, keep9 m, keep10 m, keepH m]
  rw [W9_v13]

theorem end_v14 : W12 m c (Proc.devRef .tc main_v14) = tmulOf (a1 m c) (dpd m c) := by
  simp (disch := decide) only [keep0 m, keep1 m, keep2 m, keep3 m, keep4 m, keep5 m, keep6 m, keep7 m, keep8 m, keep9 m, keep10 m, keepH m]
  rw [W10_v14]

theorem end_v10 : W12 m c (Proc.devRef .tc main_v10) = tmulOf (mg m c) (a7 m c) := by
  simp (disch := decide) only [keep0 m, keep1 m, keep2 m, keep3 m, keep4 m, keep5 m, keep6 m, keep7 m, keep8 m, keep9 m, keep10 m, keepH m]
  rw [W6_v10]

end Cert.Merger

namespace Cert.MergerRef

open Cert.MergeRefIdeal Cert.MergeRefIdeal.Gen Cert.LayerSpec
open Idealize.ShloMosaic Idealize.ShloMosaic.TcCoe

variable (ys g : FVec Ideal S16384x2048 .f32) (yd h gh p q d : FVec Ideal S16384x1024 .f32) (ws : FVec Ideal S2048x1024 .f32) (wd wo : FVec Ideal S1024x1024 .f32)

/-! ## The reference's stages are the same arrays -/

abbrev one : FVec Ideal S16384x1024 .f32 := broadcastInDim S16384x1024 ![] bcast_S_S16384x1024 (constant (F := Ideal) S_ .f32 0x3F800000#32)
def rGl : FVec Ideal S16384x1024 .f32 := extractStridedSlice S16384x1024 ![0, 0] g slices_S16384x2048_S16384x1024_0_0
def rGr : FVec Ideal S16384x1024 .f32 := extractStridedSlice S16384x1024 ![0, 1024] g slices_S16384x2048_S16384x1024_0_1024
def rSig (x : FVec Ideal S16384x1024 .f32) : FVec Ideal S16384x1024 .f32 := Host.divf (F := Ideal) one (addf (F := Ideal) one (Host.exp (F := Ideal) (Host.negf (F := Ideal) x)))
def rPs : FVec Ideal S16384x1024 .f32 := Host.dotGeneral (F := Ideal) dot_S16384x2048_S2048x1024_S16384x1024_1_0_0_1_n_n none ys ws
def rPd : FVec Ideal S16384x1024 .f32 := Host.dotGeneral (F := Ideal) dot_S16384x1024_S1024x1024_S16384x1024_1_0_0_1_n_n none yd wd
def rMg : FVec Ideal S16384x1024 .f32 := addf (F := Ideal) (mulf (F := Ideal) (rSig (rGl g)) p) (mulf (F := Ideal) (rSig (rGr g)) q)
def rOut : FVec Ideal S16384x1024 .f32 := addf (F := Ideal) h (rPd p wo)
def rD : FVec Ideal S16384x1024 .f32 := Host.dotGeneral (F := Ideal) dot_S16384x1024_S1024x1024_S16384x1024_1_1_0_0_n_n none (shapeCast S16384x1024 gh shapeCasts_S16384x1024_S16384x1024) wo
def rDwo : FVec Ideal S1024x1024 .f32 :=
  transpose S1024x1024 [1, 0] (Host.dotGeneral (F := Ideal) dot_S16384x1024_S16384x1024_S1024x1024_0_0_1_1_n_n none d p) transposes_S1024x1024_S1024x1024_1_0
def rSame : FVec Ideal S16384x1024 .f32 := shapeCast S16384x1024 gh shapeCasts_S16384x1024_S16384x1024
def rDws : FVec Ideal S2048x1024 .f32 :=
  transpose S2048x1024 [1, 0] (Host.dotGeneral (F := Ideal) dot_S16384x1024_S16384x2048_S1024x2048_0_0_1_1_n_n none d ys) transposes_S1024x2048_S2048x1024_1_0
def rLeft : FVec Ideal S16384x1024 .f32 := mulf (F := Ideal) (rSig (rGl g)) d
def rRight : FVec Ideal S16384x1024 .f32 := mulf (F := Ideal) (rSig (rGr g)) d
def rDys : FVec Ideal S16384x2048 .bf16 := truncf .bf16 (Host.dotGeneral (F := Ideal) dot_S16384x1024_S2048x1024_S16384x2048_1_1_0_0_n_n none d ws) bitsLt_bf16_f32
def rDyd : FVec Ideal S16384x1024 .bf16 := truncf .bf16 (Host.dotGeneral (F := Ideal) dot_S16384x1024_S1024x1024_S16384x1024_1_1_0_0_n_n none d wd) bitsLt_bf16_f32
def rGate (x : FVec Ideal S16384x1024 .f32) : FVec Ideal S16384x1024 .f32 := mulf (F := Ideal) (mulf (F := Ideal) d p) (mulf (F := Ideal) (rSig x) (subf (F := Ideal) one (rSig x)))
def rGates : FVec Ideal S16384x2048 .bf16 :=
  truncf .bf16 (concatenate S16384x2048 1 [⟨S16384x1024, rGate p d (rGl g)⟩, ⟨S16384x1024, rGate q d (rGr g)⟩] concatenates_S16384x1024_S16384x1024_S16384x2048_d1 : FVec Ideal S16384x2048 .f32) bitsLt_bf16_f32

theorem rPs_eq : rPs ys ws = mulOf ys ws := by
  funext y
  unfold rPs mulOf
  pointwise

theorem rPd_eq : rPd yd wd = mulOf yd wd := by
  funext y
  unfold rPd mulOf
  pointwise

theorem rMg_eq : rMg g p q = mergeOf g p q := by
  funext y
  unfold rMg rSig rGl rGr mergeOf leftAt rightAt Ideal.logistic
  pointwise

theorem rOut_eq : rOut h p wo = addMul h p wo := by
  funext y
  unfold rOut rPd addMul mulOf
  pointwise

theorem rD_eq : rD gh wo = mulTOf gh wo := by
  funext y
  unfold rD mulTOf
  pointwise

theorem rSame_eq : rSame gh = gh := by
  funext y
  unfold rSame
  pointwise

theorem rDwo_eq : rDwo p d = tmulOf p d := by
  funext y
  unfold rDwo tmulOf
  pointwise
  exact Finset.sum_congr rfl fun _ _ => mul_comm _ _

theorem rDws_eq : rDws ys d = tmulOf ys d := by
  funext y
  unfold rDws tmulOf
  pointwise
  exact Finset.sum_congr rfl fun _ _ => mul_comm _ _

theorem rLeft_eq : rLeft g d = gradLeft g d := by
  funext y
  unfold rLeft rSig rGl gradLeft leftAt Ideal.logistic
  pointwise

theorem rRight_eq : rRight g d = gradRight g d := by
  funext y
  unfold rRight rSig rGr gradRight rightAt Ideal.logistic
  pointwise

theorem rDys_eq : rDys d ws = mulTOf d ws := by
  funext y
  unfold rDys mulTOf
  pointwise

theorem rDyd_eq : rDyd d wd = mulTOf d wd := by
  funext y
  unfold rDyd mulTOf
  pointwise

theorem rGates_eq : rGates g p q d = gradGates g p q d := by
  funext y
  unfold rGates rGate rSig rGl rGr gradGates gradGate leftAt rightAt Ideal.logistic
  pointwise

variable (m : (ℓ : Loc nD τ sig) → Buf (Elt Ideal) ℓ) (c : Dev nD)

/-- A device's arguments. -/
abbrev b0 : FVec Ideal S16384x2048 .f32 := m ((c.tc : Thread nD τ).loc main_arg0)
abbrev b1 : FVec Ideal S16384x1024 .f32 := m ((c.tc : Thread nD τ).loc main_arg1)
abbrev b2 : FVec Ideal S16384x2048 .f32 := m ((c.tc : Thread nD τ).loc main_arg2)
abbrev b3 : FVec Ideal S16384x1024 .f32 := m ((c.tc : Thread nD τ).loc main_arg3)
abbrev b4 : FVec Ideal S2048x1024 .f32 := m ((c.tc : Thread nD τ).loc main_arg4)
abbrev b5 : FVec Ideal S1024x1024 .f32 := m ((c.tc : Thread nD τ).loc main_arg5)
abbrev b6 : FVec Ideal S1024x1024 .f32 := m ((c.tc : Thread nD τ).loc main_arg6)
abbrev b7 : FVec Ideal S16384x1024 .f32 := m ((c.tc : Thread nD τ).loc main_arg7)

theorem out_eq : rOut h (rMg g (rPs ys ws) (rPd yd wd)) wo = addMul h (mergeOf g (mulOf ys ws) (mulOf yd wd)) wo := by rw [rOut_eq, rMg_eq, rPs_eq, rPd_eq]
theorem dys_eq : rDys (rLeft g (rD gh wo)) ws = mulTOf (gradLeft g (mulTOf gh wo)) ws := by rw [rDys_eq, rLeft_eq, rD_eq]
theorem dyd_eq : rDyd (rRight g (rD gh wo)) wd = mulTOf (gradRight g (mulTOf gh wo)) wd := by rw [rDyd_eq, rRight_eq, rD_eq]
theorem dgates_eq : rGates g (rPs ys ws) (rPd yd wd) (rD gh wo) = gradGates g (mulOf ys ws) (mulOf yd wd) (mulTOf gh wo) := by rw [rGates_eq, rPs_eq, rPd_eq, rD_eq]
theorem dws_eq : rDws ys (rLeft g (rD gh wo)) = tmulOf ys (gradLeft g (mulTOf gh wo)) := by rw [rDws_eq, rLeft_eq, rD_eq]
theorem dwd_eq : rDwo yd (rRight g (rD gh wo)) = tmulOf yd (gradRight g (mulTOf gh wo)) := by rw [rDwo_eq, rRight_eq, rD_eq]
theorem dwo_eq : rDwo (rMg g (rPs ys ws) (rPd yd wd)) (rSame gh) = tmulOf (mergeOf g (mulOf ys ws) (mulOf yd wd)) gh := by
  rw [rDwo_eq, rMg_eq, rPs_eq, rPd_eq, rSame_eq]

end Cert.MergerRef

namespace Cert.Final

open Cert.LayerSpec Cert.Merger
open Idealize.ShloMosaic Idealize.ShloMosaic.TcCoe

theorem algebraic_merger : Cert.algebraic_MergeIdeal_MergeRefIdeal := by
  intro m g m' g' _ hargs
  have h0 : ∀ c, Cert.MergerRef.b0 m' c = a0 m c := fun c => (hargs c).1
  have h1 : ∀ c, Cert.MergerRef.b1 m' c = a1 m c := fun c => (hargs c).2.1
  have h2 : ∀ c, Cert.MergerRef.b2 m' c = a2 m c := fun c => (hargs c).2.2.1
  have h3 : ∀ c, Cert.MergerRef.b3 m' c = a3 m c := fun c => (hargs c).2.2.2.1
  have h4 : ∀ c, Cert.MergerRef.b4 m' c = a4 m c := fun c => (hargs c).2.2.2.2.1
  have h5 : ∀ c, Cert.MergerRef.b5 m' c = a5 m c := fun c => (hargs c).2.2.2.2.2.1
  have h6 : ∀ c, Cert.MergerRef.b6 m' c = a6 m c := fun c => (hargs c).2.2.2.2.2.2.1
  have h7 : ∀ c, Cert.MergerRef.b7 m' c = a7 m c := fun c => (hargs c).2.2.2.2.2.2.2
  refine ⟨fun c => addMul (a3 m c) (mg m c) (a6 m c), fun c => mulTOf (dps m c) (a4 m c), fun c => mulTOf (dpd m c) (a5 m c), fun c => gradGates (a2 m c) (ps m c) (pd m c) (dmg m c), fun c => tmulOf (a0 m c) (dps m c), fun c => tmulOf (a1 m c) (dpd m c), fun c => tmulOf (mg m c) (a7 m c), ?_, ?_⟩
  · refine (θ_run Cert.MergeIdeal.defs _ _).mono (fun r h c => ?_) (run_main (F := Ideal) m g)
    exact ⟨(read m h.1 c _ rfl).trans (end_v9 m c), (read m h.1 c _ rfl).trans (end_v15 m c), (read m h.1 c _ rfl).trans (W12_v16 m c), (read m h.1 c _ rfl).trans (end_v12_0 m c), (read m h.1 c _ rfl).trans (end_v13 m c), (read m h.1 c _ rfl).trans (end_v14 m c), (read m h.1 c _ rfl).trans (end_v10 m c), args_keep m h.1 c⟩
  · refine (θ_run Cert.MergeRefIdeal.defs _ _).mono (fun r h c => ?_) (Cert.MergeRefIdeal.Value.run (F := Ideal) m' g')
    obtain ⟨r0, r1, r2, r3, r4, r5, r6, hk⟩ := h c
    dsimp only
    refine ⟨r0.trans (Eq.trans ?_ (Cert.MergerRef.out_eq (a0 m c) (a2 m c) (a1 m c) (a3 m c) (a4 m c) (a5 m c) (a6 m c))),
      r1.trans (Eq.trans ?_ (Cert.MergerRef.dys_eq (a2 m c) (a7 m c) (a4 m c) (a6 m c))),
      r2.trans (Eq.trans ?_ (Cert.MergerRef.dyd_eq (a2 m c) (a7 m c) (a5 m c) (a6 m c))),
      r3.trans (Eq.trans ?_ (Cert.MergerRef.dgates_eq (a0 m c) (a2 m c) (a1 m c) (a7 m c) (a4 m c) (a5 m c) (a6 m c))),
      r4.trans (Eq.trans ?_ (Cert.MergerRef.dws_eq (a0 m c) (a2 m c) (a7 m c) (a6 m c))),
      r5.trans (Eq.trans ?_ (Cert.MergerRef.dwd_eq (a2 m c) (a1 m c) (a7 m c) (a6 m c))),
      r6.trans (Eq.trans ?_ (Cert.MergerRef.dwo_eq (a0 m c) (a2 m c) (a1 m c) (a7 m c) (a4 m c) (a5 m c))), hk⟩ <;>
    · simp only [← h0, ← h1, ← h2, ← h3, ← h4, ← h5, ← h6, ← h7]
      rfl

end Cert.Final
end
-- ==== Proof.MixRun.lean ====
/- What each of the eight calls of the mixer's norm and projections computes of its blocks, and its body's run between its buffers. -/
module

public import proofs.«01_k».proof.Proof.Bodies
public import proofs.«01_k».proof.Proof.FfnRun
public import proofs.«01_k».proof.Proof.Gen.MixIdeal.Launch
public import proofs.«01_k».proof.Proof.Gen.MixIdeal.Points
public import Idealize.ShloMosaic.Lib.Pipeline.FrameBody
public import Idealize.ShloMosaic.Lib.Tactic
public import Idealize.ShloMosaic.Lib.WholeRead
public import Idealize.ShloMosaic.Lib.Ring
public import Idealize.ShloMosaic.Lib.WordCmp

@[expose] public section

set_option maxRecDepth 16384

noncomputable section

namespace Cert.Mixer

open Cert.MixIdeal Cert.MixIdeal.Gen
open Cert.Call (run_pair run_triple run_acc has kept load_all congr3)
open Cert.Layer (first normT inT dwinAcc dwinZero dwinFin dxnAcc dxnZero dxnFin dhT dnwT dnwAcc)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (UR sig nD τ) ℕ

/-! ## What the bodies compute -/

/-- The small projections' tile. -/
def smallT (a : Vec F S2048x1024 .bf16) (b : Vec F S1024x256 .bf16) : Vec F S2048x256 .f32 :=
  matmul (F := F) dot_S2048x1024_S1024x256_S2048x256_1_0_0_1_n_n none (shapeCast S2048x1024 a shapeCasts_S2048x1024_S2048x1024 : FVec F S2048x1024 .bf16)
    (shapeCast S1024x256 b shapeCasts_S1024x256_S1024x256 : FVec F S1024x256 .bf16) (constant S2048x256 .f32 0x00000000#32)

/-- The small weights' gradient, one more tile added. -/
def dsmallAcc (s : Vec F S512x256 .f32) (a : Vec F S4096x512 .bf16) (b : Vec F S4096x256 .bf16) : Vec F S512x256 .f32 :=
  shapeCast S512x256 (addf s (matmul (F := F) dot_S4096x512_S4096x256_S512x256_0_0_1_1_n_n none (shapeCast S4096x512 a shapeCasts_S4096x512_S4096x512 : FVec F S4096x512 .bf16)
    (shapeCast S4096x256 b shapeCasts_S4096x256_S4096x256 : FVec F S4096x256 .bf16) (constant S512x256 .f32 0x00000000#32)) : FVec F S512x256 .f32) shapeCasts_S512x256_S512x256
/-- Its accumulator cleared. -/
def dsmallZero : Vec F S512x256 .f32 := shapeCast S512x256 (broadcast S512x256 (Scalar.ofBits .f32 0x00000000#32) : FVec F S512x256 .f32) shapeCasts_S512x256_S512x256

/-- The small projections' part of the normalised tile's gradient. -/
def dusmallT (a : Vec F S2048x256 .bf16) (b : Vec F S1024x256 .bf16) : Vec F S2048x1024 .f32 :=
  matmul (F := F) dot_S2048x256_S1024x256_S2048x1024_1_1_0_0_n_n none (shapeCast S2048x256 a shapeCasts_S2048x256_S2048x256 : FVec F S2048x256 .bf16)
    (shapeCast S1024x256 b shapeCasts_S1024x256_S1024x256 : FVec F S1024x256 .bf16) (constant S2048x1024 .f32 0x00000000#32)

/-- The normalised tile's gradient from the full accumulator and the small projections' part. -/
def duFin (s r : Vec F S1024x1024 .f32) : Vec F S1024x1024 .bf16 := truncf (F := F) .bf16 (addf (F := F) (shapeCast S1024x1024 r shapeCasts_S1024x1024_S1024x1024 : FVec F S1024x1024 .f32) s) bitsLt_bf16_f32

/-! ## The bodies' runs -/

theorem run0 (c : Dev nD) (i : grid0.Coords) (a0 : Memref sig .tc .vmem S512x1024 .f32) (h0 : a0.IsWhole)
    (a1 : Memref sig .tc .vmem S1x1024 .f32) (h1 : a1.IsWhole) (a2 : Memref sig .tc .vmem S512x1024 .bf16) (h2 : a2.IsWhole)
    (x0 : Vec F S512x1024 .f32) (x1 : Vec F S1x1024 .f32) (E : Set ℕ) (K : sProp 𝕄) :
    iprop((has c a0 x0 ∗ has c a1 x1 ∗ ∃ d, has c a2 d) ∗ (iprop(has c a0 x0 ∗ has c a1 x1 ∗ has c a2 (normT x0 x1)) -∗ K))
      ⊢ wp frame (wpE (defs₀ (F := F)) Variants.none c none) E (cc0_mix_norm i a0 h0 a1 h1 a2 h2) fun _ => K :=
  run_pair c h0 h1 normT x0 x1 E K

theorem run1 (c : Dev nD) (i : grid1.Coords) (a0 : Memref sig .tc .vmem S2048x1024 .bf16) (h0 : a0.IsWhole)
    (a1 : Memref sig .tc .vmem S1024x1408 .bf16) (h1 : a1.IsWhole) (a2 : Memref sig .tc .vmem S2048x1408 .bf16) (h2 : a2.IsWhole)
    (x0 : Vec F S2048x1024 .bf16) (x1 : Vec F S1024x1408 .bf16) (E : Set ℕ) (K : sProp 𝕄) :
    iprop((has c a0 x0 ∗ has c a1 x1 ∗ ∃ d, has c a2 d) ∗ (iprop(has c a0 x0 ∗ has c a1 x1 ∗ has c a2 (inT x0 x1)) -∗ K))
      ⊢ wp frame (wpE (defs₀ (F := F)) Variants.none c none) E (cc1_mix_in i a0 h0 a1 h1 a2 h2) fun _ => K :=
  run_pair c h0 h1 inT x0 x1 E K

theorem run2 (c : Dev nD) (i : grid2.Coords) (a0 : Memref sig .tc .vmem S2048x1024 .bf16) (h0 : a0.IsWhole)
    (a1 : Memref sig .tc .vmem S1024x256 .bf16) (h1 : a1.IsWhole) (a2 : Memref sig .tc .vmem S2048x256 .f32) (h2 : a2.IsWhole)
    (x0 : Vec F S2048x1024 .bf16) (x1 : Vec F S1024x256 .bf16) (E : Set ℕ) (K : sProp 𝕄) :
    iprop((has c a0 x0 ∗ has c a1 x1 ∗ ∃ d, has c a2 d) ∗ (iprop(has c a0 x0 ∗ has c a1 x1 ∗ has c a2 (smallT x0 x1)) -∗ K))
      ⊢ wp frame (wpE (defs₀ (F := F)) Variants.none c none) E (cc2_mix_insmall i a0 h0 a1 h1 a2 h2) fun _ => K :=
  run_pair c h0 h1 smallT x0 x1 E K

theorem run5 (c : Dev nD) (i : grid5.Coords) (a0 : Memref sig .tc .vmem S2048x256 .bf16) (h0 : a0.IsWhole)
    (a1 : Memref sig .tc .vmem S1024x256 .bf16) (h1 : a1.IsWhole) (a2 : Memref sig .tc .vmem S2048x1024 .f32) (h2 : a2.IsWhole)
    (x0 : Vec F S2048x256 .bf16) (x1 : Vec F S1024x256 .bf16) (E : Set ℕ) (K : sProp 𝕄) :
    iprop((has c a0 x0 ∗ has c a1 x1 ∗ ∃ d, has c a2 d) ∗ (iprop(has c a0 x0 ∗ has c a1 x1 ∗ has c a2 (dusmallT x0 x1)) -∗ K))
      ⊢ wp frame (wpE (defs₀ (F := F)) Variants.none c none) E (cc5_mix_dusmall i a0 h0 a1 h1 a2 h2) fun _ => K :=
  run_pair c h0 h1 dusmallT x0 x1 E K

theorem run3 (c : Dev nD) (i : grid3.Coords)
    (a0 : Memref sig .tc .vmem S4096x512 .bf16) (h0 : a0.IsWhole) (a1 : Memref sig .tc .vmem S4096x1408 .bf16) (h1 : a1.IsWhole)
    (a2 : Memref sig .tc .vmem S512x1408 .f32) (h2 : a2.IsWhole) (a3 : Memref sig .tc .vmem S512x1408 .f32) (h3 : a3.IsWhole)
    (x0 : Vec F S4096x512 .bf16) (x1 : Vec F S4096x1408 .bf16) (d s : Vec F S512x1408 .f32) (E : Set ℕ) (K : sProp 𝕄) :
    iprop(((has c a0 x0 ∗ has c a1 x1 ∗ has c a2 d) ∗ has c a3 s)
        ∗ (iprop((has c a0 x0 ∗ has c a1 x1 ∗ has c a2 (if k3_cond2 i = 1#1 then dwinAcc (if first (i 2) then dwinZero else s) x0 x1 else d))
            ∗ has c a3 (dwinAcc (if first (i 2) then dwinZero else s) x0 x1)) -∗ K))
      ⊢ wp frame (wpE (defs₀ (F := F)) Variants.none c none) E (cc3_mix_dwin i a0 h0 a1 h1 a2 h2 a3 h3) fun _ => K :=
  run_acc c h0 h1 h3 dwinZero dwinAcc id x0 x1 d s E K

theorem run4 (c : Dev nD) (i : grid4.Coords)
    (a0 : Memref sig .tc .vmem S4096x512 .bf16) (h0 : a0.IsWhole) (a1 : Memref sig .tc .vmem S4096x256 .bf16) (h1 : a1.IsWhole)
    (a2 : Memref sig .tc .vmem S512x256 .f32) (h2 : a2.IsWhole) (a3 : Memref sig .tc .vmem S512x256 .f32) (h3 : a3.IsWhole)
    (x0 : Vec F S4096x512 .bf16) (x1 : Vec F S4096x256 .bf16) (d s : Vec F S512x256 .f32) (E : Set ℕ) (K : sProp 𝕄) :
    iprop(((has c a0 x0 ∗ has c a1 x1 ∗ has c a2 d) ∗ has c a3 s)
        ∗ (iprop((has c a0 x0 ∗ has c a1 x1 ∗ has c a2 (if k4_cond2 i = 1#1 then dsmallAcc (if first (i 2) then dsmallZero else s) x0 x1 else d))
            ∗ has c a3 (dsmallAcc (if first (i 2) then dsmallZero else s) x0 x1)) -∗ K))
      ⊢ wp frame (wpE (defs₀ (F := F)) Variants.none c none) E (cc4_mix_dwinsmall i a0 h0 a1 h1 a2 h2 a3 h3) fun _ => K :=
  run_acc c h0 h1 h3 dsmallZero dsmallAcc id x0 x1 d s E K

set_option maxHeartbeats 1600000 in
theorem run6 (c : Dev nD) (i : grid6.Coords)
    (a0 : Memref sig .tc .vmem S1024x2816 .bf16) (h0 : a0.IsWhole) (a1 : Memref sig .tc .vmem S1024x2816 .bf16) (h1 : a1.IsWhole)
    (a2 : Memref sig .tc .vmem S1024x1024 .f32) (h2 : a2.IsWhole) (a3 : Memref sig .tc .vmem S1024x1024 .bf16) (h3 : a3.IsWhole)
    (a4 : Memref sig .tc .vmem S1024x1024 .f32) (h4 : a4.IsWhole)
    (x0 : Vec F S1024x2816 .bf16) (x1 : Vec F S1024x2816 .bf16) (x2 : Vec F S1024x1024 .f32) (d : Vec F S1024x1024 .bf16) (s : Vec F S1024x1024 .f32) (E : Set ℕ) (K : sProp 𝕄) :
    iprop(((has c a0 x0 ∗ has c a1 x1 ∗ has c a2 x2 ∗ has c a3 d) ∗ has c a4 s)
        ∗ (iprop((has c a0 x0 ∗ has c a1 x1 ∗ has c a2 x2
            ∗ has c a3 (if k6_cond2 i = 1#1 then duFin (dxnAcc (if first (i 2) then dxnZero else s) x0 x1) x2 else d))
            ∗ has c a4 (dxnAcc (if first (i 2) then dxnZero else s) x0 x1)) -∗ K))
      ⊢ wp frame (wpE (defs₀ (F := F)) Variants.none c none) E (cc6_mix_du i a0 h0 a1 h1 a2 h2 a3 h3 a4 h4) fun _ => K := by
  unfold cc6_mix_du has owns
  iintro ⟨⟨⟨⟨%f0, %hf0, H0⟩, ⟨%f1, %hf1, H1⟩, ⟨%f2, %hf2, H2⟩, ⟨%f3, %hf3, H3⟩⟩, ⟨%f4, %hf4, H4⟩⟩, Hk⟩
  obtain rfl := h0.eq_unread hf0; obtain rfl := h1.eq_unread hf1; obtain rfl := h2.eq_unread hf2; obtain rfl := h4.eq_unread hf4
  by_cases hc1 : first (i 2) <;> by_cases hc2 : k6_cond2 i = 1#1 <;>
  · first | rw [if_pos hc1] | rw [if_neg hc1]
    first | rw [if_pos hc2] | rw [if_neg hc2]
    sl_exec (disch := first | sl_exact hc1 | sl_exact hc2)
    sl_step
    iapply Hk
    isplitl [H0 H1 H2 H3]
    · isplitl [H0]; · iapply (kept c h0 x0); iexact H0
      isplitl [H1]; · iapply (kept c h1 x1); iexact H1
      isplitl [H2]; · iapply (kept c h2 x2); iexact H2
      iexists _; isplitr; swap; · iexact H3
      ipureintro
      first
      | (have := (hc2 : ¬k6_cond2 i = 1#1); exact hf3)
      | (have := (hc1 : ¬first (i 2)); exact (View.read_writes_full _ _ _ _ _).trans (congrArg₂ duFin ((View.readCov_full _ _ _ _ _).trans (congr3 dxnAcc (load_all h4 s _) (load_all h0 x0 _) (load_all h1 x1 _))) (load_all h2 x2 _)))
      | (have := (hc1 : first (i 2)); exact (View.read_writes_full _ _ _ _ _).trans (congrArg₂ duFin ((View.readCov_full _ _ _ _ _).trans (congr3 dxnAcc (View.readCov_full _ _ _ _ _) (load_all h0 x0 _) (load_all h1 x1 _))) (load_all h2 x2 _)))
    iexists _; isplitr; swap; · iexact H4
    ipureintro
    first
    | (have := (hc1 : ¬first (i 2)); exact (View.read_writes_full _ _ _ _ _).trans (congr3 dxnAcc (load_all h4 s _) (load_all h0 x0 _) (load_all h1 x1 _)))
    | (have := (hc1 : first (i 2)); exact (View.read_writes_full _ _ _ _ _).trans (congr3 dxnAcc (View.readCov_full _ _ _ _ _) (load_all h0 x0 _) (load_all h1 x1 _)))

/-- The norm weight's gradient is added to at every point but the first, and set there. -/
theorem cond7 (i : grid7.Coords) : k7_cond2 i = 1#1 ↔ ¬k7_cond1 i = 1#1 := by
  unfold k7_cond1 k7_cond2
  dsimp only
  generalize Scalar.andi (Scalar.cmpi .eq (BitVec.ofNat 32 (i 0).val) 0#32) (Scalar.cmpi .eq (BitVec.ofNat 32 (i 1).val) 0#32) = z
  revert z; decide

set_option maxHeartbeats 1600000 in
theorem run7 (c : Dev nD) (i : grid7.Coords)
    (a0 : Memref sig .tc .vmem S512x1024 .f32) (h0 : a0.IsWhole) (a1 : Memref sig .tc .vmem S1x1024 .f32) (h1 : a1.IsWhole)
    (a2 : Memref sig .tc .vmem S512x1024 .bf16) (h2 : a2.IsWhole) (a3 : Memref sig .tc .vmem S512x1024 .f32) (h3 : a3.IsWhole)
    (a4 : Memref sig .tc .vmem S512x1024 .f32) (h4 : a4.IsWhole) (a5 : Memref sig .tc .vmem S1x1024 .f32) (h5 : a5.IsWhole)
    (x0 : Vec F S512x1024 .f32) (x1 : Vec F S1x1024 .f32) (x2 : Vec F S512x1024 .bf16) (x3 : Vec F S512x1024 .f32) (d : Vec F S1x1024 .f32) (E : Set ℕ) (K : sProp 𝕄) :
    iprop((has c a0 x0 ∗ has c a1 x1 ∗ has c a2 x2 ∗ has c a3 x3 ∗ (∃ d, has c a4 d) ∗ has c a5 d)
        ∗ (iprop(has c a0 x0 ∗ has c a1 x1 ∗ has c a2 x2 ∗ has c a3 x3 ∗ has c a4 (dhT x0 x1 x2 x3)
            ∗ has c a5 (if k7_cond1 i = 1#1 then dnwT x0 x2 else dnwAcc d x0 x2)) -∗ K))
      ⊢ wp frame (wpE (defs₀ (F := F)) Variants.none c none) E (cc7_mix_dnorm i a0 h0 a1 h1 a2 h2 a3 h3 a4 h4 a5 h5) fun _ => K := by
  unfold cc7_mix_dnorm k7_part1 has owns
  iintro ⟨⟨⟨%f0, %hf0, H0⟩, ⟨%f1, %hf1, H1⟩, ⟨%f2, %hf2, H2⟩, ⟨%f3, %hf3, H3⟩, ⟨%d4, %f4, -, H4⟩, ⟨%f5, %hf5, H5⟩⟩, Hk⟩
  obtain rfl := h0.eq_unread hf0; obtain rfl := h1.eq_unread hf1; obtain rfl := h2.eq_unread hf2; obtain rfl := h3.eq_unread hf3; obtain rfl := h5.eq_unread hf5
  by_cases hc1 : k7_cond1 i = 1#1 <;>
  · have hc2 := cond7 i
    simp only [hc1, not_true_eq_false, not_false_eq_true, iff_false, iff_true] at hc2
    simp only [hc1, ↓reduceIte]
    sl_exec (disch := first | sl_exact hc1 | sl_exact hc2)
    sl_step
    iapply Hk
    isplitl [H0]; · iapply (kept c h0 x0); iexact H0
    isplitl [H1]; · iapply (kept c h1 x1); iexact H1
    isplitl [H2]; · iapply (kept c h2 x2); iexact H2
    isplitl [H3]; · iapply (kept c h3 x3); iexact H3
    isplitl [H4]
    · iexists _; isplitr; swap; · iexact H4
      ipureintro
      exact (View.read_writes_full _ _ _ _ _).trans ((congrArg₂ (fun p q => dhT p q _ _) (load_all h0 x0 _) (load_all h1 x1 _)).trans (congrArg₂ (dhT _ _) (load_all h2 x2 _) (load_all h3 x3 _)))
    iexists _; isplitr; swap; · iexact H5
    ipureintro
    first
    | exact (View.read_writes_full _ _ _ _ _).trans (congrArg₂ dnwT (load_all h0 x0 _) (load_all h2 x2 _))
    | exact (View.read_writes_full _ _ _ _ _).trans (congr3 dnwAcc (load_all h5 d _) (load_all h0 x0 _) (load_all h2 x2 _))

end Cert.Mixer
end
-- ==== Proof.MixDat.lean ====
/- What each of the eight calls finds, leaves and carries, and its obligation. -/
module

public import proofs.«01_k».proof.Proof.MixRun
public import proofs.«01_k».proof.Proof.CallDat

@[expose] public section

set_option maxRecDepth 16384

noncomputable section

namespace Cert.Mixer

open Cert.MixIdeal Cert.MixIdeal.Gen
open Cert.Call (still heaping found obl has slack beside framed framed_of framed_acc at_iff accum accum_succ accum_of carry blockOf leave leave_if idle_flush obligation)
open Cert.Layer (first normT inT dwinAcc dwinZero dwinFin dxnAcc dxnZero dxnFin dhT dnwT dnwAcc)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (UR sig nD τ) ℕ

variable (W : Dev nD → Valuation τ sig (Elt F)) (c : Dev nD)

/-! ## The norm -/

def dat0 : Dat τ (Elt F) Unit ℕ (UR sig nD τ) ℕ cfg0 c :=
  still cfg0 (W c) c fun w t => match w with
    | ⟨0, _⟩ => blockOf cfg0 (W c) 0 t
    | ⟨1, _⟩ => blockOf cfg0 (W c) 1 t
    | ⟨2, _⟩ => normT (blockOf cfg0 (W c) 0 t) (blockOf cfg0 (W c) 1 t)

set_option backward.isDefEq.respectTransparency.types false in
theorem obl0 : BodyObligation (dat0 W c) (defs₀ (F := F)) Variants.none () Set.univ :=
  obl 2 (body := bodyAt0) (fun t => by unfold defs₀; rw [Defs.onTc_tc]) (fun t K => by
    rw [bigSep_W0, bigSep_W0]
    exact framed (sep_mono .rfl (sep_mono .rfl (slack c _))) (run0 c (grid0.coords t) _ _ _ _ _ _ (blockOf cfg0 (W c) 0 t) (blockOf cfg0 (W c) 1 t) _) K)
    (fun w hw => by fin_cases w <;> first | exact absurd hw (by decide) | exact found _)

/-! ## The projections -/

def dat1 : Dat τ (Elt F) Unit ℕ (UR sig nD τ) ℕ cfg1 c :=
  still cfg1 (W c) c fun w t => match w with
    | ⟨0, _⟩ => blockOf cfg1 (W c) 0 t
    | ⟨1, _⟩ => blockOf cfg1 (W c) 1 t
    | ⟨2, _⟩ => inT (blockOf cfg1 (W c) 0 t) (blockOf cfg1 (W c) 1 t)

set_option backward.isDefEq.respectTransparency.types false in
theorem obl1 : BodyObligation (dat1 W c) (defs₀ (F := F)) Variants.none () Set.univ :=
  obl 2 (body := bodyAt1) (fun t => by unfold defs₀; rw [Defs.onTc_tc]) (fun t K => by
    rw [bigSep_W1, bigSep_W1]
    exact framed (sep_mono .rfl (sep_mono .rfl (slack c _))) (run1 c (grid1.coords t) _ _ _ _ _ _ (blockOf cfg1 (W c) 0 t) (blockOf cfg1 (W c) 1 t) _) K)
    (fun w hw => by fin_cases w <;> first | exact absurd hw (by decide) | exact found _)

/-! ## The small projections -/

def dat2 : Dat τ (Elt F) Unit ℕ (UR sig nD τ) ℕ cfg2 c :=
  still cfg2 (W c) c fun w t => match w with
    | ⟨0, _⟩ => blockOf cfg2 (W c) 0 t
    | ⟨1, _⟩ => blockOf cfg2 (W c) 1 t
    | ⟨2, _⟩ => smallT (blockOf cfg2 (W c) 0 t) (blockOf cfg2 (W c) 1 t)

set_option backward.isDefEq.respectTransparency.types false in
theorem obl2 : BodyObligation (dat2 W c) (defs₀ (F := F)) Variants.none () Set.univ :=
  obl 2 (body := bodyAt2) (fun t => by unfold defs₀; rw [Defs.onTc_tc]) (fun t K => by
    rw [bigSep_W2, bigSep_W2]
    exact framed (sep_mono .rfl (sep_mono .rfl (slack c _))) (run2 c (grid2.coords t) _ _ _ _ _ _ (blockOf cfg2 (W c) 0 t) (blockOf cfg2 (W c) 1 t) _) K)
    (fun w hw => by fin_cases w <;> first | exact absurd hw (by decide) | exact found _)

/-! ## The weights' gradient -/

/-- The accumulator into point `n`. -/
def acc3 : ℕ → Vec F S512x1408 .f32 := accum cfg3.N 4 (dwinZero (F := F)) fun t s => dwinAcc s (blockOf cfg3 (W c) 0 t) (blockOf cfg3 (W c) 1 t)

theorem coord3 (t : Fin cfg3.N) : (grid3.coords t 2).val = t.val % 4 :=
  have e : (grid3.coords t 2).val = t.val / 1 % 4 := Pipeline.Grid.coords_val t 2 (by decide) rfl
  e.trans (by rw [Nat.div_one])

theorem first3_iff (t : Fin cfg3.N) : first (grid3.coords t 2) ↔ t.val % 4 = 0 := by
  rw [← coord3 t]
  exact at_iff (lt_trans (grid3.coords t 2).isLt (by decide)) (by decide)

theorem last3_iff (t : Fin cfg3.N) : k3_cond2 (grid3.coords t) = 1#1 ↔ t.val % 4 = 3 := by
  rw [← coord3 t]
  exact at_iff (lt_trans (grid3.coords t 2).isLt (by decide)) (by decide)

def dat3 : Dat τ (Elt F) Unit ℕ (UR sig nD τ) ℕ cfg3 c :=
  heaping cfg3 (W c) c cc3_scratch0 (Memref.whole cc3_scratch0) (acc3 W c) fun w t => match w with
    | ⟨0, _⟩ => blockOf cfg3 (W c) 0 t
    | ⟨1, _⟩ => blockOf cfg3 (W c) 1 t
    | ⟨2, _⟩ => (acc3 W c (t.val + 1))

theorem idle3_flush (w : Fin cfg3.W) (t : Fin cfg3.N) (h : cfg3.idle w (grid3.coords t) = true) : (cfg3.win w).flush t = false := by
  fin_cases w <;> first
  | exact absurd h Bool.false_ne_true
  | exact idle_flush (cfg := cfg3) (p := k3_cond2 (grid3.coords t) = 1#1) rfl (fun hf => (last3_iff t).mpr ((flush3_2 t).mp hf)) h

set_option backward.isDefEq.respectTransparency.types false in
theorem obl3 : BodyObligation (dat3 W c) (defs₀ (F := F)) Variants.none () Set.univ :=
  obl 2 (body := bodyAt3) (fun t => by unfold defs₀; rw [Defs.onTc_tc]) (fun t K => by
    rw [bigSep_W3, bigSep_W3]
    refine framed_acc c (G := fun K => wp frame (wpE (defs₀ (F := F)) Variants.none c none) Set.univ (bodyAt3 t) fun _ => K) (beside (beside .rfl)) (fun d => sep_mono .rfl (sep_mono .rfl (leave_if (dat3 W c) t 2 (p := k3_cond2 (grid3.coords t) = 1#1) rfl d))) (fun d s hs K => ?_) K
    have e : dwinAcc (if first (grid3.coords t 2) then dwinZero else s) (blockOf cfg3 (W c) 0 t) (blockOf cfg3 (W c) 1 t) = acc3 W c (t.val + 1) := accum_of t (first3_iff t) hs
    have h : (_ : sProp 𝕄) ⊢ wp frame (wpE (defs₀ (F := F)) Variants.none c none) Set.univ (bodyAt3 t) fun _ => K := run3 c (grid3.coords t) _ _ _ _ _ _ _ _ (blockOf cfg3 (W c) 0 t) (blockOf cfg3 (W c) 1 t) ((dat3 W c).before 2 t d) s Set.univ K
    rw [e] at h
    exact h)
    (fun w hw => by fin_cases w <;> first | exact absurd hw (by decide) | exact found _) idle3_flush

theorem rest3 : (Pipeline.scopedRest spec3 c : sProp 𝕄) = iprop((∃ d, has c (Memref.whole cc3_scratch0) d) ∗ Pipeline.scopedRestBut spec3 c [cc3_scratch0]) := by
  simp only [has, owns_whole]
  exact Pipeline.scopedRest_split_of_list spec3 c [cc3_scratch0] (by decide) (by decide)

/-! ## The small weights' gradient -/

/-- The accumulator into point `n`. -/
def acc4 : ℕ → Vec F S512x256 .f32 := accum cfg4.N 4 (dsmallZero (F := F)) fun t s => dsmallAcc s (blockOf cfg4 (W c) 0 t) (blockOf cfg4 (W c) 1 t)

theorem coord4 (t : Fin cfg4.N) : (grid4.coords t 2).val = t.val % 4 :=
  have e : (grid4.coords t 2).val = t.val / 1 % 4 := Pipeline.Grid.coords_val t 2 (by decide) rfl
  e.trans (by rw [Nat.div_one])

theorem first4_iff (t : Fin cfg4.N) : first (grid4.coords t 2) ↔ t.val % 4 = 0 := by
  rw [← coord4 t]
  exact at_iff (lt_trans (grid4.coords t 2).isLt (by decide)) (by decide)

theorem last4_iff (t : Fin cfg4.N) : k4_cond2 (grid4.coords t) = 1#1 ↔ t.val % 4 = 3 := by
  rw [← coord4 t]
  exact at_iff (lt_trans (grid4.coords t 2).isLt (by decide)) (by decide)

def dat4 : Dat τ (Elt F) Unit ℕ (UR sig nD τ) ℕ cfg4 c :=
  heaping cfg4 (W c) c cc4_scratch0 (Memref.whole cc4_scratch0) (acc4 W c) fun w t => match w with
    | ⟨0, _⟩ => blockOf cfg4 (W c) 0 t
    | ⟨1, _⟩ => blockOf cfg4 (W c) 1 t
    | ⟨2, _⟩ => (acc4 W c (t.val + 1))

theorem idle4_flush (w : Fin cfg4.W) (t : Fin cfg4.N) (h : cfg4.idle w (grid4.coords t) = true) : (cfg4.win w).flush t = false := by
  fin_cases w <;> first
  | exact absurd h Bool.false_ne_true
  | exact idle_flush (cfg := cfg4) (p := k4_cond2 (grid4.coords t) = 1#1) rfl (fun hf => (last4_iff t).mpr ((flush4_2 t).mp hf)) h

set_option backward.isDefEq.respectTransparency.types false in
theorem obl4 : BodyObligation (dat4 W c) (defs₀ (F := F)) Variants.none () Set.univ :=
  obl 2 (body := bodyAt4) (fun t => by unfold defs₀; rw [Defs.onTc_tc]) (fun t K => by
    rw [bigSep_W4, bigSep_W4]
    refine framed_acc c (G := fun K => wp frame (wpE (defs₀ (F := F)) Variants.none c none) Set.univ (bodyAt4 t) fun _ => K) (beside (beside .rfl)) (fun d => sep_mono .rfl (sep_mono .rfl (leave_if (dat4 W c) t 2 (p := k4_cond2 (grid4.coords t) = 1#1) rfl d))) (fun d s hs K => ?_) K
    have e : dsmallAcc (if first (grid4.coords t 2) then dsmallZero else s) (blockOf cfg4 (W c) 0 t) (blockOf cfg4 (W c) 1 t) = acc4 W c (t.val + 1) := accum_of t (first4_iff t) hs
    have h : (_ : sProp 𝕄) ⊢ wp frame (wpE (defs₀ (F := F)) Variants.none c none) Set.univ (bodyAt4 t) fun _ => K := run4 c (grid4.coords t) _ _ _ _ _ _ _ _ (blockOf cfg4 (W c) 0 t) (blockOf cfg4 (W c) 1 t) ((dat4 W c).before 2 t d) s Set.univ K
    rw [e] at h
    exact h)
    (fun w hw => by fin_cases w <;> first | exact absurd hw (by decide) | exact found _) idle4_flush

theorem rest4 : (Pipeline.scopedRest spec4 c : sProp 𝕄) = iprop((∃ d, has c (Memref.whole cc4_scratch0) d) ∗ Pipeline.scopedRestBut spec4 c [cc4_scratch0]) := by
  simp only [has, owns_whole]
  exact Pipeline.scopedRest_split_of_list spec4 c [cc4_scratch0] (by decide) (by decide)

/-! ## The small projections' part of the normalised gradient -/

def dat5 : Dat τ (Elt F) Unit ℕ (UR sig nD τ) ℕ cfg5 c :=
  still cfg5 (W c) c fun w t => match w with
    | ⟨0, _⟩ => blockOf cfg5 (W c) 0 t
    | ⟨1, _⟩ => blockOf cfg5 (W c) 1 t
    | ⟨2, _⟩ => dusmallT (blockOf cfg5 (W c) 0 t) (blockOf cfg5 (W c) 1 t)

set_option backward.isDefEq.respectTransparency.types false in
theorem obl5 : BodyObligation (dat5 W c) (defs₀ (F := F)) Variants.none () Set.univ :=
  obl 2 (body := bodyAt5) (fun t => by unfold defs₀; rw [Defs.onTc_tc]) (fun t K => by
    rw [bigSep_W5, bigSep_W5]
    exact framed (sep_mono .rfl (sep_mono .rfl (slack c _))) (run5 c (grid5.coords t) _ _ _ _ _ _ (blockOf cfg5 (W c) 0 t) (blockOf cfg5 (W c) 1 t) _) K)
    (fun w hw => by fin_cases w <;> first | exact absurd hw (by decide) | exact found _)

/-! ## The normalised gradient -/

/-- The accumulator into point `n`. -/
def acc6 : ℕ → Vec F S1024x1024 .f32 := accum cfg6.N 4 (dxnZero (F := F)) fun t s => dxnAcc s (blockOf cfg6 (W c) 0 t) (blockOf cfg6 (W c) 1 t)

theorem coord6 (t : Fin cfg6.N) : (grid6.coords t 2).val = t.val % 4 :=
  have e : (grid6.coords t 2).val = t.val / 1 % 4 := Pipeline.Grid.coords_val t 2 (by decide) rfl
  e.trans (by rw [Nat.div_one])

theorem first6_iff (t : Fin cfg6.N) : first (grid6.coords t 2) ↔ t.val % 4 = 0 := by
  rw [← coord6 t]
  exact at_iff (lt_trans (grid6.coords t 2).isLt (by decide)) (by decide)

theorem last6_iff (t : Fin cfg6.N) : k6_cond2 (grid6.coords t) = 1#1 ↔ t.val % 4 = 3 := by
  rw [← coord6 t]
  exact at_iff (lt_trans (grid6.coords t 2).isLt (by decide)) (by decide)

def dat6 : Dat τ (Elt F) Unit ℕ (UR sig nD τ) ℕ cfg6 c :=
  heaping cfg6 (W c) c cc6_scratch0 (Memref.whole cc6_scratch0) (acc6 W c) fun w t => match w with
    | ⟨0, _⟩ => blockOf cfg6 (W c) 0 t
    | ⟨1, _⟩ => blockOf cfg6 (W c) 1 t
    | ⟨2, _⟩ => blockOf cfg6 (W c) 2 t
    | ⟨3, _⟩ => duFin (acc6 W c (t.val + 1)) (blockOf cfg6 (W c) 2 t)

theorem idle6_flush (w : Fin cfg6.W) (t : Fin cfg6.N) (h : cfg6.idle w (grid6.coords t) = true) : (cfg6.win w).flush t = false := by
  fin_cases w <;> first
  | exact absurd h Bool.false_ne_true
  | exact idle_flush (cfg := cfg6) (p := k6_cond2 (grid6.coords t) = 1#1) rfl (fun hf => (last6_iff t).mpr ((flush6_3 t).mp hf)) h

set_option backward.isDefEq.respectTransparency.types false in
theorem obl6 : BodyObligation (dat6 W c) (defs₀ (F := F)) Variants.none () Set.univ :=
  obl 3 (body := bodyAt6) (fun t => by unfold defs₀; rw [Defs.onTc_tc]) (fun t K => by
    rw [bigSep_W6, bigSep_W6]
    refine framed_acc c (G := fun K => wp frame (wpE (defs₀ (F := F)) Variants.none c none) Set.univ (bodyAt6 t) fun _ => K) (beside (beside (beside .rfl))) (fun d => sep_mono .rfl (sep_mono .rfl (sep_mono .rfl (leave_if (dat6 W c) t 3 (p := k6_cond2 (grid6.coords t) = 1#1) rfl d)))) (fun d s hs K => ?_) K
    have e : dxnAcc (if first (grid6.coords t 2) then dxnZero else s) (blockOf cfg6 (W c) 0 t) (blockOf cfg6 (W c) 1 t) = acc6 W c (t.val + 1) := accum_of t (first6_iff t) hs
    have h : (_ : sProp 𝕄) ⊢ wp frame (wpE (defs₀ (F := F)) Variants.none c none) Set.univ (bodyAt6 t) fun _ => K := run6 c (grid6.coords t) _ _ _ _ _ _ _ _ _ _ (blockOf cfg6 (W c) 0 t) (blockOf cfg6 (W c) 1 t) (blockOf cfg6 (W c) 2 t) ((dat6 W c).before 3 t d) s Set.univ K
    rw [e] at h
    exact h)
    (fun w hw => by fin_cases w <;> first | exact absurd hw (by decide) | exact found _) idle6_flush

theorem rest6 : (Pipeline.scopedRest spec6 c : sProp 𝕄) = iprop((∃ d, has c (Memref.whole cc6_scratch0) d) ∗ Pipeline.scopedRestBut spec6 c [cc6_scratch0]) := by
  simp only [has, owns_whole]
  exact Pipeline.scopedRest_split_of_list spec6 c [cc6_scratch0] (by decide) (by decide)

/-! ## The norm's gradient -/

/-- The norm weight's gradient into point `n`. -/
def dnw7 : ℕ → Vec F S1x1024 .f32
  | 0 => (broadcast S1x1024 (Scalar.ofBits .f32 0x00000000#32) : FVec F S1x1024 .f32)
  | n + 1 => if h : n < cfg7.N then (if n = 0 then dnwT (blockOf cfg7 (W c) 0 ⟨n, h⟩) (blockOf cfg7 (W c) 2 ⟨n, h⟩) else dnwAcc (dnw7 n) (blockOf cfg7 (W c) 0 ⟨n, h⟩) (blockOf cfg7 (W c) 2 ⟨n, h⟩)) else dnw7 n

theorem dnw7_succ (t : Fin cfg7.N) :
    dnw7 W c (t.val + 1) = if t.val = 0 then dnwT (blockOf cfg7 (W c) 0 t) (blockOf cfg7 (W c) 2 t) else dnwAcc (dnw7 W c t.val) (blockOf cfg7 (W c) 0 t) (blockOf cfg7 (W c) 2 t) := by
  rw [dnw7, dif_pos t.isLt]

theorem first7_iff (t : Fin cfg7.N) : k7_cond1 (grid7.coords t) = 1#1 ↔ t.val = 0 := by
  have ht : t.val < 32 := Nat.lt_of_lt_of_eq t.isLt N_7
  have e0 : (grid7.coords t 0).val = t.val / 32 % 1 := Pipeline.Grid.coords_val t 0 (by decide) rfl
  have e1 : (grid7.coords t 1).val = t.val / 1 % 32 := Pipeline.Grid.coords_val t 1 (by decide) rfl
  unfold k7_cond1; dsimp only; rw [e0, e1]
  revert ht; generalize t.val = z; revert z; decide

def dat7 : Dat τ (Elt F) Unit ℕ (UR sig nD τ) ℕ cfg7 c where
  A w := W c (Proc.devRef .tc (Pipeline.arrRef spec7 w))
  after w t := match w with
    | ⟨0, _⟩ => blockOf cfg7 (W c) 0 t
    | ⟨1, _⟩ => blockOf cfg7 (W c) 1 t
    | ⟨2, _⟩ => blockOf cfg7 (W c) 2 t
    | ⟨3, _⟩ => blockOf cfg7 (W c) 3 t
    | ⟨4, _⟩ => dhT (blockOf cfg7 (W c) 0 t) (blockOf cfg7 (W c) 1 t) (blockOf cfg7 (W c) 2 t) (blockOf cfg7 (W c) 3 t)
    | ⟨5, _⟩ => dnw7 W c (t.val + 1)
  Φ _ := Pipeline.scopedRest spec7 c
  q _ := fullShare
  owed _ := 0

theorem before7 (w : Fin cfg7.W) (hw : decide (w.val < 4) = true) (t d) : (dat7 W c).before w t d = (dat7 W c).after w t := by
  fin_cases w <;> first
  | exact absurd hw (by decide)
  | exact ((dat7 W c).before_in_eq_fetched _ rfl (fun _ => rfl) (fun _ _ _ => rfl) (fun _ => rfl) t d).trans rfl

theorem row7 (t : Fin cfg7.N) : defs₀ (F := F) .tc cfg7.body (cfg7.bodyArgs t (cfg7.slots t)) = bodyAt7 t := by
  unfold defs₀; rw [Defs.onTc_tc]

theorem live7 (i : grid7.Coords) : cfg7.idle 5 i = false := by
  show (!(k7_cond1 i == 1#1) && !(k7_cond2 i == 1#1)) = false
  by_cases h : k7_cond1 i = 1#1
  · rw [h]; rfl
  · rw [(cond7 i).mpr h]; simp

theorem idle7_never (w : Fin cfg7.W) (i : grid7.Coords) : cfg7.idle w i = false := by
  fin_cases w
  iterate 5 exact rfl
  exact live7 i

theorem kept7 (t : Fin cfg7.N) (h : t.val ≠ 0) (d) : (dat7 W c).before 5 t d = dnw7 W c t.val := by
  have ht : t.val < 32 := Nat.lt_of_lt_of_eq t.isLt N_7
  rw [(dat7 W c).before_out_kept 5 rfl t h (Bool.eq_false_iff.mpr fun hf => by have := (flush7_5 _).mp hf; simp only at this; omega) live7 (fun _ _ => rfl) d]
  show dnw7 W c (t.val - 1 + 1) = _
  rw [Nat.sub_add_cancel (Nat.pos_of_ne_zero h)]

set_option backward.isDefEq.respectTransparency.types false in
theorem leave7 (t : Fin cfg7.N) (d) :
    has c (win7_5.stage (cfg7.slots t 5)) (if k7_cond1 (grid7.coords t) = 1#1 then dnwT (blockOf cfg7 (W c) 0 t) (blockOf cfg7 (W c) 2 t) else dnwAcc ((dat7 W c).before 5 t d) (blockOf cfg7 (W c) 0 t) (blockOf cfg7 (W c) 2 t)) ⊢ leave (dat7 W c) t 5 := by
  unfold leave has
  rw [show cfg7.idle 5 (cfg7.grid.coords t) = false from live7 _]
  show _ ⊢ owns (c : Thread nD τ) (win7_5.stage (cfg7.slots t 5)) fullShare (dnw7 W c (t.val + 1))
  rw [dnw7_succ]
  by_cases h : t.val = 0
  · rw [if_pos ((first7_iff t).mpr h), if_pos h]
  · rw [if_neg (fun e => h ((first7_iff t).mp e)), if_neg h, kept7 W c t h]

set_option backward.isDefEq.respectTransparency.types false in
theorem obl7 : BodyObligation (dat7 W c) (defs₀ (F := F)) Variants.none () Set.univ :=
  obligation (dat7 W c) (fun w => decide (w.val < 4)) (fun w t h => absurd (h.symm.trans (idle7_never w _)) Bool.false_ne_true.symm) (before7 W c) (fun _ => rfl) fun t K => by
    rw [bigSep_W7, bigSep_W7, row7 t]
    exact framed_of (G := fun K => wp frame (wpE (defs₀ (F := F)) Variants.none c none) Set.univ (bodyAt7 t) fun _ => K)
      (beside (beside (beside (beside (BIBase.Entails.trans (sep_mono (slack c _) .rfl) (beside .rfl))))))
      (fun d => sep_mono .rfl (sep_mono .rfl (sep_mono .rfl (sep_mono .rfl (sep_mono .rfl (leave7 W c t d))))))
      (fun d K => run7 c (grid7.coords t) _ _ _ _ _ _ _ _ _ _ _ _ (blockOf cfg7 (W c) 0 t) (blockOf cfg7 (W c) 1 t) (blockOf cfg7 (W c) 2 t) (blockOf cfg7 (W c) 3 t) ((dat7 W c).before 5 t d) _ K) K

end Cert.Mixer
end
-- ==== Proof.MixLaunch.lean ====
/- The eight calls one after the other: every execution ends, and every array ends at what the calls' data say. -/
module

public import proofs.«01_k».proof.Proof.MixDat
public import proofs.«01_k».proof.Proof.Gen.MixIdeal.Regions
public import Idealize.ShloMosaic.Lib.Pipeline.Regions
public import Idealize.ShloMosaic.Lib.Claim

@[expose] public section

set_option maxRecDepth 16384

noncomputable section

namespace Cert.Mixer

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Call (Link L lv R rest rest_end run_chain)
open Idealize.ShloMosaic.Pipeline (Dat Cfg Window BodyObligation cellOf Seg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of every buffer after the casts. -/
def W1 : Dev nD → Valuation τ sig (Elt F) := fun c => StableHlo.after hostOps0 fun b => m (c, b)
/-- After call 0. -/
def W2 : Dev nD → Valuation τ sig (Elt F) := fun c => Pipeline.afterRegion (dat0 (W1 m) c) (W1 m c)
/-- After call 1. -/
def W3 : Dev nD → Valuation τ sig (Elt F) := fun c => Pipeline.afterRegion (dat1 (W2 m) c) (W2 m c)
/-- After call 2. -/
def W4 : Dev nD → Valuation τ sig (Elt F) := fun c => Pipeline.afterRegion (dat2 (W3 m) c) (W3 m c)
/-- After call 3. -/
def W5 : Dev nD → Valuation τ sig (Elt F) := fun c => Pipeline.afterRegion (dat3 (W4 m) c) (W4 m c)
/-- After call 4. -/
def W6 : Dev nD → Valuation τ sig (Elt F) := fun c => Pipeline.afterRegion (dat4 (W5 m) c) (W5 m c)
/-- After call 5. -/
def W7 : Dev nD → Valuation τ sig (Elt F) := fun c => Pipeline.afterRegion (dat5 (W6 m) c) (W6 m c)
/-- After call 6. -/
def W8 : Dev nD → Valuation τ sig (Elt F) := fun c => Pipeline.afterRegion (dat6 (W7 m) c) (W7 m c)
/-- After call 7. -/
def W9 : Dev nD → Valuation τ sig (Elt F) := fun c => Pipeline.afterRegion (dat7 (W8 m) c) (W8 m c)

/-- The calls' data, each from what the one before leaves. -/
def dats : (p : Fin 8) → (c : Dev nD) → Dat τ (Elt F) Unit ℕ (UR sig nD τ) ℕ (cfgs p) c
  | ⟨0, _⟩ => dat0 (W1 m)
  | ⟨1, _⟩ => dat1 (W2 m)
  | ⟨2, _⟩ => dat2 (W3 m)
  | ⟨3, _⟩ => dat3 (W4 m)
  | ⟨4, _⟩ => dat4 (W5 m)
  | ⟨5, _⟩ => dat5 (W6 m)
  | ⟨6, _⟩ => dat6 (W7 m)
  | ⟨7, _⟩ => dat7 (W8 m)

theorem still0 (W : Dev nD → Valuation τ sig (Elt F)) (c : Dev nD) (t : Fin (cfg0.N + 1)) : (dat0 W c).Φ t = Pipeline.scopedRest spec0 c := rfl
theorem still1 (W : Dev nD → Valuation τ sig (Elt F)) (c : Dev nD) (t : Fin (cfg1.N + 1)) : (dat1 W c).Φ t = Pipeline.scopedRest spec1 c := rfl
theorem still2 (W : Dev nD → Valuation τ sig (Elt F)) (c : Dev nD) (t : Fin (cfg2.N + 1)) : (dat2 W c).Φ t = Pipeline.scopedRest spec2 c := rfl
theorem still5 (W : Dev nD → Valuation τ sig (Elt F)) (c : Dev nD) (t : Fin (cfg5.N + 1)) : (dat5 W c).Φ t = Pipeline.scopedRest spec5 c := rfl
theorem still7 (W : Dev nD → Valuation τ sig (Elt F)) (c : Dev nD) (t : Fin (cfg7.N + 1)) : (dat7 W c).Φ t = Pipeline.scopedRest spec7 c := rfl

theorem link0 : Link (pcfgs (F := F)) (adm (F := F)) (dats m) defs₀ 0 (W1 m) :=
  .straight launch0.toP rfl (obl0 (W1 m)) (fun _ _ => rfl) (fun _ => rfl) (fun c => (dat0 (W1 m) c).share_full fun _ => rfl)
    (still0 (W1 m)) (fun _ _ => rfl) (Pipeline.arrRefs_sub_ucRefs spec0 winFacts0.arr_unscoped)
theorem link1 : Link (pcfgs (F := F)) (adm (F := F)) (dats m) defs₀ 1 (W2 m) :=
  .straight launch1.toP rfl (obl1 (W2 m)) (fun _ _ => rfl) (fun _ => rfl) (fun c => (dat1 (W2 m) c).share_full fun _ => rfl)
    (still1 (W2 m)) (fun _ _ => rfl) (Pipeline.arrRefs_sub_ucRefs spec1 winFacts1.arr_unscoped)
theorem link2 : Link (pcfgs (F := F)) (adm (F := F)) (dats m) defs₀ 2 (W3 m) :=
  .straight launch2.toP rfl (obl2 (W3 m)) (fun _ _ => rfl) (fun _ => rfl) (fun c => (dat2 (W3 m) c).share_full fun _ => rfl)
    (still2 (W3 m)) (fun _ _ => rfl) (Pipeline.arrRefs_sub_ucRefs spec2 winFacts2.arr_unscoped)
theorem link3 : Link (pcfgs (F := F)) (adm (F := F)) (dats m) defs₀ 3 (W4 m) :=
  .carrying launch3.toP rfl (obl3 (W4 m)) (fun _ _ => rfl) (fun _ => rfl) (fun c => (dat3 (W4 m) c).share_full fun _ => rfl)
    (Memref.whole cc3_scratch0) (acc3 (W4 m)) (fun c => Pipeline.scopedRestBut spec3 c [cc3_scratch0]) (fun _ _ => rfl) rest3 (fun _ _ => rfl)
    (Pipeline.arrRefs_sub_ucRefs spec3 winFacts3.arr_unscoped)
theorem link4 : Link (pcfgs (F := F)) (adm (F := F)) (dats m) defs₀ 4 (W5 m) :=
  .carrying launch4.toP rfl (obl4 (W5 m)) (fun _ _ => rfl) (fun _ => rfl) (fun c => (dat4 (W5 m) c).share_full fun _ => rfl)
    (Memref.whole cc4_scratch0) (acc4 (W5 m)) (fun c => Pipeline.scopedRestBut spec4 c [cc4_scratch0]) (fun _ _ => rfl) rest4 (fun _ _ => rfl)
    (Pipeline.arrRefs_sub_ucRefs spec4 winFacts4.arr_unscoped)
theorem link5 : Link (pcfgs (F := F)) (adm (F := F)) (dats m) defs₀ 5 (W6 m) :=
  .straight launch5.toP rfl (obl5 (W6 m)) (fun _ _ => rfl) (fun _ => rfl) (fun c => (dat5 (W6 m) c).share_full fun _ => rfl)
    (still5 (W6 m)) (fun _ _ => rfl) (Pipeline.arrRefs_sub_ucRefs spec5 winFacts5.arr_unscoped)
theorem link6 : Link (pcfgs (F := F)) (adm (F := F)) (dats m) defs₀ 6 (W7 m) :=
  .carrying launch6.toP rfl (obl6 (W7 m)) (fun _ _ => rfl) (fun _ => rfl) (fun c => (dat6 (W7 m) c).share_full fun _ => rfl)
    (Memref.whole cc6_scratch0) (acc6 (W7 m)) (fun c => Pipeline.scopedRestBut spec6 c [cc6_scratch0]) (fun _ _ => rfl) rest6 (fun _ _ => rfl)
    (Pipeline.arrRefs_sub_ucRefs spec6 winFacts6.arr_unscoped)
theorem link7 : Link (pcfgs (F := F)) (adm (F := F)) (dats m) defs₀ 7 (W8 m) :=
  .straight launch7.toP rfl (obl7 (W8 m)) (fun _ _ => rfl) (fun _ => rfl) (fun c => (dat7 (W8 m) c).share_full fun _ => rfl)
    (still7 (W8 m)) (fun _ _ => rfl) (Pipeline.arrRefs_sub_ucRefs spec7 winFacts7.arr_unscoped)

/-- The casts. -/
def host : Pipeline.HostSeg (Ix := Unit) (Name := ℕ) (U := UR sig nD τ) (Lvl := ℕ) (pcfgs (F := F)) defs₀ Variants.none L lv :=
  seg0 m Variants.none L lv (fun _ c => R c)

/-- The program as the list of the nine. -/
abbrev items : List (Seg (pcfgs (F := F)) (adm (F := F)) (dats m) () defs₀ Variants.none L lv) :=
  [.host (host m), .region (link0 m).reg, .region (link1 m).reg, .region (link2 m).reg, .region (link3 m).reg, .region (link4 m).reg, .region (link5 m).reg, .region (link6 m).reg, .region (link7 m).reg]

set_option backward.isDefEq.respectTransparency.types false in
/-- Every fair execution ends, with every buffer that outlives the calls at `W9` and every counter at zero. -/
theorem run_main : θ_run defs (onTc (τ := τ) (main (F := F))) ⟨m, fun _ => 0, ρ⟩
    (fun r => (∀ c : Dev nD, ∀ b ∈ Pipeline.ucRefs τ sig, r.2.mem (c, b) = W9 m c b) ∧ r.2.sem = fun _ => 0) :=
  run_chain (pcs := pcfgs (F := F)) (a := adm (F := F)) (dats := dats m) (defs₀ := defs₀) cellOf_inj m ρ main (items m)
    (main_segs (adm (F := F)) (dats m) () Variants.none L lv (host m) (link0 m).reg (link1 m).reg (link2 m).reg (link3 m).reg (link4 m).reg (link5 m).reg (link6 m).reg (link7 m).reg rfl)
    (by simp only [items, Seg.pipes_host, Seg.pipes_region, Seg.pipes_nil]; decide) (W9 m)
    (fun c => ⟨.rfl, (link0 m).entered c, ((link0 m).left c).trans ((link1 m).entered c), ((link1 m).left c).trans ((link2 m).entered c), ((link2 m).left c).trans ((link3 m).entered c), ((link3 m).left c).trans ((link4 m).entered c), ((link4 m).left c).trans ((link5 m).entered c), ((link5 m).left c).trans ((link6 m).entered c), ((link6 m).left c).trans ((link7 m).entered c), ((link7 m).left c).trans (rest_end (W9 m) c)⟩)
    fun g => .inr (regions_no_unscoped g.2)

end Cert.Mixer
end
-- ==== Proof.MixFrames.lean ====
/- The third program's frame claims: each program ends with its arguments as given and every counter at zero. -/
module

public import proofs.«01_k».proof.Defs
public import proofs.«01_k».proof.Proof.MixLaunch
public import proofs.«01_k».proof.Proof.Gen.Mix
public import proofs.«01_k».proof.Proof.Gen.MixRefIdeal.Run
public import Idealize.ShloMosaic.Lib.Pipeline.RegionArraysS
public import Idealize.ShloMosaic.Lib.StableHlo.RunLoop

@[expose] public section

set_option maxRecDepth 16384

noncomputable section

namespace Cert.Mixer

open Cert.MixIdeal Cert.MixIdeal.Gen
open Idealize.ShloMosaic Idealize.ShloMosaic.TcCoe

section

variable {F : FTy → Type} [FloatOps F]
variable (m : (ℓ : Loc nD τ sig) → Buf (Elt F) ℓ)

/-- No result of a call's windows is the array `r`. -/
abbrev Off {W : ℕ} (arr : Fin W → Ref sig .tc) (out : Fin W → Bool) (r : Ref sig .tc) : Prop := ∀ w, arr w = r → out w = false

theorem keep0 (c : Dev nD) (r : Ref sig .tc) (h : Off (Pipeline.arrRef spec0) (fun w => (cfg0.win w).isOut) r) :
    W2 m c (Proc.devRef .tc r) = W1 m c (Proc.devRef .tc r) :=
  Pipeline.afterRegion_keeps (dat0 (W1 m) c) (W1 m c) winFacts0.arr_inj (fun _ => rfl) r h
theorem keep1 (c : Dev nD) (r : Ref sig .tc) (h : Off (Pipeline.arrRef spec1) (fun w => (cfg1.win w).isOut) r) :
    W3 m c (Proc.devRef .tc r) = W2 m c (Proc.devRef .tc r) :=
  Pipeline.afterRegion_keeps (dat1 (W2 m) c) (W2 m c) winFacts1.arr_inj (fun _ => rfl) r h
theorem keep2 (c : Dev nD) (r : Ref sig .tc) (h : Off (Pipeline.arrRef spec2) (fun w => (cfg2.win w).isOut) r) :
    W4 m c (Proc.devRef .tc r) = W3 m c (Proc.devRef .tc r) :=
  Pipeline.afterRegion_keeps (dat2 (W3 m) c) (W3 m c) winFacts2.arr_inj (fun _ => rfl) r h
theorem keep3 (c : Dev nD) (r : Ref sig .tc) (h : Off (Pipeline.arrRef spec3) (fun w => (cfg3.win w).isOut) r) :
    W5 m c (Proc.devRef .tc r) = W4 m c (Proc.devRef .tc r) :=
  Pipeline.afterRegion_keeps (dat3 (W4 m) c) (W4 m c) winFacts3.arr_inj (fun _ => rfl) r h
theorem keep4 (c : Dev nD) (r : Ref sig .tc) (h : Off (Pipeline.arrRef spec4) (fun w => (cfg4.win w).isOut) r) :
    W6 m c (Proc.devRef .tc r) = W5 m c (Proc.devRef .tc r) :=
  Pipeline.afterRegion_keeps (dat4 (W5 m) c) (W5 m c) winFacts4.arr_inj (fun _ => rfl) r h
theorem keep5 (c : Dev nD) (r : Ref sig .tc) (h : Off (Pipeline.arrRef spec5) (fun w => (cfg5.win w).isOut) r) :
    W7 m c (Proc.devRef .tc r) = W6 m c (Proc.devRef .tc r) :=
  Pipeline.afterRegion_keeps (dat5 (W6 m) c) (W6 m c) winFacts5.arr_inj (fun _ => rfl) r h
theorem keep6 (c : Dev nD) (r : Ref sig .tc) (h : Off (Pipeline.arrRef spec6) (fun w => (cfg6.win w).isOut) r) :
    W8 m c (Proc.devRef .tc r) = W7 m c (Proc.devRef .tc r) :=
  Pipeline.afterRegion_keeps (dat6 (W7 m) c) (W7 m c) winFacts6.arr_inj (fun _ => rfl) r h
theorem keep7 (c : Dev nD) (r : Ref sig .tc) (h : Off (Pipeline.arrRef spec7) (fun w => (cfg7.win w).isOut) r) :
    W9 m c (Proc.devRef .tc r) = W8 m c (Proc.devRef .tc r) :=
  Pipeline.afterRegion_keeps (dat7 (W8 m) c) (W8 m c) winFacts7.arr_inj (fun _ => rfl) r h

/-- The casts leave what they do not write. -/
theorem keepH (c : Dev nD) (r : Ref sig .tc) (h : r ∉ hostOps0_W) : W1 m c (Proc.devRef .tc r) = m ((c.tc : Thread nD τ).loc r) :=
  StableHlo.after_of_writes_sub hostOps0 _ hostOps0_writes h

/-- Any array of a final state. -/
theorem read {r : MemSt nD τ sig (Elt F)} (h : ∀ c : Dev nD, ∀ b ∈ Pipeline.ucRefs τ sig, r.mem (c, b) = W9 m c b) (c : Dev nD) (b : Ref sig .tc)
    (hb : (Proc.devRef .tc b : DevRef τ sig).isScoped = false) : r.mem ((c.tc : Thread nD τ).loc b) = W9 m c (Proc.devRef .tc b) :=
  h c _ (StableHlo.devRef_mem_ucRefs b hb)

theorem args_keep {r : MemSt nD τ sig (Elt F)} (h : ∀ c : Dev nD, ∀ b ∈ Pipeline.ucRefs τ sig, r.mem (c, b) = W9 m c b) (c : Dev nD) :
    r.mem ((c.tc : Thread nD τ).loc main_arg0) = m ((c.tc : Thread nD τ).loc main_arg0)
      ∧ r.mem ((c.tc : Thread nD τ).loc main_arg1) = m ((c.tc : Thread nD τ).loc main_arg1)
      ∧ r.mem ((c.tc : Thread nD τ).loc main_arg2) = m ((c.tc : Thread nD τ).loc main_arg2)
      ∧ r.mem ((c.tc : Thread nD τ).loc main_arg3) = m ((c.tc : Thread nD τ).loc main_arg3)
      ∧ r.mem ((c.tc : Thread nD τ).loc main_arg4) = m ((c.tc : Thread nD τ).loc main_arg4)
      ∧ r.mem ((c.tc : Thread nD τ).loc main_arg5) = m ((c.tc : Thread nD τ).loc main_arg5)
      ∧ r.mem ((c.tc : Thread nD τ).loc main_arg6) = m ((c.tc : Thread nD τ).loc main_arg6) := by
  refine ⟨?_, ?_, ?_, ?_, ?_, ?_, ?_⟩ <;> refine (read m h c _ rfl).trans ?_ <;>
    simp (disch := decide) only [keep0 m, keep1 m, keep2 m, keep3 m, keep4 m, keep5 m, keep6 m, keep7 m, keepH m]

end

theorem frame_mixIdeal : Cert.quiescent_MixIdeal := fun m ρ _ =>
  (θ_run Cert.MixIdeal.defs _ _).mono (fun _ h => ⟨fun c => args_keep m h.1 c, h.2⟩) (run_main (F := Ideal) m ρ)

/-- The same run with machine floats. -/
theorem frame_bits : ∀ (m : (ℓ : Loc nD τ sig) → Buf (Elt Bits) ℓ) (ρ : Dev nD → PrngReg), Cert.Pre_Mix m →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) := fun m ρ _ =>
  (θ_run Cert.MixIdeal.defs _ _).mono (fun _ h => ⟨fun c => args_keep m h.1 c, h.2⟩) (run_main (F := Bits) m ρ)

theorem frame_mix : Cert.quiescent_Mix := cast (by sl_kernel_rfl) frame_bits

theorem frame_mixRefIdeal : Cert.quiescent_MixRefIdeal := fun m ρ _ =>
  (θ_run Cert.MixRefIdeal.defs _ _).mono (fun r h => ⟨fun c => (h c).2.2.2.2.2.2, Idealize.ShloMosaic.sem_eq_zero_of_no_sems (by decide) r.2⟩)
    (Cert.MixRefIdeal.Value.run (F := Ideal) m ρ)

end Cert.Mixer
end
-- ==== Proof.MixOut.lean ====
/- What each of the eight calls leaves in its result arrays. -/
module

public import proofs.«01_k».proof.Proof.MixDat
public import proofs.«01_k».proof.Proof.MixSpec
public import proofs.«01_k».proof.Proof.FfnOut
public import Idealize.ShloMosaic.Lib.Pipeline.ValueKit
public import Idealize.ShloMosaic.Lib.Pointwise

@[expose] public section

set_option maxRecDepth 16384

noncomputable section

namespace Cert.Mixer

open Cert.MixIdeal Cert.MixIdeal.Gen Cert.LayerSpec
open Cert.Call (blockOf accum accum_succ)
open Cert.Layer (normT inT dwinAcc dwinZero dxnAcc dxnZero dhT dnwT dnwAcc meanSq wideN dvarT acc_sum)
open Idealize.ShloMosaic Idealize.ShloMosaic.TcCoe Idealize.ShloMosaic.Tactic
open Idealize.ShloMosaic.Pipeline (Dat Cfg Window)

variable (W : Dev nD → Valuation τ sig (Elt Ideal)) (c : Dev nD)

theorem x0 : ∀ t : Fin cfg0.N, win0_0.index t = ![t.val, 0] ∧ win0_1.index t = ![0, 0] ∧ win0_2.index t = ![t.val, 0] := by decide +kernel

theorem final0 : (dat0 W c).arrAt 2 cfg0.N = normOf (W c (Proc.devRef .tc main_arg0)) (W c (Proc.devRef .tc main_arg1)) := by
  refine (dat0 W c).arrAt_eq_of_covers 2 _ (by decide +kernel) fun t hf y => ?_
  have ht : t.val < 32 := t.isLt
  obtain ⟨e0, e1, e2⟩ := x0 t
  blk_simp
  show normT (blockOf cfg0 (W c) 0 t) (blockOf cfg0 (W c) 1 t) y = _
  unfold normT meanSq normOf rs msq
  pointwise
  blk_point [blockOf, e0, e1, e2]

theorem x1 : ∀ t : Fin cfg1.N, win1_0.index t = ![t.val / 8, 0] ∧ win1_1.index t = ![0, t.val % 8] ∧ win1_2.index t = ![t.val / 8, t.val % 8] := by decide +kernel

theorem final1 : (dat1 W c).arrAt 2 cfg1.N = mulOf (W c (Proc.devRef .tc main_v4)) (W c (Proc.devRef .tc main_v0)) := by
  refine (dat1 W c).arrAt_eq_of_covers 2 _ (by decide +kernel) fun t hf y => ?_
  have ht : t.val < 64 := t.isLt
  obtain ⟨e0, e1, e2⟩ := x1 t
  blk_simp
  show inT (blockOf cfg1 (W c) 0 t) (blockOf cfg1 (W c) 1 t) y = _
  unfold inT mulOf
  pointwise
  blk_point [blockOf, e0, e1, e2]

theorem x2 : ∀ t : Fin cfg2.N, win2_0.index t = ![t.val, 0] ∧ win2_1.index t = ![0, 0] ∧ win2_2.index t = ![t.val, 0] := by decide +kernel

theorem final2 : (dat2 W c).arrAt 2 cfg2.N = mulOf (W c (Proc.devRef .tc main_v4)) (W c (Proc.devRef .tc main_v1)) := by
  refine (dat2 W c).arrAt_eq_of_covers 2 _ (by decide +kernel) fun t hf y => ?_
  have ht : t.val < 8 := t.isLt
  obtain ⟨e0, e1, e2⟩ := x2 t
  blk_simp
  show smallT (blockOf cfg2 (W c) 0 t) (blockOf cfg2 (W c) 1 t) y = _
  unfold smallT mulOf
  pointwise
  blk_point [blockOf, e0, e1, e2]

theorem x5 : ∀ t : Fin cfg5.N, win5_0.index t = ![t.val, 0] ∧ win5_1.index t = ![0, 0] ∧ win5_2.index t = ![t.val, 0] := by decide +kernel

theorem final5 : (dat5 W c).arrAt 2 cfg5.N = mulTOf (W c (Proc.devRef .tc main_v3)) (W c (Proc.devRef .tc main_v1)) := by
  refine (dat5 W c).arrAt_eq_of_covers 2 _ (by decide +kernel) fun t hf y => ?_
  have ht : t.val < 8 := t.isLt
  obtain ⟨e0, e1, e2⟩ := x5 t
  blk_simp
  show dusmallT (blockOf cfg5 (W c) 0 t) (blockOf cfg5 (W c) 1 t) y = _
  unfold dusmallT mulTOf rowDot
  pointwise
  blk_point [blockOf, e0, e1, e2]

/-! ## The accumulating calls -/

theorem x3 : ∀ t : Fin cfg3.N, win3_0.index t = ![t.val % 4, t.val / 32] ∧ win3_1.index t = ![t.val % 4, t.val / 4 % 8] ∧ win3_2.index t = ![t.val / 32, t.val / 4 % 8] := by decide +kernel

/-- The accumulator after a run of points. -/
theorem total3 (t : Fin cfg3.N) (hr : t.val % 4 = 3) (y) : acc3 W c (t.val + 1) y
    = ∑ q : Fin 4, colDot (K := 4096) (a := 512) (b := 1408) (blockOf cfg3 (W c) 0 ⟨4 * (t.val / 4) + q.val, Pipeline.run_point_lt_of_flush t hr q⟩) (blockOf cfg3 (W c) 1 ⟨4 * (t.val / 4) + q.val, Pipeline.run_point_lt_of_flush t hr q⟩) (y 0) (y 1) :=
  acc_sum (acc3 W c) 4 (fun t i => colDot (K := 4096) (a := 512) (b := 1408) (blockOf cfg3 (W c) 0 t) (blockOf cfg3 (W c) 1 t) (i 0) (i 1))
    (fun t i => by
      unfold acc3
      rw [accum_succ]
      unfold dwinAcc dwinZero
      pointwise
      split <;> rfl) t hr y

theorem final3 : (dat3 W c).arrAt 2 cfg3.N = tmulOf (W c (Proc.devRef .tc main_v4)) (W c (Proc.devRef .tc main_v2)) := by
  refine (dat3 W c).arrAt_eq_of_covers 2 _ (by decide +kernel) fun t hf y => ?_
  have ht : t.val < 64 := t.isLt
  have hr := (flush3_2 t).mp hf
  obtain ⟨e0, e1, e2⟩ := x3 t
  blk_simp
  show acc3 W c (t.val + 1) y = _
  unfold tmulOf
  pointwise
  rw [total3 W c t hr]
  refine Fin.sum_mul_add_congr fun q k hk => ?_
  have e0' := (x3 ⟨4 * (t.val / 4) + q.val, Pipeline.run_point_lt_of_flush t hr q⟩).1
  have e1' := (x3 ⟨4 * (t.val / 4) + q.val, Pipeline.run_point_lt_of_flush t hr q⟩).2.1
  blk_point [blockOf, e0', e1', e2]

theorem x4 : ∀ t : Fin cfg4.N, win4_0.index t = ![t.val % 4, t.val / 4] ∧ win4_1.index t = ![t.val % 4, 0] ∧ win4_2.index t = ![t.val / 4, 0] := by decide +kernel

/-- The accumulator after a run of points. -/
theorem total4 (t : Fin cfg4.N) (hr : t.val % 4 = 3) (y) : acc4 W c (t.val + 1) y
    = ∑ q : Fin 4, colDot (K := 4096) (a := 512) (b := 256) (blockOf cfg4 (W c) 0 ⟨4 * (t.val / 4) + q.val, Pipeline.run_point_lt_of_flush t hr q⟩) (blockOf cfg4 (W c) 1 ⟨4 * (t.val / 4) + q.val, Pipeline.run_point_lt_of_flush t hr q⟩) (y 0) (y 1) :=
  acc_sum (acc4 W c) 4 (fun t i => colDot (K := 4096) (a := 512) (b := 256) (blockOf cfg4 (W c) 0 t) (blockOf cfg4 (W c) 1 t) (i 0) (i 1))
    (fun t i => by
      unfold acc4
      rw [accum_succ]
      unfold dsmallAcc dsmallZero
      pointwise
      split <;> rfl) t hr y

theorem final4 : (dat4 W c).arrAt 2 cfg4.N = tmulOf (W c (Proc.devRef .tc main_v4)) (W c (Proc.devRef .tc main_v3)) := by
  refine (dat4 W c).arrAt_eq_of_covers 2 _ (by decide +kernel) fun t hf y => ?_
  have ht : t.val < 8 := t.isLt
  have hr := (flush4_2 t).mp hf
  obtain ⟨e0, e1, e2⟩ := x4 t
  blk_simp
  show acc4 W c (t.val + 1) y = _
  unfold tmulOf
  pointwise
  rw [total4 W c t hr]
  refine Fin.sum_mul_add_congr fun q k hk => ?_
  have e0' := (x4 ⟨4 * (t.val / 4) + q.val, Pipeline.run_point_lt_of_flush t hr q⟩).1
  have e1' := (x4 ⟨4 * (t.val / 4) + q.val, Pipeline.run_point_lt_of_flush t hr q⟩).2.1
  blk_point [blockOf, e0', e1', e2]

theorem x6 : ∀ t : Fin cfg6.N, win6_0.index t = ![t.val / 4, t.val % 4] ∧ win6_1.index t = ![0, t.val % 4] ∧ win6_2.index t = ![t.val / 4, 0] ∧ win6_3.index t = ![t.val / 4, 0] := by decide +kernel

/-- The accumulator after a run of points. -/
theorem total6 (t : Fin cfg6.N) (hr : t.val % 4 = 3) (y) : acc6 W c (t.val + 1) y
    = ∑ q : Fin 4, rowDot (K := 2816) (a := 1024) (b := 1024) (blockOf cfg6 (W c) 0 ⟨4 * (t.val / 4) + q.val, Pipeline.run_point_lt_of_flush t hr q⟩) (blockOf cfg6 (W c) 1 ⟨4 * (t.val / 4) + q.val, Pipeline.run_point_lt_of_flush t hr q⟩) (y 0) (y 1) :=
  acc_sum (acc6 W c) 4 (fun t i => rowDot (K := 2816) (a := 1024) (b := 1024) (blockOf cfg6 (W c) 0 t) (blockOf cfg6 (W c) 1 t) (i 0) (i 1))
    (fun t i => by
      unfold acc6
      rw [accum_succ]
      unfold dxnAcc dxnZero
      pointwise
      split <;> rfl) t hr y

theorem final6 : (dat6 W c).arrAt 3 cfg6.N = addMulT (W c (Proc.devRef .tc main_v0)) (W c (Proc.devRef .tc main_v2)) (W c (Proc.devRef .tc main_v9)) := by
  refine (dat6 W c).arrAt_eq_of_covers 3 _ (by decide +kernel) fun t hf y => ?_
  have ht : t.val < 64 := t.isLt
  have hr := (flush6_3 t).mp hf
  obtain ⟨e0, e1, e2, e3⟩ := x6 t
  blk_simp
  show duFin (acc6 W c (t.val + 1)) (blockOf cfg6 (W c) 2 t) y = _
  unfold duFin addMulT mulTOf
  pointwise
  rw [total6 W c t hr]
  refine congrArg₂ (· + ·) (by blk_point [blockOf, e2, e3]) ?_
  refine Fin.sum_mul_add_congr fun q k hk => ?_
  have e0' := (x6 ⟨4 * (t.val / 4) + q.val, Pipeline.run_point_lt_of_flush t hr q⟩).1
  have e1' := (x6 ⟨4 * (t.val / 4) + q.val, Pipeline.run_point_lt_of_flush t hr q⟩).2.1
  blk_point [blockOf, e0', e1', e3]

/-! ## The norm's gradient -/

theorem x7 : ∀ t : Fin cfg7.N, win7_0.index t = ![t.val, 0] ∧ win7_1.index t = ![0, 0] ∧ win7_2.index t = ![t.val, 0] ∧ win7_3.index t = ![t.val, 0] ∧ win7_4.index t = ![t.val, 0] ∧ win7_5.index t = ![0, 0] := by decide +kernel

theorem final7_h : (dat7 W c).arrAt 4 cfg7.N
    = dhOf (W c (Proc.devRef .tc main_arg0)) (W c (Proc.devRef .tc main_arg1)) (W c (Proc.devRef .tc main_arg4)) (W c (Proc.devRef .tc main_v10)) := by
  refine (dat7 W c).arrAt_eq_of_covers 4 _ (by decide +kernel) fun t hf y => ?_
  have ht : t.val < 32 := t.isLt
  obtain ⟨e0, e1, e2, e3, e4, e5⟩ := x7 t
  blk_simp
  show dhT (blockOf cfg7 (W c) 0 t) (blockOf cfg7 (W c) 1 t) (blockOf cfg7 (W c) 2 t) (blockOf cfg7 (W c) 3 t) y = _
  unfold dhT dvarT wideN meanSq dhOf dvar rs msq
  pointwise
  simp only [Fin.sum_univ_one]
  blk_point [blockOf, e0, e1, e2, e3, e4]

/-- A tile's part of the norm weight's gradient at an index. -/
theorem dnwT_at (t : Fin cfg7.N) (i : S1x1024.Idx) : dnwT (blockOf cfg7 (W c) 0 t) (blockOf cfg7 (W c) 2 t) i
    = ∑ k : Fin 512, dnwAt (W c (Proc.devRef .tc main_arg0)) (W c (Proc.devRef .tc main_v10))
        ⟨t.val * 512 + k.val, by have := t.isLt; have : cfg7.N = 32 := N_7; omega⟩ (i 1) := by
  obtain ⟨e0, e1, e2, e3, e4, e5⟩ := x7 t
  unfold dnwT wideN meanSq dnwAt rs msq
  pointwise
  blk_point [blockOf, e0, e1, e2, e3, e4]

theorem final7_w : (dat7 W c).arrAt 5 cfg7.N = dnwOf (W c (Proc.devRef .tc main_arg0)) (W c (Proc.devRef .tc main_v10)) := by
  refine (dat7 W c).arrAt_eq_of_covers 5 _ (by decide +kernel) fun t hf y => ?_
  have ht : t.val < 32 := t.isLt
  have hr := (flush7_5 t).mp hf
  obtain ⟨e0, e1, e2, e3, e4, e5⟩ := x7 t
  blk_simp
  show dnw7 W c (t.val + 1) y = _
  have hs := acc_sum (dnw7 W c) 32 (fun t i => dnwT (blockOf cfg7 (W c) 0 t) (blockOf cfg7 (W c) 2 t) i)
    (fun t i => by
      have ht : t.val < 32 := t.isLt
      rw [dnw7_succ, if_congr (show t.val = 0 ↔ t.val % 32 = 0 by omega) rfl rfl]
      split
      · exact (zero_add _).symm
      · unfold dnwAcc
        pointwise) t hr y
  unfold dnwOf
  rw [hs]
  simp only [dnwT_at]
  refine Fin.sum_mul_add_congr fun q k hk => ?_
  refine congrArg₂ _ (Fin.ext ?_) (Fin.ext ?_)
  · show (32 * (t.val / 32) + q.val) * 512 + k.val = q.val * 512 + k.val
    omega
  · blk_simp [e5]

end Cert.Mixer
end
-- ==== Proof.MixAlgebraic.lean ====
/- The third program's two sides leave equal results: each leaves the same functions of the same arguments. -/
module

public import proofs.«01_k».proof.Proof.MixFrames
public import proofs.«01_k».proof.Proof.MixOut
public import proofs.«01_k».proof.Proof.FfnRef

@[expose] public section

set_option maxRecDepth 16384

noncomputable section

namespace Cert.Mixer

open Cert.MixIdeal Cert.MixIdeal.Gen Cert.LayerSpec
open Idealize.ShloMosaic Idealize.ShloMosaic.TcCoe

variable (m : (ℓ : Loc nD τ sig) → Buf (Elt Ideal) ℓ) (c : Dev nD)

/-- A device's arguments. -/
abbrev a0 : Mat 16384 1024 := m ((c.tc : Thread nD τ).loc main_arg0)
abbrev a1 : Mat 1 1024 := m ((c.tc : Thread nD τ).loc main_arg1)
abbrev a2 : Mat 1024 11264 := m ((c.tc : Thread nD τ).loc main_arg2)
abbrev a3 : Mat 1024 256 := m ((c.tc : Thread nD τ).loc main_arg3)
abbrev a4 : Mat 16384 1024 := m ((c.tc : Thread nD τ).loc main_arg4)
abbrev a5 : Mat 16384 11264 := m ((c.tc : Thread nD τ).loc main_arg5)
abbrev a6 : Mat 16384 256 := m ((c.tc : Thread nD τ).loc main_arg6)
/-- The normalised tokens and their gradient. -/
abbrev u : Mat 16384 1024 := normOf (a0 m c) (a1 m c)
abbrev du : Mat 16384 1024 := duV (a2 m c) (a3 m c) (a5 m c) (a6 m c)

/-! ## The casts are the identity on extended reals -/

theorem W1_v0 : W1 m c (Proc.devRef .tc main_v0) = a2 m c := by
  unfold W1 hostOps0
  after_results_simp
  rfl

theorem W1_v1 : W1 m c (Proc.devRef .tc main_v1) = a3 m c := by
  unfold W1 hostOps0
  after_results_simp
  rfl

theorem W1_v2 : W1 m c (Proc.devRef .tc main_v2) = a5 m c := by
  unfold W1 hostOps0
  after_results_simp
  rfl

theorem W1_v3 : W1 m c (Proc.devRef .tc main_v3) = a6 m c := by
  unfold W1 hostOps0
  after_results_simp
  rfl

/-! ## What each call leaves -/

theorem W2_v4 : W2 m c (Proc.devRef .tc main_v4) = u m c := by
  refine ((Pipeline.afterRegion_arr (dat0 (W1 m) c) (W1 m c) winFacts0.arr_inj 2).trans (final0 (W1 m) c)).trans ?_
  simp (disch := decide) only [keep0 m, keep1 m, keep2 m, keep3 m, keep4 m, keep5 m, keep6 m, keep7 m, keepH m]

theorem W3_v5 : W3 m c (Proc.devRef .tc main_v5) = mulOf (u m c) (a2 m c) := by
  refine ((Pipeline.afterRegion_arr (dat1 (W2 m) c) (W2 m c) winFacts1.arr_inj 2).trans (final1 (W2 m) c)).trans ?_
  simp (disch := decide) only [keep0 m, keep1 m, keep2 m, keep3 m, keep4 m, keep5 m, keep6 m, keep7 m, keepH m]
  rw [W1_v0, W2_v4]

theorem W4_v6 : W4 m c (Proc.devRef .tc main_v6) = mulOf (u m c) (a3 m c) := by
  refine ((Pipeline.afterRegion_arr (dat2 (W3 m) c) (W3 m c) winFacts2.arr_inj 2).trans (final2 (W3 m) c)).trans ?_
  simp (disch := decide) only [keep0 m, keep1 m, keep2 m, keep3 m, keep4 m, keep5 m, keep6 m, keep7 m, keepH m]
  rw [W1_v1, W2_v4]

theorem W5_v7 : W5 m c (Proc.devRef .tc main_v7) = tmulOf (u m c) (a5 m c) := by
  refine ((Pipeline.afterRegion_arr (dat3 (W4 m) c) (W4 m c) winFacts3.arr_inj 2).trans (final3 (W4 m) c)).trans ?_
  simp (disch := decide) only [keep0 m, keep1 m, keep2 m, keep3 m, keep4 m, keep5 m, keep6 m, keep7 m, keepH m]
  rw [W1_v2, W2_v4]

theorem W6_v8 : W6 m c (Proc.devRef .tc main_v8) = tmulOf (u m c) (a6 m c) := by
  refine ((Pipeline.afterRegion_arr (dat4 (W5 m) c) (W5 m c) winFacts4.arr_inj 2).trans (final4 (W5 m) c)).trans ?_
  simp (disch := decide) only [keep0 m, keep1 m, keep2 m, keep3 m, keep4 m, keep5 m, keep6 m, keep7 m, keepH m]
  rw [W1_v3, W2_v4]

theorem W7_v9 : W7 m c (Proc.devRef .tc main_v9) = mulTOf (a6 m c) (a3 m c) := by
  refine ((Pipeline.afterRegion_arr (dat5 (W6 m) c) (W6 m c) winFacts5.arr_inj 2).trans (final5 (W6 m) c)).trans ?_
  simp (disch := decide) only [keep0 m, keep1 m, keep2 m, keep3 m, keep4 m, keep5 m, keep6 m, keep7 m, keepH m]
  rw [W1_v3, W1_v1]

theorem W8_v10 : W8 m c (Proc.devRef .tc main_v10) = du m c := by
  refine ((Pipeline.afterRegion_arr (dat6 (W7 m) c) (W7 m c) winFacts6.arr_inj 3).trans (final6 (W7 m) c)).trans ?_
  simp (disch := decide) only [keep0 m, keep1 m, keep2 m, keep3 m, keep4 m, keep5 m, keep6 m, keep7 m, keepH m]
  rw [W1_v2, W1_v0, W7_v9]
  rfl

theorem W9_v11_0 : W9 m c (Proc.devRef .tc main_v11_0) = dhOf (a0 m c) (a1 m c) (a4 m c) (du m c) := by
  refine ((Pipeline.afterRegion_arr (dat7 (W8 m) c) (W8 m c) winFacts7.arr_inj 4).trans (final7_h (W8 m) c)).trans ?_
  simp (disch := decide) only [keep0 m, keep1 m, keep2 m, keep3 m, keep4 m, keep5 m, keep6 m, keep7 m, keepH m]
  rw [W8_v10]

theorem W9_v11_1 : W9 m c (Proc.devRef .tc main_v11_1) = dnwOf (a0 m c) (du m c) := by
  refine ((Pipeline.afterRegion_arr (dat7 (W8 m) c) (W8 m c) winFacts7.arr_inj 5).trans (final7_w (W8 m) c)).trans ?_
  simp (disch := decide) only [keep0 m, keep1 m, keep2 m, keep3 m, keep4 m, keep5 m, keep6 m, keep7 m, keepH m]
  rw [W8_v10]

/-! ## The results left by earlier calls stay -/

theorem end_v5 : W9 m c (Proc.devRef .tc main_v5) = mulOf (u m c) (a2 m c) := by
  simp (disch := decide) only [keep0 m, keep1 m, keep2 m, keep3 m, keep4 m, keep5 m, keep6 m, keep7 m, keepH m]
  rw [W3_v5]

theorem end_v6 : W9 m c (Proc.devRef .tc main_v6) = mulOf (u m c) (a3 m c) := by
  simp (disch := decide) only [keep0 m, keep1 m, keep2 m, keep3 m, keep4 m, keep5 m, keep6 m, keep7 m, keepH m]
  rw [W4_v6]

theorem end_v7 : W9 m c (Proc.devRef .tc main_v7) = tmulOf (u m c) (a5 m c) := by
  simp (disch := decide) only [keep0 m, keep1 m, keep2 m, keep3 m, keep4 m, keep5 m, keep6 m, keep7 m, keepH m]
  rw [W5_v7]

theorem end_v8 : W9 m c (Proc.devRef .tc main_v8) = tmulOf (u m c) (a6 m c) := by
  simp (disch := decide) only [keep0 m, keep1 m, keep2 m, keep3 m, keep4 m, keep5 m, keep6 m, keep7 m, keepH m]
  rw [W6_v8]

end Cert.Mixer

namespace Cert.MixerRef

open Cert.MixRefIdeal Cert.MixRefIdeal.Gen Cert.LayerSpec
open Cert.LayerRef (rXn rDh rDnw rXn_eq rDh_eq rDnw_eq)
open Idealize.ShloMosaic Idealize.ShloMosaic.TcCoe

variable (h g u : FVec Ideal S16384x1024 .f32) (w : FVec Ideal S1x1024 .f32) (wi : FVec Ideal S1024x11264 .f32) (ws : FVec Ideal S1024x256 .f32)
variable (dp : FVec Ideal S16384x11264 .f32) (ds : FVec Ideal S16384x256 .f32)

/-! ## The reference's stages are the same arrays -/

def rProj : FVec Ideal S16384x11264 .bf16 :=
  truncf .bf16 (Host.dotGeneral (F := Ideal) dot_S16384x1024_S1024x11264_S16384x11264_1_0_0_1_n_n none u wi) bitsLt_bf16_f32
def rSmall : FVec Ideal S16384x256 .f32 := Host.dotGeneral (F := Ideal) dot_S16384x1024_S1024x256_S16384x256_1_0_0_1_n_n none u ws
def rDwin : FVec Ideal S1024x11264 .f32 :=
  transpose S1024x11264 [1, 0] (Host.dotGeneral (F := Ideal) dot_S16384x11264_S16384x1024_S11264x1024_0_0_1_1_n_n none dp u) transposes_S11264x1024_S1024x11264_1_0
def rDws : FVec Ideal S1024x256 .f32 :=
  transpose S1024x256 [1, 0] (Host.dotGeneral (F := Ideal) dot_S16384x256_S16384x1024_S256x1024_0_0_1_1_n_n none ds u) transposes_S256x1024_S1024x256_1_0
def rDu : FVec Ideal S16384x1024 .f32 :=
  addf (F := Ideal) (Host.dotGeneral (F := Ideal) dot_S16384x256_S1024x256_S16384x1024_1_1_0_0_n_n none ds ws)
    (Host.dotGeneral (F := Ideal) dot_S16384x11264_S1024x11264_S16384x1024_1_1_0_0_n_n none dp wi)

theorem rProj_eq : rProj u wi = mulOf u wi := by
  funext y
  unfold rProj mulOf
  pointwise

theorem rSmall_eq : rSmall u ws = mulOf u ws := by
  funext y
  unfold rSmall mulOf
  pointwise

theorem rDwin_eq : rDwin u dp = tmulOf u dp := by
  funext y
  unfold rDwin tmulOf
  pointwise
  exact Finset.sum_congr rfl fun _ _ => mul_comm _ _

theorem rDws_eq : rDws u ds = tmulOf u ds := by
  funext y
  unfold rDws tmulOf
  pointwise
  exact Finset.sum_congr rfl fun _ _ => mul_comm _ _

theorem rDu_eq : rDu wi ws dp ds = duV wi ws dp ds := by
  funext y
  unfold rDu duV addMulT mulTOf
  pointwise

variable (m : (ℓ : Loc nD τ sig) → Buf (Elt Ideal) ℓ) (c : Dev nD)

/-- A device's arguments. -/
abbrev b0 : FVec Ideal S16384x1024 .f32 := m ((c.tc : Thread nD τ).loc main_arg0)
abbrev b1 : FVec Ideal S1x1024 .f32 := m ((c.tc : Thread nD τ).loc main_arg1)
abbrev b2 : FVec Ideal S1024x11264 .f32 := m ((c.tc : Thread nD τ).loc main_arg2)
abbrev b3 : FVec Ideal S1024x256 .f32 := m ((c.tc : Thread nD τ).loc main_arg3)
abbrev b4 : FVec Ideal S16384x1024 .f32 := m ((c.tc : Thread nD τ).loc main_arg4)
abbrev b5 : FVec Ideal S16384x11264 .f32 := m ((c.tc : Thread nD τ).loc main_arg5)
abbrev b6 : FVec Ideal S16384x256 .f32 := m ((c.tc : Thread nD τ).loc main_arg6)

theorem dh_eq : rDh h g (rDu wi ws dp ds) w = dhOf h w g (duV wi ws dp ds) := (rDh_eq _ _ _ _).trans (by rw [rDu_eq])
theorem dnw_eq : rDnw h (rDu wi ws dp ds) = dnwOf h (duV wi ws dp ds) := (rDnw_eq _ _).trans (by rw [rDu_eq])
theorem proj_eq : rProj (rXn h w) wi = mulOf (normOf h w) wi := (rProj_eq _ _).trans (by rw [rXn_eq])
theorem small_eq : rSmall (rXn h w) ws = mulOf (normOf h w) ws := (rSmall_eq _ _).trans (by rw [rXn_eq])
theorem dwin_eq : rDwin (rXn h w) dp = tmulOf (normOf h w) dp := (rDwin_eq _ _).trans (by rw [rXn_eq])
theorem dws_eq : rDws (rXn h w) ds = tmulOf (normOf h w) ds := (rDws_eq _ _).trans (by rw [rXn_eq])

theorem res_dh : Value.res_out2 m c = dhOf (b0 m c) (b1 m c) (b4 m c) (duV (b2 m c) (b3 m c) (b5 m c) (b6 m c)) :=
  Eq.trans rfl (dh_eq (b0 m c) (b4 m c) (b1 m c) (b2 m c) (b3 m c) (b5 m c) (b6 m c))

end Cert.MixerRef

namespace Cert.Final

open Cert.LayerSpec Cert.Mixer
open Idealize.ShloMosaic Idealize.ShloMosaic.TcCoe

theorem algebraic_mixer : Cert.algebraic_MixIdeal_MixRefIdeal := by
  intro m g m' g' _ hargs
  have h0 : ∀ c, Cert.MixerRef.b0 m' c = a0 m c := fun c => (hargs c).1
  have h1 : ∀ c, Cert.MixerRef.b1 m' c = a1 m c := fun c => (hargs c).2.1
  have h2 : ∀ c, Cert.MixerRef.b2 m' c = a2 m c := fun c => (hargs c).2.2.1
  have h3 : ∀ c, Cert.MixerRef.b3 m' c = a3 m c := fun c => (hargs c).2.2.2.1
  have h4 : ∀ c, Cert.MixerRef.b4 m' c = a4 m c := fun c => (hargs c).2.2.2.2.1
  have h5 : ∀ c, Cert.MixerRef.b5 m' c = a5 m c := fun c => (hargs c).2.2.2.2.2.1
  have h6 : ∀ c, Cert.MixerRef.b6 m' c = a6 m c := fun c => (hargs c).2.2.2.2.2.2
  refine ⟨fun c => mulOf (u m c) (a2 m c), fun c => mulOf (u m c) (a3 m c), fun c => dhOf (a0 m c) (a1 m c) (a4 m c) (du m c),
    fun c => dnwOf (a0 m c) (du m c), fun c => tmulOf (u m c) (a5 m c), fun c => tmulOf (u m c) (a6 m c), ?_, ?_⟩
  · refine (θ_run Cert.MixIdeal.defs _ _).mono (fun r h c => ?_) (run_main (F := Ideal) m g)
    exact ⟨(read m h.1 c _ rfl).trans (end_v5 m c), (read m h.1 c _ rfl).trans (end_v6 m c), (read m h.1 c _ rfl).trans (W9_v11_0 m c),
      (read m h.1 c _ rfl).trans (W9_v11_1 m c), (read m h.1 c _ rfl).trans (end_v7 m c), (read m h.1 c _ rfl).trans (end_v8 m c), args_keep m h.1 c⟩
  · refine (θ_run Cert.MixRefIdeal.defs _ _).mono (fun r h c => ?_) (Cert.MixRefIdeal.Value.run (F := Ideal) m' g')
    obtain ⟨r0, r1, r2, r3, r4, r5, hk⟩ := h c
    dsimp only
    refine ⟨r0.trans (Eq.trans ?_ (Cert.MixerRef.proj_eq (a0 m c) (a1 m c) (a2 m c))),
      r1.trans (Eq.trans ?_ (Cert.MixerRef.small_eq (a0 m c) (a1 m c) (a3 m c))),
      (r2.trans (Cert.MixerRef.res_dh m' c)).trans (by rw [h0, h1, h2, h3, h4, h5, h6]),
      r3.trans (Eq.trans ?_ (Cert.MixerRef.dnw_eq (a0 m c) (a2 m c) (a3 m c) (a5 m c) (a6 m c))),
      r4.trans (Eq.trans ?_ (Cert.MixerRef.dwin_eq (a0 m c) (a1 m c) (a5 m c))),
      r5.trans (Eq.trans ?_ (Cert.MixerRef.dws_eq (a0 m c) (a1 m c) (a6 m c))), hk⟩ <;>
    · simp only [← h0, ← h1, ← h2, ← h3, ← h5, ← h6]
      rfl

end Cert.Final
end
-- ==== Proof.lean ====
/- The claims, put together from the modules beside this one. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import proofs.«01_k».proof.Proof.Gen.Ffn
public import proofs.«01_k».proof.Proof.Gen.FfnIdeal
public import proofs.«01_k».proof.Proof.Gen.FfnRefIdeal
public import proofs.«01_k».proof.Proof.FfnFrames
public import proofs.«01_k».proof.Proof.FfnAlgebraic
public import proofs.«01_k».proof.Proof.Gen.Mix
public import proofs.«01_k».proof.Proof.Gen.MixIdeal
public import proofs.«01_k».proof.Proof.Gen.MixRefIdeal
public import proofs.«01_k».proof.Proof.Gen.Merge
public import proofs.«01_k».proof.Proof.Gen.MergeIdeal
public import proofs.«01_k».proof.Proof.Gen.MergeRefIdeal
public import proofs.«01_k».proof.Proof.MergeFrames
public import proofs.«01_k».proof.Proof.MergeAlgebraic
public import proofs.«01_k».proof.Proof.MixFrames
public import proofs.«01_k».proof.Proof.MixAlgebraic

@[expose] public section

noncomputable section

namespace Cert.Proof

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Mix.Gen.facts, Cert.MixIdeal.Gen.facts, Cert.MixRefIdeal.Gen.facts,
  Cert.Merge.Gen.facts, Cert.MergeIdeal.Gen.facts, Cert.MergeRefIdeal.Gen.facts,
  Cert.Launch.frame_kernel, Cert.Launch.frame_kernelIdeal, Cert.Ref.frame_reference,
  Cert.Layer.frame_ffn, Cert.Layer.frame_ffnIdeal, Cert.Layer.frame_ffnRefIdeal,
  Cert.Mixer.frame_mix, Cert.Mixer.frame_mixIdeal, Cert.Mixer.frame_mixRefIdeal,
  Cert.Merger.frame_merge, Cert.Merger.frame_mergeIdeal, Cert.Merger.frame_mergeRefIdeal,
  trivial, Cert.Final.algebraic, trivial, Cert.Final.algebraic_layer, trivial, Cert.Final.algebraic_mixer, trivial, Cert.Final.algebraic_merger⟩

end Cert.Proof

end
